-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_norm_gradient [hPre_finite_norm_gradient : Cert.Pre_finite_norm_gradient.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_norm_gradient.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_norm_gradient [hPre_finite_norm_gradient : Cert.Pre_finite_norm_gradient.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_norm_gradient.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_swish_gradient [hPre_finite_swish_gradient : Cert.Pre_finite_swish_gradient.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_swish_gradient.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_swish_gradient [hPre_finite_swish_gradient : Cert.Pre_finite_swish_gradient.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_swish_gradient.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_query_gradient [hPre_finite_query_gradient : Cert.Pre_finite_query_gradient.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_query_gradient.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_query_gradient [hPre_finite_query_gradient : Cert.Pre_finite_query_gradient.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_query_gradient.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_norm_gradient [hPre_finite_norm_gradient : Cert.Pre_finite_norm_gradient.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_norm_gradient.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_norm_gradient [hPre_finite_norm_gradient : Cert.Pre_finite_norm_gradient.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_norm_gradient.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_loss [hPre_finite_loss : Cert.Pre_finite_loss.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_loss.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_loss [hPre_finite_loss : Cert.Pre_finite_loss.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_loss.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_norm_gradient [hKernel17Ideal : Cert.Kernel17Ideal.Facts] [hPre_finite_norm_gradient : Cert.Pre_finite_norm_gradient.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_norm_gradient m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_norm_gradient [hReference17Ideal : Cert.Reference17Ideal.Facts] [hPre_finite_norm_gradient : Cert.Pre_finite_norm_gradient.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_norm_gradient m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite_swish_gradient [hKernel18Ideal : Cert.Kernel18Ideal.Facts] [hPre_finite_swish_gradient : Cert.Pre_finite_swish_gradient.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_swish_gradient m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite_swish_gradient [hReference18Ideal : Cert.Reference18Ideal.Facts] [hPre_finite_swish_gradient : Cert.Pre_finite_swish_gradient.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_swish_gradient m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Kernel23Ideal_pre_finite_query_gradient [hKernel23Ideal : Cert.Kernel23Ideal.Facts] [hPre_finite_query_gradient : Cert.Pre_finite_query_gradient.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_query_gradient m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Reference23Ideal_pre_finite_query_gradient [hReference23Ideal : Cert.Reference23Ideal.Facts] [hPre_finite_query_gradient : Cert.Pre_finite_query_gradient.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_query_gradient m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite_norm_gradient [hKernel26Ideal : Cert.Kernel26Ideal.Facts] [hPre_finite_norm_gradient : Cert.Pre_finite_norm_gradient.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_norm_gradient m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite_norm_gradient [hReference26Ideal : Cert.Reference26Ideal.Facts] [hPre_finite_norm_gradient : Cert.Pre_finite_norm_gradient.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_norm_gradient m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Kernel29Ideal_pre_finite_loss [hKernel29Ideal : Cert.Kernel29Ideal.Facts] [hPre_finite_loss : Cert.Pre_finite_loss.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_loss m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Reference29Ideal_pre_finite_loss [hReference29Ideal : Cert.Reference29Ideal.Facts] [hPre_finite_loss : Cert.Pre_finite_loss.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_loss m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_v57) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_v11) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal_pre_finite_norm_gradient [hKernel17Ideal : Cert.Kernel17Ideal.Facts] [hReference17Ideal : Cert.Reference17Ideal.Facts] [hPre_finite_norm_gradient : Cert.Pre_finite_norm_gradient.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_norm_gradient m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v54) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal_pre_finite_swish_gradient [hKernel18Ideal : Cert.Kernel18Ideal.Facts] [hReference18Ideal : Cert.Reference18Ideal.Facts] [hPre_finite_swish_gradient : Cert.Pre_finite_swish_gradient.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_swish_gradient m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v54) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v56) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_v13) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v29) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite_query_gradient [hKernel23Ideal : Cert.Kernel23Ideal.Facts] [hReference23Ideal : Cert.Reference23Ideal.Facts] [hPre_finite_query_gradient : Cert.Pre_finite_query_gradient.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_query_gradient m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v70) = v0 c
          ∧ r.2.mem ((c.tc : Thread Cert.Reference23Ideal.nD Cert.Reference23Ideal.τ).loc Cert.Reference23Ideal.main_v73) = v1 c
          ∧ r.2.mem ((c.tc : Thread Cert.Reference23Ideal.nD Cert.Reference23Ideal.τ).loc Cert.Reference23Ideal.main_v43) = v2 c
          ∧ r.2.mem ((c.tc : Thread Cert.Reference23Ideal.nD Cert.Reference23Ideal.τ).loc Cert.Reference23Ideal.main_v40) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v27) = v1 c
          ∧ r.2.mem ((c.tc : Thread Cert.Reference24Ideal.nD Cert.Reference24Ideal.τ).loc Cert.Reference24Ideal.main_v28) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_v27) = v1 c
          ∧ r.2.mem ((c.tc : Thread Cert.Reference25Ideal.nD Cert.Reference25Ideal.τ).loc Cert.Reference25Ideal.main_v28) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal_pre_finite_norm_gradient [hKernel26Ideal : Cert.Kernel26Ideal.Facts] [hReference26Ideal : Cert.Reference26Ideal.Facts] [hPre_finite_norm_gradient : Cert.Pre_finite_norm_gradient.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_norm_gradient m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v53) = v0 c
          ∧ r.2.mem ((c.tc : Thread Cert.Reference26Ideal.nD Cert.Reference26Ideal.τ).loc Cert.Reference26Ideal.main_v29) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal_pre_finite_loss [hKernel29Ideal : Cert.Kernel29Ideal.Facts] [hReference29Ideal : Cert.Reference29Ideal.Facts] [hPre_finite_loss : Cert.Pre_finite_loss.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_loss m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v70) = v0 c
          ∧ r.2.mem ((c.tc : Thread Cert.Reference29Ideal.nD Cert.Reference29Ideal.τ).loc Cert.Reference29Ideal.main_v45) = v1 c
          ∧ r.2.mem ((c.tc : Thread Cert.Reference29Ideal.nD Cert.Reference29Ideal.τ).loc Cert.Reference29Ideal.main_v42) = v2 c
          ∧ r.2.mem ((c.tc : Thread Cert.Reference29Ideal.nD Cert.Reference29Ideal.τ).loc Cert.Reference29Ideal.main_v72) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_arg3) = v0 c
          ∧ r.2.mem ((c.tc : Thread Cert.Reference32Ideal.nD Cert.Reference32Ideal.τ).loc Cert.Reference32Ideal.main_v23) = v1 c
          ∧ r.2.mem ((c.tc : Thread Cert.Reference32Ideal.nD Cert.Reference32Ideal.τ).loc Cert.Reference32Ideal.main_v4) = v2 c
          ∧ r.2.mem ((c.tc : Thread Cert.Reference32Ideal.nD Cert.Reference32Ideal.τ).loc Cert.Reference32Ideal.main_v10) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg3) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_arg3) = v0 c
          ∧ r.2.mem ((c.tc : Thread Cert.Reference34Ideal.nD Cert.Reference34Ideal.τ).loc Cert.Reference34Ideal.main_v23) = v1 c
          ∧ r.2.mem ((c.tc : Thread Cert.Reference34Ideal.nD Cert.Reference34Ideal.τ).loc Cert.Reference34Ideal.main_v4) = v2 c
          ∧ r.2.mem ((c.tc : Thread Cert.Reference34Ideal.nD Cert.Reference34Ideal.τ).loc Cert.Reference34Ideal.main_v10) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_arg3) = v0 c
          ∧ r.2.mem ((c.tc : Thread Cert.Reference35Ideal.nD Cert.Reference35Ideal.τ).loc Cert.Reference35Ideal.main_v23) = v1 c
          ∧ r.2.mem ((c.tc : Thread Cert.Reference35Ideal.nD Cert.Reference35Ideal.τ).loc Cert.Reference35Ideal.main_v4) = v2 c
          ∧ r.2.mem ((c.tc : Thread Cert.Reference35Ideal.nD Cert.Reference35Ideal.τ).loc Cert.Reference35Ideal.main_v10) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_arg3) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_v4) = v2 c
          ∧ r.2.mem ((c.tc : Thread Cert.Reference36Ideal.nD Cert.Reference36Ideal.τ).loc Cert.Reference36Ideal.main_v10) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite_scores : Cert.Pre_finite_scores.Facts) (hPre_finite_norm_gradient : Cert.Pre_finite_norm_gradient.Facts) (hPre_finite_swish_gradient : Cert.Pre_finite_swish_gradient.Facts) (hPre_finite_query_gradient : Cert.Pre_finite_query_gradient.Facts) (hPre_finite_loss : Cert.Pre_finite_loss.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_norm_gradient (hKernel17Ideal := hKernel17Ideal) (hPre_finite_norm_gradient := hPre_finite_norm_gradient)
    ∧ quiescent_Reference17Ideal (hReference17Ideal := hReference17Ideal)
    ∧ quiescent_Reference17Ideal_pre_finite_norm_gradient (hReference17Ideal := hReference17Ideal) (hPre_finite_norm_gradient := hPre_finite_norm_gradient)
    ∧ quiescent_Kernel18 (hKernel18 := hKernel18)
    ∧ quiescent_Kernel18Ideal (hKernel18Ideal := hKernel18Ideal)
    ∧ quiescent_Kernel18Ideal_pre_finite_swish_gradient (hKernel18Ideal := hKernel18Ideal) (hPre_finite_swish_gradient := hPre_finite_swish_gradient)
    ∧ quiescent_Reference18Ideal (hReference18Ideal := hReference18Ideal)
    ∧ quiescent_Reference18Ideal_pre_finite_swish_gradient (hReference18Ideal := hReference18Ideal) (hPre_finite_swish_gradient := hPre_finite_swish_gradient)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_query_gradient (hKernel23Ideal := hKernel23Ideal) (hPre_finite_query_gradient := hPre_finite_query_gradient)
    ∧ quiescent_Reference23Ideal (hReference23Ideal := hReference23Ideal)
    ∧ quiescent_Reference23Ideal_pre_finite_query_gradient (hReference23Ideal := hReference23Ideal) (hPre_finite_query_gradient := hPre_finite_query_gradient)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_norm_gradient (hKernel26Ideal := hKernel26Ideal) (hPre_finite_norm_gradient := hPre_finite_norm_gradient)
    ∧ quiescent_Reference26Ideal (hReference26Ideal := hReference26Ideal)
    ∧ quiescent_Reference26Ideal_pre_finite_norm_gradient (hReference26Ideal := hReference26Ideal) (hPre_finite_norm_gradient := hPre_finite_norm_gradient)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_loss (hKernel29Ideal := hKernel29Ideal) (hPre_finite_loss := hPre_finite_loss)
    ∧ quiescent_Reference29Ideal (hReference29Ideal := hReference29Ideal)
    ∧ quiescent_Reference29Ideal_pre_finite_loss (hReference29Ideal := hReference29Ideal) (hPre_finite_loss := hPre_finite_loss)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_norm_gradient (hKernel17Ideal := hKernel17Ideal) (hReference17Ideal := hReference17Ideal) (hPre_finite_norm_gradient := hPre_finite_norm_gradient)
    ∧ preserves_Kernel18_Kernel18Ideal
    ∧ algebraic_Kernel18Ideal_Reference18Ideal_pre_finite_swish_gradient (hKernel18Ideal := hKernel18Ideal) (hReference18Ideal := hReference18Ideal) (hPre_finite_swish_gradient := hPre_finite_swish_gradient)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_query_gradient (hKernel23Ideal := hKernel23Ideal) (hReference23Ideal := hReference23Ideal) (hPre_finite_query_gradient := hPre_finite_query_gradient)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_norm_gradient (hKernel26Ideal := hKernel26Ideal) (hReference26Ideal := hReference26Ideal) (hPre_finite_norm_gradient := hPre_finite_norm_gradient)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_loss (hKernel29Ideal := hKernel29Ideal) (hReference29Ideal := hReference29Ideal) (hPre_finite_loss := hPre_finite_loss)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite_loss.lean ====
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S4096x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_norm_gradient.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S4096x1024 .f32) (main_arg2 : FVec F S1x1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Pre_finite_query_gradient.lean ====
abbrev S4096x1024 : Shape := ⟨2, ![4096, 1024]⟩
abbrev S4x3072x1024 : Shape := ⟨3, ![4, 3072, 1024]⟩
abbrev S1x1024 : Shape := ⟨2, ![1, 1024]⟩
abbrev S4x1024x1024 : Shape := ⟨3, ![4, 1024, 1024]⟩
abbrev S_ : Shape := ⟨0, ![]⟩
abbrev S4x256x1024 : Shape := ⟨3, ![4, 256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4x3072x1024_S4x256x1024_0_512_0 : S4x3072x1024.Slices ![0, 512, 0] S4x256x1024
  bcast_S_S4x256x1024 : S_.BroadcastsInDim S4x256x1024 (![] : Fin 0 → Fin S4x256x1024.rank)
  reducesTo_S4x256x1024_S_d0_1_2 : S4x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v17 : IVec S_ 1) : IVec S_ 1 :=
  let main_v18 : FVec F S1x1024 .f32 := Host.absf main_arg5
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  main_v22

def fn {F : FTy → Type} [FloatOps F] (main_arg0 : FVec F S4096x1024 .bf16) (main_arg1 : FVec F S4096x1024 .bf16) (main_arg2 : FVec F S4x3072x1024 .bf16) (main_arg3 : FVec F S4096x1024 .bf16) (main_arg4 : FVec F S4096x1024 .f32) (main_arg5 : FVec F S1x1024 .f32) (main_arg6 : FVec F S4x1024x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x256x1024 .bf16 := (extractStridedSlice S4x256x1024 ![0, 512, 0] · slices_S4x3072x1024_S4x256x1024_0_512_0) main_arg2
  let main_v6 : FVec F S4x256x1024 .f32 := (extf .f32 · bitsLt_bf16_f32) main_v5
  let main_v7 : FVec F S4x256x1024 .f32 := Host.absf main_v6
  let main_cst_0 : FVec F S_ .f32 := constant S_ .f32 0x7F800000#32
  let main_v8 : FVec F S4x256x1024 .f32 := broadcastInDim S4x256x1024 ![] bcast_S_S4x256x1024 main_cst_0
  let main_v9 : IVec S4x256x1024 1 := cmpf .olt main_v7 main_v8
  let main_c_1 : IVec S_ 1 := constantI S_ 1 1#1
  let main_v10 : IVec S_ 1 := (fun x v => Host.reduce IntOp.andi x v reducesTo_S4x256x1024_S_d0_1_2 h_S_) main_v9 main_c_1
  let main_v11 : IVec S_ 1 := andi main_v4 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v11 main_v16
  fn_part1 (F := F) main_arg5 main_v17
-- ==== Pre_finite_scores.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .f32) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .f32 := (extractStridedSlice S256x1024 ![0, 0] · slices_S256x2048_S256x1024_0_0) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Pre_finite_swish_gradient.lean ====
abbrev S4096x1024 : Shape := ⟨2, ![4096, 1024]⟩
abbrev S1x1024 : Shape := ⟨2, ![1, 1024]⟩
abbrev S4x1024x1024 : Shape := ⟨3, ![4, 1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .bf16) (main_arg1 : FVec F S4096x1024 .f32) (main_arg2 : FVec F S1x1024 .f32) (main_arg3 : FVec F S1x1024 .f32) (main_arg4 : FVec F S4x1024x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x1024 .f32 := Host.absf main_arg2
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  main_v9
-- ==== Kernel.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S4096x1024, .f32⟩
  | .hbm, ⟨4, _⟩ => ⟨S4096x4x256, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x256x4096, .f32⟩
  | .hbm, ⟨52, _⟩ => ⟨S4096x4x256, .f32⟩
  | .hbm, ⟨53, _⟩ => ⟨S4096x1024, .f32⟩
  | .hbm, ⟨54, _⟩ => ⟨S4096x1024, .f32⟩
  | .hbm, ⟨55, _⟩ => ⟨S4096x4x256, .f32⟩
  | .hbm, ⟨56, _⟩ => ⟨S4x256x4096, .f32⟩
  | .hbm, ⟨57, _⟩ => ⟨S4x4096x256, .f32⟩
  | .hbm, ⟨58, _⟩ => ⟨S4x256x256, .f32⟩
  | .hbm, ⟨59, _⟩ => ⟨S256x4x256, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S_, .f32⟩
  | .hbm, ⟨70, _⟩ => ⟨S4x4096, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S_, .f32⟩
  | .hbm, ⟨75, _⟩ => ⟨S4x4096x256, .f32⟩
  | .hbm, ⟨76, _⟩ => ⟨S4x4096x256, .f32⟩
  | .hbm, ⟨77, _⟩ => ⟨S4x256x256, .f32⟩
  | .hbm, ⟨78, _⟩ => ⟨S256x4x256, .f32⟩
  | .hbm, ⟨79, _⟩ => ⟨S4x4096x256, .f32⟩
  | .hbm, ⟨80, _⟩ => ⟨S4096x4x256, .f32⟩
  | .hbm, ⟨81, _⟩ => ⟨S256x1024, .f32⟩
  | .hbm, ⟨82, _⟩ => ⟨S_, .f32⟩
  | .hbm, ⟨83, _⟩ => ⟨S256x2048, .f32⟩
  | .hbm, ⟨84, _⟩ => ⟨S256x1024, .f32⟩
  | .hbm, ⟨85, _⟩ => ⟨S_, .f32⟩
  | .hbm, ⟨86, _⟩ => ⟨S256x2048, .f32⟩
  | .hbm, ⟨87, _⟩ => ⟨S256x2048, .f32⟩
  | .hbm, ⟨88, _⟩ => ⟨S4096x1024, .f32⟩
  | .hbm, ⟨89, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel2.lean ====
abbrev S4096x1024 : Shape := ⟨2, ![4096, 1024]⟩
abbrev S4096x4608 : Shape := ⟨2, ![4096, 4608]⟩
abbrev S4x1024x1152 : Shape := ⟨3, ![4, 1024, 1152]⟩
abbrev S4096x1152 : Shape := ⟨2, ![4096, 1152]⟩
abbrev S1x1024x1152 : Shape := ⟨3, ![1, 1024, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4x1024x1152, .bf16⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1x1024x1152, .bf16⟩
  | .local _ .vmem, ⟨4, _⟩ => ⟨S1x1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S_, .f32⟩
  | .hbm, ⟨3, _⟩ => ⟨S1024x4608, .f32⟩
  | .hbm, ⟨4, _⟩ => ⟨S4096x1024, .f32⟩
  | .hbm, ⟨5, _⟩ => ⟨S4096x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4x1152, .f32⟩
  | .hbm, ⟨10, _⟩ => ⟨S4x1024x1152, .f32⟩
  | .hbm, ⟨11, _⟩ => ⟨S4x1024x1152, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x4608 : Shape := ⟨2, ![4096, 4608]⟩
abbrev S4x1024x1152 : Shape := ⟨3, ![4, 1024, 1152]⟩
abbrev S4096x1024 : Shape := ⟨2, ![4096, 1024]⟩
abbrev S512x4608 : Shape := ⟨2, ![512, 4608]⟩
abbrev S512x1024 : Shape := ⟨2, ![512, 1024]⟩
abbrev S512x1152 : Shape := ⟨2, ![512, 1152]⟩
abbrev S1x1024x1152 : Shape := ⟨3, ![1, 1024, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x4608, .bf16⟩
  | .hbm, ⟨1, _⟩ => ⟨S4x1024x1152, .bf16⟩
  | .hbm, ⟨2, _⟩ => ⟨S4096x1024, .bf16⟩
  | .hbm, ⟨3, _⟩ => ⟨S4x1024x1152, .bf16⟩
  | .hbm, ⟨4, _⟩ => ⟨S4096x1024, .f32⟩
  | .local _ .vmem, ⟨0, _⟩ => ⟨S512x4608, .bf16⟩
  | .local _ .vmem, ⟨1, _⟩ => ⟨S512x4608, .bf16⟩
  | .local _ .vmem, ⟨2, _⟩ => ⟨S4x1024x1152, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x4608 : Shape := ⟨2, ![4096, 4608]⟩
abbrev S4x1024x1152 : Shape := ⟨3, ![4, 1024, 1152]⟩
abbrev S4096x1024 : Shape := ⟨2, ![4096, 1024]⟩
abbrev S1024x4x1152 : Shape := ⟨3, ![1024, 4, 1152]⟩
abbrev S1024x4608 : Shape := ⟨2, ![1024, 4608]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4x1024x1152, .bf16⟩
  | .hbm, ⟨2, _⟩ => ⟨S4096x1024, .bf16⟩
  | .hbm, ⟨3, _⟩ => ⟨S4x1024x1152, .bf16⟩
  | .hbm, ⟨4, _⟩ => ⟨S4x1024x1152, .f32⟩
  | .hbm, ⟨5, _⟩ => ⟨S1024x4x1152, .f32⟩
  | .hbm, ⟨6, _⟩ => ⟨S1024x4608, .f32⟩
  | .hbm, ⟨7, _⟩ => ⟨S_, .f32⟩
  | .hbm, ⟨8, _⟩ => ⟨S4096x1024, .f32⟩
  | .hbm, ⟨9, _⟩ => ⟨S4096x4608, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x4608, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel4.lean ====
abbrev S4096x1024 : Shape := ⟨2, ![4096, 1024]⟩
abbrev S4x1024x1152 : Shape := ⟨3, ![4, 1024, 1152]⟩
abbrev S4096x4608 : Shape := ⟨2, ![4096, 4608]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1152, .bf16⟩
  | .hbm, ⟨2, _⟩ => ⟨S4096x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .bf16⟩
  | .local _ .vmem, ⟨5, _⟩ => ⟨S1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4x1024x1152 : Shape := ⟨3, ![4, 1024, 1152]⟩
abbrev S1024x4x1152 : Shape := ⟨3, ![1024, 4, 1152]⟩
abbrev S1024x4608 : Shape := ⟨2, ![1024, 4608]⟩
abbrev S4096x4608 : Shape := ⟨2, ![4096, 4608]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1152, .bf16⟩
  | .hbm, ⟨2, _⟩ => ⟨S4x1024x1152, .f32⟩
  | .hbm, ⟨3, _⟩ => ⟨S1024x4x1152, .f32⟩
  | .hbm, ⟨4, _⟩ => ⟨S1024x4608, .f32⟩
  | .hbm, ⟨5, _⟩ => ⟨S4096x1024, .f32⟩
  | .hbm, ⟨6, _⟩ => ⟨S4096x4608, .f32⟩
  | .hbm, ⟨7, _⟩ => ⟨S4096x4608, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .bf16⟩
  | .hbm, ⟨3, _⟩ => ⟨S4x1024x1024, .bf16⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .bf16⟩
  | .hbm, ⟨3, _⟩ => ⟨S4x1024x1024, .bf16⟩
  | .hbm, ⟨4, _⟩ => ⟨S4x1024x1024, .f32⟩
  | .hbm, ⟨5, _⟩ => ⟨S4x1024x1024, .bf16⟩
  | .hbm, ⟨6, _⟩ => ⟨S4x1024x1024, .f32⟩
  | .hbm, ⟨7, _⟩ => ⟨S1024x4x1024, .f32⟩
  | .hbm, ⟨8, _⟩ => ⟨S1024x4096, .f32⟩
  | .hbm, ⟨9, _⟩ => ⟨S4096x1024, .f32⟩
  | .hbm, ⟨10, _⟩ => ⟨S4096x1024, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S4096x1024 : Shape := ⟨2, ![4096, 1024]⟩
abbrev S4096x4096 : Shape := ⟨2, ![4096, 4096]⟩
abbrev S4x2048x1024 : Shape := ⟨3, ![4, 2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .bf16⟩
  | .hbm, ⟨3, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S4096x1024 : Shape := ⟨2, ![4096, 1024]⟩
abbrev S4096x4096 : Shape := ⟨2, ![4096, 4096]⟩
abbrev S4x2048x1024 : Shape := ⟨3, ![4, 2048, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x1024x1024, .bf16⟩
  | .hbm, ⟨14, _⟩ => ⟨S4x2048x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S4096x4096 : Shape := ⟨2, ![4096, 4096]⟩
abbrev S4x3072x1024 : Shape := ⟨3, ![4, 3072, 1024]⟩
abbrev S4096x1024 : Shape := ⟨2, ![4096, 1024]⟩
abbrev S4x2048x1024 : Shape := ⟨3, ![4, 2048, 1024]⟩
abbrev S512x4096 : Shape := ⟨2, ![512, 4096]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x3072x1024, .bf16⟩
  | .hbm, ⟨2, _⟩ => ⟨S4096x1024, .bf16⟩
  | .hbm, ⟨3, _⟩ => ⟨S4x2048x1024, .bf16⟩
  | .hbm, ⟨4, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S4x3072x1024 : Shape := ⟨3, ![4, 3072, 1024]⟩
abbrev S4096x1024 : Shape := ⟨2, ![4096, 1024]⟩
abbrev S4x2048x1024 : Shape := ⟨3, ![4, 2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x3072x1024, .bf16⟩
  | .hbm, ⟨2, _⟩ => ⟨S4096x1024, .bf16⟩
  | .hbm, ⟨3, _⟩ => ⟨S4x2048x1024, .bf16⟩
  | .hbm, ⟨4, _⟩ => ⟨S4x1024x1024, .bf16⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x4096, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S4096x1024 : Shape := ⟨2, ![4096, 1024]⟩
abbrev S4x3072x1024 : Shape := ⟨3, ![4, 3072, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4x1024x1024, .bf16⟩
  | .hbm, ⟨3, _⟩ => ⟨S4x1024x1024, .f32⟩
  | .hbm, ⟨4, _⟩ => ⟨S4x1024x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_cst : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel9.lean ====
abbrev S4096x4096 : Shape := ⟨2, ![4096, 4096]⟩
abbrev S4x3072x1024 : Shape := ⟨3, ![4, 3072, 1024]⟩
abbrev S4096x1024 : Shape := ⟨2, ![4096, 1024]⟩
abbrev S512x4096 : Shape := ⟨2, ![512, 4096]⟩
abbrev S4x1024x1024 : Shape := ⟨3, ![4, 1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4x3072x1024, .bf16⟩
  | .hbm, ⟨2, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S4x3072x1024 : Shape := ⟨3, ![4, 3072, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x3072x1024, .bf16⟩
  | .hbm, ⟨2, _⟩ => ⟨S4x1024x1024, .bf16⟩
  | .hbm, ⟨3, _⟩ => ⟨S4x1024x1024, .f32⟩
  | .hbm, ⟨4, _⟩ => ⟨S4x1024x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x1024, .f32⟩
  | .hbm, ⟨9, _⟩ => ⟨S4096x4096, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x4608 : Shape := ⟨2, ![4096, 4608]⟩
abbrev S4096x2048 : Shape := ⟨2, ![4096, 2048]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 7
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4096x1024, .bf16⟩
  | .hbm, ⟨3, _⟩ => ⟨S4096x2048, .bf16⟩
  | .hbm, ⟨4, _⟩ => ⟨S4096x1024, .bf16⟩
  | .hbm, ⟨5, _⟩ => ⟨S4096x2048, .bf16⟩
  | .hbm, ⟨6, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S4096x4608 : Shape := ⟨2, ![4096, 4608]⟩
abbrev S4096x2048 : Shape := ⟨2, ![4096, 2048]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4096x1024, .bf16⟩
  | .hbm, ⟨3, _⟩ => ⟨S4096x2048, .bf16⟩
  | .hbm, ⟨4, _⟩ => ⟨S4096x1024, .f32⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S4096x1024, .bf16⟩
  | .hbm, ⟨73, _⟩ => ⟨S4096x2048, .bf16⟩
  | .hbm, ⟨74, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Kernel11.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x1024 : Shape := ⟨2, ![1024, 1024]⟩
abbrev S4x256x1024 : Shape := ⟨3, ![4, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4x1024x1024, .bf16⟩
  | .hbm, ⟨4, _⟩ => ⟨S4096x1024, .bf16⟩
  | .hbm, ⟨5, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x256x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S4x256x1024 : Shape := ⟨3, ![4, 256, 1024]⟩
abbrev S1024x1024 : Shape := ⟨2, ![1024, 1024]⟩
abbrev S4x512x1024 : Shape := ⟨3, ![4, 512, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4x1024x1024, .bf16⟩
  | .hbm, ⟨4, _⟩ => ⟨S4x256x1024, .bf16⟩
  | .hbm, ⟨5, _⟩ => ⟨S4x256x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S4x256x1024, .f32⟩
  | .hbm, ⟨14, _⟩ => ⟨S4x256x1024, .bf16⟩
  | .hbm, ⟨15, _⟩ => ⟨S4096x1024, .bf16⟩
  | .hbm, ⟨16, _⟩ => ⟨S4x256x1024, .bf16⟩
  | .hbm, ⟨17, _⟩ => ⟨S4x512x1024, .bf16⟩
  | .hbm, ⟨18, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel12.lean ====
abbrev S4096x2048 : Shape := ⟨2, ![4096, 2048]⟩
abbrev S4096x512 : Shape := ⟨2, ![4096, 512]⟩
abbrev S4x512x512 : Shape := ⟨3, ![4, 512, 512]⟩
abbrev S1024x2048 : Shape := ⟨2, ![1024, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4x512x512, .bf16⟩
  | .hbm, ⟨3, _⟩ => ⟨S4096x512, .f32⟩
  | .hbm, ⟨4, _⟩ => ⟨S4x512x512, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S4x512x512, .bf16⟩
  | .local _ .vmem, ⟨5, _⟩ => ⟨S1024x512, .f32⟩
  | .local _ .vmem, ⟨6, _⟩ => ⟨S1024x512, .f32⟩
  | .local _ .vmem, ⟨7, _⟩ => ⟨S4x512x512, .bf16⟩
  | .local _ .vmem, ⟨8, _⟩ => ⟨S4x512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v49 : BitVec 1 := Scalar.cmpi .eq arg0 c3_i32
  let v50 : BitVec 32 := Scalar.extui v49
  let c0_i32_39 : BitVec 32 := 0#32
  let v51 : BitVec 1 := Scalar.cmpi .ne v50 c0_i32_39
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference12Ideal.lean ====
abbrev S4096x2048 : Shape := ⟨2, ![4096, 2048]⟩
abbrev S4096x512 : Shape := ⟨2, ![4096, 512]⟩
abbrev S4x512x512 : Shape := ⟨3, ![4, 512, 512]⟩
abbrev S512x4x512 : Shape := ⟨3, ![512, 4, 512]⟩
abbrev S512x2048 : Shape := ⟨2, ![512, 2048]⟩
abbrev S2048x512 : Shape := ⟨2, ![2048, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4x512x512, .bf16⟩
  | .hbm, ⟨3, _⟩ => ⟨S4096x512, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S4096x2048, .f32⟩
  | .hbm, ⟨8, _⟩ => ⟨S4096x2048, .f32⟩
  | .hbm, ⟨9, _⟩ => ⟨S2048x512, .f32⟩
  | .hbm, ⟨10, _⟩ => ⟨S512x2048, .f32⟩
  | .hbm, ⟨11, _⟩ => ⟨S4096x512, .f32⟩
  | .hbm, ⟨12, _⟩ => ⟨S512x4x512, .f32⟩
  | .hbm, ⟨13, _⟩ => ⟨S4x512x512, .f32⟩
  | .hbm, ⟨14, _⟩ => ⟨S4x512x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel13.lean ====
abbrev S4096x512 : Shape := ⟨2, ![4096, 512]⟩
abbrev S4x512x512 : Shape := ⟨3, ![4, 512, 512]⟩
abbrev S4096x2048 : Shape := ⟨2, ![4096, 2048]⟩
abbrev S1024x512 : Shape := ⟨2, ![1024, 512]⟩
abbrev S1024x2048 : Shape := ⟨2, ![1024, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4x512x512, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S4x512x512, .bf16⟩
  | .local _ .vmem, ⟨3, _⟩ => ⟨S1024x2048, .bf16⟩
  | .local _ .vmem, ⟨4, _⟩ => ⟨S1024x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S4x512x512 : Shape := ⟨3, ![4, 512, 512]⟩
abbrev S512x4x512 : Shape := ⟨3, ![512, 4, 512]⟩
abbrev S512x2048 : Shape := ⟨2, ![512, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x512, .bf16⟩
  | .hbm, ⟨2, _⟩ => ⟨S4096x512, .f32⟩
  | .hbm, ⟨3, _⟩ => ⟨S4x512x512, .f32⟩
  | .hbm, ⟨4, _⟩ => ⟨S512x4x512, .f32⟩
  | .hbm, ⟨5, _⟩ => ⟨S512x2048, .f32⟩
  | .hbm, ⟨6, _⟩ => ⟨S4096x2048, .f32⟩
  | .hbm, ⟨7, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S4x3072x1024 : Shape := ⟨3, ![4, 3072, 1024]⟩
abbrev S1024x1024 : Shape := ⟨2, ![1024, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4x3072x1024 : Shape := ⟨3, ![4, 3072, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4x256x1024, .bf16⟩
  | .hbm, ⟨3, _⟩ => ⟨S4x256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S4x2048x1024 : Shape := ⟨3, ![4, 2048, 1024]⟩
abbrev S1x1024x1024 : Shape := ⟨3, ![1, 1024, 1024]⟩
abbrev S1024x1024 : Shape := ⟨2, ![1024, 1024]⟩
abbrev S4x1024x1024 : Shape := ⟨3, ![4, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .bf16⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x1024 : Shape := ⟨2, ![1024, 1024]⟩
abbrev S4x256x1024 : Shape := ⟨3, ![4, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4096x1024, .bf16⟩
  | .hbm, ⟨4, _⟩ => ⟨S4x1024x1024, .bf16⟩
  | .hbm, ⟨5, _⟩ => ⟨S4x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x256x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference16Ideal.lean ====
abbrev S4096x1024 : Shape := ⟨2, ![4096, 1024]⟩
abbrev S4x3072x1024 : Shape := ⟨3, ![4, 3072, 1024]⟩
abbrev S4x256x1024 : Shape := ⟨3, ![4, 256, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4x256x1024, .bf16⟩
  | .hbm, ⟨4, _⟩ => ⟨S4x256x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S4096x1024, .bf16⟩
  | .hbm, ⟨13, _⟩ => ⟨S4x256x1024, .f32⟩
  | .hbm, ⟨14, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S4x1024x1024 : Shape := ⟨3, ![4, 1024, 1024]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x1024, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v84 : BitVec 1 := Scalar.cmpi .eq arg0 c3_i32
  let v85 : BitVec 32 := Scalar.extui v84
  let c0_i32_40 : BitVec 32 := 0#32
  let v86 : BitVec 1 := Scalar.cmpi .ne v85 c0_i32_40
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference18Ideal.lean ====
abbrev S4096x1024 : Shape := ⟨2, ![4096, 1024]⟩
abbrev S1x1024 : Shape := ⟨2, ![1, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x1024, .bf16⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩

abbrev nD : Nat := 1
abbrev τ : Topo := Topo.v7x

variable {F : FTy → Type} [FloatOps F]
-- ==== Kernel19.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S1024x1024 : Shape := ⟨2, ![1024, 1024]⟩
abbrev S4x256x1024 : Shape := ⟨3, ![4, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4x1024x1024, .bf16⟩
  | .hbm, ⟨4, _⟩ => ⟨S4096x1024, .bf16⟩
  | .hbm, ⟨5, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x256x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference19Ideal.lean ====
abbrev S4096x1024 : Shape := ⟨2, ![4096, 1024]⟩
abbrev S4x3072x1024 : Shape := ⟨3, ![4, 3072, 1024]⟩
abbrev S4x1024x1024 : Shape := ⟨3, ![4, 1024, 1024]⟩
abbrev S4x256x1024 : Shape := ⟨3, ![4, 256, 1024]⟩
abbrev S1024x1024 : Shape := ⟨2, ![1024, 1024]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4x1024x1024, .bf16⟩
  | .hbm, ⟨4, _⟩ => ⟨S4x256x1024, .bf16⟩
  | .hbm, ⟨5, _⟩ => ⟨S4x256x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S4x256x1024, .f32⟩
  | .hbm, ⟨14, _⟩ => ⟨S4x256x1024, .bf16⟩
  | .hbm, ⟨15, _⟩ => ⟨S4096x1024, .bf16⟩
  | .hbm, ⟨16, _⟩ => ⟨S4x768x1024, .bf16⟩
  | .hbm, ⟨17, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel20.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .f32⟩
  | .hbm, ⟨3, _⟩ => ⟨S4096x4x256, .f32⟩
  | .hbm, ⟨4, _⟩ => ⟨S256x1024, .f32⟩
  | .hbm, ⟨5, _⟩ => ⟨S256x4x256, .f32⟩
  | .hbm, ⟨6, _⟩ => ⟨S256x1024, .f32⟩
  | .hbm, ⟨7, _⟩ => ⟨S256x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S4x256x4096, .f32⟩
  | .hbm, ⟨27, _⟩ => ⟨S4096x4x256, .f32⟩
  | .hbm, ⟨28, _⟩ => ⟨S4096x1024, .f32⟩
  | .hbm, ⟨29, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel21.lean ====
abbrev S4096x4608 : Shape := ⟨2, ![4096, 4608]⟩
abbrev S4096x1024 : Shape := ⟨2, ![4096, 1024]⟩
abbrev S4096x2048 : Shape := ⟨2, ![4096, 2048]⟩
abbrev S1024x512 : Shape := ⟨2, ![1024, 512]⟩

abbrev nBuf : Space → Nat
  | .hbm => 4
  | .vmem => 12
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference21Ideal.lean ====
abbrev S4096x4608 : Shape := ⟨2, ![4096, 4608]⟩
abbrev S4096x1024 : Shape := ⟨2, ![4096, 1024]⟩
abbrev S4096x2048 : Shape := ⟨2, ![4096, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S4096x2048, .bf16⟩
  | .hbm, ⟨3, _⟩ => ⟨S4096x4608, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel22.lean ====
abbrev S4096x1024 : Shape := ⟨2, ![4096, 1024]⟩
abbrev S4x3072x1024 : Shape := ⟨3, ![4, 3072, 1024]⟩
abbrev S1024x1024 : Shape := ⟨2, ![1024, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S4x3072x1024 : Shape := ⟨3, ![4, 3072, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4x256x1024, .bf16⟩
  | .hbm, ⟨3, _⟩ => ⟨S4x256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel23.lean ====
abbrev S4096x1024 : Shape := ⟨2, ![4096, 1024]⟩
abbrev S4x3072x1024 : Shape := ⟨3, ![4, 3072, 1024]⟩
abbrev S1x1024 : Shape := ⟨2, ![1, 1024]⟩
abbrev S4x1024x1024 : Shape := ⟨3, ![4, 1024, 1024]⟩
abbrev S1024x1024 : Shape := ⟨2, ![1024, 1024]⟩
abbrev S4x256x1024 : Shape := ⟨3, ![4, 256, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4096x1024, .bf16⟩
  | .hbm, ⟨4, _⟩ => ⟨S4096x1024, .f32⟩
  | .hbm, ⟨5, _⟩ => ⟨S1x1024, .f32⟩
  | .hbm, ⟨6, _⟩ => ⟨S4x1024x1024, .bf16⟩
  | .hbm, ⟨7, _⟩ => ⟨S4096x1024, .bf16⟩
  | .hbm, ⟨8, _⟩ => ⟨S4x1024x1024, .bf16⟩
  | .hbm, ⟨9, _⟩ => ⟨S1x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S4x256x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S8x1024, .f32⟩
  | .local _ .vmem, ⟨17, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond5 (i : grid0.Coords) : BitVec 1 :=
  let arg0 : BitVec 32 := BitVec.ofNat 32 (i 0).val
  let c3_i32_41 : BitVec 32 := 3#32
  let v76 : BitVec 1 := Scalar.cmpi .eq arg0 c3_i32_41
  let v77 : BitVec 32 := Scalar.extui v76
  let c0_i32_42 : BitVec 32 := 0#32
  let v78 : BitVec 1 := Scalar.cmpi .ne v77 c0_i32_42
  v78

def k0_cond2 (i : grid0.Coords) : BitVec 1 :=
  let arg0 : BitVec 32 := BitVec.ofNat 32 (i 0).val
  let c3_i32 : BitVec 32 := 3#32
  let v63 : BitVec 1 := Scalar.cmpi .eq arg0 c3_i32
  let v64 : BitVec 32 := Scalar.extui v63
  let c0_i32_31 : BitVec 32 := 0#32
  let v65 : BitVec 1 := Scalar.cmpi .ne v64 c0_i32_31
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference23Ideal.lean ====
abbrev S4096x1024 : Shape := ⟨2, ![4096, 1024]⟩
abbrev S4x3072x1024 : Shape := ⟨3, ![4, 3072, 1024]⟩
abbrev S1x1024 : Shape := ⟨2, ![1, 1024]⟩
abbrev S4x1024x1024 : Shape := ⟨3, ![4, 1024, 1024]⟩
abbrev S4x256x1024 : Shape := ⟨3, ![4, 256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x512x1024 : Shape := ⟨3, ![4, 512, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3072x1024, .bf16⟩
  | .hbm, ⟨3, _⟩ => ⟨S4096x1024, .bf16⟩
  | .hbm, ⟨4, _⟩ => ⟨S4096x1024, .f32⟩
  | .hbm, ⟨5, _⟩ => ⟨S1x1024, .f32⟩
  | .hbm, ⟨6, _⟩ => ⟨S4x1024x1024, .bf16⟩
  | .hbm, ⟨7, _⟩ => ⟨S4x256x1024, .bf16⟩
  | .hbm, ⟨8, _⟩ => ⟨S4x256x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4x256x1024, .f32⟩
  | .hbm, ⟨93, _⟩ => ⟨S4x256x1024, .bf16⟩
  | .hbm, ⟨94, _⟩ => ⟨S4096x1024, .bf16⟩
  | .hbm, ⟨95, _⟩ => ⟨S4x512x1024, .bf16⟩
  | .hbm, ⟨96, _⟩ => ⟨S4x256x1024, .bf16⟩
  | .hbm, ⟨97, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel24.lean ====
abbrev S4096x1024 : Shape := ⟨2, ![4096, 1024]⟩
abbrev S4x3072x1024 : Shape := ⟨3, ![4, 3072, 1024]⟩
abbrev S1x1024 : Shape := ⟨2, ![1, 1024]⟩
abbrev S512x1024 : Shape := ⟨2, ![512, 1024]⟩
abbrev S4x256x1024 : Shape := ⟨3, ![4, 256, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference24Ideal.lean ====
abbrev S4096x1024 : Shape := ⟨2, ![4096, 1024]⟩
abbrev S4x3072x1024 : Shape := ⟨3, ![4, 3072, 1024]⟩
abbrev S1x1024 : Shape := ⟨2, ![1, 1024]⟩
abbrev S_ : Shape := ⟨0, ![]⟩
abbrev S4x256x1024 : Shape := ⟨3, ![4, 256, 1024]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4x256x1024, .bf16⟩
  | .hbm, ⟨10, _⟩ => ⟨S4x256x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel25.lean ====
abbrev S4096x1024 : Shape := ⟨2, ![4096, 1024]⟩
abbrev S4x3072x1024 : Shape := ⟨3, ![4, 3072, 1024]⟩
abbrev S1x1024 : Shape := ⟨2, ![1, 1024]⟩
abbrev S512x1024 : Shape := ⟨2, ![512, 1024]⟩
abbrev S4x256x1024 : Shape := ⟨3, ![4, 256, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference25Ideal.lean ====
abbrev S4096x1024 : Shape := ⟨2, ![4096, 1024]⟩
abbrev S4x3072x1024 : Shape := ⟨3, ![4, 3072, 1024]⟩
abbrev S1x1024 : Shape := ⟨2, ![1, 1024]⟩
abbrev S_ : Shape := ⟨0, ![]⟩
abbrev S4x256x1024 : Shape := ⟨3, ![4, 256, 1024]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3072x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4x256x1024, .bf16⟩
  | .hbm, ⟨10, _⟩ => ⟨S4x256x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v56 : BitVec 1 := Scalar.cmpi .eq arg0 c3_i32
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel27.lean ====
abbrev S256x1024 : Shape := ⟨2, ![256, 1024]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x1024x512, .bf16⟩
  | .hbm, ⟨2, _⟩ => ⟨S256x2048, .f32⟩
  | .local _ .vmem, ⟨0, _⟩ => ⟨S256x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S256x1024 : Shape := ⟨2, ![256, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S4x1024x512, .bf16⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1x1024x512, .bf16⟩
  | .local _ .vmem, ⟨4, _⟩ => ⟨S1x1024x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference28Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x1024 : Shape := ⟨2, ![4096, 1024]⟩
abbrev S1x1024 : Shape := ⟨2, ![1, 1024]⟩
abbrev S1x128 : Shape := ⟨2, ![1, 128]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩
abbrev S1 : Shape := ⟨1, ![1]⟩
abbrev S1x1 : Shape := ⟨2, ![1, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v78 : BitVec 1 := Scalar.cmpi .eq arg0 c3_i32
  let v79 : BitVec 32 := Scalar.extui v78
  let c0_i32_39 : BitVec 32 := 0#32
  let v80 : BitVec 1 := Scalar.cmpi .ne v79 c0_i32_39
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference29Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S_, .f32⟩
  | .hbm, ⟨100, _⟩ => ⟨S_, .f32⟩
  | .hbm, ⟨101, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Kernel30.lean ====
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel31.lean ====
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel32.lean ====
abbrev S1024x1152 : Shape := ⟨2, ![1024, 1152]⟩
abbrev S512x1152 : Shape := ⟨2, ![512, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | .local _ .vmem, ⟨14, _⟩ => ⟨S512x1152, .f32⟩
  | .local _ .vmem, ⟨15, _⟩ => ⟨S512x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S32x256 : Shape := ⟨2, ![32, 256]⟩

abbrev nBuf : Space → Nat
  | .hbm => 8
  | .vmem => 8
  | .smem => 0
  | _ => 0

abbrev bufTy : (tb : Table) → Fin (tcTables nBuf tb) → BufTy
  | .hbm, ⟨0, _⟩ => ⟨S32x256, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S32x256, .f32⟩
  | .hbm, ⟨5, _⟩ => ⟨S32x256, .f32⟩
  | .hbm, ⟨6, _⟩ => ⟨S32x256, .f32⟩
  | .hbm, ⟨7, _⟩ => ⟨S32x256, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | _, _ => ⟨S32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference35Ideal.lean ====
abbrev S32x256 : Shape := ⟨2, ![32, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x256, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S_, .f32⟩
  | .hbm, ⟨5, _⟩ => ⟨S32x256, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256, .f32⟩
  | .hbm, ⟨30, _⟩ => ⟨S_, .f32⟩
  | .hbm, ⟨31, _⟩ => ⟨S32x256, .f32⟩
  | .hbm, ⟨32, _⟩ => ⟨S32x256, .f32⟩
  | .hbm, ⟨33, _⟩ => ⟨S32x256, .f32⟩
  | .hbm, ⟨34, _⟩ => ⟨S_, .f32⟩
  | .hbm, ⟨35, _⟩ => ⟨S32x256, .f32⟩
  | .hbm, ⟨36, _⟩ => ⟨S32x256, .f32⟩
  | _, _ => ⟨S32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S160x1024 : Shape := ⟨2, ![160, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .hbm, ⟨7, _⟩ => ⟨S160x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S160x1024 : Shape := ⟨2, ![160, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S_, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S160x1024, .f32⟩
  | .hbm, ⟨11, _⟩ => ⟨S_, .f32⟩
  | .hbm, ⟨12, _⟩ => ⟨S160x1024, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S160x1024, .f32⟩
  | .hbm, ⟨26, _⟩ => ⟨S_, .f32⟩
  | .hbm, ⟨27, _⟩ => ⟨S160x1024, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.SoftmaxGrad.lean ====
/- The row algebra of the softmax and of its gradient over the extended reals: the scores of one query against 256
   keys, the exponentials, the probabilities and the gradient of the scores, and the equality of the two ways of
   writing that gradient. -/
module

public import Idealize.ShloMosaic.PureOps.Ideal.Laws
public import Idealize.ShloMosaic.Lib.Pointwise

@[expose] public section

noncomputable section

namespace Cert.Proof.Attn

open Idealize.ShloMosaic

/-- The scaled score of a query `q` against key `m`. -/
def score (q : Fin 256 → EReal) (k : Fin 256 → Fin 256 → EReal) (m : Fin 256) : EReal :=
  (∑ d, q d * k m d) * Ideal.ofBits .f32 0x3D800000#32

/-- The exponential of a score less the largest score of its row. -/
def expo (s : Fin 256 → EReal) (m : Fin 256) : EReal :=
  Ideal.exp (s m - Finset.fold max (Ideal.ofBits .f32 0xFF800000#32) s Finset.univ)

/-- The softmax of a row of scores. -/
def prob (s : Fin 256 → EReal) (m : Fin 256) : EReal := Ideal.div (expo s m) (∑ x, expo s x)

/-- The gradient of the probability of key `m`: the output's gradient `g` against the value `m`. -/
def dprob (g : Fin 256 → EReal) (v : Fin 256 → Fin 256 → EReal) (m : Fin 256) : EReal := ∑ d, g d * v m d

/-- The gradient of the score of key `m` from the row's scores `s` and its probabilities' gradients `dp`. -/
def dscore (s dp : Fin 256 → EReal) (m : Fin 256) : EReal :=
  prob s m * (dp m - ∑ x, prob s x * dp x) * Ideal.ofBits .f32 0x3D800000#32

/-- The same gradient as differentiating the quotient `e / Σ e` writes it. -/
def dscoreQuot (s dp : Fin 256 → EReal) (m : Fin 256) : EReal :=
  (Ideal.div (dp m) (∑ x, expo s x)
      + -(∑ x, dp x * Ideal.div (Ideal.ofBits .f32 0x3F800000#32) ((∑ y, expo s y) * (∑ y, expo s y)) * expo s x))
    * expo s m * Ideal.ofBits .f32 0x3D800000#32

/-- The literal `-∞` of the row maximum is the least extended real. -/
theorem neg_inf_lit : Ideal.ofBits .f32 0xFF800000#32 = ⊥ := by
  simp [Ideal.ofBits, Ideal.ieee]

/-- The literal `1`. -/
theorem one_lit : Ideal.ofBits .f32 0x3F800000#32 = 1 := by
  simp [Ideal.ofBits, Ideal.ieee, -EReal.coe_mul]; norm_num

/-- The literal `1/16`. -/
theorem scale_lit : Ideal.ofBits .f32 0x3D800000#32 = ((1 / 16 : ℝ) : EReal) := by
  simp [Ideal.ofBits, Ideal.ieee, -EReal.coe_mul]; norm_num

/-- A sum of products of finite numbers is finite. -/
theorem sum_mul_finite {ι : Type} (t : Finset ι) (a b : ι → EReal) (ha : ∀ i, ∃ r : ℝ, a i = r) (hb : ∀ i, ∃ r : ℝ, b i = r) :
    ∃ r : ℝ, ∑ i ∈ t, a i * b i = (r : EReal) := by
  classical
  choose f hf using ha
  choose g hg using hb
  refine ⟨∑ i ∈ t, f i * g i, ?_⟩
  simp only [hf, hg, ← EReal.coe_mul]
  induction t using Finset.induction_on with
  | empty => simp
  | insert i t hi ih => rw [Finset.sum_insert hi, Finset.sum_insert hi, ih, EReal.coe_add]

/-- Finite queries and keys have finite scores. -/
theorem score_finite (q : Fin 256 → EReal) (k : Fin 256 → Fin 256 → EReal) (hq : ∀ d, ∃ r : ℝ, q d = r)
    (hk : ∀ m d, ∃ r : ℝ, k m d = r) (m : Fin 256) : ∃ r : ℝ, score q k m = (r : EReal) := by
  obtain ⟨r, hr⟩ := sum_mul_finite Finset.univ q (k m) hq (hk m)
  exact ⟨r * (1 / 16), by rw [score, hr, scale_lit, EReal.coe_mul]⟩

/-- The largest of finitely many finite numbers, from `-∞`, is finite. -/
theorem fold_max_finite (s : Fin 256 → EReal) (hs : ∀ m, ∃ r : ℝ, s m = r) :
    ∃ r : ℝ, Finset.fold max (Ideal.ofBits .f32 0xFF800000#32) s Finset.univ = (r : EReal) := by
  rw [neg_inf_lit]
  have key : ∀ t : Finset (Fin 256), t = ∅ ∨ ∃ r : ℝ, Finset.fold max (⊥ : EReal) s t = (r : EReal) := by
    intro t
    induction t using Finset.induction_on with
    | empty => exact .inl rfl
    | insert i t hi ih =>
      refine .inr ?_
      obtain ⟨a, ha⟩ := hs i
      rw [Finset.fold_insert hi, ha]
      rcases ih with rfl | ⟨b, hb⟩
      · exact ⟨a, by simp⟩
      · exact ⟨max a b, by rw [hb]; exact (EReal.coe_strictMono.monotone.map_max).symm⟩
  rcases key Finset.univ with h | h
  · exact absurd h (Finset.univ_nonempty.ne_empty)
  · exact h

/-- With finite scores every exponential is a positive real. -/
theorem expo_pos (s : Fin 256 → EReal) (hs : ∀ m, ∃ r : ℝ, s m = r) (m : Fin 256) :
    ∃ r : ℝ, 0 < r ∧ expo s m = (r : EReal) := by
  obtain ⟨M, hM⟩ := fold_max_finite s hs
  obtain ⟨a, ha⟩ := hs m
  exact ⟨Real.exp (a - M), Real.exp_pos _, by rw [expo, hM, ha, ← EReal.coe_sub, Ideal.exp_coe]⟩

/-- A nonnegative real factor goes into a sum of extended reals. -/
theorem mul_sum_of_nonneg {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert i t hi ih =>
    rw [Finset.sum_insert hi, Finset.sum_insert hi, ← ih,
      EReal.left_distrib_of_nonneg_of_ne_top (by exact_mod_cast hc) (EReal.coe_ne_top c)]

/-- With finite scores the two ways of writing the gradient of a score agree, whatever the probabilities' gradients. -/
theorem dscoreQuot_eq (s dp : Fin 256 → EReal) (hs : ∀ m, ∃ r : ℝ, s m = r) (m : Fin 256) :
    dscoreQuot s dp m = dscore s dp m := by
  choose e he0 he using expo_pos s hs
  have hl : ∑ x, expo s x = ((∑ x, e x : ℝ) : EReal) := by
    have : ∀ t : Finset (Fin 256), ∑ x ∈ t, expo s x = ((∑ x ∈ t, e x : ℝ) : EReal) := by
      intro t
      induction t using Finset.induction_on with
      | empty => simp
      | insert i t hi ih => rw [Finset.sum_insert hi, Finset.sum_insert hi, ih, he, EReal.coe_add]
    exact this _
  have hpos : 0 < ∑ x, e x := Finset.sum_pos (fun x _ => he0 x) Finset.univ_nonempty
  have hp : ∀ x, prob s x = ((e x * (1 / ∑ x, e x) : ℝ) : EReal) := fun x => by
    rw [prob, hl, Ideal.div_coe hpos.ne', he, EReal.coe_mul]
  unfold dscoreQuot dscore
  simp only [hp, hl]
  simp only [he]
  generalize hL : ∑ x, e x = l at *
  rw [Ideal.div_coe hpos.ne', ← EReal.coe_mul, Ideal.div_coe (mul_pos hpos hpos).ne', one_lit, one_mul]
  congr 1
  have h1 : ∀ x, dp x * ((1 / (l * l) : ℝ) : EReal) * (e x : EReal)
      = ((1 / l : ℝ) : EReal) * (((e x * (1 / l) : ℝ) : EReal) * dp x) := fun x => by
    rw [mul_assoc, ← EReal.coe_mul, ← mul_assoc, ← EReal.coe_mul, mul_comm (dp x)]
    congr 2
    field_simp
  simp only [h1]
  have hi : 0 ≤ 1 / l := (one_div_pos.mpr hpos).le
  rw [← mul_sum_of_nonneg _ _ hi, mul_comm (dp m), ← mul_neg,
    ← EReal.left_distrib_of_nonneg_of_ne_top (by exact_mod_cast hi) (EReal.coe_ne_top _), ← sub_eq_add_neg,
    mul_comm (e m), EReal.coe_mul, mul_comm _ (e m : EReal), mul_assoc]
  exact mul_left_comm _ _ _

/-! ## The three gradients over whole arrays -/

/-- Column `d` of head `h` among the 1024 columns of the queries. -/
def hcol (h : Fin 4) (d : Fin 256) : Fin 1024 := ⟨h.val * 256 + d.val, by omega⟩

/-- Every column is a column of a head. -/
theorem hcol_surj (c : Fin 1024) : ∃ h d, c = hcol h d :=
  ⟨⟨c.val / 256, by omega⟩, ⟨c.val % 256, by omega⟩, Fin.ext (by simp only [hcol]; omega)⟩

section
variable {T : Nat} (Q : Fin T → Fin 1024 → EReal) (K V : Fin 256 → Fin 1024 → EReal) (G : Fin T → Fin 1024 → EReal)

/-- The scores of query `i` in head `h`. -/
def hscore (h : Fin 4) (i : Fin T) : Fin 256 → EReal := score (fun d => Q i (hcol h d)) (fun m d => K m (hcol h d))

/-- The gradients of the probabilities of query `i` in head `h`. -/
def hdprob (h : Fin 4) (i : Fin T) : Fin 256 → EReal := dprob (fun d => G i (hcol h d)) (fun m d => V m (hcol h d))

/-- The gradient of the queries. -/
def gradQ (i : Fin T) (h : Fin 4) (d : Fin 256) : EReal :=
  ∑ m, dscore (hscore Q K h i) (hdprob V G h i) m * K m (hcol h d)

/-- What the queries add to the gradient of the keys. -/
def gradK (m : Fin 256) (h : Fin 4) (d : Fin 256) : EReal :=
  ∑ i : Fin T, dscore (hscore Q K h i) (hdprob V G h i) m * Q i (hcol h d)

/-- What the queries add to the gradient of the values. -/
def gradV (m : Fin 256) (h : Fin 4) (d : Fin 256) : EReal :=
  ∑ i : Fin T, prob (hscore Q K h i) m * G i (hcol h d)

end

end Cert.Proof.Attn

end
-- ==== Proof.AttnKernel.lean ====
/- What one grid point of the attention's backward kernel stores: the gradient of its queries, and what it adds to the
   gradients of the keys and of the values. -/
module

public import proofs.«01_k».proof.Proof.Gen.KernelIdeal.Value
public import proofs.«01_k».proof.Proof.SoftmaxGrad
public import Idealize.ShloMosaic.Lib.WholeRead

@[expose] public section

set_option maxRecDepth 16384

noncomputable section

namespace Cert.Proof.AttnKernel

open Cert.KernelIdeal Cert.KernelIdeal.Gen Idealize.ShloMosaic Idealize.ShloMosaic.TcCoe Idealize.SL.Sem
open Cert.Proof.Attn

/-- The rows of a block as a function of row and column. -/
def mat {n k : Nat} (x : (⟨2, ![n, k]⟩ : Shape).Idx → EReal) : Fin n → Fin k → EReal := fun i c => x (ix2 i c)

/-- An index of two axes from its coordinates. -/
theorem at2 {a b : Nat} (j : (⟨2, ![a, b]⟩ : Shape).Idx) (x : Fin a) (y : Fin b) (h0 : (j 0).val = x.val) (h1 : (j 1).val = y.val) :
    j = ix2 x y := by
  rw [eq_ix2 j]; exact congrArg₂ ix2 (Fin.ext h0) (Fin.ext h1)

/-! ## The payloads at an index -/

section
variable (q : Vec Ideal S1024x256 .bf16) (k v : Vec Ideal S256x256 .f32) (g : Vec Ideal S1024x256 .bf16)

/-- The probabilities of a head. -/
theorem pay3_at (i : Fin 1024) (m : Fin 256) : k0_pay3 q k (ix2 i m) = prob (score (mat q i) (mat k)) m := by
  unfold_payloads
  pointwise [dot_S1024x256_S256x256_S1024x256_1_1_0_0_n_n]
  rfl

/-- The gradients of the scores of a head. -/
theorem pay4_at (i : Fin 1024) (m : Fin 256) :
    k0_pay4 q k v g (ix2 i m) = dscore (score (mat q i) (mat k)) (dprob (mat g i) (mat v)) m := by
  have e : ∀ x, k0_pay3 q k (ix2 i x) = prob (score (mat q i) (mat k)) x := pay3_at q k i
  unfold k0_pay4
  generalize k0_pay3 q k = p at e
  pointwise [dot_S1024x256_S256x256_S1024x256_1_1_0_0_n_n, e]
  rfl

/-- The gradient of the queries of a head. -/
theorem pay5_at (i : Fin 1024) (d : Fin 256) :
    k0_pay5 q k v g (ix2 i d) = ∑ m, dscore (score (mat q i) (mat k)) (dprob (mat g i) (mat v)) m * mat k m d := by
  have e : ∀ x, k0_pay4 q k v g (ix2 i x) = _ := pay4_at q k v g i
  unfold k0_pay5 k0_pay2
  generalize k0_pay4 q k v g = p at e
  pointwise [dot_S1024x256_S256x256_S1024x256_1_0_0_1_n_n, e]
  rfl

/-- The gradient of the keys of a head, added to what it is added to. -/
theorem pay6_at (a : Vec Ideal S256x256 .f32) (m d : Fin 256) :
    k0_pay6 q (k0_pay4 q k v g) a (ix2 m d)
      = a (ix2 m d) + ∑ i, dscore (score (mat q i) (mat k)) (dprob (mat g i) (mat v)) m * mat q i d := by
  have e : ∀ i, k0_pay4 q k v g (ix2 i m) = _ := fun i => pay4_at q k v g i m
  unfold k0_pay6
  generalize k0_pay4 q k v g = p at e
  pointwise [dot_S1024x256_S1024x256_S256x256_0_0_1_1_n_n, e]
  rfl

/-- The gradient of the values of a head, added to what it is added to. -/
theorem pay7_at (a : Vec Ideal S256x256 .f32) (m d : Fin 256) :
    k0_pay7 g (k0_pay3 q k) a (ix2 m d) = a (ix2 m d) + ∑ i, prob (score (mat q i) (mat k)) m * mat g i d := by
  have e : ∀ i, k0_pay3 q k (ix2 i m) = _ := fun i => pay3_at q k i m
  unfold k0_pay7
  generalize k0_pay3 q k = p at e
  pointwise [dot_S1024x256_S1024x256_S256x256_0_0_1_1_n_n, e]
  rfl

end

/-! ## One head's loads -/

section
variable (x0 : Vec Ideal S1024x1024 .bf16) (x1 x2 : Vec Ideal S256x1024 .f32) (x3 : Vec Ideal S1024x1024 .bf16)

/-- A load of a head's columns of a block of 1024 rows. -/
theorem load_rows (arg : Memref sig .tc .vmem S1024x1024 .bf16) (harg : arg.IsWhole) (x : Vec Ideal S1024x1024 .bf16) (h : Fin 4)
    (off : Nat) (ho : off = h.val * 256) (inb : ∀ a, ![0, off] a + ![1024, 256] a ≤ S1024x1024.size a) (i : Fin 1024) :
    mat (n := 1024) (k := 256) (by exact View.readAt (Elt Ideal) arg.view (Rect.unit ![0, off] ![1024, 256] inb).toLoadRect (harg.unread x)) i
      = fun d => mat (n := 1024) (k := 1024) x i (hcol h d) := by
  subst ho
  funext d
  refine (harg.readAt_unread x _ _).trans (congrArg x (at2 _ i (hcol h d) ?_ ?_))
  · show 0 + 1 * i.val = i.val; omega
  · show h.val * 256 + 1 * d.val = h.val * 256 + d.val; omega

/-- A load of a head's columns of a block of 256 rows. -/
theorem load_mem (arg : Memref sig .tc .vmem S256x1024 .f32) (harg : arg.IsWhole) (x : Vec Ideal S256x1024 .f32) (h : Fin 4)
    (off : Nat) (ho : off = h.val * 256) (inb : ∀ a, ![0, off] a + ![256, 256] a ≤ S256x1024.size a) :
    mat (n := 256) (k := 256) (by exact View.readAt (Elt Ideal) arg.view (Rect.unit ![0, off] ![256, 256] inb).toLoadRect (harg.unread x))
      = fun m d => mat (n := 256) (k := 1024) x m (hcol h d) := by
  subst ho
  funext m d
  refine (harg.readAt_unread x _ _).trans (congrArg x (at2 _ m (hcol h d) ?_ ?_))
  · show 0 + 1 * m.val = m.val; omega
  · show h.val * 256 + 1 * d.val = h.val * 256 + d.val; omega

/-- What the point stores in the queries' gradient. -/
def dqOf (y : S1024x1024.Idx) : EReal :=
  gradQ (mat x0) (mat x1) (mat x2) (mat x3) (y 0) ⟨(y 1).val / 256, by have : (y 1).val < 1024 := (y 1).isLt; omega⟩ ⟨(y 1).val % 256, by omega⟩

/-- What the point adds to the keys' and values' gradient. -/
def dkvOf (y : S256x2048.Idx) : EReal :=
  if (y 1).val < 1024 then
    gradK (mat x0) (mat x1) (mat x2) (mat x3) (y 0) ⟨(y 1).val / 256 % 4, by omega⟩ ⟨(y 1).val % 256, by omega⟩
  else gradV (mat x0) (mat x1) (mat x3) (y 0) ⟨(y 1).val / 256 % 4, by omega⟩ ⟨(y 1).val % 256, by omega⟩

/-- The queries' gradient at a row, a head and a column of the head. -/
theorem dqOf_at (y : S1024x1024.Idx) (i : Fin 1024) (h : Fin 4) (d : Fin 256) (h0 : (y 0).val = i.val) (h1 : (y 1).val = h.val * 256 + d.val) :
    dqOf x0 x1 x2 x3 y = gradQ (mat x0) (mat x1) (mat x2) (mat x3) i h d := by
  unfold dqOf
  congr 1
  · exact Fin.ext h0
  · exact Fin.ext (by show (y 1).val / 256 = h.val; omega)
  · exact Fin.ext (by show (y 1).val % 256 = d.val; omega)

/-- The keys' part of the second result at a key, a head and a column of the head. -/
theorem dkvOf_keys (y : S256x2048.Idx) (m : Fin 256) (h : Fin 4) (d : Fin 256) (h0 : (y 0).val = m.val) (h1 : (y 1).val = h.val * 256 + d.val) :
    dkvOf x0 x1 x2 x3 y = gradK (mat x0) (mat x1) (mat x2) (mat x3) m h d := by
  unfold dkvOf
  rw [if_pos (by omega)]
  congr 1
  · exact Fin.ext h0
  · exact Fin.ext (by show (y 1).val / 256 % 4 = h.val; omega)
  · exact Fin.ext (by show (y 1).val % 256 = d.val; omega)

/-- The values' part of the second result at a key, a head and a column of the head. -/
theorem dkvOf_vals (y : S256x2048.Idx) (m : Fin 256) (h : Fin 4) (d : Fin 256) (h0 : (y 0).val = m.val) (h1 : (y 1).val = 1024 + (h.val * 256 + d.val)) :
    dkvOf x0 x1 x2 x3 y = gradV (mat x0) (mat x1) (mat x3) m h d := by
  unfold dkvOf
  rw [if_neg (by omega)]
  congr 1
  · exact Fin.ext h0
  · exact Fin.ext (by show (y 1).val / 256 % 4 = h.val; omega)
  · exact Fin.ext (by show (y 1).val % 256 = d.val; omega)

variable (b1 : Memref sig .tc .vmem S1024x1024 .bf16) (k1 : b1.IsWhole) (b2 : Memref sig .tc .vmem S256x1024 .f32) (k2 : b2.IsWhole) (b3 : Memref sig .tc .vmem S256x1024 .f32) (k3 : b3.IsWhole) (b4 : Memref sig .tc .vmem S1024x1024 .bf16) (k4 : b4.IsWhole)
variable (h : Fin 4) (off : Nat) (ho : off = h.val * 256) (inb : ∀ a, ![0, off] a + ![1024, 256] a ≤ S1024x1024.size a)
  (inb' : ∀ a, ![0, off] a + ![256, 256] a ≤ S256x1024.size a)

include ho in
/-- A head's store in the queries' gradient. -/
theorem dq_piece (x : S1024x256.Idx) :
    k0_pay5 (View.readAt (Elt Ideal) b1.view (Rect.unit ![0, off] ![1024, 256] inb).toLoadRect (k1.unread x0))
      (View.readAt (Elt Ideal) b2.view (Rect.unit ![0, off] ![256, 256] inb').toLoadRect (k2.unread x1))
      (View.readAt (Elt Ideal) b3.view (Rect.unit ![0, off] ![256, 256] inb').toLoadRect (k3.unread x2))
      (View.readAt (Elt Ideal) b4.view (Rect.unit ![0, off] ![1024, 256] inb).toLoadRect (k4.unread x3)) x
    = dqOf x0 x1 x2 x3 ((Rect.unit (s := S1024x1024) ![0, off] ![1024, 256] inb).emb x) := by
  obtain ⟨i, d, rfl⟩ : ∃ (i : Fin 1024) (d : Fin 256), x = ix2 i d := ⟨x 0, x 1, eq_ix2 x⟩
  rw [dqOf_at x0 x1 x2 x3 _ i h d (by rw [Rect.emb_apply]; show 0 + 1 * i.val = i.val; omega) (by rw [Rect.emb_apply]; show off + 1 * d.val = h.val * 256 + d.val; omega)]
  refine (pay5_at _ _ _ _ i d).trans ?_
  rw [load_rows _ k1 x0 h off ho inb, load_rows _ k4 x3 h off ho inb, load_mem _ k2 x1 h off ho inb',
    load_mem _ k3 x2 h off ho inb']
  rfl

include ho in
/-- A head's store in the keys' gradient, over contents `a`. -/
theorem dk_piece (a : Vec Ideal S256x256 .f32) (inb6 : ∀ b, ![0, off] b + ![256, 256] b ≤ S256x2048.size b) (x : S256x256.Idx) :
    k0_pay6 (View.readAt (Elt Ideal) b1.view (Rect.unit ![0, off] ![1024, 256] inb).toLoadRect (k1.unread x0))
      (k0_pay4 (View.readAt (Elt Ideal) b1.view (Rect.unit ![0, off] ![1024, 256] inb).toLoadRect (k1.unread x0))
      (View.readAt (Elt Ideal) b2.view (Rect.unit ![0, off] ![256, 256] inb').toLoadRect (k2.unread x1))
      (View.readAt (Elt Ideal) b3.view (Rect.unit ![0, off] ![256, 256] inb').toLoadRect (k3.unread x2))
      (View.readAt (Elt Ideal) b4.view (Rect.unit ![0, off] ![1024, 256] inb).toLoadRect (k4.unread x3))) a x
    = a x + dkvOf x0 x1 x2 x3 ((Rect.unit (s := S256x2048) ![0, off] ![256, 256] inb6).emb x) := by
  obtain ⟨m, d, rfl⟩ : ∃ (m : Fin 256) (d : Fin 256), x = ix2 m d := ⟨x 0, x 1, eq_ix2 x⟩
  rw [dkvOf_keys x0 x1 x2 x3 _ m h d (by rw [Rect.emb_apply]; show 0 + 1 * m.val = m.val; omega) (by rw [Rect.emb_apply]; show off + 1 * d.val = h.val * 256 + d.val; omega)]
  refine (pay6_at _ _ _ _ a m d).trans ?_
  simp only [load_rows _ k1 x0 h off ho inb, load_rows _ k4 x3 h off ho inb, load_mem _ k2 x1 h off ho inb',
    load_mem _ k3 x2 h off ho inb']
  rfl

include ho in
/-- A head's store in the values' gradient, over contents `a`. -/
theorem dv_piece (a : Vec Ideal S256x256 .f32) (off6 : Nat) (ho6 : off6 = 1024 + h.val * 256)
    (inb6 : ∀ b, ![0, off6] b + ![256, 256] b ≤ S256x2048.size b) (x : S256x256.Idx) :
    k0_pay7 (View.readAt (Elt Ideal) b4.view (Rect.unit ![0, off] ![1024, 256] inb).toLoadRect (k4.unread x3))
      (k0_pay3 (View.readAt (Elt Ideal) b1.view (Rect.unit ![0, off] ![1024, 256] inb).toLoadRect (k1.unread x0))
      (View.readAt (Elt Ideal) b2.view (Rect.unit ![0, off] ![256, 256] inb').toLoadRect (k2.unread x1))) a x
    = a x + dkvOf x0 x1 x2 x3 ((Rect.unit (s := S256x2048) ![0, off6] ![256, 256] inb6).emb x) := by
  obtain ⟨m, d, rfl⟩ : ∃ (m : Fin 256) (d : Fin 256), x = ix2 m d := ⟨x 0, x 1, eq_ix2 x⟩
  rw [dkvOf_vals x0 x1 x2 x3 _ m h d (by rw [Rect.emb_apply]; show 0 + 1 * m.val = m.val; omega) (by rw [Rect.emb_apply]; show off6 + 1 * d.val = 1024 + (h.val * 256 + d.val); omega)]
  refine (pay7_at _ _ _ a m d).trans ?_
  simp only [load_rows _ k1 x0 h off ho inb, load_rows _ k4 x3 h off ho inb, load_mem _ k2 x1 h off ho inb']
  rfl

end

/-! ## The two stores of a grid point -/

section
variable (c : Dev nD) (i : grid0.Coords) (b1 : Memref sig .tc .vmem S1024x1024 .bf16) (k1 : b1.IsWhole) (b2 : Memref sig .tc .vmem S256x1024 .f32) (k2 : b2.IsWhole) (b3 : Memref sig .tc .vmem S256x1024 .f32) (k3 : b3.IsWhole) (b4 : Memref sig .tc .vmem S1024x1024 .bf16) (k4 : b4.IsWhole) (b5 : Memref sig .tc .vmem S1024x1024 .bf16) (k5 : b5.IsWhole) (b6 : Memref sig .tc .vmem S256x2048 .f32) (k6 : b6.IsWhole)
  (x0 : Vec Ideal S1024x1024 .bf16) (x1 x2 : Vec Ideal S256x1024 .f32) (x3 : Vec Ideal S1024x1024 .bf16)

/-- The queries' gradient a first point stores. -/
theorem outA_queries (hc0 : cond0_0 i) (y : S1024x1024.Idx) :
    out0_A_4 c i b1 k1 b2 k2 b3 k3 b4 k4 b5 k5 b6 k6 hc0 x0 x1 x2 x3 y = dqOf x0 x1 x2 x3 y := by
  have hc := cover0_A_4 c i b1 k1 b2 k2 b3 k3 b4 k4 b5 k5 b6 k6 hc0 x0 x1 x2 x3 y
  unfold out0_A_4
  rw [View.read_writes_junk_apply_eq_canon]
  refine View.canon_apply_of_pieces (dqOf x0 x1 x2 x3) _ ?_ y hc
  unfold kernelRun0_A
  dsimp only
  simp only [kernelRun0_A.sl.H5_1, kernelRun0_A.sl.H5_2, kernelRun0_A.sl.H5_3, kernelRun0_A.sl.H5_4, kernelRun0_A.sl.H5_5, kernelRun0_A.sl.H5_6, kernelRun0_A.sl.H5_7, kernelRun0_A.sl.H5_8, kernelRun0_A.sl.cst_39, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.v0, kernelRun0_A.sl.v1, kernelRun0_A.sl.v118, kernelRun0_A.sl.v123, kernelRun0_A.sl.v160, kernelRun0_A.sl.v165, kernelRun0_A.sl.v2, kernelRun0_A.sl.v34, kernelRun0_A.sl.v39, kernelRun0_A.sl.v76, kernelRun0_A.sl.v81]
  refine List.forall_mem_cons.2 ⟨fun x => dq_piece x0 x1 x2 x3 b1 k1 b2 k2 b3 k3 b4 k4 3 768 rfl _ _ x, ?_⟩
  refine List.forall_mem_cons.2 ⟨fun x => dq_piece x0 x1 x2 x3 b1 k1 b2 k2 b3 k3 b4 k4 2 512 rfl _ _ x, ?_⟩
  refine List.forall_mem_cons.2 ⟨fun x => dq_piece x0 x1 x2 x3 b1 k1 b2 k2 b3 k3 b4 k4 1 256 rfl _ _ x, ?_⟩
  refine List.forall_mem_cons.2 ⟨fun x => dq_piece x0 x1 x2 x3 b1 k1 b2 k2 b3 k3 b4 k4 0 0 rfl _ _ x, ?_⟩
  exact List.forall_mem_nil _

/-- The queries' gradient a later point stores. -/
theorem outB_queries (hc0 : ¬cond0_0 i) (xo5 : Vec Ideal S256x2048 .f32) (y : S1024x1024.Idx) :
    out0_B_4 c i b1 k1 b2 k2 b3 k3 b4 k4 b5 k5 b6 k6 hc0 x0 x1 x2 x3 xo5 y = dqOf x0 x1 x2 x3 y := by
  have hc := cover0_B_4 c i b1 k1 b2 k2 b3 k3 b4 k4 b5 k5 b6 k6 hc0 x0 x1 x2 x3 xo5 y
  unfold out0_B_4
  rw [View.read_writes_junk_apply_eq_canon]
  refine View.canon_apply_of_pieces (dqOf x0 x1 x2 x3) _ ?_ y hc
  unfold kernelRun0_B
  dsimp only
  simp only [kernelRun0_B.sl.cst_39, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.v0, kernelRun0_B.sl.v1, kernelRun0_B.sl.v118, kernelRun0_B.sl.v123, kernelRun0_B.sl.v160, kernelRun0_B.sl.v165, kernelRun0_B.sl.v2, kernelRun0_B.sl.v39, kernelRun0_B.sl.v76, kernelRun0_B.sl.v81]
  refine List.forall_mem_cons.2 ⟨fun x => dq_piece x0 x1 x2 x3 b1 k1 b2 k2 b3 k3 b4 k4 3 768 rfl _ _ x, ?_⟩
  refine List.forall_mem_cons.2 ⟨fun x => dq_piece x0 x1 x2 x3 b1 k1 b2 k2 b3 k3 b4 k4 2 512 rfl _ _ x, ?_⟩
  refine List.forall_mem_cons.2 ⟨fun x => dq_piece x0 x1 x2 x3 b1 k1 b2 k2 b3 k3 b4 k4 1 256 rfl _ _ x, ?_⟩
  refine List.forall_mem_cons.2 ⟨fun x => dq_piece x0 x1 x2 x3 b1 k1 b2 k2 b3 k3 b4 k4 0 0 rfl _ _ x, ?_⟩
  exact List.forall_mem_nil _

/-- A piece over what was there reads back what was there. -/
theorem old_eq (xo5 : Vec Ideal S256x2048 .f32) (arg : Memref sig .tc .vmem S256x2048 .f32) (harg : arg.IsWhole) (off : Nat)
    (inb : ∀ b, ![0, off] b + ![256, 256] b ≤ S256x2048.size b) (w : EReal) (t : EReal) (x : S256x256.Idx)
    (hw : w = (View.readAt (Elt Ideal) arg.view (Rect.unit (s := S256x2048) ![0, off] ![256, 256] inb).toLoadRect (harg.unread xo5) x : EReal) + t) :
    w = xo5 ((Rect.unit (s := S256x2048) ![0, off] ![256, 256] inb).emb x) + t :=
  hw.trans (congrArg (· + t) (harg.readAt_unread xo5 (Rect.unit (s := S256x2048) ![0, off] ![256, 256] inb).toLoadRect x))

/-- What a later point leaves in the keys' and values' gradient. -/
theorem outB_memory (hc0 : ¬cond0_0 i) (xo5 : Vec Ideal S256x2048 .f32) (y : S256x2048.Idx) :
    out0_B_5 c i b1 k1 b2 k2 b3 k3 b4 k4 b5 k5 b6 k6 hc0 x0 x1 x2 x3 xo5 y = xo5 y + dkvOf x0 x1 x2 x3 y := by
  have hc := cover0_B_5 c i b1 k1 b2 k2 b3 k3 b4 k4 b5 k5 b6 k6 hc0 x0 x1 x2 x3 xo5 y
  unfold out0_B_5
  rw [View.read_writes_junk_apply_eq_canon]
  refine View.canon_apply_of_pieces (fun y => xo5 y + dkvOf x0 x1 x2 x3 y) _ ?_ y hc
  unfold kernelRun0_B
  dsimp only
  simp only [kernelRun0_B.sl.cst_39, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.v0, kernelRun0_B.sl.v1, kernelRun0_B.sl.v118, kernelRun0_B.sl.v123, kernelRun0_B.sl.v160, kernelRun0_B.sl.v165, kernelRun0_B.sl.v2, kernelRun0_B.sl.v39, kernelRun0_B.sl.v76, kernelRun0_B.sl.v81]
  refine List.forall_mem_cons.2 ⟨?_, ?_⟩
  · intro x
    refine old_eq xo5 b6 k6 1792 inb_S256x2048_S256x256_0_1792 _ _ x ?_
    exact dv_piece x0 x1 x2 x3 b1 k1 b2 k2 b4 k4 3 768 rfl _ _ _ 1792 rfl inb_S256x2048_S256x256_0_1792 x
  refine List.forall_mem_cons.2 ⟨?_, ?_⟩
  · intro x
    refine old_eq xo5 b6 k6 768 inb_S256x2048_S256x256_0_768 _ _ x ?_
    exact dk_piece x0 x1 x2 x3 b1 k1 b2 k2 b3 k3 b4 k4 3 768 rfl _ _ _ inb_S256x2048_S256x256_0_768 x
  refine List.forall_mem_cons.2 ⟨?_, ?_⟩
  · intro x
    refine old_eq xo5 b6 k6 1536 inb_S256x2048_S256x256_0_1536 _ _ x ?_
    exact dv_piece x0 x1 x2 x3 b1 k1 b2 k2 b4 k4 2 512 rfl _ _ _ 1536 rfl inb_S256x2048_S256x256_0_1536 x
  refine List.forall_mem_cons.2 ⟨?_, ?_⟩
  · intro x
    refine old_eq xo5 b6 k6 512 inb_S256x2048_S256x256_0_512 _ _ x ?_
    exact dk_piece x0 x1 x2 x3 b1 k1 b2 k2 b3 k3 b4 k4 2 512 rfl _ _ _ inb_S256x2048_S256x256_0_512 x
  refine List.forall_mem_cons.2 ⟨?_, ?_⟩
  · intro x
    refine old_eq xo5 b6 k6 1280 inb_S256x2048_S256x256_0_1280 _ _ x ?_
    exact dv_piece x0 x1 x2 x3 b1 k1 b2 k2 b4 k4 1 256 rfl _ _ _ 1280 rfl inb_S256x2048_S256x256_0_1280 x
  refine List.forall_mem_cons.2 ⟨?_, ?_⟩
  · intro x
    refine old_eq xo5 b6 k6 256 inb_S256x2048_S256x256_0_256 _ _ x ?_
    exact dk_piece x0 x1 x2 x3 b1 k1 b2 k2 b3 k3 b4 k4 1 256 rfl _ _ _ inb_S256x2048_S256x256_0_256 x
  refine List.forall_mem_cons.2 ⟨?_, ?_⟩
  · intro x
    refine old_eq xo5 b6 k6 1024 inb_S256x2048_S256x256_0_1024 _ _ x ?_
    exact dv_piece x0 x1 x2 x3 b1 k1 b2 k2 b4 k4 0 0 rfl _ _ _ 1024 rfl inb_S256x2048_S256x256_0_1024 x
  refine List.forall_mem_cons.2 ⟨?_, ?_⟩
  · intro x
    refine old_eq xo5 b6 k6 0 inb_S256x2048_S256x256_0_0 _ _ x ?_
    exact dk_piece x0 x1 x2 x3 b1 k1 b2 k2 b3 k3 b4 k4 0 0 rfl _ _ _ inb_S256x2048_S256x256_0_0 x
  exact List.forall_mem_nil _

/-- Pieces that leave `C` on the groups of 256 columns starting at `done`, and zero on the others. -/
def Holds (L : List (View.Piece (Elt Ideal) S256x2048 .f32)) (done : List Nat) (C : S256x2048.Idx → EReal) : Prop :=
  ∀ y, View.canon L y = if (∃ o ∈ done, o ≤ (y 1).val ∧ (y 1).val < o + 256) then C y else 0

/-- One more piece with `C`'s values. -/
theorem Holds.step {L : List (View.Piece (Elt Ideal) S256x2048 .f32)} {done : List Nat} {C : S256x2048.Idx → EReal} (hL : Holds L done C)
    (off : Nat) (inb : ∀ b, ![0, off] b + ![256, 256] b ≤ S256x2048.size b) (w : S256x256.Idx → EReal)
    (hw : ∀ x : S256x256.Idx, w x = C ((Rect.unit (s := S256x2048) ![0, off] ![256, 256] inb).emb x)) :
    Holds (⟨Rect.unit (s := S256x2048) ![0, off] ![256, 256] inb, w⟩ :: L) (off :: done) C := by
  intro y
  by_cases hy : y ∈ (Rect.unit (s := S256x2048) ![0, off] ![256, 256] inb).set
  · have h1 := (Rect.mem_set_unit.1 hy) 1
    obtain ⟨x, rfl⟩ := (Rect.unit (s := S256x2048) ![0, off] ![256, 256] inb).exists_idx_of_mem hy
    refine (View.canon_cons_emb (Rect.unit (s := S256x2048) ![0, off] ![256, 256] inb) w L x).trans ((hw x).trans ?_)
    exact (if_pos ⟨off, List.mem_cons_self, h1⟩).symm
  · refine (View.canon_cons_of_not_mem (⟨Rect.unit (s := S256x2048) ![0, off] ![256, 256] inb, w⟩ : View.Piece (Elt Ideal) S256x2048 .f32) L hy).trans ((hL y).trans ?_)
    have hn : ¬ (off ≤ (y 1).val ∧ (y 1).val < off + 256) := fun h => hy (Rect.mem_set_unit.2 (by
      intro a
      match a with
      | 0 => exact ⟨Nat.zero_le _, by show (y 0).val < 0 + 256; have : (y 0).val < 256 := (y 0).isLt; omega⟩
      | 1 => exact h))
    by_cases h : ∃ o ∈ done, o ≤ (y 1).val ∧ (y 1).val < o + 256
    · obtain ⟨o, ho, h'⟩ := h
      rw [if_pos ⟨o, ho, h'⟩, if_pos ⟨o, List.mem_cons_of_mem _ ho, h'⟩]
    · rw [if_neg h, if_neg]
      rintro ⟨o, ho, h'⟩
      rcases List.mem_cons.1 ho with rfl | ho
      · exact hn h'
      · exact h ⟨o, ho, h'⟩

/-- A read of columns no piece has reached yet gives zero. -/
theorem Holds.read {L : List (View.Piece (Elt Ideal) S256x2048 .f32)} {done : List Nat} {C : S256x2048.Idx → EReal} (hL : Holds L done C)
    (arg : Memref sig .tc .vmem S256x2048 .f32)
    (off : Nat) (inb : ∀ b, ![0, off] b + ![256, 256] b ≤ S256x2048.size b) (hd : ∀ o ∈ done, o + 256 ≤ off ∨ off + 256 ≤ o) (x : S256x256.Idx) :
    (arg.view.readCov L (Rect.unit (s := S256x2048) ![0, off] ![256, 256] inb).toLoadRect x : EReal) = 0 := by
  rw [View.readCov_eq_canon']
  refine (hL _).trans (if_neg ?_)
  rintro ⟨o, ho, h1, h2⟩
  have e : (((Rect.unit (s := S256x2048) ![0, off] ![256, 256] inb).toLoadRect.idx x) 1).val = off + 1 * (x 1).val := rfl
  have hx : (x 1).val < 256 := (x 1).isLt
  rcases hd o ho with h | h <;> omega

/-- A piece over zeros. -/
theorem zero_eq {w a t : EReal} (hw : w = a + t) (h : a = 0) : w = 0 + t := by rw [hw, h]

/-- What the first point leaves in the keys' and values' gradient. -/
theorem outA_memory (hc0 : cond0_0 i) (y : S256x2048.Idx) :
    out0_A_5 c i b1 k1 b2 k2 b3 k3 b4 k4 b5 k5 b6 k6 hc0 x0 x1 x2 x3 y = 0 + dkvOf x0 x1 x2 x3 y := by
  let C : S256x2048.Idx → EReal := fun y => 0 + dkvOf x0 x1 x2 x3 y
  have h1 : Holds (kernelRun0_A.sl.H5_1 (F := Ideal)) [] C := by
    intro y
    unfold kernelRun0_A.sl.H5_1
    rw [if_neg (by simp)]
    have e : y = (Rect.unit (s := S256x2048) ![0, 0] S256x2048.size inb_S256x2048_S256x2048_0_0).emb y := by
      funext a
      refine Fin.ext ?_
      rw [Rect.emb_apply]
      match a with
      | 0 => show (y 0).val = 0 + 1 * (y 0).val; omega
      | 1 => show (y 1).val = 0 + 1 * (y 1).val; omega
    rw [e, View.canon_cons_emb]
    unfold_payloads
    pointwise
  have h2 : Holds (kernelRun0_A.sl.H5_2 c b1 k1 b2 k2 b3 k3 b4 k4 b6 x0 x1 x2 x3) [0] C := by
    unfold kernelRun0_A.sl.H5_2
    refine h1.step 0 inb_S256x2048_S256x256_0_0 _ (fun x => zero_eq ?_ (h1.read b6 0 inb_S256x2048_S256x256_0_0 (by decide) x))
    exact dk_piece x0 x1 x2 x3 b1 k1 b2 k2 b3 k3 b4 k4 0 0 rfl _ _ _ inb_S256x2048_S256x256_0_0 x
  have h3 : Holds (kernelRun0_A.sl.H5_3 c b1 k1 b2 k2 b3 k3 b4 k4 b6 x0 x1 x2 x3) [1024, 0] C := by
    unfold kernelRun0_A.sl.H5_3
    refine h2.step 1024 inb_S256x2048_S256x256_0_1024 _ (fun x => zero_eq ?_ (h2.read b6 1024 inb_S256x2048_S256x256_0_1024 (by decide) x))
    exact dv_piece x0 x1 x2 x3 b1 k1 b2 k2 b4 k4 0 0 rfl _ _ _ 1024 rfl inb_S256x2048_S256x256_0_1024 x
  have h4 : Holds (kernelRun0_A.sl.H5_4 c b1 k1 b2 k2 b3 k3 b4 k4 b6 x0 x1 x2 x3) [256, 1024, 0] C := by
    unfold kernelRun0_A.sl.H5_4
    refine h3.step 256 inb_S256x2048_S256x256_0_256 _ (fun x => zero_eq ?_ (h3.read b6 256 inb_S256x2048_S256x256_0_256 (by decide) x))
    exact dk_piece x0 x1 x2 x3 b1 k1 b2 k2 b3 k3 b4 k4 1 256 rfl _ _ _ inb_S256x2048_S256x256_0_256 x
  have h5 : Holds (kernelRun0_A.sl.H5_5 c b1 k1 b2 k2 b3 k3 b4 k4 b6 x0 x1 x2 x3) [1280, 256, 1024, 0] C := by
    unfold kernelRun0_A.sl.H5_5
    refine h4.step 1280 inb_S256x2048_S256x256_0_1280 _ (fun x => zero_eq ?_ (h4.read b6 1280 inb_S256x2048_S256x256_0_1280 (by decide) x))
    exact dv_piece x0 x1 x2 x3 b1 k1 b2 k2 b4 k4 1 256 rfl _ _ _ 1280 rfl inb_S256x2048_S256x256_0_1280 x
  have h6 : Holds (kernelRun0_A.sl.H5_6 c b1 k1 b2 k2 b3 k3 b4 k4 b6 x0 x1 x2 x3) [512, 1280, 256, 1024, 0] C := by
    unfold kernelRun0_A.sl.H5_6
    refine h5.step 512 inb_S256x2048_S256x256_0_512 _ (fun x => zero_eq ?_ (h5.read b6 512 inb_S256x2048_S256x256_0_512 (by decide) x))
    exact dk_piece x0 x1 x2 x3 b1 k1 b2 k2 b3 k3 b4 k4 2 512 rfl _ _ _ inb_S256x2048_S256x256_0_512 x
  have h7 : Holds (kernelRun0_A.sl.H5_7 c b1 k1 b2 k2 b3 k3 b4 k4 b6 x0 x1 x2 x3) [1536, 512, 1280, 256, 1024, 0] C := by
    unfold kernelRun0_A.sl.H5_7
    refine h6.step 1536 inb_S256x2048_S256x256_0_1536 _ (fun x => zero_eq ?_ (h6.read b6 1536 inb_S256x2048_S256x256_0_1536 (by decide) x))
    exact dv_piece x0 x1 x2 x3 b1 k1 b2 k2 b4 k4 2 512 rfl _ _ _ 1536 rfl inb_S256x2048_S256x256_0_1536 x
  have h8 : Holds (kernelRun0_A.sl.H5_8 c b1 k1 b2 k2 b3 k3 b4 k4 b6 x0 x1 x2 x3) [768, 1536, 512, 1280, 256, 1024, 0] C := by
    unfold kernelRun0_A.sl.H5_8
    refine h7.step 768 inb_S256x2048_S256x256_0_768 _ (fun x => zero_eq ?_ (h7.read b6 768 inb_S256x2048_S256x256_0_768 (by decide) x))
    exact dk_piece x0 x1 x2 x3 b1 k1 b2 k2 b3 k3 b4 k4 3 768 rfl _ _ _ inb_S256x2048_S256x256_0_768 x
  have h9 : Holds (kernelRun0_A c i b1 k1 b2 k2 b3 k3 b4 k4 b5 k5 b6 k6 hc0 x0 x1 x2 x3).2.1 [1792, 768, 1536, 512, 1280, 256, 1024, 0] C := by
    refine h8.step 1792 inb_S256x2048_S256x256_0_1792 _ (fun x => zero_eq ?_ (h8.read b6 1792 inb_S256x2048_S256x256_0_1792 (by decide) x))
    exact dv_piece x0 x1 x2 x3 b1 k1 b2 k2 b4 k4 3 768 rfl _ _ _ 1792 rfl inb_S256x2048_S256x256_0_1792 x
  unfold out0_A_5
  rw [View.read_writes_junk_apply_eq_canon]
  refine (h9 y).trans (if_pos ?_)
  have hy : (y 1).val < 2048 := (y 1).isLt
  refine ⟨(y 1).val / 256 * 256, ?_, by omega, by omega⟩
  have : (y 1).val / 256 < 8 := by omega
  interval_cases (y 1).val / 256 <;> decide

end

end Cert.Proof.AttnKernel

end
-- ==== Proof.Index.lean ====
/- Indices by their coordinates. -/
module

public import Idealize.ShloMosaic.Lib.Pointwise
public import Idealize.ShloMosaic.Lib.Pipeline.ValueKit.Geometry

@[expose] public section

namespace Cert.Proof.Index

open Idealize.ShloMosaic

/-- An index of two axes from its coordinates. -/
theorem at2 {a b : Nat} (j : (⟨2, ![a, b]⟩ : Shape).Idx) (x : Fin a) (y : Fin b) (h0 : (j 0).val = x.val) (h1 : (j 1).val = y.val) :
    j = ix2 x y := by
  funext d
  match d with
  | ⟨0, _⟩ => exact Fin.ext h0
  | ⟨1, _⟩ => exact Fin.ext h1

/-- An index of three axes from its coordinates. -/
theorem at3 {a b c : Nat} (j : (⟨3, ![a, b, c]⟩ : Shape).Idx) (x : Fin a) (y : Fin b) (z : Fin c) (h0 : (j 0).val = x.val)
    (h1 : (j 1).val = y.val) (h2 : (j 2).val = z.val) : j = ix3 x y z := by
  funext d
  match d with
  | ⟨0, _⟩ => exact Fin.ext h0
  | ⟨1, _⟩ => exact Fin.ext h1
  | ⟨2, _⟩ => exact Fin.ext h2

/-- The chip which holds column `d`, where each of the four holds `w` columns. -/
def chip (w : Nat) {n : Nat} (hn : n = w * 4) (d : Fin n) : Fin 4 := ⟨d.val / w, Nat.div_lt_of_lt_mul (hn ▸ d.isLt)⟩
/-- Its place among the columns of that chip. -/
def place (w : Nat) {n : Nat} (hw : 0 < w) (d : Fin n) : Fin w := ⟨d.val % w, Nat.mod_lt _ hw⟩

/-- Row `i` of the part `r` of an array cut into equal parts. -/
def part {n k : Nat} (w : Nat) (hn : n = w * k) (r : Fin k) (i : Fin w) : Fin n :=
  ⟨r.val * w + i.val, by
    have h : r.val * w + w ≤ k * w := by rw [← Nat.succ_mul]; exact Nat.mul_le_mul_right w r.isLt
    rw [hn, Nat.mul_comm w k]; have := i.isLt; omega⟩

theorem chip_part (w : Nat) {n : Nat} (hw : 0 < w) (hn : n = w * 4) (r : Fin 4) (i : Fin w) : chip w hn (part w hn r i) = r :=
  Fin.ext (by show (r.val * w + i.val) / w = r.val; rw [Nat.add_comm, Nat.add_mul_div_right _ _ hw, Nat.div_eq_of_lt i.isLt, Nat.zero_add])

theorem place_part (w : Nat) {n : Nat} (hw : 0 < w) (hn : n = w * 4) (r : Fin 4) (i : Fin w) : place w hw (part w hn r i) = i :=
  Fin.ext (by show (r.val * w + i.val) % w = i.val; rw [Nat.mul_add_mod_self_right, Nat.mod_eq_of_lt i.isLt])

/-- A sum over all of an axis is the sum over its parts. -/
theorem sum_parts {M : Type} [AddCommMonoid M] {n k : Nat} (w : Nat) (hn : n = w * k) (f : Fin n → M) :
    ∑ x, f x = ∑ r : Fin k, ∑ i : Fin w, f (part w hn r i) := by
  rw [← Fintype.sum_prod_type']
  refine (Fintype.sum_equiv (finProdFinEquiv.trans (finCongr (by rw [hn, Nat.mul_comm]))) _ _ fun x => congrArg f (Fin.ext ?_)).symm
  show x.1.val * w + x.2.val = x.2.val + w * x.1.val
  rw [Nat.mul_comm, Nat.add_comm]

/-- An offset of two zeros. -/
theorem zero2 : (![0, 0] : Fin 2 → Nat) = fun _ => 0 := by funext a; fin_cases a <;> rfl
/-- An offset of three zeros. -/
theorem zero3 : (![0, 0, 0] : Fin 3 → Nat) = fun _ => 0 := by funext a; fin_cases a <;> rfl

/-- Every element of an array lies in a block that is written back, where these blocks cover the array. -/
theorem reached {sig : RefSig} {G : Pipeline.Grid} (w : Pipeline.Window sig G) (h : w.Covers := by decide +kernel)
    (ha : w.arr.IsWhole := by exact Memref.isWhole_whole _) : ∀ i : w.arr.view.ty.Idx, ∃ t : Fin G.N, w.flush t = true ∧ i ∈ (w.blk t).view.set :=
  Pipeline.Window.Covers.cover w h ha

end Cert.Proof.Index

end
-- ==== Proof.AttnGrid.lean ====
/- The two result arrays of the attention's backward kernel: the four grid points' blocks of the queries' gradient, and
   the sum over the four points of what each adds to the keys' and values' gradient. -/
module

public import proofs.«01_k».proof.Proof.AttnKernel
public import proofs.«01_k».proof.Proof.Index

@[expose] public section

set_option maxRecDepth 16384

noncomputable section

namespace Cert.Proof.AttnGrid

open Cert.KernelIdeal Cert.KernelIdeal.Gen Cert.KernelIdeal.Value Idealize.ShloMosaic Idealize.ShloMosaic.TcCoe Idealize.SL.Sem
open Cert.Proof.Attn Cert.Proof.AttnKernel

variable (m : (ℓ : Loc nD τ sig) → Buf (Elt Ideal) ℓ) (c : Dev nD)

/-- The queries. -/
def Q : Fin 4096 → Fin 1024 → EReal := mat (n := 4096) (k := 1024) (m ((c : Thread nD τ).loc main_arg0))
/-- The keys and values side by side. -/
def KV : Fin 256 → Fin 2048 → EReal := mat (n := 256) (k := 2048) (m ((c : Thread nD τ).loc main_arg1))
/-- The keys. -/
def K : Fin 256 → Fin 1024 → EReal := fun a b => KV m c a ⟨b.val, by omega⟩
/-- The values. -/
def V' : Fin 256 → Fin 1024 → EReal := fun a b => KV m c a ⟨1024 + b.val, by omega⟩
/-- The incoming gradient. -/
def G : Fin 4096 → Fin 1024 → EReal := mat (n := 4096) (k := 1024) (m ((c : Thread nD τ).loc main_arg2))

/-- The row of the whole array a block's row is. -/
def row (t : Fin cfg0.N) (i : Fin 1024) : Fin 4096 := ⟨t.val * 1024 + i.val, by have h : t.val < 4 := lt_of_lt_of_eq t.isLt N_0; have := i.isLt; omega⟩

/-- The query block of a point. -/
theorem block_q (t : Fin cfg0.N) : mat (n := 1024) (k := 1024) (by exact iblk m c 0 t) = fun i => Q m c (row t i) := by
  have hi : win0_0.index t 0 = t.val ∧ win0_0.index t 1 = 0 := by
    rcases fin_N0 t with rfl | rfl | rfl | rfl <;> decide
  funext i k
  unfold mat iblk Q mat
  rw [View.read_apply]
  show m ((c : Thread nD τ).loc main_arg0) _ = m ((c : Thread nD τ).loc main_arg0) _
  congr 1
  refine at2 _ _ _ ?_ ?_
  · show win0_0.index t 0 * 1024 + 1 * i.val = t.val * 1024 + i.val; rw [hi.1]; omega
  · show win0_0.index t 1 * 1024 + 1 * k.val = k.val; rw [hi.2]; omega

/-- The gradient block of a point. -/
theorem block_g (t : Fin cfg0.N) : mat (n := 1024) (k := 1024) (by exact iblk m c 3 t) = fun i => G m c (row t i) := by
  have hi : win0_3.index t 0 = t.val ∧ win0_3.index t 1 = 0 := by
    rcases fin_N0 t with rfl | rfl | rfl | rfl <;> decide
  funext i k
  unfold mat iblk G mat
  rw [View.read_apply]
  show m ((c : Thread nD τ).loc main_arg2) _ = m ((c : Thread nD τ).loc main_arg2) _
  congr 1
  refine at2 _ _ _ ?_ ?_
  · show win0_3.index t 0 * 1024 + 1 * i.val = t.val * 1024 + i.val; rw [hi.1]; omega
  · show win0_3.index t 1 * 1024 + 1 * k.val = k.val; rw [hi.2]; omega

/-- The keys at a point: all of them. -/
theorem block_k (t : Fin cfg0.N) : mat (n := 256) (k := 1024) (by exact iblk m c 1 t) = K m c := by
  have hi : win0_1.index t 0 = 0 ∧ win0_1.index t 1 = 0 := by
    rcases fin_N0 t with rfl | rfl | rfl | rfl <;> decide
  funext i k
  unfold mat iblk K KV mat
  rw [View.read_apply]
  show m ((c : Thread nD τ).loc main_arg1) _ = m ((c : Thread nD τ).loc main_arg1) _
  congr 1
  refine at2 _ _ _ ?_ ?_
  · show win0_1.index t 0 * 256 + 1 * i.val = i.val; rw [hi.1]; omega
  · show win0_1.index t 1 * 1024 + 1 * k.val = k.val; rw [hi.2]; omega

/-- The values at a point: all of them. -/
theorem block_v (t : Fin cfg0.N) : mat (n := 256) (k := 1024) (by exact iblk m c 2 t) = V' m c := by
  have hi : win0_2.index t 0 = 0 ∧ win0_2.index t 1 = 1 := by
    rcases fin_N0 t with rfl | rfl | rfl | rfl <;> decide
  funext i k
  unfold mat iblk V' KV mat
  rw [View.read_apply]
  show m ((c : Thread nD τ).loc main_arg1) _ = m ((c : Thread nD τ).loc main_arg1) _
  congr 1
  refine at2 _ _ _ ?_ ?_
  · show win0_2.index t 0 * 256 + 1 * i.val = i.val; rw [hi.1]; omega
  · show win0_2.index t 1 * 1024 + 1 * k.val = 1024 + k.val; rw [hi.2]; omega

/-! ## The queries' gradient -/

/-- The gradient of the queries as an array. -/
def dq (y : S4096x1024.Idx) : EReal :=
  gradQ (Q m c) (K m c) (V' m c) (G m c) (y 0) ⟨(y 1).val / 256, by have : (y 1).val < 1024 := (y 1).isLt; omega⟩ ⟨(y 1).val % 256, by omega⟩

/-- A point's block of it. -/
theorem dqOf_block (t : Fin cfg0.N) (x : S1024x1024.Idx) (y : S4096x1024.Idx) (h0 : (y 0).val = t.val * 1024 + (x 0).val) (h1 : (y 1).val = (x 1).val) :
    dqOf (iblk m c 0 t) (iblk m c 1 t) (iblk m c 2 t) (iblk m c 3 t) x = dq m c y := by
  have hx : (x 1).val < 1024 := (x 1).isLt
  rw [dqOf_at _ _ _ _ x (x 0) ⟨(x 1).val / 256, by omega⟩ ⟨(x 1).val % 256, by omega⟩ rfl (by dsimp only; omega)]
  rw [block_q m c t, block_g m c t, block_k m c t, block_v m c t]
  unfold dq
  have e0 : y 0 = row t (x 0) := Fin.ext h0
  rw [e0]
  simp only [h1]
  rfl

/-- The first result at the end. -/
theorem array_q : (dats m 0 c).arrAt 4 cfg0.N = dq m c := by
  refine (dats m 0 c).arrAt_eq_of_cover 4 (dq m c) (fun t _ => ?_) (Index.reached win0_4)
  have hi : win0_4.index t 0 = t.val ∧ win0_4.index t 1 = 0 := by
    rcases fin_N0 t with rfl | rfl | rfl | rfl <;> decide
  have at_block : ∀ x : S1024x1024.Idx, dqOf (iblk m c 0 t) (iblk m c 1 t) (iblk m c 2 t) (iblk m c 3 t) x = dq m c (((cfg0.win 4).blk t).view.emb x) := by
    intro x
    refine dqOf_block m c t x _ ?_ ?_
    · show win0_4.index t 0 * 1024 + 1 * (x 0).val = t.val * 1024 + (x 0).val; rw [hi.1]; omega
    · show win0_4.index t 1 * 1024 + 1 * (x 1).val = (x 1).val; rw [hi.2]; omega
  by_cases h0 : t.val % 4 = 0
  · rw [flushed4_A m c t h0]
    funext x
    exact (outA_queries c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h0) x).trans (at_block x)
  · rw [flushed4_B m c t h0]
    funext x
    exact (outB_queries c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (fun h => h0 ((hcond0_0 t).mp h)) (outsAt0 m c (t.val - 1) (Nat.lt_of_le_of_lt (Nat.sub_le _ _) t.isLt)).2 x).trans (at_block x)

/-! ## The keys' and values' gradient -/

/-- The gradient of the keys and of the values side by side. -/
def dkv (y : S256x2048.Idx) : EReal :=
  if (y 1).val < 1024 then
    gradK (Q m c) (K m c) (V' m c) (G m c) (y 0) ⟨(y 1).val / 256 % 4, by omega⟩ ⟨(y 1).val % 256, by omega⟩
  else gradV (Q m c) (K m c) (G m c) (y 0) ⟨(y 1).val / 256 % 4, by omega⟩ ⟨(y 1).val % 256, by omega⟩

/-- What a point adds. -/
def adds (t : Fin cfg0.N) (y : S256x2048.Idx) : EReal := dkvOf (iblk m c 0 t) (iblk m c 1 t) (iblk m c 2 t) (iblk m c 3 t) y

/-- A sum over 4096 rows is the sum over the four blocks of 1024. -/
theorem sum_rows (f : Fin 4096 → EReal) (h : 4 ≤ cfg0.N) :
    ((((0 + ∑ i, f (row ⟨0, by omega⟩ i)) + ∑ i, f (row ⟨1, by omega⟩ i)) + ∑ i, f (row ⟨2, by omega⟩ i)) + ∑ i, f (row ⟨3, by omega⟩ i))
      = ∑ i, f i := by
  have e : ∑ i, f i = ∑ t : Fin 4, ∑ i : Fin 1024, f ⟨t.val * 1024 + i.val, by omega⟩ := by
    rw [← Fintype.sum_prod_type' (f := fun (t : Fin 4) (i : Fin 1024) => f ⟨t.val * 1024 + i.val, by omega⟩)]
    refine (Fintype.sum_equiv (finProdFinEquiv (m := 4) (n := 1024)) _ _ fun p => ?_).symm
    refine congrArg f (Fin.ext ?_)
    show p.1.val * 1024 + p.2.val = p.2.val + 1024 * p.1.val
    omega
  rw [e, Fin.sum_univ_four, zero_add]
  have e0 : ∀ (n : Nat) (hn : n < cfg0.N) (k : Fin 4), k.val = n → (∑ i, f (row ⟨n, hn⟩ i)) = ∑ i : Fin 1024, f ⟨k.val * 1024 + i.val, by omega⟩ :=
    fun n hn k hk => Finset.sum_congr rfl fun i _ => congrArg f (Fin.ext (by show n * 1024 + i.val = k.val * 1024 + i.val; rw [hk]))
  rw [e0 0 _ 0 rfl, e0 1 _ 1 rfl, e0 2 _ 2 rfl, e0 3 _ 3 rfl]

/-- The four points' additions together. -/
theorem adds_sum (h : 4 ≤ cfg0.N) (y : S256x2048.Idx) :
    ((((0 + adds m c ⟨0, by omega⟩ y) + adds m c ⟨1, by omega⟩ y) + adds m c ⟨2, by omega⟩ y) + adds m c ⟨3, by omega⟩ y) = dkv m c y := by
  unfold adds dkvOf dkv
  simp only [block_q m c, block_g m c, block_k m c, block_v m c]
  by_cases hy : (y 1).val < 1024
  · simp only [if_pos hy]
    exact sum_rows (fun i => dscore (hscore (Q m c) (K m c) _ i) (hdprob (V' m c) (G m c) _ i) _ * Q m c i _) h
  · simp only [if_neg hy]
    exact sum_rows (fun i => prob (hscore (Q m c) (K m c) _ i) _ * G m c i _) h

/-- What the first point leaves. -/
theorem left_first (t : Fin cfg0.N) (h0 : t.val % 4 = 0) (y : S256x2048.Idx) : (outsAt0 m c t.val t.isLt).2 y = 0 + adds m c t y := by
  rw [outsAt0_A m c t h0]
  exact outA_memory c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h0) y

/-- What a later point leaves, over what the point before left. -/
theorem left_later (t : Fin cfg0.N) (h0 : ¬t.val % 4 = 0) (y : S256x2048.Idx) :
    (outsAt0 m c t.val t.isLt).2 y = (outsAt0 m c (t.val - 1) (Nat.lt_of_le_of_lt (Nat.sub_le _ _) t.isLt)).2 y + adds m c t y := by
  rw [outsAt0_B m c t h0]
  exact outB_memory c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (fun h => h0 ((hcond0_0 t).mp h)) (outsAt0 m c (t.val - 1) (Nat.lt_of_le_of_lt (Nat.sub_le _ _) t.isLt)).2 y

/-- The same, by the point's number. -/
theorem left_succ (n : Nat) (hn : n + 1 < cfg0.N) (h0 : ¬(n + 1) % 4 = 0) (y : S256x2048.Idx) :
    (outsAt0 m c (n + 1) hn).2 y = (outsAt0 m c n (Nat.lt_of_succ_lt hn)).2 y + adds m c ⟨n + 1, hn⟩ y :=
  left_later m c ⟨n + 1, hn⟩ h0 y

/-- What the last point leaves. -/
theorem left_last (t : Fin cfg0.N) (ht : t.val = 3) (y : S256x2048.Idx) : (outsAt0 m c t.val t.isLt).2 y = dkv m c y := by
  obtain ⟨n, hn⟩ := t
  subst ht
  have h : 4 ≤ cfg0.N := hn
  rw [← adds_sum m c h y, ← left_first m c ⟨0, by omega⟩ (Nat.zero_mod 4) y, ← left_succ m c 0 (by omega) (by decide) y,
    ← left_succ m c 1 (by omega) (by decide) y, ← left_succ m c 2 (by omega) (by decide) y]

/-- The second result at the end. -/
theorem array_kv : (dats m 0 c).arrAt 5 cfg0.N = dkv m c := by
  refine (dats m 0 c).arrAt_eq_of_cover 5 (dkv m c) (fun t hf => ?_) (Index.reached win0_5)
  have ht : t.val = 3 := by have := (flush0_5 t).1 hf; have : t.val < 4 := lt_of_lt_of_eq t.isLt N_0; omega
  have hi : win0_5.index t 0 = 0 ∧ win0_5.index t 1 = 0 := by
    rcases fin_N0 t with rfl | rfl | rfl | rfl <;> decide
  have at_block : ∀ x : S256x2048.Idx, x = ((cfg0.win 5).blk t).view.emb x := by
    intro x
    funext a
    refine Fin.ext ?_
    match a with
    | ⟨0, _⟩ => show (x 0).val = win0_5.index t 0 * 256 + 1 * (x 0).val; rw [hi.1]; omega
    | ⟨1, _⟩ => show (x 1).val = win0_5.index t 1 * 2048 + 1 * (x 1).val; rw [hi.2]; omega
  rw [flushed5]
  funext x
  exact (left_last m c t ht x).trans (congrArg (dkv m c) (at_block x))

end Cert.Proof.AttnGrid

end
-- ==== Proof.AttnRef.lean ====
/- What the reference's two results are worth at an index: the three gradients of the attention. -/
module

public import proofs.«01_k».proof.Proof.Gen.ReferenceIdeal.Read
public import Idealize.ShloMosaic.Lib.KernelVsHost
public import proofs.«01_k».proof.Proof.SoftmaxGrad

@[expose] public section

set_option maxRecDepth 16384

noncomputable section

namespace Cert.Proof.AttnRef

open Cert.ReferenceIdeal Cert.ReferenceIdeal.Gen Cert.ReferenceIdeal.Read Idealize.ShloMosaic Idealize.ShloMosaic.TcCoe
open Cert.Proof.Attn

/-- The contents of the queries' (and the output gradient's) array. -/
abbrev Rows : Type := (⟨S4096x1024, .bf16⟩ : BufTy).Contents (Elt Ideal)
/-- The contents of the keys' and values' array. -/
abbrev Mem : Type := (⟨S256x2048, .f32⟩ : BufTy).Contents (Elt Ideal)

/-- The rows of an array of queries. -/
def rows (x : Rows) : Fin 4096 → Fin 1024 → EReal := fun i c => x (ix2 i c)
/-- The keys: the first 1024 columns. -/
def keys (x : Mem) : Fin 256 → Fin 1024 → EReal := fun m c => x (ix2 m ⟨c.val, by omega⟩)
/-- The values: the last 1024 columns. -/
def vals (x : Mem) : Fin 256 → Fin 1024 → EReal := fun m c => x (ix2 m ⟨1024 + c.val, by omega⟩)

/-- An index of two axes from its coordinates. -/
theorem of2 {a b : Nat} (j : (⟨2, ![a, b]⟩ : Shape).Idx) (x : Fin a) (y : Fin b) (h0 : (j 0).val = x.val) (h1 : (j 1).val = y.val) :
    j = ix2 x y := by
  rw [eq_ix2 j]; exact congrArg₂ ix2 (Fin.ext h0) (Fin.ext h1)

/-- An index of three axes from its coordinates. -/
theorem of3 {a b c : Nat} (j : (⟨3, ![a, b, c]⟩ : Shape).Idx) (x : Fin a) (y : Fin b) (z : Fin c) (h0 : (j 0).val = x.val)
    (h1 : (j 1).val = y.val) (h2 : (j 2).val = z.val) : j = ix3 x y z := by
  rw [eq_ix3 j]
  have e0 : j 0 = x := Fin.ext h0
  have e1 : j 1 = y := Fin.ext h1
  have e2 : j 2 = z := Fin.ext h2
  rw [e0, e1, e2]

variable (x0 : Rows) (x1 : Mem) (x2 : Rows)

/-- The queries by head. -/
theorem v1_at (i : Fin 4096) (h : Fin 4) (d : Fin 256) : val_main_v1 (F := Ideal) x0 (ix3 i h d) = rows x0 i (hcol h d) := by
  rw [val_main_v1_apply, of2 (idx_main_v1 (ix3 i h d)) i (hcol h d)
    (by show ((i.val * 4 + h.val) * 256 + d.val) / 1024 = i.val; omega)
    (by show ((i.val * 4 + h.val) * 256 + d.val) % 1024 = h.val * 256 + d.val; omega)]
  rfl

/-- The output's gradient by head. -/
theorem v42_at (h : Fin 4) (d : Fin 256) (i : Fin 4096) : val_main_v42 (F := Ideal) x2 (ix3 h d i) = rows x2 i (hcol h d) := by
  rw [val_main_v42_apply, of3 (idx_main_v42 (ix3 h d i)) i h d rfl rfl rfl, val_main_v41_apply,
    of2 (idx_main_v41 (ix3 i h d)) i (hcol h d)
    (by show ((i.val * 4 + h.val) * 256 + d.val) / 1024 = i.val; omega)
    (by show ((i.val * 4 + h.val) * 256 + d.val) % 1024 = h.val * 256 + d.val; omega)]
  rfl

/-- The keys by head. -/
theorem v3_at (m : Fin 256) (h : Fin 4) (d : Fin 256) : val_main_v3 (F := Ideal) x1 (ix3 m h d) = keys x1 m (hcol h d) := by
  rw [val_main_v3_apply, of2 (idx_main_v3 (ix3 m h d)) m (hcol h d)
    (by show ((m.val * 4 + h.val) * 256 + d.val) / 1024 = m.val; omega)
    (by show ((m.val * 4 + h.val) * 256 + d.val) % 1024 = h.val * 256 + d.val; omega), val_main_v2_apply]
  exact congrArg x1 (of2 _ m ⟨(hcol h d).val, by omega⟩ rfl rfl)

/-- The values by head. -/
theorem v5_at (m : Fin 256) (h : Fin 4) (d : Fin 256) : val_main_v5 (F := Ideal) x1 (ix3 m h d) = vals x1 m (hcol h d) := by
  rw [val_main_v5_apply, of2 (idx_main_v5 (ix3 m h d)) m (hcol h d)
    (by show ((m.val * 4 + h.val) * 256 + d.val) / 1024 = m.val; omega)
    (by show ((m.val * 4 + h.val) * 256 + d.val) % 1024 = h.val * 256 + d.val; omega), val_main_v4_apply]
  exact congrArg x1 (of2 _ m ⟨1024 + (hcol h d).val, by omega⟩
    (by first | rfl | (simp; done)) (by first | rfl | (simp [hcol]; done) | (simp [hcol]; omega)))

/-- The scaled scores. -/
theorem v8_at (h : Fin 4) (i : Fin 4096) (m : Fin 256) :
    val_main_v8 (F := Ideal) x0 x1 (ix3 h i m) = hscore (rows x0) (keys x1) h i m := by
  rw [val_main_v8_apply, val_main_v6_apply, val_main_v7_apply, val_main_cst_apply]
  refine congrArg₂ (fun a b : EReal => a * b) (Finset.sum_congr rfl fun d _ => ?_) rfl
  rw [of3 (lidx_main_v6 (ix3 h i m) d) i h d rfl rfl rfl, of3 (ridx_main_v6 (ix3 h i m) d) m h d rfl rfl rfl, v1_at, v3_at]

/-- The largest score of a row. -/
theorem v9_at (h : Fin 4) (i : Fin 4096) : val_main_v9 (F := Ideal) x0 x1 (ix2 h i)
    = Finset.fold max (Ideal.ofBits .f32 0xFF800000#32) (hscore (rows x0) (keys x1) h i) Finset.univ := by
  have e : (fun x : Fin 256 => val_main_v8 (F := Ideal) x0 x1 (ix3 h i x)) = hscore (rows x0) (keys x1) h i :=
    funext fun m => v8_at x0 x1 h i m
  rw [← e]
  unfold val_main_v9
  generalize val_main_v8 (F := Ideal) x0 x1 = y
  pointwise [val_main_cst_0]

/-- The exponentials. -/
theorem v29_at (h : Fin 4) (i : Fin 4096) (m : Fin 256) :
    val_main_v29 (F := Ideal) x0 x1 (ix3 h i m) = expo (hscore (rows x0) (keys x1) h i) m := by
  rw [val_main_v29_apply, val_main_v28_apply, v8_at, val_main_v27_apply,
    of3 (idx_main_v27 (ix3 h i m)) h i (0 : Fin 1) rfl rfl rfl, val_main_v26_apply,
    of2 (idx_main_v26 (ix3 h i (0 : Fin 1))) h i rfl rfl, val_main_v16_apply, val_main_v15_apply, val_main_cst_2_apply, v9_at]
  have hb : FloatOps.maximumf (F := Ideal) (FloatOps.ofBits .f32 0xFF800000#32) (Finset.fold max (Ideal.ofBits .f32 0xFF800000#32)
      (hscore (rows x0) (keys x1) h i) Finset.univ) = Finset.fold max (Ideal.ofBits .f32 0xFF800000#32)
      (hscore (rows x0) (keys x1) h i) Finset.univ := by
    show max (Ideal.ofBits .f32 0xFF800000#32) _ = _
    rw [neg_inf_lit]; exact max_eq_right bot_le
  rw [hb]
  rfl

/-- The sums of the exponentials. -/
theorem v30_at (h : Fin 4) (i : Fin 4096) :
    val_main_v30 (F := Ideal) x0 x1 (ix2 h i) = ∑ x, expo (hscore (rows x0) (keys x1) h i) x := by
  rw [val_main_v30_apply, val_main_cst_8_apply]
  rw [show (FloatOps.ofBits .f32 0x00000000#32 : Ideal .f32) = (0 : EReal) from by simp [Ideal.ofBits, Ideal.ieee]]
  rw [show ∀ z : EReal, (0 : EReal) + z = z from zero_add]
  refine Finset.sum_congr rfl fun m _ => ?_
  rw [of3 (idx_main_v30 (ix2 h i) m) h i m rfl rfl rfl, v29_at]

/-- … kept with a last axis of one. -/
theorem v31_at (h : Fin 4) (i : Fin 4096) :
    val_main_v31 (F := Ideal) x0 x1 (ix3 h i (0 : Fin 1)) = ∑ x, expo (hscore (rows x0) (keys x1) h i) x := by
  rw [val_main_v31_apply, of2 (idx_main_v31 (ix3 h i (0 : Fin 1))) h i rfl rfl, v30_at]

/-- The probabilities. -/
theorem v33_at (h : Fin 4) (i : Fin 4096) (m : Fin 256) :
    val_main_v33 (F := Ideal) x0 x1 (ix3 h i m) = prob (hscore (rows x0) (keys x1) h i) m := by
  rw [val_main_v33_apply, v29_at, val_main_v32_apply, of3 (idx_main_v32 (ix3 h i m)) h i (0 : Fin 1) rfl rfl rfl, v31_at]
  rfl

/-- The gradients of the probabilities. -/
theorem v43_at (h : Fin 4) (i : Fin 4096) (m : Fin 256) :
    val_main_v43 (F := Ideal) x1 x2 (ix3 h i m) = hdprob (vals x1) (rows x2) h i m := by
  rw [val_main_v43_apply]
  show _ = ∑ d, rows x2 i (hcol h d) * vals x1 m (hcol h d)
  refine Finset.sum_congr rfl fun d _ => ?_
  rw [of3 (lidx_main_v43 (ix3 h i m) d) h d i rfl rfl rfl, of3 (ridx_main_v43 (ix3 h i m) d) m h d rfl rfl rfl, v42_at, v5_at]

/-- The sum over the keys that the quotient's derivative subtracts. -/
theorem v49_at (h : Fin 4) (i : Fin 4096) : val_main_v49 (F := Ideal) x0 x1 x2 (ix2 h i)
    = ∑ x, hdprob (vals x1) (rows x2) h i x
        * Ideal.div (Ideal.ofBits .f32 0x3F800000#32)
            ((∑ y, expo (hscore (rows x0) (keys x1) h i) y) * (∑ y, expo (hscore (rows x0) (keys x1) h i) y))
        * expo (hscore (rows x0) (keys x1) h i) x := by
  rw [val_main_v49_apply, val_main_cst_10_apply]
  rw [show (FloatOps.ofBits .f32 0x00000000#32 : Ideal .f32) = (0 : EReal) from by simp [Ideal.ofBits, Ideal.ieee]]
  rw [show ∀ z : EReal, (0 : EReal) + z = z from zero_add]
  refine Finset.sum_congr rfl fun m _ => ?_
  rw [of3 (idx_main_v49 (ix2 h i) m) h i m rfl rfl rfl, val_main_v48_apply, v29_at, val_main_v47_apply, v43_at,
    val_main_v46_apply, of3 (idx_main_v46 (ix3 h i m)) h i (0 : Fin 1) rfl rfl rfl, val_main_v36_apply, val_main_v34_apply, v31_at,
    val_main_v35_apply, val_main_cst_9_apply]
  rfl

/-- The gradients of the scores, as the quotient's derivative writes them. -/
theorem v59_at (h : Fin 4) (i : Fin 4096) (m : Fin 256) : val_main_v59 (F := Ideal) x0 x1 x2 (ix3 h i m)
    = dscoreQuot (hscore (rows x0) (keys x1) h i) (hdprob (vals x1) (rows x2) h i) m := by
  rw [val_main_v59_apply, val_main_v57_apply, v29_at, val_main_v56_apply, val_main_v53_apply, v43_at, val_main_v52_apply,
    of3 (idx_main_v52 (ix3 h i m)) h i (0 : Fin 1) rfl rfl rfl, v31_at, val_main_v55_apply,
    of2 (idx_main_v55 (ix3 h i m)) h i rfl rfl, val_main_v54_apply, val_main_cst_11_apply, val_main_v58_apply, val_main_cst_12_apply]
  rw [show (FloatOps.ofBits .f32 0x00000000#32 : Ideal .f32) = (0 : EReal) from by simp [Ideal.ofBits, Ideal.ieee]]
  rw [show ∀ z : EReal, (0 : EReal) + z = z from zero_add, Fin.sum_univ_one, of3 (idx_main_v54 (ix2 h i) 0) h i (0 : Fin 1) rfl rfl rfl,
    val_main_v51_apply, val_main_v50_apply, of2 (idx_main_v50 (ix3 h i (0 : Fin 1))) h i
      (by show ((h.val * 4096 + i.val) * 1 + 0) / 4096 = h.val; omega) (by show ((h.val * 4096 + i.val) * 1 + 0) % 4096 = i.val; omega), v49_at]
  rfl

variable (hq : ∀ i c, ∃ r : ℝ, rows x0 i c = r) (hk : ∀ m c, ∃ r : ℝ, keys x1 m c = r)

include hq hk in
/-- With finite queries and keys, the gradients of the scores as the probabilities write them. -/
theorem v59_at' (h : Fin 4) (i : Fin 4096) (m : Fin 256) : val_main_v59 (F := Ideal) x0 x1 x2 (ix3 h i m)
    = dscore (hscore (rows x0) (keys x1) h i) (hdprob (vals x1) (rows x2) h i) m := by
  rw [v59_at]
  exact dscoreQuot_eq _ _ (fun m => score_finite _ _ (fun d => hq i _) (fun m d => hk m _) m) m

include hq hk in
/-- The first result: the gradient of the queries. -/
theorem dq_at (i : Fin 4096) (h : Fin 4) (d : Fin 256) : val_main_v70 (F := Ideal) x0 x1 x2 (ix2 i (hcol h d))
    = gradQ (rows x0) (keys x1) (vals x1) (rows x2) i h d := by
  rw [val_main_v70_apply, val_main_v69_apply, of3 (idx_main_v69 (ix2 i (hcol h d))) i h d
    (by show (i.val * 1024 + (h.val * 256 + d.val)) / 1024 = i.val; omega)
    (by show (i.val * 1024 + (h.val * 256 + d.val)) / 256 % 4 = h.val; omega)
    (by show (i.val * 1024 + (h.val * 256 + d.val)) % 256 = d.val; omega),
    val_main_v63_apply, of3 (idx_main_v63 (ix3 i h d)) h i d rfl rfl rfl, val_main_v62_apply]
  refine Finset.sum_congr rfl fun m _ => ?_
  rw [of3 (lidx_main_v62 (ix3 h i d) m) h i m rfl rfl rfl, of3 (ridx_main_v62 (ix3 h i d) m) m h d rfl rfl rfl,
    v59_at' x0 x1 x2 hq hk, v3_at]

include hq hk in
/-- The gradient of the keys, before it is put beside that of the values. -/
theorem v66_at (m : Fin 256) (h : Fin 4) (d : Fin 256) : val_main_v66 (F := Ideal) x0 x1 x2 (ix2 m (hcol h d))
    = gradK (rows x0) (keys x1) (vals x1) (rows x2) m h d := by
  rw [val_main_v66_apply, of3 (idx_main_v66 (ix2 m (hcol h d))) m h d
    (by show (m.val * 1024 + (h.val * 256 + d.val)) / 1024 = m.val; omega)
    (by show (m.val * 1024 + (h.val * 256 + d.val)) / 256 % 4 = h.val; omega)
    (by show (m.val * 1024 + (h.val * 256 + d.val)) % 256 = d.val; omega),
    val_main_v61_apply, of3 (idx_main_v61 (ix3 m h d)) h m d rfl rfl rfl, val_main_v60_apply]
  refine Finset.sum_congr rfl fun i _ => ?_
  rw [of3 (lidx_main_v60 (ix3 h m d) i) h i m rfl rfl rfl, of3 (ridx_main_v60 (ix3 h m d) i) i h d rfl rfl rfl,
    v59_at' x0 x1 x2 hq hk, v1_at]

/-- The gradient of the values, before it is put beside that of the keys. -/
theorem v64_at (m : Fin 256) (h : Fin 4) (d : Fin 256) : val_main_v64 (F := Ideal) x0 x1 x2 (ix2 m (hcol h d))
    = gradV (rows x0) (keys x1) (rows x2) m h d := by
  rw [val_main_v64_apply, of3 (idx_main_v64 (ix2 m (hcol h d))) m h d
    (by show (m.val * 1024 + (h.val * 256 + d.val)) / 1024 = m.val; omega)
    (by show (m.val * 1024 + (h.val * 256 + d.val)) / 256 % 4 = h.val; omega)
    (by show (m.val * 1024 + (h.val * 256 + d.val)) % 256 = d.val; omega),
    val_main_v45_apply, of3 (idx_main_v45 (ix3 m h d)) h d m rfl rfl rfl, val_main_v44_apply]
  refine Finset.sum_congr rfl fun i _ => ?_
  rw [of3 (lidx_main_v44 (ix3 h d m) i) h d i rfl rfl rfl, of3 (ridx_main_v44 (ix3 h d m) i) h i m rfl rfl rfl,
    v42_at, v33_at, mul_comm]

/-- The padding value is zero. -/
theorem zero_lit : (FloatOps.ofBits .f32 0x00000000#32 : Ideal .f32) = (0 : EReal) := by simp [Ideal.ofBits, Ideal.ieee]

include hq hk in
/-- The second result in the keys' columns. -/
theorem dkv_at_keys (m : Fin 256) (h : Fin 4) (d : Fin 256) : val_main_v68 (F := Ideal) x0 x1 x2 (ix2 m ⟨(hcol h d).val, by omega⟩)
    = gradK (rows x0) (keys x1) (vals x1) (rows x2) m h d := by
  have hc : (hcol h d).val < 1024 := (hcol h d).isLt
  rw [val_main_v68_apply]
  unfold val_main_v65 val_main_v67
  rw [pad_apply_of_not_inside _ _ _ _ _ _ _ _ (1 : Fin 2) (by
      intro hh; have h1 := hh.1
      have : 1024 ≤ (hcol h d).val := h1
      omega),
    pad_apply_of_inside _ _ _ _ _ _ _ _ (ix2 m (hcol h d)) (fun a => match a with
      | ⟨0, _⟩ => by show m.val = 0 + m.val * (0 + 1); omega
      | ⟨1, _⟩ => by show (hcol h d).val = 0 + (hcol h d).val * (0 + 1); omega), v66_at x0 x1 x2 hq hk, val_main_cst_13_apply, zero_lit]
  exact zero_add _

/-- The second result in the values' columns. -/
theorem dkv_at_vals (m : Fin 256) (h : Fin 4) (d : Fin 256) :
    val_main_v68 (F := Ideal) x0 x1 x2 (ix2 m ⟨1024 + (hcol h d).val, by omega⟩)
    = gradV (rows x0) (keys x1) (rows x2) m h d := by
  rw [val_main_v68_apply]
  unfold val_main_v65 val_main_v67
  rw [pad_apply_of_inside _ _ _ _ _ _ _ _ (ix2 m (hcol h d)) (fun a => match a with
      | ⟨0, _⟩ => by show m.val = 0 + m.val * (0 + 1); omega
      | ⟨1, _⟩ => by show 1024 + (hcol h d).val = 1024 + (hcol h d).val * (0 + 1); omega), v64_at,
    pad_apply_of_not_inside _ _ _ _ _ _ _ _ (1 : Fin 2) (by
      intro hh; have h1 := hh.2.2
      have : (1024 + (hcol h d).val - 0) / 1 < 1024 := h1
      omega), val_main_cst_14_apply, zero_lit]
  exact add_zero _

end Cert.Proof.AttnRef

end
-- ==== Proof.AttnClaim.lean ====
/- The attention's gradients: what the precondition says of an entry, and the equality of the kernel's two result arrays
   with the reference's. -/
module

public import proofs.«01_k».proof.Defs
public import proofs.«01_k».proof.Proof.Gen.KernelIdeal.Value
public import proofs.«01_k».proof.Proof.Gen.ReferenceIdeal.Read
public import proofs.«01_k».proof.Proof.AttnGrid
public import proofs.«01_k».proof.Proof.AttnRef
public import Idealize.ShloMosaic.Lib.ReduceAll
public import Idealize.ShloMosaic.Adequacy
public import Idealize.ShloMosaic.Init

@[expose] public section

set_option maxRecDepth 16384

noncomputable section

namespace Cert.Proof.AttnClaim

open Idealize.ShloMosaic Idealize.ShloMosaic.TcCoe Idealize.SL.Sem
open Cert.Proof.Attn

/-! ## The precondition -/

/-- The shape relations the precondition's operations take. -/
theorem pre_facts : Pre_finite_scores.Facts where
  bitsLt_bf16_f32 := by decide
  bcast_S_S4096x1024 := by decide
  reducesTo_S4096x1024_S_d0_1 := by decide
  h_S_ := by decide
  slices_S256x2048_S256x1024_0_0 := by decide
  bcast_S_S256x1024 := by decide
  reducesTo_S256x1024_S_d0_1 := by decide

/-- An entry whose absolute value is below the infinity is a real number. -/
theorem real_of_abs (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := (Ideal.cmp_olt_eq_one _ _).1 h
  induction x using EReal.rec with
  | bot => exact absurd hlt (by simp)
  | top => exact absurd hlt (by simp)
  | coe r => exact ⟨r, rfl⟩

/-- The one index of the predicate's result. -/
abbrev o : Pre_finite_scores.S_.Idx := fun a => a.elim0

attribute [local instance] pre_facts in
/-- Under the precondition every query entry and every key entry is a real number. -/
theorem reals_of_pre (a : FVec Ideal Pre_finite_scores.S4096x1024 .bf16) (b : FVec Ideal Pre_finite_scores.S256x2048 .f32)
    (d : FVec Ideal Pre_finite_scores.S4096x1024 .bf16) (h : Pre_finite_scores.fn (F := Ideal) a b d = fun _ => 1#1) :
    (∀ j, ∃ r : ℝ, (a j : EReal) = r) ∧ ∀ (m : Fin 256) (k : Fin 1024), ∃ r : ℝ, (b (ix2 m ⟨k.val, by omega⟩) : EReal) = r := by
  have h0 := congrFun h o
  unfold Pre_finite_scores.fn at h0
  dsimp only at h0
  have hs : Subsingleton Pre_finite_scores.S_.Idx := ⟨fun x y => funext fun a => a.elim0⟩
  obtain ⟨e1, e2⟩ := IntOp.andi_eq_one.1 h0
  refine ⟨fun j => real_of_abs _ (Host.reduce_andi_all _ _ _ _ o e1 j), fun m k => ?_⟩
  have e3 := Host.reduce_andi_all _ _ _ _ o e2 (ix2 m k)
  obtain ⟨r, hr⟩ := real_of_abs _ e3
  refine ⟨r, Eq.trans (congrArg b ?_) hr⟩
  funext a
  refine Fin.ext ?_
  match a with
  | ⟨0, _⟩ => show m.val = 0 + m.val; omega
  | ⟨1, _⟩ => show k.val = 0 + k.val; omega

/-! ## The two results -/

section
open Cert.Proof.AttnRef Cert.ReferenceIdeal.Read

variable (m : (ℓ : Loc KernelIdeal.nD KernelIdeal.τ KernelIdeal.sig) → Buf (Elt Ideal) ℓ) (c : Dev KernelIdeal.nD)
variable (x0 x2 : Rows) (x1 : Mem)
variable (e0 : ∀ i k, rows x0 i k = AttnGrid.Q m c i k) (e1 : ∀ i (k : Fin 2048), x1 (ix2 i k) = AttnGrid.KV m c i k)
variable (e2 : ∀ i k, rows x2 i k = AttnGrid.G m c i k)
variable (hq : ∀ i k, ∃ r : ℝ, rows x0 i k = r) (hk : ∀ i k, ∃ r : ℝ, keys x1 i k = r)

include e0 in
theorem rows_q : rows x0 = AttnGrid.Q m c := funext fun i => funext fun k => e0 i k
include e2 in
theorem rows_g : rows x2 = AttnGrid.G m c := funext fun i => funext fun k => e2 i k
include e1 in
theorem keys_k : keys x1 = AttnGrid.K m c := funext fun i => funext fun k => e1 i _
include e1 in
theorem vals_v : vals x1 = AttnGrid.V' m c := funext fun i => funext fun k => e1 i _

include e0 e1 e2 hq hk in
/-- The reference's first result at row `i` of a head's column. -/
theorem q_at (i : Fin 4096) (h : Fin 4) (d : Fin 256) : val_main_v70 (F := Ideal) x0 x1 x2 (ix2 i (hcol h d))
    = gradQ (AttnGrid.Q m c) (AttnGrid.K m c) (AttnGrid.V' m c) (AttnGrid.G m c) i h d := by
  rw [dq_at x0 x1 x2 hq hk, rows_q m c x0 e0, rows_g m c x2 e2, keys_k m c x1 e1, vals_v m c x1 e1]

include e0 e1 e2 hq hk in
/-- The reference's second result in the keys' columns. -/
theorem k_at (i : Fin 256) (h : Fin 4) (d : Fin 256) : val_main_v68 (F := Ideal) x0 x1 x2 (ix2 i ⟨(hcol h d).val, by omega⟩)
    = gradK (AttnGrid.Q m c) (AttnGrid.K m c) (AttnGrid.V' m c) (AttnGrid.G m c) i h d := by
  rw [dkv_at_keys x0 x1 x2 hq hk, rows_q m c x0 e0, rows_g m c x2 e2, keys_k m c x1 e1, vals_v m c x1 e1]

include e0 e1 e2 in
/-- The reference's second result in the values' columns. -/
theorem v_at (i : Fin 256) (h : Fin 4) (d : Fin 256) : val_main_v68 (F := Ideal) x0 x1 x2 (ix2 i ⟨1024 + (hcol h d).val, by omega⟩)
    = gradV (AttnGrid.Q m c) (AttnGrid.K m c) (AttnGrid.G m c) i h d := by
  rw [dkv_at_vals x0 x1 x2, rows_q m c x0 e0, rows_g m c x2 e2, keys_k m c x1 e1]

include e0 e1 e2 hq hk in
/-- The reference's first result is the kernel's. -/
theorem q_eq : val_main_v70 (F := Ideal) x0 x1 x2 = AttnGrid.dq m c := by
  funext y
  have hy : (y 1).val < 1024 := (y 1).isLt
  exact (congrArg (val_main_v70 (F := Ideal) x0 x1 x2) (AttnKernel.at2 (a := 4096) (b := 1024) y (y 0)
    (hcol ⟨(y 1).val / 256, by omega⟩ ⟨(y 1).val % 256, by omega⟩) rfl
    (show (y 1).val = (y 1).val / 256 * 256 + (y 1).val % 256 by omega))).trans
    (q_at m c x0 x2 x1 e0 e1 e2 hq hk (y 0) _ _)

include e0 e1 e2 hq hk in
/-- The reference's second result is the kernel's. -/
theorem kv_eq : val_main_v68 (F := Ideal) x0 x1 x2 = AttnGrid.dkv m c := by
  funext y
  have hy : (y 1).val < 2048 := (y 1).isLt
  unfold AttnGrid.dkv
  by_cases hlt : (y 1).val < 1024
  · rw [if_pos hlt]
    exact (congrArg (val_main_v68 (F := Ideal) x0 x1 x2) (AttnKernel.at2 (a := 256) (b := 2048) y (y 0)
      ⟨(hcol ⟨(y 1).val / 256 % 4, by omega⟩ ⟨(y 1).val % 256, by omega⟩).val, by omega⟩ rfl
      (show (y 1).val = (y 1).val / 256 % 4 * 256 + (y 1).val % 256 by omega))).trans
      (k_at m c x0 x2 x1 e0 e1 e2 hq hk (y 0) _ _)
  · rw [if_neg hlt]
    exact (congrArg (val_main_v68 (F := Ideal) x0 x1 x2) (AttnKernel.at2 (a := 256) (b := 2048) y (y 0)
      ⟨1024 + (hcol ⟨(y 1).val / 256 % 4, by omega⟩ ⟨(y 1).val % 256, by omega⟩).val, by omega⟩ rfl
      (show (y 1).val = 1024 + ((y 1).val / 256 % 4 * 256 + (y 1).val % 256) by omega))).trans
      (v_at m c x0 x2 x1 e0 e1 e2 (y 0) _ _)

end

/-! ## The claims -/

/-- The reference leaves its arguments unchanged and every counter at zero. -/
theorem ref_frame : quiescent_ReferenceIdeal (hReferenceIdeal := ReferenceIdeal.Gen.facts) := fun m ρ _ =>
  (θ_run ReferenceIdeal.defs _ _).mono
    (fun r h => ⟨fun c => (h c).2.2, sem_eq_zero_of_no_sems (by decide) r.2⟩)
    (ReferenceIdeal.Value.run m ρ)

/-- The kernel's two results are the reference's. -/
theorem algebraic : algebraic_KernelIdeal_ReferenceIdeal_pre_finite_scores (hKernelIdeal := KernelIdeal.Gen.facts)
    (hReferenceIdeal := ReferenceIdeal.Gen.facts) (hPre_finite_scores := pre_facts) := by
  intro m g m' g' hpre hargs
  refine ⟨fun c => AttnGrid.dq m c, fun c => AttnGrid.dkv m c, ?_, ?_⟩
  · refine (θ_run KernelIdeal.defs _ _).mono (fun r h c => ?_) (KernelIdeal.Value.run_blocks m g)
    obtain ⟨h0, h1, h2⟩ := h c
    exact ⟨h0.trans (AttnGrid.array_q m c), h1.trans (AttnGrid.array_kv m c), h2⟩
  · refine (θ_run ReferenceIdeal.defs _ _).mono (fun r h c => ?_) (ReferenceIdeal.Value.run m' g')
    obtain ⟨h0, h1, h2⟩ := h c
    obtain ⟨a0, a1, a2⟩ := hargs c
    obtain ⟨p0, p1⟩ := reals_of_pre _ _ _ (hpre c)
    have hq : ∀ i k, ∃ r : ℝ, AttnRef.rows (m' ((c.tc : Thread ReferenceIdeal.nD ReferenceIdeal.τ).loc ReferenceIdeal.main_arg0)) i k = r :=
      fun i k => by rw [a0]; exact p0 _
    have hk : ∀ i k, ∃ r : ℝ, AttnRef.keys (m' ((c.tc : Thread ReferenceIdeal.nD ReferenceIdeal.τ).loc ReferenceIdeal.main_arg1)) i k = r :=
      fun i k => by rw [a1]; exact p1 _ _
    have e0 : ∀ i k, AttnRef.rows (m' ((c.tc : Thread ReferenceIdeal.nD ReferenceIdeal.τ).loc ReferenceIdeal.main_arg0)) i k = AttnGrid.Q m c i k :=
      fun i k => by rw [a0]; rfl
    have e1 : ∀ i (k : Fin 2048), (m' ((c.tc : Thread ReferenceIdeal.nD ReferenceIdeal.τ).loc ReferenceIdeal.main_arg1) : AttnRef.Mem) (ix2 i k) = AttnGrid.KV m c i k :=
      fun i k => by rw [a1]; rfl
    have e2 : ∀ i k, AttnRef.rows (m' ((c.tc : Thread ReferenceIdeal.nD ReferenceIdeal.τ).loc ReferenceIdeal.main_arg2)) i k = AttnGrid.G m c i k :=
      fun i k => by rw [a2]; rfl
    refine ⟨h0.trans ?_, h1.trans ?_, h2⟩
    · rw [ReferenceIdeal.Read.val_main_v70_eq]
      exact q_eq m c _ _ _ e0 e1 e2 hq hk
    · rw [ReferenceIdeal.Read.val_main_v68_eq]
      exact kv_eq m c _ _ _ e0 e1 e2 hq hk

end Cert.Proof.AttnClaim

end
-- ==== Proof.InputG.lean ====
/- The gradient of the combined input projection's weights: the kernel's array, the reference's, and their equality. -/
module

public import proofs.«01_k».proof.Defs
public import proofs.«01_k».proof.Proof.Gen.Kernel2Ideal.Value
public import proofs.«01_k».proof.Proof.Gen.Reference2Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.InputG

open Cert.Kernel2Ideal Cert.Kernel2Ideal.Gen Cert.Kernel2Ideal.Value Idealize.ShloMosaic Idealize.ShloMosaic.TcCoe Idealize.SL.Sem
open Cert.Proof.Index
open Idealize.ShloMosaic.Pipeline (Dat)

/-- Column `d` of the chip `j`'s block. -/
def col (j : Fin 4) (d : Fin 1152) : Fin 4608 := ⟨j.val * 1152 + d.val, by omega⟩

/-- The gradient of the weights: of row `a`, and of column `d` of the block of chip `j`. -/
def grad (h : Fin 4096 → Fin 1024 → EReal) (p : Fin 4096 → Fin 4608 → EReal) (j : Fin 4) (a : Fin 1024) (d : Fin 1152) : EReal :=
  ∑ i, h i a * p i (col j d)

/-! ## The kernel -/

/-- What a point stores: the product of its blocks. -/
theorem pay_at (x0 : Vec Ideal S4096x1024 .bf16) (x1 : Vec Ideal S4096x1152 .bf16) (z : Fin 1) (a : Fin 1024) (d : Fin 1152) :
    k0_pay1 x1 x0 (ix3 z a d) = ∑ i : Fin 4096, x0 (ix2 i a) * x1 (ix2 i d) := by
  unfold k0_pay1
  pointwise [dot_S4096x1024_S4096x1152_S1024x1152_0_0_1_1_n_n]

/-- A point's block is the product of its input blocks. -/
theorem out_eq (x0 : Vec Ideal S4096x1024 .bf16) (x1 : Vec Ideal S4096x1152 .bf16) : out0_2 x0 x1 = k0_pay1 x1 x0 := by
  unfold out0_2
  rw [View.canon_unit_zero zero3, View.ld_unit_zero zero2, View.ld_unit_zero zero2]

variable (m : (ℓ : Loc nD τ sig) → Buf (Elt Ideal) ℓ) (c : Dev nD)

/-- The rows of h. -/
def H : Fin 4096 → Fin 1024 → EReal := fun i a => (m ((c : Thread nD τ).loc main_arg0) : S4096x1024.Idx → EReal) (ix2 i a)
/-- The rows of the incoming gradient. -/
def P : Fin 4096 → Fin 4608 → EReal := fun i a => (m ((c : Thread nD τ).loc main_arg1) : S4096x4608.Idx → EReal) (ix2 i a)

/-- The result. -/
def G (y : S4x1024x1152.Idx) : EReal := grad (H m c) (P m c) (y 0) (y 1) (y 2)

/-- Where the blocks of a point lie. -/
theorem places (t : Fin cfg0.N) : (win0_0.index t 0 = 0 ∧ win0_0.index t 1 = 0) ∧ (win0_1.index t 0 = 0 ∧ win0_1.index t 1 = t.val)
    ∧ win0_2.index t 0 = t.val ∧ win0_2.index t 1 = 0 ∧ win0_2.index t 2 = 0 := by
  revert t
  decide +kernel

/-- The block of h at a point: all of it. -/
theorem block_h (t : Fin cfg0.N) (i : Fin 4096) (a : Fin 1024) : (iblk m c 0 t : S4096x1024.Idx → EReal) (ix2 i a) = H m c i a := by
  obtain ⟨⟨h0, h1⟩, -, -⟩ := places t
  unfold iblk H
  rw [View.read_apply]
  refine congrArg (m ((c : Thread nD τ).loc main_arg0) : S4096x1024.Idx → EReal) (at2 _ _ _ ?_ ?_)
  · show win0_0.index t 0 * 4096 + 1 * i.val = i.val; rw [h0]; omega
  · show win0_0.index t 1 * 1024 + 1 * a.val = a.val; rw [h1]; omega

/-- The block of the incoming gradient at a point: the columns of its chip. -/
theorem block_p (t : Fin cfg0.N) (j : Fin 4) (hj : t.val = j.val) (i : Fin 4096) (a : Fin 1152) :
    (iblk m c 1 t : S4096x1152.Idx → EReal) (ix2 i a) = P m c i (col j a) := by
  obtain ⟨-, ⟨h0, h1⟩, -⟩ := places t
  unfold iblk P
  rw [View.read_apply]
  refine congrArg (m ((c : Thread nD τ).loc main_arg1) : S4096x4608.Idx → EReal) (at2 _ _ _ ?_ ?_)
  · show win0_1.index t 0 * 4096 + 1 * i.val = i.val; rw [h0]; omega
  · show win0_1.index t 1 * 1152 + 1 * a.val = j.val * 1152 + a.val; rw [h1]; omega

/-- The array at the end. -/
theorem array : (dats m 0 c).arrAt 2 cfg0.N = G m c := by
  refine (dats m 0 c).arrAt_eq_of_cover 2 (G m c) (fun t _ => ?_) (reached win0_2)
  obtain ⟨-, -, h0, h1, h2⟩ := places t
  have ht : t.val < 4 := t.isLt
  rw [flushed2 m c t, out_eq]
  funext x
  have hx : x = ix3 (x 0) (x 1) (x 2) := at3 (a := 1) (b := 1024) (c := 1152) x (x 0) (x 1) (x 2) rfl rfl rfl
  have hy : ((cfg0.win 2).blk t).view.emb x = ix3 (⟨t.val, ht⟩ : Fin 4) (x 1) (x 2) := by
    refine at3 (a := 4) (b := 1024) (c := 1152) _ _ _ _ ?_ ?_ ?_
    · show win0_2.index t 0 * 1 + 1 * (x 0).val = t.val
      have : (x 0).val < 1 := (x 0).isLt
      rw [h0]; omega
    · show win0_2.index t 1 * 1024 + 1 * (x 1).val = (x 1).val; rw [h1]; omega
    · show win0_2.index t 2 * 1152 + 1 * (x 2).val = (x 2).val; rw [h2]; omega
  refine Eq.trans ?_ (congrArg (G m c) hy).symm
  refine (congrArg (k0_pay1 _ _) hx).trans ((pay_at _ _ (x 0) (x 1) (x 2)).trans ?_)
  exact Finset.sum_congr rfl fun i _ => congrArg₂ (fun x y : EReal => x * y) (block_h m c t i _) (block_p m c t ⟨t.val, ht⟩ rfl i _)

/-! ## The reference -/

section
open Cert.Reference2Ideal.Read

/-- The reference's result. -/
theorem ref_at (x0 : (⟨S4096x1024, .bf16⟩ : BufTy).Contents (Elt Ideal)) (x1 : (⟨S4096x4608, .bf16⟩ : BufTy).Contents (Elt Ideal))
    (j : Fin 4) (a : Fin 1024) (d : Fin 1152) :
    val_main_v8 (F := Ideal) x0 x1 (ix3 j a d) = ∑ i : Fin 4096, (x0 (ix2 i a) : EReal) * x1 (ix2 i (col j d)) := by
  rw [val_main_v8_apply, val_main_v7_apply, val_main_v6_apply, val_main_v5_apply, val_main_v4_apply]
  refine Finset.sum_congr rfl fun i _ => ?_
  rw [val_main_v3_apply, val_main_v1_apply]
  refine (mul_comm _ _).trans (congrArg₂ (· * ·) (congrArg x0 (at2 _ _ _ rfl ?_)) (congrArg x1 (at2 _ _ _ rfl ?_)))
  · show ((a.val * 4 + j.val) * 1152 + d.val) / 4608 = a.val; omega
  · show ((a.val * 4 + j.val) * 1152 + d.val) % 4608 = j.val * 1152 + d.val; omega

end

/-! ## The claims -/

/-- The reference leaves its arguments unchanged and every counter at zero. -/
theorem ref_frame : quiescent_Reference2Ideal (hReference2Ideal := Reference2Ideal.Gen.facts) := fun m ρ _ =>
  (θ_run Reference2Ideal.defs _ _).mono
    (fun r h => ⟨fun c => (h c).2, sem_eq_zero_of_no_sems (by decide) r.2⟩)
    (Reference2Ideal.Value.run m ρ)

/-- The kernel's result is the reference's. -/
theorem algebraic : algebraic_Kernel2Ideal_Reference2Ideal (hKernel2Ideal := Kernel2Ideal.Gen.facts)
    (hReference2Ideal := Reference2Ideal.Gen.facts) := by
  intro m g m' g' _ hargs
  refine ⟨fun c => G m c, ?_, ?_⟩
  · refine (θ_run Kernel2Ideal.defs _ _).mono (fun r h c => ?_) (Kernel2Ideal.Value.run_blocks m g)
    exact ⟨(h c).1.trans (array m c), (h c).2⟩
  · refine (θ_run Reference2Ideal.defs _ _).mono (fun r h c => ?_) (Reference2Ideal.Value.run m' g')
    obtain ⟨a0, a1⟩ := hargs c
    refine ⟨(h c).1.trans ((Reference2Ideal.Read.val_main_v8_eq _ _).trans ?_), (h c).2⟩
    rw [a0, a1]
    funext y
    exact (congrArg _ (at3 (a := 4) (b := 1024) (c := 1152) y (y 0) (y 1) (y 2) rfl rfl rfl)).trans (ref_at _ _ _ _ _)

end Cert.Proof.InputG

end
-- ==== Proof.InputT.lean ====
/- The gradient at the entry of the combined input projection, with that of the residual added: the kernel's array, the
   reference's, and their equality. -/
module

public import proofs.«01_k».proof.Defs
public import proofs.«01_k».proof.Proof.Gen.Kernel3Ideal.Value
public import proofs.«01_k».proof.Proof.Gen.Reference3Ideal.Read
public import proofs.«01_k».proof.Proof.Index
public import Idealize.ShloMosaic.Lib.Pointwise
public import Idealize.ShloMosaic.Lib.WholeRead
public import Idealize.ShloMosaic.Adequacy
public import Idealize.ShloMosaic.Init

@[expose] public section

set_option maxRecDepth 16384

noncomputable section

namespace Cert.Proof.InputT

open Cert.Kernel3Ideal Cert.Kernel3Ideal.Gen Cert.Kernel3Ideal.Value Idealize.ShloMosaic Idealize.ShloMosaic.TcCoe Idealize.SL.Sem
open Cert.Proof.Index
open Idealize.ShloMosaic.Pipeline (Dat)

/-- The scale of the residual, the fourth root of two to single precision. -/
def alpha : EReal := Ideal.ofBits .f32 0x3F9837F0#32

/-- The gradient at row `i` and column `d`: the products with the four parts of the weights, of `w` columns each, and the
    scaled gradient of the residual. -/
def grad {n : Nat} (w : Nat) (hn : n = w * 4) (p : Fin 4096 → Fin n → EReal) (u : Fin 4 → Fin 1024 → Fin w → EReal)
    (r : Fin 4096 → Fin 1024 → EReal) (i : Fin 4096) (d : Fin 1024) : EReal :=
  (∑ j, ∑ k, p i (part w hn j k) * u j d k) + alpha * r i d

/-- It is one sum over all the columns. -/
theorem grad_eq {n : Nat} (w : Nat) (hw : 0 < w) (hn : n = w * 4) (p : Fin 4096 → Fin n → EReal) (u : Fin 4 → Fin 1024 → Fin w → EReal)
    (r : Fin 4096 → Fin 1024 → EReal) (i : Fin 4096) (d : Fin 1024) :
    grad w hn p u r i d = alpha * r i d + ∑ k, p i k * u (chip w hn k) d (place w hw k) := by
  rw [sum_parts w hn, grad, add_comm]
  simp only [chip_part w hw hn, place_part w hw hn]

/-! ## The kernel -/

section
variable (v0 v4 v9 v14 : Vec Ideal S512x1152 .bf16) (v1 v5 v10 v15 : Vec Ideal S1x1024x1152 .bf16) (v19 : Vec Ideal S512x1024 .bf16)

/-- What a point stores: the sum of the products of its parts, and the scaled residual. -/
theorem pay_at (i : Fin 512) (d : Fin 1024) :
    k0_pay1 v0 v1 v4 v5 v9 v10 v14 v15 v19 (ix2 i d) = (∑ k : Fin 1152, v0 (ix2 i k) * v1 (ix3 (0 : Fin 1) d k))
      + (∑ k : Fin 1152, v4 (ix2 i k) * v5 (ix3 (0 : Fin 1) d k)) + (∑ k : Fin 1152, v9 (ix2 i k) * v10 (ix3 (0 : Fin 1) d k))
      + (∑ k : Fin 1152, v14 (ix2 i k) * v15 (ix3 (0 : Fin 1) d k)) + alpha * v19 (ix2 i d) := by
  unfold k0_pay1
  pointwise [dot_S512x1152_S1024x1152_S512x1024_1_1_0_0_n_n]
  rfl

end

/-- A point's block. -/
def block (x0 : Vec Ideal S512x4608 .bf16) (x1 : Vec Ideal S4x1024x1152 .bf16) (x2 : Vec Ideal S512x1024 .bf16)
    (i : Fin 512) (d : Fin 1024) : EReal :=
  (∑ j : Fin 4, ∑ k : Fin 1152, x0 (ix2 i (part 1152 rfl j k)) * x1 (ix3 j d k)) + alpha * x2 (ix2 i d)

section
variable (x0 : Vec Ideal S512x4608 .bf16) (x1 : Vec Ideal S4x1024x1152 .bf16) (x2 : Vec Ideal S512x1024 .bf16)

/-- A part of a block's product, as a point reads it. -/
theorem read_part (arg3 : Memref sig .tc .vmem S512x4608 .bf16) (h3 : arg3.IsWhole) (arg4 : Memref sig .tc .vmem S4x1024x1152 .bf16) (h4 : arg4.IsWhole)
    (j : Fin 4) (o j' : Nat) (ho : o = j.val * 1152) (hj : j' = j.val) (inb : ∀ b, ![0, o] b + S512x1152.size b ≤ S512x4608.size b)
    (inb' : ∀ b, ![j', 0, 0] b + S1x1024x1152.size b ≤ S4x1024x1152.size b) (i : Fin 512) (d : Fin 1024) :
    ∑ k : Fin 1152, (View.readAt (Elt Ideal) arg3.view (Rect.unit (s := S512x4608) ![0, o] S512x1152.size inb).toLoadRect (h3.unread x0) (ix2 i k) : EReal)
        * View.readAt (Elt Ideal) arg4.view (Rect.unit (s := S4x1024x1152) ![j', 0, 0] S1x1024x1152.size inb').toLoadRect (h4.unread x1) (ix3 (0 : Fin 1) d k)
      = ∑ k : Fin 1152, x0 (ix2 i (part 1152 rfl j k)) * x1 (ix3 j d k) := by
  refine Finset.sum_congr rfl fun k _ => congrArg₂ (fun x y : EReal => x * y) ?_ ?_
  · refine (h3.readAt_unread x0 _ _).trans (congrArg x0 (at2 _ _ _ ?_ ?_))
    · show 0 + 1 * i.val = i.val; omega
    · show o + 1 * k.val = j.val * 1152 + k.val; omega
  · refine (h4.readAt_unread x1 _ _).trans (congrArg x1 (at3 _ _ _ _ ?_ ?_ ?_))
    · show j' + 1 * 0 = j.val; omega
    · show 0 + 1 * d.val = d.val; omega
    · show 0 + 1 * k.val = k.val; omega

variable (c : Dev nD) (i : grid0.Coords) (arg3 : Memref sig .tc .vmem S512x4608 .bf16) (harg3 : arg3.IsWhole) (arg4 : Memref sig .tc .vmem S4x1024x1152 .bf16) (harg4 : arg4.IsWhole)
  (arg5 : Memref sig .tc .vmem S512x1024 .bf16) (harg5 : arg5.IsWhole) (arg7 : Memref sig .tc .vmem S512x1024 .f32) (harg7 : arg7.IsWhole)

/-- What a point stores is its block. -/
theorem out_eq (y : S512x1024.Idx) :
    out0_A_3 c i arg3 harg3 arg4 harg4 arg5 harg5 arg7 harg7 x0 x1 x2 y = block x0 x1 x2 (y 0) (y 1) := by
  have hc := cover0_A_3 c i arg3 harg3 arg4 harg4 arg5 harg5 arg7 harg7 x0 x1 x2 y
  unfold out0_A_3
  rw [View.read_writes_junk_apply_eq_canon]
  refine View.canon_apply_of_pieces (fun y => block x0 x1 x2 (y 0) (y 1)) _ ?_ y hc
  unfold kernelRun0_A
  dsimp only
  refine List.forall_mem_cons.2 ⟨fun x => ?_, List.forall_mem_nil _⟩
  obtain ⟨p, q, rfl⟩ : ∃ (p : Fin 512) (q : Fin 1024), x = ix2 p q := ⟨x 0, x 1, eq_ix2 x⟩
  have e : (Rect.unit (s := S512x1024) ![0, 0] S512x1024.size inb_S512x1024_S512x1024_0_0).emb (ix2 p q) = ix2 p q :=
    at2 _ _ _ (by show 0 + 1 * p.val = p.val; omega) (by show 0 + 1 * q.val = q.val; omega)
  refine Eq.trans ?_ (congrArg (fun y : S512x1024.Idx => block x0 x1 x2 (y 0) (y 1)) e).symm
  refine (pay_at _ _ _ _ _ _ _ _ _ p q).trans ?_
  show _ = (∑ j : Fin 4, ∑ k : Fin 1152, x0 (ix2 p (part 1152 rfl j k)) * x1 (ix3 j q k)) + alpha * x2 (ix2 p q)
  rw [Fin.sum_univ_four]
  refine congrArg₂ (fun a b : EReal => a + b) (congrArg₂ (fun a b : EReal => a + b) (congrArg₂ (fun a b : EReal => a + b)
    (congrArg₂ (fun a b : EReal => a + b) ?_ ?_) ?_) ?_) (congrArg (fun a : EReal => alpha * a) ?_)
  · exact read_part x0 x1 arg3 harg3 arg4 harg4 0 0 0 rfl rfl _ _ p q
  · exact read_part x0 x1 arg3 harg3 arg4 harg4 1 1152 1 rfl rfl _ _ p q
  · exact read_part x0 x1 arg3 harg3 arg4 harg4 2 2304 2 rfl rfl _ _ p q
  · exact read_part x0 x1 arg3 harg3 arg4 harg4 3 3456 3 rfl rfl _ _ p q
  · exact (harg5.readAt_unread x2 _ _).trans (congrArg x2 e)

end

variable (m : (ℓ : Loc nD τ sig) → Buf (Elt Ideal) ℓ) (c : Dev nD)

/-- The rows of the incoming gradient. -/
def P : Fin 4096 → Fin 4608 → EReal := fun i a => (m ((c : Thread nD τ).loc main_arg0) : S4096x4608.Idx → EReal) (ix2 i a)
/-- The weights, by chip. -/
def W : Fin 4 → Fin 1024 → Fin 1152 → EReal := fun j a d => (m ((c : Thread nD τ).loc main_arg1) : S4x1024x1152.Idx → EReal) (ix3 j a d)
/-- The rows of the residual's gradient. -/
def R : Fin 4096 → Fin 1024 → EReal := fun i a => (m ((c : Thread nD τ).loc main_arg2) : S4096x1024.Idx → EReal) (ix2 i a)

/-- The result. -/
def G (y : S4096x1024.Idx) : EReal := grad 1152 rfl (P m c) (W m c) (R m c) (y 0) (y 1)

/-- Where the blocks of a point lie. -/
theorem places (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ win0_3.index t 0 = t.val ∧ win0_3.index t 1 = 0 := by
  revert t
  decide +kernel

/-- The block of the incoming gradient at a point. -/
theorem block_p (t : Fin cfg0.N) (r : Fin 8) (hr : t.val = r.val) (i : Fin 512) (a : Fin 4608) :
    (iblk m c 0 t : S512x4608.Idx → EReal) (ix2 i a) = P m c (part 512 rfl r i) a := by
  obtain ⟨⟨h0, h1⟩, -⟩ := places t
  unfold iblk P
  rw [View.read_apply]
  refine congrArg (m ((c : Thread nD τ).loc main_arg0) : S4096x4608.Idx → EReal) (at2 _ _ _ ?_ ?_)
  · show win0_0.index t 0 * 512 + 1 * i.val = r.val * 512 + i.val; rw [h0]; omega
  · show win0_0.index t 1 * 4608 + 1 * a.val = a.val; rw [h1]; omega

/-- The block of the weights at a point: all of them. -/
theorem block_w (t : Fin cfg0.N) (j : Fin 4) (a : Fin 1024) (d : Fin 1152) :
    (iblk m c 1 t : S4x1024x1152.Idx → EReal) (ix3 j a d) = W m c j a d := by
  obtain ⟨-, ⟨h0, h1, h2⟩, -⟩ := places t
  unfold iblk W
  rw [View.read_apply]
  refine congrArg (m ((c : Thread nD τ).loc main_arg1) : S4x1024x1152.Idx → EReal) (at3 _ _ _ _ ?_ ?_ ?_)
  · show win0_1.index t 0 * 4 + 1 * j.val = j.val; rw [h0]; omega
  · show win0_1.index t 1 * 1024 + 1 * a.val = a.val; rw [h1]; omega
  · show win0_1.index t 2 * 1152 + 1 * d.val = d.val; rw [h2]; omega

/-- The block of the residual's gradient at a point. -/
theorem block_r (t : Fin cfg0.N) (r : Fin 8) (hr : t.val = r.val) (i : Fin 512) (a : Fin 1024) :
    (iblk m c 2 t : S512x1024.Idx → EReal) (ix2 i a) = R m c (part 512 rfl r i) a := by
  obtain ⟨-, -, ⟨h0, h1⟩, -⟩ := places t
  unfold iblk R
  rw [View.read_apply]
  refine congrArg (m ((c : Thread nD τ).loc main_arg2) : S4096x1024.Idx → EReal) (at2 _ _ _ ?_ ?_)
  · show win0_2.index t 0 * 512 + 1 * i.val = r.val * 512 + i.val; rw [h0]; omega
  · show win0_2.index t 1 * 1024 + 1 * a.val = a.val; rw [h1]; omega

/-- The array at the end. -/
theorem array : (dats m 0 c).arrAt 3 cfg0.N = G m c := by
  refine (dats m 0 c).arrAt_eq_of_cover 3 (G m c) (fun t _ => ?_) (reached win0_3)
  obtain ⟨-, -, -, h0, h1⟩ := places t
  have ht : t.val < 8 := t.isLt
  rw [flushed3_A m c t]
  funext x
  have hy : ((cfg0.win 3).blk t).view.emb x = ix2 (part (n := 4096) (k := 8) 512 rfl ⟨t.val, ht⟩ (x 0)) (x 1) := by
    refine at2 (a := 4096) (b := 1024) _ _ _ ?_ ?_
    · show win0_3.index t 0 * 512 + 1 * (x 0).val = t.val * 512 + (x 0).val; rw [h0]; omega
    · show win0_3.index t 1 * 1024 + 1 * (x 1).val = (x 1).val; rw [h1]; omega
  refine Eq.trans ?_ (congrArg (G m c) hy).symm
  refine (out_eq _ _ _ c _ _ _ _ _ _ _ _ _ x).trans (congrArg₂ (fun a b : EReal => a + alpha * b) ?_ (block_r m c t ⟨t.val, ht⟩ rfl (x 0) (x 1)))
  exact Finset.sum_congr rfl fun j _ => Finset.sum_congr rfl fun k _ => congrArg₂ (fun a b : EReal => a * b)
    (block_p m c t ⟨t.val, ht⟩ rfl (x 0) (part 1152 rfl j k)) (block_w m c t j (x 1) k)

/-! ## The reference -/

section
open Cert.Reference3Ideal.Read

/-- The reference's result. -/
theorem ref_at (x0 : (⟨S4096x4608, .bf16⟩ : BufTy).Contents (Elt Ideal)) (x1 : (⟨S4x1024x1152, .bf16⟩ : BufTy).Contents (Elt Ideal))
    (x2 : (⟨S4096x1024, .bf16⟩ : BufTy).Contents (Elt Ideal)) (i : Fin 4096) (d : Fin 1024) :
    (val_main_v12 (F := Ideal) x0 x1 x2 (ix2 i d) : EReal)
      = alpha * x2 (ix2 i d) + ∑ k : Fin 4608, (x0 (ix2 i k) : EReal) * x1 (ix3 (chip 1152 rfl k) d (place 1152 (by omega) k)) := by
  rw [val_main_v12_apply, val_main_v10_apply, val_main_v9_apply, val_main_cst_1_apply, val_main_v8_apply]
  refine congrArg (fun a : EReal => alpha * x2 (ix2 i d) + a) ((val_main_v11_apply x0 x1 (ix2 i d)).trans ?_)
  refine Finset.sum_congr rfl fun k _ => ?_
  rw [val_main_v7_apply, val_main_v2_apply, val_main_v1_apply, val_main_v0_apply]
  refine congrArg₂ (fun x y : EReal => x * y) (congrArg x0 (at2 _ _ _ rfl rfl)) (congrArg x1 (at3 _ _ _ _ ?_ ?_ ?_))
  · show (d.val * 4608 + k.val) / 1152 % 4 = k.val / 1152; omega
  · show (d.val * 4608 + k.val) / 4608 = d.val; omega
  · show (d.val * 4608 + k.val) % 1152 = k.val % 1152; omega

end

/-! ## The claims -/

/-- The reference leaves its arguments unchanged and every counter at zero. -/
theorem ref_frame : quiescent_Reference3Ideal (hReference3Ideal := Reference3Ideal.Gen.facts) := fun m ρ _ =>
  (θ_run Reference3Ideal.defs _ _).mono
    (fun r h => ⟨fun c => (h c).2, sem_eq_zero_of_no_sems (by decide) r.2⟩)
    (Reference3Ideal.Value.run m ρ)

/-- The kernel's result is the reference's. -/
theorem algebraic : algebraic_Kernel3Ideal_Reference3Ideal (hKernel3Ideal := Kernel3Ideal.Gen.facts)
    (hReference3Ideal := Reference3Ideal.Gen.facts) := by
  intro m g m' g' _ hargs
  refine ⟨fun c => G m c, ?_, ?_⟩
  · refine (θ_run Kernel3Ideal.defs _ _).mono (fun r h c => ?_) (Kernel3Ideal.Value.run_blocks m g)
    exact ⟨(h c).1.trans (array m c), (h c).2⟩
  · refine (θ_run Reference3Ideal.defs _ _).mono (fun r h c => ?_) (Reference3Ideal.Value.run m' g')
    obtain ⟨a0, a1, a2, -⟩ := hargs c
    refine ⟨(h c).1.trans ((Reference3Ideal.Read.val_main_v12_eq _ _ _).trans ?_), (h c).2⟩
    rw [a0, a1, a2]
    funext y
    exact (congrArg _ (at2 (a := 4096) (b := 1024) y (y 0) (y 1) rfl rfl)).trans
      ((ref_at _ _ _ _ _).trans (grad_eq 1152 (by omega) rfl (P m c) (W m c) (R m c) (y 0) (y 1)).symm)

end Cert.Proof.InputT

end
-- ==== Proof.Input.lean ====
/- The combined input projection: the kernel's array, the reference's, and their equality. -/
module

public import proofs.«01_k».proof.Defs
public import proofs.«01_k».proof.Proof.Gen.Kernel4Ideal.Value
public import proofs.«01_k».proof.Proof.Gen.Reference4Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.Input

open Cert.Kernel4Ideal Cert.Kernel4Ideal.Gen Cert.Kernel4Ideal.Value Idealize.ShloMosaic Idealize.ShloMosaic.TcCoe Idealize.SL.Sem
open Cert.Proof.Index
open Idealize.ShloMosaic.Pipeline (Dat)

/-- Row `i` of `h` times column `d` of the weights, which the chips hold in four parts. -/
def prod (h : Fin 4096 → Fin 1024 → EReal) (w : Fin 4 → Fin 1024 → Fin 1152 → EReal) (i : Fin 4096) (d : Fin 4608) : EReal :=
  ∑ a, h i a * w (chip 1152 rfl d) a (place 1152 (by omega) d)

/-! ## The kernel -/

/-- What a point stores: the product of its blocks. -/
theorem pay_at (x0 : Vec Ideal S1024x1024 .bf16) (x1 : Vec Ideal S1x1024x1152 .bf16) (i : Fin 1024) (d : Fin 1152) :
    k0_pay1 x1 x0 (ix2 i d) = ∑ a : Fin 1024, x0 (ix2 i a) * x1 (ix3 (0 : Fin 1) a d) := by
  unfold k0_pay1
  pointwise [dot_S1024x1024_S1024x1152_S1024x1152_1_0_0_1_n_n]

/-- A point's block is the product of its input blocks. -/
theorem out_eq (x0 : Vec Ideal S1024x1024 .bf16) (x1 : Vec Ideal S1x1024x1152 .bf16) : out0_2 x0 x1 = k0_pay1 x1 x0 := by
  unfold out0_2
  rw [View.canon_unit_zero zero2, View.ld_unit_zero zero3, View.ld_unit_zero zero2]

variable (m : (ℓ : Loc nD τ sig) → Buf (Elt Ideal) ℓ) (c : Dev nD)

/-- The rows of h. -/
def H : Fin 4096 → Fin 1024 → EReal := fun i a => (m ((c : Thread nD τ).loc main_arg0) : S4096x1024.Idx → EReal) (ix2 i a)
/-- The weights, by chip. -/
def W : Fin 4 → Fin 1024 → Fin 1152 → EReal := fun j a d => (m ((c : Thread nD τ).loc main_arg1) : S4x1024x1152.Idx → EReal) (ix3 j a d)

/-- The result. -/
def G (y : S4096x4608.Idx) : EReal := prod (H m c) (W m c) (y 0) (y 1)

/-- Where the blocks of a point lie: point `4 * r + j` takes part `r` of the rows and the columns of chip `j`. -/
theorem places (t : Fin cfg0.N) : (win0_0.index t 0 = t.val / 4 ∧ win0_0.index t 1 = 0)
    ∧ (win0_1.index t 0 = t.val % 4 ∧ win0_1.index t 1 = 0 ∧ win0_1.index t 2 = 0)
    ∧ win0_2.index t 0 = t.val / 4 ∧ win0_2.index t 1 = t.val % 4 := by
  revert t
  decide +kernel

/-- The block of h at a point. -/
theorem block_h (t : Fin cfg0.N) (r : Fin 4) (hr : t.val / 4 = r.val) (i : Fin 1024) (a : Fin 1024) :
    (iblk m c 0 t : S1024x1024.Idx → EReal) (ix2 i a) = H m c (part 1024 rfl r i) a := by
  obtain ⟨⟨h0, h1⟩, -, -⟩ := places t
  unfold iblk H
  rw [View.read_apply]
  refine congrArg (m ((c : Thread nD τ).loc main_arg0) : S4096x1024.Idx → EReal) (at2 _ _ _ ?_ ?_)
  · show win0_0.index t 0 * 1024 + 1 * i.val = r.val * 1024 + i.val; rw [h0]; omega
  · show win0_0.index t 1 * 1024 + 1 * a.val = a.val; rw [h1]; omega

/-- The block of the weights at a point. -/
theorem block_w (t : Fin cfg0.N) (j : Fin 4) (hj : t.val % 4 = j.val) (a : Fin 1024) (d : Fin 1152) :
    (iblk m c 1 t : S1x1024x1152.Idx → EReal) (ix3 (0 : Fin 1) a d) = W m c j a d := by
  obtain ⟨-, ⟨h0, h1, h2⟩, -⟩ := places t
  unfold iblk W
  rw [View.read_apply]
  refine congrArg (m ((c : Thread nD τ).loc main_arg1) : S4x1024x1152.Idx → EReal) (at3 _ _ _ _ ?_ ?_ ?_)
  · show win0_1.index t 0 * 1 + 1 * 0 = j.val; rw [h0]; omega
  · show win0_1.index t 1 * 1024 + 1 * a.val = a.val; rw [h1]; omega
  · show win0_1.index t 2 * 1152 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 16 := t.isLt
  let r : Fin 4 := ⟨t.val / 4, by omega⟩
  let j : Fin 4 := ⟨t.val % 4, by omega⟩
  rw [flushed2 m c t, out_eq]
  funext x
  have hx : x = ix2 (x 0) (x 1) := at2 (a := 1024) (b := 1152) x (x 0) (x 1) rfl rfl
  have hy : ((cfg0.win 2).blk t).view.emb x = ix2 (part (n := 4096) 1024 rfl r (x 0)) (part (n := 4608) 1152 rfl j (x 1)) := by
    refine at2 (a := 4096) (b := 4608) _ _ _ ?_ ?_
    · show win0_2.index t 0 * 1024 + 1 * (x 0).val = t.val / 4 * 1024 + (x 0).val; rw [h0]; omega
    · show win0_2.index t 1 * 1152 + 1 * (x 1).val = t.val % 4 * 1152 + (x 1).val; rw [h1]; omega
  refine Eq.trans ?_ (congrArg (G m c) hy).symm
  refine (congrArg (k0_pay1 _ _) hx).trans ((pay_at _ _ (x 0) (x 1)).trans ?_)
  exact Finset.sum_congr rfl fun a _ => congrArg₂ (fun x y : EReal => x * y) (block_h m c t r rfl (x 0) a)
    ((block_w m c t j rfl a (x 1)).trans (congrArg₂ (fun p q => W m c p a q) (chip_part 1152 (by omega) rfl j (x 1)).symm
      (place_part (n := 4608) 1152 (by omega) rfl j (x 1)).symm))

/-! ## The reference -/

section
open Cert.Reference4Ideal.Read

/-- The reference's result. -/
theorem ref_at (x0 : (⟨S4096x1024, .bf16⟩ : BufTy).Contents (Elt Ideal)) (x1 : (⟨S4x1024x1152, .bf16⟩ : BufTy).Contents (Elt Ideal))
    (i : Fin 4096) (d : Fin 4608) :
    val_main_v5 (F := Ideal) x0 x1 (ix2 i d)
      = ∑ a : Fin 1024, (x0 (ix2 i a) : EReal) * x1 (ix3 (chip 1152 rfl d) a (place 1152 (by omega) d)) := by
  rw [val_main_v5_apply]
  refine (val_main_v4_apply x0 x1 (ix2 i d)).trans ?_
  refine Finset.sum_congr rfl fun a _ => ?_
  rw [val_main_v3_apply, val_main_v2_apply, val_main_v1_apply, val_main_v0_apply]
  refine congrArg₂ (fun x y : EReal => x * y) (congrArg x0 (at2 _ _ _ rfl rfl)) (congrArg x1 (at3 _ _ _ _ ?_ ?_ ?_))
  · show (a.val * 4608 + d.val) / 1152 % 4 = d.val / 1152; omega
  · show (a.val * 4608 + d.val) / 4608 = a.val; omega
  · show (a.val * 4608 + d.val) % 1152 = d.val % 1152; omega

end

/-! ## The claims -/

/-- The reference leaves its arguments unchanged and every counter at zero. -/
theorem ref_frame : quiescent_Reference4Ideal (hReference4Ideal := Reference4Ideal.Gen.facts) := fun m ρ _ =>
  (θ_run Reference4Ideal.defs _ _).mono
    (fun r h => ⟨fun c => (h c).2, sem_eq_zero_of_no_sems (by decide) r.2⟩)
    (Reference4Ideal.Value.run m ρ)

/-- The kernel's result is the reference's. -/
theorem algebraic : algebraic_Kernel4Ideal_Reference4Ideal (hKernel4Ideal := Kernel4Ideal.Gen.facts)
    (hReference4Ideal := Reference4Ideal.Gen.facts) := by
  intro m g m' g' _ hargs
  refine ⟨fun c => G m c, ?_, ?_⟩
  · refine (θ_run Kernel4Ideal.defs _ _).mono (fun r h c => ?_) (Kernel4Ideal.Value.run_blocks m g)
    exact ⟨(h c).1.trans (array m c), (h c).2⟩
  · refine (θ_run Reference4Ideal.defs _ _).mono (fun r h c => ?_) (Reference4Ideal.Value.run m' g')
    obtain ⟨a0, a1⟩ := hargs c
    refine ⟨(h c).1.trans ((Reference4Ideal.Read.val_main_v5_eq _ _).trans ?_), (h c).2⟩
    rw [a0, a1]
    funext y
    exact (congrArg _ (at2 (a := 4096) (b := 4608) y (y 0) (y 1) rfl rfl)).trans (ref_at _ _ _ _)

end Cert.Proof.Input

end
-- ==== Proof.Up.lean ====
/- The first product of the MLP, its ReLU and the square of it: the kernel's arrays, the reference's, and their
   equality. -/
module

public import proofs.«01_k».proof.Defs
public import proofs.«01_k».proof.Proof.Gen.Kernel8Ideal.Value
public import proofs.«01_k».proof.Proof.Gen.Reference8Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.Up

open Cert.Kernel8Ideal Cert.Kernel8Ideal.Gen Cert.Kernel8Ideal.Value Idealize.ShloMosaic Idealize.ShloMosaic.TcCoe Idealize.SL.Sem
open Cert.Proof.Index
open Idealize.ShloMosaic.Pipeline (Dat)

/-- Row `i` of `h` times column `d` of the weights, of which each chip holds 1024 columns, cut off below zero. -/
def relu (h : Fin 4096 → Fin 1024 → EReal) (w : Fin 4 → Fin 1024 → Fin 1024 → EReal) (i : Fin 4096) (d : Fin 4096) : EReal :=
  max (∑ a, h i a * w (chip 1024 rfl d) a (place 1024 (by omega) d)) 0

/-! ## The kernel -/

/-- The product of a point's blocks, cut off below zero. -/
theorem pay1_at (x0 : Vec Ideal S1024x1024 .bf16) (x1 : Vec Ideal S1x1024x1024 .bf16) (i : Fin 1024) (d : Fin 1024) :
    k0_pay1 x1 x0 (ix2 i d) = max (∑ a : Fin 1024, x0 (ix2 i a) * x1 (ix3 (0 : Fin 1) a d)) 0 := by
  unfold k0_pay1
  pointwise [dot_S1024x1024_S1024x1024_S1024x1024_1_0_0_1_n_n]

/-- What a point stores in the first result: the square. -/
theorem pay2_at (x0 : Vec Ideal S1024x1024 .bf16) (x1 : Vec Ideal S1x1024x1024 .bf16) (y : S1024x1024.Idx) :
    k0_pay2 x1 x0 y = (k0_pay1 x1 x0 y : EReal) * k0_pay1 x1 x0 y := rfl

/-- What a point stores in the second result. -/
theorem pay3_at (x0 : Vec Ideal S1024x1024 .bf16) (x1 : Vec Ideal S1x1024x1024 .bf16) (y : S1024x1024.Idx) :
    k0_pay3 x1 x0 y = (k0_pay1 x1 x0 y : EReal) := rfl

/-- A point's first block. -/
theorem out2_eq (x0 : Vec Ideal S1024x1024 .bf16) (x1 : Vec Ideal S1x1024x1024 .bf16) : out0_2 x0 x1 = k0_pay2 x1 x0 := by
  unfold out0_2
  rw [View.canon_unit_zero zero2, View.ld_unit_zero zero3, View.ld_unit_zero zero2]

/-- A point's second block. -/
theorem out3_eq (x0 : Vec Ideal S1024x1024 .bf16) (x1 : Vec Ideal S1x1024x1024 .bf16) : out0_3 x0 x1 = k0_pay3 x1 x0 := by
  unfold out0_3
  rw [View.canon_unit_zero zero2, View.ld_unit_zero zero3, View.ld_unit_zero zero2]

variable (m : (ℓ : Loc nD τ sig) → Buf (Elt Ideal) ℓ) (c : Dev nD)

/-- The rows of h. -/
def H : Fin 4096 → Fin 1024 → EReal := fun i a => (m ((c : Thread nD τ).loc main_arg0) : S4096x1024.Idx → EReal) (ix2 i a)
/-- The weights, by chip: the last thousand rows of what it holds. -/
def W : Fin 4 → Fin 1024 → Fin 1024 → EReal := fun j a d =>
  (m ((c : Thread nD τ).loc main_arg1) : S4x3072x1024.Idx → EReal) (ix3 j (⟨2048 + a.val, by omega⟩ : Fin 3072) d)

/-- The second result. -/
def Gz (y : S4096x4096.Idx) : EReal := relu (H m c) (W m c) (y 0) (y 1)
/-- The first result. -/
def Gzz (y : S4096x4096.Idx) : EReal := Gz m c y * Gz m c y

/-- Where the blocks of a point lie: point `4 * r + j` takes part `r` of the rows and the columns of chip `j`. -/
theorem places (t : Fin cfg0.N) : (win0_0.index t 0 = t.val / 4 ∧ win0_0.index t 1 = 0)
    ∧ (win0_1.index t 0 = t.val % 4 ∧ win0_1.index t 1 = 2 ∧ win0_1.index t 2 = 0)
    ∧ (win0_2.index t 0 = t.val / 4 ∧ win0_2.index t 1 = t.val % 4)
    ∧ win0_3.index t 0 = t.val / 4 ∧ win0_3.index t 1 = t.val % 4 := by
  revert t
  decide +kernel

/-- The block of h at a point. -/
theorem block_h (t : Fin cfg0.N) (r : Fin 4) (hr : t.val / 4 = r.val) (i : Fin 1024) (a : Fin 1024) :
    (iblk m c 0 t : S1024x1024.Idx → EReal) (ix2 i a) = H m c (part 1024 rfl r i) a := by
  obtain ⟨⟨h0, h1⟩, -⟩ := places t
  unfold iblk H
  rw [View.read_apply]
  refine congrArg (m ((c : Thread nD τ).loc main_arg0) : S4096x1024.Idx → EReal) (at2 _ _ _ ?_ ?_)
  · show win0_0.index t 0 * 1024 + 1 * i.val = r.val * 1024 + i.val; rw [h0]; omega
  · show win0_0.index t 1 * 1024 + 1 * a.val = a.val; rw [h1]; omega

/-- The block of the weights at a point. -/
theorem block_w (t : Fin cfg0.N) (j : Fin 4) (hj : t.val % 4 = j.val) (a : Fin 1024) (d : Fin 1024) :
    (iblk m c 1 t : S1x1024x1024.Idx → EReal) (ix3 (0 : Fin 1) a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 1 + 1 * 0 = j.val; rw [h0]; omega
  · show win0_1.index t 1 * 1024 + 1 * a.val = 2048 + a.val; rw [h1]; omega
  · show win0_1.index t 2 * 1024 + 1 * d.val = d.val; rw [h2]; omega

/-- What a point computes is its part of the result. -/
theorem point (t : Fin cfg0.N) (r j : Fin 4) (hr : t.val / 4 = r.val) (hj : t.val % 4 = j.val) (i d : Fin 1024) :
    k0_pay1 (iblk m c 1 t) (iblk m c 0 t) (ix2 i d) = Gz m c (ix2 (part (n := 4096) 1024 rfl r i) (part (n := 4096) 1024 rfl j d)) := by
  refine (pay1_at _ _ i d).trans (congrArg (fun x : EReal => max x 0) ?_)
  exact Finset.sum_congr rfl fun a _ => congrArg₂ (fun x y : EReal => x * y) (block_h m c t r hr i a)
    ((block_w m c t j hj a d).trans (congrArg₂ (fun p q => W m c p a q) (chip_part 1024 (by omega) rfl j d).symm
      (place_part (n := 4096) 1024 (by omega) rfl j d).symm))

/-- Where an index of a point's block lies in an array of the results. -/
theorem lies (t : Fin cfg0.N) (y : S4096x4096.Idx) (x : S1024x1024.Idx) (h0 : (y 0).val = t.val / 4 * 1024 + 1 * (x 0).val)
    (h1 : (y 1).val = t.val % 4 * 1024 + 1 * (x 1).val) :
    k0_pay1 (iblk m c 1 t) (iblk m c 0 t) x = Gz m c y := by
  have ht : t.val < 16 := t.isLt
  have hx : x = ix2 (x 0) (x 1) := at2 (a := 1024) (b := 1024) x (x 0) (x 1) rfl rfl
  refine (congrArg (k0_pay1 _ _) hx).trans
    ((point m c t ⟨t.val / 4, by omega⟩ ⟨t.val % 4, by omega⟩ rfl rfl (x 0) (x 1)).trans (congrArg (Gz m c) ?_))
  refine (at2 (a := 4096) (b := 4096) y _ _ ?_ ?_).symm
  · show (y 0).val = t.val / 4 * 1024 + (x 0).val; omega
  · show (y 1).val = t.val % 4 * 1024 + (x 1).val; omega

/-- The first array at the end. -/
theorem array2 : (dats m 0 c).arrAt 2 cfg0.N = Gzz m c := by
  refine (dats m 0 c).arrAt_eq_of_cover 2 (Gzz m c) (fun t _ => ?_) (reached win0_2)
  obtain ⟨-, -, ⟨h0, h1⟩, -⟩ := places t
  rw [flushed2 m c t, out2_eq]
  funext x
  have e := lies m c t (((cfg0.win 2).blk t).view.emb x) x
    (by show win0_2.index t 0 * 1024 + 1 * (x 0).val = _; rw [h0]) (by show win0_2.index t 1 * 1024 + 1 * (x 1).val = _; rw [h1])
  exact (pay2_at _ _ x).trans (congrArg₂ (fun x y : EReal => x * y) e e)

/-- The second array at the end. -/
theorem array3 : (dats m 0 c).arrAt 3 cfg0.N = Gz m c := by
  refine (dats m 0 c).arrAt_eq_of_cover 3 (Gz m c) (fun t _ => ?_) (reached win0_3)
  obtain ⟨-, -, -, h0, h1⟩ := places t
  rw [flushed3 m c t, out3_eq]
  funext x
  exact (pay3_at _ _ x).trans (lies m c t (((cfg0.win 3).blk t).view.emb x) x
    (by show win0_3.index t 0 * 1024 + 1 * (x 0).val = _; rw [h0]) (by show win0_3.index t 1 * 1024 + 1 * (x 1).val = _; rw [h1]))

/-! ## The reference -/

section
open Cert.Reference8Ideal.Read

/-- The reference's ReLU. -/
theorem ref_at (x0 : (⟨S4096x1024, .bf16⟩ : BufTy).Contents (Elt Ideal)) (x1 : (⟨S4x3072x1024, .bf16⟩ : BufTy).Contents (Elt Ideal))
    (i : Fin 4096) (d : Fin 4096) :
    (val_main_v9 (F := Ideal) x0 x1 (ix2 i d) : EReal)
      = relu (fun i a => x0 (ix2 i a)) (fun j a d => x1 (ix3 j (⟨2048 + a.val, by omega⟩ : Fin 3072) d)) i d := by
  rw [val_main_v9_apply, val_main_call0_v0_apply, val_main_call0_cst_apply]
  refine congrArg₂ (fun x y : EReal => max x y) ((val_main_v8_apply x0 x1 (ix2 i d)).trans ?_) (Ideal.ofBits_zero .f32)
  refine Finset.sum_congr rfl fun a _ => ?_
  rw [val_main_v7_apply, val_main_v5_apply, val_main_v4_apply, val_main_v1_apply, val_main_v0_apply]
  refine congrArg₂ (fun x y : EReal => x * y) (congrArg x0 (at2 _ _ _ rfl rfl)) (congrArg x1 (at3 _ _ _ _ ?_ ?_ ?_))
  · show (a.val * 4096 + d.val) / 1024 % 4 = d.val / 1024; omega
  · show 2048 + (a.val * 4096 + d.val) / 4096 = 2048 + a.val; omega
  · show (a.val * 4096 + d.val) % 1024 = d.val % 1024; omega

end

/-! ## The claims -/

/-- The reference leaves its arguments unchanged and every counter at zero. -/
theorem ref_frame : quiescent_Reference8Ideal (hReference8Ideal := Reference8Ideal.Gen.facts) := fun m ρ _ =>
  (θ_run Reference8Ideal.defs _ _).mono
    (fun r h => ⟨fun c => (h c).2.2, sem_eq_zero_of_no_sems (by decide) r.2⟩)
    (Reference8Ideal.Value.run m ρ)

/-- The kernel's results are the reference's. -/
theorem algebraic : algebraic_Kernel8Ideal_Reference8Ideal (hKernel8Ideal := Kernel8Ideal.Gen.facts)
    (hReference8Ideal := Reference8Ideal.Gen.facts) := by
  intro m g m' g' _ hargs
  refine ⟨fun c => Gzz m c, fun c => Gz m c, ?_, ?_⟩
  · refine (θ_run Kernel8Ideal.defs _ _).mono (fun r h c => ?_) (Kernel8Ideal.Value.run_blocks m g)
    exact ⟨(h c).1.trans (array2 m c), (h c).2.1.trans (array3 m c), (h c).2.2⟩
  · refine (θ_run Reference8Ideal.defs _ _).mono (fun r h c => ?_) (Reference8Ideal.Value.run m' g')
    obtain ⟨a0, a1⟩ := hargs c
    have e : ∀ y : S4096x4096.Idx, (Reference8Ideal.Read.val_main_v9 (F := Ideal)
        (m ((c : Thread nD τ).loc main_arg0)) (m ((c : Thread nD τ).loc main_arg1)) y : EReal) = Gz m c y := fun y =>
      (congrArg _ (at2 (a := 4096) (b := 4096) y (y 0) (y 1) rfl rfl)).trans (ref_at _ _ _ _)
    refine ⟨(h c).1.trans ((Reference8Ideal.Read.val_main_v11_eq _ _).trans ?_),
      (h c).2.1.trans ((Reference8Ideal.Read.val_main_v12_eq _ _).trans ?_), (h c).2.2⟩
    · rw [a0, a1]
      funext y
      exact congrArg₂ (fun x y : EReal => x * y) (e y) (e y)
    · rw [a0, a1]
      funext y
      exact e y

end Cert.Proof.Up

end
-- ==== Proof.DownT.lean ====
/- The gradient of the MLP at the entry of its ReLU: the kernel's array, the reference's, and their equality. -/
module

public import proofs.«01_k».proof.Defs
public import proofs.«01_k».proof.Proof.Gen.Kernel5Ideal.Value
public import proofs.«01_k».proof.Proof.Gen.Reference5Ideal.Read
public import proofs.«01_k».proof.Proof.Index
public import proofs.«01_k».proof.Proof.Up
public import Idealize.ShloMosaic.Lib.Pointwise
public import Idealize.ShloMosaic.Adequacy
public import Idealize.ShloMosaic.Init

@[expose] public section

set_option maxRecDepth 16384

noncomputable section

namespace Cert.Proof.DownT

open Cert.Kernel5Ideal Cert.Kernel5Ideal.Gen Cert.Kernel5Ideal.Value Idealize.ShloMosaic Idealize.ShloMosaic.TcCoe Idealize.SL.Sem
open Cert.Proof.Index
open Idealize.ShloMosaic.Pipeline (Dat)

/-- The word of the number two. -/
theorem two : Ideal.ofBits .f32 0x40000000#32 = 2 := by
  simp [Ideal.ofBits, Ideal.ieee]
  rw [← EReal.coe_mul]
  norm_num
  rfl

/-- The gradient of the square of a ReLU, `2 * max s 0`, times an incoming gradient, as the rule for products forms it. -/
theorem gate (s g : EReal) : g * (2 * max s 0) = if 0 < s then max s 0 * g + g * max s 0 else 0 := by
  by_cases hs : 0 < s
  · have h2 : (2 : EReal) * max s 0 = max s 0 + max s 0 := by
      rw [← one_add_one_eq_two, EReal.right_distrib_of_nonneg zero_le_one zero_le_one, one_mul]
    rw [if_pos hs, h2, EReal.left_distrib_of_nonneg (le_max_right _ _) (le_max_right _ _), mul_comm (max s 0) g]
  · rw [if_neg hs, max_eq_right (not_lt.1 hs), mul_zero, mul_zero]

/-- The gradient at row `i` and column `d`: of the product with the weights `w`, and of the square of the ReLU. -/
def grad (g : Fin 4096 → Fin 1024 → EReal) (w : Fin 4 → Fin 1024 → Fin 1024 → EReal) (z : Fin 4096 → Fin 4096 → EReal)
    (i : Fin 4096) (d : Fin 4096) : EReal :=
  (∑ k, g i k * w (chip 1024 rfl d) (place 1024 (by omega) d) k) * (2 * z i d)

/-! ## The kernel -/

/-- What a point stores. -/
theorem pay_at (x0 : Vec Ideal S1024x1024 .bf16) (x1 : Vec Ideal S1x1024x1024 .bf16) (x2 : Vec Ideal S1024x1024 .bf16)
    (i : Fin 1024) (d : Fin 1024) :
    k0_pay1 x1 x0 x2 (ix2 i d) = (∑ k : Fin 1024, x0 (ix2 i k) * x1 (ix3 (0 : Fin 1) d k)) * (2 * x2 (ix2 i d)) := by
  unfold k0_pay1
  pointwise [dot_S1024x1024_S1024x1024_S1024x1024_1_1_0_0_n_n]
  rw [two]

/-- A point's block. -/
theorem out_eq (x0 : Vec Ideal S1024x1024 .bf16) (x1 : Vec Ideal S1x1024x1024 .bf16) (x2 : Vec Ideal S1024x1024 .bf16) :
    out0_3 x0 x1 x2 = k0_pay1 x1 x0 x2 := by
  unfold out0_3
  rw [View.canon_unit_zero zero2, View.ld_unit_zero zero3, View.ld_unit_zero zero2, View.ld_unit_zero zero2]

variable (m : (ℓ : Loc nD τ sig) → Buf (Elt Ideal) ℓ) (c : Dev nD)

/-- The rows of h. -/
def H : Fin 4096 → Fin 1024 → EReal := fun i a => (m ((c : Thread nD τ).loc main_arg0) : S4096x1024.Idx → EReal) (ix2 i a)
/-- What each chip holds of the weights. -/
def A : Fin 4 → Fin 3072 → Fin 1024 → EReal := fun j a d => (m ((c : Thread nD τ).loc main_arg1) : S4x3072x1024.Idx → EReal) (ix3 j a d)
/-- The rows of the incoming gradient. -/
def R : Fin 4096 → Fin 1024 → EReal := fun i a => (m ((c : Thread nD τ).loc main_arg2) : S4096x1024.Idx → EReal) (ix2 i a)
/-- The weights of the second product: the middle thousand rows of each chip. -/
def W : Fin 4 → Fin 1024 → Fin 1024 → EReal := fun j a d => A m c j ⟨1024 + a.val, by omega⟩ d
/-- The ReLU of the first product. -/
def Z : Fin 4096 → Fin 4096 → EReal := Up.relu (H m c) fun j a d => A m c j ⟨2048 + a.val, by omega⟩ d

/-- The result. -/
def G (y : S4096x4096.Idx) : EReal := grad (R m c) (W m c) (Z m c) (y 0) (y 1)

/-- What the lines before the call leave for it: the ReLU. -/
theorem before : (V m c main_v7 : S4096x4096.Idx → EReal) = Reference8Ideal.Read.val_main_v9 (F := Ideal)
    (m ((c : Thread nD τ).loc main_arg0)) (m ((c : Thread nD τ).loc main_arg1)) := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_results
  rfl

/-- Where the blocks of a point lie: point `4 * r + j` takes part `r` of the rows and the columns of chip `j`. -/
theorem places (t : Fin cfg0.N) : (win0_0.index t 0 = t.val / 4 ∧ win0_0.index t 1 = 0)
    ∧ (win0_1.index t 0 = t.val % 4 ∧ win0_1.index t 1 = 1 ∧ win0_1.index t 2 = 0)
    ∧ (win0_2.index t 0 = t.val / 4 ∧ win0_2.index t 1 = t.val % 4)
    ∧ win0_3.index t 0 = t.val / 4 ∧ win0_3.index t 1 = t.val % 4 := by
  revert t
  decide +kernel

/-- The block of the incoming gradient at a point. -/
theorem block_r (t : Fin cfg0.N) (r : Fin 4) (hr : t.val / 4 = r.val) (i : Fin 1024) (a : Fin 1024) :
    (iblk m c 0 t : S1024x1024.Idx → EReal) (ix2 i a) = R m c (part 1024 rfl r i) a := by
  obtain ⟨⟨h0, h1⟩, -⟩ := places t
  unfold iblk R
  rw [View.read_apply]
  refine (congrFun (V_main_arg2 m c) _).trans (congrArg (m ((c : Thread nD τ).loc main_arg2) : S4096x1024.Idx → EReal) (at2 _ _ _ ?_ ?_))
  · show win0_0.index t 0 * 1024 + 1 * i.val = r.val * 1024 + i.val; rw [h0]; omega
  · show win0_0.index t 1 * 1024 + 1 * a.val = a.val; rw [h1]; omega

/-- The block of the weights at a point. -/
theorem block_w (t : Fin cfg0.N) (j : Fin 4) (hj : t.val % 4 = j.val) (a : Fin 1024) (d : Fin 1024) :
    (iblk m c 1 t : S1x1024x1024.Idx → EReal) (ix3 (0 : Fin 1) a d) = W m c j a d := by
  obtain ⟨-, ⟨h0, h1, h2⟩, -⟩ := places t
  unfold iblk W A
  rw [View.read_apply]
  refine (congrFun (V_main_arg1 m c) _).trans (congrArg (m ((c : Thread nD τ).loc main_arg1) : S4x3072x1024.Idx → EReal) (at3 _ _ _ _ ?_ ?_ ?_))
  · show win0_1.index t 0 * 1 + 1 * 0 = j.val; rw [h0]; omega
  · show win0_1.index t 1 * 1024 + 1 * a.val = 1024 + a.val; rw [h1]; omega
  · show win0_1.index t 2 * 1024 + 1 * d.val = d.val; rw [h2]; omega

/-- The block of the ReLU at a point. -/
theorem block_z (t : Fin cfg0.N) (r j : Fin 4) (hr : t.val / 4 = r.val) (hj : t.val % 4 = j.val) (i : Fin 1024) (d : Fin 1024) :
    (iblk m c 2 t : S1024x1024.Idx → EReal) (ix2 i d) = Z m c (part 1024 rfl r i) (part 1024 rfl j d) := by
  obtain ⟨-, -, ⟨h0, h1⟩, -⟩ := places t
  unfold iblk Z
  rw [View.read_apply]
  refine (congrFun (before m c) _).trans ?_
  refine (congrArg (Reference8Ideal.Read.val_main_v9 (F := Ideal) (m ((c : Thread nD τ).loc main_arg0))
    (m ((c : Thread nD τ).loc main_arg1))) (at2 (a := 4096) (b := 4096) _ (part 1024 rfl r i) (part 1024 rfl j d) ?_ ?_)).trans
    (Up.ref_at _ _ _ _)
  · show win0_2.index t 0 * 1024 + 1 * i.val = r.val * 1024 + i.val; rw [h0]; omega
  · show win0_2.index t 1 * 1024 + 1 * d.val = j.val * 1024 + d.val; rw [h1]; omega

/-- The array at the end. -/
theorem array : (dats m 0 c).arrAt 3 cfg0.N = G m c := by
  refine (dats m 0 c).arrAt_eq_of_cover 3 (G m c) (fun t _ => ?_) (reached win0_3)
  obtain ⟨-, -, -, h0, h1⟩ := places t
  have ht : t.val < 16 := t.isLt
  let r : Fin 4 := ⟨t.val / 4, by omega⟩
  let j : Fin 4 := ⟨t.val % 4, by omega⟩
  rw [flushed3 m c t, out_eq]
  funext x
  have hx : x = ix2 (x 0) (x 1) := at2 (a := 1024) (b := 1024) x (x 0) (x 1) rfl rfl
  have hy : ((cfg0.win 3).blk t).view.emb x = ix2 (part (n := 4096) 1024 rfl r (x 0)) (part (n := 4096) 1024 rfl j (x 1)) := by
    refine at2 (a := 4096) (b := 4096) _ _ _ ?_ ?_
    · show win0_3.index t 0 * 1024 + 1 * (x 0).val = t.val / 4 * 1024 + (x 0).val; rw [h0]; omega
    · show win0_3.index t 1 * 1024 + 1 * (x 1).val = t.val % 4 * 1024 + (x 1).val; rw [h1]; omega
  refine Eq.trans ?_ (congrArg (G m c) hy).symm
  refine (congrArg (k0_pay1 _ _ _) hx).trans ((pay_at _ _ _ (x 0) (x 1)).trans ?_)
  refine congrArg₂ (fun x y : EReal => x * (2 * y)) (Finset.sum_congr rfl fun k _ => ?_) (block_z m c t r j rfl rfl (x 0) (x 1))
  exact congrArg₂ (fun x y : EReal => x * y) (block_r m c t r rfl (x 0) k)
    ((block_w m c t j rfl (x 1) k).trans (congrArg₂ (fun p q => W m c p q k) (chip_part 1024 (by omega) rfl j (x 1)).symm
      (place_part (n := 4096) 1024 (by omega) rfl j (x 1)).symm))

/-! ## The reference -/

section
open Cert.Reference5Ideal.Read

/-- The reference's product of the incoming gradient with the weights. -/
theorem ref_prod (x1 : (⟨S4x3072x1024, .bf16⟩ : BufTy).Contents (Elt Ideal)) (x2 : (⟨S4096x1024, .bf16⟩ : BufTy).Contents (Elt Ideal))
    (i : Fin 4096) (d : Fin 4096) :
    (val_main_v16 (F := Ideal) x1 x2 (ix2 i d) : EReal)
      = ∑ k : Fin 1024, (x2 (ix2 i k) : EReal)
          * x1 (ix3 (chip 1024 rfl d) (⟨1024 + (place 1024 (by omega) d).val, by omega⟩ : Fin 3072) k) := by
  refine (val_main_v16_apply x1 x2 (ix2 i d)).trans ?_
  refine Finset.sum_congr rfl fun k _ => ?_
  rw [val_main_v15_apply, val_main_v6_apply, val_main_v3_apply, val_main_v2_apply]
  refine congrArg₂ (fun x y : EReal => x * y) (congrArg x2 (at2 _ _ _ rfl rfl)) (congrArg x1 (at3 _ _ _ _ ?_ ?_ ?_))
  · show (d.val * 1024 + k.val) / 1048576 = d.val / 1024; omega
  · show 1024 + (d.val * 1024 + k.val) / 1024 % 1024 = 1024 + d.val % 1024; omega
  · show (d.val * 1024 + k.val) % 1024 = k.val; omega

/-- Its ReLU is that of the first product. -/
theorem ref_relu (x0 : (⟨S4096x1024, .bf16⟩ : BufTy).Contents (Elt Ideal)) (x1 : (⟨S4x3072x1024, .bf16⟩ : BufTy).Contents (Elt Ideal)) :
    val_main_v9 (F := Ideal) x0 x1 = Reference8Ideal.Read.val_main_v9 x0 x1 := rfl

/-- The reference's result, of its product and the entry of its ReLU. -/
theorem ref_at (x0 : (⟨S4096x1024, .bf16⟩ : BufTy).Contents (Elt Ideal)) (x1 : (⟨S4x3072x1024, .bf16⟩ : BufTy).Contents (Elt Ideal))
    (x2 : (⟨S4096x1024, .bf16⟩ : BufTy).Contents (Elt Ideal)) (y : S4096x4096.Idx) :
    (val_main_v22 (F := Ideal) x0 x1 x2 y : EReal) = val_main_v16 x1 x2 y * (2 * val_main_v9 x0 x1 y) := by
  have hz : (FloatOps.ofBits (F := Ideal) .f32 0x00000000#32 : EReal) = 0 := Ideal.ofBits_zero .f32
  have hr : (val_main_v9 (F := Ideal) x0 x1 y : EReal) = max (val_main_v8 x0 x1 y) 0 := by
    rw [val_main_v9_apply, val_main_call0_v0_apply, val_main_call0_cst_apply]
    exact congrArg (fun z : EReal => max _ z) hz
  rw [val_main_v22_apply, val_main_v21_apply, val_main_v11_apply, val_main_v10_apply, val_main_cst_apply, val_main_v20_apply,
    val_main_cst_1_apply, val_main_v19_apply, val_main_v17_apply, val_main_v18_apply, hr]
  generalize val_main_v8 (F := Ideal) x0 x1 y = s
  generalize val_main_v16 (F := Ideal) x1 x2 y = g
  refine Eq.trans ?_ (gate s g).symm
  show Scalar.select (Ideal.cmp .ogt s (Ideal.ofBits .f32 0#32)) (max s 0 * g + g * max s 0) (Ideal.ofBits .f32 0#32) = _
  rw [Ideal.ofBits_zero .f32, Ideal.cmp_ogt]
  by_cases h : 0 < s
  · rw [if_pos h, decide_eq_true h]; rfl
  · rw [if_neg h, decide_eq_false h]; rfl

end

/-! ## The claims -/

/-- The reference leaves its arguments unchanged and every counter at zero. -/
theorem ref_frame : quiescent_Reference5Ideal (hReference5Ideal := Reference5Ideal.Gen.facts) := fun m ρ _ =>
  (θ_run Reference5Ideal.defs _ _).mono
    (fun r h => ⟨fun c => (h c).2, sem_eq_zero_of_no_sems (by decide) r.2⟩)
    (Reference5Ideal.Value.run m ρ)

/-- The kernel's result is the reference's. -/
theorem algebraic : algebraic_Kernel5Ideal_Reference5Ideal (hKernel5Ideal := Kernel5Ideal.Gen.facts)
    (hReference5Ideal := Reference5Ideal.Gen.facts) := by
  intro m g m' g' _ hargs
  refine ⟨fun c => G m c, ?_, ?_⟩
  · refine (θ_run Kernel5Ideal.defs _ _).mono (fun r h c => ?_) (Kernel5Ideal.Value.run_blocks m g)
    exact ⟨(h c).1.trans (array m c), (h c).2⟩
  · refine (θ_run Reference5Ideal.defs _ _).mono (fun r h c => ?_) (Reference5Ideal.Value.run m' g')
    obtain ⟨a0, a1, a2⟩ := hargs c
    refine ⟨(h c).1.trans ((Reference5Ideal.Read.val_main_v22_eq _ _ _).trans ?_), (h c).2⟩
    rw [a0, a1, a2]
    funext y
    have hy : y = ix2 (y 0) (y 1) := at2 (a := 4096) (b := 4096) y (y 0) (y 1) rfl rfl
    refine (ref_at _ _ _ y).trans (congrArg₂ (fun x y : EReal => x * (2 * y)) ?_ ?_)
    · exact (congrArg _ hy).trans (ref_prod _ _ _ _)
    · exact (congrFun (ref_relu _ _) y).trans ((congrArg _ hy).trans (Up.ref_at _ _ _ _))

end Cert.Proof.DownT

end
-- ==== Proof.UpG.lean ====
/- The gradient of the first product of the MLP's weights, put beside that of the second's: the kernel's array, the reference's,
   and their equality. -/
module

public import proofs.«01_k».proof.Defs
public import proofs.«01_k».proof.Proof.Gen.Kernel6Ideal.Value
public import proofs.«01_k».proof.Proof.Gen.Reference6Ideal.Read
public import proofs.«01_k».proof.Proof.Index
public import Idealize.ShloMosaic.Lib.Pointwise
public import Idealize.ShloMosaic.Lib.WholeRead
public import Idealize.ShloMosaic.Adequacy
public import Idealize.ShloMosaic.Init

@[expose] public section

set_option maxRecDepth 16384

noncomputable section

namespace Cert.Proof.UpG

open Cert.Kernel6Ideal Cert.Kernel6Ideal.Gen Cert.Kernel6Ideal.Value Idealize.ShloMosaic Idealize.ShloMosaic.TcCoe Idealize.SL.Sem
open Cert.Proof.Index
open Idealize.ShloMosaic.Pipeline (Dat)

/-- The gradient of the weights: of row `a`, and of column `d` of the block of chip `j`. -/
def grad (h : Fin 4096 → Fin 1024 → EReal) (p : Fin 4096 → Fin 4096 → EReal) (j : Fin 4) (a d : Fin 1024) : EReal :=
  ∑ i, h i a * p i (part 1024 rfl j d)

/-! ## The kernel -/

/-- What a point stores: the product of its blocks. -/
theorem pay_at (x0 x1 : Vec Ideal S4096x1024 .bf16) (z : Fin 1) (a d : Fin 1024) :
    k0_pay1 x1 x0 (ix3 z a d) = ∑ i : Fin 4096, x0 (ix2 i a) * x1 (ix2 i d) := by
  unfold k0_pay1
  pointwise [dot_S4096x1024_S4096x1024_S1024x1024_0_0_1_1_n_n]

section
variable (x0 x1 : Vec Ideal S4096x1024 .bf16)
variable (c : Dev nD) (i : grid0.Coords) (arg3 : Memref sig .tc .vmem S4096x1024 .bf16) (harg3 : arg3.IsWhole) (arg4 : Memref sig .tc .vmem S4096x1024 .bf16) (harg4 : arg4.IsWhole)
  (arg6 : Memref sig .tc .vmem S1x1024x1024 .bf16) (harg6 : arg6.IsWhole)

/-- What a point stores is the product of its blocks. -/
theorem out_eq (z : Fin 1) (a d : Fin 1024) :
    out0_A_2 c i arg3 harg3 arg4 harg4 arg6 harg6 x0 x1 (ix3 z a d) = ∑ i : Fin 4096, x0 (ix2 i a) * x1 (ix2 i d) := by
  have hc := cover0_A_2 c i arg3 harg3 arg4 harg4 arg6 harg6 x0 x1 (ix3 z a d)
  unfold out0_A_2
  rw [View.read_writes_junk_apply_eq_canon]
  refine View.canon_apply_of_pieces (fun y : S1x1024x1024.Idx => ∑ i : Fin 4096, (x0 (ix2 i (y 1)) * x1 (ix2 i (y 2)) : EReal)) _ ?_ (ix3 z a d) hc
  unfold kernelRun0_A
  dsimp only
  refine List.forall_mem_cons.2 ⟨fun x => ?_, List.forall_mem_nil _⟩
  obtain ⟨o, p, q, rfl⟩ : ∃ (o : Fin 1) (p q : Fin 1024), x = ix3 o p q := ⟨x 0, x 1, x 2, eq_ix3 x⟩
  have e : (Rect.unit (s := S1x1024x1024) ![0, 0, 0] S1x1024x1024.size inb_S1x1024x1024_S1x1024x1024_0_0_0).emb (ix3 o p q) = ix3 o p q :=
    at3 _ _ _ _ (by show 0 + 1 * o.val = o.val; omega) (by show 0 + 1 * p.val = p.val; omega) (by show 0 + 1 * q.val = q.val; omega)
  refine Eq.trans ?_ (congrArg (fun y : S1x1024x1024.Idx => ∑ i : Fin 4096, (x0 (ix2 i (y 1)) * x1 (ix2 i (y 2)) : EReal)) e).symm
  refine (pay_at _ _ o p q).trans (Finset.sum_congr rfl fun k _ => congrArg₂ (fun x y : EReal => x * y) ?_ ?_)
  · exact (harg3.readAt_unread x0 _ _).trans (congrArg x0 (at2 _ _ _ (by show 0 + 1 * k.val = k.val; omega) (by show 0 + 1 * p.val = p.val; omega)))
  · exact (harg4.readAt_unread x1 _ _).trans (congrArg x1 (at2 _ _ _ (by show 0 + 1 * k.val = k.val; omega) (by show 0 + 1 * q.val = q.val; omega)))

end

variable (m : (ℓ : Loc nD τ sig) → Buf (Elt Ideal) ℓ) (c : Dev nD)

/-- The rows of h. -/
def H : Fin 4096 → Fin 1024 → EReal := fun i a => (m ((c : Thread nD τ).loc main_arg0) : S4096x1024.Idx → EReal) (ix2 i a)
/-- The rows of the incoming gradient. -/
def P : Fin 4096 → Fin 4096 → EReal := fun i a => (m ((c : Thread nD τ).loc main_arg1) : S4096x4096.Idx → EReal) (ix2 i a)
/-- What each chip held before. -/
def B : S4x2048x1024.Idx → EReal := m ((c : Thread nD τ).loc main_arg2)

/-- The result: the first thousand rows of each chip as before, then the gradient. -/
def G (y : S4x2048x1024.Idx) : EReal :=
  if h : (y 1).val < 1024 then B m c y else grad (H m c) (P m c) (y 0) ⟨(y 1).val - 1024, by have : (y 1).val < 2048 := (y 1).isLt; omega⟩ (y 2)

/-- What the line before the call leaves for it: what each chip held. -/
theorem before : (V m c main_v0 : S4x2048x1024.Idx → EReal) = B m c := by
  show StableHlo.after hostOps0 _ (Proc.devRef .tc main_v0) = _
  simp only [hostOps0]
  after_results
  rfl

/-- Where the blocks of a point lie. -/
theorem places (t : Fin cfg0.N) : (win0_0.index t 0 = 0 ∧ win0_0.index t 1 = 0) ∧ (win0_1.index t 0 = 0 ∧ win0_1.index t 1 = t.val)
    ∧ win0_2.index t 0 = t.val ∧ win0_2.index t 1 = 1 ∧ win0_2.index t 2 = 0 := by
  revert t
  decide +kernel

/-- The block of h at a point: all of it. -/
theorem block_h (t : Fin cfg0.N) (i : Fin 4096) (a : Fin 1024) : (iblk m c 0 t : S4096x1024.Idx → EReal) (ix2 i a) = H m c i a := by
  obtain ⟨⟨h0, h1⟩, -, -⟩ := places t
  unfold iblk H
  rw [View.read_apply]
  refine (congrFun (V_main_arg0 m c) _).trans (congrArg (m ((c : Thread nD τ).loc main_arg0) : S4096x1024.Idx → EReal) (at2 _ _ _ ?_ ?_))
  · show win0_0.index t 0 * 4096 + 1 * i.val = i.val; rw [h0]; omega
  · show win0_0.index t 1 * 1024 + 1 * a.val = a.val; rw [h1]; omega

/-- The block of the incoming gradient at a point: the columns of its chip. -/
theorem block_p (t : Fin cfg0.N) (j : Fin 4) (hj : t.val = j.val) (i : Fin 4096) (a : Fin 1024) :
    (iblk m c 1 t : S4096x1024.Idx → EReal) (ix2 i a) = P m c i (part 1024 rfl j a) := by
  obtain ⟨-, ⟨h0, h1⟩, -⟩ := places t
  unfold iblk P
  rw [View.read_apply]
  refine (congrFun (V_main_arg1 m c) _).trans (congrArg (m ((c : Thread nD τ).loc main_arg1) : S4096x4096.Idx → EReal) (at2 _ _ _ ?_ ?_))
  · show win0_1.index t 0 * 4096 + 1 * i.val = i.val; rw [h0]; omega
  · show win0_1.index t 1 * 1024 + 1 * a.val = j.val * 1024 + a.val; rw [h1]; omega

/-- Every point writes its block back. -/
theorem flushes (t : Fin cfg0.N) : (cfg0.win 2).flush t = true := by
  revert t
  decide +kernel

/-- What a point writes back, and where. -/
theorem written (t : Fin cfg0.N) (j : Fin 4) (hj : t.val = j.val) (a d : Fin 1024) :
    (dats m 0 c).arrAt 2 cfg0.N (ix3 j (⟨1024 + a.val, by omega⟩ : Fin 2048) d) = grad (H m c) (P m c) j a d := by
  obtain ⟨-, -, h0, h1, h2⟩ := places t
  have hy : ((cfg0.win 2).blk t).view.emb (ix3 (0 : Fin 1) a d) = ix3 j (⟨1024 + a.val, by omega⟩ : Fin 2048) d := by
    refine at3 (a := 4) (b := 2048) (c := 1024) _ _ _ _ ?_ ?_ ?_
    · show win0_2.index t 0 * 1 + 1 * 0 = j.val; rw [h0]; omega
    · show win0_2.index t 1 * 1024 + 1 * a.val = 1024 + a.val; rw [h1]; omega
    · show win0_2.index t 2 * 1024 + 1 * d.val = d.val; rw [h2]; omega
  have hb := congrFun (blocks2 m c t (flushes t)) (ix3 (0 : Fin 1) a d)
  rw [View.read_apply] at hb
  refine (congrArg ((dats m 0 c).arrAt 2 cfg0.N) hy).symm.trans (hb.trans ?_)
  rw [flushed2_A m c t]
  refine (out_eq _ _ c _ _ _ _ _ _ _ 0 a d).trans ?_
  exact Finset.sum_congr rfl fun i _ => congrArg₂ (fun x y : EReal => x * y) (block_h m c t i _) (block_p m c t j hj i _)

/-- The array at the end. -/
theorem array : (dats m 0 c).arrAt 2 cfg0.N = G m c := by
  funext y
  have hy : (y 1).val < 2048 := (y 1).isLt
  unfold G
  by_cases h : (y 1).val < 1024
  · rw [dif_pos h]
    refine (entry2 m c y fun t _ hm => ?_).trans (congrFun (before m c) y)
    obtain ⟨-, -, h0, h1, h2⟩ := places t
    rw [View.set, Finset.mem_map] at hm
    obtain ⟨x, -, hx⟩ := hm
    have : win0_2.index t 1 * 1024 + 1 * (x 1).val = (y 1).val := congrArg (fun z : S4x2048x1024.Idx => (z 1).val) hx
    rw [h1] at this
    omega
  · rw [dif_neg h]
    refine Eq.trans (congrArg _ (at3 (a := 4) (b := 2048) (c := 1024) y (y 0) (⟨1024 + ((y 1).val - 1024), by omega⟩ : Fin 2048) (y 2) rfl
      (by show (y 1).val = 1024 + ((y 1).val - 1024); omega) rfl))
      (written m c (⟨(y 0).val, (y 0).isLt⟩ : Fin cfg0.N) (y 0) rfl ⟨(y 1).val - 1024, by omega⟩ (y 2))

/-! ## The reference -/

section
open Cert.Reference6Ideal.Read

/-- The reference's gradient. -/
theorem ref_grad (x0 : (⟨S4096x1024, .bf16⟩ : BufTy).Contents (Elt Ideal)) (x1 : (⟨S4096x4096, .bf16⟩ : BufTy).Contents (Elt Ideal))
    (j : Fin 4) (a d : Fin 1024) :
    val_main_v8 (F := Ideal) x0 x1 (ix3 j a d) = ∑ i : Fin 4096, (x0 (ix2 i a) : EReal) * x1 (ix2 i (part 1024 rfl j d)) := by
  rw [val_main_v8_apply, val_main_v7_apply, val_main_v6_apply, val_main_v5_apply, val_main_v4_apply]
  refine Finset.sum_congr rfl fun i _ => ?_
  rw [val_main_v3_apply, val_main_v1_apply]
  refine (mul_comm _ _).trans (congrArg₂ (fun x y : EReal => x * y) (congrArg x0 (at2 _ _ _ rfl ?_)) (congrArg x1 (at2 _ _ _ rfl ?_)))
  · show ((a.val * 4 + j.val) * 1024 + d.val) / 4096 = a.val; omega
  · show ((a.val * 4 + j.val) * 1024 + d.val) % 4096 = j.val * 1024 + d.val; omega

/-- The reference's result. -/
theorem ref_eq : val_main_v10 (F := Ideal) (m ((c : Thread nD τ).loc main_arg0)) (m ((c : Thread nD τ).loc main_arg1))
    (m ((c : Thread nD τ).loc main_arg2)) = G m c := by
  funext y
  have hy : (y 1).val < 2048 := (y 1).isLt
  unfold G val_main_v10
  by_cases h : (y 1).val < 1024
  · rw [dif_pos h]
    refine (concatenate_pair_apply_left (s₁ := Reference6Ideal.S4x1024x1024) (t := S4x2048x1024) 1 _ _ _ y rfl (ix3 (y 0) (⟨(y 1).val, h⟩ : Fin 1024) (y 2)) ?_).trans ?_
    · intro b
      match b with
      | ⟨0, _⟩ => rfl
      | ⟨1, _⟩ => rfl
      | ⟨2, _⟩ => rfl
    · rw [val_main_v9_apply]
      refine congrArg (B m c) (Eq.trans ?_ (at3 (a := 4) (b := 2048) (c := 1024) y (y 0) (y 1) (y 2) rfl rfl rfl).symm)
      exact at3 (a := 4) (b := 2048) (c := 1024) _ (y 0) (y 1) (y 2) rfl rfl rfl
  · rw [dif_neg h]
    refine (concatenate_pair_apply_right (s₁ := Reference6Ideal.S4x1024x1024) (s₂ := Reference6Ideal.S4x1024x1024) (t := S4x2048x1024) 1 _ _ _ y rfl rfl
      (ix3 (y 0) (⟨(y 1).val - 1024, by omega⟩ : Fin 1024) (y 2)) ?_ ?_).trans ?_
    · intro b hb
      match b with
      | ⟨0, _⟩ => rfl
      | ⟨1, _⟩ => exact absurd rfl hb
      | ⟨2, _⟩ => rfl
    · show (y 1).val - 1024 + 1024 = (y 1).val; omega
    · exact ref_grad _ _ _ _ _

end

/-! ## The claims -/

/-- The reference leaves its arguments unchanged and every counter at zero. -/
theorem ref_frame : quiescent_Reference6Ideal (hReference6Ideal := Reference6Ideal.Gen.facts) := fun m ρ _ =>
  (θ_run Reference6Ideal.defs _ _).mono
    (fun r h => ⟨fun c => (h c).2, sem_eq_zero_of_no_sems (by decide) r.2⟩)
    (Reference6Ideal.Value.run m ρ)

/-- The kernel's result is the reference's. -/
theorem algebraic : algebraic_Kernel6Ideal_Reference6Ideal (hKernel6Ideal := Kernel6Ideal.Gen.facts)
    (hReference6Ideal := Reference6Ideal.Gen.facts) := by
  intro m g m' g' _ hargs
  refine ⟨fun c => G m c, ?_, ?_⟩
  · refine (θ_run Kernel6Ideal.defs _ _).mono (fun r h c => ?_) (Kernel6Ideal.Value.run_blocks m g)
    exact ⟨(h c).1.trans (array m c), (h c).2⟩
  · refine (θ_run Reference6Ideal.defs _ _).mono (fun r h c => ?_) (Reference6Ideal.Value.run m' g')
    obtain ⟨a0, a1, a2⟩ := hargs c
    refine ⟨(h c).1.trans ((Reference6Ideal.Read.val_main_v10_eq _ _ _).trans ?_), (h c).2⟩
    rw [a0, a1, a2]
    exact ref_eq m c

end Cert.Proof.UpG

end
-- ==== Proof.UpT.lean ====
/- The gradient at the entry of the first product of the MLP, with that of the residual added: the kernel's array, the
   reference's, and their equality. -/
module

public import proofs.«01_k».proof.Defs
public import proofs.«01_k».proof.Proof.Gen.Kernel7Ideal.Value
public import proofs.«01_k».proof.Proof.Gen.Reference7Ideal.Read
public import proofs.«01_k».proof.Proof.Index
public import proofs.«01_k».proof.Proof.InputT
public import Idealize.ShloMosaic.Lib.Pointwise
public import Idealize.ShloMosaic.Lib.WholeRead
public import Idealize.ShloMosaic.Adequacy
public import Idealize.ShloMosaic.Init

@[expose] public section

set_option maxRecDepth 16384

noncomputable section

namespace Cert.Proof.UpT

open Cert.Kernel7Ideal Cert.Kernel7Ideal.Gen Cert.Kernel7Ideal.Value Idealize.ShloMosaic Idealize.ShloMosaic.TcCoe Idealize.SL.Sem
open Cert.Proof.Index
open Idealize.ShloMosaic.Pipeline (Dat)

/-! ## The kernel -/

section
variable (v0 v4 v9 v14 : Vec Ideal S512x1024 .bf16) (v1 v5 v10 v15 : Vec Ideal S1x1024x1024 .bf16) (v19 : Vec Ideal S512x1024 .bf16)

/-- What a point stores: the sum of the products of its parts, and the scaled residual. -/
theorem pay_at (i : Fin 512) (d : Fin 1024) :
    k0_pay1 v0 v1 v4 v5 v9 v10 v14 v15 v19 (ix2 i d) = (∑ k : Fin 1024, v0 (ix2 i k) * v1 (ix3 (0 : Fin 1) d k))
      + (∑ k : Fin 1024, v4 (ix2 i k) * v5 (ix3 (0 : Fin 1) d k)) + (∑ k : Fin 1024, v9 (ix2 i k) * v10 (ix3 (0 : Fin 1) d k))
      + (∑ k : Fin 1024, v14 (ix2 i k) * v15 (ix3 (0 : Fin 1) d k)) + InputT.alpha * v19 (ix2 i d) := by
  unfold k0_pay1
  pointwise [dot_S512x1024_S1024x1024_S512x1024_1_1_0_0_n_n]
  rfl

end

/-- A point's block. -/
def block (x0 : Vec Ideal S512x4096 .bf16) (x1 : Vec Ideal S4x1024x1024 .bf16) (x2 : Vec Ideal S512x1024 .bf16)
    (i : Fin 512) (d : Fin 1024) : EReal :=
  (∑ j : Fin 4, ∑ k : Fin 1024, x0 (ix2 i (part 1024 rfl j k)) * x1 (ix3 j d k)) + InputT.alpha * x2 (ix2 i d)

section
variable (x0 : Vec Ideal S512x4096 .bf16) (x1 : Vec Ideal S4x1024x1024 .bf16) (x2 : Vec Ideal S512x1024 .bf16)

/-- A part of a block's product, as a point reads it. -/
theorem read_part (arg3 : Memref sig .tc .vmem S512x4096 .bf16) (h3 : arg3.IsWhole) (arg4 : Memref sig .tc .vmem S4x1024x1024 .bf16) (h4 : arg4.IsWhole)
    (j : Fin 4) (o j' : Nat) (ho : o = j.val * 1024) (hj : j' = j.val) (inb : ∀ b, ![0, o] b + S512x1024.size b ≤ S512x4096.size b)
    (inb' : ∀ b, ![j', 0, 0] b + S1x1024x1024.size b ≤ S4x1024x1024.size b) (i : Fin 512) (d : Fin 1024) :
    ∑ k : Fin 1024, (View.readAt (Elt Ideal) arg3.view (Rect.unit (s := S512x4096) ![0, o] S512x1024.size inb).toLoadRect (h3.unread x0) (ix2 i k) : EReal)
        * View.readAt (Elt Ideal) arg4.view (Rect.unit (s := S4x1024x1024) ![j', 0, 0] S1x1024x1024.size inb').toLoadRect (h4.unread x1) (ix3 (0 : Fin 1) d k)
      = ∑ k : Fin 1024, x0 (ix2 i (part 1024 rfl j k)) * x1 (ix3 j d k) := by
  refine Finset.sum_congr rfl fun k _ => congrArg₂ (fun x y : EReal => x * y) ?_ ?_
  · refine (h3.readAt_unread x0 _ _).trans (congrArg x0 (at2 _ _ _ ?_ ?_))
    · show 0 + 1 * i.val = i.val; omega
    · show o + 1 * k.val = j.val * 1024 + k.val; omega
  · refine (h4.readAt_unread x1 _ _).trans (congrArg x1 (at3 _ _ _ _ ?_ ?_ ?_))
    · show j' + 1 * 0 = j.val; omega
    · show 0 + 1 * d.val = d.val; omega
    · show 0 + 1 * k.val = k.val; omega

variable (c : Dev nD) (i : grid0.Coords) (arg3 : Memref sig .tc .vmem S512x4096 .bf16) (harg3 : arg3.IsWhole) (arg4 : Memref sig .tc .vmem S4x1024x1024 .bf16) (harg4 : arg4.IsWhole)
  (arg5 : Memref sig .tc .vmem S512x1024 .bf16) (harg5 : arg5.IsWhole) (arg7 : Memref sig .tc .vmem S512x1024 .f32) (harg7 : arg7.IsWhole)

/-- What a point stores is its block. -/
theorem out_eq (y : S512x1024.Idx) :
    out0_A_3 c i arg3 harg3 arg4 harg4 arg5 harg5 arg7 harg7 x0 x1 x2 y = block x0 x1 x2 (y 0) (y 1) := by
  have hc := cover0_A_3 c i arg3 harg3 arg4 harg4 arg5 harg5 arg7 harg7 x0 x1 x2 y
  unfold out0_A_3
  rw [View.read_writes_junk_apply_eq_canon]
  refine View.canon_apply_of_pieces (fun y => block x0 x1 x2 (y 0) (y 1)) _ ?_ y hc
  unfold kernelRun0_A
  dsimp only
  refine List.forall_mem_cons.2 ⟨fun x => ?_, List.forall_mem_nil _⟩
  obtain ⟨p, q, rfl⟩ : ∃ (p : Fin 512) (q : Fin 1024), x = ix2 p q := ⟨x 0, x 1, eq_ix2 x⟩
  have e : (Rect.unit (s := S512x1024) ![0, 0] S512x1024.size inb_S512x1024_S512x1024_0_0).emb (ix2 p q) = ix2 p q :=
    at2 _ _ _ (by show 0 + 1 * p.val = p.val; omega) (by show 0 + 1 * q.val = q.val; omega)
  refine Eq.trans ?_ (congrArg (fun y : S512x1024.Idx => block x0 x1 x2 (y 0) (y 1)) e).symm
  refine (pay_at _ _ _ _ _ _ _ _ _ p q).trans ?_
  show _ = (∑ j : Fin 4, ∑ k : Fin 1024, x0 (ix2 p (part 1024 rfl j k)) * x1 (ix3 j q k)) + InputT.alpha * x2 (ix2 p q)
  rw [Fin.sum_univ_four]
  refine congrArg₂ (fun a b : EReal => a + b) (congrArg₂ (fun a b : EReal => a + b) (congrArg₂ (fun a b : EReal => a + b)
    (congrArg₂ (fun a b : EReal => a + b) ?_ ?_) ?_) ?_) (congrArg (fun a : EReal => InputT.alpha * a) ?_)
  · exact read_part x0 x1 arg3 harg3 arg4 harg4 0 0 0 rfl rfl _ _ p q
  · exact read_part x0 x1 arg3 harg3 arg4 harg4 1 1024 1 rfl rfl _ _ p q
  · exact read_part x0 x1 arg3 harg3 arg4 harg4 2 2048 2 rfl rfl _ _ p q
  · exact read_part x0 x1 arg3 harg3 arg4 harg4 3 3072 3 rfl rfl _ _ p q
  · exact (harg5.readAt_unread x2 _ _).trans (congrArg x2 e)

end

variable (m : (ℓ : Loc nD τ sig) → Buf (Elt Ideal) ℓ) (c : Dev nD)

/-- The rows of the incoming gradient. -/
def P : Fin 4096 → Fin 4096 → EReal := fun i a => (m ((c : Thread nD τ).loc main_arg0) : S4096x4096.Idx → EReal) (ix2 i a)
/-- The weights, by chip: the last thousand rows of what it holds. -/
def W : Fin 4 → Fin 1024 → Fin 1024 → EReal := fun j a d =>
  (m ((c : Thread nD τ).loc main_arg1) : S4x3072x1024.Idx → EReal) (ix3 j (⟨2048 + a.val, by omega⟩ : Fin 3072) d)
/-- The rows of the residual's gradient. -/
def R : Fin 4096 → Fin 1024 → EReal := fun i a => (m ((c : Thread nD τ).loc main_arg2) : S4096x1024.Idx → EReal) (ix2 i a)

/-- The result. -/
def G (y : S4096x1024.Idx) : EReal := InputT.grad 1024 rfl (P m c) (W m c) (R m c) (y 0) (y 1)

/-- Where the blocks of a point lie. -/
theorem places (t : Fin cfg0.N) : (win0_0.index t 0 = t.val ∧ win0_0.index t 1 = 0)
    ∧ (win0_1.index t 0 = 0 ∧ win0_1.index t 1 = 2 ∧ win0_1.index t 2 = 0)
    ∧ (win0_2.index t 0 = t.val ∧ win0_2.index t 1 = 0)
    ∧ win0_3.index t 0 = t.val ∧ win0_3.index t 1 = 0 := by
  revert t
  decide +kernel

/-- The block of the incoming gradient at a point. -/
theorem block_p (t : Fin cfg0.N) (r : Fin 8) (hr : t.val = r.val) (i : Fin 512) (a : Fin 4096) :
    (iblk m c 0 t : S512x4096.Idx → EReal) (ix2 i a) = P m c (part 512 rfl r i) a := by
  obtain ⟨⟨h0, h1⟩, -⟩ := places t
  unfold iblk P
  rw [View.read_apply]
  refine congrArg (m ((c : Thread nD τ).loc main_arg0) : S4096x4096.Idx → EReal) (at2 _ _ _ ?_ ?_)
  · show win0_0.index t 0 * 512 + 1 * i.val = r.val * 512 + i.val; rw [h0]; omega
  · show win0_0.index t 1 * 4096 + 1 * a.val = a.val; rw [h1]; omega

/-- The block of the weights at a point: all of them. -/
theorem block_w (t : Fin cfg0.N) (j : Fin 4) (a : Fin 1024) (d : Fin 1024) :
    (iblk m c 1 t : S4x1024x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 1024 + 1 * a.val = 2048 + a.val; rw [h1]; omega
  · show win0_1.index t 2 * 1024 + 1 * d.val = d.val; rw [h2]; omega

/-- The block of the residual's gradient at a point. -/
theorem block_r (t : Fin cfg0.N) (r : Fin 8) (hr : t.val = r.val) (i : Fin 512) (a : Fin 1024) :
    (iblk m c 2 t : S512x1024.Idx → EReal) (ix2 i a) = R m c (part 512 rfl r i) a := by
  obtain ⟨-, -, ⟨h0, h1⟩, -⟩ := places t
  unfold iblk R
  rw [View.read_apply]
  refine congrArg (m ((c : Thread nD τ).loc main_arg2) : S4096x1024.Idx → EReal) (at2 _ _ _ ?_ ?_)
  · show win0_2.index t 0 * 512 + 1 * i.val = r.val * 512 + i.val; rw [h0]; omega
  · show win0_2.index t 1 * 1024 + 1 * a.val = a.val; rw [h1]; omega

/-- The array at the end. -/
theorem array : (dats m 0 c).arrAt 3 cfg0.N = G m c := by
  refine (dats m 0 c).arrAt_eq_of_cover 3 (G m c) (fun t _ => ?_) (reached win0_3)
  obtain ⟨-, -, -, h0, h1⟩ := places t
  have ht : t.val < 8 := t.isLt
  rw [flushed3_A m c t]
  funext x
  have hy : ((cfg0.win 3).blk t).view.emb x = ix2 (part (n := 4096) (k := 8) 512 rfl ⟨t.val, ht⟩ (x 0)) (x 1) := by
    refine at2 (a := 4096) (b := 1024) _ _ _ ?_ ?_
    · show win0_3.index t 0 * 512 + 1 * (x 0).val = t.val * 512 + (x 0).val; rw [h0]; omega
    · show win0_3.index t 1 * 1024 + 1 * (x 1).val = (x 1).val; rw [h1]; omega
  refine Eq.trans ?_ (congrArg (G m c) hy).symm
  refine (out_eq _ _ _ c _ _ _ _ _ _ _ _ _ x).trans (congrArg₂ (fun a b : EReal => a + InputT.alpha * b) ?_ (block_r m c t ⟨t.val, ht⟩ rfl (x 0) (x 1)))
  exact Finset.sum_congr rfl fun j _ => Finset.sum_congr rfl fun k _ => congrArg₂ (fun a b : EReal => a * b)
    (block_p m c t ⟨t.val, ht⟩ rfl (x 0) (part 1024 rfl j k)) (block_w m c t j (x 1) k)

/-! ## The reference -/

section
open Cert.Reference7Ideal.Read

/-- The reference's result. -/
theorem ref_at (x0 : (⟨S4096x4096, .bf16⟩ : BufTy).Contents (Elt Ideal)) (x1 : (⟨S4x3072x1024, .bf16⟩ : BufTy).Contents (Elt Ideal))
    (x2 : (⟨S4096x1024, .bf16⟩ : BufTy).Contents (Elt Ideal)) (i : Fin 4096) (d : Fin 1024) :
    (val_main_v16 (F := Ideal) x0 x1 x2 (ix2 i d) : EReal)
      = InputT.alpha * x2 (ix2 i d) + ∑ k : Fin 4096, (x0 (ix2 i k) : EReal) * x1 (ix3 (chip 1024 rfl k) (⟨2048 + d.val, by omega⟩ : Fin 3072) (place 1024 (by omega) k)) := by
  rw [val_main_v16_apply, val_main_v14_apply, val_main_v13_apply, val_main_cst_1_apply, val_main_v12_apply]
  refine congrArg (fun a : EReal => InputT.alpha * x2 (ix2 i d) + a) ((val_main_v15_apply x0 x1 (ix2 i d)).trans ?_)
  refine Finset.sum_congr rfl fun k _ => ?_
  rw [val_main_v11_apply, val_main_v5_apply, val_main_v4_apply, val_main_v1_apply, val_main_v0_apply]
  refine congrArg₂ (fun x y : EReal => x * y) (congrArg x0 (at2 _ _ _ rfl rfl)) (congrArg x1 (at3 _ _ _ _ ?_ ?_ ?_))
  · show (d.val * 4096 + k.val) / 1024 % 4 = k.val / 1024; omega
  · show 2048 + (d.val * 4096 + k.val) / 4096 = 2048 + d.val; omega
  · show (d.val * 4096 + k.val) % 1024 = k.val % 1024; omega

end

/-! ## The claims -/

/-- The reference leaves its arguments unchanged and every counter at zero. -/
theorem ref_frame : quiescent_Reference7Ideal (hReference7Ideal := Reference7Ideal.Gen.facts) := fun m ρ _ =>
  (θ_run Reference7Ideal.defs _ _).mono
    (fun r h => ⟨fun c => (h c).2, sem_eq_zero_of_no_sems (by decide) r.2⟩)
    (Reference7Ideal.Value.run m ρ)

/-- The kernel's result is the reference's. -/
theorem algebraic : algebraic_Kernel7Ideal_Reference7Ideal (hKernel7Ideal := Kernel7Ideal.Gen.facts)
    (hReference7Ideal := Reference7Ideal.Gen.facts) := by
  intro m g m' g' _ hargs
  refine ⟨fun c => G m c, ?_, ?_⟩
  · refine (θ_run Kernel7Ideal.defs _ _).mono (fun r h c => ?_) (Kernel7Ideal.Value.run_blocks m g)
    exact ⟨(h c).1.trans (array m c), (h c).2⟩
  · refine (θ_run Reference7Ideal.defs _ _).mono (fun r h c => ?_) (Reference7Ideal.Value.run m' g')
    obtain ⟨a0, a1, a2, -⟩ := hargs c
    refine ⟨(h c).1.trans ((Reference7Ideal.Read.val_main_v16_eq _ _ _).trans ?_), (h c).2⟩
    rw [a0, a1, a2]
    funext y
    exact (congrArg _ (at2 (a := 4096) (b := 1024) y (y 0) (y 1) rfl rfl)).trans
      ((ref_at _ _ _ _ _).trans (InputT.grad_eq 1024 (by omega) rfl (P m c) (W m c) (R m c) (y 0) (y 1)).symm)

end Cert.Proof.UpT

end
-- ==== Proof.Down.lean ====
/- The second product of the MLP: the kernel's array, the reference's, and their equality. -/
module

public import proofs.«01_k».proof.Defs
public import proofs.«01_k».proof.Proof.Gen.Kernel9Ideal.Value
public import proofs.«01_k».proof.Proof.Gen.Reference9Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.Down

open Cert.Kernel9Ideal Cert.Kernel9Ideal.Gen Cert.Kernel9Ideal.Value Idealize.ShloMosaic Idealize.ShloMosaic.TcCoe Idealize.SL.Sem
open Cert.Proof.Index
open Idealize.ShloMosaic.Pipeline (Dat)

/-- Row `i` of `z` times column `d` of the weights, of which each chip holds 1024 rows. -/
def prod (z : Fin 4096 → Fin 4096 → EReal) (w : Fin 4 → Fin 1024 → Fin 1024 → EReal) (i : Fin 4096) (d : Fin 1024) : EReal :=
  ∑ k, z i k * w (chip 1024 rfl k) (place 1024 (by omega) k) d

/-! ## The kernel -/

/-- What a point stores: the product of its blocks. -/
theorem pay_at (x0 : Vec Ideal S512x4096 .bf16) (x1 : Vec Ideal S4x1024x1024 .bf16) (i : Fin 512) (d : Fin 1024) :
    k0_pay1 x1 x0 (ix2 i d) = ∑ k : Fin 4096, x0 (ix2 i k) * x1 (ix3 (chip 1024 rfl k) (place 1024 (by omega) k) d) := by
  unfold k0_pay1
  pointwise [dot_S512x4096_S4096x1024_S512x1024_1_0_0_1_n_n]
  rfl

/-- A point's block is the product of its input blocks. -/
theorem out_eq (x0 : Vec Ideal S512x4096 .bf16) (x1 : Vec Ideal S4x1024x1024 .bf16) : out0_2 x0 x1 = k0_pay1 x1 x0 := by
  unfold out0_2
  rw [View.canon_unit_zero zero2, View.ld_unit_zero zero3, View.ld_unit_zero zero2]

variable (m : (ℓ : Loc nD τ sig) → Buf (Elt Ideal) ℓ) (c : Dev nD)

/-- The rows of z. -/
def Z : Fin 4096 → Fin 4096 → EReal := fun i a => (m ((c : Thread nD τ).loc main_arg0) : S4096x4096.Idx → EReal) (ix2 i a)
/-- The weights, by chip: the middle thousand rows of what it holds. -/
def W : Fin 4 → Fin 1024 → Fin 1024 → EReal := fun j a d =>
  (m ((c : Thread nD τ).loc main_arg1) : S4x3072x1024.Idx → EReal) (ix3 j (⟨1024 + a.val, by omega⟩ : Fin 3072) d)

/-- The result. -/
def G (y : S4096x1024.Idx) : EReal := prod (Z m c) (W m c) (y 0) (y 1)

/-- Where the blocks of a point lie. -/
theorem places (t : Fin cfg0.N) : (win0_0.index t 0 = t.val ∧ win0_0.index t 1 = 0)
    ∧ (win0_1.index t 0 = 0 ∧ win0_1.index t 1 = 1 ∧ win0_1.index t 2 = 0)
    ∧ win0_2.index t 0 = t.val ∧ win0_2.index t 1 = 0 := by
  revert t
  decide +kernel

/-- The block of z at a point. -/
theorem block_z (t : Fin cfg0.N) (r : Fin 8) (hr : t.val = r.val) (i : Fin 512) (a : Fin 4096) :
    (iblk m c 0 t : S512x4096.Idx → EReal) (ix2 i a) = Z m c (part 512 rfl r i) a := by
  obtain ⟨⟨h0, h1⟩, -, -⟩ := places t
  unfold iblk Z
  rw [View.read_apply]
  refine congrArg (m ((c : Thread nD τ).loc main_arg0) : S4096x4096.Idx → EReal) (at2 _ _ _ ?_ ?_)
  · show win0_0.index t 0 * 512 + 1 * i.val = r.val * 512 + i.val; rw [h0]; omega
  · show win0_0.index t 1 * 4096 + 1 * a.val = a.val; rw [h1]; omega

/-- The block of the weights at a point: all of them. -/
theorem block_w (t : Fin cfg0.N) (j : Fin 4) (a : Fin 1024) (d : Fin 1024) :
    (iblk m c 1 t : S4x1024x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 1024 + 1 * a.val = 1024 + a.val; rw [h1]; omega
  · show win0_1.index t 2 * 1024 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 8 := t.isLt
  rw [flushed2 m c t, out_eq]
  funext x
  have hx : x = ix2 (x 0) (x 1) := at2 (a := 512) (b := 1024) x (x 0) (x 1) rfl rfl
  have hy : ((cfg0.win 2).blk t).view.emb x = ix2 (part (n := 4096) (k := 8) 512 rfl ⟨t.val, ht⟩ (x 0)) (x 1) := by
    refine at2 (a := 4096) (b := 1024) _ _ _ ?_ ?_
    · show win0_2.index t 0 * 512 + 1 * (x 0).val = t.val * 512 + (x 0).val; rw [h0]; omega
    · show win0_2.index t 1 * 1024 + 1 * (x 1).val = (x 1).val; rw [h1]; omega
  refine Eq.trans ?_ (congrArg (G m c) hy).symm
  refine (congrArg (k0_pay1 _ _) hx).trans ((pay_at _ _ (x 0) (x 1)).trans ?_)
  exact Finset.sum_congr rfl fun k _ => congrArg₂ (fun x y : EReal => x * y) (block_z m c t _ rfl _ k) (block_w m c t _ _ _)

/-! ## The reference -/

section
open Cert.Reference9Ideal.Read

/-- The reference's result. -/
theorem ref_at (x0 : (⟨S4096x4096, .bf16⟩ : BufTy).Contents (Elt Ideal)) (x1 : (⟨S4x3072x1024, .bf16⟩ : BufTy).Contents (Elt Ideal))
    (i : Fin 4096) (d : Fin 1024) :
    val_main_v8 (F := Ideal) x0 x1 (ix2 i d)
      = ∑ k : Fin 4096, (x0 (ix2 i k) : EReal)
          * x1 (ix3 (chip 1024 rfl k) (⟨1024 + (place 1024 (by omega) k).val, by omega⟩ : Fin 3072) d) := by
  refine (val_main_v8_apply x0 x1 (ix2 i d)).trans ?_
  refine Finset.sum_congr rfl fun k _ => ?_
  rw [val_main_v7_apply, val_main_v6_apply, val_main_v3_apply, val_main_v2_apply]
  refine congrArg₂ (fun x y : EReal => x * y) (congrArg x0 (at2 _ _ _ rfl rfl)) (congrArg x1 (at3 _ _ _ _ ?_ ?_ ?_))
  · show (k.val * 1024 + d.val) / 1048576 = k.val / 1024; omega
  · show 1024 + (k.val * 1024 + d.val) / 1024 % 1024 = 1024 + k.val % 1024; omega
  · show (k.val * 1024 + d.val) % 1024 = d.val; omega

end

/-! ## The claims -/

/-- The reference leaves its arguments unchanged and every counter at zero. -/
theorem ref_frame : quiescent_Reference9Ideal (hReference9Ideal := Reference9Ideal.Gen.facts) := fun m ρ _ =>
  (θ_run Reference9Ideal.defs _ _).mono
    (fun r h => ⟨fun c => (h c).2, sem_eq_zero_of_no_sems (by decide) r.2⟩)
    (Reference9Ideal.Value.run m ρ)

/-- The kernel's result is the reference's. -/
theorem algebraic : algebraic_Kernel9Ideal_Reference9Ideal (hKernel9Ideal := Kernel9Ideal.Gen.facts)
    (hReference9Ideal := Reference9Ideal.Gen.facts) := by
  intro m g m' g' _ hargs
  refine ⟨fun c => G m c, ?_, ?_⟩
  · refine (θ_run Kernel9Ideal.defs _ _).mono (fun r h c => ?_) (Kernel9Ideal.Value.run_blocks m g)
    exact ⟨(h c).1.trans (array m c), (h c).2⟩
  · refine (θ_run Reference9Ideal.defs _ _).mono (fun r h c => ?_) (Reference9Ideal.Value.run m' g')
    obtain ⟨a0, a1⟩ := hargs c
    refine ⟨(h c).1.trans ((Reference9Ideal.Read.val_main_v8_eq _ _).trans ?_), (h c).2⟩
    rw [a0, a1]
    funext y
    exact (congrArg _ (at2 (a := 4096) (b := 1024) y (y 0) (y 1) rfl rfl)).trans (ref_at _ _ _ _)

end Cert.Proof.Down

end
-- ==== Proof.Merge.lean ====
/- The gradient of the mixer's gates and merge: the kernel's arrays, the reference's, and their equality. -/
module

public import proofs.«01_k».proof.Defs
public import proofs.«01_k».proof.Proof.Gen.Kernel10Ideal.Value
public import proofs.«01_k».proof.Proof.Gen.Reference10Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.Merge

open Cert.Kernel10Ideal Cert.Kernel10Ideal.Gen Cert.Kernel10Ideal.Value Idealize.ShloMosaic Idealize.ShloMosaic.TcCoe Idealize.SL.Sem
open Cert.Proof.Index
open Idealize.ShloMosaic.Pipeline (Dat)

/-! ## The gradients, at one place -/

/-- The logistic function. -/
def sg (x : EReal) : EReal := Ideal.div 1 (1 + Ideal.exp (0 - x))

/-- The gradient of the convolution branch, from the incoming gradient and its gate. -/
def gya (g a : EReal) : EReal := g * sg a
/-- The gradient of that gate, from the branch. -/
def gga (g y a : EReal) : EReal := g * y * sg a * (1 - sg a)
/-- The gradient of the other gate, from the two halves of the state-space branch. -/
def ggb (g z w b : EReal) : EReal := g * (z * sg w) * sg b * (1 - sg b)
/-- The gradient of the first half. -/
def gz (g w b : EReal) : EReal := g * sg b * sg w
/-- The gradient of the second half. -/
def gw (g z w b : EReal) : EReal := g * sg b * z * sg w * (1 - sg w)

/-- The first thousand of two thousand columns. -/
def left (a : Fin 1024) : Fin 2048 := ⟨a.val, by omega⟩
/-- The second thousand. -/
def right (a : Fin 1024) : Fin 2048 := ⟨1024 + a.val, by omega⟩
/-- The first half of a thousand columns. -/
def lo (a : Fin 512) : Fin 1024 := ⟨a.val, by omega⟩
/-- The second half. -/
def hi (a : Fin 512) : Fin 1024 := ⟨512 + a.val, by omega⟩

/-- Two thousands of columns side by side. -/
def halves (l r : Fin 1024 → EReal) (e : Fin 2048) : EReal :=
  if h : e.val < 1024 then l ⟨e.val, h⟩ else r ⟨e.val - 1024, by omega⟩

theorem halves_left (l r : Fin 1024 → EReal) (a : Fin 1024) : halves l r (left a) = l a := dif_pos a.isLt
theorem halves_right (l r : Fin 1024 → EReal) (a : Fin 1024) : halves l r (right a) = r a := by
  unfold halves right
  rw [dif_neg (by simp)]
  exact congrArg r (Fin.ext (by simp))

/-! ## The kernel -/

/-! What each stored value is, place by place. -/

section
variable (v v' v'' : Vec Ideal S512x512 .bf16) (f f' f'' f₃ : FVec Ideal S512x512 .f32) (i d : Fin 512)

theorem pay5_at : k0_pay5 v (ix2 i d) = v (ix2 i d) := by unfold k0_pay5; pointwise
theorem pay9_at : k0_pay9 v (ix2 i d) = v (ix2 i d) := by unfold k0_pay9; pointwise
theorem pay17_at : k0_pay17 v (ix2 i d) = v (ix2 i d) := by unfold k0_pay17; pointwise
theorem pay21_at : k0_pay21 v (ix2 i d) = v (ix2 i d) := by unfold k0_pay21; pointwise
theorem pay6_at : k0_pay6 v (ix2 i d) = sg (v (ix2 i d)) := by unfold k0_pay6; pointwise; rfl
theorem pay7_at : k0_pay7 v (ix2 i d) = sg (v (ix2 i d)) := by unfold k0_pay7; pointwise; rfl
theorem pay8_at : k0_pay8 v (ix2 i d) = sg (v (ix2 i d)) := by unfold k0_pay8; pointwise; rfl
theorem pay18_at : k0_pay18 v (ix2 i d) = sg (v (ix2 i d)) := by unfold k0_pay18; pointwise; rfl
theorem pay19_at : k0_pay19 v (ix2 i d) = sg (v (ix2 i d)) := by unfold k0_pay19; pointwise; rfl
theorem pay20_at : k0_pay20 v (ix2 i d) = sg (v (ix2 i d)) := by unfold k0_pay20; pointwise; rfl
theorem pay10_at : k0_pay10 v v' (ix2 i d) = v' (ix2 i d) * sg (v (ix2 i d)) := by
  rw [← pay8_at, ← pay9_at v']; unfold k0_pay10; pointwise
theorem pay11_at : k0_pay11 v v' (ix2 i d) = gya (v (ix2 i d)) (v' (ix2 i d)) := by
  unfold gya; rw [← pay5_at v, ← pay6_at]; unfold k0_pay11; pointwise
theorem pay22_at : k0_pay22 f f' (ix2 i d) = f (ix2 i d) * f' (ix2 i d) := by unfold k0_pay22; pointwise
theorem pay12_at : k0_pay12 f f' v (ix2 i d) = f (ix2 i d) * v (ix2 i d) * f' (ix2 i d) * (1 - f' (ix2 i d)) := by
  unfold k0_pay12; pointwise
theorem pay23_at : k0_pay23 f f' v (ix2 i d) = f (ix2 i d) * v (ix2 i d) * f' (ix2 i d) * (1 - f' (ix2 i d)) := by
  unfold k0_pay23; pointwise
theorem pay13_at : k0_pay13 f f' f'' (ix2 i d) = f (ix2 i d) * f'' (ix2 i d) * f' (ix2 i d) * (1 - f' (ix2 i d)) := by
  unfold k0_pay13; pointwise
theorem pay24_at : k0_pay1 (k0_pay24 f v v' v'') (ix2 i d)
    = f (ix2 i d) * (v'' (ix2 i d) * sg (v' (ix2 i d))) * sg (v (ix2 i d)) * (1 - sg (v (ix2 i d))) := by
  rw [← pay19_at v, ← pay20_at v', ← pay21_at v'']; unfold k0_pay1 k0_pay24; pointwise
theorem pay15_at : k0_pay15 f f' f'' (ix2 i d) = f (ix2 i d) * f' (ix2 i d) * f'' (ix2 i d) := by
  unfold k0_pay15 k0_pay14; pointwise
theorem pay3_at : k0_pay3 f f' f'' (ix2 i d) = f (ix2 i d) * f' (ix2 i d) * f'' (ix2 i d) := by
  unfold k0_pay3 k0_pay2; pointwise
theorem pay16_at : k0_pay16 f f' f'' f₃ (ix2 i d)
    = f (ix2 i d) * f' (ix2 i d) * f₃ (ix2 i d) * f'' (ix2 i d) * (1 - f'' (ix2 i d)) := by
  unfold k0_pay16 k0_pay14; pointwise
theorem pay4_at : k0_pay4 f f' f'' f₃ (ix2 i d)
    = f (ix2 i d) * f' (ix2 i d) * f₃ (ix2 i d) * f'' (ix2 i d) * (1 - f'' (ix2 i d)) := by
  unfold k0_pay4 k0_pay2; pointwise

end

/-! Where a rectangle of a block lies in it. -/

section
variable (i d : Fin 512)

theorem emb0 : r0_0.emb (ix2 i d) = ix2 i (lo d) :=
  at2 _ _ _ (by show 0 + 1 * i.val = i.val; omega) (by show 0 + 1 * d.val = d.val; omega)
theorem emb1 : r0_1.emb (ix2 i d) = ix2 i d :=
  at2 _ _ _ (by show 0 + 1 * i.val = i.val; omega) (by show 0 + 1 * d.val = d.val; omega)
theorem emb2 : r0_2.emb (ix2 i d) = ix2 i (right (lo d)) :=
  at2 _ _ _ (by show 0 + 1 * i.val = i.val; omega) (by show 1024 + 1 * d.val = 1024 + d.val; omega)
theorem emb3 : r0_3.emb (ix2 i d) = ix2 i (left (lo d)) :=
  at2 _ _ _ (by show 0 + 1 * i.val = i.val; omega) (by show 0 + 1 * d.val = d.val; omega)
theorem emb4 : r0_4.emb (ix2 i d) = ix2 i (hi d) :=
  at2 _ _ _ (by show 0 + 1 * i.val = i.val; omega) (by show 512 + 1 * d.val = 512 + d.val; omega)
theorem emb5 : r0_5.emb (ix2 i d) = ix2 i (right (hi d)) :=
  at2 _ _ _ (by show 0 + 1 * i.val = i.val; omega) (by show 1536 + 1 * d.val = 1024 + (512 + d.val); omega)
theorem emb6 : r0_6.emb (ix2 i d) = ix2 i (left (hi d)) :=
  at2 _ _ _ (by show 0 + 1 * i.val = i.val; omega) (by show 512 + 1 * d.val = 512 + d.val; omega)

end

/-! What a point leaves, from its blocks. -/

section
variable (x0 x5 : Vec Ideal S512x1024 .bf16) (x1 x2 x3 x4 : Vec Ideal S512x512 .bf16) (x6 : Vec Ideal S512x2048 .bf16)
  {D A B Y Z W : Fin 512 → Fin 1024 → EReal}
  (hD : ∀ i a, x0 (ix2 i a) = D i a) (hY : ∀ i a, x5 (ix2 i a) = Y i a)
  (hA : ∀ i d, x1 (ix2 i d) = A i (lo d)) (hA' : ∀ i d, x2 (ix2 i d) = A i (hi d))
  (hB : ∀ i d, x3 (ix2 i d) = B i (lo d)) (hB' : ∀ i d, x4 (ix2 i d) = B i (hi d))
  (hZ : ∀ i a, x6 (ix2 i (left a)) = Z i a) (hW : ∀ i a, x6 (ix2 i (right a)) = W i a)

theorem pay25_at (i d : Fin 512) : k0_pay25 x0 x1 x2 x3 x4 x5 x6 (ix2 i d) = x0 (ix2 i (lo d)) :=
  (pay5_at _ i d).trans (congrArg x0 (emb0 i d))
theorem pay26_at (i d : Fin 512) : k0_pay26 x0 x1 x2 x3 x4 x5 x6 (ix2 i d) = sg (x3 (ix2 i d)) :=
  (pay7_at _ i d).trans (congrArg (fun y => sg (x3 y)) (emb1 i d))
theorem pay27_at (i d : Fin 512) : k0_pay27 x0 x1 x2 x3 x4 x5 x6 (ix2 i d) = sg (x6 (ix2 i (right (lo d)))) :=
  (pay8_at _ i d).trans (congrArg (fun y => sg (x6 y)) (emb2 i d))
theorem pay28_at (i d : Fin 512) : k0_pay28 x0 x1 x2 x3 x4 x5 x6 (ix2 i d) = x0 (ix2 i (hi d)) :=
  (pay17_at _ i d).trans (congrArg x0 (emb4 i d))
theorem pay29_at (i d : Fin 512) : k0_pay29 x0 x1 x2 x3 x4 x5 x6 (ix2 i d) = sg (x2 (ix2 i d)) :=
  (pay18_at _ i d).trans (congrArg (fun y => sg (x2 y)) (emb1 i d))
theorem pay30_at (i d : Fin 512) : k0_pay30 x0 x1 x2 x3 x4 x5 x6 (ix2 i d) = sg (x4 (ix2 i d)) :=
  (pay19_at _ i d).trans (congrArg (fun y => sg (x4 y)) (emb1 i d))
theorem pay31_at (i d : Fin 512) : k0_pay31 x0 x1 x2 x3 x4 x5 x6 (ix2 i d) = sg (x6 (ix2 i (right (hi d)))) :=
  (pay20_at _ i d).trans (congrArg (fun y => sg (x6 y)) (emb5 i d))

include hD hA hA' in
/-- The gradient of the convolution branch. -/
theorem out7_at (y : S512x1024.Idx) : out0_7 x0 x1 x2 x3 x4 x5 x6 y = gya (D (y 0) (y 1)) (A (y 0) (y 1)) := by
  unfold out0_7
  refine View.canon_apply_of_pieces (Val := Elt Ideal) (e := .bf16)
    (fun y : S512x1024.Idx => gya (D (y 0) (y 1)) (A (y 0) (y 1))) _ ?_ y (cover0_7 _ _ y)
  refine List.forall_mem_cons.2 ⟨fun x => ?_, List.forall_mem_cons.2 ⟨fun x => ?_, List.forall_mem_nil _⟩⟩ <;>
    obtain ⟨i, d, rfl⟩ : ∃ (i d : Fin 512), x = ix2 i d := ⟨x 0, x 1, at2 (a := 512) (b := 512) x (x 0) (x 1) rfl rfl⟩
  · refine Eq.trans ?_ (congrArg (fun y : S512x1024.Idx => gya (D (y 0) (y 1)) (A (y 0) (y 1))) (emb4 i d)).symm
    refine (pay22_at _ _ i d).trans ?_
    rw [pay28_at, pay29_at, hD, hA']; rfl
  · refine Eq.trans ?_ (congrArg (fun y : S512x1024.Idx => gya (D (y 0) (y 1)) (A (y 0) (y 1))) (emb0 i d)).symm
    refine (pay11_at _ _ i d).trans ?_
    exact congrArg₂ gya ((congrArg x0 (emb0 i d)).trans (hD _ _)) ((congrArg x1 (emb1 i d)).trans (hA _ _))

/-- The gates' gradients, side by side. -/
def gates {n : Nat} (D A B Y Z W : Fin n → Fin 1024 → EReal) (i : Fin n) (e : Fin 2048) : EReal :=
  halves (fun a => gga (D i a) (Y i a) (A i a)) (fun a => ggb (D i a) (Z i a) (W i a) (B i a)) e
/-- The gradients of the state-space branch's halves, side by side. -/
def branch {n : Nat} (D B Z W : Fin n → Fin 1024 → EReal) (i : Fin n) (e : Fin 2048) : EReal :=
  halves (fun a => gz (D i a) (W i a) (B i a)) (fun a => gw (D i a) (Z i a) (W i a) (B i a)) e

include hD hA hA' hB hB' hY hZ hW in
/-- The gradient of the gates. -/
theorem out8_at (y : S512x2048.Idx) : out0_8 x0 x1 x2 x3 x4 x5 x6 y = gates D A B Y Z W (y 0) (y 1) := by
  unfold out0_8
  refine View.canon_apply_of_pieces (Val := Elt Ideal) (e := .bf16)
    (fun y : S512x2048.Idx => gates D A B Y Z W (y 0) (y 1)) _ ?_ y (cover0_8 _ _ _ _ y)
  refine List.forall_mem_cons.2 ⟨fun x => ?_, List.forall_mem_cons.2 ⟨fun x => ?_,
    List.forall_mem_cons.2 ⟨fun x => ?_, List.forall_mem_cons.2 ⟨fun x => ?_, List.forall_mem_nil _⟩⟩⟩⟩ <;>
    obtain ⟨i, d, rfl⟩ : ∃ (i d : Fin 512), x = ix2 i d := ⟨x 0, x 1, at2 (a := 512) (b := 512) x (x 0) (x 1) rfl rfl⟩
  · refine Eq.trans ?_ ((congrArg (fun y : S512x2048.Idx => gates D A B Y Z W (y 0) (y 1)) (emb5 i d)).trans
      (halves_right _ _ (hi d))).symm
    refine (pay24_at _ _ _ _ i d).trans ?_
    have e6 : View.ld x6 r0_6 (ix2 i d) = Z i (hi d) := (congrArg x6 (emb6 i d)).trans (hZ _ _)
    have e5 : View.ld x6 r0_5 (ix2 i d) = W i (hi d) := (congrArg x6 (emb5 i d)).trans (hW _ _)
    have e1 : View.ld x4 r0_1 (ix2 i d) = B i (hi d) := (congrArg x4 (emb1 i d)).trans (hB' _ _)
    rw [pay28_at, hD, e6, e5, e1]; rfl
  · refine Eq.trans ?_ ((congrArg (fun y : S512x2048.Idx => gates D A B Y Z W (y 0) (y 1)) (emb6 i d)).trans
      (halves_left _ _ (hi d))).symm
    refine (pay23_at _ _ _ i d).trans ?_
    have e4 : View.ld x5 r0_4 (ix2 i d) = Y i (hi d) := (congrArg x5 (emb4 i d)).trans (hY _ _)
    rw [pay28_at, pay29_at, hD, hA', e4]; rfl
  · refine Eq.trans ?_ ((congrArg (fun y : S512x2048.Idx => gates D A B Y Z W (y 0) (y 1)) (emb2 i d)).trans
      (halves_right _ _ (lo d))).symm
    refine (pay13_at _ _ _ i d).trans ?_
    have e3 : View.ld x6 r0_3 (ix2 i d) = Z i (lo d) := (congrArg x6 (emb3 i d)).trans (hZ _ _)
    have e2 : View.ld x6 r0_2 (ix2 i d) = W i (lo d) := (congrArg x6 (emb2 i d)).trans (hW _ _)
    rw [pay25_at, pay26_at, pay10_at, hD, hB, e3, e2]; rfl
  · refine Eq.trans ?_ ((congrArg (fun y : S512x2048.Idx => gates D A B Y Z W (y 0) (y 1)) (emb3 i d)).trans
      (halves_left _ _ (lo d))).symm
    refine (pay12_at _ _ _ i d).trans ?_
    have e0 : View.ld x5 r0_0 (ix2 i d) = Y i (lo d) := (congrArg x5 (emb0 i d)).trans (hY _ _)
    have e1 : View.ld x1 r0_1 (ix2 i d) = A i (lo d) := (congrArg x1 (emb1 i d)).trans (hA _ _)
    rw [pay25_at, pay6_at, hD, e0, e1]; rfl

include hD hB hB' hZ hW in
/-- The gradient of the state-space branch. -/
theorem out9_at (y : S512x2048.Idx) : out0_9 x0 x1 x2 x3 x4 x5 x6 y = branch D B Z W (y 0) (y 1) := by
  unfold out0_9
  refine View.canon_apply_of_pieces (Val := Elt Ideal) (e := .bf16)
    (fun y : S512x2048.Idx => branch D B Z W (y 0) (y 1)) _ ?_ y (cover0_9 _ _ _ _ y)
  refine List.forall_mem_cons.2 ⟨fun x => ?_, List.forall_mem_cons.2 ⟨fun x => ?_,
    List.forall_mem_cons.2 ⟨fun x => ?_, List.forall_mem_cons.2 ⟨fun x => ?_, List.forall_mem_nil _⟩⟩⟩⟩ <;>
    obtain ⟨i, d, rfl⟩ : ∃ (i d : Fin 512), x = ix2 i d := ⟨x 0, x 1, at2 (a := 512) (b := 512) x (x 0) (x 1) rfl rfl⟩
  · refine Eq.trans ?_ ((congrArg (fun y : S512x2048.Idx => branch D B Z W (y 0) (y 1)) (emb5 i d)).trans
      (halves_right _ _ (hi d))).symm
    refine (pay4_at _ _ _ _ i d).trans ?_
    have e6 : View.ld x6 r0_6 (ix2 i d) = Z i (hi d) := (congrArg x6 (emb6 i d)).trans (hZ _ _)
    rw [pay28_at, pay30_at, pay31_at, pay21_at, hD, hB', hW, e6]; rfl
  · refine Eq.trans ?_ ((congrArg (fun y : S512x2048.Idx => branch D B Z W (y 0) (y 1)) (emb6 i d)).trans
      (halves_left _ _ (hi d))).symm
    refine (pay3_at _ _ _ i d).trans ?_
    rw [pay28_at, pay30_at, pay31_at, hD, hB', hW]; rfl
  · refine Eq.trans ?_ ((congrArg (fun y : S512x2048.Idx => branch D B Z W (y 0) (y 1)) (emb2 i d)).trans
      (halves_right _ _ (lo d))).symm
    refine (pay16_at _ _ _ _ i d).trans ?_
    have e3 : View.ld x6 r0_3 (ix2 i d) = Z i (lo d) := (congrArg x6 (emb3 i d)).trans (hZ _ _)
    rw [pay25_at, pay26_at, pay27_at, pay9_at, hD, hB, hW, e3]; rfl
  · refine Eq.trans ?_ ((congrArg (fun y : S512x2048.Idx => branch D B Z W (y 0) (y 1)) (emb3 i d)).trans
      (halves_left _ _ (lo d))).symm
    refine (pay15_at _ _ _ i d).trans ?_
    rw [pay25_at, pay26_at, pay27_at, hD, hB, hW]; rfl

end

variable (m : (ℓ : Loc nD τ sig) → Buf (Elt Ideal) ℓ) (c : Dev nD)

/-- The incoming gradient. -/
def D : Fin 4096 → Fin 1024 → EReal := fun i a => (m ((c : Thread nD τ).loc main_arg0) : S4096x1024.Idx → EReal) (ix2 i a)
/-- The first gate. -/
def A : Fin 4096 → Fin 1024 → EReal := fun i a =>
  (m ((c : Thread nD τ).loc main_arg1) : S4096x4608.Idx → EReal) (ix2 i (⟨2560 + a.val, by omega⟩ : Fin 4608))
/-- The second gate. -/
def B : Fin 4096 → Fin 1024 → EReal := fun i a =>
  (m ((c : Thread nD τ).loc main_arg1) : S4096x4608.Idx → EReal) (ix2 i (⟨3584 + a.val, by omega⟩ : Fin 4608))
/-- The convolution branch. -/
def Y : Fin 4096 → Fin 1024 → EReal := fun i a => (m ((c : Thread nD τ).loc main_arg2) : S4096x1024.Idx → EReal) (ix2 i a)
/-- The first half of the state-space branch. -/
def Z : Fin 4096 → Fin 1024 → EReal := fun i a => (m ((c : Thread nD τ).loc main_arg3) : S4096x2048.Idx → EReal) (ix2 i (left a))
/-- Its second half. -/
def W : Fin 4096 → Fin 1024 → EReal := fun i a => (m ((c : Thread nD τ).loc main_arg3) : S4096x2048.Idx → EReal) (ix2 i (right a))

/-- The first result. -/
def G7 (y : S4096x1024.Idx) : EReal := gya (D m c (y 0) (y 1)) (A m c (y 0) (y 1))
/-- The second. -/
def G8 (y : S4096x2048.Idx) : EReal := gates (D m c) (A m c) (B m c) (Y m c) (Z m c) (W m c) (y 0) (y 1)
/-- The third. -/
def G9 (y : S4096x2048.Idx) : EReal := branch (D m c) (B m c) (Z m c) (W m c) (y 0) (y 1)

/-- Where the blocks of a point lie. -/
theorem places (t : Fin cfg0.N) : (win0_0.index t 0 = t.val ∧ win0_0.index t 1 = 0)
    ∧ (win0_1.index t 0 = t.val ∧ win0_1.index t 1 = 5) ∧ (win0_2.index t 0 = t.val ∧ win0_2.index t 1 = 6)
    ∧ (win0_3.index t 0 = t.val ∧ win0_3.index t 1 = 7) ∧ (win0_4.index t 0 = t.val ∧ win0_4.index t 1 = 8)
    ∧ (win0_5.index t 0 = t.val ∧ win0_5.index t 1 = 0) ∧ (win0_6.index t 0 = t.val ∧ win0_6.index t 1 = 0) := by
  revert t
  decide +kernel

/-- Where the results' blocks lie. -/
theorem places_out (t : Fin cfg0.N) : (win0_7.index t 0 = t.val ∧ win0_7.index t 1 = 0)
    ∧ (win0_8.index t 0 = t.val ∧ win0_8.index t 1 = 0) ∧ (win0_9.index t 0 = t.val ∧ win0_9.index t 1 = 0) := by
  revert t
  decide +kernel

/-- Row `i` of block `t`. -/
def row (t : Fin cfg0.N) (i : Fin 512) : Fin 4096 := ⟨t.val * 512 + i.val, by have : t.val < 8 := t.isLt; omega⟩

theorem block_d (t : Fin cfg0.N) (i : Fin 512) (a : Fin 1024) :
    (iblk m c 0 t : S512x1024.Idx → EReal) (ix2 i a) = D m c (row t i) a := by
  obtain ⟨⟨h0, h1⟩, -⟩ := places t
  unfold iblk D
  rw [View.read_apply]
  refine congrArg (m ((c : Thread nD τ).loc main_arg0) : S4096x1024.Idx → EReal) (at2 _ _ _ ?_ ?_)
  · show win0_0.index t 0 * 512 + 1 * i.val = t.val * 512 + i.val; rw [h0]; omega
  · show win0_0.index t 1 * 1024 + 1 * a.val = a.val; rw [h1]; omega

theorem block_a (t : Fin cfg0.N) (i d : Fin 512) :
    (iblk m c 1 t : S512x512.Idx → EReal) (ix2 i d) = A m c (row t i) (lo d) := by
  obtain ⟨-, ⟨h0, h1⟩, -⟩ := places t
  unfold iblk A
  rw [View.read_apply]
  refine congrArg (m ((c : Thread nD τ).loc main_arg1) : S4096x4608.Idx → EReal) (at2 _ _ _ ?_ ?_)
  · show win0_1.index t 0 * 512 + 1 * i.val = t.val * 512 + i.val; rw [h0]; omega
  · show win0_1.index t 1 * 512 + 1 * d.val = 2560 + d.val; rw [h1]; omega

theorem block_a' (t : Fin cfg0.N) (i d : Fin 512) :
    (iblk m c 2 t : S512x512.Idx → EReal) (ix2 i d) = A m c (row t i) (hi d) := by
  obtain ⟨-, -, ⟨h0, h1⟩, -⟩ := places t
  unfold iblk A
  rw [View.read_apply]
  refine congrArg (m ((c : Thread nD τ).loc main_arg1) : S4096x4608.Idx → EReal) (at2 _ _ _ ?_ ?_)
  · show win0_2.index t 0 * 512 + 1 * i.val = t.val * 512 + i.val; rw [h0]; omega
  · show win0_2.index t 1 * 512 + 1 * d.val = 2560 + (512 + d.val); rw [h1]; omega

theorem block_b (t : Fin cfg0.N) (i d : Fin 512) :
    (iblk m c 3 t : S512x512.Idx → EReal) (ix2 i d) = B m c (row t i) (lo d) := by
  obtain ⟨-, -, -, ⟨h0, h1⟩, -⟩ := places t
  unfold iblk B
  rw [View.read_apply]
  refine congrArg (m ((c : Thread nD τ).loc main_arg1) : S4096x4608.Idx → EReal) (at2 _ _ _ ?_ ?_)
  · show win0_3.index t 0 * 512 + 1 * i.val = t.val * 512 + i.val; rw [h0]; omega
  · show win0_3.index t 1 * 512 + 1 * d.val = 3584 + d.val; rw [h1]; omega

theorem block_b' (t : Fin cfg0.N) (i d : Fin 512) :
    (iblk m c 4 t : S512x512.Idx → EReal) (ix2 i d) = B m c (row t i) (hi d) := by
  obtain ⟨-, -, -, -, ⟨h0, h1⟩, -⟩ := places t
  unfold iblk B
  rw [View.read_apply]
  refine congrArg (m ((c : Thread nD τ).loc main_arg1) : S4096x4608.Idx → EReal) (at2 _ _ _ ?_ ?_)
  · show win0_4.index t 0 * 512 + 1 * i.val = t.val * 512 + i.val; rw [h0]; omega
  · show win0_4.index t 1 * 512 + 1 * d.val = 3584 + (512 + d.val); rw [h1]; omega

theorem block_y (t : Fin cfg0.N) (i : Fin 512) (a : Fin 1024) :
    (iblk m c 5 t : S512x1024.Idx → EReal) (ix2 i a) = Y m c (row t i) a := by
  obtain ⟨-, -, -, -, -, ⟨h0, h1⟩, -⟩ := places t
  unfold iblk Y
  rw [View.read_apply]
  refine congrArg (m ((c : Thread nD τ).loc main_arg2) : S4096x1024.Idx → EReal) (at2 _ _ _ ?_ ?_)
  · show win0_5.index t 0 * 512 + 1 * i.val = t.val * 512 + i.val; rw [h0]; omega
  · show win0_5.index t 1 * 1024 + 1 * a.val = a.val; rw [h1]; omega

/-- The state-space branch's block. -/
theorem block_s (t : Fin cfg0.N) (i : Fin 512) (e : Fin 2048) : (iblk m c 6 t : S512x2048.Idx → EReal) (ix2 i e)
    = (m ((c : Thread nD τ).loc main_arg3) : S4096x2048.Idx → EReal) (ix2 (row t i) e) := by
  obtain ⟨-, -, -, -, -, -, h0, h1⟩ := places t
  unfold iblk
  rw [View.read_apply]
  refine congrArg (m ((c : Thread nD τ).loc main_arg3) : S4096x2048.Idx → EReal) (at2 _ _ _ ?_ ?_)
  · show win0_6.index t 0 * 512 + 1 * i.val = t.val * 512 + i.val; rw [h0]; omega
  · show win0_6.index t 1 * 2048 + 1 * e.val = e.val; rw [h1]; omega

/-- The first array at the end. -/
theorem array7 : (dats m 0 c).arrAt 7 cfg0.N = G7 m c := by
  refine (dats m 0 c).arrAt_eq_of_cover 7 (G7 m c) (fun t _ => ?_) (reached win0_7)
  obtain ⟨⟨h0, h1⟩, -⟩ := places_out t
  rw [flushed7 m c t]
  funext x
  have hy : ((cfg0.win 7).blk t).view.emb x = ix2 (row t (x 0)) (x 1) := by
    refine at2 (a := 4096) (b := 1024) _ _ _ ?_ ?_
    · show win0_7.index t 0 * 512 + 1 * (x 0).val = t.val * 512 + (x 0).val; rw [h0]; omega
    · show win0_7.index t 1 * 1024 + 1 * (x 1).val = (x 1).val; rw [h1]; omega
  refine Eq.trans ?_ (congrArg (G7 m c) hy).symm
  exact out7_at _ _ _ _ _ _ _ (block_d m c t) (block_a m c t) (block_a' m c t) x

/-- The second. -/
theorem array8 : (dats m 0 c).arrAt 8 cfg0.N = G8 m c := by
  refine (dats m 0 c).arrAt_eq_of_cover 8 (G8 m c) (fun t _ => ?_) (reached win0_8)
  obtain ⟨-, ⟨h0, h1⟩, -⟩ := places_out t
  rw [flushed8 m c t]
  funext x
  have hy : ((cfg0.win 8).blk t).view.emb x = ix2 (row t (x 0)) (x 1) := by
    refine at2 (a := 4096) (b := 2048) _ _ _ ?_ ?_
    · show win0_8.index t 0 * 512 + 1 * (x 0).val = t.val * 512 + (x 0).val; rw [h0]; omega
    · show win0_8.index t 1 * 2048 + 1 * (x 1).val = (x 1).val; rw [h1]; omega
  refine Eq.trans ?_ (congrArg (G8 m c) hy).symm
  exact out8_at _ _ _ _ _ _ _ (block_d m c t) (block_y m c t) (block_a m c t) (block_a' m c t) (block_b m c t) (block_b' m c t)
    (fun i a => block_s m c t i (left a)) (fun i a => block_s m c t i (right a)) x

/-- The third. -/
theorem array9 : (dats m 0 c).arrAt 9 cfg0.N = G9 m c := by
  refine (dats m 0 c).arrAt_eq_of_cover 9 (G9 m c) (fun t _ => ?_) (reached win0_9)
  obtain ⟨-, -, h0, h1⟩ := places_out t
  rw [flushed9 m c t]
  funext x
  have hy : ((cfg0.win 9).blk t).view.emb x = ix2 (row t (x 0)) (x 1) := by
    refine at2 (a := 4096) (b := 2048) _ _ _ ?_ ?_
    · show win0_9.index t 0 * 512 + 1 * (x 0).val = t.val * 512 + (x 0).val; rw [h0]; omega
    · show win0_9.index t 1 * 2048 + 1 * (x 1).val = (x 1).val; rw [h1]; omega
  refine Eq.trans ?_ (congrArg (G9 m c) hy).symm
  exact out9_at _ _ _ _ _ _ _ (block_d m c t) (block_b m c t) (block_b' m c t)
    (fun i a => block_s m c t i (left a)) (fun i a => block_s m c t i (right a)) x

/-! ## The reference -/

section
open Cert.Reference10Ideal.Read
variable (x0 x2 : (⟨S4096x1024, .bf16⟩ : BufTy).Contents (Elt Ideal)) (x1 : (⟨S4096x4608, .bf16⟩ : BufTy).Contents (Elt Ideal))
  (x3 : (⟨S4096x2048, .bf16⟩ : BufTy).Contents (Elt Ideal)) (i : Fin 4096) (d : Fin 1024)

/-- The first gate. -/
theorem gate_a : val_main_v23 (F := Ideal) x1 (ix2 i d) = sg (x1 (ix2 i (⟨2560 + d.val, by omega⟩ : Fin 4608))) := by
  unfold sg; rw [zero_sub]
  unfold val_main_v23 val_main_v22 val_main_cst_3 val_main_v21 val_main_v20 val_main_cst_2 val_main_v19 val_main_v18 val_main_v4 val_main_v2 val_main_v1
  pointwise

/-- The second gate. -/
theorem gate_b : val_main_v33 (F := Ideal) x1 (ix2 i d) = sg (x1 (ix2 i (⟨3584 + d.val, by omega⟩ : Fin 4608))) := by
  rw [show (⟨3584 + d.val, by omega⟩ : Fin 4608) = ⟨2560 + (1024 + d.val), by omega⟩ from Fin.ext (by simp; omega)]
  unfold sg; rw [zero_sub]
  unfold val_main_v33 val_main_v32 val_main_cst_6 val_main_v31 val_main_v30 val_main_cst_5 val_main_v29 val_main_v28 val_main_v5 val_main_v2 val_main_v1
  pointwise

/-- The gate of the state-space branch. -/
theorem gate_s : val_main_v13 (F := Ideal) x3 (ix2 i d) = sg (x3 (ix2 i (right d))) := by
  unfold sg right; rw [zero_sub]
  unfold val_main_v13 val_main_v12 val_main_cst_0 val_main_v11 val_main_v10 val_main_cst val_main_v9 val_main_v8 val_main_v7 val_main_v3
  pointwise

theorem ref_gga : val_main_v45 (F := Ideal) x0 x1 x2 (ix2 i d)
    = gga (x0 (ix2 i d)) (x2 (ix2 i d)) (x1 (ix2 i (⟨2560 + d.val, by omega⟩ : Fin 4608))) := by
  unfold gga; rw [← gate_a, mul_assoc]
  unfold val_main_v45 val_main_v44 val_main_v26 val_main_v25 val_main_v24 val_main_cst_4 val_main_v39 val_main_v0
  pointwise

theorem ref_ggb : val_main_v42 (F := Ideal) x0 x1 x3 (ix2 i d)
    = ggb (x0 (ix2 i d)) (x3 (ix2 i (left d))) (x3 (ix2 i (right d))) (x1 (ix2 i (⟨3584 + d.val, by omega⟩ : Fin 4608))) := by
  unfold ggb; rw [← gate_b, ← gate_s, mul_assoc]; unfold left
  unfold val_main_v42 val_main_v41 val_main_v39 val_main_v36 val_main_v35 val_main_v34 val_main_cst_7 val_main_v17 val_main_v6 val_main_v3
  pointwise

theorem ref_gz : val_main_v47 (F := Ideal) x0 x1 x3 (ix2 i d)
    = gz (x0 (ix2 i d)) (x3 (ix2 i (right d))) (x1 (ix2 i (⟨3584 + d.val, by omega⟩ : Fin 4608))) := by
  unfold gz; rw [← gate_b, ← gate_s, mul_comm (x0 (ix2 i d) : EReal)]
  unfold val_main_v47 val_main_v40 val_main_v39
  pointwise

theorem ref_gw : val_main_v48 (F := Ideal) x0 x1 x3 (ix2 i d)
    = gw (x0 (ix2 i d)) (x3 (ix2 i (left d))) (x3 (ix2 i (right d))) (x1 (ix2 i (⟨3584 + d.val, by omega⟩ : Fin 4608))) := by
  unfold gw; rw [← gate_b, ← gate_s, mul_comm (x0 (ix2 i d) : EReal), mul_comm _ (x3 (ix2 i (left d)) : EReal), mul_assoc _ _ (1 - _)]
  unfold left
  unfold val_main_v48 val_main_v46 val_main_v40 val_main_v39 val_main_v16 val_main_v15 val_main_v14 val_main_cst_1 val_main_v6 val_main_v3
  pointwise

/-- The reference's first result. -/
theorem ref7_at : val_main_v55 (F := Ideal) x0 x1 (ix2 i d)
    = gya (x0 (ix2 i d)) (x1 (ix2 i (⟨2560 + d.val, by omega⟩ : Fin 4608))) := by
  unfold gya; rw [← gate_a, mul_comm]
  unfold val_main_v55 val_main_v43 val_main_v39
  pointwise

/-- Two thousands of columns laid over zeros and added stand side by side. -/
theorem pad_add (l r : Fin 1024 → EReal) (e : Fin 2048) (z z' : EReal) (hz : z = 0) (hz' : z' = 0) :
    ((if h : 1024 ≤ e.val ∧ e.val - 1024 < 1024 then r ⟨e.val - 1024, h.2⟩ else z) + if h : e.val < 1024 then l ⟨e.val, h⟩ else z')
      = halves l r e := by
  unfold halves
  by_cases h : e.val < 1024
  · rw [dif_neg (by omega), dif_pos h, dif_pos h, hz, zero_add]
  · rw [dif_pos ⟨by omega, by omega⟩, dif_neg h, dif_neg h, hz', add_zero]

/-- Its second result. -/
theorem ref8_at (e : Fin 2048) : val_main_v56 (F := Ideal) x0 x1 x2 x3 (ix2 i e)
    = halves (fun a => val_main_v45 (F := Ideal) x0 x1 x2 (ix2 i a)) (fun a => val_main_v42 (F := Ideal) x0 x1 x3 (ix2 i a)) e := by
  refine Eq.trans ?_ (pad_add _ _ e (val_main_cst_10 (F := Ideal) (Shape.Idx.first Reference10Ideal.Gen.h_S_))
    (val_main_cst_11 (F := Ideal) (Shape.Idx.first Reference10Ideal.Gen.h_S_)) (show Ideal.ofBits .f32 0#32 = 0 from Ideal.ofBits_zero .f32) (show Ideal.ofBits .f32 0#32 = 0 from Ideal.ofBits_zero .f32))
  unfold val_main_v56 val_main_v54 val_main_v52 val_main_v53
  pointwise

/-- Its third result. -/
theorem ref9_at (e : Fin 2048) : val_main_v57 (F := Ideal) x0 x1 x3 (ix2 i e)
    = halves (fun a => val_main_v47 (F := Ideal) x0 x1 x3 (ix2 i a)) (fun a => val_main_v48 (F := Ideal) x0 x1 x3 (ix2 i a)) e := by
  refine Eq.trans ?_ (pad_add _ _ e (val_main_cst_8 (F := Ideal) (Shape.Idx.first Reference10Ideal.Gen.h_S_))
    (val_main_cst_9 (F := Ideal) (Shape.Idx.first Reference10Ideal.Gen.h_S_)) (show Ideal.ofBits .f32 0#32 = 0 from Ideal.ofBits_zero .f32) (show Ideal.ofBits .f32 0#32 = 0 from Ideal.ofBits_zero .f32))
  unfold val_main_v57 val_main_v51 val_main_v49 val_main_v50
  pointwise

end

/-! ## The claims -/

/-- The reference leaves its arguments unchanged and every counter at zero. -/
theorem ref_frame : quiescent_Reference10Ideal (hReference10Ideal := Reference10Ideal.Gen.facts) := fun m ρ _ =>
  (θ_run Reference10Ideal.defs _ _).mono
    (fun r h => ⟨fun c => (h c).2.2.2, sem_eq_zero_of_no_sems (by decide) r.2⟩)
    (Reference10Ideal.Value.run m ρ)

/-- The kernel's results are the reference's. -/
theorem algebraic : algebraic_Kernel10Ideal_Reference10Ideal (hKernel10Ideal := Kernel10Ideal.Gen.facts)
    (hReference10Ideal := Reference10Ideal.Gen.facts) := by
  intro m g m' g' _ hargs
  refine ⟨fun c => G7 m c, fun c => G8 m c, fun c => G9 m c, ?_, ?_⟩
  · refine (θ_run Kernel10Ideal.defs _ _).mono (fun r h c => ?_) (Kernel10Ideal.Value.run_blocks m g)
    exact ⟨(h c).1.trans (array7 m c), (h c).2.1.trans (array8 m c), (h c).2.2.1.trans (array9 m c), (h c).2.2.2⟩
  · refine (θ_run Reference10Ideal.defs _ _).mono (fun r h c => ?_) (Reference10Ideal.Value.run m' g')
    obtain ⟨a0, a1, a2, a3⟩ := hargs c
    refine ⟨(h c).1.trans ((Reference10Ideal.Read.val_main_v55_eq _ _).trans ?_),
      (h c).2.1.trans ((Reference10Ideal.Read.val_main_v56_eq _ _ _ _).trans ?_),
      (h c).2.2.1.trans ((Reference10Ideal.Read.val_main_v57_eq _ _ _).trans ?_), (h c).2.2.2⟩
    · rw [a0, a1]
      funext y
      exact (congrArg _ (at2 (a := 4096) (b := 1024) y (y 0) (y 1) rfl rfl)).trans (ref7_at _ _ _ _)
    · rw [a0, a1, a2, a3]
      funext y
      refine (congrArg _ (at2 (a := 4096) (b := 2048) y (y 0) (y 1) rfl rfl)).trans ((ref8_at _ _ _ _ _ _).trans ?_)
      exact congrArg₂ (fun l r => halves l r (y 1)) (funext fun a => ref_gga _ _ _ _ a) (funext fun a => ref_ggb _ _ _ _ a)
    · rw [a0, a1, a3]
      funext y
      refine (congrArg _ (at2 (a := 4096) (b := 2048) y (y 0) (y 1) rfl rfl)).trans ((ref9_at _ _ _ _ _).trans ?_)
      exact congrArg₂ (fun l r => halves l r (y 1)) (funext fun a => ref_gz _ _ _ _ a) (funext fun a => ref_gw _ _ _ _ a)

end Cert.Proof.Merge

end
-- ==== Proof.MixBack.lean ====
/- The gradients of the output projection of the mixer: the kernel's arrays, the reference's,
   and their equality. -/
module

public import proofs.«01_k».proof.Defs
public import proofs.«01_k».proof.Proof.Gen.Kernel11Ideal.Value
public import proofs.«01_k».proof.Proof.Gen.Reference11Ideal.Read
public import proofs.«01_k».proof.Proof.Index
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384

noncomputable section

namespace Cert.Proof.MixBack

open Cert.Kernel11Ideal Cert.Kernel11Ideal.Gen Cert.Kernel11Ideal.Value Idealize.ShloMosaic Idealize.ShloMosaic.TcCoe Idealize.SL.Sem
open Cert.Proof.Index
open Idealize.ShloMosaic.Pipeline (Dat)

/-- The gradient of the input: the product with the turned weights. -/
def back (r : Fin 4096 → Fin 1024 → EReal) (w : Fin 4 → Fin 256 → Fin 1024 → EReal) (i : Fin 4096) (d : Fin 1024) : EReal :=
  ∑ k, r i k * w (chip 256 rfl d) (place 256 (by omega) d) k

/-- The gradient of the weights: of row `a` of chip `j`, and of column `d`. -/
def grad (x r : Fin 4096 → Fin 1024 → EReal) (j : Fin 4) (a : Fin 256) (d : Fin 1024) : EReal :=
  ∑ i, x i (part 256 rfl j a) * r i d

/-! ## The kernel -/

/-- What a point stores of the gradient of the input. -/
theorem pay1_at (x0 : Vec Ideal S1024x1024 .bf16) (x2 : Vec Ideal S4x256x1024 .bf16) (i d : Fin 1024) :
    k0_pay1 x0 x2 (ix2 i d) = ∑ k : Fin 1024, x0 (ix2 i k) * x2 (ix3 (chip 256 rfl d) (place 256 (by omega) d) k) := by
  unfold k0_pay1
  pointwise [dot_S1024x1024_S1024x1024_S1024x1024_1_1_0_0_n_n]
  rfl

/-- What the first point leaves of the gradient of the weights. -/
theorem pay3_at (x0 x1 : Vec Ideal S1024x1024 .bf16) (a d : Fin 1024) :
    k0_pay3 x0 x1 (ix2 a d) = ∑ i : Fin 1024, x1 (ix2 i a) * x0 (ix2 i d) := by
  unfold k0_pay3 k0_pay2
  pointwise [dot_S1024x1024_S1024x1024_S1024x1024_0_0_1_1_n_n]

/-- What a later point adds to it. -/
theorem pay4_at (x0 x1 : Vec Ideal S1024x1024 .bf16) (s : Vec Ideal S1024x1024 .f32) (a d : Fin 1024) :
    k0_pay4 x0 x1 s (ix2 a d) = s (ix2 a d) + ∑ i : Fin 1024, x1 (ix2 i a) * x0 (ix2 i d) := by
  unfold k0_pay4 k0_pay2
  pointwise [dot_S1024x1024_S1024x1024_S1024x1024_0_0_1_1_n_n]

/-- What the last point stores of it: its rows, chip by chip. -/
theorem pay5_at (s : Vec Ideal S1024x1024 .f32) (j : Fin 4) (a : Fin 256) (d : Fin 1024) :
    k0_pay5 s (ix3 j a d) = s (ix2 (part 256 rfl j a) d) := by
  unfold k0_pay5
  pointwise
  rfl

section
variable (c : Dev nD) (i : grid0.Coords) (b1 : Memref sig .tc .vmem S1024x1024 .bf16) (k1 : b1.IsWhole)
  (b2 : Memref sig .tc .vmem S1024x1024 .bf16) (k2 : b2.IsWhole) (b3 : Memref sig .tc .vmem S4x256x1024 .bf16) (k3 : b3.IsWhole)
  (b5 : Memref sig .tc .vmem S1024x1024 .bf16) (k5 : b5.IsWhole) (b6 : Memref sig .tc .vmem S4x256x1024 .bf16) (k6 : b6.IsWhole)
  (b7 : Memref sig .tc .vmem S1024x1024 .f32) (k7 : b7.IsWhole)
  (x0 x1 : Vec Ideal S1024x1024 .bf16) (x2 : Vec Ideal S4x256x1024 .bf16) (s : Vec Ideal S1024x1024 .f32)

/-- What the last point stores in the second array is what it leaves, chip by chip. -/
theorem outC4 (h0 h1 h2) : out0_C_4 c i b1 k1 b2 k2 b3 k3 b5 k5 b6 k6 b7 k7 h0 h1 h2 x0 x1 x2 s = k0_pay5 (k0_pay4 x0 x1 s) := by
  unfold out0_C_4 kernelRun0_C
  dsimp only
  refine (View.read_writes_full VO0_4 VO0_4.junk _ _ _).trans ?_
  unfold kernelRun0_C.sl.v17 kernelRun0_C.sl.HS0_1
  refine congrArg k0_pay5 ((View.readCov_full b7.view _ _ _ _).trans ?_)
  iterate 3 rw [View.readAt_full]
  rw [k1.read_unread, k2.read_unread, k7.read_unread]

/-- What the last point leaves in the scratch. -/
theorem soutC (h0 h1 h2) : sout0_C_0 c i b1 k1 b2 k2 b3 k3 b5 k5 b6 k6 b7 k7 h0 h1 h2 x0 x1 x2 s = k0_pay4 x0 x1 s := by
  unfold sout0_C_0 kernelRun0_C
  dsimp only
  refine (View.read_writes_full VS0_0 VS0_0.junk _ _ _).trans ?_
  iterate 3 rw [View.readAt_full]
  rw [k1.read_unread, k2.read_unread, k7.read_unread]

/-- What a point between leaves in the scratch. -/
theorem soutB (h0 h1 h2) : sout0_B_0 c i b1 k1 b2 k2 b3 k3 b5 k5 b6 k6 b7 k7 h0 h1 h2 x0 x1 x2 s = k0_pay4 x0 x1 s := by
  unfold sout0_B_0 kernelRun0_B
  dsimp only
  refine (View.read_writes_full VS0_0 VS0_0.junk _ _ _).trans ?_
  iterate 3 rw [View.readAt_full]
  rw [k1.read_unread, k2.read_unread, k7.read_unread]

/-- What the first point leaves in the scratch. -/
theorem soutA (h0 h1 h2) : sout0_A_0 c i b1 k1 b2 k2 b3 k3 b5 k5 b6 k6 b7 k7 h0 h1 h2 x0 x1 x2 = k0_pay3 x0 x1 := by
  unfold sout0_A_0 kernelRun0_A
  dsimp only
  refine (View.read_writes_full VS0_0 VS0_0.junk _ _ _).trans ?_
  rw [View.readAt_full, View.readAt_full, k1.read_unread, k2.read_unread]

/-- What the first point stores in the first array, -/
theorem outA3 (h0 h1 h2) : out0_A_3 c i b1 k1 b2 k2 b3 k3 b5 k5 b6 k6 b7 k7 h0 h1 h2 x0 x1 x2 = k0_pay1 x0 x2 := by
  unfold out0_A_3 kernelRun0_A
  dsimp only
  refine (View.read_writes_full VO0_3 VO0_3.junk _ _ _).trans ?_
  rw [View.readAt_full, View.readAt_full, k1.read_unread, k3.read_unread]

/-- a point between, -/
theorem outB3 (h0 h1 h2) : out0_B_3 c i b1 k1 b2 k2 b3 k3 b5 k5 b6 k6 b7 k7 h0 h1 h2 x0 x1 x2 s = k0_pay1 x0 x2 := by
  unfold out0_B_3 kernelRun0_B
  dsimp only
  refine (View.read_writes_full VO0_3 VO0_3.junk _ _ _).trans ?_
  rw [View.readAt_full, View.readAt_full, k1.read_unread, k3.read_unread]

/-- and the last. -/
theorem outC3 (h0 h1 h2) : out0_C_3 c i b1 k1 b2 k2 b3 k3 b5 k5 b6 k6 b7 k7 h0 h1 h2 x0 x1 x2 s = k0_pay1 x0 x2 := by
  unfold out0_C_3 kernelRun0_C
  dsimp only
  refine (View.read_writes_full VO0_3 VO0_3.junk _ _ _).trans ?_
  rw [View.readAt_full, View.readAt_full, k1.read_unread, k3.read_unread]

end

variable (m : (ℓ : Loc nD τ sig) → Buf (Elt Ideal) ℓ) (c : Dev nD)

/-- The rows of the incoming gradient. -/
def R : Fin 4096 → Fin 1024 → EReal := fun i d => (m ((c : Thread nD τ).loc main_arg0) : S4096x1024.Idx → EReal) (ix2 i d)
/-- The rows of the projection's input. -/
def X : Fin 4096 → Fin 1024 → EReal := fun i d => (m ((c : Thread nD τ).loc main_arg1) : S4096x1024.Idx → EReal) (ix2 i d)
/-- The weights: in the array of every chip, its rows from the 256th. -/
def W : Fin 4 → Fin 256 → Fin 1024 → EReal := fun j a k =>
  (m ((c : Thread nD τ).loc main_arg2) : S4x3072x1024.Idx → EReal) (ix3 j (⟨256 + a.val, by omega⟩ : Fin 3072) k)
/-- What each chip held before. -/
def B : S4x1024x1024.Idx → EReal := m ((c : Thread nD τ).loc main_arg3)

/-- The first result. -/
def G3 (y : S4096x1024.Idx) : EReal := back (R m c) (W m c) (y 0) (y 1)

/-- The second: the gradient of the weights in its rows of each chip, the other rows as before. -/
def G4 (y : S4x1024x1024.Idx) : EReal :=
  if h : (y 1).val < 256 then B m c y
  else if h : (y 1).val - 256 < 256 then grad (X m c) (R m c) (y 0) ⟨(y 1).val - 256, h⟩ (y 2)
  else B m c y

/-- What the line before the call leaves for it: what each chip held. -/
theorem before : (V m c main_v0_1 : S4x1024x1024.Idx → EReal) = B m c := by
  show StableHlo.after hostOps0 _ (Proc.devRef .tc main_v0_1) = _
  simp only [hostOps0]
  after_results
  rfl

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 1 ∧ win0_2.index t 2 = 0) ∧ (win0_3.index t 0 = t.val ∧ win0_3.index t 1 = 0)
    ∧ win0_4.index t 0 = 0 ∧ win0_4.index t 1 = 1 ∧ win0_4.index t 2 = 0 := by
  revert t
  decide +kernel

/-- The block of the incoming gradient at a point. -/
theorem block_r (t : Fin cfg0.N) (i d : Fin 1024) : (iblk m c 0 t : S1024x1024.Idx → EReal) (ix2 i d) = R m c (part 1024 rfl (t : Fin 4) i) d := by
  obtain ⟨⟨h0, h1⟩, -⟩ := places t
  unfold iblk R
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the projection's input at a point. -/
theorem block_x (t : Fin cfg0.N) (i d : Fin 1024) : (iblk m c 1 t : S1024x1024.Idx → EReal) (ix2 i d) = X m c (part 1024 rfl (t : Fin 4) i) d := by
  obtain ⟨-, ⟨h0, h1⟩, -⟩ := places t
  unfold iblk X
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the weights at a point: all of them. -/
theorem block_w (t : Fin cfg0.N) (j : Fin 4) (a : Fin 256) (k : Fin 1024) : (iblk m c 2 t : S4x256x1024.Idx → EReal) (ix3 j a k) = W m c j a k := by
  obtain ⟨-, -, ⟨h0, h1, h2⟩, -⟩ := places t
  unfold iblk W
  rw [View.read_apply]
  refine (congrFun (V_main_arg2 m c) _).trans (congrArg (m ((c : Thread nD τ).loc main_arg2) : S4x3072x1024.Idx → EReal) (at3 _ _ _ _ ?_ ?_ ?_))
  · show win0_2.index t 0 * 4 + 1 * j.val = j.val; rw [h0]; omega
  · show win0_2.index t 1 * 256 + 1 * a.val = 256 + a.val; rw [h1]; omega
  · show win0_2.index t 2 * 1024 + 1 * k.val = k.val; rw [h2]; omega

/-! ### The gradient of the input -/

/-- Every point stores the product of its blocks. -/
theorem store3 (t : Fin cfg0.N) : (outsAt0 m c t.val t.isLt).1 = k0_pay1 (iblk m c 0 t) (iblk m c 2 t) := by
  have ht : t.val < 4 := t.isLt
  by_cases h0 : t.val % 4 = 0
  · rw [outsAt0_A m c t h0 (by omega) (by omega)]
    dsimp only
    rw [outA3]
  · by_cases h2 : t.val % 4 = 3
    · rw [outsAt0_C m c t h0 (by omega) h2]
      dsimp only
      rw [outC3]
    · rw [outsAt0_B m c t h0 (by omega) h2]
      dsimp only
      rw [outB3]

/-- What a point writes back of the first array. -/
theorem written3 (t : Fin cfg0.N) : (dats m 0 c).flushed 3 t = ((cfg0.win 3).blk t).view.read (Elt Ideal) (G3 m c) := by
  obtain ⟨-, -, -, ⟨h0, h1⟩, -⟩ := places t
  rw [flushed3, store3]
  funext y
  obtain ⟨i, d, rfl⟩ : ∃ (i d : Fin 1024), y = ix2 i d := ⟨y 0, y 1, eq_ix2 y⟩
  rw [View.read_apply]
  have hy : ((cfg0.win 3).blk t).view.emb (ix2 i d) = ix2 (part 1024 rfl (t : Fin 4) i) d := by
    refine at2 (a := 4096) (b := 1024) _ _ _ ?_ ?_
    · show win0_3.index t 0 * 1024 + 1 * i.val = t.val * 1024 + i.val; rw [h0]; omega
    · show win0_3.index t 1 * 1024 + 1 * d.val = d.val; rw [h1]; omega
  refine Eq.trans ?_ (congrArg (G3 m c) hy).symm
  refine (pay1_at _ _ i d).trans (Finset.sum_congr rfl fun k _ => congrArg₂ (fun x y : EReal => x * y) (block_r m c t i k) (block_w m c t _ _ k))

/-- The first array at the end. -/
theorem array3 : (dats m 0 c).arrAt 3 cfg0.N = G3 m c :=
  (dats m 0 c).arrAt_eq_of_cover 3 (G3 m c) (fun t _ => written3 m c t)
    (reached win0_3)

/-! ### The gradient of the weights -/

/-- What the rows of a point add to it. -/
def share (a d : Fin 1024) (n : ℕ) : EReal :=
  if h : n < 4 then ∑ i : Fin 1024, X m c (part 1024 rfl (⟨n, h⟩ : Fin 4) i) a * R m c (part 1024 rfl (⟨n, h⟩ : Fin 4) i) d else 0

/-- The product of the blocks of a point is what its rows add. -/
theorem share_eq (t : Fin cfg0.N) (a d : Fin 1024) (x0 x1 : Vec Ideal S1024x1024 .bf16) (e0 : x0 = iblk m c 0 t) (e1 : x1 = iblk m c 1 t) :
    ∑ i : Fin 1024, x1 (ix2 i a) * x0 (ix2 i d) = share m c a d t.val := by
  subst e0 e1
  unfold share
  rw [dif_pos (show t.val < 4 from t.isLt)]
  exact Finset.sum_congr rfl fun i _ => congrArg₂ (fun x y : EReal => x * y) (block_x m c t i a) (block_r m c t i d)

/-- What a point leaves in the scratch: what the rows of the points so far add up to. -/
theorem scratch (n : ℕ) (hn : n < cfg0.N) (a d : Fin 1024) :
    (outsAt0 m c n hn).2.2 (ix2 a d) = ∑ r ∈ Finset.range (n + 1), share m c a d r := by
  induction n with
  | zero =>
    rw [outsAt0_A m c ⟨0, hn⟩ rfl (by simp) (by simp), Finset.sum_range_one]
    dsimp only
    rw [soutA, pay3_at]
    exact share_eq m c ⟨0, hn⟩ a d _ _ rfl rfl
  | succ n ih =>
    have h4 : n + 1 < 4 := hn
    rw [Finset.sum_range_succ, ← ih (Nat.lt_of_succ_lt hn), ← share_eq m c ⟨n + 1, hn⟩ a d _ _ rfl rfl]
    by_cases h2 : (n + 1) % 4 = 3
    · rw [outsAt0_C m c ⟨n + 1, hn⟩ (by show ¬(n + 1) % 4 = 0; omega) (by show 1 ≤ n + 1; omega) h2]
      dsimp only
      rw [soutC, pay4_at]
      rfl
    · rw [outsAt0_B m c ⟨n + 1, hn⟩ (by show ¬(n + 1) % 4 = 0; omega) (by show 1 ≤ n + 1; omega) h2]
      dsimp only
      rw [soutB, pay4_at]
      rfl

/-- The last point. -/
abbrev last : Fin cfg0.N := (⟨3, by decide⟩ : Fin 4)

/-- Only the last point writes the second array back, -/
theorem flushes4 : ∀ t : Fin cfg0.N, (cfg0.win 4).flush t = true ↔ t = last := by
  decide +kernel

/-- so no two points' blocks meet. -/
theorem apart4 : ∀ t t' : Fin cfg0.N, (cfg0.win 4).flush t = true → (cfg0.win 4).flush t' = true → t ≠ t' →
    Disjoint ((cfg0.win 4).blk t).view.set ((cfg0.win 4).blk t').view.set :=
  fun t t' h h' hne => absurd (((flushes4 t).1 h).trans ((flushes4 t').1 h').symm) hne

/-- What the last point stores: its scratch, chip by chip. -/
theorem store4 : (outsAt0 m c (last).val (last).isLt).2.1 = k0_pay5 (outsAt0 m c (last).val (last).isLt).2.2 := by
  rw [outsAt0_C m c last (by decide) (by decide) (by decide)]
  dsimp only
  rw [outC4, soutC]

/-- What it writes back, and where. -/
theorem written4 (j : Fin 4) (a : Fin 256) (d : Fin 1024) :
    (dats m 0 c).arrAt 4 cfg0.N (ix3 j (⟨256 + a.val, by omega⟩ : Fin 1024) d) = grad (X m c) (R m c) j a d := by
  obtain ⟨-, -, -, -, h0, h1, h2⟩ := places last
  have hy : ((cfg0.win 4).blk last).view.emb (ix3 j a d) = ix3 j (⟨256 + a.val, by omega⟩ : Fin 1024) d := by
    refine at3 (a := 4) (b := 1024) (c := 1024) _ _ _ _ ?_ ?_ ?_
    · show win0_4.index last 0 * 4 + 1 * j.val = j.val; rw [h0]; omega
    · show win0_4.index last 1 * 256 + 1 * a.val = 256 + a.val; rw [h1]; omega
    · show win0_4.index last 2 * 1024 + 1 * d.val = d.val; rw [h2]; omega
  have hb := congrFun ((dats m 0 c).read_blk_arrAt_eq_flushed 4 apart4 cfg0.N last (last).isLt ((flushes4 _).2 rfl)) (ix3 j a d)
  rw [View.read_apply, flushed4, store4] at hb
  refine (congrArg ((dats m 0 c).arrAt 4 cfg0.N) hy).symm.trans (hb.trans ?_)
  refine (pay5_at _ j a d).trans ((scratch m c 3 _ _ d).trans ?_)
  unfold grad
  rw [Finset.sum_range, sum_parts (n := 4096) (k := 4) 1024 rfl]
  exact Finset.sum_congr rfl fun r _ => dif_pos r.isLt

/-- The second array at the end. -/
theorem array4 : (dats m 0 c).arrAt 4 cfg0.N = G4 m c := by
  funext y
  obtain ⟨-, -, -, -, h0, h1, h2⟩ := places last
  have kept : ¬(256 ≤ (y 1).val ∧ (y 1).val < 512) → (dats m 0 c).arrAt 4 cfg0.N y = B m c y := fun hk => by
    refine (entry4 m c y fun t hf hm => ?_).trans (congrFun (before m c) y)
    obtain rfl := (flushes4 t).1 hf
    rw [View.set, Finset.mem_map] at hm
    obtain ⟨x, -, hx⟩ := hm
    have e : win0_4.index last 1 * 256 + 1 * (x 1).val = (y 1).val := congrArg (fun z : S4x1024x1024.Idx => (z 1).val) hx
    have : (x 1).val < 256 := (x 1).isLt
    rw [h1] at e
    omega
  unfold G4
  by_cases h : (y 1).val < 256
  · rw [dif_pos h]
    exact kept (by omega)
  · rw [dif_neg h]
    by_cases h' : (y 1).val - 256 < 256
    · rw [dif_pos h']
      exact Eq.trans (congrArg _ (at3 (a := 4) (b := 1024) (c := 1024) y (y 0) (⟨256 + ((y 1).val - 256), by omega⟩ : Fin 1024) (y 2) rfl
        (by show (y 1).val = 256 + ((y 1).val - 256); omega) rfl)) (written4 m c (y 0) ⟨(y 1).val - 256, h'⟩ (y 2))
    · rw [dif_neg h']
      exact kept (by omega)

/-! ## The reference -/

section
open Cert.Reference11Ideal.Read

/-- The reference's first result. -/
theorem ref3 : val_main_v11 (F := Ideal) (m ((c : Thread nD τ).loc main_arg0)) (m ((c : Thread nD τ).loc main_arg2)) = G3 m c := by
  funext y
  obtain ⟨i, d, rfl⟩ : ∃ (i : Fin 4096) (d : Fin 1024), y = ix2 i d := ⟨y 0, y 1, eq_ix2 y⟩
  show _ = back (R m c) (W m c) i d
  unfold back R W
  generalize m ((c : Thread nD τ).loc main_arg0) = x0
  generalize m ((c : Thread nD τ).loc main_arg2) = x2
  unfold val_main_v11 val_main_v8 val_main_v5 val_main_v2 val_main_v1 val_main_v0
  pointwise [Reference11Ideal.dot_S4096x1024_S1024x1024_S4096x1024_1_1_0_0_n_n]
  rfl

/-- The reference's second result. -/
theorem ref4 : val_main_v14 (F := Ideal) (m ((c : Thread nD τ).loc main_arg0)) (m ((c : Thread nD τ).loc main_arg1))
    (m ((c : Thread nD τ).loc main_arg3)) = G4 m c := by
  funext y
  obtain ⟨j, a, d, rfl⟩ : ∃ (j : Fin 4) (a d : Fin 1024), y = ix3 j a d := ⟨y 0, y 1, y 2, eq_ix3 y⟩
  generalize hG : G4 m c (ix3 j a d) = g
  unfold val_main_v14 val_main_v13 val_main_v12 val_main_v10 val_main_v9 val_main_v7 val_main_v6 val_main_v5 val_main_v3
  pointwise [Reference11Ideal.dot_S4096x1024_S4096x1024_S1024x1024_0_0_1_1_n_n]
  rw [← hG]
  unfold G4
  by_cases h : a.val < 256
  · rw [dif_pos h, dif_pos (show ((ix3 j a d : S4x1024x1024.Idx) 1).val < 256 from h)]
    rfl
  · rw [dif_neg h, dif_neg (show ¬((ix3 j a d : S4x1024x1024.Idx) 1).val < 256 from h)]
    by_cases h' : a.val - 256 < 256
    · rw [dif_pos h', dif_pos (show ((ix3 j a d : S4x1024x1024.Idx) 1).val - 256 < 256 from h')]
      exact Finset.sum_congr rfl fun i _ => mul_comm _ _
    · rw [dif_neg h', dif_neg (show ¬((ix3 j a d : S4x1024x1024.Idx) 1).val - 256 < 256 from h')]
      exact congrArg (B m c) (at3 (a := 4) (b := 1024) (c := 1024) _ j a d rfl (by show 512 + (a.val - 256 - 256) = a.val; omega) rfl)

end

/-! ## The claims -/

/-- The reference leaves its arguments unchanged and every counter at zero. -/
theorem ref_frame : quiescent_Reference11Ideal (hReference11Ideal := Reference11Ideal.Gen.facts) := fun m ρ _ =>
  (θ_run Reference11Ideal.defs _ _).mono
    (fun r h => ⟨fun c => (h c).2.2, sem_eq_zero_of_no_sems (by decide) r.2⟩)
    (Reference11Ideal.Value.run m ρ)

/-- The kernel's results are the reference's. -/
theorem algebraic : algebraic_Kernel11Ideal_Reference11Ideal (hKernel11Ideal := Kernel11Ideal.Gen.facts)
    (hReference11Ideal := Reference11Ideal.Gen.facts) := by
  intro m g m' g' _ hargs
  refine ⟨fun c => G3 m c, fun c => G4 m c, ?_, ?_⟩
  · refine (θ_run Kernel11Ideal.defs _ _).mono (fun r h c => ?_) (Kernel11Ideal.Value.run_blocks m g)
    exact ⟨(h c).1.trans (array3 m c), (h c).2.1.trans (array4 m c), (h c).2.2⟩
  · refine (θ_run Reference11Ideal.defs _ _).mono (fun r h c => ?_) (Reference11Ideal.Value.run m' g')
    obtain ⟨a0, a1, a2, a3⟩ := hargs c
    refine ⟨(h c).1.trans ((Reference11Ideal.Read.val_main_v11_eq _ _).trans ?_), (h c).2.1.trans ((Reference11Ideal.Read.val_main_v14_eq _ _ _).trans ?_), (h c).2.2⟩
    · rw [a0, a2]
      exact ref3 m c
    · rw [a0, a1, a3]
      exact ref4 m c

end Cert.Proof.MixBack

end
-- ==== Proof.GluBack.lean ====
/- The gradients of the product into the gate: the kernel's arrays, the reference's,
   and their equality. -/
module

public import proofs.«01_k».proof.Defs
public import proofs.«01_k».proof.Proof.Gen.Kernel12Ideal.Value
public import proofs.«01_k».proof.Proof.Gen.Reference12Ideal.Read
public import proofs.«01_k».proof.Proof.Index
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384

noncomputable section
namespace Cert.Proof.GluBack

open Cert.Kernel12Ideal Cert.Kernel12Ideal.Gen Cert.Kernel12Ideal.Value Idealize.ShloMosaic Idealize.ShloMosaic.TcCoe Idealize.SL.Sem
open Cert.Proof.Index
open Idealize.ShloMosaic.Pipeline (Dat)

/-- The gradient of the input: the product with the turned weights, over the columns of all chips. -/
def back (z : Fin 4096 → Fin 2048 → EReal) (w : Fin 4 → Fin 512 → Fin 512 → EReal) (i : Fin 4096) (d : Fin 512) : EReal :=
  ∑ k, z i k * w (chip 512 rfl k) d (place 512 (by omega) k)

/-- The gradient of the weights: of row `a`, and of column `d` of the block of chip `j`. -/
def grad (y : Fin 4096 → Fin 512 → EReal) (z : Fin 4096 → Fin 2048 → EReal) (j : Fin 4) (a d : Fin 512) : EReal :=
  ∑ i, y i a * z i (part 512 rfl j d)

/-! ## The kernel -/

/-- What a point makes of the gradient of the input from its blocks. -/
def backOf (x0 : Vec Ideal S1024x2048 .bf16) (x2 : Vec Ideal S4x512x512 .bf16) : Vec Ideal S1024x512 .f32 := fun y =>
  (∑ k : Fin 2048, x0 (ix2 (y 0) k) * x2 (ix3 (chip 512 rfl k) (y 1) (place 512 (by omega) k)) : EReal)

/-- What a point makes of the gradient of the weights from its blocks. -/
def gradOf (x0 : Vec Ideal S1024x2048 .bf16) (x1 : Vec Ideal S1024x512 .bf16) : Vec Ideal S4x512x512 .f32 := fun y =>
  (∑ i : Fin 1024, x1 (ix2 i (y 1)) * x0 (ix2 i (part 512 rfl (y 0) (y 2))) : EReal)

/-- The same, added to what was there. -/
def sumOf (x0 : Vec Ideal S1024x2048 .bf16) (x1 : Vec Ideal S1024x512 .bf16) (s : Vec Ideal S4x512x512 .f32) : Vec Ideal S4x512x512 .f32 := fun y =>
  (s y + gradOf x0 x1 y : EReal)

/-- The product of two blocks, the first turned. -/
theorem pay10_at (v w : Vec Ideal S1024x512 .bf16) (z : Fin 1) (a d : Fin 512) :
    k0_pay10 v w (ix3 z a d) = ∑ i : Fin 1024, v (ix2 i a) * w (ix2 i d) := by
  unfold k0_pay10 k0_pay9
  pointwise [dot_S1024x512_S1024x512_S512x512_0_0_1_1_n_n]

/-- The same, added to what was there. -/
theorem pay11_at (v w : Vec Ideal S1024x512 .bf16) (u : Vec Ideal S1x512x512 .f32) (z : Fin 1) (a d : Fin 512) :
    k0_pay11 v w u (ix3 z a d) = u (ix3 z a d) + ∑ i : Fin 1024, v (ix2 i a) * w (ix2 i d) := by
  unfold k0_pay11 k0_pay9
  obtain rfl : z = 0 := Subsingleton.elim _ _
  pointwise [dot_S1024x512_S1024x512_S512x512_0_0_1_1_n_n]

/-- The four products a point adds up. -/
theorem pay4_at (v0 v1 v2 v3 : Vec Ideal S1024x512 .bf16) (w0 w1 w2 w3 : Vec Ideal S1x512x512 .bf16) (i : Fin 1024) (d : Fin 512) :
    k0_pay4 (k0_pay12 v0 w0 v1 w1) v2 w2 v3 w3 (ix2 i d)
      = (∑ k : Fin 512, v0 (ix2 i k) * w0 (ix3 (0 : Fin 1) d k)) + (∑ k : Fin 512, v1 (ix2 i k) * w1 (ix3 (0 : Fin 1) d k))
        + (∑ k : Fin 512, v2 (ix2 i k) * w2 (ix3 (0 : Fin 1) d k)) + ∑ k : Fin 512, v3 (ix2 i k) * w3 (ix3 (0 : Fin 1) d k) := by
  unfold k0_pay4 k0_pay12
  pointwise [dot_S1024x512_S512x512_S1024x512_1_1_0_0_n_n]

section
variable (c : Dev nD) (i : grid0.Coords) (b1 : Memref sig .tc .vmem S1024x2048 .bf16) (u1 : b1.IsWhole)
  (b2 : Memref sig .tc .vmem S1024x512 .bf16) (u2 : b2.IsWhole) (b3 : Memref sig .tc .vmem S4x512x512 .bf16) (u3 : b3.IsWhole)
  (b4 : Memref sig .tc .vmem S1024x512 .f32) (u4 : b4.IsWhole) (b5 : Memref sig .tc .vmem S4x512x512 .bf16) (u5 : b5.IsWhole)
  (b6 : Memref sig .tc .vmem S4x512x512 .f32) (u6 : b6.IsWhole)
  (x0 : Vec Ideal S1024x2048 .bf16) (x1 : Vec Ideal S1024x512 .bf16) (x2 : Vec Ideal S4x512x512 .bf16) (s : Vec Ideal S4x512x512 .f32)

/-- A load of columns. -/
theorem cols_at (j : Fin 4) (o : ℕ) (ho : o = j.val * 512) (inb) (i : Fin 1024) (k : Fin 512) :
    b1.view.readAt (Elt Ideal) (Rect.unit (s := S1024x2048) ![0, o] ![1024, 512] inb).toLoadRect (u1.unread x0) (ix2 i k)
      = x0 (ix2 i (part 512 rfl j k)) :=
  (u1.readAt_unread x0 _ _).trans (congrArg x0 (at2 (a := 1024) (b := 2048) _ _ _ (by show 0 + 1 * i.val = i.val; omega)
    (by show o + 1 * k.val = j.val * 512 + k.val; omega)))

/-- A load of the block of a chip. -/
theorem chip_at {e : EltTy} (arg : Memref sig .tc .vmem S4x512x512 e) (harg : arg.IsWhole) (x : Vec Ideal S4x512x512 e)
    (j : Fin 4) (inb) (z : Fin 1) (a d : Fin 512) :
    arg.view.readAt (Elt Ideal) (Rect.unit (s := S4x512x512) ![j.val, 0, 0] ![1, 512, 512] inb).toLoadRect (harg.unread x) (ix3 z a d)
      = x (ix3 j a d) :=
  (harg.readAt_unread x _ _).trans (congrArg x (at3 (a := 4) (b := 512) (c := 512) _ _ _ _ (by show j.val + 1 * z.val = j.val; omega)
    (by show 0 + 1 * a.val = a.val; omega) (by show 0 + 1 * d.val = d.val; omega)))

/-- What a point stores in the first array. -/
theorem stored (i0 i1 i2 i3 k0 k1 k2 k3) (y : S1024x512.Idx) :
    k0_pay4 (k0_pay12
        (b1.view.readAt (Elt Ideal) (Rect.unit (s := S1024x2048) ![0, 0] ![1024, 512] i0).toLoadRect (u1.unread x0))
        (b3.view.readAt (Elt Ideal) (Rect.unit (s := S4x512x512) ![0, 0, 0] ![1, 512, 512] k0).toLoadRect (u3.unread x2))
        (b1.view.readAt (Elt Ideal) (Rect.unit (s := S1024x2048) ![0, 512] ![1024, 512] i1).toLoadRect (u1.unread x0))
        (b3.view.readAt (Elt Ideal) (Rect.unit (s := S4x512x512) ![1, 0, 0] ![1, 512, 512] k1).toLoadRect (u3.unread x2)))
      (b1.view.readAt (Elt Ideal) (Rect.unit (s := S1024x2048) ![0, 1024] ![1024, 512] i2).toLoadRect (u1.unread x0))
      (b3.view.readAt (Elt Ideal) (Rect.unit (s := S4x512x512) ![2, 0, 0] ![1, 512, 512] k2).toLoadRect (u3.unread x2))
      (b1.view.readAt (Elt Ideal) (Rect.unit (s := S1024x2048) ![0, 1536] ![1024, 512] i3).toLoadRect (u1.unread x0))
      (b3.view.readAt (Elt Ideal) (Rect.unit (s := S4x512x512) ![3, 0, 0] ![1, 512, 512] k3).toLoadRect (u3.unread x2)) y
      = backOf x0 x2 y := by
  obtain ⟨i, d, rfl⟩ : ∃ (i : Fin 1024) (d : Fin 512), y = ix2 i d := ⟨y 0, y 1, eq_ix2 y⟩
  rw [pay4_at]
  show _ = ∑ k : Fin 2048, x0 (ix2 i k) * x2 (ix3 (chip 512 rfl k) d (place 512 (by omega) k))
  rw [sum_parts (n := 2048) (k := 4) 512 rfl, Fin.sum_univ_four]
  have term (j : Fin 4) (k : Fin 512) : x0 (ix2 i (part 512 rfl j k)) * x2 (ix3 j d k)
      = x0 (ix2 i (part 512 rfl j k)) * x2 (ix3 (chip 512 rfl (part 512 (n := 2048) rfl j k)) d (place 512 (by omega) (part 512 (n := 2048) rfl j k))) := by
    rw [chip_part 512 (by omega) rfl j k, place_part 512 (by omega) rfl j k]
  refine congrArg₂ (fun x y : EReal => x + y) (congrArg₂ (fun x y : EReal => x + y) (congrArg₂ (fun x y : EReal => x + y) ?_ ?_) ?_) ?_ <;>
    refine Finset.sum_congr rfl fun k _ => Eq.trans (congrArg₂ (fun x y : EReal => x * y) ?_ ?_) (term _ k)
  · exact cols_at b1 u1 x0 0 0 rfl _ i k
  · exact chip_at b3 u3 x2 0 _ 0 d k
  · exact cols_at b1 u1 x0 1 512 rfl _ i k
  · exact chip_at b3 u3 x2 1 _ 0 d k
  · exact cols_at b1 u1 x0 2 1024 rfl _ i k
  · exact chip_at b3 u3 x2 2 _ 0 d k
  · exact cols_at b1 u1 x0 3 1536 rfl _ i k
  · exact chip_at b3 u3 x2 3 _ 0 d k

/-- The first point stores that, -/
theorem outA3 (h0 h1 h2 h3 h4 h5 h6 h7 h8) : out0_A_3 c i b1 u1 b2 u2 b3 u3 b4 u4 b5 u5 b6 u6 h0 h1 h2 h3 h4 h5 h6 h7 h8 x0 x1 x2 = backOf x0 x2 := by
  unfold out0_A_3 kernelRun0_A
  dsimp only
  refine (View.read_writes_full VO0_3 VO0_3.junk _ _ _).trans (funext fun y => ?_)
  unfold kernelRun0_A.sl.r_1 kernelRun0_A.sl.r_2 kernelRun0_A.sl.r_3
  exact stored b1 u1 b3 u3 x0 x2 _ _ _ _ _ _ _ _ y

/-- so does a point between, -/
theorem outB3 (h0 h1 h2 h3 h4 h5 h6 h7 h8) : out0_B_3 c i b1 u1 b2 u2 b3 u3 b4 u4 b5 u5 b6 u6 h0 h1 h2 h3 h4 h5 h6 h7 h8 x0 x1 x2 s = backOf x0 x2 := by
  unfold out0_B_3 kernelRun0_B
  dsimp only
  refine (View.read_writes_full VO0_3 VO0_3.junk _ _ _).trans (funext fun y => ?_)
  unfold kernelRun0_B.sl.r_1 kernelRun0_B.sl.r_2 kernelRun0_B.sl.r_3
  exact stored b1 u1 b3 u3 x0 x2 _ _ _ _ _ _ _ _ y

/-- and the last. -/
theorem outC3 (h0 h1 h2 h3 h4 h5 h6 h7 h8) : out0_C_3 c i b1 u1 b2 u2 b3 u3 b4 u4 b5 u5 b6 u6 h0 h1 h2 h3 h4 h5 h6 h7 h8 x0 x1 x2 s = backOf x0 x2 := by
  unfold out0_C_3 kernelRun0_C
  dsimp only
  refine (View.read_writes_full VO0_3 VO0_3.junk _ _ _).trans (funext fun y => ?_)
  unfold kernelRun0_C.sl.r_1 kernelRun0_C.sl.r_2 kernelRun0_C.sl.r_3
  exact stored b1 u1 b3 u3 x0 x2 _ _ _ _ _ _ _ _ y

/-- The product for the block of a chip. -/
theorem product (j : Fin 4) (o : ℕ) (ho : o = j.val * 512) (inb inb' inb'' z a d) :
    ∑ i : Fin 1024, b2.view.readAt (Elt Ideal) (Rect.unit (s := S1024x512) ![0, 0] ![1024, 512] inb).toLoadRect (u2.unread x1) (ix2 i a)
        * b1.view.readAt (Elt Ideal) (Rect.unit (s := S1024x2048) ![0, o] ![1024, 512] inb').toLoadRect (u1.unread x0) (ix2 i d)
      = gradOf x0 x1 ((Rect.unit (s := S4x512x512) ![j.val, 0, 0] ![1, 512, 512] inb'').emb (ix3 z a d)) := by
  have e : (Rect.unit (s := S4x512x512) ![j.val, 0, 0] ![1, 512, 512] inb'').emb (ix3 z a d) = ix3 j a d :=
    at3 (a := 4) (b := 512) (c := 512) _ _ _ _ (by show j.val + 1 * z.val = j.val; omega)
      (by show 0 + 1 * a.val = a.val; omega) (by show 0 + 1 * d.val = d.val; omega)
  refine Eq.trans (Finset.sum_congr rfl fun i _ => ?_) (congrArg (gradOf x0 x1) e).symm
  refine congrArg₂ (fun x y : EReal => x * y) ?_ (cols_at b1 u1 x0 j o ho _ i d)
  exact (u2.readAt_unread x1 _ _).trans (congrArg x1 (at2 (a := 1024) (b := 512) _ _ _ (by show 0 + 1 * i.val = i.val; omega)
    (by show 0 + 1 * a.val = a.val; omega)))

/-- What the first point stores in the scratch for a chip. -/
theorem first (j : Fin 4) (o : ℕ) (ho : o = j.val * 512) (inb inb' inb'') (x : S1x512x512.Idx) :
    k0_pay10 (b2.view.readAt (Elt Ideal) (Rect.unit (s := S1024x512) ![0, 0] ![1024, 512] inb).toLoadRect (u2.unread x1))
        (b1.view.readAt (Elt Ideal) (Rect.unit (s := S1024x2048) ![0, o] ![1024, 512] inb').toLoadRect (u1.unread x0)) x
      = gradOf x0 x1 ((Rect.unit (s := S4x512x512) ![j.val, 0, 0] ![1, 512, 512] inb'').emb x) := by
  obtain ⟨z, a, d, rfl⟩ : ∃ (z : Fin 1) (a d : Fin 512), x = ix3 z a d := ⟨x 0, x 1, x 2, eq_ix3 x⟩
  exact (pay10_at _ _ z a d).trans (product b1 u1 b2 u2 x0 x1 j o ho _ _ _ z a d)

/-- What a later point stores in the scratch for a chip: its product added. -/
theorem later (j : Fin 4) (o : ℕ) (ho : o = j.val * 512) (inb inb' inb'' inb3) (x : S1x512x512.Idx) :
    k0_pay11 (b2.view.readAt (Elt Ideal) (Rect.unit (s := S1024x512) ![0, 0] ![1024, 512] inb).toLoadRect (u2.unread x1))
        (b1.view.readAt (Elt Ideal) (Rect.unit (s := S1024x2048) ![0, o] ![1024, 512] inb').toLoadRect (u1.unread x0))
        (b6.view.readAt (Elt Ideal) (Rect.unit (s := S4x512x512) ![j.val, 0, 0] ![1, 512, 512] inb3).toLoadRect (u6.unread s)) x
      = sumOf x0 x1 s ((Rect.unit (s := S4x512x512) ![j.val, 0, 0] ![1, 512, 512] inb'').emb x) := by
  obtain ⟨z, a, d, rfl⟩ : ∃ (z : Fin 1) (a d : Fin 512), x = ix3 z a d := ⟨x 0, x 1, x 2, eq_ix3 x⟩
  refine (pay11_at _ _ _ z a d).trans (congrArg₂ (fun x y : EReal => x + y) ?_ (product b1 u1 b2 u2 x0 x1 j o ho _ _ _ z a d))
  exact u6.readAt_unread s _ _

/-- What the first point leaves in the scratch. -/
theorem soutA (h0 h1 h2 h3 h4 h5 h6 h7 h8) : sout0_A_0 c i b1 u1 b2 u2 b3 u3 b4 u4 b5 u5 b6 u6 h0 h1 h2 h3 h4 h5 h6 h7 h8 x0 x1 x2 = gradOf x0 x1 := by
  funext y
  have hc := scover0_A_0 c i b1 u1 b2 u2 b3 u3 b4 u4 b5 u5 b6 u6 h0 h1 h2 h3 h4 h5 h6 h7 h8 x0 x1 x2 y
  unfold sout0_A_0
  rw [View.read_writes_junk_apply_eq_canon]
  refine View.canon_apply_of_pieces (Val := Elt Ideal) (e := .f32) (gradOf x0 x1) _ ?_ y hc
  unfold kernelRun0_A
  dsimp only
  unfold kernelRun0_A.sl.r kernelRun0_A.sl.r_2
  refine List.forall_mem_cons.2 ⟨?_, List.forall_mem_cons.2 ⟨?_, List.forall_mem_cons.2 ⟨?_, List.forall_mem_cons.2 ⟨?_, List.forall_mem_nil _⟩⟩⟩⟩
  · exact first b1 u1 b2 u2 x0 x1 3 1536 rfl _ _ inb_S4x512x512_S1x512x512_3_0_0
  · exact first b1 u1 b2 u2 x0 x1 2 1024 rfl _ _ inb_S4x512x512_S1x512x512_2_0_0
  · exact first b1 u1 b2 u2 x0 x1 1 512 rfl _ _ inb_S4x512x512_S1x512x512_1_0_0
  · exact first b1 u1 b2 u2 x0 x1 0 0 rfl _ _ inb_S4x512x512_S1x512x512_0_0_0

/-- What a point between leaves in the scratch. -/
theorem soutB (h0 h1 h2 h3 h4 h5 h6 h7 h8) : sout0_B_0 c i b1 u1 b2 u2 b3 u3 b4 u4 b5 u5 b6 u6 h0 h1 h2 h3 h4 h5 h6 h7 h8 x0 x1 x2 s = sumOf x0 x1 s := by
  funext y
  have hc := scover0_B_0 c i b1 u1 b2 u2 b3 u3 b4 u4 b5 u5 b6 u6 h0 h1 h2 h3 h4 h5 h6 h7 h8 x0 x1 x2 s y
  unfold sout0_B_0
  rw [View.read_writes_junk_apply_eq_canon]
  refine View.canon_apply_of_pieces (Val := Elt Ideal) (e := .f32) (sumOf x0 x1 s) _ ?_ y hc
  unfold kernelRun0_B
  dsimp only
  unfold kernelRun0_B.sl.r kernelRun0_B.sl.r_2 kernelRun0_B.sl.v52 kernelRun0_B.sl.v52_1 kernelRun0_B.sl.v52_2
  refine List.forall_mem_cons.2 ⟨?_, List.forall_mem_cons.2 ⟨?_, List.forall_mem_cons.2 ⟨?_, List.forall_mem_cons.2 ⟨?_, List.forall_mem_nil _⟩⟩⟩⟩
  · exact later b1 u1 b2 u2 b6 u6 x0 x1 s 3 1536 rfl _ _ inb_S4x512x512_S1x512x512_3_0_0 _
  · exact later b1 u1 b2 u2 b6 u6 x0 x1 s 2 1024 rfl _ _ inb_S4x512x512_S1x512x512_2_0_0 _
  · exact later b1 u1 b2 u2 b6 u6 x0 x1 s 1 512 rfl _ _ inb_S4x512x512_S1x512x512_1_0_0 _
  · exact later b1 u1 b2 u2 b6 u6 x0 x1 s 0 0 rfl _ _ inb_S4x512x512_S1x512x512_0_0_0 _

/-- What the last point leaves in the scratch. -/
theorem soutC (h0 h1 h2 h3 h4 h5 h6 h7 h8) : sout0_C_0 c i b1 u1 b2 u2 b3 u3 b4 u4 b5 u5 b6 u6 h0 h1 h2 h3 h4 h5 h6 h7 h8 x0 x1 x2 s = sumOf x0 x1 s := by
  funext y
  have hc := scover0_C_0 c i b1 u1 b2 u2 b3 u3 b4 u4 b5 u5 b6 u6 h0 h1 h2 h3 h4 h5 h6 h7 h8 x0 x1 x2 s y
  unfold sout0_C_0
  rw [View.read_writes_junk_apply_eq_canon]
  refine View.canon_apply_of_pieces (Val := Elt Ideal) (e := .f32) (sumOf x0 x1 s) _ ?_ y hc
  unfold kernelRun0_C
  dsimp only
  unfold kernelRun0_C.sl.HS0_4 kernelRun0_C.sl.r kernelRun0_C.sl.r_2 kernelRun0_C.sl.v52 kernelRun0_C.sl.v52_1 kernelRun0_C.sl.v52_2
  refine List.forall_mem_cons.2 ⟨?_, List.forall_mem_cons.2 ⟨?_, List.forall_mem_cons.2 ⟨?_, List.forall_mem_cons.2 ⟨?_, List.forall_mem_nil _⟩⟩⟩⟩
  · exact later b1 u1 b2 u2 b6 u6 x0 x1 s 3 1536 rfl _ _ inb_S4x512x512_S1x512x512_3_0_0 _
  · exact later b1 u1 b2 u2 b6 u6 x0 x1 s 2 1024 rfl _ _ inb_S4x512x512_S1x512x512_2_0_0 _
  · exact later b1 u1 b2 u2 b6 u6 x0 x1 s 1 512 rfl _ _ inb_S4x512x512_S1x512x512_1_0_0 _
  · exact later b1 u1 b2 u2 b6 u6 x0 x1 s 0 0 rfl _ _ inb_S4x512x512_S1x512x512_0_0_0 _

/-- What the last point stores in the second array is what it leaves in the scratch. -/
theorem outC4 (h0 h1 h2 h3 h4 h5 h6 h7 h8) : out0_C_4 c i b1 u1 b2 u2 b3 u3 b4 u4 b5 u5 b6 u6 h0 h1 h2 h3 h4 h5 h6 h7 h8 x0 x1 x2 s = k0_pay8 (sout0_C_0 c i b1 u1 b2 u2 b3 u3 b4 u4 b5 u5 b6 u6 h0 h1 h2 h3 h4 h5 h6 h7 h8 x0 x1 x2 s) := by
  unfold out0_C_4 sout0_C_0 kernelRun0_C
  dsimp only
  refine (View.read_writes_full VO0_4 VO0_4.junk _ _ _).trans (congrArg k0_pay8 ?_)
  unfold kernelRun0_C.sl.v52_3
  refine (View.readAt_full b6.view _ _).trans (funext fun y => ?_)
  rw [View.read_writes_junk_apply_eq_canon, View.read_writes_junk_apply_eq_canon]

end
variable (m : (ℓ : Loc nD τ sig) → Buf (Elt Ideal) ℓ) (c : Dev nD)

/-- The rows of the incoming gradient. -/
def Z : Fin 4096 → Fin 2048 → EReal := fun i d => (m ((c : Thread nD τ).loc main_arg0) : S4096x2048.Idx → EReal) (ix2 i d)
/-- The rows of the product's input. -/
def Y : Fin 4096 → Fin 512 → EReal := fun i d => (m ((c : Thread nD τ).loc main_arg1) : S4096x512.Idx → EReal) (ix2 i d)
/-- The weights: the columns of every chip. -/
def W : Fin 4 → Fin 512 → Fin 512 → EReal := fun j a k => (m ((c : Thread nD τ).loc main_arg2) : S4x512x512.Idx → EReal) (ix3 j a k)

/-- The first result. -/
def G3 (y : S4096x512.Idx) : EReal := back (Z m c) (W m c) (y 0) (y 1)

/-- The second. -/
def G4 (y : S4x512x512.Idx) : EReal := grad (Y m c) (Z m c) (y 0) (y 1) (y 2)

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0) ∧ (win0_3.index t 0 = t.val ∧ win0_3.index t 1 = 0)
    ∧ win0_4.index t 0 = 0 ∧ win0_4.index t 1 = 0 ∧ win0_4.index t 2 = 0 := by
  revert t
  decide +kernel

/-- The block of the incoming gradient at a point. -/
theorem block_z (t : Fin cfg0.N) (i : Fin 1024) (d : Fin 2048) : (iblk m c 0 t : S1024x2048.Idx → EReal) (ix2 i d) = Z m c (part 1024 rfl (t : Fin 4) i) d := by
  obtain ⟨⟨h0, h1⟩, -⟩ := places t
  unfold iblk Z
  rw [View.read_apply]
  refine (congrFun (V_main_arg0 m c) _).trans (congrArg (m ((c : Thread nD τ).loc main_arg0) : S4096x2048.Idx → EReal) (at2 _ _ _ ?_ ?_))
  · show win0_0.index t 0 * 1024 + 1 * i.val = t.val * 1024 + i.val; rw [h0]; omega
  · show win0_0.index t 1 * 2048 + 1 * d.val = d.val; rw [h1]; omega

/-- The block of the product's input at a point. -/
theorem block_y (t : Fin cfg0.N) (i : Fin 1024) (d : Fin 512) : (iblk m c 1 t : S1024x512.Idx → EReal) (ix2 i d) = Y m c (part 1024 rfl (t : Fin 4) i) d := by
  obtain ⟨-, ⟨h0, h1⟩, -⟩ := places t
  unfold iblk Y
  rw [View.read_apply]
  refine (congrFun (V_main_arg1 m c) _).trans (congrArg (m ((c : Thread nD τ).loc main_arg1) : S4096x512.Idx → EReal) (at2 _ _ _ ?_ ?_))
  · show win0_1.index t 0 * 1024 + 1 * i.val = t.val * 1024 + i.val; rw [h0]; omega
  · show win0_1.index t 1 * 512 + 1 * d.val = d.val; rw [h1]; omega

/-- The block of the weights at a point: all of them. -/
theorem block_w (t : Fin cfg0.N) (j : Fin 4) (a k : Fin 512) : (iblk m c 2 t : S4x512x512.Idx → EReal) (ix3 j a k) = W m c j a k := by
  obtain ⟨-, -, ⟨h0, h1, h2⟩, -⟩ := places t
  unfold iblk W
  rw [View.read_apply]
  refine (congrFun (V_main_arg2 m c) _).trans (congrArg (m ((c : Thread nD τ).loc main_arg2) : S4x512x512.Idx → EReal) (at3 _ _ _ _ ?_ ?_ ?_))
  · show win0_2.index t 0 * 4 + 1 * j.val = j.val; rw [h0]; omega
  · show win0_2.index t 1 * 512 + 1 * a.val = a.val; rw [h1]; omega
  · show win0_2.index t 2 * 512 + 1 * k.val = k.val; rw [h2]; omega

/-! ### The gradient of the input -/

/-- Every point stores the product of its blocks. -/
theorem store3 (t : Fin cfg0.N) : (outsAt0 m c t.val t.isLt).1 = backOf (iblk m c 0 t) (iblk m c 2 t) := by
  have ht : t.val < 4 := t.isLt
  by_cases h0 : t.val % 4 = 0
  · rw [outsAt0_A m c t h0 (by omega) h0 (by omega) h0 (by omega) h0 (by omega) (by omega)]
    dsimp only
    rw [outA3]
  · by_cases h2 : t.val % 4 = 3
    · rw [outsAt0_C m c t h0 (by omega) h0 (by omega) h0 (by omega) h0 (by omega) h2]
      dsimp only
      rw [outC3]
    · rw [outsAt0_B m c t h0 (by omega) h0 (by omega) h0 (by omega) h0 (by omega) h2]
      dsimp only
      rw [outB3]

/-- What a point writes back of the first array. -/
theorem written3 (t : Fin cfg0.N) : (dats m 0 c).flushed 3 t = ((cfg0.win 3).blk t).view.read (Elt Ideal) (G3 m c) := by
  obtain ⟨-, -, -, ⟨h0, h1⟩, -⟩ := places t
  rw [flushed3, store3]
  funext y
  obtain ⟨i, d, rfl⟩ : ∃ (i : Fin 1024) (d : Fin 512), y = ix2 i d := ⟨y 0, y 1, eq_ix2 y⟩
  rw [View.read_apply]
  have hy : ((cfg0.win 3).blk t).view.emb (ix2 i d) = ix2 (part 1024 rfl (t : Fin 4) i) d := by
    refine at2 (a := 4096) (b := 512) _ _ _ ?_ ?_
    · show win0_3.index t 0 * 1024 + 1 * i.val = t.val * 1024 + i.val; rw [h0]; omega
    · show win0_3.index t 1 * 512 + 1 * d.val = d.val; rw [h1]; omega
  refine Eq.trans ?_ (congrArg (G3 m c) hy).symm
  exact Finset.sum_congr rfl fun k _ => congrArg₂ (fun x y : EReal => x * y) (block_z m c t i k) (block_w m c t _ _ _)

/-- The first array at the end. -/
theorem array3 : (dats m 0 c).arrAt 3 cfg0.N = G3 m c :=
  (dats m 0 c).arrAt_eq_of_cover 3 (G3 m c) (fun t _ => written3 m c t)
    (reached win0_3)

/-! ### The gradient of the weights -/

/-- What the rows of a point add to it. -/
def share (j : Fin 4) (a d : Fin 512) (n : ℕ) : EReal :=
  if h : n < 4 then ∑ i : Fin 1024, Y m c (part 1024 rfl (⟨n, h⟩ : Fin 4) i) a * Z m c (part 1024 rfl (⟨n, h⟩ : Fin 4) i) (part 512 rfl j d) else 0

/-- The product of the blocks of a point is what its rows add. -/
theorem share_eq (t : Fin cfg0.N) (j : Fin 4) (a d : Fin 512) : gradOf (iblk m c 0 t) (iblk m c 1 t) (ix3 j a d) = share m c j a d t.val := by
  unfold share
  rw [dif_pos (show t.val < 4 from t.isLt)]
  exact Finset.sum_congr rfl fun i _ => congrArg₂ (fun x y : EReal => x * y) (block_y m c t i a) (block_z m c t i _)

/-- What a point leaves in the scratch: what the rows of the points so far add up to. -/
theorem scratch (n : ℕ) (hn : n < cfg0.N) (j : Fin 4) (a d : Fin 512) :
    (outsAt0 m c n hn).2.2 (ix3 j a d) = ∑ r ∈ Finset.range (n + 1), share m c j a d r := by
  induction n with
  | zero =>
    rw [outsAt0_A m c ⟨0, hn⟩ rfl (by simp) rfl (by simp) rfl (by simp) rfl (by simp) (by simp), Finset.sum_range_one]
    dsimp only
    rw [soutA]
    exact share_eq m c ⟨0, hn⟩ j a d
  | succ n ih =>
    have h4 : n + 1 < 4 := hn
    have h0 : ¬(n + 1) % 4 = 0 := by omega
    have h1 : 1 ≤ n + 1 := by omega
    rw [Finset.sum_range_succ, ← ih (Nat.lt_of_succ_lt hn), ← share_eq m c ⟨n + 1, hn⟩ j a d]
    by_cases h2 : (n + 1) % 4 = 3
    · rw [outsAt0_C m c ⟨n + 1, hn⟩ h0 h1 h0 h1 h0 h1 h0 h1 h2]
      dsimp only
      rw [soutC]
      rfl
    · rw [outsAt0_B m c ⟨n + 1, hn⟩ h0 h1 h0 h1 h0 h1 h0 h1 h2]
      dsimp only
      rw [soutB]
      rfl

/-- The last point. -/
abbrev last : Fin cfg0.N := (⟨3, by decide⟩ : Fin 4)

/-- Only the last point writes the second array back. -/
theorem flushes4 : ∀ t : Fin cfg0.N, (cfg0.win 4).flush t = true ↔ t = last := by
  decide +kernel

/-- What the last point stores: its scratch. -/
theorem store4 : (outsAt0 m c (last).val (last).isLt).2.1 = k0_pay8 (outsAt0 m c (last).val (last).isLt).2.2 := by
  rw [outsAt0_C m c last (by decide) (by decide) (by decide) (by decide) (by decide) (by decide) (by decide) (by decide) (by decide)]
  dsimp only
  rw [outC4]

/-- What it writes back of the second array. -/
theorem written4 (t : Fin cfg0.N) (hf : (cfg0.win 4).flush t = true) :
    (dats m 0 c).flushed 4 t = ((cfg0.win 4).blk t).view.read (Elt Ideal) (G4 m c) := by
  obtain rfl := (flushes4 t).1 hf
  obtain ⟨-, -, -, -, h0, h1, h2⟩ := places last
  rw [flushed4, store4]
  funext y
  obtain ⟨j, a, d, rfl⟩ : ∃ (j : Fin 4) (a d : Fin 512), y = ix3 j a d := ⟨y 0, y 1, y 2, eq_ix3 y⟩
  rw [View.read_apply]
  have hy : ((cfg0.win 4).blk last).view.emb (ix3 j a d) = ix3 j a d := by
    refine at3 (a := 4) (b := 512) (c := 512) _ _ _ _ ?_ ?_ ?_
    · show win0_4.index last 0 * 4 + 1 * j.val = j.val; rw [h0]; omega
    · show win0_4.index last 1 * 512 + 1 * a.val = a.val; rw [h1]; omega
    · show win0_4.index last 2 * 512 + 1 * d.val = d.val; rw [h2]; omega
  refine Eq.trans ?_ (congrArg (G4 m c) hy).symm
  refine (scratch m c 3 _ j a d).trans ?_
  show _ = grad (Y m c) (Z m c) j a d
  unfold grad
  rw [Finset.sum_range, sum_parts (n := 4096) (k := 4) 1024 rfl]
  exact Finset.sum_congr rfl fun r _ => dif_pos r.isLt

/-- The second array at the end. -/
theorem array4 : (dats m 0 c).arrAt 4 cfg0.N = G4 m c :=
  (dats m 0 c).arrAt_eq_of_cover 4 (G4 m c) (fun t hf => written4 m c t hf)
    (reached win0_4)

/-! ## The reference -/

section
open Cert.Reference12Ideal.Read

/-- The reference's first result. -/
theorem ref3 : val_main_v8 (F := Ideal) (m ((c : Thread nD τ).loc main_arg0)) (m ((c : Thread nD τ).loc main_arg2)) = G3 m c := by
  funext y
  obtain ⟨i, d, rfl⟩ : ∃ (i : Fin 4096) (d : Fin 512), y = ix2 i d := ⟨y 0, y 1, eq_ix2 y⟩
  show _ = back (Z m c) (W m c) i d
  unfold back Z W
  generalize m ((c : Thread nD τ).loc main_arg0) = x0
  generalize m ((c : Thread nD τ).loc main_arg2) = x2
  unfold val_main_v8 val_main_v5 val_main_v3 val_main_v2 val_main_v1
  pointwise [Reference12Ideal.dot_S4096x2048_S512x2048_S4096x512_1_1_0_0_n_n]
  rfl

/-- The reference's second result. -/
theorem ref4 : val_main_v11 (F := Ideal) (m ((c : Thread nD τ).loc main_arg0)) (m ((c : Thread nD τ).loc main_arg1)) = G4 m c := by
  funext y
  obtain ⟨j, a, d, rfl⟩ : ∃ (j : Fin 4) (a d : Fin 512), y = ix3 j a d := ⟨y 0, y 1, y 2, eq_ix3 y⟩
  show _ = grad (Y m c) (Z m c) j a d
  unfold grad Z Y
  generalize m ((c : Thread nD τ).loc main_arg0) = x0
  generalize m ((c : Thread nD τ).loc main_arg1) = x1
  unfold val_main_v11 val_main_v10 val_main_v9 val_main_v7 val_main_v6 val_main_v5 val_main_v0
  pointwise [Reference12Ideal.dot_S4096x2048_S4096x512_S2048x512_0_0_1_1_n_n]
  exact Finset.sum_congr rfl fun i _ => mul_comm _ _

end

/-! ## The claims -/

/-- The reference leaves its arguments unchanged and every counter at zero. -/
theorem ref_frame : quiescent_Reference12Ideal (hReference12Ideal := Reference12Ideal.Gen.facts) := fun m ρ _ =>
  (θ_run Reference12Ideal.defs _ _).mono
    (fun r h => ⟨fun c => (h c).2.2, sem_eq_zero_of_no_sems (by decide) r.2⟩)
    (Reference12Ideal.Value.run m ρ)

/-- The kernel's results are the reference's. -/
theorem algebraic : algebraic_Kernel12Ideal_Reference12Ideal (hKernel12Ideal := Kernel12Ideal.Gen.facts)
    (hReference12Ideal := Reference12Ideal.Gen.facts) := by
  intro m g m' g' _ hargs
  refine ⟨fun c => G3 m c, fun c => G4 m c, ?_, ?_⟩
  · refine (θ_run Kernel12Ideal.defs _ _).mono (fun r h c => ?_) (Kernel12Ideal.Value.run_blocks m g)
    exact ⟨(h c).1.trans (array3 m c), (h c).2.1.trans (array4 m c), (h c).2.2⟩
  · refine (θ_run Reference12Ideal.defs _ _).mono (fun r h c => ?_) (Reference12Ideal.Value.run m' g')
    obtain ⟨a0, a1, a2⟩ := hargs c
    refine ⟨(h c).1.trans ((Reference12Ideal.Read.val_main_v8_eq _ _).trans ?_), (h c).2.1.trans ((Reference12Ideal.Read.val_main_v11_eq _ _).trans ?_), (h c).2.2⟩
    · rw [a0, a2]
      exact ref3 m c
    · rw [a0, a1]
      exact ref4 m c

end Cert.Proof.GluBack

end
-- ==== Proof.SsmGlu.lean ====
/- The product before the gate of the state-space branch: the kernel's array, the reference's, and their equality. -/
module

public import proofs.«01_k».proof.Defs
public import proofs.«01_k».proof.Proof.Gen.Kernel13Ideal.Value
public import proofs.«01_k».proof.Proof.Gen.Reference13Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.SsmGlu

open Cert.Kernel13Ideal Cert.Kernel13Ideal.Gen Cert.Kernel13Ideal.Value Idealize.ShloMosaic Idealize.ShloMosaic.TcCoe Idealize.SL.Sem
open Cert.Proof.Index
open Idealize.ShloMosaic.Pipeline (Dat)

/-- Row `i` of `y` times column `d` of the weights, of which each chip holds 512 columns. -/
def prod (y : Fin 4096 → Fin 512 → EReal) (w : Fin 4 → Fin 512 → Fin 512 → EReal) (i : Fin 4096) (d : Fin 2048) : EReal :=
  ∑ k, y i k * w (chip 512 rfl d) k (place 512 (by omega) d)

/-! ## The kernel -/

/-- What a point stores: the products of its rows with each chip's columns, side by side. -/
theorem pay_at (x0 : Vec Ideal S1024x512 .bf16) (w0 w1 w2 w3 : Vec Ideal S1x512x512 .bf16) (i : Fin 1024) (d : Fin 2048) :
    k0_pay1 x0 w0 w1 w2 w3 (ix2 i d) =
      ∑ k : Fin 512, x0 (ix2 i k) * (![w0, w1, w2, w3] (chip 512 rfl d) : Vec Ideal S1x512x512 .bf16) (ix3 0 k (place 512 (by omega) d)) := by
  have hd := d.isLt
  have key : ∀ (j : Fin 4) (w : Vec Ideal S1x512x512 .bf16) (e : Fin 512), ![w0, w1, w2, w3] j = w → d.val = j.val * 512 + e.val →
      (∑ k : Fin 512, x0 (ix2 i k) * w (ix3 0 k e) : EReal)
        = ∑ k : Fin 512, x0 (ix2 i k) * (![w0, w1, w2, w3] (chip 512 rfl d) : Vec Ideal S1x512x512 .bf16) (ix3 0 k (place 512 (by omega) d)) := by
    intro j w e hw he
    have h1 : chip 512 rfl d = j := Fin.ext (by show d.val / 512 = j.val; omega)
    have h2 : place 512 (by omega) d = e := Fin.ext (by show d.val % 512 = e.val; omega)
    rw [h1, h2, hw]
  revert key
  generalize (∑ k : Fin 512, x0 (ix2 i k) * (![w0, w1, w2, w3] (chip 512 rfl d) : Vec Ideal S1x512x512 .bf16) (ix3 0 k (place 512 (by omega) d)) : EReal) = R
  intro key
  unfold k0_pay1
  pointwise [dot_S1024x512_S512x512_S1024x512_1_0_0_1_n_n]
  by_cases h0 : d.val < 512
  · rw [dif_pos h0]
    exact key 0 w0 ⟨d.val, h0⟩ rfl (by show d.val = 0 * 512 + d.val; omega)
  rw [dif_neg h0]
  by_cases h1 : d.val - 512 < 512
  · rw [dif_pos h1]
    exact key 1 w1 ⟨d.val - 512, h1⟩ rfl (by show d.val = 1 * 512 + (d.val - 512); omega)
  rw [dif_neg h1]
  by_cases h2 : d.val - 512 - 512 < 512
  · rw [dif_pos h2]
    exact key 2 w2 ⟨d.val - 512 - 512, h2⟩ rfl (by show d.val = 2 * 512 + (d.val - 512 - 512); omega)
  rw [dif_neg h2]
  exact key 3 w3 ⟨d.val - 512 - 512 - 512, by omega⟩ rfl (by show d.val = 3 * 512 + (d.val - 512 - 512 - 512); omega)

/-- A point's block, from its input blocks. -/
theorem out_at (x0 : Vec Ideal S1024x512 .bf16) (x1 : Vec Ideal S4x512x512 .bf16) (i : Fin 1024) (d : Fin 2048) :
    out0_2 x0 x1 (ix2 i d) = ∑ k : Fin 512, x0 (ix2 i k) * x1 (ix3 (chip 512 rfl d) k (place 512 (by omega) d)) := by
  unfold out0_2
  rw [View.canon_unit_zero zero2, View.ld_unit_zero zero2, pay_at]
  refine Finset.sum_congr rfl fun k _ => congrArg (fun y : EReal => x0 (ix2 i k) * y) ?_
  generalize chip 512 rfl d = j
  generalize place 512 (by omega) d = e
  match j with
  | ⟨0, _⟩ => exact congrArg x1 (at3 _ _ _ _ rfl (by show 0 + 1 * k.val = k.val; omega) (by show 0 + 1 * e.val = e.val; omega))
  | ⟨1, _⟩ => exact congrArg x1 (at3 _ _ _ _ rfl (by show 0 + 1 * k.val = k.val; omega) (by show 0 + 1 * e.val = e.val; omega))
  | ⟨2, _⟩ => exact congrArg x1 (at3 _ _ _ _ rfl (by show 0 + 1 * k.val = k.val; omega) (by show 0 + 1 * e.val = e.val; omega))
  | ⟨3, _⟩ => exact congrArg x1 (at3 _ _ _ _ rfl (by show 0 + 1 * k.val = k.val; omega) (by show 0 + 1 * e.val = e.val; omega))

variable (m : (ℓ : Loc nD τ sig) → Buf (Elt Ideal) ℓ) (c : Dev nD)

/-- The rows of y. -/
def Y : Fin 4096 → Fin 512 → EReal := fun i a => (m ((c : Thread nD τ).loc main_arg0) : S4096x512.Idx → EReal) (ix2 i a)
/-- The weights, by chip. -/
def W : Fin 4 → Fin 512 → Fin 512 → EReal := fun j a d => (m ((c : Thread nD τ).loc main_arg1) : S4x512x512.Idx → EReal) (ix3 j a d)

/-- The result. -/
def G (y : S4096x2048.Idx) : EReal := prod (Y m c) (W m c) (y 0) (y 1)

/-- Where the blocks of a point lie. -/
theorem places (t : Fin cfg0.N) : (win0_0.index t 0 = t.val ∧ win0_0.index t 1 = 0)
    ∧ (win0_1.index t 0 = 0 ∧ win0_1.index t 1 = 0 ∧ win0_1.index t 2 = 0)
    ∧ win0_2.index t 0 = t.val ∧ win0_2.index t 1 = 0 := by
  revert t
  decide +kernel

/-- The block of y at a point. -/
theorem block_y (t : Fin cfg0.N) (r : Fin 4) (hr : t.val = r.val) (i : Fin 1024) (a : Fin 512) :
    (iblk m c 0 t : S1024x512.Idx → EReal) (ix2 i a) = Y m c (part 1024 rfl r i) a := by
  obtain ⟨⟨h0, h1⟩, -, -⟩ := places t
  unfold iblk Y
  rw [View.read_apply]
  refine congrArg (m ((c : Thread nD τ).loc main_arg0) : S4096x512.Idx → EReal) (at2 _ _ _ ?_ ?_)
  · show win0_0.index t 0 * 1024 + 1 * i.val = r.val * 1024 + i.val; rw [h0]; omega
  · show win0_0.index t 1 * 512 + 1 * a.val = a.val; rw [h1]; omega

/-- The block of the weights at a point: all of them. -/
theorem block_w (t : Fin cfg0.N) (j : Fin 4) (a : Fin 512) (d : Fin 512) :
    (iblk m c 1 t : S4x512x512.Idx → EReal) (ix3 j a d) = W m c j a d := by
  obtain ⟨-, ⟨h0, h1, h2⟩, -⟩ := places t
  unfold iblk W
  rw [View.read_apply]
  refine congrArg (m ((c : Thread nD τ).loc main_arg1) : S4x512x512.Idx → EReal) (at3 _ _ _ _ ?_ ?_ ?_)
  · show win0_1.index t 0 * 4 + 1 * j.val = j.val; rw [h0]; omega
  · show win0_1.index t 1 * 512 + 1 * a.val = a.val; rw [h1]; omega
  · show win0_1.index t 2 * 512 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 4 := t.isLt
  rw [flushed2 m c t]
  funext x
  have hx : x = ix2 (x 0) (x 1) := at2 (a := 1024) (b := 2048) x (x 0) (x 1) rfl rfl
  have hy : ((cfg0.win 2).blk t).view.emb x = ix2 (part (n := 4096) (k := 4) 1024 rfl ⟨t.val, ht⟩ (x 0)) (x 1) := by
    refine at2 (a := 4096) (b := 2048) _ _ _ ?_ ?_
    · show win0_2.index t 0 * 1024 + 1 * (x 0).val = t.val * 1024 + (x 0).val; rw [h0]; omega
    · show win0_2.index t 1 * 2048 + 1 * (x 1).val = (x 1).val; rw [h1]; omega
  refine Eq.trans ?_ (congrArg (G m c) hy).symm
  refine (congrArg (out0_2 _ _) hx).trans ((out_at _ _ (x 0) (x 1)).trans ?_)
  exact Finset.sum_congr rfl fun k _ => congrArg₂ (fun x y : EReal => x * y) (block_y m c t _ rfl _ k) (block_w m c t _ _ _)

/-! ## The reference -/

section
open Cert.Reference13Ideal.Read

/-- The reference's result. -/
theorem ref_at (x0 : (⟨S4096x512, .bf16⟩ : BufTy).Contents (Elt Ideal)) (x1 : (⟨S4x512x512, .bf16⟩ : BufTy).Contents (Elt Ideal))
    (i : Fin 4096) (d : Fin 2048) :
    val_main_v5 (F := Ideal) x0 x1 (ix2 i d)
      = ∑ k : Fin 512, (x0 (ix2 i k) : EReal) * x1 (ix3 (chip 512 rfl d) k (place 512 (by omega) d)) := by
  refine (val_main_v5_apply x0 x1 (ix2 i d)).trans ((val_main_v4_apply x0 x1 (ix2 i d)).trans ?_)
  refine Finset.sum_congr rfl fun k _ => ?_
  rw [val_main_v3_apply, val_main_v2_apply, val_main_v1_apply, val_main_v0_apply]
  refine congrArg₂ (fun x y : EReal => x * y) (congrArg x0 (at2 _ _ _ rfl rfl)) (congrArg x1 (at3 _ _ _ _ ?_ ?_ ?_))
  · show (k.val * 2048 + d.val) / 512 % 4 = d.val / 512; omega
  · show (k.val * 2048 + d.val) / 2048 = k.val; omega
  · show (k.val * 2048 + d.val) % 512 = d.val % 512; omega

end

/-! ## The claims -/

/-- The reference leaves its arguments unchanged and every counter at zero. -/
theorem ref_frame : quiescent_Reference13Ideal (hReference13Ideal := Reference13Ideal.Gen.facts) := fun m ρ _ =>
  (θ_run Reference13Ideal.defs _ _).mono
    (fun r h => ⟨fun c => (h c).2, sem_eq_zero_of_no_sems (by decide) r.2⟩)
    (Reference13Ideal.Value.run m ρ)

/-- The kernel's result is the reference's. -/
theorem algebraic : algebraic_Kernel13Ideal_Reference13Ideal (hKernel13Ideal := Kernel13Ideal.Gen.facts)
    (hReference13Ideal := Reference13Ideal.Gen.facts) := by
  intro m g m' g' _ hargs
  refine ⟨fun c => G m c, ?_, ?_⟩
  · refine (θ_run Kernel13Ideal.defs _ _).mono (fun r h c => ?_) (Kernel13Ideal.Value.run_blocks m g)
    exact ⟨(h c).1.trans (array m c), (h c).2⟩
  · refine (θ_run Reference13Ideal.defs _ _).mono (fun r h c => ?_) (Reference13Ideal.Value.run m' g')
    obtain ⟨a0, a1⟩ := hargs c
    refine ⟨(h c).1.trans ((Reference13Ideal.Read.val_main_v5_eq _ _).trans ?_), (h c).2⟩
    rw [a0, a1]
    funext y
    exact (congrArg _ (at2 (a := 4096) (b := 2048) y (y 0) (y 1) rfl rfl)).trans (ref_at _ _ _ _)

end Cert.Proof.SsmGlu

end
-- ==== Proof.ConvOut.lean ====
/- The last product of the convolution branch: the kernel's array, the reference's, and their equality. -/
module

public import proofs.«01_k».proof.Defs
public import proofs.«01_k».proof.Proof.Gen.Kernel14Ideal.Value
public import proofs.«01_k».proof.Proof.Gen.Reference14Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.ConvOut

open Cert.Kernel14Ideal Cert.Kernel14Ideal.Gen Cert.Kernel14Ideal.Value Idealize.ShloMosaic Idealize.ShloMosaic.TcCoe Idealize.SL.Sem
open Cert.Proof.Index
open Idealize.ShloMosaic.Pipeline (Dat)

/-- Row `i` of `z` times column `d` of the weights, of which each chip holds 256 rows. -/
def prod (z : Fin 4096 → Fin 1024 → EReal) (w : Fin 4 → Fin 256 → Fin 1024 → EReal) (i : Fin 4096) (d : Fin 1024) : EReal :=
  ∑ k, z i k * w (chip 256 rfl k) (place 256 (by omega) k) d

/-! ## The kernel -/

/-- What a point stores: the product of its blocks. -/
theorem pay_at (x0 : Vec Ideal S1024x1024 .bf16) (x1 : Vec Ideal S4x256x1024 .bf16) (i : Fin 1024) (d : Fin 1024) :
    k0_pay1 x1 x0 (ix2 i d) = ∑ k : Fin 1024, x0 (ix2 i k) * x1 (ix3 (chip 256 rfl k) (place 256 (by omega) k) d) := by
  unfold k0_pay1
  pointwise [dot_S1024x1024_S1024x1024_S1024x1024_1_0_0_1_n_n]
  rfl

/-- A point's block is the product of its input blocks. -/
theorem out_eq (x0 : Vec Ideal S1024x1024 .bf16) (x1 : Vec Ideal S4x256x1024 .bf16) : out0_2 x0 x1 = k0_pay1 x1 x0 := by
  unfold out0_2
  rw [View.canon_unit_zero zero2, View.ld_unit_zero zero3, View.ld_unit_zero zero2]

variable (m : (ℓ : Loc nD τ sig) → Buf (Elt Ideal) ℓ) (c : Dev nD)

/-- The rows of z. -/
def Z : Fin 4096 → Fin 1024 → EReal := fun i a => (m ((c : Thread nD τ).loc main_arg0) : S4096x1024.Idx → EReal) (ix2 i a)
/-- The weights, by chip: the first rows of what it holds. -/
def W : Fin 4 → Fin 256 → Fin 1024 → EReal := fun j a d =>
  (m ((c : Thread nD τ).loc main_arg1) : S4x3072x1024.Idx → EReal) (ix3 j (⟨a.val, by omega⟩ : Fin 3072) d)

/-- The result. -/
def G (y : S4096x1024.Idx) : EReal := prod (Z m c) (W m c) (y 0) (y 1)

/-- Where the blocks of a point lie. -/
theorem places (t : Fin cfg0.N) : (win0_0.index t 0 = t.val ∧ win0_0.index t 1 = 0)
    ∧ (win0_1.index t 0 = 0 ∧ win0_1.index t 1 = 0 ∧ win0_1.index t 2 = 0)
    ∧ win0_2.index t 0 = t.val ∧ win0_2.index t 1 = 0 := by
  revert t
  decide +kernel

/-- The block of the activations at a point. -/
theorem block_z (t : Fin cfg0.N) (r : Fin 4) (hr : t.val = r.val) (i : Fin 1024) (a : Fin 1024) :
    (iblk m c 0 t : S1024x1024.Idx → EReal) (ix2 i a) = Z m c (part 1024 rfl r i) a := by
  obtain ⟨⟨h0, h1⟩, -, -⟩ := places t
  unfold iblk Z
  rw [View.read_apply]
  refine congrArg (m ((c : Thread nD τ).loc main_arg0) : S4096x1024.Idx → EReal) (at2 _ _ _ ?_ ?_)
  · show win0_0.index t 0 * 1024 + 1 * i.val = r.val * 1024 + i.val; rw [h0]; omega
  · show win0_0.index t 1 * 1024 + 1 * a.val = a.val; rw [h1]; omega

/-- The block of the weights at a point: all of them. -/
theorem block_w (t : Fin cfg0.N) (j : Fin 4) (a : Fin 256) (d : Fin 1024) :
    (iblk m c 1 t : S4x256x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 256 + 1 * a.val = a.val; rw [h1]; omega
  · show win0_1.index t 2 * 1024 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 4 := t.isLt
  rw [flushed2 m c t, out_eq]
  funext x
  have hx : x = ix2 (x 0) (x 1) := at2 (a := 1024) (b := 1024) x (x 0) (x 1) rfl rfl
  have hy : ((cfg0.win 2).blk t).view.emb x = ix2 (part (n := 4096) (k := 4) 1024 rfl ⟨t.val, ht⟩ (x 0)) (x 1) := by
    refine at2 (a := 4096) (b := 1024) _ _ _ ?_ ?_
    · show win0_2.index t 0 * 1024 + 1 * (x 0).val = t.val * 1024 + (x 0).val; rw [h0]; omega
    · show win0_2.index t 1 * 1024 + 1 * (x 1).val = (x 1).val; rw [h1]; omega
  refine Eq.trans ?_ (congrArg (G m c) hy).symm
  refine (congrArg (k0_pay1 _ _) hx).trans ((pay_at _ _ (x 0) (x 1)).trans ?_)
  exact Finset.sum_congr rfl fun k _ => congrArg₂ (fun x y : EReal => x * y) (block_z m c t _ rfl _ k) (block_w m c t _ _ _)

/-! ## The reference -/

section
open Cert.Reference14Ideal.Read

/-- The reference's result. -/
theorem ref_at (x0 : (⟨S4096x1024, .bf16⟩ : BufTy).Contents (Elt Ideal)) (x1 : (⟨S4x3072x1024, .bf16⟩ : BufTy).Contents (Elt Ideal))
    (i : Fin 4096) (d : Fin 1024) :
    val_main_v5 (F := Ideal) x0 x1 (ix2 i d)
      = ∑ k : Fin 1024, (x0 (ix2 i k) : EReal)
          * x1 (ix3 (chip 256 rfl k) (⟨(place 256 (by omega) k).val, by omega⟩ : Fin 3072) d) := by
  refine (val_main_v5_apply x0 x1 (ix2 i d)).trans ((val_main_v4_apply x0 x1 (ix2 i d)).trans ?_)
  refine Finset.sum_congr rfl fun k _ => ?_
  rw [val_main_v3_apply, val_main_v2_apply, val_main_v1_apply, val_main_v0_apply]
  refine congrArg₂ (fun x y : EReal => x * y) (congrArg x0 (at2 _ _ _ rfl rfl)) (congrArg x1 (at3 _ _ _ _ ?_ ?_ ?_))
  · show (k.val * 1024 + d.val) / 262144 = k.val / 256; omega
  · show (k.val * 1024 + d.val) / 1024 % 256 = k.val % 256; omega
  · show (k.val * 1024 + d.val) % 1024 = d.val; omega

end

/-! ## The claims -/

/-- The reference leaves its arguments unchanged and every counter at zero. -/
theorem ref_frame : quiescent_Reference14Ideal (hReference14Ideal := Reference14Ideal.Gen.facts) := fun m ρ _ =>
  (θ_run Reference14Ideal.defs _ _).mono
    (fun r h => ⟨fun c => (h c).2, sem_eq_zero_of_no_sems (by decide) r.2⟩)
    (Reference14Ideal.Value.run m ρ)

/-- The kernel's result is the reference's. -/
theorem algebraic : algebraic_Kernel14Ideal_Reference14Ideal (hKernel14Ideal := Kernel14Ideal.Gen.facts)
    (hReference14Ideal := Reference14Ideal.Gen.facts) := by
  intro m g m' g' _ hargs
  refine ⟨fun c => G m c, ?_, ?_⟩
  · refine (θ_run Kernel14Ideal.defs _ _).mono (fun r h c => ?_) (Kernel14Ideal.Value.run_blocks m g)
    exact ⟨(h c).1.trans (array m c), (h c).2⟩
  · refine (θ_run Reference14Ideal.defs _ _).mono (fun r h c => ?_) (Reference14Ideal.Value.run m' g')
    obtain ⟨a0, a1⟩ := hargs c
    refine ⟨(h c).1.trans ((Reference14Ideal.Read.val_main_v5_eq _ _).trans ?_), (h c).2⟩
    rw [a0, a1]
    funext y
    exact (congrArg _ (at2 (a := 4096) (b := 1024) y (y 0) (y 1) rfl rfl)).trans (ref_at _ _ _ _)

end Cert.Proof.ConvOut

end
-- ==== Proof.DownG.lean ====
/- The gradient of the second weights of the MLP: the kernel's array, the reference's, and their equality. -/
module

public import proofs.«01_k».proof.Defs
public import proofs.«01_k».proof.Proof.Gen.Kernel15Ideal
public import proofs.«01_k».proof.Proof.Gen.Kernel15Ideal.Frame
public import proofs.«01_k».proof.Proof.Gen.Reference15Ideal.Read
public import proofs.«01_k».proof.Proof.Index
public import Idealize.ShloMosaic.Lib.Pointwise
public import Idealize.ShloMosaic.Lib.WholeRead
public import Idealize.ShloMosaic.Adequacy
public import Idealize.ShloMosaic.Init

@[expose] public section

set_option maxRecDepth 16384

noncomputable section

namespace Cert.Proof.DownG

open Cert.Kernel15Ideal Cert.Kernel15Ideal.Gen Idealize.ShloMosaic Idealize.ShloMosaic.TcCoe Idealize.SL.Sem
open Cert.Proof.Index
open Idealize.ShloMosaic.Pipeline (Dat)

/-- The gradient of the weights: of row `a` of the block of chip `j`, and of column `d`. -/
def grad (z : Fin 4096 → Fin 4096 → EReal) (g : Fin 4096 → Fin 1024 → EReal) (j : Fin 4) (a d : Fin 1024) : EReal :=
  ∑ i, z i (part 1024 rfl j a) * g i d

/-! ## The kernel -/

/-- What a point stores: the product of its blocks. -/
theorem pay_at (x0 x1 : Vec Ideal S4096x1024 .bf16) (z : Fin 1) (a d : Fin 1024) :
    k0_pay1 x1 x0 (ix3 z a d) = ∑ i : Fin 4096, x0 (ix2 i a) * x1 (ix2 i d) := by
  unfold k0_pay1
  pointwise [dot_S4096x1024_S4096x1024_S1024x1024_0_0_1_1_n_n]

/-- A point's block is the product of its input blocks. -/
theorem out_eq (x0 x1 : Vec Ideal S4096x1024 .bf16) : out0_2 x0 x1 = k0_pay1 x1 x0 := by
  unfold out0_2
  rw [View.canon_unit_zero zero3, View.ld_unit_zero zero2, View.ld_unit_zero zero2]

variable (m : (ℓ : Loc nD τ sig) → Buf (Elt Ideal) ℓ) (c : Dev nD)

/-- The rows of z. -/
def Z : Fin 4096 → Fin 4096 → EReal := fun i a => (m ((c : Thread nD τ).loc main_arg0) : S4096x4096.Idx → EReal) (ix2 i a)
/-- The rows of the incoming gradient. -/
def R : Fin 4096 → Fin 1024 → EReal := fun i a => (m ((c : Thread nD τ).loc main_arg1) : S4096x1024.Idx → EReal) (ix2 i a)

/-- The result. -/
def G (y : S4x1024x1024.Idx) : EReal := grad (Z m c) (R m c) (y 0) (y 1) (y 2)

/-- Where the blocks of a point lie. -/
theorem places (t : Fin cfg0.N) : (win0_0.index t 0 = 0 ∧ win0_0.index t 1 = t.val) ∧ (win0_1.index t 0 = 0 ∧ win0_1.index t 1 = 0)
    ∧ win0_2.index t 0 = t.val ∧ win0_2.index t 1 = 0 ∧ win0_2.index t 2 = 0 := by
  revert t
  decide +kernel

/-- The block of z at a point: the columns of its chip. -/
theorem block_z (t : Fin cfg0.N) (j : Fin 4) (hj : t.val = j.val) (i : Fin 4096) (a : Fin 1024) :
    (iblk m c 0 t : S4096x1024.Idx → EReal) (ix2 i a) = Z m c i (part 1024 rfl j a) := by
  obtain ⟨⟨h0, h1⟩, -, -⟩ := places t
  unfold iblk Z
  rw [View.read_apply]
  refine (congrFun (V_main_arg0 m c) _).trans (congrArg (m ((c : Thread nD τ).loc main_arg0) : S4096x4096.Idx → EReal) (at2 _ _ _ ?_ ?_))
  · show win0_0.index t 0 * 4096 + 1 * i.val = i.val; rw [h0]; omega
  · show win0_0.index t 1 * 1024 + 1 * a.val = j.val * 1024 + a.val; rw [h1]; omega

/-- The block of the incoming gradient at a point: all of it. -/
theorem block_r (t : Fin cfg0.N) (i : Fin 4096) (a : Fin 1024) : (iblk m c 1 t : S4096x1024.Idx → EReal) (ix2 i a) = R m c i a := by
  obtain ⟨-, ⟨h0, h1⟩, -⟩ := places t
  unfold iblk R
  rw [View.read_apply]
  refine (congrFun (V_main_arg1 m c) _).trans (congrArg (m ((c : Thread nD τ).loc main_arg1) : S4096x1024.Idx → EReal) (at2 _ _ _ ?_ ?_))
  · show win0_1.index t 0 * 4096 + 1 * i.val = i.val; rw [h0]; omega
  · show win0_1.index t 1 * 1024 + 1 * a.val = a.val; rw [h1]; omega

/-- Every point writes its block back. -/
theorem flushes (t : Fin cfg0.N) : (cfg0.win 2).flush t = true := by
  revert t
  decide +kernel

/-- Distinct points write distinct blocks, -/
theorem distinct : ∀ t t' : Fin cfg0.N, win0_2.index t = win0_2.index t' → t = t' :=
  (by decide +kernel : ∀ t t' : Fin grid0.N, win0_2.index t = win0_2.index t' → t = t')

/-- which share no index. -/
theorem apart : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (distinct t t' h)

/-- What a point writes back, and where. -/
theorem written (t : Fin cfg0.N) (j : Fin 4) (hj : t.val = j.val) (a d : Fin 1024) :
    (dats m 0 c).arrAt 2 cfg0.N (ix3 j (⟨a.val, by omega⟩ : Fin 2048) d) = grad (Z m c) (R m c) j a d := by
  obtain ⟨-, -, h0, h1, h2⟩ := places t
  have hy : ((cfg0.win 2).blk t).view.emb (ix3 (0 : Fin 1) a d) = ix3 j (⟨a.val, by omega⟩ : Fin 2048) d := by
    refine at3 (a := 4) (b := 2048) (c := 1024) _ _ _ _ ?_ ?_ ?_
    · show win0_2.index t 0 * 1 + 1 * 0 = j.val; rw [h0]; omega
    · show win0_2.index t 1 * 1024 + 1 * a.val = a.val; rw [h1]; omega
    · show win0_2.index t 2 * 1024 + 1 * d.val = d.val; rw [h2]; omega
  have hb := congrFun ((dats m 0 c).read_blk_arrAt_eq_flushed 2 apart cfg0.N t t.isLt (flushes t)) (ix3 (0 : Fin 1) a d)
  rw [View.read_apply] at hb
  refine (congrArg ((dats m 0 c).arrAt 2 cfg0.N) hy).symm.trans (hb.trans ?_)
  show (dats m 0 c).after 2 t (ix3 (0 : Fin 1) a d) = _
  rw [after0_2, out_eq]
  refine (pay_at _ _ 0 a d).trans ?_
  exact Finset.sum_congr rfl fun i _ => congrArg₂ (fun x y : EReal => x * y) (block_z m c t j hj i _) (block_r m c t i _)

/-- What the line after the call takes from the array. -/
theorem slice_at (x : (⟨S4x2048x1024, .bf16⟩ : BufTy).Contents (Elt Ideal)) (j : Fin 4) (a d : Fin 1024) :
    extractStridedSlice S4x1024x1024 ![0, 0, 0] x slices_S4x2048x1024_S4x1024x1024_0_0_0 (ix3 j a d)
      = x (ix3 j (⟨a.val, by omega⟩ : Fin 2048) d) := by
  pointwise

/-- The result at the end. -/
theorem after : Pipeline.afterTail₀ cfgs (dats m) 0 (V0 m) [hostOps1] c main_v1 = G m c := by
  show StableHlo.after hostOps1 _ (Proc.devRef .tc main_v1) = _
  simp only [hostOps1]
  after_results
  funext y
  refine (congrArg _ (at3 (a := 4) (b := 1024) (c := 1024) y (y 0) (y 1) (y 2) rfl rfl rfl)).trans ((slice_at _ (y 0) (y 1) (y 2)).trans ?_)
  refine (congrFun (Pipeline.withArrays_arr spec0 launch0.win.arr_inj c (V0 m c) (fun w => (dats m 0 c).arrAt w cfg0.N) 2) _).trans ?_
  exact written m c (⟨(y 0).val, (y 0).isLt⟩ : Fin cfg0.N) (y 0) rfl (y 1) (y 2)

/-! ## The reference -/

section
open Cert.Reference15Ideal.Read

/-- The reference's gradient. -/
theorem ref_at (x0 : (⟨S4096x4096, .bf16⟩ : BufTy).Contents (Elt Ideal)) (x1 : (⟨S4096x1024, .bf16⟩ : BufTy).Contents (Elt Ideal))
    (j : Fin 4) (a d : Fin 1024) :
    val_main_v7 (F := Ideal) x0 x1 (ix3 j a d) = ∑ i : Fin 4096, (x0 (ix2 i (part 1024 rfl j a)) : EReal) * x1 (ix2 i d) := by
  refine (val_main_v7_apply x0 x1 _).trans ((val_main_v6_apply x0 x1 _).trans ((val_main_v5_apply x0 x1 _).trans ((val_main_v4_apply x0 x1 _).trans ?_)))
  refine Finset.sum_congr rfl fun i _ => ?_
  rw [val_main_v3_apply, val_main_v1_apply]
  refine (mul_comm _ _).trans (congrArg₂ (fun x y : EReal => x * y) (congrArg x0 (at2 _ _ _ rfl ?_)) (congrArg x1 (at2 _ _ _ rfl ?_)))
  · show ((j.val * 1024 + a.val) * 1024 + d.val) / 1024 = j.val * 1024 + a.val; omega
  · show ((j.val * 1024 + a.val) * 1024 + d.val) % 1024 = d.val; omega

end

/-! ## The claims -/

/-- The reference leaves its arguments unchanged and every counter at zero. -/
theorem ref_frame : quiescent_Reference15Ideal (hReference15Ideal := Reference15Ideal.Gen.facts) := fun m ρ _ =>
  (θ_run Reference15Ideal.defs _ _).mono
    (fun r h => ⟨fun c => (h c).2, sem_eq_zero_of_no_sems (by decide) r.2⟩)
    (Reference15Ideal.Value.run m ρ)

/-- The kernel's result is the reference's. -/
theorem algebraic : algebraic_Kernel15Ideal_Reference15Ideal (hKernel15Ideal := Kernel15Ideal.Gen.facts)
    (hReference15Ideal := Reference15Ideal.Gen.facts) := by
  intro m g m' g' _ hargs
  refine ⟨fun c => G m c, ?_, ?_⟩
  · refine (θ_run Kernel15Ideal.defs _ _).mono (fun r h c => ?_) (θ_run_and (run_main m g) (unchanged m g))
    exact ⟨((h.1 c).2 main_v1 (Pipeline.mem_restRefs_of main_v1 (by decide) (by decide))).trans (after m c), h.2 c⟩
  · refine (θ_run Reference15Ideal.defs _ _).mono (fun r h c => ?_) (Reference15Ideal.Value.run m' g')
    obtain ⟨a0, a1⟩ := hargs c
    refine ⟨(h c).1.trans ((Reference15Ideal.Read.val_main_v7_eq _ _).trans ?_), (h c).2⟩
    rw [a0, a1]
    funext y
    exact (congrArg _ (at3 (a := 4) (b := 1024) (c := 1024) y (y 0) (y 1) (y 2) rfl rfl rfl)).trans (ref_at _ _ _ _ _)

end Cert.Proof.DownG

end
-- ==== Proof.AttnBack.lean ====
/- The gradients of the output projection of the attention: the kernel's arrays, the reference's,
   and their equality. -/
module

public import proofs.«01_k».proof.Defs
public import proofs.«01_k».proof.Proof.Gen.Kernel16Ideal
public import proofs.«01_k».proof.Proof.Gen.Kernel16Ideal.Frame
public import proofs.«01_k».proof.Proof.Gen.Reference16Ideal.Read
public import proofs.«01_k».proof.Proof.Index
public import proofs.«01_k».proof.Proof.MixBack
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384

noncomputable section

namespace Cert.Proof.AttnBack

open Cert.Kernel16Ideal Cert.Kernel16Ideal.Gen Idealize.ShloMosaic Idealize.ShloMosaic.TcCoe Idealize.SL.Sem
open Cert.Proof.Index
open Idealize.ShloMosaic.Pipeline (Dat)

/-! ## The kernel -/

/-- What a point stores of the gradient of the input. -/
theorem pay1_at (x0 : Vec Ideal S1024x1024 .bf16) (x2 : Vec Ideal S4x256x1024 .bf16) (i d : Fin 1024) :
    k0_pay1 x0 x2 (ix2 i d) = ∑ k : Fin 1024, x0 (ix2 i k) * x2 (ix3 (chip 256 rfl d) (place 256 (by omega) d) k) :=
  MixBack.pay1_at x0 x2 i d

/-- What the first point leaves of the gradient of the weights. -/
theorem pay3_at (x0 x1 : Vec Ideal S1024x1024 .bf16) (a d : Fin 1024) :
    k0_pay3 x0 x1 (ix2 a d) = ∑ i : Fin 1024, x1 (ix2 i a) * x0 (ix2 i d) :=
  MixBack.pay3_at x0 x1 a d

/-- What a later point adds to it. -/
theorem pay4_at (x0 x1 : Vec Ideal S1024x1024 .bf16) (s : Vec Ideal S1024x1024 .f32) (a d : Fin 1024) :
    k0_pay4 x0 x1 s (ix2 a d) = s (ix2 a d) + ∑ i : Fin 1024, x1 (ix2 i a) * x0 (ix2 i d) :=
  MixBack.pay4_at x0 x1 s a d

/-- What the last point stores of it: its rows, chip by chip. -/
theorem pay5_at (s : Vec Ideal S1024x1024 .f32) (j : Fin 4) (a : Fin 256) (d : Fin 1024) :
    k0_pay5 s (ix3 j a d) = s (ix2 (part 256 rfl j a) d) :=
  MixBack.pay5_at s j a d

section
variable (c : Dev nD) (i : grid0.Coords) (b1 : Memref sig .tc .vmem S1024x1024 .bf16) (k1 : b1.IsWhole)
  (b2 : Memref sig .tc .vmem S1024x1024 .bf16) (k2 : b2.IsWhole) (b3 : Memref sig .tc .vmem S4x256x1024 .bf16) (k3 : b3.IsWhole)
  (b4 : Memref sig .tc .vmem S1024x1024 .bf16) (k4 : b4.IsWhole) (b5 : Memref sig .tc .vmem S4x256x1024 .bf16) (k5 : b5.IsWhole)
  (b6 : Memref sig .tc .vmem S1024x1024 .f32) (k6 : b6.IsWhole)
  (x0 x1 : Vec Ideal S1024x1024 .bf16) (x2 : Vec Ideal S4x256x1024 .bf16) (s : Vec Ideal S1024x1024 .f32)

/-- What the last point stores in the second array is what it leaves, chip by chip. -/
theorem outC4 (h0 h1 h2) : out0_C_4 c i b1 k1 b2 k2 b3 k3 b4 k4 b5 k5 b6 k6 h0 h1 h2 x0 x1 x2 s = k0_pay5 (k0_pay4 x0 x1 s) := by
  unfold out0_C_4 kernelRun0_C
  dsimp only
  refine (View.read_writes_full VO0_4 VO0_4.junk _ _ _).trans ?_
  unfold kernelRun0_C.sl.v17 kernelRun0_C.sl.HS0_1
  refine congrArg k0_pay5 ((View.readCov_full b6.view _ _ _ _).trans ?_)
  iterate 3 rw [View.readAt_full]
  rw [k1.read_unread, k2.read_unread, k6.read_unread]

/-- What the last point leaves in the scratch. -/
theorem soutC (h0 h1 h2) : sout0_C_0 c i b1 k1 b2 k2 b3 k3 b4 k4 b5 k5 b6 k6 h0 h1 h2 x0 x1 x2 s = k0_pay4 x0 x1 s := by
  unfold sout0_C_0 kernelRun0_C
  dsimp only
  refine (View.read_writes_full VS0_0 VS0_0.junk _ _ _).trans ?_
  iterate 3 rw [View.readAt_full]
  rw [k1.read_unread, k2.read_unread, k6.read_unread]

/-- What a point between leaves in the scratch. -/
theorem soutB (h0 h1 h2) : sout0_B_0 c i b1 k1 b2 k2 b3 k3 b4 k4 b5 k5 b6 k6 h0 h1 h2 x0 x1 x2 s = k0_pay4 x0 x1 s := by
  unfold sout0_B_0 kernelRun0_B
  dsimp only
  refine (View.read_writes_full VS0_0 VS0_0.junk _ _ _).trans ?_
  iterate 3 rw [View.readAt_full]
  rw [k1.read_unread, k2.read_unread, k6.read_unread]

/-- What the first point leaves in the scratch. -/
theorem soutA (h0 h1 h2) : sout0_A_0 c i b1 k1 b2 k2 b3 k3 b4 k4 b5 k5 b6 k6 h0 h1 h2 x0 x1 x2 = k0_pay3 x0 x1 := by
  unfold sout0_A_0 kernelRun0_A
  dsimp only
  refine (View.read_writes_full VS0_0 VS0_0.junk _ _ _).trans ?_
  rw [View.readAt_full, View.readAt_full, k1.read_unread, k2.read_unread]

/-- What the first point stores in the first array, -/
theorem outA3 (h0 h1 h2) : out0_A_3 c i b1 k1 b2 k2 b3 k3 b4 k4 b5 k5 b6 k6 h0 h1 h2 x0 x1 x2 = k0_pay1 x0 x2 := by
  unfold out0_A_3 kernelRun0_A
  dsimp only
  refine (View.read_writes_full VO0_3 VO0_3.junk _ _ _).trans ?_
  rw [View.readAt_full, View.readAt_full, k1.read_unread, k3.read_unread]

/-- a point between, -/
theorem outB3 (h0 h1 h2) : out0_B_3 c i b1 k1 b2 k2 b3 k3 b4 k4 b5 k5 b6 k6 h0 h1 h2 x0 x1 x2 s = k0_pay1 x0 x2 := by
  unfold out0_B_3 kernelRun0_B
  dsimp only
  refine (View.read_writes_full VO0_3 VO0_3.junk _ _ _).trans ?_
  rw [View.readAt_full, View.readAt_full, k1.read_unread, k3.read_unread]

/-- and the last. -/
theorem outC3 (h0 h1 h2) : out0_C_3 c i b1 k1 b2 k2 b3 k3 b4 k4 b5 k5 b6 k6 h0 h1 h2 x0 x1 x2 s = k0_pay1 x0 x2 := by
  unfold out0_C_3 kernelRun0_C
  dsimp only
  refine (View.read_writes_full VO0_3 VO0_3.junk _ _ _).trans ?_
  rw [View.readAt_full, View.readAt_full, k1.read_unread, k3.read_unread]

end

variable (m : (ℓ : Loc nD τ sig) → Buf (Elt Ideal) ℓ) (c : Dev nD)

/-- The rows of the incoming gradient. -/
def R : Fin 4096 → Fin 1024 → EReal := fun i d => (m ((c : Thread nD τ).loc main_arg0) : S4096x1024.Idx → EReal) (ix2 i d)
/-- The rows of the projection's input. -/
def X : Fin 4096 → Fin 1024 → EReal := fun i d => (m ((c : Thread nD τ).loc main_arg1) : S4096x1024.Idx → EReal) (ix2 i d)
/-- The weights: in the array of every chip, its rows from the 768th. -/
def W : Fin 4 → Fin 256 → Fin 1024 → EReal := fun j a k =>
  (m ((c : Thread nD τ).loc main_arg2) : S4x3072x1024.Idx → EReal) (ix3 j (⟨768 + a.val, by omega⟩ : Fin 3072) k)
/-- The first result. -/
def G3 (y : S4096x1024.Idx) : EReal := MixBack.back (R m c) (W m c) (y 0) (y 1)

/-- The second. -/
def G4 (y : S4x256x1024.Idx) : EReal := MixBack.grad (X m c) (R m c) (y 0) (y 1) (y 2)

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 3 ∧ win0_2.index t 2 = 0) ∧ (win0_3.index t 0 = t.val ∧ win0_3.index t 1 = 0)
    ∧ win0_4.index t 0 = 0 ∧ win0_4.index t 1 = 3 ∧ win0_4.index t 2 = 0 := by
  revert t
  decide +kernel

/-- The block of the incoming gradient at a point. -/
theorem block_r (t : Fin cfg0.N) (i d : Fin 1024) : (iblk m c 0 t : S1024x1024.Idx → EReal) (ix2 i d) = R m c (part 1024 rfl (t : Fin 4) i) d := by
  obtain ⟨⟨h0, h1⟩, -⟩ := places t
  unfold iblk R
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the projection's input at a point. -/
theorem block_x (t : Fin cfg0.N) (i d : Fin 1024) : (iblk m c 1 t : S1024x1024.Idx → EReal) (ix2 i d) = X m c (part 1024 rfl (t : Fin 4) i) d := by
  obtain ⟨-, ⟨h0, h1⟩, -⟩ := places t
  unfold iblk X
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the weights at a point: all of them. -/
theorem block_w (t : Fin cfg0.N) (j : Fin 4) (a : Fin 256) (k : Fin 1024) : (iblk m c 2 t : S4x256x1024.Idx → EReal) (ix3 j a k) = W m c j a k := by
  obtain ⟨-, -, ⟨h0, h1, h2⟩, -⟩ := places t
  unfold iblk W
  rw [View.read_apply]
  refine (congrFun (V_main_arg2 m c) _).trans (congrArg (m ((c : Thread nD τ).loc main_arg2) : S4x3072x1024.Idx → EReal) (at3 _ _ _ _ ?_ ?_ ?_))
  · show win0_2.index t 0 * 4 + 1 * j.val = j.val; rw [h0]; omega
  · show win0_2.index t 1 * 256 + 1 * a.val = 768 + a.val; rw [h1]; omega
  · show win0_2.index t 2 * 1024 + 1 * k.val = k.val; rw [h2]; omega

/-! ### The gradient of the input -/

/-- Every point stores the product of its blocks. -/
theorem store3 (t : Fin cfg0.N) : (outsAt0 m c t.val t.isLt).1 = k0_pay1 (iblk m c 0 t) (iblk m c 2 t) := by
  have ht : t.val < 4 := t.isLt
  by_cases h0 : t.val % 4 = 0
  · rw [outsAt0_A m c t h0 (by omega) (by omega)]
    dsimp only
    rw [outA3]
  · by_cases h2 : t.val % 4 = 3
    · rw [outsAt0_C m c t h0 (by omega) h2]
      dsimp only
      rw [outC3]
    · rw [outsAt0_B m c t h0 (by omega) h2]
      dsimp only
      rw [outB3]

/-- What a point writes back of the first array. -/
theorem written3 (t : Fin cfg0.N) : (dats m 0 c).flushed 3 t = ((cfg0.win 3).blk t).view.read (Elt Ideal) (G3 m c) := by
  obtain ⟨-, -, -, ⟨h0, h1⟩, -⟩ := places t
  show (dats m 0 c).after 3 t = _
  rw [after0_3, store3]
  funext y
  obtain ⟨i, d, rfl⟩ : ∃ (i d : Fin 1024), y = ix2 i d := ⟨y 0, y 1, eq_ix2 y⟩
  rw [View.read_apply]
  have hy : ((cfg0.win 3).blk t).view.emb (ix2 i d) = ix2 (part 1024 rfl (t : Fin 4) i) d := by
    refine at2 (a := 4096) (b := 1024) _ _ _ ?_ ?_
    · show win0_3.index t 0 * 1024 + 1 * i.val = t.val * 1024 + i.val; rw [h0]; omega
    · show win0_3.index t 1 * 1024 + 1 * d.val = d.val; rw [h1]; omega
  refine Eq.trans ?_ (congrArg (G3 m c) hy).symm
  refine (pay1_at _ _ i d).trans (Finset.sum_congr rfl fun k _ => congrArg₂ (fun x y : EReal => x * y) (block_r m c t i k) (block_w m c t _ _ k))

/-- The first array at the end. -/
theorem array3 : (dats m 0 c).arrAt 3 cfg0.N = G3 m c :=
  (dats m 0 c).arrAt_eq_of_cover 3 (G3 m c) (fun t _ => written3 m c t)
    (reached win0_3)

/-! ### The gradient of the weights -/

/-- What the rows of a point add to it. -/
def share (a d : Fin 1024) (n : ℕ) : EReal :=
  if h : n < 4 then ∑ i : Fin 1024, X m c (part 1024 rfl (⟨n, h⟩ : Fin 4) i) a * R m c (part 1024 rfl (⟨n, h⟩ : Fin 4) i) d else 0

/-- The product of the blocks of a point is what its rows add. -/
theorem share_eq (t : Fin cfg0.N) (a d : Fin 1024) (x0 x1 : Vec Ideal S1024x1024 .bf16) (e0 : x0 = iblk m c 0 t) (e1 : x1 = iblk m c 1 t) :
    ∑ i : Fin 1024, x1 (ix2 i a) * x0 (ix2 i d) = share m c a d t.val := by
  subst e0 e1
  unfold share
  rw [dif_pos (show t.val < 4 from t.isLt)]
  exact Finset.sum_congr rfl fun i _ => congrArg₂ (fun x y : EReal => x * y) (block_x m c t i a) (block_r m c t i d)

/-- What a point leaves in the scratch: what the rows of the points so far add up to. -/
theorem scratch (n : ℕ) (hn : n < cfg0.N) (a d : Fin 1024) :
    (outsAt0 m c n hn).2.2 (ix2 a d) = ∑ r ∈ Finset.range (n + 1), share m c a d r := by
  induction n with
  | zero =>
    rw [outsAt0_A m c ⟨0, hn⟩ rfl (by simp) (by simp), Finset.sum_range_one]
    dsimp only
    rw [soutA, pay3_at]
    exact share_eq m c ⟨0, hn⟩ a d _ _ rfl rfl
  | succ n ih =>
    have h4 : n + 1 < 4 := hn
    rw [Finset.sum_range_succ, ← ih (Nat.lt_of_succ_lt hn), ← share_eq m c ⟨n + 1, hn⟩ a d _ _ rfl rfl]
    by_cases h2 : (n + 1) % 4 = 3
    · rw [outsAt0_C m c ⟨n + 1, hn⟩ (by show ¬(n + 1) % 4 = 0; omega) (by show 1 ≤ n + 1; omega) h2]
      dsimp only
      rw [soutC, pay4_at]
      rfl
    · rw [outsAt0_B m c ⟨n + 1, hn⟩ (by show ¬(n + 1) % 4 = 0; omega) (by show 1 ≤ n + 1; omega) h2]
      dsimp only
      rw [soutB, pay4_at]
      rfl

/-- The last point. -/
abbrev last : Fin cfg0.N := (⟨3, by decide⟩ : Fin 4)

/-- Only the last point writes the second array back, -/
theorem flushes4 : ∀ t : Fin cfg0.N, (cfg0.win 4).flush t = true ↔ t = last := by
  decide +kernel

/-- so no two points' blocks meet. -/
theorem apart4 : ∀ t t' : Fin cfg0.N, (cfg0.win 4).flush t = true → (cfg0.win 4).flush t' = true → t ≠ t' →
    Disjoint ((cfg0.win 4).blk t).view.set ((cfg0.win 4).blk t').view.set :=
  fun t t' h h' hne => absurd (((flushes4 t).1 h).trans ((flushes4 t').1 h').symm) hne

/-- What the last point stores: its scratch, chip by chip. -/
theorem store4 : (outsAt0 m c (last).val (last).isLt).2.1 = k0_pay5 (outsAt0 m c (last).val (last).isLt).2.2 := by
  rw [outsAt0_C m c last (by decide) (by decide) (by decide)]
  dsimp only
  rw [outC4, soutC]

/-- What it writes back, and where. -/
theorem written4 (j : Fin 4) (a : Fin 256) (d : Fin 1024) :
    (dats m 0 c).arrAt 4 cfg0.N (ix3 j (⟨768 + a.val, by omega⟩ : Fin 1024) d) = MixBack.grad (X m c) (R m c) j a d := by
  obtain ⟨-, -, -, -, h0, h1, h2⟩ := places last
  have hy : ((cfg0.win 4).blk last).view.emb (ix3 j a d) = ix3 j (⟨768 + a.val, by omega⟩ : Fin 1024) d := by
    refine at3 (a := 4) (b := 1024) (c := 1024) _ _ _ _ ?_ ?_ ?_
    · show win0_4.index last 0 * 4 + 1 * j.val = j.val; rw [h0]; omega
    · show win0_4.index last 1 * 256 + 1 * a.val = 768 + a.val; rw [h1]; omega
    · show win0_4.index last 2 * 1024 + 1 * d.val = d.val; rw [h2]; omega
  have hb := congrFun ((dats m 0 c).read_blk_arrAt_eq_flushed 4 apart4 cfg0.N last (last).isLt ((flushes4 _).2 rfl)) (ix3 j a d)
  rw [View.read_apply] at hb
  refine (congrArg ((dats m 0 c).arrAt 4 cfg0.N) hy).symm.trans (hb.trans ?_)
  show (dats m 0 c).after 4 last (ix3 j a d) = _
  rw [after0_4, store4]
  refine (pay5_at _ j a d).trans ((scratch m c 3 _ _ d).trans ?_)
  unfold MixBack.grad
  rw [Finset.sum_range, sum_parts (n := 4096) (k := 4) 1024 rfl]
  exact Finset.sum_congr rfl fun r _ => dif_pos r.isLt

/-- What the line after the call takes from the second array. -/
theorem slice_at (x : (⟨S4x1024x1024, .bf16⟩ : BufTy).Contents (Elt Ideal)) (j : Fin 4) (a : Fin 256) (d : Fin 1024) :
    extractStridedSlice S4x256x1024 ![0, 768, 0] x slices_S4x1024x1024_S4x256x1024_0_768_0 (ix3 j a d)
      = x (ix3 j (⟨768 + a.val, by omega⟩ : Fin 1024) d) := by
  pointwise

/-- The second result at the end. -/
theorem after : Pipeline.afterTail₀ cfgs (dats m) 0 (V0 m) [hostOps1] c main_v1 = G4 m c := by
  show StableHlo.after hostOps1 _ (Proc.devRef .tc main_v1) = _
  simp only [hostOps1]
  after_results
  funext y
  refine (congrArg _ (at3 (a := 4) (b := 256) (c := 1024) y (y 0) (y 1) (y 2) rfl rfl rfl)).trans ((slice_at _ (y 0) (y 1) (y 2)).trans ?_)
  refine (congrFun (Pipeline.withArrays_arr spec0 launch0.win.arr_inj c (V0 m c) (fun w => (dats m 0 c).arrAt w cfg0.N) 4) _).trans ?_
  exact written4 m c (y 0) (y 1) (y 2)

/-! ## The reference -/

section
open Cert.Reference16Ideal.Read

/-- The reference's first result. -/
theorem ref3 : val_main_v9 (F := Ideal) (m ((c : Thread nD τ).loc main_arg0)) (m ((c : Thread nD τ).loc main_arg2)) = G3 m c := by
  funext y
  obtain ⟨i, d, rfl⟩ : ∃ (i : Fin 4096) (d : Fin 1024), y = ix2 i d := ⟨y 0, y 1, eq_ix2 y⟩
  show _ = MixBack.back (R m c) (W m c) i d
  unfold MixBack.back R W
  generalize m ((c : Thread nD τ).loc main_arg0) = x0
  generalize m ((c : Thread nD τ).loc main_arg2) = x2
  unfold val_main_v9 val_main_v8 val_main_v5 val_main_v2 val_main_v1 val_main_v0
  pointwise [Reference16Ideal.dot_S4096x1024_S1024x1024_S4096x1024_1_1_0_0_n_n]
  rfl

/-- The reference's second result. -/
theorem ref4 : val_main_v11 (F := Ideal) (m ((c : Thread nD τ).loc main_arg0)) (m ((c : Thread nD τ).loc main_arg1)) = G4 m c := by
  funext y
  obtain ⟨j, a, d, rfl⟩ : ∃ (j : Fin 4) (a : Fin 256) (d : Fin 1024), y = ix3 j a d := ⟨y 0, y 1, y 2, eq_ix3 y⟩
  show _ = MixBack.grad (X m c) (R m c) j a d
  unfold MixBack.grad X R
  generalize m ((c : Thread nD τ).loc main_arg0) = x0
  generalize m ((c : Thread nD τ).loc main_arg1) = x1
  unfold val_main_v11 val_main_v10 val_main_v7 val_main_v6 val_main_v5 val_main_v3
  pointwise [Reference16Ideal.dot_S4096x1024_S4096x1024_S1024x1024_0_0_1_1_n_n]
  exact Finset.sum_congr rfl fun i _ => mul_comm _ _

end

/-! ## The claims -/

/-- The reference leaves its arguments unchanged and every counter at zero. -/
theorem ref_frame : quiescent_Reference16Ideal (hReference16Ideal := Reference16Ideal.Gen.facts) := fun m ρ _ =>
  (θ_run Reference16Ideal.defs _ _).mono
    (fun r h => ⟨fun c => (h c).2.2, sem_eq_zero_of_no_sems (by decide) r.2⟩)
    (Reference16Ideal.Value.run m ρ)

/-- The kernel's results are the reference's. -/
theorem algebraic : algebraic_Kernel16Ideal_Reference16Ideal (hKernel16Ideal := Kernel16Ideal.Gen.facts)
    (hReference16Ideal := Reference16Ideal.Gen.facts) := by
  intro m g m' g' _ hargs
  refine ⟨fun c => G3 m c, fun c => G4 m c, ?_, ?_⟩
  · refine (θ_run Kernel16Ideal.defs _ _).mono (fun r h c => ?_) (θ_run_and (run_main m g) (unchanged m g))
    exact ⟨((h.1 c).1 3).trans (array3 m c), ((h.1 c).2 main_v1 (Pipeline.mem_restRefs_of main_v1 (by decide) (by decide))).trans (after m c), h.2 c⟩
  · refine (θ_run Reference16Ideal.defs _ _).mono (fun r h c => ?_) (Reference16Ideal.Value.run m' g')
    obtain ⟨a0, a1, a2⟩ := hargs c
    refine ⟨(h c).1.trans ((Reference16Ideal.Read.val_main_v9_eq _ _).trans ?_), (h c).2.1.trans ((Reference16Ideal.Read.val_main_v11_eq _ _).trans ?_), (h c).2.2⟩
    · rw [a0, a2]
      exact ref3 m c
    · rw [a0, a1]
      exact ref4 m c

end Cert.Proof.AttnBack

end
-- ==== Proof.NormRow.lean ====
/- The row algebra of the layer norm's gradient over the extended reals: a row's mean, its centred entries, its
   reciprocal deviation, the gradient as the kernel writes it and as differentiating the norm line by line writes it,
   and the equality of the two for every row, the incoming gradient being finite. -/
module

public import Idealize.ShloMosaic.PureOps.Ideal.Laws
public import Idealize.ShloMosaic.Lib.Pointwise
public import proofs.«01_k».proof.Proof.Index

@[expose] public section

noncomputable section

namespace Cert.Proof.Norm

open Idealize.ShloMosaic

/-- The mean of a row. -/
def mean (x : Fin 1024 → EReal) : EReal := Ideal.div (∑ k, x k) (Ideal.ofBits .f32 0x44800000#32)

/-- An entry less the row's mean. -/
def cen (x : Fin 1024 → EReal) (d : Fin 1024) : EReal := x d - mean x

/-- The variance and the small constant. -/
def spread (x : Fin 1024 → EReal) : EReal := mean (fun k => cen x k * cen x k) + Ideal.ofBits .f32 0x3727C5AC#32

/-- The reciprocal deviation. -/
def rs (x : Fin 1024 → EReal) : EReal := Ideal.rsqrt (spread x)

/-- The normed row. -/
def unit (x : Fin 1024 → EReal) (d : Fin 1024) : EReal := cen x d * rs x

/-- The gradient of the row `x` from the gradient `t` of the normed row, in closed form. -/
def grad (x t : Fin 1024 → EReal) (d : Fin 1024) : EReal :=
  rs x * (t d - mean t - unit x d * mean (fun k => t k * unit x k))

/-- What the gradient of the variance gives to each centred entry, once. -/
def pull (x t : Fin 1024 → EReal) : EReal :=
  Ideal.div ((∑ k, cen x k * t k) * (Ideal.ofBits .f32 0xBF000000#32 * Ideal.div (rs x) (spread x))) (Ideal.ofBits .f32 0x44800000#32)

/-- The gradient of a centred entry. -/
def gradCen (x t : Fin 1024 → EReal) (d : Fin 1024) : EReal := t d * rs x + cen x d * pull x t + pull x t * cen x d

/-- The gradient of the row, line by line. -/
def gradLines (x t : Fin 1024 → EReal) (d : Fin 1024) : EReal := gradCen x t d + mean (fun k => -gradCen x t k)

/-- The literal `1024`. -/
theorem width_lit : Ideal.ofBits .f32 0x44800000#32 = ((1024 : ℝ) : EReal) := by
  simp [Ideal.ofBits, Ideal.ieee, -EReal.coe_mul]; norm_num

/-- The literal `-1/2`. -/
theorem half_lit : Ideal.ofBits .f32 0xBF000000#32 = ((-(1 / 2) : ℝ) : EReal) := by
  simp [Ideal.ofBits, Ideal.ieee, -EReal.coe_mul]; norm_num

/-- The small constant is a positive real. -/
theorem small_lit : ∃ e : ℝ, 0 < e ∧ Ideal.ofBits .f32 0x3727C5AC#32 = (e : EReal) := by
  refine ⟨_, ?_, by simp [Ideal.ofBits, Ideal.ieee, -EReal.coe_mul]; rfl⟩
  norm_num

/-- A sum of reals among the extended reals. -/
theorem sum_coe {ι : Type} (t : Finset ι) (f : ι → ℝ) : ∑ i ∈ t, (f i : EReal) = ((∑ i ∈ t, f i : ℝ) : EReal) := by
  classical
  induction t using Finset.induction_on with
  | empty => simp
  | insert i t hi ih => rw [Finset.sum_insert hi, Finset.sum_insert hi, ih, EReal.coe_add]

/-- The mean of reals. -/
theorem mean_coe (f : Fin 1024 → ℝ) : mean (fun k => (f k : EReal)) = (((∑ k, f k) * (1 / 1024) : ℝ) : EReal) := by
  rw [mean, width_lit, Ideal.div_coe (by norm_num), sum_coe, EReal.coe_mul]

/-! ## A row of reals -/

/-- The parts of a row of reals: its centred entries, which add up to zero, and a positive reciprocal deviation. -/
theorem real_parts (x : Fin 1024 → EReal) (hx : ∀ d, ∃ r : ℝ, x d = r) : ∃ (c : Fin 1024 → ℝ) (v : ℝ), 0 < v ∧ ∑ d, c d = 0
    ∧ (∀ d, cen x d = (c d : EReal)) ∧ spread x = (v : EReal) ∧ rs x = (((Real.sqrt v)⁻¹ : ℝ) : EReal) := by
  choose f hf using hx
  obtain rfl : x = fun d => (f d : EReal) := funext hf
  obtain ⟨e, he, hE⟩ := small_lit
  have hc : ∀ d, cen (fun d => (f d : EReal)) d = ((f d - (∑ k, f k) * (1 / 1024) : ℝ) : EReal) := fun d => by
    rw [cen, mean_coe, EReal.coe_sub]
  have hs : spread (fun d => (f d : EReal))
      = (((∑ k, (f k - (∑ k, f k) * (1 / 1024)) * (f k - (∑ k, f k) * (1 / 1024))) * (1 / 1024) + e : ℝ) : EReal) := by
    rw [spread, hE]
    simp only [hc, ← EReal.coe_mul]
    rw [mean_coe, EReal.coe_add]
  have hv : 0 < (∑ k, (f k - (∑ k, f k) * (1 / 1024)) * (f k - (∑ k, f k) * (1 / 1024))) * (1 / 1024) + e :=
    add_pos_of_nonneg_of_pos (mul_nonneg (Finset.sum_nonneg fun k _ => mul_self_nonneg _) (by norm_num)) he
  refine ⟨fun d => f d - (∑ k, f k) * (1 / 1024), _, hv, ?_, hc, hs, ?_⟩
  · rw [Finset.sum_sub_distrib, Finset.sum_const, Finset.card_univ, Fintype.card_fin, nsmul_eq_mul]
    push_cast
    ring
  · rw [rs, hs, Ideal.rsqrt_coe, if_neg hv.not_gt, if_neg hv.ne']

/-- The two ways of writing the gradient agree on a row of reals. -/
theorem grad_real (x t : Fin 1024 → EReal) (hx : ∀ d, ∃ r : ℝ, x d = r) (ht : ∀ d, ∃ r : ℝ, t d = r) (d : Fin 1024) :
    grad x t d = gradLines x t d := by
  obtain ⟨c, v, hv, h0, hc, hs, hr⟩ := real_parts x hx
  choose f hf using ht
  obtain rfl : t = fun d => (f d : EReal) := funext hf
  obtain ⟨q, hq⟩ : ∃ q : ℝ, (Real.sqrt v)⁻¹ = q := ⟨_, rfl⟩
  have hq2 : 1 / v = q * q := by
    rw [← hq, ← mul_inv, Real.mul_self_sqrt hv.le, one_div]
  rw [hq] at hr
  have hp : pull x (fun d => (f d : EReal)) = (((∑ k, c k * f k) * (-(1 / 2) * (q * (q * q))) * (1 / 1024) : ℝ) : EReal) := by
    rw [pull, width_lit, half_lit, Ideal.div_coe (by norm_num), hs, Ideal.div_coe hv.ne', hr, hq2]
    simp only [hc, ← EReal.coe_mul]
    rw [sum_coe, ← EReal.coe_mul, ← EReal.coe_mul]
  have hg : ∀ d, gradCen x (fun d => (f d : EReal)) d
      = ((f d * q - (∑ k, c k * f k) * (q * (q * q)) * (1 / 1024) * c d : ℝ) : EReal) := fun d => by
    rw [gradCen, hp, hc, hr]
    simp only [← EReal.coe_mul, ← EReal.coe_add]
    congr 1
    ring
  have hl : ∑ k, -(f k * q - (∑ k, c k * f k) * (q * (q * q)) * (1 / 1024) * c k) = -(q * ∑ k, f k) := by
    rw [Finset.sum_neg_distrib, Finset.sum_sub_distrib, ← Finset.mul_sum, h0, ← Finset.sum_mul]
    ring
  rw [gradLines, hg]
  simp only [hg, ← EReal.coe_neg]
  rw [mean_coe, hl, grad, mean_coe, hr]
  simp only [unit, hc, hr, ← EReal.coe_mul]
  rw [mean_coe]
  simp only [← EReal.coe_mul, ← EReal.coe_sub, ← EReal.coe_add]
  congr 1
  have hm : ∑ k, f k * (c k * q) = (∑ k, c k * f k) * q := by
    rw [Finset.sum_mul]
    exact Finset.sum_congr rfl fun k _ => by ring
  rw [hm]
  ring

/-! ## A row with an infinite entry -/

/-- A sum with an infinite term is infinite. -/
theorem sum_inf {ι : Type} (t : Finset ι) (f : ι → EReal) (h : ∃ i ∈ t, f i = ⊤ ∨ f i = ⊥) : ∑ i ∈ t, f i = ⊤ ∨ ∑ i ∈ t, f i = ⊥ := by
  classical
  obtain ⟨i, hi, h⟩ := h
  rw [← Finset.add_sum_erase t f hi]
  generalize ∑ k ∈ t.erase i, f k = s
  rcases h with h | h
  · rw [h]
    induction s using EReal.rec with
    | bot => exact .inr rfl
    | top => exact .inl rfl
    | coe r => exact .inl (EReal.top_add_coe r)
  · exact .inr (by rw [h, EReal.bot_add])

/-- An infinite number over `1024` is as it was. -/
theorem div_inf (s : EReal) (h : s = ⊤ ∨ s = ⊥) : Ideal.div s (Ideal.ofBits .f32 0x44800000#32) = s := by
  rw [width_lit, Ideal.div_coe (by norm_num)]
  rcases h with rfl | rfl
  · exact EReal.top_mul_coe_of_pos (by norm_num)
  · exact EReal.bot_mul_coe_of_pos (by norm_num)

/-- A row with an infinite entry has no spread but the infinite one, -/
theorem spread_inf (x : Fin 1024 → EReal) (h : ∃ d, x d = ⊤ ∨ x d = ⊥) : spread x = ⊤ := by
  obtain ⟨d, hd⟩ := h
  have hs := sum_inf Finset.univ x ⟨d, Finset.mem_univ _, hd⟩
  have hm : mean x = ⊤ ∨ mean x = ⊥ := by rw [mean, div_inf _ hs]; exact hs
  have hc : ∀ k, cen x k * cen x k = ⊤ := fun k => by
    unfold cen
    generalize x k = y
    rcases hm with hm | hm <;> rw [hm] <;> induction y using EReal.rec <;> simp
  have hsum : ∑ k : Fin 1024, (⊤ : EReal) = ⊤ := by
    rw [Finset.sum_const, Finset.card_univ, Fintype.card_fin]
    have : ∀ n : ℕ, (n + 1) • (⊤ : EReal) = ⊤ := fun n => by
      induction n with
      | zero => simp
      | succ n ih => rw [succ_nsmul, ih]; rfl
    exact this 1023
  obtain ⟨e, -, hE⟩ := small_lit
  rw [spread, hE]
  simp only [hc]
  rw [mean, hsum, div_inf _ (.inl rfl)]
  exact EReal.top_add_coe e

/-- so its reciprocal deviation is zero. -/
theorem rs_inf (x : Fin 1024 → EReal) (h : ∃ d, x d = ⊤ ∨ x d = ⊥) : rs x = 0 := by
  rw [rs, spread_inf x h, Ideal.rsqrt_top]

/-- Both ways of writing the gradient are zero on a row with an infinite entry. -/
theorem grad_inf (x t : Fin 1024 → EReal) (h : ∃ d, x d = ⊤ ∨ x d = ⊥) (d : Fin 1024) : grad x t d = gradLines x t d := by
  have hr := rs_inf x h
  have hp : pull x t = 0 := by
    rw [pull, hr, spread_inf x h, width_lit]
    simp [Ideal.div]
  have hg : ∀ k, gradCen x t k = 0 := fun k => by rw [gradCen, hr, hp]; simp
  rw [gradLines, grad, hr, hg]
  simp only [hg, mean, width_lit]
  simp [Ideal.div]

/-- The two ways of writing the gradient agree on every row, the gradient of the normed row being finite. -/
theorem grad_eq (x t : Fin 1024 → EReal) (ht : ∀ d, ∃ r : ℝ, t d = r) (d : Fin 1024) : grad x t d = gradLines x t d := by
  by_cases h : ∃ d, x d = ⊤ ∨ x d = ⊥
  · exact grad_inf x t h d
  · refine grad_real x t (fun k => ?_) ht d
    have hk : ¬(x k = ⊤ ∨ x k = ⊥) := fun hk => h ⟨k, hk⟩
    exact ⟨(x k).toReal, (EReal.coe_toReal (fun e => hk (.inl e)) (fun e => hk (.inr e))).symm⟩

/-- The normed row is a row of reals. -/
theorem unit_real (x : Fin 1024 → EReal) (d : Fin 1024) : ∃ r : ℝ, unit x d = r := by
  by_cases h : ∃ d, x d = ⊤ ∨ x d = ⊥
  · exact ⟨0, by rw [unit, rs_inf x h]; simp⟩
  · have hx : ∀ k, ∃ r : ℝ, x k = r := fun k => by
      have hk : ¬(x k = ⊤ ∨ x k = ⊥) := fun hk => h ⟨k, hk⟩
      exact ⟨(x k).toReal, (EReal.coe_toReal (fun e => hk (.inl e)) (fun e => hk (.inr e))).symm⟩
    obtain ⟨c, v, -, -, hc, -, hr⟩ := real_parts x hx
    exact ⟨_, by rw [unit, hc, hr, ← EReal.coe_mul]⟩

/-! ## Sums over the rows -/

open Cert.Proof.Index in
/-- What the `n`th 1024 rows add to the part `a` of eight of a sum over all rows: every eighth row from the `a`th. -/
def eighth (f : Fin 4096 → EReal) (a : Fin 8) (n : ℕ) : EReal :=
  if h : n < 4 then ∑ b : Fin 128, f (part 1024 rfl (⟨n, h⟩ : Fin 4) (part (n := 1024) 8 rfl b a)) else 0

open Cert.Proof.Index in
/-- The parts add up to the sum. -/
theorem eighths (f : Fin 4096 → EReal) : ∑ a, ∑ n ∈ Finset.range 4, eighth f a n = ∑ i, f i := by
  rw [Finset.sum_comm, Finset.sum_range, sum_parts (n := 4096) (k := 4) 1024 rfl]
  refine Finset.sum_congr rfl fun r _ => ?_
  rw [sum_parts (n := 1024) (k := 128) 8 rfl, Finset.sum_comm]
  exact Finset.sum_congr rfl fun a _ => dif_pos r.isLt

end Cert.Proof.Norm

end
-- ==== Proof.NormBack.lean ====
/- The gradients of the second layer norm: the kernel's arrays, the reference's, and their equality. -/
module

public import proofs.«01_k».proof.Defs
public import proofs.«01_k».proof.Proof.Gen.Kernel17Ideal.Value
public import proofs.«01_k».proof.Proof.Gen.Reference17Ideal.Read
public import proofs.«01_k».proof.Proof.AttnClaim
public import proofs.«01_k».proof.Proof.NormRow
public import Idealize.ShloMosaic.Lib.Pointwise
public import Idealize.ShloMosaic.Lib.ReduceAll
public import Idealize.ShloMosaic.Lib.WholeRead
public import Idealize.ShloMosaic.Lib.VecWindow
public import Idealize.ShloMosaic.Lib.Pipeline.ValueKit.Geometry
public import Idealize.ShloMosaic.Adequacy
public import Idealize.ShloMosaic.Init

@[expose] public section

set_option maxRecDepth 16384

noncomputable section

namespace Cert.Proof.NormBack

open Cert.Kernel17Ideal Cert.Kernel17Ideal.Gen Cert.Kernel17Ideal.Value Idealize.ShloMosaic Idealize.ShloMosaic.TcCoe Idealize.SL.Sem
open Cert.Proof.Index Cert.Proof.Norm
open Idealize.ShloMosaic.Pipeline (Dat)

/-! ## The kernel -/

/-- A row of a block. -/
abbrev row (x : Vec Ideal S1024x1024 .f32) (i : Fin 1024) : Fin 1024 → EReal := fun k => x (ix2 i k)

/-- The block's centred rows, -/
theorem pay7_at (x : Vec Ideal S1024x1024 .f32) (i d : Fin 1024) : k0_pay7 x (ix2 i d) = cen (row x i) d := by
  unfold k0_pay7
  pointwise
  rfl

/-- their reciprocal deviations, -/
theorem pay8_at (x : Vec Ideal S1024x1024 .f32) (i : Fin 1024) : k0_pay8 x (ix2 i (0 : Fin 1)) = rs (row x i) := by
  unfold k0_pay8
  pointwise
  simp only [pay7_at]
  rfl

/-- its normed rows, -/
theorem pay9_at (x : Vec Ideal S1024x1024 .f32) (i d : Fin 1024) : k0_pay9 x (ix2 i d) = unit (row x i) d := by
  unfold k0_pay9
  pointwise
  rw [pay7_at, pay8_at]
  rfl

/-- and what a point stores of the gradient of the rows. -/
theorem pay10_at (x y : Vec Ideal S1024x1024 .f32) (g : Vec Ideal S1x1024 .f32) (i d : Fin 1024) :
    k0_pay10 x y g (ix2 i d) = grad (row x i) (fun k => y (ix2 i k) * g (ix2 0 k)) d := by
  unfold k0_pay10
  pointwise
  simp only [pay8_at, pay9_at]
  rfl

/-- What a point adds to a part of the gain's gradient, -/
theorem pay1_at (x y : Vec Ideal S1024x1024 .f32) (s : Vec Ideal S8x1024 .f32) (a : Fin 8) (d : Fin 1024) :
    k0_pay1 (k0_pay9 x) y s (ix2 a d)
      = s (ix2 a d) + ∑ b : Fin 128, y (ix2 (part (n := 1024) 8 rfl b a) d) * unit (row x (part (n := 1024) 8 rfl b a)) d := by
  unfold k0_pay1
  pointwise
  simp only [pay9_at]
  rfl

/-- and of the offset's. -/
theorem pay2_at (y : Vec Ideal S1024x1024 .f32) (s : Vec Ideal S8x1024 .f32) (a : Fin 8) (d : Fin 1024) :
    k0_pay2 y s (ix2 a d) = s (ix2 a d) + ∑ b : Fin 128, y (ix2 (part (n := 1024) 8 rfl b a) d) := by
  unfold k0_pay2
  pointwise
  rfl

/-- The last point adds the eight parts up. -/
theorem pay3_at (s : Vec Ideal S8x1024 .f32) (z : Fin 1) (d : Fin 1024) : k0_pay3 s (ix2 z d) = ∑ a : Fin 8, s (ix2 a d) := by
  unfold k0_pay3
  pointwise

theorem pay4_at (s : Vec Ideal S8x1024 .f32) (z : Fin 1) (d : Fin 1024) : k0_pay4 s (ix2 z d) = ∑ a : Fin 8, s (ix2 a d) := by
  unfold k0_pay4
  pointwise

/-- The parts start at zero. -/
theorem pay5_at (a : Fin 8) (d : Fin 1024) : k0_pay5 (F := Ideal) (ix2 a d) = (0 : EReal) := by
  unfold k0_pay5
  pointwise

theorem pay6_at (a : Fin 8) (d : Fin 1024) : k0_pay6 (F := Ideal) (ix2 a d) = (0 : EReal) := by
  unfold k0_pay6
  pointwise

section
variable (c : Dev nD) (i : grid0.Coords) (b1 : Memref sig .tc .vmem S1024x1024 .f32) (k1 : b1.IsWhole)
  (b2 : Memref sig .tc .vmem S1024x1024 .f32) (k2 : b2.IsWhole) (b3 : Memref sig .tc .vmem S1x1024 .f32) (k3 : b3.IsWhole)
  (b4 : Memref sig .tc .vmem S1024x1024 .bf16) (k4 : b4.IsWhole) (b5 : Memref sig .tc .vmem S1x1024 .f32) (k5 : b5.IsWhole)
  (b6 : Memref sig .tc .vmem S1x1024 .f32) (k6 : b6.IsWhole)
  (b7 : Memref sig .tc .vmem S8x1024 .f32) (k7 : b7.IsWhole) (b8 : Memref sig .tc .vmem S8x1024 .f32) (k8 : b8.IsWhole)
  (x0 x1 : Vec Ideal S1024x1024 .f32) (x2 : Vec Ideal S1x1024 .f32) (s0 s1 : Vec Ideal S8x1024 .f32)

/-- What the first point stores of the gradient of the rows, -/
theorem outA3 (h0 h1) : out0_A_3 c i b1 k1 b2 k2 b3 k3 b4 k4 b5 k5 b6 k6 b7 k7 b8 k8 h0 h1 x0 x1 x2
    = k0_pay10 x0 x1 x2 := by
  unfold out0_A_3 kernelRun0_A
  dsimp only
  refine (View.read_writes_full VO0_3 VO0_3.junk _ _ _).trans ?_
  unfold kernelRun0_A.sl.r_2
  iterate 3 rw [View.readAt_full]
  rw [k1.read_unread, k2.read_unread, k3.read_unread]

/-- a point between, -/
theorem outB3 (h0 h1) : out0_B_3 c i b1 k1 b2 k2 b3 k3 b4 k4 b5 k5 b6 k6 b7 k7 b8 k8 h0 h1 x0 x1 x2 s0 s1
    = k0_pay10 x0 x1 x2 := by
  unfold out0_B_3 kernelRun0_B
  dsimp only
  refine (View.read_writes_full VO0_3 VO0_3.junk _ _ _).trans ?_
  unfold kernelRun0_B.sl.r_2
  iterate 3 rw [View.readAt_full]
  rw [k1.read_unread, k2.read_unread, k3.read_unread]

/-- and the last. -/
theorem outC3 (h0 h1) : out0_C_3 c i b1 k1 b2 k2 b3 k3 b4 k4 b5 k5 b6 k6 b7 k7 b8 k8 h0 h1 x0 x1 x2 s0 s1
    = k0_pay10 x0 x1 x2 := by
  unfold out0_C_3 kernelRun0_C
  dsimp only
  refine (View.read_writes_full VO0_3 VO0_3.junk _ _ _).trans ?_
  unfold kernelRun0_C.sl.r_2
  iterate 3 rw [View.readAt_full]
  rw [k1.read_unread, k2.read_unread, k3.read_unread]

/-- What the first point leaves of the parts of the gain's gradient, -/
theorem soutA0 (h0 h1) : sout0_A_0 c i b1 k1 b2 k2 b3 k3 b4 k4 b5 k5 b6 k6 b7 k7 b8 k8 h0 h1 x0 x1 x2
    = k0_pay1 (k0_pay9 x0) x1 (k0_pay5 (F := Ideal)) := by
  unfold sout0_A_0 kernelRun0_A
  dsimp only
  refine (View.read_writes_full VS0_0 VS0_0.junk _ _ _).trans ?_
  unfold kernelRun0_A.sl.v42 kernelRun0_A.sl.HS0_1 kernelRun0_A.sl.r kernelRun0_A.sl.r_1
  rw [View.readCov_full, View.readAt_full, View.readAt_full, k1.read_unread, k2.read_unread]

/-- a point between, -/
theorem soutB0 (h0 h1) : sout0_B_0 c i b1 k1 b2 k2 b3 k3 b4 k4 b5 k5 b6 k6 b7 k7 b8 k8 h0 h1 x0 x1 x2 s0 s1
    = k0_pay1 (k0_pay9 x0) x1 s0 := by
  unfold sout0_B_0 kernelRun0_B
  dsimp only
  refine (View.read_writes_full VS0_0 VS0_0.junk _ _ _).trans ?_
  unfold kernelRun0_B.sl.r kernelRun0_B.sl.r_1
  iterate 3 rw [View.readAt_full]
  rw [k1.read_unread, k2.read_unread, k7.read_unread]

/-- and the last. -/
theorem soutC0 (h0 h1) : sout0_C_0 c i b1 k1 b2 k2 b3 k3 b4 k4 b5 k5 b6 k6 b7 k7 b8 k8 h0 h1 x0 x1 x2 s0 s1
    = k0_pay1 (k0_pay9 x0) x1 s0 := by
  unfold sout0_C_0 kernelRun0_C
  dsimp only
  refine (View.read_writes_full VS0_0 VS0_0.junk _ _ _).trans ?_
  unfold kernelRun0_C.sl.r kernelRun0_C.sl.r_1
  iterate 3 rw [View.readAt_full]
  rw [k1.read_unread, k2.read_unread, k7.read_unread]

/-- What the first point leaves of the parts of the offset's gradient, -/
theorem soutA1 (h0 h1) : sout0_A_1 c i b1 k1 b2 k2 b3 k3 b4 k4 b5 k5 b6 k6 b7 k7 b8 k8 h0 h1 x0 x1 x2
    = k0_pay2 x1 (k0_pay6 (F := Ideal)) := by
  unfold sout0_A_1 kernelRun0_A
  dsimp only
  refine (View.read_writes_full VS0_1 VS0_1.junk _ _ _).trans ?_
  unfold kernelRun0_A.sl.v50 kernelRun0_A.sl.HS1_1 kernelRun0_A.sl.r_1
  rw [View.readCov_full, View.readAt_full, k2.read_unread]

/-- a point between, -/
theorem soutB1 (h0 h1) : sout0_B_1 c i b1 k1 b2 k2 b3 k3 b4 k4 b5 k5 b6 k6 b7 k7 b8 k8 h0 h1 x0 x1 x2 s0 s1
    = k0_pay2 x1 s1 := by
  unfold sout0_B_1 kernelRun0_B
  dsimp only
  refine (View.read_writes_full VS0_1 VS0_1.junk _ _ _).trans ?_
  unfold kernelRun0_B.sl.r_1
  rw [View.readAt_full, View.readAt_full, k2.read_unread, k8.read_unread]

/-- and the last. -/
theorem soutC1 (h0 h1) : sout0_C_1 c i b1 k1 b2 k2 b3 k3 b4 k4 b5 k5 b6 k6 b7 k7 b8 k8 h0 h1 x0 x1 x2 s0 s1
    = k0_pay2 x1 s1 := by
  unfold sout0_C_1 kernelRun0_C
  dsimp only
  refine (View.read_writes_full VS0_1 VS0_1.junk _ _ _).trans ?_
  unfold kernelRun0_C.sl.r_1
  rw [View.readAt_full, View.readAt_full, k2.read_unread, k8.read_unread]

/-- What the last point stores of the gain's gradient -/
theorem outC4 (h0 h1) : out0_C_4 c i b1 k1 b2 k2 b3 k3 b4 k4 b5 k5 b6 k6 b7 k7 b8 k8 h0 h1 x0 x1 x2 s0 s1
    = k0_pay3 (k0_pay1 (k0_pay9 x0) x1 s0) := by
  unfold out0_C_4 kernelRun0_C
  dsimp only
  refine (View.read_writes_full VO0_4 VO0_4.junk _ _ _).trans ?_
  unfold kernelRun0_C.sl.v60 kernelRun0_C.sl.HS0_1 kernelRun0_C.sl.r kernelRun0_C.sl.r_1
  refine congrArg k0_pay3 ((View.readCov_full b7.view _ _ _ _).trans ?_)
  iterate 3 rw [View.readAt_full]
  rw [k1.read_unread, k2.read_unread, k7.read_unread]

/-- and of the offset's. -/
theorem outC5 (h0 h1) : out0_C_5 c i b1 k1 b2 k2 b3 k3 b4 k4 b5 k5 b6 k6 b7 k7 b8 k8 h0 h1 x0 x1 x2 s0 s1
    = k0_pay4 (k0_pay2 x1 s1) := by
  unfold out0_C_5 kernelRun0_C
  dsimp only
  refine (View.read_writes_full VO0_5 VO0_5.junk _ _ _).trans ?_
  unfold kernelRun0_C.sl.v64 kernelRun0_C.sl.HS1_1 kernelRun0_C.sl.r_1
  refine congrArg k0_pay4 ((View.readCov_full b8.view _ _ _ _).trans ?_)
  rw [View.readAt_full, View.readAt_full, k2.read_unread, k8.read_unread]

end

variable (m : (ℓ : Loc nD τ sig) → Buf (Elt Ideal) ℓ) (c : Dev nD)

/-- The rows of the norm's input. -/
def X : Fin 4096 → Fin 1024 → EReal := fun i d => (m ((c : Thread nD τ).loc main_arg0) : S4096x1024.Idx → EReal) (ix2 i d)
/-- The rows of the incoming gradient. -/
def Y : Fin 4096 → Fin 1024 → EReal := fun i d => (m ((c : Thread nD τ).loc main_arg1) : S4096x1024.Idx → EReal) (ix2 i d)
/-- The gain. -/
def gain : Fin 1024 → EReal := fun d => (m ((c : Thread nD τ).loc main_arg2) : S1x1024.Idx → EReal) (ix2 0 d)

/-- The gradient of the rows. -/
def dr (y : S4096x1024.Idx) : EReal := grad (X m c (y 0)) (fun k => Y m c (y 0) k * gain m c k) (y 1)
/-- The gradient of the gain. -/
def dg (y : S1x1024.Idx) : EReal := ∑ i, Y m c i (y 1) * unit (X m c i) (y 1)
/-- The gradient of the offset. -/
def db (y : S1x1024.Idx) : EReal := ∑ i, Y m c i (y 1)

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ win0_5.index t 0 = 0 ∧ win0_5.index t 1 = 0 := by
  revert t
  decide +kernel

/-- The block of the norm's input at a point. -/
theorem block_x (t : Fin cfg0.N) (i d : Fin 1024) : (iblk m c 0 t : S1024x1024.Idx → EReal) (ix2 i d) = X m c (part 1024 rfl (t : Fin 4) i) d := by
  obtain ⟨⟨h0, h1⟩, -⟩ := places t
  unfold iblk X
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the incoming gradient at a point. -/
theorem block_y (t : Fin cfg0.N) (i d : Fin 1024) : (iblk m c 1 t : S1024x1024.Idx → EReal) (ix2 i d) = Y m c (part 1024 rfl (t : Fin 4) i) d := by
  obtain ⟨-, ⟨h0, h1⟩, -⟩ := places t
  unfold iblk Y
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the gain at a point: all of it. -/
theorem block_g (t : Fin cfg0.N) (d : Fin 1024) : (iblk m c 2 t : S1x1024.Idx → EReal) (ix2 0 d) = gain m c d := by
  obtain ⟨-, -, ⟨h0, h1⟩, -⟩ := places t
  unfold iblk gain
  rw [View.read_apply]
  refine (congrFun (V_main_arg2 m c) _).trans (congrArg (m ((c : Thread nD τ).loc main_arg2) : S1x1024.Idx → EReal) (at2 _ _ _ ?_ ?_))
  · show win0_2.index t 0 * 1 + 1 * 0 = 0; rw [h0]
  · show win0_2.index t 1 * 1024 + 1 * d.val = d.val; rw [h1]; omega

/-- A row of the block of the norm's input. -/
theorem row_x (t : Fin cfg0.N) (x : Vec Ideal S1024x1024 .f32) (e : x = iblk m c 0 t) (i : Fin 1024) : row x i = X m c (part 1024 rfl (t : Fin 4) i) := by
  subst e
  exact funext fun d => block_x m c t i d

/-! ### The gradient of the rows -/

/-- Every point stores the gradient of its rows. -/
theorem store3 (t : Fin cfg0.N) : (outsAt0 m c t.val t.isLt).1 = k0_pay10 (iblk m c 0 t) (iblk m c 1 t) (iblk m c 2 t) := by
  have ht : t.val < 4 := t.isLt
  by_cases h0 : t.val % 4 = 0
  · rw [outsAt0_A m c t h0 (by omega)]
    dsimp only
    rw [outA3]
  · by_cases h2 : t.val % 4 = 3
    · rw [outsAt0_C m c t h0 h2]
      dsimp only
      rw [outC3]
    · rw [outsAt0_B m c t h0 h2]
      dsimp only
      rw [outB3]

/-- What a point writes back of it. -/
theorem written3 (t : Fin cfg0.N) : (dats m 0 c).flushed 3 t = ((cfg0.win 3).blk t).view.read (Elt Ideal) (dr m c) := by
  obtain ⟨-, -, -, ⟨h0, h1⟩, -⟩ := places t
  rw [flushed3, store3]
  funext y
  obtain ⟨i, d, rfl⟩ : ∃ (i d : Fin 1024), y = ix2 i d := ⟨y 0, y 1, eq_ix2 y⟩
  rw [View.read_apply]
  have hy : ((cfg0.win 3).blk t).view.emb (ix2 i d) = ix2 (part 1024 rfl (t : Fin 4) i) d := by
    refine at2 (a := 4096) (b := 1024) _ _ _ ?_ ?_
    · show win0_3.index t 0 * 1024 + 1 * i.val = t.val * 1024 + i.val; rw [h0]; omega
    · show win0_3.index t 1 * 1024 + 1 * d.val = d.val; rw [h1]; omega
  refine Eq.trans ?_ (congrArg (dr m c) hy).symm
  refine (pay10_at _ _ _ i d).trans ?_
  rw [row_x m c t _ rfl]
  exact congrArg (fun f => grad (X m c (part 1024 rfl (t : Fin 4) i)) f d)
    (funext fun k => congrArg₂ (fun x y : EReal => x * y) (block_y m c t i k) (block_g m c t k))

/-- The first array at the end. -/
theorem array3 : (dats m 0 c).arrAt 3 cfg0.N = dr m c :=
  (dats m 0 c).arrAt_eq_of_cover 3 (dr m c) (fun t _ => written3 m c t)
    (reached win0_3)

/-! ### The gradients of the gain and of the offset -/

/-- What the rows of a point add to a part of the gain's gradient, -/
theorem share0 (t : Fin cfg0.N) (a : Fin 8) (d : Fin 1024) (x0 x1 : Vec Ideal S1024x1024 .f32) (e0 : x0 = iblk m c 0 t) (e1 : x1 = iblk m c 1 t) :
    ∑ b : Fin 128, x1 (ix2 (part (n := 1024) 8 rfl b a) d) * unit (row x0 (part (n := 1024) 8 rfl b a)) d
      = eighth (fun i => Y m c i d * unit (X m c i) d) a t.val := by
  unfold eighth
  rw [dif_pos (show t.val < 4 from t.isLt)]
  refine Finset.sum_congr rfl fun b _ => ?_
  rw [row_x m c t x0 e0, e1]
  exact congrArg (fun x : EReal => x * _) (block_y m c t _ d)

/-- and of the offset's. -/
theorem share1 (t : Fin cfg0.N) (a : Fin 8) (d : Fin 1024) (x1 : Vec Ideal S1024x1024 .f32) (e1 : x1 = iblk m c 1 t) :
    ∑ b : Fin 128, x1 (ix2 (part (n := 1024) 8 rfl b a) d) = eighth (fun i => Y m c i d) a t.val := by
  unfold eighth
  rw [dif_pos (show t.val < 4 from t.isLt), e1]
  exact Finset.sum_congr rfl fun b _ => block_y m c t _ d

/-- What a point leaves of the parts: what the rows of the points so far add up to. -/
theorem parts (n : ℕ) (hn : n < cfg0.N) (a : Fin 8) (d : Fin 1024) :
    (outsAt0 m c n hn).2.2.2.1 (ix2 a d) = ∑ r ∈ Finset.range (n + 1), eighth (fun i => Y m c i d * unit (X m c i) d) a r
    ∧ (outsAt0 m c n hn).2.2.2.2 (ix2 a d) = ∑ r ∈ Finset.range (n + 1), eighth (fun i => Y m c i d) a r := by
  induction n with
  | zero =>
    rw [outsAt0_A m c ⟨0, hn⟩ rfl (by simp), Finset.sum_range_one, Finset.sum_range_one]
    dsimp only
    rw [soutA0, soutA1, pay1_at, pay2_at, pay5_at, pay6_at, zero_add, zero_add]
    exact ⟨share0 m c ⟨0, hn⟩ a d _ _ rfl rfl, share1 m c ⟨0, hn⟩ a d _ rfl⟩
  | succ n ih =>
    have h4 : n + 1 < 4 := hn
    obtain ⟨i0, i1⟩ := ih (Nat.lt_of_succ_lt hn)
    rw [Finset.sum_range_succ _ (n + 1), Finset.sum_range_succ _ (n + 1), ← i0, ← i1, ← share0 m c ⟨n + 1, hn⟩ a d _ _ rfl rfl, ← share1 m c ⟨n + 1, hn⟩ a d _ rfl]
    by_cases h2 : (n + 1) % 4 = 3
    · rw [outsAt0_C m c ⟨n + 1, hn⟩ (by show ¬(n + 1) % 4 = 0; omega) h2]
      dsimp only
      rw [soutC0, soutC1, pay1_at, pay2_at]
      exact ⟨rfl, rfl⟩
    · rw [outsAt0_B m c ⟨n + 1, hn⟩ (by show ¬(n + 1) % 4 = 0; omega) h2]
      dsimp only
      rw [soutB0, soutB1, pay1_at, pay2_at]
      exact ⟨rfl, rfl⟩

/-- The last point. -/
abbrev last : Fin cfg0.N := (⟨3, by decide⟩ : Fin 4)

/-- Only the last point writes the second array back, -/
theorem flushes4 : ∀ t : Fin cfg0.N, (cfg0.win 4).flush t = true ↔ t = last := by
  decide +kernel

/-- and the third. -/
theorem flushes5 : ∀ t : Fin cfg0.N, (cfg0.win 5).flush t = true ↔ t = last := by
  decide +kernel

/-- What the last point stores of the two: its parts, added up. -/
theorem store45 : (outsAt0 m c (last).val (last).isLt).2.1 = k0_pay3 (outsAt0 m c (last).val (last).isLt).2.2.2.1
    ∧ (outsAt0 m c (last).val (last).isLt).2.2.1 = k0_pay4 (outsAt0 m c (last).val (last).isLt).2.2.2.2 := by
  rw [outsAt0_C m c last (by decide) (by decide)]
  dsimp only
  rw [outC4, outC5, soutC0, soutC1]
  exact ⟨rfl, rfl⟩

/-- What the last point writes back of the second array. -/
theorem written4 (t : Fin cfg0.N) (hf : (cfg0.win 4).flush t = true) :
    (dats m 0 c).flushed 4 t = ((cfg0.win 4).blk t).view.read (Elt Ideal) (dg m c) := by
  obtain rfl := (flushes4 t).1 hf
  obtain ⟨-, -, -, -, ⟨h0, h1⟩, -⟩ := places last
  rw [flushed4, (store45 m c).1]
  funext y
  obtain ⟨z, d, rfl⟩ : ∃ (z : Fin 1) (d : Fin 1024), y = ix2 z d := ⟨y 0, y 1, eq_ix2 y⟩
  rw [View.read_apply]
  have hy : ((cfg0.win 4).blk last).view.emb (ix2 z d) = ix2 z d := by
    refine at2 (a := 1) (b := 1024) _ _ _ ?_ ?_
    · show win0_4.index last 0 * 1 + 1 * z.val = z.val; rw [h0]; omega
    · show win0_4.index last 1 * 1024 + 1 * d.val = d.val; rw [h1]; omega
  refine Eq.trans ?_ (congrArg (dg m c) hy).symm
  exact (pay3_at _ z d).trans ((Finset.sum_congr rfl fun a _ => (parts m c 3 _ a d).1).trans (eighths _))

/-- What the last point writes back of the third array. -/
theorem written5 (t : Fin cfg0.N) (hf : (cfg0.win 5).flush t = true) :
    (dats m 0 c).flushed 5 t = ((cfg0.win 5).blk t).view.read (Elt Ideal) (db m c) := by
  obtain rfl := (flushes5 t).1 hf
  obtain ⟨-, -, -, -, -, h0, h1⟩ := places last
  rw [flushed5, (store45 m c).2]
  funext y
  obtain ⟨z, d, rfl⟩ : ∃ (z : Fin 1) (d : Fin 1024), y = ix2 z d := ⟨y 0, y 1, eq_ix2 y⟩
  rw [View.read_apply]
  have hy : ((cfg0.win 5).blk last).view.emb (ix2 z d) = ix2 z d := by
    refine at2 (a := 1) (b := 1024) _ _ _ ?_ ?_
    · show win0_5.index last 0 * 1 + 1 * z.val = z.val; rw [h0]; omega
    · show win0_5.index last 1 * 1024 + 1 * d.val = d.val; rw [h1]; omega
  refine Eq.trans ?_ (congrArg (db m c) hy).symm
  exact (pay4_at _ z d).trans ((Finset.sum_congr rfl fun a _ => (parts m c 3 _ a d).2).trans (eighths _))

/-- The second array at the end, -/
theorem array4 : (dats m 0 c).arrAt 4 cfg0.N = dg m c :=
  (dats m 0 c).arrAt_eq_of_cover 4 (dg m c) (written4 m c)
    (reached win0_4)

/-- and the third. -/
theorem array5 : (dats m 0 c).arrAt 5 cfg0.N = db m c :=
  (dats m 0 c).arrAt_eq_of_cover 5 (db m c) (written5 m c)
    (reached win0_5)

/-! ## The reference -/

section
open Cert.Reference17Ideal.Read

variable (x0 x1 : Vec Ideal S4096x1024 .f32) (x2 : Vec Ideal S1x1024 .f32)

/-- A row of an argument. -/
abbrev rowOf (x : Vec Ideal S4096x1024 .f32) (i : Fin 4096) : Fin 1024 → EReal := fun k => x (ix2 i k)

/-- The gradient of a normed row. -/
abbrev pass (i : Fin 4096) : Fin 1024 → EReal := fun k => x1 (ix2 i k) * x2 (ix2 0 k)

theorem cen_at (i : Fin 4096) (d : Fin 1024) : val_main_v6 (F := Ideal) x0 (ix2 i d) = cen (rowOf x0 i) d := by
  unfold val_main_v6 val_main_v5 val_main_v4 val_main_v3 val_main_v2 val_main_v1 val_main_cst_1 val_main_cst_0
  pointwise
  rfl

theorem spread_at (i : Fin 4096) (z : Fin 1) : val_main_v13 (F := Ideal) x0 (ix2 i z) = spread (rowOf x0 i) := by
  unfold val_main_v13 val_main_v12 val_main_v11 val_main_v10 val_main_v9 val_main_v8 val_main_v7 val_main_cst_2 val_main_cst_3 val_main_cst_4
  pointwise
  simp only [cen_at]
  rfl

theorem rs_at (i : Fin 4096) (z : Fin 1) : val_main_v14 (F := Ideal) x0 (ix2 i z) = rs (rowOf x0 i) := by
  unfold val_main_v14
  pointwise
  rw [spread_at]
  rfl

theorem pass_at (i : Fin 4096) (d : Fin 1024) : val_main_v31 (F := Ideal) x1 x2 (ix2 i d) = pass x1 x2 i d := by
  unfold val_main_v31 val_main_v30 val_main_v24
  pointwise

theorem pull_at (i : Fin 4096) (d : Fin 1024) : val_main_v41 (F := Ideal) x0 x1 x2 (ix2 i d) = pull (rowOf x0 i) (pass x1 x2 i) := by
  unfold val_main_v41 val_main_v40 val_main_v39 val_main_v38 val_main_v37 val_main_v34 val_main_v33 val_main_v32 val_main_v17 val_main_v16 val_main_v15
    val_main_cst_5 val_main_cst_8 val_main_cst_9 val_main_cst_10
  pointwise
  simp only [cen_at, spread_at, rs_at, pass_at]
  exact Fin.sum_univ_one _

theorem gradCen_at (i : Fin 4096) (d : Fin 1024) : val_main_v45 (F := Ideal) x0 x1 x2 (ix2 i d) = gradCen (rowOf x0 i) (pass x1 x2 i) d := by
  unfold val_main_v45 val_main_v44 val_main_v43 val_main_v42 val_main_v36 val_main_v35
  pointwise
  simp only [cen_at, rs_at, pass_at, pull_at]
  rfl

theorem dr_at (i : Fin 4096) (d : Fin 1024) : val_main_v54 (F := Ideal) x0 x1 x2 (ix2 i d) = gradLines (rowOf x0 i) (pass x1 x2 i) d := by
  unfold val_main_v54 val_main_v53 val_main_v52 val_main_v51 val_main_v50 val_main_v49 val_main_v48 val_main_v47 val_main_v46
    val_main_cst_11 val_main_cst_12 val_main_cst_13
  pointwise
  simp only [gradCen_at]
  rw [Fin.sum_univ_one]
  rfl

theorem dg_at (z : Fin 1) (d : Fin 1024) : val_main_v29 (F := Ideal) x0 x1 (ix2 z d) = ∑ i, unit (rowOf x0 i) d * x1 (ix2 i d) := by
  unfold val_main_v29 val_main_v28 val_main_v27 val_main_v24 val_main_v19 val_main_v18 val_main_cst_7
  pointwise
  simp only [cen_at, rs_at]
  rfl

theorem db_at (z : Fin 1) (d : Fin 1024) : val_main_v26 (F := Ideal) x1 (ix2 z d) = ∑ i, x1 (ix2 i d) := by
  unfold val_main_v26 val_main_v25 val_main_cst_6
  pointwise

end

/-! ## The precondition -/

/-- The shape relations the precondition's operations take. -/
theorem pre_facts : Pre_finite_norm_gradient.Facts where
  bcast_S_S4096x1024 := by decide
  reducesTo_S4096x1024_S_d0_1 := by decide
  h_S_ := by decide
  bcast_S_S1x1024 := by decide
  reducesTo_S1x1024_S_d0_1 := by decide

/-- The one index of the predicate's result. -/
abbrev o : Pre_finite_norm_gradient.S_.Idx := fun a => a.elim0

attribute [local instance] pre_facts in
/-- Under the precondition every entry of the incoming gradient and of the gain is a real number. -/
theorem reals_of_pre (a b : FVec Ideal Pre_finite_norm_gradient.S4096x1024 .f32) (d : FVec Ideal Pre_finite_norm_gradient.S1x1024 .f32)
    (h : Pre_finite_norm_gradient.fn (F := Ideal) a b d = fun _ => 1#1) :
    (∀ j, ∃ r : ℝ, (b j : EReal) = r) ∧ ∀ j, ∃ r : ℝ, (d j : EReal) = r := by
  have h0 := congrFun h o
  unfold Pre_finite_norm_gradient.fn at h0
  dsimp only at h0
  have hs : Subsingleton Pre_finite_norm_gradient.S_.Idx := ⟨fun x y => funext fun a => a.elim0⟩
  obtain ⟨e1, e2⟩ := IntOp.andi_eq_one.1 h0
  exact ⟨fun j => AttnClaim.real_of_abs _ (Host.reduce_andi_all _ _ _ _ o e1 j), fun j => AttnClaim.real_of_abs _ (Host.reduce_andi_all _ _ _ _ o e2 j)⟩

/-! ## The claims -/

/-- The reference leaves its arguments unchanged and every counter at zero. -/
theorem ref_frame : quiescent_Reference17Ideal (hReference17Ideal := Reference17Ideal.Gen.facts) := fun m ρ _ =>
  (θ_run Reference17Ideal.defs _ _).mono
    (fun r h => ⟨fun c => (h c).2.2.2, sem_eq_zero_of_no_sems (by decide) r.2⟩)
    (Reference17Ideal.Value.run m ρ)

/-- The kernel's results are the reference's. -/
theorem algebraic : algebraic_Kernel17Ideal_Reference17Ideal_pre_finite_norm_gradient (hKernel17Ideal := Kernel17Ideal.Gen.facts)
    (hReference17Ideal := Reference17Ideal.Gen.facts) (hPre_finite_norm_gradient := pre_facts) := by
  intro m g m' g' hpre hargs
  refine ⟨fun c => dr m c, fun c => dg m c, fun c => db m c, ?_, ?_⟩
  · refine (θ_run Kernel17Ideal.defs _ _).mono (fun r h c => ?_) (Kernel17Ideal.Value.run_blocks m g)
    exact ⟨(h c).1.trans (array3 m c), (h c).2.1.trans (array4 m c), (h c).2.2.1.trans (array5 m c), (h c).2.2.2⟩
  · refine (θ_run Reference17Ideal.defs _ _).mono (fun r h c => ?_) (Reference17Ideal.Value.run m' g')
    obtain ⟨a0, a1, a2⟩ := hargs c
    obtain ⟨p1, p2⟩ := reals_of_pre _ _ _ (hpre c)
    refine ⟨(h c).1.trans ((Reference17Ideal.Read.val_main_v54_eq m' c).trans ?_),
      (h c).2.1.trans ((Reference17Ideal.Read.val_main_v29_eq _ _).trans ?_),
      (h c).2.2.1.trans ((Reference17Ideal.Read.val_main_v26_eq _).trans ?_), (h c).2.2.2⟩
    · rw [a0, a1, a2]
      funext y
      obtain ⟨i, d, rfl⟩ : ∃ (i : Fin 4096) (d : Fin 1024), y = ix2 i d := ⟨y 0, y 1, eq_ix2 y⟩
      refine (dr_at _ _ _ i d).trans (grad_eq _ _ (fun k => ?_) d).symm
      obtain ⟨r1, e1⟩ := p1 (ix2 i k)
      obtain ⟨r2, e2⟩ := p2 (ix2 0 k)
      exact ⟨r1 * r2, (congrArg₂ (fun x y : EReal => x * y) e1 e2).trans (EReal.coe_mul _ _).symm⟩
    · rw [a0, a1]
      funext y
      obtain ⟨z, d, rfl⟩ : ∃ (z : Fin 1) (d : Fin 1024), y = ix2 z d := ⟨y 0, y 1, eq_ix2 y⟩
      exact (dg_at _ _ z d).trans (Finset.sum_congr rfl fun i _ => mul_comm _ _)
    · rw [a1]
      funext y
      obtain ⟨z, d, rfl⟩ : ∃ (z : Fin 1) (d : Fin 1024), y = ix2 z d := ⟨y 0, y 1, eq_ix2 y⟩
      exact db_at _ z d

end Cert.Proof.NormBack

end
-- ==== Proof.SwishBack.lean ====
/- The gradients of the convolution block's layer norm and swish: the kernel's arrays, the reference's, and their equality. -/
module

public import proofs.«01_k».proof.Defs
public import proofs.«01_k».proof.Proof.Gen.Kernel18Ideal.Value
public import proofs.«01_k».proof.Proof.Gen.Reference18Ideal.Read
public import proofs.«01_k».proof.Proof.AttnClaim
public import proofs.«01_k».proof.Proof.NormRow
public import Idealize.ShloMosaic.Lib.Pointwise
public import Idealize.ShloMosaic.Lib.ReduceAll
public import Idealize.ShloMosaic.Lib.WholeRead
public import Idealize.ShloMosaic.Lib.VecWindow
public import Idealize.ShloMosaic.Lib.Pipeline.ValueKit.Geometry
public import Idealize.ShloMosaic.Adequacy
public import Idealize.ShloMosaic.Init

@[expose] public section

set_option maxRecDepth 16384

noncomputable section

namespace Cert.Proof.SwishBack

open Cert.Kernel18Ideal Cert.Kernel18Ideal.Gen Cert.Kernel18Ideal.Value Idealize.ShloMosaic Idealize.ShloMosaic.TcCoe Idealize.SL.Sem
open Cert.Proof.Index Cert.Proof.Norm
open Idealize.ShloMosaic.Pipeline (Dat)

/-! ## The gradient of the swish -/

/-- The sigmoid. -/
def sg (y : EReal) : EReal := Ideal.div 1 (1 + Ideal.exp (-y))

/-- The gradient of the swish at `y` from the gradient `t` of its result, in closed form, -/
def swish (t y : EReal) : EReal := t * (sg y * (1 + y * (1 - sg y)))

/-- and as differentiating the product of `y` and its sigmoid writes it. -/
def swishLines (t y : EReal) : EReal := t * sg y + y * t * (sg y * (1 - sg y))

/-- The sigmoid of a real is a real, -/
theorem sg_coe (y : ℝ) : ∃ s : ℝ, sg y = s := by
  have h : 1 + Real.exp (-y) ≠ 0 := (by positivity : 0 < 1 + Real.exp (-y)).ne'
  refine ⟨1 * (1 / (1 + Real.exp (-y))), ?_⟩
  rw [sg, ← EReal.coe_one, ← EReal.coe_neg, Ideal.exp_coe, ← EReal.coe_add, Ideal.div_coe h, ← EReal.coe_mul]

/-- that of plus infinity is one, -/
theorem sg_top : sg ⊤ = 1 := by
  rw [sg, EReal.neg_top, Ideal.exp_bot, add_zero, ← EReal.coe_one, Ideal.div_coe one_ne_zero, ← EReal.coe_mul]
  norm_num

/-- and that of minus infinity is zero. -/
theorem sg_bot : sg ⊥ = 0 := by
  rw [sg, EReal.neg_bot, Ideal.exp_top, ← EReal.coe_one, EReal.coe_add_top]
  simp [Ideal.div]

/-- The two ways of writing the gradient agree everywhere, and give a real number, where the incoming gradient is one. -/
theorem swish_eq (t : ℝ) (y : EReal) : swish t y = swishLines t y ∧ ∃ r : ℝ, swish t y = r := by
  unfold swish swishLines
  induction y using EReal.rec with
  | bot =>
    rw [sg_bot]
    exact ⟨by simp, 0, by simp⟩
  | top =>
    have h : (1 : EReal) - 1 = 0 := by rw [← EReal.coe_one, ← EReal.coe_sub, sub_self, EReal.coe_zero]
    rw [sg_top, h, mul_zero, mul_zero, mul_zero, add_zero, add_zero, mul_one, mul_one]
    exact ⟨rfl, t, rfl⟩
  | coe y =>
    obtain ⟨s, hs⟩ := sg_coe y
    rw [hs, ← EReal.coe_one]
    simp only [← EReal.coe_mul, ← EReal.coe_sub, ← EReal.coe_add]
    exact ⟨by congr 1; ring, _, rfl⟩

/-! ## The kernel -/

/-- A row of a block. -/
abbrev row (x : Vec Ideal S1024x1024 .f32) (i : Fin 1024) : Fin 1024 → EReal := fun k => x (ix2 i k)

section
variable (x0 : Vec Ideal S1024x1024 .bf16) (x1 : Vec Ideal S1024x1024 .f32) (x2 x3 : Vec Ideal S1x1024 .f32)

/-- The gradient of the norm's result at an entry of a block. -/
def back (i d : Fin 1024) : EReal := swish (x0 (ix2 i d)) (unit (row x1 i) d * x2 (ix2 0 d) + x3 (ix2 0 d))

/-- The block's centred rows, -/
theorem pay8_at (i d : Fin 1024) : k0_pay8 x1 (ix2 i d) = cen (row x1 i) d := by
  unfold k0_pay8
  pointwise
  rfl

/-- their reciprocal deviations, -/
theorem pay9_at (i : Fin 1024) : k0_pay9 x1 (ix2 i (0 : Fin 1)) = rs (row x1 i) := by
  unfold k0_pay9
  pointwise
  simp only [pay8_at]
  rfl

/-- its normed rows, -/
theorem pay10_at (i d : Fin 1024) : k0_pay10 x1 (ix2 i d) = unit (row x1 i) d := by
  unfold k0_pay10
  pointwise
  rw [pay8_at, pay9_at]
  rfl

/-- those with the gain and the offset, -/
theorem pay11_at (i d : Fin 1024) : k0_pay11 x1 x2 x3 (ix2 i d) = unit (row x1 i) d * x2 (ix2 0 d) + x3 (ix2 0 d) := by
  unfold k0_pay11
  pointwise
  rw [pay10_at]

/-- their sigmoids, -/
theorem pay12_at (i d : Fin 1024) : k0_pay12 x1 x2 x3 (ix2 i d) = sg (unit (row x1 i) d * x2 (ix2 0 d) + x3 (ix2 0 d)) := by
  unfold k0_pay12
  pointwise
  rw [pay11_at, zero_sub]
  rfl

/-- The gradient of the norm's result on the block. -/
abbrev backs : FVec Ideal S1024x1024 .f32 := k0_pay15 (k0_pay12 x1 x2 x3) x0 (k0_pay13 x1 x2 x3) k0_pay14

theorem backs_at (i d : Fin 1024) : backs x0 x1 x2 x3 (ix2 i d) = back x0 x1 x2 x3 i d := by
  unfold backs k0_pay15 k0_pay13 k0_pay14
  pointwise
  rw [pay11_at, pay12_at]
  rfl

/-- What a point stores of the gradient of the convolution. -/
abbrev grads : FVec Ideal S1024x1024 .f32 :=
  k0_pay16 (k0_pay9 x1) (k0_pay10 x1) (k0_pay12 x1 x2 x3) x0 (k0_pay13 x1 x2 x3) k0_pay14 x2

theorem grads_at (i d : Fin 1024) :
    grads x0 x1 x2 x3 (ix2 i d) = grad (row x1 i) (fun k => back x0 x1 x2 x3 i k * x2 (ix2 0 k)) d := by
  unfold grads k0_pay16
  pointwise
  simp only [pay9_at, pay10_at, backs_at]
  rfl

/-- What a point leaves of the parts of the gain's gradient, -/
abbrev next0 (s : Vec Ideal S8x1024 .f32) : FVec Ideal S8x1024 .f32 :=
  k0_pay17 (k0_pay10 x1) (k0_pay12 x1 x2 x3) x0 (k0_pay13 x1 x2 x3) k0_pay14 s

/-- of the offset's, -/
abbrev next1 (s : Vec Ideal S8x1024 .f32) : FVec Ideal S8x1024 .f32 := k0_pay18 (k0_pay12 x1 x2 x3) x0 (k0_pay13 x1 x2 x3) k0_pay14 s

theorem next0_at (s : Vec Ideal S8x1024 .f32) (a : Fin 8) (d : Fin 1024) : next0 x0 x1 x2 x3 s (ix2 a d)
    = s (ix2 a d) + ∑ b : Fin 128, (fun i => back x0 x1 x2 x3 i d * unit (row x1 i) d) (part (n := 1024) 8 rfl b a) := by
  unfold next0 k0_pay17
  pointwise
  simp only [pay10_at, backs_at]
  rfl

theorem next1_at (s : Vec Ideal S8x1024 .f32) (a : Fin 8) (d : Fin 1024) : next1 x0 x1 x2 x3 s (ix2 a d)
    = s (ix2 a d) + ∑ b : Fin 128, (fun i => back x0 x1 x2 x3 i d) (part (n := 1024) 8 rfl b a) := by
  unfold next1 k0_pay18
  pointwise
  simp only [backs_at]
  rfl

/-- and of the taps' offset's. -/
theorem next2_at (s : Vec Ideal S8x1024 .f32) (a : Fin 8) (d : Fin 1024) : k0_pay1 (grads x0 x1 x2 x3) s (ix2 a d)
    = s (ix2 a d) + ∑ b : Fin 128, (fun i => grad (row x1 i) (fun k => back x0 x1 x2 x3 i k * x2 (ix2 0 k)) d) (part (n := 1024) 8 rfl b a) := by
  unfold k0_pay1
  pointwise
  simp only [grads_at]
  rfl

end

/-- The last point adds the eight parts up. -/
theorem total_at (s : Vec Ideal S8x1024 .f32) (z : Fin 1) (d : Fin 1024) : k0_pay2 s (ix2 z d) = ∑ a : Fin 8, s (ix2 a d)
    ∧ k0_pay3 s (ix2 z d) = ∑ a : Fin 8, s (ix2 a d) ∧ k0_pay4 s (ix2 z d) = ∑ a : Fin 8, s (ix2 a d) := by
  unfold k0_pay2 k0_pay3 k0_pay4
  pointwise

/-- The parts start at zero. -/
theorem start_at (a : Fin 8) (d : Fin 1024) : k0_pay5 (F := Ideal) (ix2 a d) = (0 : EReal)
    ∧ k0_pay6 (F := Ideal) (ix2 a d) = (0 : EReal) ∧ k0_pay7 (F := Ideal) (ix2 a d) = (0 : EReal) := by
  unfold k0_pay5 k0_pay6 k0_pay7
  pointwise

section
variable (c : Dev nD) (i : grid0.Coords) (b1 : Memref sig .tc .vmem S1024x1024 .bf16) (k1 : b1.IsWhole)
  (b2 : Memref sig .tc .vmem S1024x1024 .f32) (k2 : b2.IsWhole) (b3 : Memref sig .tc .vmem S1x1024 .f32) (k3 : b3.IsWhole)
  (b4 : Memref sig .tc .vmem S1x1024 .f32) (k4 : b4.IsWhole) (b6 : Memref sig .tc .vmem S1024x1024 .f32) (k6 : b6.IsWhole)
  (b7 : Memref sig .tc .vmem S1x1024 .f32) (k7 : b7.IsWhole) (b8 : Memref sig .tc .vmem S1x1024 .f32) (k8 : b8.IsWhole)
  (b9 : Memref sig .tc .vmem S1x1024 .f32) (k9 : b9.IsWhole) (b10 : Memref sig .tc .vmem S8x1024 .f32) (k10 : b10.IsWhole)
  (b11 : Memref sig .tc .vmem S8x1024 .f32) (k11 : b11.IsWhole) (b12 : Memref sig .tc .vmem S8x1024 .f32) (k12 : b12.IsWhole)
  (x0 : Vec Ideal S1024x1024 .bf16) (x1 : Vec Ideal S1024x1024 .f32) (x2 x3 : Vec Ideal S1x1024 .f32) (s0 s1 s2 : Vec Ideal S8x1024 .f32)

/-- What the first point stores of the gradient of the convolution and leaves of the parts, -/
theorem outsA (h0 h1) :
    out0_A_4 c i b1 k1 b2 k2 b3 k3 b4 k4 b6 k6 b7 k7 b8 k8 b9 k9 b10 k10 b11 k11 b12 k12 h0 h1 x0 x1 x2 x3
      = grads x0 x1 x2 x3
    ∧ sout0_A_0 c i b1 k1 b2 k2 b3 k3 b4 k4 b6 k6 b7 k7 b8 k8 b9 k9 b10 k10 b11 k11 b12 k12 h0 h1 x0 x1 x2 x3
      = next0 x0 x1 x2 x3 (k0_pay5 (F := Ideal))
    ∧ sout0_A_1 c i b1 k1 b2 k2 b3 k3 b4 k4 b6 k6 b7 k7 b8 k8 b9 k9 b10 k10 b11 k11 b12 k12 h0 h1 x0 x1 x2 x3
      = next1 x0 x1 x2 x3 (k0_pay6 (F := Ideal))
    ∧ sout0_A_2 c i b1 k1 b2 k2 b3 k3 b4 k4 b6 k6 b7 k7 b8 k8 b9 k9 b10 k10 b11 k11 b12 k12 h0 h1 x0 x1 x2 x3
      = k0_pay1 (grads x0 x1 x2 x3) (k0_pay7 (F := Ideal)) := by
  unfold out0_A_4 sout0_A_0 sout0_A_1 sout0_A_2 kernelRun0_A
  dsimp only
  refine ⟨(View.read_writes_full VO0_4 VO0_4.junk _ _ _).trans ?_, (View.read_writes_full VS0_0 VS0_0.junk _ _ _).trans ?_,
    (View.read_writes_full VS0_1 VS0_1.junk _ _ _).trans ?_, (View.read_writes_full VS0_2 VS0_2.junk _ _ _).trans ?_⟩
  · unfold kernelRun0_A.sl.r kernelRun0_A.sl.r_1 kernelRun0_A.sl.r_2 kernelRun0_A.sl.r_3 kernelRun0_A.sl.r_4
    iterate 4 rw [View.readAt_full]
    rw [k1.read_unread, k2.read_unread, k3.read_unread, k4.read_unread]
  · unfold kernelRun0_A.sl.r_1 kernelRun0_A.sl.r_2 kernelRun0_A.sl.r_3 kernelRun0_A.sl.r_4 kernelRun0_A.sl.v62 kernelRun0_A.sl.HS0_1
    rw [View.readCov_full, View.readAt_full, View.readAt_full, View.readAt_full, View.readAt_full, k1.read_unread, k2.read_unread, k3.read_unread, k4.read_unread]
  · unfold kernelRun0_A.sl.r_2 kernelRun0_A.sl.r_3 kernelRun0_A.sl.r_4 kernelRun0_A.sl.v70 kernelRun0_A.sl.HS1_1
    rw [View.readCov_full, View.readAt_full, View.readAt_full, View.readAt_full, View.readAt_full, k1.read_unread, k2.read_unread, k3.read_unread, k4.read_unread]
  · unfold kernelRun0_A.sl.r_5 kernelRun0_A.sl.r kernelRun0_A.sl.r_1 kernelRun0_A.sl.r_2 kernelRun0_A.sl.r_3 kernelRun0_A.sl.r_4 kernelRun0_A.sl.v77 kernelRun0_A.sl.HS2_1
    rw [View.readCov_full, View.readAt_full, View.readAt_full, View.readAt_full, View.readAt_full, k1.read_unread, k2.read_unread, k3.read_unread, k4.read_unread]

/-- a point between, -/
theorem outsB (h0 h1) :
    out0_B_4 c i b1 k1 b2 k2 b3 k3 b4 k4 b6 k6 b7 k7 b8 k8 b9 k9 b10 k10 b11 k11 b12 k12 h0 h1 x0 x1 x2 x3 s0 s1 s2
      = grads x0 x1 x2 x3
    ∧ sout0_B_0 c i b1 k1 b2 k2 b3 k3 b4 k4 b6 k6 b7 k7 b8 k8 b9 k9 b10 k10 b11 k11 b12 k12 h0 h1 x0 x1 x2 x3 s0 s1 s2
      = next0 x0 x1 x2 x3 s0
    ∧ sout0_B_1 c i b1 k1 b2 k2 b3 k3 b4 k4 b6 k6 b7 k7 b8 k8 b9 k9 b10 k10 b11 k11 b12 k12 h0 h1 x0 x1 x2 x3 s0 s1 s2
      = next1 x0 x1 x2 x3 s1
    ∧ sout0_B_2 c i b1 k1 b2 k2 b3 k3 b4 k4 b6 k6 b7 k7 b8 k8 b9 k9 b10 k10 b11 k11 b12 k12 h0 h1 x0 x1 x2 x3 s0 s1 s2
      = k0_pay1 (grads x0 x1 x2 x3) s2 := by
  unfold out0_B_4 sout0_B_0 sout0_B_1 sout0_B_2 kernelRun0_B
  dsimp only
  refine ⟨(View.read_writes_full VO0_4 VO0_4.junk _ _ _).trans ?_, (View.read_writes_full VS0_0 VS0_0.junk _ _ _).trans ?_,
    (View.read_writes_full VS0_1 VS0_1.junk _ _ _).trans ?_, (View.read_writes_full VS0_2 VS0_2.junk _ _ _).trans ?_⟩
  · unfold kernelRun0_B.sl.r kernelRun0_B.sl.r_1 kernelRun0_B.sl.r_2 kernelRun0_B.sl.r_3 kernelRun0_B.sl.r_4
    iterate 4 rw [View.readAt_full]
    rw [k1.read_unread, k2.read_unread, k3.read_unread, k4.read_unread]
  · unfold kernelRun0_B.sl.r_1 kernelRun0_B.sl.r_2 kernelRun0_B.sl.r_3 kernelRun0_B.sl.r_4
    iterate 5 rw [View.readAt_full]
    rw [k1.read_unread, k2.read_unread, k3.read_unread, k4.read_unread, k10.read_unread]
  · unfold kernelRun0_B.sl.r_2 kernelRun0_B.sl.r_3 kernelRun0_B.sl.r_4
    iterate 5 rw [View.readAt_full]
    rw [k1.read_unread, k2.read_unread, k3.read_unread, k4.read_unread, k11.read_unread]
  · unfold kernelRun0_B.sl.r_5 kernelRun0_B.sl.r kernelRun0_B.sl.r_1 kernelRun0_B.sl.r_2 kernelRun0_B.sl.r_3 kernelRun0_B.sl.r_4
    iterate 5 rw [View.readAt_full]
    rw [k1.read_unread, k2.read_unread, k3.read_unread, k4.read_unread, k12.read_unread]

/-- and the last, -/
theorem outsC (h0 h1) :
    out0_C_4 c i b1 k1 b2 k2 b3 k3 b4 k4 b6 k6 b7 k7 b8 k8 b9 k9 b10 k10 b11 k11 b12 k12 h0 h1 x0 x1 x2 x3 s0 s1 s2
      = grads x0 x1 x2 x3
    ∧ sout0_C_0 c i b1 k1 b2 k2 b3 k3 b4 k4 b6 k6 b7 k7 b8 k8 b9 k9 b10 k10 b11 k11 b12 k12 h0 h1 x0 x1 x2 x3 s0 s1 s2
      = next0 x0 x1 x2 x3 s0
    ∧ sout0_C_1 c i b1 k1 b2 k2 b3 k3 b4 k4 b6 k6 b7 k7 b8 k8 b9 k9 b10 k10 b11 k11 b12 k12 h0 h1 x0 x1 x2 x3 s0 s1 s2
      = next1 x0 x1 x2 x3 s1
    ∧ sout0_C_2 c i b1 k1 b2 k2 b3 k3 b4 k4 b6 k6 b7 k7 b8 k8 b9 k9 b10 k10 b11 k11 b12 k12 h0 h1 x0 x1 x2 x3 s0 s1 s2
      = k0_pay1 (grads x0 x1 x2 x3) s2 := by
  unfold out0_C_4 sout0_C_0 sout0_C_1 sout0_C_2 kernelRun0_C
  dsimp only
  refine ⟨(View.read_writes_full VO0_4 VO0_4.junk _ _ _).trans ?_, (View.read_writes_full VS0_0 VS0_0.junk _ _ _).trans ?_,
    (View.read_writes_full VS0_1 VS0_1.junk _ _ _).trans ?_, (View.read_writes_full VS0_2 VS0_2.junk _ _ _).trans ?_⟩
  · unfold kernelRun0_C.sl.r kernelRun0_C.sl.r_1 kernelRun0_C.sl.r_2 kernelRun0_C.sl.r_3 kernelRun0_C.sl.r_4
    iterate 4 rw [View.readAt_full]
    rw [k1.read_unread, k2.read_unread, k3.read_unread, k4.read_unread]
  · unfold kernelRun0_C.sl.r_1 kernelRun0_C.sl.r_2 kernelRun0_C.sl.r_3 kernelRun0_C.sl.r_4
    iterate 5 rw [View.readAt_full]
    rw [k1.read_unread, k2.read_unread, k3.read_unread, k4.read_unread, k10.read_unread]
  · unfold kernelRun0_C.sl.r_2 kernelRun0_C.sl.r_3 kernelRun0_C.sl.r_4
    iterate 5 rw [View.readAt_full]
    rw [k1.read_unread, k2.read_unread, k3.read_unread, k4.read_unread, k11.read_unread]
  · unfold kernelRun0_C.sl.r_5 kernelRun0_C.sl.r kernelRun0_C.sl.r_1 kernelRun0_C.sl.r_2 kernelRun0_C.sl.r_3 kernelRun0_C.sl.r_4
    iterate 5 rw [View.readAt_full]
    rw [k1.read_unread, k2.read_unread, k3.read_unread, k4.read_unread, k12.read_unread]

/-- which stores the three sums of the parts. -/
theorem outsC567 (h0 h1) :
    out0_C_5 c i b1 k1 b2 k2 b3 k3 b4 k4 b6 k6 b7 k7 b8 k8 b9 k9 b10 k10 b11 k11 b12 k12 h0 h1 x0 x1 x2 x3 s0 s1 s2
      = k0_pay2 (F := Ideal) (next0 x0 x1 x2 x3 s0)
    ∧ out0_C_6 c i b1 k1 b2 k2 b3 k3 b4 k4 b6 k6 b7 k7 b8 k8 b9 k9 b10 k10 b11 k11 b12 k12 h0 h1 x0 x1 x2 x3 s0 s1 s2
      = k0_pay3 (F := Ideal) (next1 x0 x1 x2 x3 s1)
    ∧ out0_C_7 c i b1 k1 b2 k2 b3 k3 b4 k4 b6 k6 b7 k7 b8 k8 b9 k9 b10 k10 b11 k11 b12 k12 h0 h1 x0 x1 x2 x3 s0 s1 s2
      = k0_pay4 (F := Ideal) (k0_pay1 (grads x0 x1 x2 x3) s2) := by
  unfold out0_C_5 out0_C_6 out0_C_7 kernelRun0_C
  dsimp only
  refine ⟨(View.read_writes_full VO0_5 VO0_5.junk _ _ _).trans ?_, (View.read_writes_full VO0_6 VO0_6.junk _ _ _).trans ?_,
    (View.read_writes_full VO0_7 VO0_7.junk _ _ _).trans ?_⟩
  · unfold kernelRun0_C.sl.v87 kernelRun0_C.sl.HS0_1 kernelRun0_C.sl.r_1 kernelRun0_C.sl.r_2 kernelRun0_C.sl.r_3 kernelRun0_C.sl.r_4
    refine congrArg (k0_pay2 (F := Ideal)) ((View.readCov_full b10.view _ _ _ _).trans ?_)
    iterate 5 rw [View.readAt_full]
    rw [k1.read_unread, k2.read_unread, k3.read_unread, k4.read_unread, k10.read_unread]
  · unfold kernelRun0_C.sl.v91 kernelRun0_C.sl.HS1_1 kernelRun0_C.sl.r_2 kernelRun0_C.sl.r_3 kernelRun0_C.sl.r_4
    refine congrArg (k0_pay3 (F := Ideal)) ((View.readCov_full b11.view _ _ _ _).trans ?_)
    iterate 5 rw [View.readAt_full]
    rw [k1.read_unread, k2.read_unread, k3.read_unread, k4.read_unread, k11.read_unread]
  · unfold kernelRun0_C.sl.v95 kernelRun0_C.sl.HS2_1 kernelRun0_C.sl.r_5 kernelRun0_C.sl.r kernelRun0_C.sl.r_1 kernelRun0_C.sl.r_2 kernelRun0_C.sl.r_3 kernelRun0_C.sl.r_4
    refine congrArg (k0_pay4 (F := Ideal)) ((View.readCov_full b12.view _ _ _ _).trans ?_)
    iterate 5 rw [View.readAt_full]
    rw [k1.read_unread, k2.read_unread, k3.read_unread, k4.read_unread, k12.read_unread]

end

variable (m : (ℓ : Loc nD τ sig) → Buf (Elt Ideal) ℓ) (c : Dev nD)

/-- The rows of the incoming gradient. -/
def D : Fin 4096 → Fin 1024 → EReal := fun i d => (m ((c : Thread nD τ).loc main_arg0) : S4096x1024.Idx → EReal) (ix2 i d)
/-- The rows of the norm's input. -/
def X : Fin 4096 → Fin 1024 → EReal := fun i d => (m ((c : Thread nD τ).loc main_arg1) : S4096x1024.Idx → EReal) (ix2 i d)
/-- The gain. -/
def gain : Fin 1024 → EReal := fun d => (m ((c : Thread nD τ).loc main_arg2) : S1x1024.Idx → EReal) (ix2 0 d)
/-- The offset. -/
def off : Fin 1024 → EReal := fun d => (m ((c : Thread nD τ).loc main_arg3) : S1x1024.Idx → EReal) (ix2 0 d)

/-- The gradient of the norm's result. -/
def dn (i : Fin 4096) (d : Fin 1024) : EReal := swish (D m c i d) (unit (X m c i) d * gain m c d + off m c d)
/-- The gradient of the convolution. -/
def dc (i : Fin 4096) (d : Fin 1024) : EReal := grad (X m c i) (fun k => dn m c i k * gain m c k) d

/-- The gradient of the gain. -/
def dg (y : S1x1024.Idx) : EReal := ∑ i, dn m c i (y 1) * unit (X m c i) (y 1)
/-- The gradient of the offset. -/
def db (y : S1x1024.Idx) : EReal := ∑ i, dn m c i (y 1)
/-- The gradient of the taps' offset. -/
def dd (y : S1x1024.Idx) : EReal := ∑ i, dc m c i (y 1)

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ win0_7.index t 0 = 0 ∧ win0_7.index t 1 = 0 := by
  revert t
  decide +kernel

/-- The block of the incoming gradient at a point. -/
theorem block_d (t : Fin cfg0.N) (i d : Fin 1024) : (iblk m c 0 t : S1024x1024.Idx → EReal) (ix2 i d) = D m c (part 1024 rfl (t : Fin 4) i) d := by
  obtain ⟨⟨h0, h1⟩, -⟩ := places t
  unfold iblk D
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the norm's input at a point. -/
theorem block_x (t : Fin cfg0.N) (i d : Fin 1024) : (iblk m c 1 t : S1024x1024.Idx → EReal) (ix2 i d) = X m c (part 1024 rfl (t : Fin 4) i) d := by
  obtain ⟨-, ⟨h0, h1⟩, -⟩ := places t
  unfold iblk X
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the gain at a point: all of it, -/
theorem block_g (t : Fin cfg0.N) (d : Fin 1024) : (iblk m c 2 t : S1x1024.Idx → EReal) (ix2 0 d) = gain m c d := by
  obtain ⟨-, -, ⟨h0, h1⟩, -⟩ := places t
  unfold iblk gain
  rw [View.read_apply]
  refine (congrFun (V_main_arg2 m c) _).trans (congrArg (m ((c : Thread nD τ).loc main_arg2) : S1x1024.Idx → EReal) (at2 _ _ _ ?_ ?_))
  · show win0_2.index t 0 * 1 + 1 * 0 = 0; rw [h0]
  · show win0_2.index t 1 * 1024 + 1 * d.val = d.val; rw [h1]; omega

/-- and so that of the offset. -/
theorem block_b (t : Fin cfg0.N) (d : Fin 1024) : (iblk m c 3 t : S1x1024.Idx → EReal) (ix2 0 d) = off m c d := by
  obtain ⟨-, -, -, ⟨h0, h1⟩, -⟩ := places t
  unfold iblk off
  rw [View.read_apply]
  refine (congrFun (V_main_arg3 m c) _).trans (congrArg (m ((c : Thread nD τ).loc main_arg3) : S1x1024.Idx → EReal) (at2 _ _ _ ?_ ?_))
  · show win0_3.index t 0 * 1 + 1 * 0 = 0; rw [h0]
  · show win0_3.index t 1 * 1024 + 1 * d.val = d.val; rw [h1]; omega

/-- What the kernel computes of a block is what the arrays' rows give. -/
theorem of_block (t : Fin cfg0.N) (x0 : Vec Ideal S1024x1024 .bf16) (x1 : Vec Ideal S1024x1024 .f32) (x2 x3 : Vec Ideal S1x1024 .f32)
    (e0 : x0 = iblk m c 0 t) (e1 : x1 = iblk m c 1 t) (e2 : x2 = iblk m c 2 t) (e3 : x3 = iblk m c 3 t) (i d : Fin 1024) :
    back x0 x1 x2 x3 i d = dn m c (part 1024 rfl (t : Fin 4) i) d ∧ unit (row x1 i) d = unit (X m c (part 1024 rfl (t : Fin 4) i)) d
    ∧ grad (row x1 i) (fun k => back x0 x1 x2 x3 i k * x2 (ix2 0 k)) d = dc m c (part 1024 rfl (t : Fin 4) i) d := by
  have hr : row x1 i = X m c (part 1024 rfl (t : Fin 4) i) := by
    subst e1
    exact funext fun d => block_x m c t i d
  have hg : ∀ k, x2 (ix2 0 k) = gain m c k := fun k => by rw [e2]; exact block_g m c t k
  have hb : ∀ k, back x0 x1 x2 x3 i k = dn m c (part 1024 rfl (t : Fin 4) i) k := fun k => by
    unfold back dn
    rw [hr, hg, e0, e3]
    exact congrArg₂ (fun x y => swish x (_ + y)) (block_d m c t i k) (block_b m c t k)
  refine ⟨hb d, by rw [hr], ?_⟩
  rw [hr]
  simp only [hb, hg]
  rfl

/-! ### The gradient of the convolution -/

/-- Every point stores the gradient of its rows. -/
theorem store4 (t : Fin cfg0.N) : (outsAt0 m c t.val t.isLt).1 = grads (iblk m c 0 t) (iblk m c 1 t) (iblk m c 2 t) (iblk m c 3 t) := by
  by_cases h0 : t.val % 4 = 0
  · rw [outsAt0_A m c t h0 (by omega)]
    dsimp only
    rw [(outsA _ _ _ _ _ _ _ _ _ _ _ _ _ _ _ _ _ _ _ _ _ _ _ _ _ _ _ _ _ _).1]
  · by_cases h2 : t.val % 4 = 3
    · rw [outsAt0_C m c t h0 h2]
      dsimp only
      rw [(outsC _ _ _ _ _ _ _ _ _ _ _ _ _ _ _ _ _ _ _ _ _ _ _ _ _ _ _ _ _ _ _ _ _).1]
    · rw [outsAt0_B m c t h0 h2]
      dsimp only
      rw [(outsB _ _ _ _ _ _ _ _ _ _ _ _ _ _ _ _ _ _ _ _ _ _ _ _ _ _ _ _ _ _ _ _ _).1]

/-- Where an entry of a point's block of the first array lies. -/
theorem emb4 (t : Fin cfg0.N) (i d : Fin 1024) : ((cfg0.win 4).blk t).view.emb (ix2 i d) = ix2 (part 1024 rfl (t : Fin 4) i) d := by
  obtain ⟨-, -, -, -, ⟨h0, h1⟩, -⟩ := places t
  refine at2 (a := 4096) (b := 1024) _ _ _ ?_ ?_
  · show win0_4.index t 0 * 1024 + 1 * i.val = t.val * 1024 + i.val; rw [h0]; omega
  · show win0_4.index t 1 * 1024 + 1 * d.val = d.val; rw [h1]; omega

/-- The first array at the end. -/
theorem array4 : (dats m 0 c).arrAt 4 cfg0.N = fun y : S4096x1024.Idx => dc m c (y 0) (y 1) :=
  (dats m 0 c).arrAt_eq_of_cover 4 _
    (fun t _ => by
      rw [flushed4, store4]
      funext y
      obtain ⟨i, d, rfl⟩ : ∃ (i d : Fin 1024), y = ix2 i d := ⟨y 0, y 1, eq_ix2 y⟩
      rw [View.read_apply]
      refine Eq.trans ?_ (congrArg (fun y : S4096x1024.Idx => dc m c (y 0) (y 1)) (emb4 t i d)).symm
      exact (grads_at _ _ _ _ i d).trans (of_block m c t _ _ _ _ rfl rfl rfl rfl i d).2.2)
    (reached win0_4)

/-! ### The three sums over the rows -/

/-- What the rows of a point add to a part of a sum over all rows. -/
theorem share (t : Fin 4) (f : Fin 1024 → EReal) (g : Fin 4096 → EReal) (h : ∀ i, f i = g (part 1024 rfl t i)) (a : Fin 8) :
    ∑ b : Fin 128, f (part (n := 1024) 8 rfl b a) = eighth g a t.val := by
  unfold eighth
  rw [dif_pos t.isLt]
  exact Finset.sum_congr rfl fun b _ => h _

/-- What a point adds to the parts of the three sums. -/
theorem next_at (t : Fin cfg0.N) (x0 : Vec Ideal S1024x1024 .bf16) (x1 : Vec Ideal S1024x1024 .f32) (x2 x3 : Vec Ideal S1x1024 .f32)
    (e0 : x0 = iblk m c 0 t) (e1 : x1 = iblk m c 1 t) (e2 : x2 = iblk m c 2 t) (e3 : x3 = iblk m c 3 t) (s : Vec Ideal S8x1024 .f32) (a : Fin 8)
    (d : Fin 1024) : next0 x0 x1 x2 x3 s (ix2 a d) = s (ix2 a d) + eighth (fun i => dn m c i d * unit (X m c i) d) a t.val
    ∧ next1 x0 x1 x2 x3 s (ix2 a d) = s (ix2 a d) + eighth (fun i => dn m c i d) a t.val
    ∧ k0_pay1 (grads x0 x1 x2 x3) s (ix2 a d) = s (ix2 a d) + eighth (fun i => dc m c i d) a t.val := by
  rw [next0_at, next1_at, next2_at]
  refine ⟨congrArg (s (ix2 a d) + ·) (share t (fun i => back x0 x1 x2 x3 i d * unit (row x1 i) d)
    (fun i => dn m c i d * unit (X m c i) d) (fun i => ?_) a),
    congrArg (s (ix2 a d) + ·) (share t (fun i => back x0 x1 x2 x3 i d) (fun i => dn m c i d) (fun i => ?_) a),
    congrArg (s (ix2 a d) + ·) (share t (fun i => grad (row x1 i) (fun k => back x0 x1 x2 x3 i k * x2 (ix2 0 k)) d) (fun i => dc m c i d) (fun i => ?_) a)⟩
  · obtain ⟨h1, h2, -⟩ := of_block m c t x0 x1 x2 x3 e0 e1 e2 e3 i d
    exact congrArg₂ (fun x y : EReal => x * y) h1 h2
  · exact (of_block m c t x0 x1 x2 x3 e0 e1 e2 e3 i d).1
  · exact (of_block m c t x0 x1 x2 x3 e0 e1 e2 e3 i d).2.2

/-- What a point leaves of the parts: what the rows of the points so far add up to. -/
theorem parts (n : ℕ) (hn : n < cfg0.N) (a : Fin 8) (d : Fin 1024) :
    (outsAt0 m c n hn).2.2.2.2.1 (ix2 a d) = ∑ r ∈ Finset.range (n + 1), eighth (fun i => dn m c i d * unit (X m c i) d) a r
    ∧ (outsAt0 m c n hn).2.2.2.2.2.1 (ix2 a d) = ∑ r ∈ Finset.range (n + 1), eighth (fun i => dn m c i d) a r
    ∧ (outsAt0 m c n hn).2.2.2.2.2.2 (ix2 a d) = ∑ r ∈ Finset.range (n + 1), eighth (fun i => dc m c i d) a r := by
  induction n with
  | zero =>
    rw [outsAt0_A m c ⟨0, hn⟩ rfl (by simp), Finset.sum_range_one, Finset.sum_range_one, Finset.sum_range_one]
    dsimp only
    obtain ⟨-, o0, o1, o2⟩ := outsA _ _ _ _ _ _ _ _ _ _ _ _ _ _ _ _ _ _ _ _ _ _ _ _ _ _ _ _ _ _
    rw [o0, o1, o2]
    have h := next_at m c ⟨0, hn⟩ _ _ _ _ rfl rfl rfl rfl
    obtain ⟨z0, z1, z2⟩ := start_at a d
    exact ⟨(h _ a d).1.trans (by rw [z0, zero_add]), (h _ a d).2.1.trans (by rw [z1, zero_add]), (h _ a d).2.2.trans (by rw [z2, zero_add])⟩
  | succ n ih =>
    have h4 : n + 1 < 4 := hn
    obtain ⟨i0, i1, i2⟩ := ih (Nat.lt_of_succ_lt hn)
    rw [Finset.sum_range_succ _ (n + 1), Finset.sum_range_succ _ (n + 1), Finset.sum_range_succ _ (n + 1), ← i0, ← i1, ← i2]
    have h := next_at m c ⟨n + 1, hn⟩ _ _ _ _ rfl rfl rfl rfl
    by_cases h2 : (n + 1) % 4 = 3
    · rw [outsAt0_C m c ⟨n + 1, hn⟩ (by show ¬(n + 1) % 4 = 0; omega) h2]
      dsimp only
      obtain ⟨-, o0, o1, o2⟩ := outsC _ _ _ _ _ _ _ _ _ _ _ _ _ _ _ _ _ _ _ _ _ _ _ _ _ _ _ _ _ _ _ _ _
      rw [o0, o1, o2]
      exact ⟨(h _ a d).1, (h _ a d).2.1, (h _ a d).2.2⟩
    · rw [outsAt0_B m c ⟨n + 1, hn⟩ (by show ¬(n + 1) % 4 = 0; omega) h2]
      dsimp only
      obtain ⟨-, o0, o1, o2⟩ := outsB _ _ _ _ _ _ _ _ _ _ _ _ _ _ _ _ _ _ _ _ _ _ _ _ _ _ _ _ _ _ _ _ _
      rw [o0, o1, o2]
      exact ⟨(h _ a d).1, (h _ a d).2.1, (h _ a d).2.2⟩

/-- The last point. -/
abbrev last : Fin cfg0.N := (⟨3, by decide⟩ : Fin 4)

/-- Only the last point writes the three arrays back. -/
theorem flushes : (∀ t : Fin cfg0.N, (cfg0.win 5).flush t = true → t = last) ∧ (∀ t : Fin cfg0.N, (cfg0.win 6).flush t = true → t = last)
    ∧ ∀ t : Fin cfg0.N, (cfg0.win 7).flush t = true → t = last := by
  decide +kernel

/-- What the last point stores of the three: its parts, added up. -/
theorem store567 : (outsAt0 m c (last).val (last).isLt).2.1 = k0_pay2 (outsAt0 m c (last).val (last).isLt).2.2.2.2.1
    ∧ (outsAt0 m c (last).val (last).isLt).2.2.1 = k0_pay3 (outsAt0 m c (last).val (last).isLt).2.2.2.2.2.1
    ∧ (outsAt0 m c (last).val (last).isLt).2.2.2.1 = k0_pay4 (outsAt0 m c (last).val (last).isLt).2.2.2.2.2.2 := by
  rw [outsAt0_C m c last (by decide) (by decide)]
  dsimp only
  obtain ⟨-, o0, o1, o2⟩ := outsC _ _ _ _ _ _ _ _ _ _ _ _ _ _ _ _ _ _ _ _ _ _ _ _ _ _ _ _ _ _ _ _ _
  obtain ⟨o5, o6, o7⟩ := outsC567 _ _ _ _ _ _ _ _ _ _ _ _ _ _ _ _ _ _ _ _ _ _ _ _ _ _ _ _ _ _ _ _ _
  rw [o0, o1, o2, o5, o6, o7]
  exact ⟨rfl, rfl, rfl⟩

/-- An entry of a block that is a whole row of one. -/
theorem emb567 (z : Fin 1) (d : Fin 1024) : ((cfg0.win 5).blk last).view.emb (ix2 z d) = ix2 z d
    ∧ ((cfg0.win 6).blk last).view.emb (ix2 z d) = ix2 z d ∧ ((cfg0.win 7).blk last).view.emb (ix2 z d) = ix2 z d := by
  obtain ⟨-, -, -, -, -, ⟨h50, h51⟩, ⟨h60, h61⟩, h70, h71⟩ := places last
  refine ⟨at2 (a := 1) (b := 1024) _ _ _ ?_ ?_, at2 (a := 1) (b := 1024) _ _ _ ?_ ?_, at2 (a := 1) (b := 1024) _ _ _ ?_ ?_⟩
  · show win0_5.index last 0 * 1 + 1 * z.val = z.val; rw [h50]; omega
  · show win0_5.index last 1 * 1024 + 1 * d.val = d.val; rw [h51]; omega
  · show win0_6.index last 0 * 1 + 1 * z.val = z.val; rw [h60]; omega
  · show win0_6.index last 1 * 1024 + 1 * d.val = d.val; rw [h61]; omega
  · show win0_7.index last 0 * 1 + 1 * z.val = z.val; rw [h70]; omega
  · show win0_7.index last 1 * 1024 + 1 * d.val = d.val; rw [h71]; omega

/-- The gradient of the gain at the end, -/
theorem array5 : (dats m 0 c).arrAt 5 cfg0.N = dg m c :=
  (dats m 0 c).arrAt_eq_of_cover 5 _
    (fun t hf => by
      obtain rfl := flushes.1 t hf
      rw [flushed5, (store567 m c).1]
      funext y
      obtain ⟨z, d, rfl⟩ : ∃ (z : Fin 1) (d : Fin 1024), y = ix2 z d := ⟨y 0, y 1, eq_ix2 y⟩
      rw [View.read_apply]
      refine Eq.trans ?_ (congrArg (dg m c) (emb567 z d).1).symm
      exact (total_at _ z d).1.trans ((Finset.sum_congr rfl fun a _ => (parts m c 3 _ a d).1).trans (eighths _)))
    (reached win0_5)

/-- that of the offset, -/
theorem array6 : (dats m 0 c).arrAt 6 cfg0.N = db m c :=
  (dats m 0 c).arrAt_eq_of_cover 6 _
    (fun t hf => by
      obtain rfl := flushes.2.1 t hf
      rw [flushed6, (store567 m c).2.1]
      funext y
      obtain ⟨z, d, rfl⟩ : ∃ (z : Fin 1) (d : Fin 1024), y = ix2 z d := ⟨y 0, y 1, eq_ix2 y⟩
      rw [View.read_apply]
      refine Eq.trans ?_ (congrArg (db m c) (emb567 z d).2.1).symm
      exact (total_at _ z d).2.1.trans ((Finset.sum_congr rfl fun a _ => (parts m c 3 _ a d).2.1).trans (eighths _)))
    (reached win0_6)

/-- and that of the taps' offset. -/
theorem array7 : (dats m 0 c).arrAt 7 cfg0.N = dd m c :=
  (dats m 0 c).arrAt_eq_of_cover 7 _
    (fun t hf => by
      obtain rfl := flushes.2.2 t hf
      rw [flushed7, (store567 m c).2.2]
      funext y
      obtain ⟨z, d, rfl⟩ : ∃ (z : Fin 1) (d : Fin 1024), y = ix2 z d := ⟨y 0, y 1, eq_ix2 y⟩
      rw [View.read_apply]
      refine Eq.trans ?_ (congrArg (dd m c) (emb567 z d).2.2).symm
      exact (total_at _ z d).2.2.trans ((Finset.sum_congr rfl fun a _ => (parts m c 3 _ a d).2.2).trans (eighths _)))
    (reached win0_7)

/-! ## The reference -/

section
open Cert.Reference18Ideal.Read

variable (x0 : Vec Ideal S4096x1024 .bf16) (x1 : Vec Ideal S4096x1024 .f32) (x2 x3 : Vec Ideal S1x1024 .f32)

/-- A row of an argument. -/
abbrev rowOf (x : Vec Ideal S4096x1024 .f32) (i : Fin 4096) : Fin 1024 → EReal := fun k => x (ix2 i k)

/-- The norm's result. -/
abbrev normed (i : Fin 4096) (d : Fin 1024) : EReal := unit (rowOf x1 i) d * x2 (ix2 0 d) + x3 (ix2 0 d)

/-- Its gradient, through the swish. -/
abbrev lines (i : Fin 4096) (d : Fin 1024) : EReal := swishLines (x0 (ix2 i d)) (normed x1 x2 x3 i d)

/-- The gradient of the normed row. -/
abbrev pass (i : Fin 4096) : Fin 1024 → EReal := fun k => lines x0 x1 x2 x3 i k * x2 (ix2 0 k)

theorem cen_at (i : Fin 4096) (d : Fin 1024) : val_main_v5 (F := Ideal) x1 (ix2 i d) = cen (rowOf x1 i) d := by
  unfold val_main_v5 val_main_v4 val_main_v3 val_main_v2 val_main_v1 val_main_v0 val_main_cst_0 val_main_cst
  pointwise
  rfl

theorem spread_at (i : Fin 4096) (z : Fin 1) : val_main_v12 (F := Ideal) x1 (ix2 i z) = spread (rowOf x1 i) := by
  unfold val_main_v12 val_main_v11 val_main_v10 val_main_v9 val_main_v8 val_main_v7 val_main_v6 val_main_cst_1 val_main_cst_2 val_main_cst_3
  pointwise
  simp only [cen_at]
  rfl

theorem rs_at (i : Fin 4096) (z : Fin 1) : val_main_v13 (F := Ideal) x1 (ix2 i z) = rs (rowOf x1 i) := by
  unfold val_main_v13
  pointwise
  rw [spread_at]
  rfl

theorem unit_at (i : Fin 4096) (d : Fin 1024) : val_main_v18 (F := Ideal) x1 (ix2 i d) = unit (rowOf x1 i) d := by
  unfold val_main_v18 val_main_v17
  pointwise
  rw [cen_at, rs_at]
  rfl

theorem normed_at (i : Fin 4096) (d : Fin 1024) : val_main_v22 (F := Ideal) x1 x2 x3 (ix2 i d) = normed x1 x2 x3 i d := by
  unfold val_main_v22 val_main_v21 val_main_v20 val_main_v19
  pointwise
  rw [unit_at]

theorem sg_at (i : Fin 4096) (d : Fin 1024) : val_main_v23_2 (F := Ideal) x1 x2 x3 (ix2 i d) = sg (normed x1 x2 x3 i d) := by
  unfold val_main_v23_2 val_main_call0_v4 val_main_call0_v3 val_main_call0_v2 val_main_call0_v1 val_main_call0_v0 val_main_call0_cst val_main_call0_cst_0
  pointwise
  rw [normed_at]
  rfl

theorem lines_at (i : Fin 4096) (d : Fin 1024) : val_main_v25 (F := Ideal) x0 x1 x2 x3 (ix2 i d) = lines x0 x1 x2 x3 i d := by
  unfold val_main_v25 val_main_call1_v2 val_main_call1_v1 val_main_call1_v0 val_main_v24 val_main_v23_1 val_main_call0_v7 val_main_call0_v6 val_main_call0_cst_1
  pointwise
  rw [normed_at, sg_at]
  rfl

theorem pass_at (i : Fin 4096) (d : Fin 1024) : val_main_v32 (F := Ideal) x0 x1 x2 x3 (ix2 i d) = pass x0 x1 x2 x3 i d := by
  unfold val_main_v32 val_main_v31
  pointwise
  rw [lines_at]

theorem pull_at (i : Fin 4096) (d : Fin 1024) : val_main_v42 (F := Ideal) x0 x1 x2 x3 (ix2 i d) = pull (rowOf x1 i) (pass x0 x1 x2 x3 i) := by
  unfold val_main_v42 val_main_v41 val_main_v40 val_main_v39 val_main_v38 val_main_v35 val_main_v34 val_main_v33 val_main_v16 val_main_v15 val_main_v14
    val_main_cst_4 val_main_cst_7 val_main_cst_8 val_main_cst_9
  pointwise
  simp only [cen_at, spread_at, rs_at, pass_at]
  exact Fin.sum_univ_one _

theorem gradCen_at (i : Fin 4096) (d : Fin 1024) :
    val_main_v46 (F := Ideal) x0 x1 x2 x3 (ix2 i d) = gradCen (rowOf x1 i) (pass x0 x1 x2 x3 i) d := by
  unfold val_main_v46 val_main_v45 val_main_v44 val_main_v43 val_main_v37 val_main_v36
  pointwise
  simp only [cen_at, rs_at, pass_at, pull_at]
  rfl

theorem dc_at (i : Fin 4096) (d : Fin 1024) : val_main_v54 (F := Ideal) x0 x1 x2 x3 (ix2 i d) = gradLines (rowOf x1 i) (pass x0 x1 x2 x3 i) d := by
  unfold val_main_v54 val_main_v53 val_main_v52 val_main_v51 val_main_v50 val_main_v49 val_main_v48 val_main_v47
    val_main_cst_10 val_main_cst_11 val_main_cst_12
  pointwise
  simp only [gradCen_at]
  rw [Fin.sum_univ_one]
  rfl

theorem dg_at (z : Fin 1) (d : Fin 1024) :
    val_main_v30 (F := Ideal) x0 x1 x2 x3 (ix2 z d) = ∑ i, unit (rowOf x1 i) d * lines x0 x1 x2 x3 i d := by
  unfold val_main_v30 val_main_v29 val_main_v28 val_main_cst_6
  pointwise
  simp only [unit_at, lines_at]

theorem db_at (z : Fin 1) (d : Fin 1024) : val_main_v27 (F := Ideal) x0 x1 x2 x3 (ix2 z d) = ∑ i, lines x0 x1 x2 x3 i d := by
  unfold val_main_v27 val_main_v26 val_main_cst_5
  pointwise
  simp only [lines_at]

theorem dd_at (z : Fin 1) (d : Fin 1024) :
    val_main_v56 (F := Ideal) x0 x1 x2 x3 (ix2 z d) = ∑ i, gradLines (rowOf x1 i) (pass x0 x1 x2 x3 i) d := by
  unfold val_main_v56 val_main_v55 val_main_cst_13
  pointwise
  simp only [dc_at]

end

/-! ## The precondition -/

/-- The shape relations the precondition's operations take. -/
theorem pre_facts : Pre_finite_swish_gradient.Facts where
  bitsLt_bf16_f32 := by decide
  bcast_S_S4096x1024 := by decide
  reducesTo_S4096x1024_S_d0_1 := by decide
  h_S_ := by decide
  bcast_S_S1x1024 := by decide
  reducesTo_S1x1024_S_d0_1 := by decide

/-- The one index of the predicate's result. -/
abbrev o : Pre_finite_swish_gradient.S_.Idx := fun a => a.elim0

attribute [local instance] pre_facts in
/-- Under the precondition every entry of the incoming gradient and of the gain is a real number. -/
theorem reals_of_pre (x0 x1 x2 x3 x4)
    (h : Pre_finite_swish_gradient.fn (F := Ideal) x0 x1 x2 x3 x4 = fun _ => 1#1) :
    (∀ j, ∃ r : ℝ, (x0 j : EReal) = r) ∧ ∀ j, ∃ r : ℝ, (x2 j : EReal) = r := by
  have h0 := congrFun h o
  unfold Pre_finite_swish_gradient.fn at h0
  dsimp only at h0
  have hs : Subsingleton Pre_finite_swish_gradient.S_.Idx := ⟨fun x y => funext fun a => a.elim0⟩
  obtain ⟨e1, e2⟩ := IntOp.andi_eq_one.1 h0
  exact ⟨fun j => AttnClaim.real_of_abs _ (Host.reduce_andi_all _ _ _ _ o e1 j), fun j => AttnClaim.real_of_abs _ (Host.reduce_andi_all _ _ _ _ o e2 j)⟩

/-! ## The claims -/

/-- The reference leaves its arguments unchanged and every counter at zero. -/
theorem ref_frame : quiescent_Reference18Ideal (hReference18Ideal := Reference18Ideal.Gen.facts) := fun m ρ _ =>
  (θ_run Reference18Ideal.defs _ _).mono
    (fun r h => ⟨fun c => (h c).2.2.2.2, sem_eq_zero_of_no_sems (by decide) r.2⟩)
    (Reference18Ideal.Value.run m ρ)

/-- The kernel's results are the reference's. -/
theorem algebraic : algebraic_Kernel18Ideal_Reference18Ideal_pre_finite_swish_gradient (hKernel18Ideal := Kernel18Ideal.Gen.facts)
    (hReference18Ideal := Reference18Ideal.Gen.facts) (hPre_finite_swish_gradient := pre_facts) := by
  intro m g m' g' hpre hargs
  refine ⟨fun c (y : S4096x1024.Idx) => dc m c (y 0) (y 1), fun c => dg m c, fun c => db m c, fun c => dd m c, ?_, ?_⟩
  · refine (θ_run Kernel18Ideal.defs _ _).mono (fun r h c => ?_) (Kernel18Ideal.Value.run_blocks m g)
    exact ⟨(h c).1.trans (array4 m c), (h c).2.1.trans (array5 m c), (h c).2.2.1.trans (array6 m c), (h c).2.2.2.1.trans (array7 m c), (h c).2.2.2.2⟩
  · refine (θ_run Reference18Ideal.defs _ _).mono (fun r h c => ?_) (Reference18Ideal.Value.run m' g')
    obtain ⟨a0, a1, a2, a3, -⟩ := hargs c
    obtain ⟨p1, p2⟩ := reals_of_pre _ _ _ _ _ (hpre c)
    have hd : ∀ i k, swishLines (D m c i k) (unit (X m c i) k * gain m c k + off m c k) = dn m c i k ∧ ∃ r : ℝ, dn m c i k = r := fun i k => by
      obtain ⟨t, ht⟩ := p1 (ix2 i k)
      have ht' : D m c i k = (t : EReal) := ht
      unfold dn
      rw [ht']
      exact ⟨(swish_eq t _).1.symm, (swish_eq t _).2⟩
    have hc : ∀ i d, gradLines (X m c i) (fun k => swishLines (D m c i k) (unit (X m c i) k * gain m c k + off m c k) * gain m c k) d = dc m c i d :=
      fun i d => by
        simp only [(hd i _).1]
        refine (grad_eq _ _ (fun k => ?_) d).symm
        obtain ⟨r1, e1⟩ := (hd i k).2
        obtain ⟨r2, e2⟩ := p2 (ix2 0 k)
        exact ⟨r1 * r2, (congrArg₂ (fun x y : EReal => x * y) e1 e2).trans (EReal.coe_mul _ _).symm⟩
    refine ⟨(h c).1.trans ((Reference18Ideal.Read.val_main_v54_eq m' c).trans ?_),
      (h c).2.1.trans ((Reference18Ideal.Read.val_main_v30_eq m' c).trans ?_),
      (h c).2.2.1.trans ((Reference18Ideal.Read.val_main_v27_eq m' c).trans ?_),
      (h c).2.2.2.1.trans ((Reference18Ideal.Read.val_main_v56_eq m' c).trans ?_), (h c).2.2.2.2⟩
    · rw [a0, a1, a2, a3]
      funext y
      obtain ⟨i, d, rfl⟩ : ∃ (i : Fin 4096) (d : Fin 1024), y = ix2 i d := ⟨y 0, y 1, eq_ix2 y⟩
      exact (dc_at _ _ _ _ i d).trans (hc i d)
    · rw [a0, a1, a2, a3]
      funext y
      obtain ⟨z, d, rfl⟩ : ∃ (z : Fin 1) (d : Fin 1024), y = ix2 z d := ⟨y 0, y 1, eq_ix2 y⟩
      exact (dg_at _ _ _ _ z d).trans (Finset.sum_congr rfl fun i _ => (mul_comm _ _).trans (congrArg (· * unit (X m c i) d) (hd i d).1))
    · rw [a0, a1, a2, a3]
      funext y
      obtain ⟨z, d, rfl⟩ : ∃ (z : Fin 1) (d : Fin 1024), y = ix2 z d := ⟨y 0, y 1, eq_ix2 y⟩
      exact (db_at _ _ _ _ z d).trans (Finset.sum_congr rfl fun i _ => (hd i d).1)
    · rw [a0, a1, a2, a3]
      funext y
      obtain ⟨z, d, rfl⟩ : ∃ (z : Fin 1) (d : Fin 1024), y = ix2 z d := ⟨y 0, y 1, eq_ix2 y⟩
      exact (dd_at _ _ _ _ z d).trans (Finset.sum_congr rfl fun i _ => hc i d)

end Cert.Proof.SwishBack

end
-- ==== Proof.ConvBack.lean ====
/- The gradients of the last product of the convolution branch: the kernel's arrays, the reference's,
   and their equality. -/
module

public import proofs.«01_k».proof.Defs
public import proofs.«01_k».proof.Proof.Gen.Kernel19Ideal.Value
public import proofs.«01_k».proof.Proof.Gen.Reference19Ideal.Read
public import proofs.«01_k».proof.Proof.Index
public import proofs.«01_k».proof.Proof.MixBack
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384

noncomputable section

namespace Cert.Proof.ConvBack

open Cert.Kernel19Ideal Cert.Kernel19Ideal.Gen Cert.Kernel19Ideal.Value Idealize.ShloMosaic Idealize.ShloMosaic.TcCoe Idealize.SL.Sem
open Cert.Proof.Index
open Cert.Proof.MixBack (back grad)
open Idealize.ShloMosaic.Pipeline (Dat)

/-! ## The kernel -/

/-- What a point stores of the gradient of the input. -/
theorem pay1_at (x0 : Vec Ideal S1024x1024 .bf16) (x2 : Vec Ideal S4x256x1024 .bf16) (i d : Fin 1024) :
    k0_pay1 x0 x2 (ix2 i d) = ∑ k : Fin 1024, x0 (ix2 i k) * x2 (ix3 (chip 256 rfl d) (place 256 (by omega) d) k) := by
  unfold k0_pay1
  pointwise [dot_S1024x1024_S1024x1024_S1024x1024_1_1_0_0_n_n]
  rfl

/-- What the first point leaves of the gradient of the weights. -/
theorem pay3_at (x0 x1 : Vec Ideal S1024x1024 .bf16) (a d : Fin 1024) :
    k0_pay3 x0 x1 (ix2 a d) = ∑ i : Fin 1024, x1 (ix2 i a) * x0 (ix2 i d) := by
  unfold k0_pay3 k0_pay2
  pointwise [dot_S1024x1024_S1024x1024_S1024x1024_0_0_1_1_n_n]

/-- What a later point adds to it. -/
theorem pay4_at (x0 x1 : Vec Ideal S1024x1024 .bf16) (s : Vec Ideal S1024x1024 .f32) (a d : Fin 1024) :
    k0_pay4 x0 x1 s (ix2 a d) = s (ix2 a d) + ∑ i : Fin 1024, x1 (ix2 i a) * x0 (ix2 i d) := by
  unfold k0_pay4 k0_pay2
  pointwise [dot_S1024x1024_S1024x1024_S1024x1024_0_0_1_1_n_n]

/-- What the last point stores of it: its rows, chip by chip. -/
theorem pay5_at (s : Vec Ideal S1024x1024 .f32) (j : Fin 4) (a : Fin 256) (d : Fin 1024) :
    k0_pay5 s (ix3 j a d) = s (ix2 (part 256 rfl j a) d) := by
  unfold k0_pay5
  pointwise
  rfl

section
variable (c : Dev nD) (i : grid0.Coords) (b1 : Memref sig .tc .vmem S1024x1024 .bf16) (k1 : b1.IsWhole)
  (b2 : Memref sig .tc .vmem S1024x1024 .bf16) (k2 : b2.IsWhole) (b3 : Memref sig .tc .vmem S4x256x1024 .bf16) (k3 : b3.IsWhole)
  (b5 : Memref sig .tc .vmem S1024x1024 .bf16) (k5 : b5.IsWhole) (b6 : Memref sig .tc .vmem S4x256x1024 .bf16) (k6 : b6.IsWhole)
  (b7 : Memref sig .tc .vmem S1024x1024 .f32) (k7 : b7.IsWhole)
  (x0 x1 : Vec Ideal S1024x1024 .bf16) (x2 : Vec Ideal S4x256x1024 .bf16) (s : Vec Ideal S1024x1024 .f32)

/-- What the last point stores in the second array is what it leaves, chip by chip. -/
theorem outC4 (h0 h1 h2) : out0_C_4 c i b1 k1 b2 k2 b3 k3 b5 k5 b6 k6 b7 k7 h0 h1 h2 x0 x1 x2 s = k0_pay5 (k0_pay4 x0 x1 s) := by
  unfold out0_C_4 kernelRun0_C
  dsimp only
  refine (View.read_writes_full VO0_4 VO0_4.junk _ _ _).trans ?_
  unfold kernelRun0_C.sl.v17 kernelRun0_C.sl.HS0_1
  refine congrArg k0_pay5 ((View.readCov_full b7.view _ _ _ _).trans ?_)
  iterate 3 rw [View.readAt_full]
  rw [k1.read_unread, k2.read_unread, k7.read_unread]

/-- What the last point leaves in the scratch. -/
theorem soutC (h0 h1 h2) : sout0_C_0 c i b1 k1 b2 k2 b3 k3 b5 k5 b6 k6 b7 k7 h0 h1 h2 x0 x1 x2 s = k0_pay4 x0 x1 s := by
  unfold sout0_C_0 kernelRun0_C
  dsimp only
  refine (View.read_writes_full VS0_0 VS0_0.junk _ _ _).trans ?_
  iterate 3 rw [View.readAt_full]
  rw [k1.read_unread, k2.read_unread, k7.read_unread]

/-- What a point between leaves in the scratch. -/
theorem soutB (h0 h1 h2) : sout0_B_0 c i b1 k1 b2 k2 b3 k3 b5 k5 b6 k6 b7 k7 h0 h1 h2 x0 x1 x2 s = k0_pay4 x0 x1 s := by
  unfold sout0_B_0 kernelRun0_B
  dsimp only
  refine (View.read_writes_full VS0_0 VS0_0.junk _ _ _).trans ?_
  iterate 3 rw [View.readAt_full]
  rw [k1.read_unread, k2.read_unread, k7.read_unread]

/-- What the first point leaves in the scratch. -/
theorem soutA (h0 h1 h2) : sout0_A_0 c i b1 k1 b2 k2 b3 k3 b5 k5 b6 k6 b7 k7 h0 h1 h2 x0 x1 x2 = k0_pay3 x0 x1 := by
  unfold sout0_A_0 kernelRun0_A
  dsimp only
  refine (View.read_writes_full VS0_0 VS0_0.junk _ _ _).trans ?_
  rw [View.readAt_full, View.readAt_full, k1.read_unread, k2.read_unread]

/-- What the first point stores in the first array, -/
theorem outA3 (h0 h1 h2) : out0_A_3 c i b1 k1 b2 k2 b3 k3 b5 k5 b6 k6 b7 k7 h0 h1 h2 x0 x1 x2 = k0_pay1 x0 x2 := by
  unfold out0_A_3 kernelRun0_A
  dsimp only
  refine (View.read_writes_full VO0_3 VO0_3.junk _ _ _).trans ?_
  rw [View.readAt_full, View.readAt_full, k1.read_unread, k3.read_unread]

/-- a point between, -/
theorem outB3 (h0 h1 h2) : out0_B_3 c i b1 k1 b2 k2 b3 k3 b5 k5 b6 k6 b7 k7 h0 h1 h2 x0 x1 x2 s = k0_pay1 x0 x2 := by
  unfold out0_B_3 kernelRun0_B
  dsimp only
  refine (View.read_writes_full VO0_3 VO0_3.junk _ _ _).trans ?_
  rw [View.readAt_full, View.readAt_full, k1.read_unread, k3.read_unread]

/-- and the last. -/
theorem outC3 (h0 h1 h2) : out0_C_3 c i b1 k1 b2 k2 b3 k3 b5 k5 b6 k6 b7 k7 h0 h1 h2 x0 x1 x2 s = k0_pay1 x0 x2 := by
  unfold out0_C_3 kernelRun0_C
  dsimp only
  refine (View.read_writes_full VO0_3 VO0_3.junk _ _ _).trans ?_
  rw [View.readAt_full, View.readAt_full, k1.read_unread, k3.read_unread]

end

variable (m : (ℓ : Loc nD τ sig) → Buf (Elt Ideal) ℓ) (c : Dev nD)

/-- The rows of the incoming gradient. -/
def R : Fin 4096 → Fin 1024 → EReal := fun i d => (m ((c : Thread nD τ).loc main_arg0) : S4096x1024.Idx → EReal) (ix2 i d)
/-- The rows of the projection's input. -/
def X : Fin 4096 → Fin 1024 → EReal := fun i d => (m ((c : Thread nD τ).loc main_arg1) : S4096x1024.Idx → EReal) (ix2 i d)
/-- The weights: in the array of every chip, its first rows. -/
def W : Fin 4 → Fin 256 → Fin 1024 → EReal := fun j a k =>
  (m ((c : Thread nD τ).loc main_arg2) : S4x3072x1024.Idx → EReal) (ix3 j (⟨a.val, by omega⟩ : Fin 3072) k)
/-- What each chip held before. -/
def B : S4x1024x1024.Idx → EReal := m ((c : Thread nD τ).loc main_arg3)

/-- The first result. -/
def G3 (y : S4096x1024.Idx) : EReal := back (R m c) (W m c) (y 0) (y 1)

/-- The second: the gradient of the weights in its rows of each chip, the other rows as before. -/
def G4 (y : S4x1024x1024.Idx) : EReal :=
  if h : (y 1).val < 256 then grad (X m c) (R m c) (y 0) ⟨(y 1).val, h⟩ (y 2) else B m c y

/-- What the line before the call leaves for it: what each chip held. -/
theorem before : (V m c main_v0_1 : S4x1024x1024.Idx → EReal) = B m c := by
  show StableHlo.after hostOps0 _ (Proc.devRef .tc main_v0_1) = _
  simp only [hostOps0]
  after_results
  rfl

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0) ∧ (win0_3.index t 0 = t.val ∧ win0_3.index t 1 = 0)
    ∧ win0_4.index t 0 = 0 ∧ win0_4.index t 1 = 0 ∧ win0_4.index t 2 = 0 := by
  revert t
  decide +kernel

/-- The block of the incoming gradient at a point. -/
theorem block_r (t : Fin cfg0.N) (i d : Fin 1024) : (iblk m c 0 t : S1024x1024.Idx → EReal) (ix2 i d) = R m c (part 1024 rfl (t : Fin 4) i) d := by
  obtain ⟨⟨h0, h1⟩, -⟩ := places t
  unfold iblk R
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the projection's input at a point. -/
theorem block_x (t : Fin cfg0.N) (i d : Fin 1024) : (iblk m c 1 t : S1024x1024.Idx → EReal) (ix2 i d) = X m c (part 1024 rfl (t : Fin 4) i) d := by
  obtain ⟨-, ⟨h0, h1⟩, -⟩ := places t
  unfold iblk X
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the weights at a point: all of them. -/
theorem block_w (t : Fin cfg0.N) (j : Fin 4) (a : Fin 256) (k : Fin 1024) : (iblk m c 2 t : S4x256x1024.Idx → EReal) (ix3 j a k) = W m c j a k := by
  obtain ⟨-, -, ⟨h0, h1, h2⟩, -⟩ := places t
  unfold iblk W
  rw [View.read_apply]
  refine (congrFun (V_main_arg2 m c) _).trans (congrArg (m ((c : Thread nD τ).loc main_arg2) : S4x3072x1024.Idx → EReal) (at3 _ _ _ _ ?_ ?_ ?_))
  · show win0_2.index t 0 * 4 + 1 * j.val = j.val; rw [h0]; omega
  · show win0_2.index t 1 * 256 + 1 * a.val = a.val; rw [h1]; omega
  · show win0_2.index t 2 * 1024 + 1 * k.val = k.val; rw [h2]; omega

/-! ### The gradient of the input -/

/-- Every point stores the product of its blocks. -/
theorem store3 (t : Fin cfg0.N) : (outsAt0 m c t.val t.isLt).1 = k0_pay1 (iblk m c 0 t) (iblk m c 2 t) := by
  have ht : t.val < 4 := t.isLt
  by_cases h0 : t.val % 4 = 0
  · rw [outsAt0_A m c t h0 (by omega) (by omega)]
    dsimp only
    rw [outA3]
  · by_cases h2 : t.val % 4 = 3
    · rw [outsAt0_C m c t h0 (by omega) h2]
      dsimp only
      rw [outC3]
    · rw [outsAt0_B m c t h0 (by omega) h2]
      dsimp only
      rw [outB3]

/-- What a point writes back of the first array. -/
theorem written3 (t : Fin cfg0.N) : (dats m 0 c).flushed 3 t = ((cfg0.win 3).blk t).view.read (Elt Ideal) (G3 m c) := by
  obtain ⟨-, -, -, ⟨h0, h1⟩, -⟩ := places t
  rw [flushed3, store3]
  funext y
  obtain ⟨i, d, rfl⟩ : ∃ (i d : Fin 1024), y = ix2 i d := ⟨y 0, y 1, eq_ix2 y⟩
  rw [View.read_apply]
  have hy : ((cfg0.win 3).blk t).view.emb (ix2 i d) = ix2 (part 1024 rfl (t : Fin 4) i) d := by
    refine at2 (a := 4096) (b := 1024) _ _ _ ?_ ?_
    · show win0_3.index t 0 * 1024 + 1 * i.val = t.val * 1024 + i.val; rw [h0]; omega
    · show win0_3.index t 1 * 1024 + 1 * d.val = d.val; rw [h1]; omega
  refine Eq.trans ?_ (congrArg (G3 m c) hy).symm
  refine (pay1_at _ _ i d).trans (Finset.sum_congr rfl fun k _ => congrArg₂ (fun x y : EReal => x * y) (block_r m c t i k) (block_w m c t _ _ k))

/-- The first array at the end. -/
theorem array3 : (dats m 0 c).arrAt 3 cfg0.N = G3 m c :=
  (dats m 0 c).arrAt_eq_of_cover 3 (G3 m c) (fun t _ => written3 m c t)
    (reached win0_3)

/-! ### The gradient of the weights -/

/-- What the rows of a point add to it. -/
def share (a d : Fin 1024) (n : ℕ) : EReal :=
  if h : n < 4 then ∑ i : Fin 1024, X m c (part 1024 rfl (⟨n, h⟩ : Fin 4) i) a * R m c (part 1024 rfl (⟨n, h⟩ : Fin 4) i) d else 0

/-- The product of the blocks of a point is what its rows add. -/
theorem share_eq (t : Fin cfg0.N) (a d : Fin 1024) (x0 x1 : Vec Ideal S1024x1024 .bf16) (e0 : x0 = iblk m c 0 t) (e1 : x1 = iblk m c 1 t) :
    ∑ i : Fin 1024, x1 (ix2 i a) * x0 (ix2 i d) = share m c a d t.val := by
  subst e0 e1
  unfold share
  rw [dif_pos (show t.val < 4 from t.isLt)]
  exact Finset.sum_congr rfl fun i _ => congrArg₂ (fun x y : EReal => x * y) (block_x m c t i a) (block_r m c t i d)

/-- What a point leaves in the scratch: what the rows of the points so far add up to. -/
theorem scratch (n : ℕ) (hn : n < cfg0.N) (a d : Fin 1024) :
    (outsAt0 m c n hn).2.2 (ix2 a d) = ∑ r ∈ Finset.range (n + 1), share m c a d r := by
  induction n with
  | zero =>
    rw [outsAt0_A m c ⟨0, hn⟩ rfl (by simp) (by simp), Finset.sum_range_one]
    dsimp only
    rw [soutA, pay3_at]
    exact share_eq m c ⟨0, hn⟩ a d _ _ rfl rfl
  | succ n ih =>
    have h4 : n + 1 < 4 := hn
    rw [Finset.sum_range_succ, ← ih (Nat.lt_of_succ_lt hn), ← share_eq m c ⟨n + 1, hn⟩ a d _ _ rfl rfl]
    by_cases h2 : (n + 1) % 4 = 3
    · rw [outsAt0_C m c ⟨n + 1, hn⟩ (by show ¬(n + 1) % 4 = 0; omega) (by show 1 ≤ n + 1; omega) h2]
      dsimp only
      rw [soutC, pay4_at]
      rfl
    · rw [outsAt0_B m c ⟨n + 1, hn⟩ (by show ¬(n + 1) % 4 = 0; omega) (by show 1 ≤ n + 1; omega) h2]
      dsimp only
      rw [soutB, pay4_at]
      rfl

/-- The last point. -/
abbrev last : Fin cfg0.N := (⟨3, by decide⟩ : Fin 4)

/-- Only the last point writes the second array back, -/
theorem flushes4 : ∀ t : Fin cfg0.N, (cfg0.win 4).flush t = true ↔ t = last := by
  decide +kernel

/-- so no two points' blocks meet. -/
theorem apart4 : ∀ t t' : Fin cfg0.N, (cfg0.win 4).flush t = true → (cfg0.win 4).flush t' = true → t ≠ t' →
    Disjoint ((cfg0.win 4).blk t).view.set ((cfg0.win 4).blk t').view.set :=
  fun t t' h h' hne => absurd (((flushes4 t).1 h).trans ((flushes4 t').1 h').symm) hne

/-- What the last point stores: its scratch, chip by chip. -/
theorem store4 : (outsAt0 m c (last).val (last).isLt).2.1 = k0_pay5 (outsAt0 m c (last).val (last).isLt).2.2 := by
  rw [outsAt0_C m c last (by decide) (by decide) (by decide)]
  dsimp only
  rw [outC4, soutC]

/-- What it writes back, and where. -/
theorem written4 (j : Fin 4) (a : Fin 256) (d : Fin 1024) :
    (dats m 0 c).arrAt 4 cfg0.N (ix3 j (⟨a.val, by omega⟩ : Fin 1024) d) = grad (X m c) (R m c) j a d := by
  obtain ⟨-, -, -, -, h0, h1, h2⟩ := places last
  have hy : ((cfg0.win 4).blk last).view.emb (ix3 j a d) = ix3 j (⟨a.val, by omega⟩ : Fin 1024) d := by
    refine at3 (a := 4) (b := 1024) (c := 1024) _ _ _ _ ?_ ?_ ?_
    · show win0_4.index last 0 * 4 + 1 * j.val = j.val; rw [h0]; omega
    · show win0_4.index last 1 * 256 + 1 * a.val = a.val; rw [h1]; omega
    · show win0_4.index last 2 * 1024 + 1 * d.val = d.val; rw [h2]; omega
  have hb := congrFun ((dats m 0 c).read_blk_arrAt_eq_flushed 4 apart4 cfg0.N last (last).isLt ((flushes4 _).2 rfl)) (ix3 j a d)
  rw [View.read_apply, flushed4, store4] at hb
  refine (congrArg ((dats m 0 c).arrAt 4 cfg0.N) hy).symm.trans (hb.trans ?_)
  refine (pay5_at _ j a d).trans ((scratch m c 3 _ _ d).trans ?_)
  unfold grad
  rw [Finset.sum_range, sum_parts (n := 4096) (k := 4) 1024 rfl]
  exact Finset.sum_congr rfl fun r _ => dif_pos r.isLt

/-- The second array at the end. -/
theorem array4 : (dats m 0 c).arrAt 4 cfg0.N = G4 m c := by
  funext y
  obtain ⟨-, -, -, -, h0, h1, h2⟩ := places last
  have kept : ¬(y 1).val < 256 → (dats m 0 c).arrAt 4 cfg0.N y = B m c y := fun hk => by
    refine (entry4 m c y fun t hf hm => ?_).trans (congrFun (before m c) y)
    obtain rfl := (flushes4 t).1 hf
    rw [View.set, Finset.mem_map] at hm
    obtain ⟨x, -, hx⟩ := hm
    have e : win0_4.index last 1 * 256 + 1 * (x 1).val = (y 1).val := congrArg (fun z : S4x1024x1024.Idx => (z 1).val) hx
    have : (x 1).val < 256 := (x 1).isLt
    rw [h1] at e
    omega
  unfold G4
  by_cases h : (y 1).val < 256
  · rw [dif_pos h]
    exact Eq.trans (congrArg _ (at3 (a := 4) (b := 1024) (c := 1024) y (y 0) (⟨(y 1).val, (y 1).isLt⟩ : Fin 1024) (y 2) rfl rfl rfl))
      (written4 m c (y 0) ⟨(y 1).val, h⟩ (y 2))
  · rw [dif_neg h]
    exact kept h

/-! ## The reference -/

section
open Cert.Reference19Ideal.Read

/-- The reference's first result. -/
theorem ref3 : val_main_v11 (F := Ideal) (m ((c : Thread nD τ).loc main_arg0)) (m ((c : Thread nD τ).loc main_arg2)) = G3 m c := by
  funext y
  obtain ⟨i, d, rfl⟩ : ∃ (i : Fin 4096) (d : Fin 1024), y = ix2 i d := ⟨y 0, y 1, eq_ix2 y⟩
  show _ = back (R m c) (W m c) i d
  unfold back R W
  generalize m ((c : Thread nD τ).loc main_arg0) = x0
  generalize m ((c : Thread nD τ).loc main_arg2) = x2
  unfold val_main_v11 val_main_v8 val_main_v5 val_main_v2 val_main_v1 val_main_v0
  pointwise [Reference19Ideal.dot_S4096x1024_S1024x1024_S4096x1024_1_1_0_0_n_n]
  rfl

/-- The reference's second result. -/
theorem ref4 : val_main_v13 (F := Ideal) (m ((c : Thread nD τ).loc main_arg0)) (m ((c : Thread nD τ).loc main_arg1))
    (m ((c : Thread nD τ).loc main_arg3)) = G4 m c := by
  funext y
  obtain ⟨j, a, d, rfl⟩ : ∃ (j : Fin 4) (a d : Fin 1024), y = ix3 j a d := ⟨y 0, y 1, y 2, eq_ix3 y⟩
  generalize hG : G4 m c (ix3 j a d) = g
  unfold val_main_v13 val_main_v12 val_main_v10 val_main_v9 val_main_v7 val_main_v6 val_main_v5 val_main_v3
  pointwise [Reference19Ideal.dot_S4096x1024_S4096x1024_S1024x1024_0_0_1_1_n_n]
  rw [← hG]
  unfold G4
  by_cases h : a.val < 256
  · rw [dif_pos h, dif_pos (show ((ix3 j a d : S4x1024x1024.Idx) 1).val < 256 from h)]
    exact Finset.sum_congr rfl fun i _ => mul_comm _ _
  · rw [dif_neg h, dif_neg (show ¬((ix3 j a d : S4x1024x1024.Idx) 1).val < 256 from h)]
    exact congrArg (B m c) (at3 (a := 4) (b := 1024) (c := 1024) _ j a d rfl (by show 256 + (a.val - 256) = a.val; omega) rfl)

end

/-! ## The claims -/

/-- The reference leaves its arguments unchanged and every counter at zero. -/
theorem ref_frame : quiescent_Reference19Ideal (hReference19Ideal := Reference19Ideal.Gen.facts) := fun m ρ _ =>
  (θ_run Reference19Ideal.defs _ _).mono
    (fun r h => ⟨fun c => (h c).2.2, sem_eq_zero_of_no_sems (by decide) r.2⟩)
    (Reference19Ideal.Value.run m ρ)

/-- The kernel's results are the reference's. -/
theorem algebraic : algebraic_Kernel19Ideal_Reference19Ideal (hKernel19Ideal := Kernel19Ideal.Gen.facts)
    (hReference19Ideal := Reference19Ideal.Gen.facts) := by
  intro m g m' g' _ hargs
  refine ⟨fun c => G3 m c, fun c => G4 m c, ?_, ?_⟩
  · refine (θ_run Kernel19Ideal.defs _ _).mono (fun r h c => ?_) (Kernel19Ideal.Value.run_blocks m g)
    exact ⟨(h c).1.trans (array3 m c), (h c).2.1.trans (array4 m c), (h c).2.2⟩
  · refine (θ_run Reference19Ideal.defs _ _).mono (fun r h c => ?_) (Reference19Ideal.Value.run m' g')
    obtain ⟨a0, a1, a2, a3⟩ := hargs c
    refine ⟨(h c).1.trans ((Reference19Ideal.Read.val_main_v11_eq _ _).trans ?_), (h c).2.1.trans ((Reference19Ideal.Read.val_main_v13_eq _ _ _).trans ?_), (h c).2.2⟩
    · rw [a0, a2]
      exact ref3 m c
    · rw [a0, a1, a3]
      exact ref4 m c

end Cert.Proof.ConvBack

end
-- ==== Proof.AttnFwd.lean ====
/- The memory cross-attention: the kernel's array, the reference's, and their equality. -/
module

public import proofs.«01_k».proof.Defs
public import proofs.«01_k».proof.Proof.Gen.Kernel20Ideal.Value
public import proofs.«01_k».proof.Proof.Gen.Reference20Ideal.Read
public import proofs.«01_k».proof.Proof.Index
public import proofs.«01_k».proof.Proof.SoftmaxGrad
public import Idealize.ShloMosaic.Lib.Pointwise
public import Idealize.ShloMosaic.Adequacy
public import Idealize.ShloMosaic.Init

@[expose] public section

set_option maxRecDepth 16384

noncomputable section

namespace Cert.Proof.AttnFwd

open Cert.Kernel20Ideal Cert.Kernel20Ideal.Gen Cert.Kernel20Ideal.Value Idealize.ShloMosaic Idealize.ShloMosaic.TcCoe Idealize.SL.Sem
open Cert.Proof.Index Cert.Proof.Attn
open Idealize.ShloMosaic.Pipeline (Dat)

/-- The rows of an array. -/
def mat {n k : Nat} (x : (⟨2, ![n, k]⟩ : Shape).Idx → EReal) : Fin n → Fin k → EReal := fun i c => x (ix2 i c)

/-- The head of a column. -/
def head (e : Fin 1024) : Fin 4 := ⟨e.val / 256, by omega⟩

theorem head_hcol (h : Fin 4) (d : Fin 256) : head (hcol h d) = h := Fin.ext (by show (h.val * 256 + d.val) / 256 = h.val; omega)

/-- Column `e` of the attention of query `i`: the values of its head, weighed by the softmax of the scores. -/
def attend {T : Nat} (Q : Fin T → Fin 1024 → EReal) (K V : Fin 256 → Fin 1024 → EReal) (i : Fin T) (e : Fin 1024) : EReal :=
  ∑ m, prob (hscore Q K (head e) i) m * V m e

/-! ## The kernel -/

section
variable (q : Vec Ideal S1024x256 .bf16) (k v : Vec Ideal S256x256 .f32) (i : Fin 1024) (d : Fin 256)

/-- What a head stores. -/
def headOut : EReal := ∑ m, prob (score (mat q i) (mat k)) m * v (ix2 m d)

/-! The four heads store the same of their blocks. -/

theorem pay3_at (m : Fin 256) : k0_pay3 q k (ix2 i m) = prob (score (mat q i) (mat k)) m := by
  unfold k0_pay3
  pointwise [dot_S1024x256_S256x256_S1024x256_1_1_0_0_n_n]
  rfl

theorem pay4_at : k0_pay4 (k0_pay3 q k) v (ix2 i d) = headOut q k v i d := by
  have e : ∀ x, k0_pay3 q k (ix2 i x) = prob (score (mat q i) (mat k)) x := pay3_at q k i
  unfold k0_pay4 headOut
  generalize k0_pay3 q k = p at e
  pointwise [dot_S1024x256_S256x256_S1024x256_1_0_0_1_n_n, e]

theorem pay2_eq : k0_pay2 q k v = k0_pay4 (k0_pay3 q k) v := rfl
theorem pay5_eq : k0_pay5 q k v = k0_pay4 (k0_pay3 q k) v := rfl
theorem pay1_eq : k0_pay1 (k0_pay6 q k) (k0_pay7 q k) v = k0_pay4 (k0_pay3 q k) v := rfl

end

/-! Where a head's rectangle of a block lies in it. -/

/-- Head `h` of a block of rows. -/
theorem emb_rows (h : Fin 4) (off : Nat) (ho : off = h.val * 256) (inb : ∀ a, ![0, off] a + S1024x256.size a ≤ S1024x1024.size a)
    (i : Fin 1024) (d : Fin 256) : (Rect.unit (s := S1024x1024) ![0, off] S1024x256.size inb).emb (ix2 i d) = ix2 i (hcol h d) :=
  at2 _ _ _ (by show 0 + 1 * i.val = i.val; omega) (by show off + 1 * d.val = h.val * 256 + d.val; omega)

/-- Head `h` of the memory. -/
theorem emb_mem (h : Fin 4) (off : Nat) (ho : off = h.val * 256) (inb : ∀ a, ![0, off] a + S256x256.size a ≤ S256x1024.size a)
    (i : Fin 256) (d : Fin 256) : (Rect.unit (s := S256x1024) ![0, off] S256x256.size inb).emb (ix2 i d) = ix2 i (hcol h d) :=
  at2 _ _ _ (by show 0 + 1 * i.val = i.val; omega) (by show off + 1 * d.val = h.val * 256 + d.val; omega)

section
variable (x0 : Vec Ideal S1024x1024 .bf16) (x1 x2 : Vec Ideal S256x1024 .f32)

/-- What a head stores is the attention in its columns. -/
theorem piece (h : Fin 4) (off : Nat) (ho : off = h.val * 256) (inb : ∀ a, ![0, off] a + S1024x256.size a ≤ S1024x1024.size a)
    (inb' : ∀ a, ![0, off] a + S256x256.size a ≤ S256x1024.size a) (x : S1024x256.Idx) :
    k0_pay4 (k0_pay3 (View.ld x0 (Rect.unit (s := S1024x1024) ![0, off] S1024x256.size inb))
        (View.ld x1 (Rect.unit (s := S256x1024) ![0, off] S256x256.size inb')))
      (View.ld x2 (Rect.unit (s := S256x1024) ![0, off] S256x256.size inb')) x
      = (fun y : S1024x1024.Idx => attend (mat x0) (mat x1) (mat x2) (y 0) (y 1))
        ((Rect.unit (s := S1024x1024) ![0, off] S1024x256.size inb).emb x) := by
  obtain ⟨i, d, rfl⟩ : ∃ (i : Fin 1024) (d : Fin 256), x = ix2 i d := ⟨x 0, x 1, eq_ix2 x⟩
  refine (pay4_at _ _ _ i d).trans (Eq.trans ?_ (congrArg (fun y : S1024x1024.Idx => attend (mat x0) (mat x1) (mat x2) (y 0) (y 1))
    (emb_rows h off ho inb i d)).symm)
  show _ = attend (mat x0) (mat x1) (mat x2) i (hcol h d)
  unfold headOut attend
  rw [head_hcol]
  have eq : mat (View.ld x0 (Rect.unit (s := S1024x1024) ![0, off] S1024x256.size inb)) i = fun e => mat x0 i (hcol h e) :=
    funext fun e => congrArg x0 (emb_rows h off ho inb i e)
  have ek : mat (View.ld x1 (Rect.unit (s := S256x1024) ![0, off] S256x256.size inb')) = fun m e => mat x1 m (hcol h e) :=
    funext fun m => funext fun e => congrArg x1 (emb_mem h off ho inb' m e)
  have ev : ∀ m, View.ld x2 (Rect.unit (s := S256x1024) ![0, off] S256x256.size inb') (ix2 m d) = mat x2 m (hcol h d) :=
    fun m => congrArg x2 (emb_mem h off ho inb' m d)
  rw [eq, ek]
  exact Finset.sum_congr rfl fun m _ => congrArg (fun y : EReal => prob (hscore (mat x0) (mat x1) h i) m * y) (ev m)

/-- What a point leaves: the attention of its rows. -/
theorem out_at (y : S1024x1024.Idx) : out0_3 x0 x1 x2 y = attend (mat x0) (mat x1) (mat x2) (y 0) (y 1) := by
  unfold out0_3
  rw [pay2_eq, pay5_eq, pay1_eq]
  refine View.canon_apply_of_pieces (Val := Elt Ideal) (e := .bf16)
    (fun y : S1024x1024.Idx => attend (mat x0) (mat x1) (mat x2) (y 0) (y 1)) _ ?_ y (cover0_3 _ _ _ _ y)
  exact List.forall_mem_cons.2 ⟨piece x0 x1 x2 3 768 rfl _ _, List.forall_mem_cons.2 ⟨piece x0 x1 x2 2 512 rfl _ _,
    List.forall_mem_cons.2 ⟨piece x0 x1 x2 1 256 rfl _ _, List.forall_mem_cons.2 ⟨piece x0 x1 x2 0 0 rfl _ _, List.forall_mem_nil _⟩⟩⟩⟩

end

variable (m : (ℓ : Loc nD τ sig) → Buf (Elt Ideal) ℓ) (c : Dev nD)

/-- The queries. -/
def Q : Fin 4096 → Fin 1024 → EReal := fun i e => (m ((c : Thread nD τ).loc main_arg0) : S4096x1024.Idx → EReal) (ix2 i e)
/-- The keys. -/
def K : Fin 256 → Fin 1024 → EReal := fun a e => (m ((c : Thread nD τ).loc main_arg1) : S256x2048.Idx → EReal) (ix2 a (⟨e.val, by omega⟩ : Fin 2048))
/-- The values. -/
def W : Fin 256 → Fin 1024 → EReal := fun a e => (m ((c : Thread nD τ).loc main_arg1) : S256x2048.Idx → EReal) (ix2 a (⟨1024 + e.val, by omega⟩ : Fin 2048))

/-- The result. -/
def G (y : S4096x1024.Idx) : EReal := attend (Q m c) (K m c) (W m c) (y 0) (y 1)

/-- Where the blocks of a point lie. -/
theorem places (t : Fin cfg0.N) : (win0_0.index t 0 = t.val ∧ win0_0.index t 1 = 0) ∧ (win0_1.index t 0 = 0 ∧ win0_1.index t 1 = 0)
    ∧ (win0_2.index t 0 = 0 ∧ win0_2.index t 1 = 1) ∧ win0_3.index t 0 = t.val ∧ win0_3.index t 1 = 0 := by
  revert t
  decide +kernel

/-- The block of the queries at a point. -/
theorem block_q (t : Fin cfg0.N) (r : Fin 4) (hr : t.val = r.val) (i e : Fin 1024) :
    (iblk m c 0 t : S1024x1024.Idx → EReal) (ix2 i e) = Q m c (part 1024 rfl r i) e := by
  obtain ⟨⟨h0, h1⟩, -⟩ := places t
  unfold iblk Q
  rw [View.read_apply]
  refine congrArg (m ((c : Thread nD τ).loc main_arg0) : S4096x1024.Idx → EReal) (at2 _ _ _ ?_ ?_)
  · show win0_0.index t 0 * 1024 + 1 * i.val = r.val * 1024 + i.val; rw [h0]; omega
  · show win0_0.index t 1 * 1024 + 1 * e.val = e.val; rw [h1]; omega

/-- The block of the keys: all of them. -/
theorem block_k (t : Fin cfg0.N) (a : Fin 256) (e : Fin 1024) : (iblk m c 1 t : S256x1024.Idx → EReal) (ix2 a e) = K m c a e := by
  obtain ⟨-, ⟨h0, h1⟩, -⟩ := places t
  unfold iblk K
  rw [View.read_apply]
  refine congrArg (m ((c : Thread nD τ).loc main_arg1) : S256x2048.Idx → EReal) (at2 _ _ _ ?_ ?_)
  · show win0_1.index t 0 * 256 + 1 * a.val = a.val; rw [h0]; omega
  · show win0_1.index t 1 * 1024 + 1 * e.val = e.val; rw [h1]; omega

/-- The block of the values: all of them. -/
theorem block_v (t : Fin cfg0.N) (a : Fin 256) (e : Fin 1024) : (iblk m c 2 t : S256x1024.Idx → EReal) (ix2 a e) = W m c a e := by
  obtain ⟨-, -, ⟨h0, h1⟩, -⟩ := places t
  unfold iblk W
  rw [View.read_apply]
  refine congrArg (m ((c : Thread nD τ).loc main_arg1) : S256x2048.Idx → EReal) (at2 _ _ _ ?_ ?_)
  · show win0_2.index t 0 * 256 + 1 * a.val = a.val; rw [h0]; omega
  · show win0_2.index t 1 * 1024 + 1 * e.val = 1024 + e.val; rw [h1]; omega

/-- The attention of a row depends on that row of the queries only. -/
theorem attend_row {T T' : Nat} (Q : Fin T → Fin 1024 → EReal) (Q' : Fin T' → Fin 1024 → EReal) (K V : Fin 256 → Fin 1024 → EReal)
    (i : Fin T) (i' : Fin T') (h : Q i = Q' i') (e : Fin 1024) : attend Q K V i e = attend Q' K V i' e := by
  unfold attend hscore
  rw [h]

/-- The array at the end. -/
theorem array : (dats m 0 c).arrAt 3 cfg0.N = G m c := by
  refine (dats m 0 c).arrAt_eq_of_cover 3 (G m c) (fun t _ => ?_) (reached win0_3)
  obtain ⟨-, -, -, h0, h1⟩ := places t
  have ht : t.val < 4 := t.isLt
  rw [flushed3 m c t]
  funext x
  have hy : ((cfg0.win 3).blk t).view.emb x = ix2 (part (n := 4096) (k := 4) 1024 rfl ⟨t.val, ht⟩ (x 0)) (x 1) := by
    refine at2 (a := 4096) (b := 1024) _ _ _ ?_ ?_
    · show win0_3.index t 0 * 1024 + 1 * (x 0).val = t.val * 1024 + (x 0).val; rw [h0]; omega
    · show win0_3.index t 1 * 1024 + 1 * (x 1).val = (x 1).val; rw [h1]; omega
  refine Eq.trans ?_ (congrArg (G m c) hy).symm
  refine (out_at _ _ _ x).trans ?_
  have ek : mat (n := 256) (k := 1024) (iblk m c 1 t) = K m c := funext fun a => funext fun e => block_k m c t a e
  have ev : mat (n := 256) (k := 1024) (iblk m c 2 t) = W m c := funext fun a => funext fun e => block_v m c t a e
  rw [ek, ev]
  exact attend_row _ _ _ _ _ _ (funext fun e => block_q m c t ⟨t.val, ht⟩ rfl (x 0) e) (x 1)

/-! ## The reference -/

section
open Cert.Reference20Ideal.Read
variable (x0 : (⟨S4096x1024, .bf16⟩ : BufTy).Contents (Elt Ideal)) (x1 : (⟨S256x2048, .f32⟩ : BufTy).Contents (Elt Ideal))

/-- The queries, -/
def rows : Fin 4096 → Fin 1024 → EReal := fun i e => x0 (ix2 i e)
/-- the keys, -/
def keys : Fin 256 → Fin 1024 → EReal := fun a e => x1 (ix2 a (⟨e.val, by omega⟩ : Fin 2048))
/-- and the values. -/
def vals : Fin 256 → Fin 1024 → EReal := fun a e => x1 (ix2 a (⟨1024 + e.val, by omega⟩ : Fin 2048))

/-- The scaled scores. -/
theorem scores_at (h : Fin 4) (i : Fin 4096) (k : Fin 256) : val_main_v8 (F := Ideal) x0 x1 (ix3 h i k) = hscore (rows x0) (keys x1) h i k := by
  rw [val_main_v8_apply, val_main_v6_apply, val_main_v7_apply, val_main_cst_apply]
  refine congrArg₂ (fun a b : EReal => a * b) (Finset.sum_congr rfl fun d _ => ?_) rfl
  rw [val_main_v1_apply, val_main_v0_apply, val_main_v3_apply, val_main_v2_apply]
  refine congrArg₂ (fun a b : EReal => a * b) (congrArg x0 (at2 _ _ _ ?_ ?_)) (congrArg x1 (at2 _ _ _ ?_ ?_))
  · show ((i.val * 4 + h.val) * 256 + d.val) / 1024 = i.val; omega
  · show ((i.val * 4 + h.val) * 256 + d.val) % 1024 = h.val * 256 + d.val; omega
  · show ((k.val * 4 + h.val) * 256 + d.val) / 1024 = k.val; omega
  · show ((k.val * 4 + h.val) * 256 + d.val) % 1024 = h.val * 256 + d.val; omega

/-- The largest score of a row. -/
theorem most_at (h : Fin 4) (i : Fin 4096) : val_main_v9 (F := Ideal) x0 x1 (ix2 h i)
    = Finset.fold max (Ideal.ofBits .f32 0xFF800000#32) (hscore (rows x0) (keys x1) h i) Finset.univ := by
  rw [← show (fun k : Fin 256 => val_main_v8 (F := Ideal) x0 x1 (ix3 h i k)) = hscore (rows x0) (keys x1) h i from
    funext fun k => scores_at x0 x1 h i k]
  unfold val_main_v9
  generalize val_main_v8 (F := Ideal) x0 x1 = y
  pointwise [val_main_cst_0]

/-- The exponentials. -/
theorem expos_at (h : Fin 4) (i : Fin 4096) (k : Fin 256) : val_main_v15 (F := Ideal) x0 x1 (ix3 h i k) = expo (hscore (rows x0) (keys x1) h i) k := by
  rw [val_main_v15_apply, val_main_v14_apply, scores_at, val_main_v13_apply, at3 (idx_main_v13 (ix3 h i k)) h i (0 : Fin 1) rfl rfl rfl,
    val_main_v12_apply, at2 (idx_main_v12 (ix3 h i (0 : Fin 1))) h i rfl rfl, val_main_v11_apply, val_main_v10_apply, val_main_cst_1_apply, most_at]
  have hb : ∀ z : EReal, FloatOps.maximumf (F := Ideal) (φ := .f32) (FloatOps.ofBits .f32 0xFF800000#32) z = z := fun z => by
    show max (Ideal.ofBits .f32 0xFF800000#32) z = z
    rw [neg_inf_lit]
    exact max_eq_right bot_le
  rw [hb]
  rfl

/-- The softmax of the scores. -/
theorem probs_at (h : Fin 4) (i : Fin 4096) (k : Fin 256) : val_main_v19 (F := Ideal) x0 x1 (ix3 h i k) = prob (hscore (rows x0) (keys x1) h i) k := by
  rw [val_main_v19_apply, expos_at, val_main_v18_apply, at3 (idx_main_v18 (ix3 h i k)) h i (0 : Fin 1) rfl rfl rfl, val_main_v17_apply,
    at2 (idx_main_v17 (ix3 h i (0 : Fin 1))) h i rfl rfl, val_main_v16_apply, val_main_cst_2_apply]
  have hs : ∀ x, val_main_v15 (F := Ideal) x0 x1 (idx_main_v16 (ix2 h i) x) = expo (hscore (rows x0) (keys x1) h i) x := fun x => by
    rw [at3 (idx_main_v16 (ix2 h i) x) h i x rfl rfl rfl, expos_at]
  refine congrArg (Ideal.div _) ((congrArg₂ (fun a b : EReal => a + b) (Ideal.ofBits_zero .f32) (Finset.sum_congr rfl fun x _ => hs x)).trans (zero_add _))

/-- The reference's result. -/
theorem ref_at (i : Fin 4096) (e : Fin 1024) : val_main_v23 (F := Ideal) x0 x1 (ix2 i e) = attend (rows x0) (keys x1) (vals x1) i e := by
  refine (val_main_v23_apply x0 x1 (ix2 i e)).trans ((val_main_v22_apply x0 x1 (ix2 i e)).trans ((val_main_v21_apply x0 x1 _).trans
    ((val_main_v20_apply x0 x1 _).trans ?_)))
  unfold attend
  refine Finset.sum_congr rfl fun k _ => ?_
  rw [mul_comm, val_main_v5_apply, val_main_v4_apply]
  refine congrArg₂ (fun a b : EReal => a * b) ((congrArg (val_main_v19 (F := Ideal) x0 x1) (at3 _ (head e) i k ?_ ?_ rfl)).trans (probs_at x0 x1 _ i k))
    (congrArg x1 (at2 _ _ _ ?_ ?_))
  · show (i.val * 1024 + e.val) / 256 % 4 = e.val / 256; omega
  · show (i.val * 1024 + e.val) / 1024 = i.val; omega
  · show ((k.val * 4 + (i.val * 1024 + e.val) / 256 % 4) * 256 + (i.val * 1024 + e.val) % 256) / 1024 = k.val; omega
  · show 1024 + ((k.val * 4 + (i.val * 1024 + e.val) / 256 % 4) * 256 + (i.val * 1024 + e.val) % 256) % 1024 = 1024 + e.val; omega

end

/-! ## The claims -/

/-- The reference leaves its arguments unchanged and every counter at zero. -/
theorem ref_frame : quiescent_Reference20Ideal (hReference20Ideal := Reference20Ideal.Gen.facts) := fun m ρ _ =>
  (θ_run Reference20Ideal.defs _ _).mono
    (fun r h => ⟨fun c => (h c).2, sem_eq_zero_of_no_sems (by decide) r.2⟩)
    (Reference20Ideal.Value.run m ρ)

/-- The kernel's result is the reference's. -/
theorem algebraic : algebraic_Kernel20Ideal_Reference20Ideal (hKernel20Ideal := Kernel20Ideal.Gen.facts)
    (hReference20Ideal := Reference20Ideal.Gen.facts) := by
  intro m g m' g' _ hargs
  refine ⟨fun c => G m c, ?_, ?_⟩
  · refine (θ_run Kernel20Ideal.defs _ _).mono (fun r h c => ?_) (Kernel20Ideal.Value.run_blocks m g)
    exact ⟨(h c).1.trans (array m c), (h c).2⟩
  · refine (θ_run Reference20Ideal.defs _ _).mono (fun r h c => ?_) (Reference20Ideal.Value.run m' g')
    obtain ⟨a0, a1⟩ := hargs c
    refine ⟨(h c).1.trans ((Reference20Ideal.Read.val_main_v23_eq _ _).trans ?_), (h c).2⟩
    rw [a0, a1]
    funext y
    exact (congrArg _ (at2 (a := 4096) (b := 1024) y (y 0) (y 1) rfl rfl)).trans (ref_at _ _ _ _)

end Cert.Proof.AttnFwd

end
-- ==== Proof.MergeFwd.lean ====
/- The gated merge of the mixer's two branches: the kernel's array, the reference's, and their equality. -/
module

public import proofs.«01_k».proof.Defs
public import proofs.«01_k».proof.Proof.Gen.Kernel21Ideal.Value
public import proofs.«01_k».proof.Proof.Gen.Reference21Ideal.Read
public import proofs.«01_k».proof.Proof.Index
public import proofs.«01_k».proof.Proof.Merge
public import proofs.«01_k».proof.Proof.SoftmaxGrad
public import Idealize.ShloMosaic.Lib.Pointwise
public import Idealize.ShloMosaic.Adequacy
public import Idealize.ShloMosaic.Init

@[expose] public section

set_option maxRecDepth 16384

noncomputable section

namespace Cert.Proof.MergeFwd

open Cert.Kernel21Ideal Cert.Kernel21Ideal.Gen Cert.Kernel21Ideal.Value Idealize.ShloMosaic Idealize.ShloMosaic.TcCoe Idealize.SL.Sem
open Cert.Proof.Index
open Cert.Proof.Merge (sg left right)

/-- The merge at one place: the convolution branch `y` under its gate `a`, and the two halves `z`, `w` of the state-space branch,
    the second being the gate of the first, under its gate `b`. -/
def merged (y a z w b : EReal) : EReal := sg a * y + sg b * (z * sg w)

variable (p : S4096x4608.Idx → EReal) (ya : S4096x1024.Idx → EReal) (z : S4096x2048.Idx → EReal)

/-- The merge of whole arrays. -/
def whole (y : S4096x1024.Idx) : EReal :=
  merged (ya (ix2 (y 0) (y 1))) (p (ix2 (y 0) (⟨2560 + (y 1).val, by have : (y 1).val < 1024 := (y 1).isLt; omega⟩ : Fin 4608)))
    (z (ix2 (y 0) (left (y 1)))) (z (ix2 (y 0) (right (y 1))))
    (p (ix2 (y 0) (⟨3584 + (y 1).val, by have : (y 1).val < 1024 := (y 1).isLt; omega⟩ : Fin 4608)))

/-! ## The kernel -/

/-- The logistic function as the kernel writes it, with its two literals. -/
def gate (x : EReal) : EReal :=
  Ideal.div (Ideal.ofBits .f32 0x3F800000#32) (Ideal.ofBits .f32 0x3F800000#32 + Ideal.exp (Ideal.ofBits .f32 0x00000000#32 - x))

theorem gate_eq (x : EReal) : gate x = sg x := by
  unfold gate sg
  rw [Ideal.ofBits_zero, Attn.one_lit]

/-- The kernel's array is the merge. -/
theorem array_eq : G5 (F := Ideal) z z p ya p = whole p ya z := by
  funext y
  show gate (p (inIdx5_2 y)) * ya y + gate (p (inIdx5_4 y)) * (z (inIdx5_0 y) * gate (z (inIdx5_1 y))) = _
  rw [gate_eq, gate_eq, gate_eq]
  unfold whole merged
  rw [at2 (inIdx5_2 y) (y 0) (⟨2560 + (y 1).val, by have : (y 1).val < 1024 := (y 1).isLt; omega⟩ : Fin 4608) rfl (Nat.add_comm _ _),
    at2 (inIdx5_4 y) (y 0) (⟨3584 + (y 1).val, by have : (y 1).val < 1024 := (y 1).isLt; omega⟩ : Fin 4608) rfl (Nat.add_comm _ _),
    at2 (inIdx5_1 y) (y 0) (right (y 1)) rfl (Nat.add_comm _ _), at2 (inIdx5_0 y) (y 0) (left (y 1)) rfl rfl]
  rw [← at2 (a := 4096) (b := 1024) y (y 0) (y 1) rfl rfl]

/-! ## The reference -/

section
open Cert.Reference21Ideal.Read

/-- The reference's array is the merge. -/
theorem ref_eq (x0 : (⟨S4096x4608, .bf16⟩ : BufTy).Contents (Elt Ideal)) (x1 : (⟨S4096x1024, .bf16⟩ : BufTy).Contents (Elt Ideal))
    (x2 : (⟨S4096x2048, .bf16⟩ : BufTy).Contents (Elt Ideal)) : val_main_v29 (F := Ideal) x0 x1 x2 = whole x0 x1 x2 := by
  funext y
  obtain ⟨i, d, rfl⟩ : ∃ (i : Fin 4096) (d : Fin 1024), y = ix2 i d := ⟨y 0, y 1, eq_ix2 y⟩
  show _ = merged (x1 (ix2 i d)) (x0 (ix2 i (⟨2560 + d.val, by omega⟩ : Fin 4608))) (x2 (ix2 i (left d))) (x2 (ix2 i (right d)))
    (x0 (ix2 i (⟨3584 + d.val, by omega⟩ : Fin 4608)))
  unfold merged sg left right
  rw [zero_sub, zero_sub, zero_sub]
  unfold val_main_v29 val_main_v28 val_main_v27 val_main_v26 val_main_v25 val_main_cst_4 val_main_v24 val_main_v23 val_main_cst_3
    val_main_v22 val_main_v21 val_main_v20 val_main_v19 val_main_v18 val_main_v17 val_main_cst_2 val_main_v16 val_main_v15 val_main_cst_1
    val_main_v14 val_main_v13 val_main_v12 val_main_v11 val_main_v10 val_main_v9 val_main_cst_0 val_main_v8 val_main_v7 val_main_cst
    val_main_v6 val_main_v5 val_main_v4 val_main_v3 val_main_v2 val_main_v1 val_main_v0
  pointwise

end

/-! ## The claims -/

/-- The reference leaves its arguments unchanged and every counter at zero. -/
theorem ref_frame : quiescent_Reference21Ideal (hReference21Ideal := Reference21Ideal.Gen.facts) := fun m ρ _ =>
  (θ_run Reference21Ideal.defs _ _).mono
    (fun r h => ⟨fun c => (h c).2, sem_eq_zero_of_no_sems (by decide) r.2⟩)
    (Reference21Ideal.Value.run m ρ)

/-- The kernel's result is the reference's. -/
theorem algebraic : algebraic_Kernel21Ideal_Reference21Ideal (hKernel21Ideal := Kernel21Ideal.Gen.facts)
    (hReference21Ideal := Reference21Ideal.Gen.facts) := by
  intro m g m' g' _ hargs
  refine ⟨fun c => whole (m ((c : Thread nD τ).loc main_arg0)) (m ((c : Thread nD τ).loc main_arg1)) (m ((c : Thread nD τ).loc main_arg2)), ?_, ?_⟩
  · refine (θ_run Kernel21Ideal.defs _ _).mono (fun r h c => ?_) (Kernel21Ideal.Value.run m g)
    exact ⟨(h c).1.trans (array_eq _ _ _), (h c).2⟩
  · refine (θ_run Reference21Ideal.defs _ _).mono (fun r h c => ?_) (Reference21Ideal.Value.run m' g')
    obtain ⟨a0, a1, a2⟩ := hargs c
    refine ⟨(h c).1.trans ((Reference21Ideal.Read.val_main_v29_eq _ _ _).trans ?_), (h c).2⟩
    rw [a0, a1, a2]
    exact ref_eq _ _ _

end Cert.Proof.MergeFwd

end
-- ==== Proof.Queries.lean ====
/- The projection of the queries: the kernel's array, the reference's, and their equality. -/
module

public import proofs.«01_k».proof.Defs
public import proofs.«01_k».proof.Proof.Gen.Kernel22Ideal.Value
public import proofs.«01_k».proof.Proof.Gen.Reference22Ideal.Read
public import proofs.«01_k».proof.Proof.Index
public import proofs.«01_k».proof.Proof.ConvOut
public import Idealize.ShloMosaic.Lib.Pointwise
public import Idealize.ShloMosaic.Adequacy
public import Idealize.ShloMosaic.Init

@[expose] public section

set_option maxRecDepth 16384

noncomputable section

namespace Cert.Proof.Queries

open Cert.Kernel22Ideal Cert.Kernel22Ideal.Gen Cert.Kernel22Ideal.Value Idealize.ShloMosaic Idealize.ShloMosaic.TcCoe Idealize.SL.Sem
open Cert.Proof.Index
open Cert.Proof.ConvOut (prod)
open Idealize.ShloMosaic.Pipeline (Dat)

/-! ## The kernel -/

/-- What a point stores: the product of its blocks. -/
theorem pay_at (x0 : Vec Ideal S1024x1024 .bf16) (x1 : Vec Ideal S4x256x1024 .bf16) (i : Fin 1024) (d : Fin 1024) :
    k0_pay1 x1 x0 (ix2 i d) = ∑ k : Fin 1024, x0 (ix2 i k) * x1 (ix3 (chip 256 rfl k) (place 256 (by omega) k) d) := by
  unfold k0_pay1
  pointwise [dot_S1024x1024_S1024x1024_S1024x1024_1_0_0_1_n_n]
  rfl

/-- A point's block is the product of its input blocks. -/
theorem out_eq (x0 : Vec Ideal S1024x1024 .bf16) (x1 : Vec Ideal S4x256x1024 .bf16) : out0_2 x0 x1 = k0_pay1 x1 x0 := by
  unfold out0_2
  rw [View.canon_unit_zero zero2, View.ld_unit_zero zero3, View.ld_unit_zero zero2]

variable (m : (ℓ : Loc nD τ sig) → Buf (Elt Ideal) ℓ) (c : Dev nD)

/-- The rows of the activations. -/
def Z : Fin 4096 → Fin 1024 → EReal := fun i a => (m ((c : Thread nD τ).loc main_arg0) : S4096x1024.Idx → EReal) (ix2 i a)
/-- The weights, by chip: its rows from the 512th of what it holds. -/
def W : Fin 4 → Fin 256 → Fin 1024 → EReal := fun j a d =>
  (m ((c : Thread nD τ).loc main_arg1) : S4x3072x1024.Idx → EReal) (ix3 j (⟨512 + a.val, by omega⟩ : Fin 3072) d)

/-- The result. -/
def G (y : S4096x1024.Idx) : EReal := prod (Z m c) (W m c) (y 0) (y 1)

/-- Where the blocks of a point lie. -/
theorem places (t : Fin cfg0.N) : (win0_0.index t 0 = t.val ∧ win0_0.index t 1 = 0)
    ∧ (win0_1.index t 0 = 0 ∧ win0_1.index t 1 = 2 ∧ win0_1.index t 2 = 0)
    ∧ win0_2.index t 0 = t.val ∧ win0_2.index t 1 = 0 := by
  revert t
  decide +kernel

/-- The block of the activations at a point. -/
theorem block_z (t : Fin cfg0.N) (r : Fin 4) (hr : t.val = r.val) (i : Fin 1024) (a : Fin 1024) :
    (iblk m c 0 t : S1024x1024.Idx → EReal) (ix2 i a) = Z m c (part 1024 rfl r i) a := by
  obtain ⟨⟨h0, h1⟩, -, -⟩ := places t
  unfold iblk Z
  rw [View.read_apply]
  refine congrArg (m ((c : Thread nD τ).loc main_arg0) : S4096x1024.Idx → EReal) (at2 _ _ _ ?_ ?_)
  · show win0_0.index t 0 * 1024 + 1 * i.val = r.val * 1024 + i.val; rw [h0]; omega
  · show win0_0.index t 1 * 1024 + 1 * a.val = a.val; rw [h1]; omega

/-- The block of the weights at a point: all of them. -/
theorem block_w (t : Fin cfg0.N) (j : Fin 4) (a : Fin 256) (d : Fin 1024) :
    (iblk m c 1 t : S4x256x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 256 + 1 * a.val = 512 + a.val; rw [h1]; omega
  · show win0_1.index t 2 * 1024 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 4 := t.isLt
  rw [flushed2 m c t, out_eq]
  funext x
  have hx : x = ix2 (x 0) (x 1) := at2 (a := 1024) (b := 1024) x (x 0) (x 1) rfl rfl
  have hy : ((cfg0.win 2).blk t).view.emb x = ix2 (part (n := 4096) (k := 4) 1024 rfl ⟨t.val, ht⟩ (x 0)) (x 1) := by
    refine at2 (a := 4096) (b := 1024) _ _ _ ?_ ?_
    · show win0_2.index t 0 * 1024 + 1 * (x 0).val = t.val * 1024 + (x 0).val; rw [h0]; omega
    · show win0_2.index t 1 * 1024 + 1 * (x 1).val = (x 1).val; rw [h1]; omega
  refine Eq.trans ?_ (congrArg (G m c) hy).symm
  refine (congrArg (k0_pay1 _ _) hx).trans ((pay_at _ _ (x 0) (x 1)).trans ?_)
  exact Finset.sum_congr rfl fun k _ => congrArg₂ (fun x y : EReal => x * y) (block_z m c t _ rfl _ k) (block_w m c t _ _ _)

/-! ## The reference -/

section
open Cert.Reference22Ideal.Read

/-- The reference's result. -/
theorem ref_at (x0 : (⟨S4096x1024, .bf16⟩ : BufTy).Contents (Elt Ideal)) (x1 : (⟨S4x3072x1024, .bf16⟩ : BufTy).Contents (Elt Ideal))
    (i : Fin 4096) (d : Fin 1024) :
    val_main_v5 (F := Ideal) x0 x1 (ix2 i d)
      = ∑ k : Fin 1024, (x0 (ix2 i k) : EReal)
          * x1 (ix3 (chip 256 rfl k) (⟨512 + (place 256 (by omega) k).val, by omega⟩ : Fin 3072) d) := by
  refine (val_main_v5_apply x0 x1 (ix2 i d)).trans ((val_main_v4_apply x0 x1 (ix2 i d)).trans ?_)
  refine Finset.sum_congr rfl fun k _ => ?_
  rw [val_main_v3_apply, val_main_v2_apply, val_main_v1_apply, val_main_v0_apply]
  refine congrArg₂ (fun x y : EReal => x * y) (congrArg x0 (at2 _ _ _ rfl rfl)) (congrArg x1 (at3 _ _ _ _ ?_ ?_ ?_))
  · show (k.val * 1024 + d.val) / 262144 = k.val / 256; omega
  · show 512 + (k.val * 1024 + d.val) / 1024 % 256 = 512 + k.val % 256; omega
  · show (k.val * 1024 + d.val) % 1024 = d.val; omega

end

/-! ## The claims -/

/-- The reference leaves its arguments unchanged and every counter at zero. -/
theorem ref_frame : quiescent_Reference22Ideal (hReference22Ideal := Reference22Ideal.Gen.facts) := fun m ρ _ =>
  (θ_run Reference22Ideal.defs _ _).mono
    (fun r h => ⟨fun c => (h c).2, sem_eq_zero_of_no_sems (by decide) r.2⟩)
    (Reference22Ideal.Value.run m ρ)

/-- The kernel's result is the reference's. -/
theorem algebraic : algebraic_Kernel22Ideal_Reference22Ideal (hKernel22Ideal := Kernel22Ideal.Gen.facts)
    (hReference22Ideal := Reference22Ideal.Gen.facts) := by
  intro m g m' g' _ hargs
  refine ⟨fun c => G m c, ?_, ?_⟩
  · refine (θ_run Kernel22Ideal.defs _ _).mono (fun r h c => ?_) (Kernel22Ideal.Value.run_blocks m g)
    exact ⟨(h c).1.trans (array m c), (h c).2⟩
  · refine (θ_run Reference22Ideal.defs _ _).mono (fun r h c => ?_) (Reference22Ideal.Value.run m' g')
    obtain ⟨a0, a1⟩ := hargs c
    refine ⟨(h c).1.trans ((Reference22Ideal.Read.val_main_v5_eq _ _).trans ?_), (h c).2⟩
    rw [a0, a1]
    funext y
    exact (congrArg _ (at2 (a := 4096) (b := 1024) y (y 0) (y 1) rfl rfl)).trans (ref_at _ _ _ _)

end Cert.Proof.Queries

end
-- ==== Proof.QueryBack.lean ====
/- The gradients through the queries' projection and the residual norm before it: the kernel's arrays, the
   reference's, and their equality. -/
module

public import proofs.«01_k».proof.Defs
public import proofs.«01_k».proof.Proof.Gen.Kernel23Ideal.Value
public import proofs.«01_k».proof.Proof.Gen.Reference23Ideal.Read
public import proofs.«01_k».proof.Proof.MixBack
public import proofs.«01_k».proof.Proof.NormBack
public import Idealize.ShloMosaic.Lib.Pointwise
public import Idealize.ShloMosaic.Lib.ReduceAll
public import Idealize.ShloMosaic.Lib.WholeRead
public import Idealize.ShloMosaic.Lib.VecWindow
public import Idealize.ShloMosaic.Lib.Pipeline.ValueKit.Geometry
public import Idealize.ShloMosaic.Adequacy
public import Idealize.ShloMosaic.Init

@[expose] public section

set_option maxRecDepth 16384

noncomputable section

namespace Cert.Proof.QueryBack

open Cert.Kernel23Ideal Cert.Kernel23Ideal.Gen Cert.Kernel23Ideal.Value Idealize.ShloMosaic Idealize.ShloMosaic.TcCoe Idealize.SL.Sem
open Cert.Proof.Index Cert.Proof.Norm
open Cert.Proof.MixBack (back grad)
open Cert.Proof.NormBack (row rowOf pass)
open Idealize.ShloMosaic.Pipeline (Dat)

/-- The factor of the residual stream. -/
abbrev alpha : EReal := Ideal.ofBits .f32 0x3F9837F0#32

/-! ## The kernel -/

/-- The gradient of the norm's output that a point computes. -/
theorem pay4_at (x0 : Vec Ideal S1024x1024 .bf16) (x2 : Vec Ideal S4x256x1024 .bf16) (x3 : Vec Ideal S1024x1024 .bf16) (i d : Fin 1024) :
    k0_pay4 x0 x2 x3 (ix2 i d)
      = (∑ k : Fin 1024, x0 (ix2 i k) * x2 (ix3 (chip 256 rfl d) (place 256 (by omega) d) k)) + alpha * x3 (ix2 i d) := by
  unfold k0_pay4
  pointwise [dot_S1024x1024_S1024x1024_S1024x1024_1_1_0_0_n_n]
  rfl

/-- The product of a point's rows for the weights. -/
theorem pay16_at (x0 x1 : Vec Ideal S1024x1024 .bf16) (a d : Fin 1024) :
    k0_pay16 x0 x1 (ix2 a d) = ∑ i : Fin 1024, x1 (ix2 i a) * x0 (ix2 i d) := by
  unfold k0_pay16
  pointwise [dot_S1024x1024_S1024x1024_S1024x1024_0_0_1_1_n_n]

/-- The first point leaves its product, -/
theorem pay1_at (x : Vec Ideal S1024x1024 .f32) (a d : Fin 1024) : k0_pay1 (F := Ideal) x (ix2 a d) = x (ix2 a d) := by
  unfold k0_pay1
  pointwise

/-- a later one adds it, -/
theorem pay2_at (x s : Vec Ideal S1024x1024 .f32) (a d : Fin 1024) : k0_pay2 x s (ix2 a d) = s (ix2 a d) + x (ix2 a d) := by
  unfold k0_pay2
  pointwise

/-- and the last stores the sum, chip by chip. -/
theorem pay3_at (s : Vec Ideal S1024x1024 .f32) (j : Fin 4) (a : Fin 256) (d : Fin 1024) :
    k0_pay3 s (ix3 j a d) = s (ix2 (part 256 rfl j a) d) := by
  unfold k0_pay3
  pointwise
  rfl

/-- What a point stores of the gradient of the rows. -/
theorem pay15_at (y x : Vec Ideal S1024x1024 .f32) (g : Vec Ideal S1x1024 .f32) (i d : Fin 1024) :
    k0_pay15 y (k0_pay8 x) (k0_pay9 x) g (ix2 i d) = Norm.grad (row x i) (fun k => y (ix2 i k) * g (ix2 0 k)) d :=
  NormBack.pay10_at x y g i d

/-- What a point adds to a part of the gain's gradient, -/
theorem pay10_at (x0 : Vec Ideal S1024x1024 .bf16) (x2 : Vec Ideal S4x256x1024 .bf16) (x3 : Vec Ideal S1024x1024 .bf16) (x : Vec Ideal S1024x1024 .f32)
    (s : Vec Ideal S8x1024 .f32) (a : Fin 8) (d : Fin 1024) : k0_pay11 (k0_pay10 x0 x2 x3 x s) (ix2 a d)
      = s (ix2 a d) + ∑ b : Fin 128, k0_pay4 x0 x2 x3 (ix2 (part (n := 1024) 8 rfl b a) d) * unit (row x (part (n := 1024) 8 rfl b a)) d :=
  NormBack.pay1_at x (k0_pay4 x0 x2 x3) s a d

/-- and of the offset's. -/
theorem pay12_at (y : Vec Ideal S1024x1024 .f32) (s : Vec Ideal S8x1024 .f32) (a : Fin 8) (d : Fin 1024) :
    k0_pay12 y s (ix2 a d) = s (ix2 a d) + ∑ b : Fin 128, y (ix2 (part (n := 1024) 8 rfl b a) d) :=
  NormBack.pay2_at y s a d

/-- The last point adds the eight parts up. -/
theorem pay13_at (s : Vec Ideal S8x1024 .f32) (z : Fin 1) (d : Fin 1024) : k0_pay13 s (ix2 z d) = ∑ a : Fin 8, s (ix2 a d) :=
  NormBack.pay3_at s z d

theorem pay14_at (s : Vec Ideal S8x1024 .f32) (z : Fin 1) (d : Fin 1024) : k0_pay14 s (ix2 z d) = ∑ a : Fin 8, s (ix2 a d) :=
  NormBack.pay4_at s z d

/-- The parts start at zero. -/
theorem pay5_at (a : Fin 8) (d : Fin 1024) : k0_pay5 (F := Ideal) (ix2 a d) = (0 : EReal) := NormBack.pay5_at a d

theorem pay6_at (a : Fin 8) (d : Fin 1024) : k0_pay6 (F := Ideal) (ix2 a d) = (0 : EReal) := NormBack.pay6_at a d

section
variable (c : Dev nD) (i : grid0.Coords) (b1 : Memref sig .tc .vmem S1024x1024 .bf16) (k1 : b1.IsWhole)
  (b2 : Memref sig .tc .vmem S1024x1024 .bf16) (k2 : b2.IsWhole) (b3 : Memref sig .tc .vmem S4x256x1024 .bf16) (k3 : b3.IsWhole)
  (b4 : Memref sig .tc .vmem S1024x1024 .bf16) (k4 : b4.IsWhole) (b5 : Memref sig .tc .vmem S1024x1024 .f32) (k5 : b5.IsWhole)
  (b6 : Memref sig .tc .vmem S1x1024 .f32) (k6 : b6.IsWhole) (b8 : Memref sig .tc .vmem S1024x1024 .bf16) (k8 : b8.IsWhole)
  (b9 : Memref sig .tc .vmem S4x256x1024 .bf16) (k9 : b9.IsWhole) (b10 : Memref sig .tc .vmem S1x1024 .f32) (k10 : b10.IsWhole)
  (b11 : Memref sig .tc .vmem S1x1024 .f32) (k11 : b11.IsWhole) (b12 : Memref sig .tc .vmem S1024x1024 .f32) (k12 : b12.IsWhole)
  (b13 : Memref sig .tc .vmem S8x1024 .f32) (k13 : b13.IsWhole) (b14 : Memref sig .tc .vmem S8x1024 .f32) (k14 : b14.IsWhole)
  (x0 x1 : Vec Ideal S1024x1024 .bf16) (x2 : Vec Ideal S4x256x1024 .bf16) (x3 : Vec Ideal S1024x1024 .bf16) (x4 : Vec Ideal S1024x1024 .f32)
  (x5 : Vec Ideal S1x1024 .f32) (s0 : Vec Ideal S1024x1024 .f32) (s1 s2 : Vec Ideal S8x1024 .f32)

/-- What the first point leaves of the product for the weights, -/
theorem soutA0 (h0 h1 h2 h3 h4) : sout0_A_0 c i b1 k1 b2 k2 b3 k3 b4 k4 b5 k5 b6 k6 b8 k8 b9 k9 b10 k10 b11 k11 b12 k12 b13 k13 b14 k14 h0 h1 h2 h3 h4 x0 x1 x2 x3 x4 x5
    = k0_pay1 (F := Ideal) (k0_pay16 x0 x1) := by
  unfold sout0_A_0 kernelRun0_A
  dsimp only
  refine (View.read_writes_full VS0_0 VS0_0.junk _ _ _).trans ?_
  simp only [kernelRun0_A.sl.r_5, kernelRun0_A.sl.r]
  rw [View.readAt_full, View.readAt_full, k1.read_unread, k2.read_unread]

/-- of the parts of the gain's gradient, -/
theorem soutA1 (h0 h1 h2 h3 h4) : sout0_A_1 c i b1 k1 b2 k2 b3 k3 b4 k4 b5 k5 b6 k6 b8 k8 b9 k9 b10 k10 b11 k11 b12 k12 b13 k13 b14 k14 h0 h1 h2 h3 h4 x0 x1 x2 x3 x4 x5
    = k0_pay11 (k0_pay10 x0 x2 x3 x4 (k0_pay5 (F := Ideal))) := by
  unfold sout0_A_1 kernelRun0_A
  dsimp only
  refine (View.read_writes_full VS0_1 VS0_1.junk _ _ _).trans ?_
  simp only [kernelRun0_A.sl.r_4, kernelRun0_A.sl.r, kernelRun0_A.sl.v29, kernelRun0_A.sl.HS1_1]
  rw [View.readCov_full, View.readAt_full, View.readAt_full, View.readAt_full, View.readAt_full, k1.read_unread, k3.read_unread, k4.read_unread, k5.read_unread]

/-- and of the offset's; -/
theorem soutA2 (h0 h1 h2 h3 h4) : sout0_A_2 c i b1 k1 b2 k2 b3 k3 b4 k4 b5 k5 b6 k6 b8 k8 b9 k9 b10 k10 b11 k11 b12 k12 b13 k13 b14 k14 h0 h1 h2 h3 h4 x0 x1 x2 x3 x4 x5
    = k0_pay12 (k0_pay4 x0 x2 x3) (k0_pay6 (F := Ideal)) := by
  unfold sout0_A_2 kernelRun0_A
  dsimp only
  refine (View.read_writes_full VS0_2 VS0_2.junk _ _ _).trans ?_
  simp only [kernelRun0_A.sl.r_1, kernelRun0_A.sl.r, kernelRun0_A.sl.v37, kernelRun0_A.sl.HS2_1]
  rw [View.readCov_full, View.readAt_full, View.readAt_full, View.readAt_full, k1.read_unread, k3.read_unread, k4.read_unread]

/-- and what it stores of the gradient of the rows. -/
theorem outA6 (h0 h1 h2 h3 h4) : out0_A_6 c i b1 k1 b2 k2 b3 k3 b4 k4 b5 k5 b6 k6 b8 k8 b9 k9 b10 k10 b11 k11 b12 k12 b13 k13 b14 k14 h0 h1 h2 h3 h4 x0 x1 x2 x3 x4 x5
    = k0_pay15 (k0_pay4 x0 x2 x3) (k0_pay8 x4) (k0_pay9 x4) x5 := by
  unfold out0_A_6 kernelRun0_A
  dsimp only
  refine (View.read_writes_full VO0_6 VO0_6.junk _ _ _).trans ?_
  simp only [kernelRun0_A.sl.r_1, kernelRun0_A.sl.r_2, kernelRun0_A.sl.r_3, kernelRun0_A.sl.r]
  iterate 5 rw [View.readAt_full]
  rw [k1.read_unread, k3.read_unread, k4.read_unread, k5.read_unread, k6.read_unread]

/-- What a point between leaves of the product for the weights, -/
theorem soutB0 (h0 h1 h2 h3 h4) : sout0_B_0 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay2 (k0_pay16 x0 x1) s0 := by
  unfold sout0_B_0 kernelRun0_B
  dsimp only
  refine (View.read_writes_full VS0_0 VS0_0.junk _ _ _).trans ?_
  simp only [kernelRun0_B.sl.r_6, kernelRun0_B.sl.r]
  iterate 3 rw [View.readAt_full]
  rw [k1.read_unread, k2.read_unread, k12.read_unread]

/-- of the parts of the gain's gradient, -/
theorem soutB1 (h0 h1 h2 h3 h4) : sout0_B_1 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay11 (k0_pay10 x0 x2 x3 x4 s1) := by
  unfold sout0_B_1 kernelRun0_B
  dsimp only
  refine (View.read_writes_full VS0_1 VS0_1.junk _ _ _).trans ?_
  simp only [kernelRun0_B.sl.r_4, kernelRun0_B.sl.r]
  iterate 5 rw [View.readAt_full]
  rw [k1.read_unread, k3.read_unread, k4.read_unread, k5.read_unread, k13.read_unread]

/-- and of the offset's; -/
theorem soutB2 (h0 h1 h2 h3 h4) : sout0_B_2 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay12 (k0_pay4 x0 x2 x3) s2 := by
  unfold sout0_B_2 kernelRun0_B
  dsimp only
  refine (View.read_writes_full VS0_2 VS0_2.junk _ _ _).trans ?_
  simp only [kernelRun0_B.sl.r_1, kernelRun0_B.sl.r]
  iterate 4 rw [View.readAt_full]
  rw [k1.read_unread, k3.read_unread, k4.read_unread, k14.read_unread]

/-- and what it stores of the gradient of the rows. -/
theorem outB6 (h0 h1 h2 h3 h4) : out0_B_6 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay15 (k0_pay4 x0 x2 x3) (k0_pay8 x4) (k0_pay9 x4) x5 := by
  unfold out0_B_6 kernelRun0_B
  dsimp only
  refine (View.read_writes_full VO0_6 VO0_6.junk _ _ _).trans ?_
  simp only [kernelRun0_B.sl.r_1, kernelRun0_B.sl.r_2, kernelRun0_B.sl.r_3, kernelRun0_B.sl.r]
  iterate 5 rw [View.readAt_full]
  rw [k1.read_unread, k3.read_unread, k4.read_unread, k5.read_unread, k6.read_unread]

/-- What the last point leaves of the product for the weights, -/
theorem soutC0 (h0 h1 h2 h3 h4) : sout0_C_0 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay2 (k0_pay16 x0 x1) s0 := by
  unfold sout0_C_0 kernelRun0_C
  dsimp only
  refine (View.read_writes_full VS0_0 VS0_0.junk _ _ _).trans ?_
  simp only [kernelRun0_C.sl.r_6, kernelRun0_C.sl.r]
  iterate 3 rw [View.readAt_full]
  rw [k1.read_unread, k2.read_unread, k12.read_unread]

/-- of the parts of the gain's gradient, -/
theorem soutC1 (h0 h1 h2 h3 h4) : sout0_C_1 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay11 (k0_pay10 x0 x2 x3 x4 s1) := by
  unfold sout0_C_1 kernelRun0_C
  dsimp only
  refine (View.read_writes_full VS0_1 VS0_1.junk _ _ _).trans ?_
  simp only [kernelRun0_C.sl.r_4, kernelRun0_C.sl.r]
  iterate 5 rw [View.readAt_full]
  rw [k1.read_unread, k3.read_unread, k4.read_unread, k5.read_unread, k13.read_unread]

/-- and of the offset's; -/
theorem soutC2 (h0 h1 h2 h3 h4) : sout0_C_2 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay12 (k0_pay4 x0 x2 x3) s2 := by
  unfold sout0_C_2 kernelRun0_C
  dsimp only
  refine (View.read_writes_full VS0_2 VS0_2.junk _ _ _).trans ?_
  simp only [kernelRun0_C.sl.r_1, kernelRun0_C.sl.r]
  iterate 4 rw [View.readAt_full]
  rw [k1.read_unread, k3.read_unread, k4.read_unread, k14.read_unread]

/-- and what it stores of the gradient of the rows. -/
theorem outC6 (h0 h1 h2 h3 h4) : out0_C_6 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay15 (k0_pay4 x0 x2 x3) (k0_pay8 x4) (k0_pay9 x4) x5 := by
  unfold out0_C_6 kernelRun0_C
  dsimp only
  refine (View.read_writes_full VO0_6 VO0_6.junk _ _ _).trans ?_
  simp only [kernelRun0_C.sl.r_1, kernelRun0_C.sl.r_2, kernelRun0_C.sl.r_3, kernelRun0_C.sl.r]
  iterate 5 rw [View.readAt_full]
  rw [k1.read_unread, k3.read_unread, k4.read_unread, k5.read_unread, k6.read_unread]

/-- What the last point stores of the gradient of the weights, -/
theorem outC7 (h0 h1 h2 h3 h4) : out0_C_7 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay3 (k0_pay2 (k0_pay16 x0 x1) s0) := by
  unfold out0_C_7 kernelRun0_C
  dsimp only
  refine (View.read_writes_full VO0_7 VO0_7.junk _ _ _).trans ?_
  simp only [kernelRun0_C.sl.v79_1, kernelRun0_C.sl.HS0_1]
  refine congrArg k0_pay3 ((View.readCov_full b12.view _ _ _ _).trans ?_)
  simp only [kernelRun0_C.sl.r_6, kernelRun0_C.sl.r]
  iterate 3 rw [View.readAt_full]
  rw [k1.read_unread, k2.read_unread, k12.read_unread]

/-- of the gain's, -/
theorem outC8 (h0 h1 h2 h3 h4) : out0_C_8 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay13 (k0_pay11 (k0_pay10 x0 x2 x3 x4 s1)) := by
  unfold out0_C_8 kernelRun0_C
  dsimp only
  refine (View.read_writes_full VO0_8 VO0_8.junk _ _ _).trans ?_
  simp only [kernelRun0_C.sl.v79, kernelRun0_C.sl.HS1_1]
  refine congrArg k0_pay13 ((View.readCov_full b13.view _ _ _ _).trans ?_)
  simp only [kernelRun0_C.sl.r_4, kernelRun0_C.sl.r]
  iterate 5 rw [View.readAt_full]
  rw [k1.read_unread, k3.read_unread, k4.read_unread, k5.read_unread, k13.read_unread]

/-- and of the offset's. -/
theorem outC9 (h0 h1 h2 h3 h4) : out0_C_9 c i b1 k1 b2 k2 b3 k3 b4 k4 b5 k5 b6 k6 b8 k8 b9 k9 b10 k10 b11 k11 b12 k12 b13 k13 b14 k14 h0 h1 h2 h3 h4 x0 x1 x2 x3 x4 x5 s0 s1 s2
    = k0_pay14 (k0_pay12 (k0_pay4 x0 x2 x3) s2) := by
  unfold out0_C_9 kernelRun0_C
  dsimp only
  refine (View.read_writes_full VO0_9 VO0_9.junk _ _ _).trans ?_
  simp only [kernelRun0_C.sl.v83, kernelRun0_C.sl.HS2_1]
  refine congrArg k0_pay14 ((View.readCov_full b14.view _ _ _ _).trans ?_)
  simp only [kernelRun0_C.sl.r_1, kernelRun0_C.sl.r]
  iterate 4 rw [View.readAt_full]
  rw [k1.read_unread, k3.read_unread, k4.read_unread, k14.read_unread]

end

variable (m : (ℓ : Loc nD τ sig) → Buf (Elt Ideal) ℓ) (c : Dev nD)

/-- The rows of the queries' gradient. -/
def Q : Fin 4096 → Fin 1024 → EReal := fun i d => (m ((c : Thread nD τ).loc main_arg0) : S4096x1024.Idx → EReal) (ix2 i d)
/-- The rows of the projection's input. -/
def X : Fin 4096 → Fin 1024 → EReal := fun i d => (m ((c : Thread nD τ).loc main_arg1) : S4096x1024.Idx → EReal) (ix2 i d)
/-- The weights: in the array of every chip, its rows from the 512th. -/
def W : Fin 4 → Fin 256 → Fin 1024 → EReal := fun j a k =>
  (m ((c : Thread nD τ).loc main_arg2) : S4x3072x1024.Idx → EReal) (ix3 j (⟨512 + a.val, by omega⟩ : Fin 3072) k)
/-- The rows of the residual stream's gradient. -/
def E : Fin 4096 → Fin 1024 → EReal := fun i d => (m ((c : Thread nD τ).loc main_arg3) : S4096x1024.Idx → EReal) (ix2 i d)
/-- The rows of the norm's input. -/
def R : Fin 4096 → Fin 1024 → EReal := fun i d => (m ((c : Thread nD τ).loc main_arg4) : S4096x1024.Idx → EReal) (ix2 i d)
/-- The gain. -/
def gain : Fin 1024 → EReal := fun d => (m ((c : Thread nD τ).loc main_arg5) : S1x1024.Idx → EReal) (ix2 0 d)
/-- What each chip held before. -/
def B : S4x1024x1024.Idx → EReal := m ((c : Thread nD τ).loc main_arg6)

/-- The gradient of the norm's output. -/
def dh (i : Fin 4096) (d : Fin 1024) : EReal := back (Q m c) (W m c) i d + alpha * E m c i d
/-- The gradient of the rows. -/
def dr (y : S4096x1024.Idx) : EReal := Norm.grad (R m c (y 0)) (fun k => dh m c (y 0) k * gain m c k) (y 1)
/-- The gradient of the weights in its rows of each chip, the other rows as before. -/
def dw (y : S4x1024x1024.Idx) : EReal :=
  if (y 1).val < 512 then B m c y else
    if h : (y 1).val - 512 < 256 then MixBack.grad (X m c) (Q m c) (y 0) ⟨(y 1).val - 512, h⟩ (y 2) else B m c y
/-- The gradient of the gain. -/
def dg (y : S1x1024.Idx) : EReal := ∑ i, dh m c i (y 1) * unit (R m c i) (y 1)
/-- The gradient of the offset. -/
def db (y : S1x1024.Idx) : EReal := ∑ i, dh m c i (y 1)

/-- What the line before the call leaves for it: what each chip held. -/
theorem before : (V m c main_v0_1 : S4x1024x1024.Idx → EReal) = B m c := by
  show StableHlo.after hostOps0 _ (Proc.devRef .tc main_v0_1) = _
  simp only [hostOps0]
  after_results
  rfl

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 2 ∧ win0_2.index t 2 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 2 ∧ win0_7.index t 2 = 0)
    ∧ (win0_8.index t 0 = 0 ∧ win0_8.index t 1 = 0) ∧ win0_9.index t 0 = 0 ∧ win0_9.index t 1 = 0 := by
  revert t
  decide +kernel

/-- The block of the queries' gradient at a point, -/
theorem block_q (t : Fin cfg0.N) (i d : Fin 1024) : (iblk m c 0 t : S1024x1024.Idx → EReal) (ix2 i d) = Q m c (part 1024 rfl (t : Fin 4) i) d := by
  obtain ⟨⟨h0, h1⟩, -⟩ := places t
  unfold iblk Q
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- of the projection's input, -/
theorem block_x (t : Fin cfg0.N) (i d : Fin 1024) : (iblk m c 1 t : S1024x1024.Idx → EReal) (ix2 i d) = X m c (part 1024 rfl (t : Fin 4) i) d := by
  obtain ⟨-, ⟨h0, h1⟩, -⟩ := places t
  unfold iblk X
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- of the weights: all of them, -/
theorem block_w (t : Fin cfg0.N) (j : Fin 4) (a : Fin 256) (k : Fin 1024) : (iblk m c 2 t : S4x256x1024.Idx → EReal) (ix3 j a k) = W m c j a k := by
  obtain ⟨-, -, ⟨h0, h1, h2⟩, -⟩ := places t
  unfold iblk W
  rw [View.read_apply]
  refine (congrFun (V_main_arg2 m c) _).trans (congrArg (m ((c : Thread nD τ).loc main_arg2) : S4x3072x1024.Idx → EReal) (at3 _ _ _ _ ?_ ?_ ?_))
  · show win0_2.index t 0 * 4 + 1 * j.val = j.val; rw [h0]; omega
  · show win0_2.index t 1 * 256 + 1 * a.val = 512 + a.val; rw [h1]; omega
  · show win0_2.index t 2 * 1024 + 1 * k.val = k.val; rw [h2]; omega

/-- of the residual stream's gradient, -/
theorem block_e (t : Fin cfg0.N) (i d : Fin 1024) : (iblk m c 3 t : S1024x1024.Idx → EReal) (ix2 i d) = E m c (part 1024 rfl (t : Fin 4) i) d := by
  obtain ⟨-, -, -, ⟨h0, h1⟩, -⟩ := places t
  unfold iblk E
  rw [View.read_apply]
  refine (congrFun (V_main_arg3 m c) _).trans (congrArg (m ((c : Thread nD τ).loc main_arg3) : S4096x1024.Idx → EReal) (at2 _ _ _ ?_ ?_))
  · show win0_3.index t 0 * 1024 + 1 * i.val = t.val * 1024 + i.val; rw [h0]; omega
  · show win0_3.index t 1 * 1024 + 1 * d.val = d.val; rw [h1]; omega

/-- of the norm's input: a row of it, -/
theorem row_r (t : Fin cfg0.N) (x : Vec Ideal S1024x1024 .f32) (e : x = iblk m c 4 t) (i : Fin 1024) : row x i = R m c (part 1024 rfl (t : Fin 4) i) := by
  obtain ⟨-, -, -, -, ⟨h0, h1⟩, -⟩ := places t
  subst e
  funext d
  show (iblk m c 4 t : S1024x1024.Idx → EReal) (ix2 i d) = _
  unfold iblk R
  rw [View.read_apply]
  refine (congrFun (V_main_arg4 m c) _).trans (congrArg (m ((c : Thread nD τ).loc main_arg4) : S4096x1024.Idx → EReal) (at2 _ _ _ ?_ ?_))
  · show win0_4.index t 0 * 1024 + 1 * i.val = t.val * 1024 + i.val; rw [h0]; omega
  · show win0_4.index t 1 * 1024 + 1 * d.val = d.val; rw [h1]; omega

/-- and of the gain: all of it. -/
theorem block_g (t : Fin cfg0.N) (d : Fin 1024) : (iblk m c 5 t : S1x1024.Idx → EReal) (ix2 0 d) = gain m c d := by
  obtain ⟨-, -, -, -, -, ⟨h0, h1⟩, -⟩ := places t
  unfold iblk gain
  rw [View.read_apply]
  refine (congrFun (V_main_arg5 m c) _).trans (congrArg (m ((c : Thread nD τ).loc main_arg5) : S1x1024.Idx → EReal) (at2 _ _ _ ?_ ?_))
  · show win0_5.index t 0 * 1 + 1 * 0 = 0; rw [h0]
  · show win0_5.index t 1 * 1024 + 1 * d.val = d.val; rw [h1]; omega

/-- The gradient of the norm's output that a point computes is that of its rows. -/
theorem entry (t : Fin cfg0.N) (x0 : Vec Ideal S1024x1024 .bf16) (x2 : Vec Ideal S4x256x1024 .bf16) (x3 : Vec Ideal S1024x1024 .bf16)
    (e0 : x0 = iblk m c 0 t) (e2 : x2 = iblk m c 2 t) (e3 : x3 = iblk m c 3 t) (i d : Fin 1024) :
    k0_pay4 x0 x2 x3 (ix2 i d) = dh m c (part 1024 rfl (t : Fin 4) i) d := by
  subst e0 e2 e3
  exact (pay4_at _ _ _ i d).trans (congrArg₂ (fun x y : EReal => x + alpha * y)
    (Finset.sum_congr rfl fun k _ => congrArg₂ (fun x y : EReal => x * y) (block_q m c t i k) (block_w m c t _ _ k)) (block_e m c t i d))

/-! ### The gradient of the rows -/

/-- Every point stores the gradient of its rows. -/
theorem store6 (t : Fin cfg0.N) : (outsAt0 m c t.val t.isLt).1
    = k0_pay15 (k0_pay4 (iblk m c 0 t) (iblk m c 2 t) (iblk m c 3 t)) (k0_pay8 (iblk m c 4 t)) (k0_pay9 (iblk m c 4 t)) (iblk m c 5 t) := by
  have ht : t.val < 4 := t.isLt
  by_cases h0 : t.val % 4 = 0
  · rw [outsAt0_A m c t h0 (by omega) h0 (by omega) (by omega)]
    dsimp only
    rw [outA6]
  · by_cases h2 : t.val % 4 = 3
    · rw [outsAt0_C m c t h0 h2 h0 (by omega) h2]
      dsimp only
      rw [outC6]
    · rw [outsAt0_B m c t h0 h2 h0 (by omega) h2]
      dsimp only
      rw [outB6]

/-- What a point writes back of it. -/
theorem written6 (t : Fin cfg0.N) : (dats m 0 c).flushed 6 t = ((cfg0.win 6).blk t).view.read (Elt Ideal) (dr m c) := by
  obtain ⟨-, -, -, -, -, -, ⟨h0, h1⟩, -⟩ := places t
  rw [flushed6, store6]
  funext y
  obtain ⟨i, d, rfl⟩ : ∃ (i d : Fin 1024), y = ix2 i d := ⟨y 0, y 1, eq_ix2 y⟩
  rw [View.read_apply]
  have hy : ((cfg0.win 6).blk t).view.emb (ix2 i d) = ix2 (part 1024 rfl (t : Fin 4) i) d := by
    refine at2 (a := 4096) (b := 1024) _ _ _ ?_ ?_
    · show win0_6.index t 0 * 1024 + 1 * i.val = t.val * 1024 + i.val; rw [h0]; omega
    · show win0_6.index t 1 * 1024 + 1 * d.val = d.val; rw [h1]; omega
  refine Eq.trans ?_ (congrArg (dr m c) hy).symm
  refine (pay15_at _ _ _ i d).trans ?_
  rw [row_r m c t _ rfl]
  exact congrArg (fun f => Norm.grad (R m c (part 1024 rfl (t : Fin 4) i)) f d)
    (funext fun k => congrArg₂ (fun x y : EReal => x * y) (entry m c t _ _ _ rfl rfl rfl i k) (block_g m c t k))

/-- The first array at the end. -/
theorem array6 : (dats m 0 c).arrAt 6 cfg0.N = dr m c :=
  (dats m 0 c).arrAt_eq_of_cover 6 (dr m c) (fun t _ => written6 m c t)
    (reached win0_6)

/-! ### The other gradients -/

/-- What the rows of a point add to the gradient of the weights, -/
def share (a d : Fin 1024) (n : ℕ) : EReal :=
  if h : n < 4 then ∑ i : Fin 1024, X m c (part 1024 rfl (⟨n, h⟩ : Fin 4) i) a * Q m c (part 1024 rfl (⟨n, h⟩ : Fin 4) i) d else 0

theorem share_eq (t : Fin cfg0.N) (a d : Fin 1024) (x0 x1 : Vec Ideal S1024x1024 .bf16) (e0 : x0 = iblk m c 0 t) (e1 : x1 = iblk m c 1 t) :
    k0_pay16 x0 x1 (ix2 a d) = share m c a d t.val := by
  subst e0 e1
  unfold share
  rw [dif_pos (show t.val < 4 from t.isLt)]
  exact (pay16_at _ _ a d).trans
    (Finset.sum_congr rfl fun i _ => congrArg₂ (fun x y : EReal => x * y) (block_x m c t i a) (block_q m c t i d))

/-- to a part of the gain's, -/
theorem share1 (t : Fin cfg0.N) (a : Fin 8) (d : Fin 1024) (x0 : Vec Ideal S1024x1024 .bf16) (x2 : Vec Ideal S4x256x1024 .bf16)
    (x3 : Vec Ideal S1024x1024 .bf16) (x4 : Vec Ideal S1024x1024 .f32) (e0 : x0 = iblk m c 0 t) (e2 : x2 = iblk m c 2 t) (e3 : x3 = iblk m c 3 t)
    (e4 : x4 = iblk m c 4 t) :
    ∑ b : Fin 128, k0_pay4 x0 x2 x3 (ix2 (part (n := 1024) 8 rfl b a) d) * unit (row x4 (part (n := 1024) 8 rfl b a)) d
      = eighth (fun i => dh m c i d * unit (R m c i) d) a t.val := by
  unfold eighth
  rw [dif_pos (show t.val < 4 from t.isLt)]
  refine Finset.sum_congr rfl fun b _ => ?_
  rw [row_r m c t x4 e4]
  exact congrArg (fun x : EReal => x * _) (entry m c t x0 x2 x3 e0 e2 e3 _ d)

/-- and of the offset's. -/
theorem share2 (t : Fin cfg0.N) (a : Fin 8) (d : Fin 1024) (x0 : Vec Ideal S1024x1024 .bf16) (x2 : Vec Ideal S4x256x1024 .bf16)
    (x3 : Vec Ideal S1024x1024 .bf16) (e0 : x0 = iblk m c 0 t) (e2 : x2 = iblk m c 2 t) (e3 : x3 = iblk m c 3 t) :
    ∑ b : Fin 128, k0_pay4 x0 x2 x3 (ix2 (part (n := 1024) 8 rfl b a) d) = eighth (fun i => dh m c i d) a t.val := by
  unfold eighth
  rw [dif_pos (show t.val < 4 from t.isLt)]
  exact Finset.sum_congr rfl fun b _ => entry m c t x0 x2 x3 e0 e2 e3 _ d

/-- What a point leaves of the gradient of the weights: what the rows of the points so far add up to. -/
theorem scratch (n : ℕ) (hn : n < cfg0.N) (a d : Fin 1024) :
    (outsAt0 m c n hn).2.2.2.2.1 (ix2 a d) = ∑ r ∈ Finset.range (n + 1), share m c a d r := by
  induction n with
  | zero =>
    rw [outsAt0_A m c ⟨0, hn⟩ rfl (by simp) rfl (by simp) (by simp), Finset.sum_range_one]
    dsimp only
    rw [soutA0, pay1_at]
    exact share_eq m c ⟨0, hn⟩ a d _ _ rfl rfl
  | succ n ih =>
    have h4 : n + 1 < 4 := hn
    have h0 : ¬(n + 1) % 4 = 0 := by omega
    have h1 : 1 ≤ n + 1 := by omega
    rw [Finset.sum_range_succ, ← ih (Nat.lt_of_succ_lt hn), ← share_eq m c ⟨n + 1, hn⟩ a d _ _ rfl rfl]
    by_cases h2 : (n + 1) % 4 = 3
    · rw [outsAt0_C m c ⟨n + 1, hn⟩ h0 h2 h0 h1 h2]
      dsimp only
      rw [soutC0, pay2_at]
      rfl
    · rw [outsAt0_B m c ⟨n + 1, hn⟩ h0 h2 h0 h1 h2]
      dsimp only
      rw [soutB0, pay2_at]
      rfl

/-- So with the parts of the other two. -/
theorem parts (n : ℕ) (hn : n < cfg0.N) (a : Fin 8) (d : Fin 1024) :
    (outsAt0 m c n hn).2.2.2.2.2.1 (ix2 a d) = ∑ r ∈ Finset.range (n + 1), eighth (fun i => dh m c i d * unit (R m c i) d) a r
    ∧ (outsAt0 m c n hn).2.2.2.2.2.2 (ix2 a d) = ∑ r ∈ Finset.range (n + 1), eighth (fun i => dh m c i d) a r := by
  induction n with
  | zero =>
    rw [outsAt0_A m c ⟨0, hn⟩ rfl (by simp) rfl (by simp) (by simp), Finset.sum_range_one, Finset.sum_range_one]
    dsimp only
    rw [soutA1, soutA2, pay10_at, pay12_at, pay5_at, pay6_at, zero_add, zero_add]
    exact ⟨share1 m c ⟨0, hn⟩ a d _ _ _ _ rfl rfl rfl rfl, share2 m c ⟨0, hn⟩ a d _ _ _ rfl rfl rfl⟩
  | succ n ih =>
    have h4 : n + 1 < 4 := hn
    have h0 : ¬(n + 1) % 4 = 0 := by omega
    have h1 : 1 ≤ n + 1 := by omega
    obtain ⟨i0, i1⟩ := ih (Nat.lt_of_succ_lt hn)
    rw [Finset.sum_range_succ _ (n + 1), Finset.sum_range_succ _ (n + 1), ← i0, ← i1, ← share1 m c ⟨n + 1, hn⟩ a d _ _ _ _ rfl rfl rfl rfl,
      ← share2 m c ⟨n + 1, hn⟩ a d _ _ _ rfl rfl rfl]
    by_cases h2 : (n + 1) % 4 = 3
    · rw [outsAt0_C m c ⟨n + 1, hn⟩ h0 h2 h0 h1 h2]
      dsimp only
      rw [soutC1, soutC2, pay10_at, pay12_at]
      exact ⟨rfl, rfl⟩
    · rw [outsAt0_B m c ⟨n + 1, hn⟩ h0 h2 h0 h1 h2]
      dsimp only
      rw [soutB1, soutB2, pay10_at, pay12_at]
      exact ⟨rfl, rfl⟩

/-- The last point. -/
abbrev last : Fin cfg0.N := (⟨3, by decide⟩ : Fin 4)

/-- Only the last point writes the other three arrays back. -/
theorem flushes : ∀ t : Fin cfg0.N, ((cfg0.win 7).flush t = true ↔ t = last) ∧ ((cfg0.win 8).flush t = true ↔ t = last)
    ∧ ((cfg0.win 9).flush t = true ↔ t = last) := by
  decide +kernel

/-- So no two points' blocks of the second meet. -/
theorem apart7 : ∀ t t' : Fin cfg0.N, (cfg0.win 7).flush t = true → (cfg0.win 7).flush t' = true → t ≠ t' →
    Disjoint ((cfg0.win 7).blk t).view.set ((cfg0.win 7).blk t').view.set :=
  fun t t' h h' hne => absurd (((flushes t).1.1 h).trans ((flushes t').1.1 h').symm) hne

/-- What the last point stores of the three: what it leaves of them. -/
theorem store789 : (outsAt0 m c (last).val (last).isLt).2.1 = k0_pay3 (outsAt0 m c (last).val (last).isLt).2.2.2.2.1
    ∧ (outsAt0 m c (last).val (last).isLt).2.2.1 = k0_pay13 (outsAt0 m c (last).val (last).isLt).2.2.2.2.2.1
    ∧ (outsAt0 m c (last).val (last).isLt).2.2.2.1 = k0_pay14 (outsAt0 m c (last).val (last).isLt).2.2.2.2.2.2 := by
  rw [outsAt0_C m c last (by decide) (by decide) (by decide) (by decide) (by decide)]
  dsimp only
  rw [outC7, outC8, outC9, soutC0, soutC1, soutC2]
  exact ⟨rfl, rfl, rfl⟩

/-- What it writes back of the second, and where. -/
theorem written7 (j : Fin 4) (a : Fin 256) (d : Fin 1024) :
    (dats m 0 c).arrAt 7 cfg0.N (ix3 j (⟨512 + a.val, by omega⟩ : Fin 1024) d) = MixBack.grad (X m c) (Q m c) j a d := by
  obtain ⟨-, -, -, -, -, -, -, ⟨h0, h1, h2⟩, -⟩ := places last
  have hy : ((cfg0.win 7).blk last).view.emb (ix3 j a d) = ix3 j (⟨512 + a.val, by omega⟩ : Fin 1024) d := by
    refine at3 (a := 4) (b := 1024) (c := 1024) _ _ _ _ ?_ ?_ ?_
    · show win0_7.index last 0 * 4 + 1 * j.val = j.val; rw [h0]; omega
    · show win0_7.index last 1 * 256 + 1 * a.val = 512 + a.val; rw [h1]; omega
    · show win0_7.index last 2 * 1024 + 1 * d.val = d.val; rw [h2]; omega
  have hb := congrFun ((dats m 0 c).read_blk_arrAt_eq_flushed 7 apart7 cfg0.N last (last).isLt ((flushes _).1.2 rfl)) (ix3 j a d)
  rw [View.read_apply, flushed7, (store789 m c).1] at hb
  refine (congrArg ((dats m 0 c).arrAt 7 cfg0.N) hy).symm.trans (hb.trans ?_)
  refine (pay3_at _ j a d).trans ((scratch m c 3 _ _ d).trans ?_)
  unfold MixBack.grad
  rw [Finset.sum_range, sum_parts (n := 4096) (k := 4) 1024 rfl]
  exact Finset.sum_congr rfl fun r _ => dif_pos r.isLt

/-- The second array at the end. -/
theorem array7 : (dats m 0 c).arrAt 7 cfg0.N = dw m c := by
  funext y
  obtain ⟨-, -, -, -, -, -, -, ⟨h0, h1, h2⟩, -⟩ := places last
  have kept : ¬(512 ≤ (y 1).val ∧ (y 1).val < 768) → (dats m 0 c).arrAt 7 cfg0.N y = B m c y := fun hk => by
    refine (entry7 m c y fun t hf hm => ?_).trans (congrFun (before m c) y)
    obtain rfl := (flushes t).1.1 hf
    rw [View.set, Finset.mem_map] at hm
    obtain ⟨x, -, hx⟩ := hm
    have e : win0_7.index last 1 * 256 + 1 * (x 1).val = (y 1).val := congrArg (fun z : S4x1024x1024.Idx => (z 1).val) hx
    have : (x 1).val < 256 := (x 1).isLt
    rw [h1] at e
    omega
  unfold dw
  by_cases h : (y 1).val < 512
  · rw [if_pos h]
    exact kept (by omega)
  · rw [if_neg h]
    by_cases h' : (y 1).val - 512 < 256
    · rw [dif_pos h']
      exact Eq.trans (congrArg _ (at3 (a := 4) (b := 1024) (c := 1024) y (y 0) (⟨512 + ((y 1).val - 512), by omega⟩ : Fin 1024) (y 2) rfl
        (by show (y 1).val = 512 + ((y 1).val - 512); omega) rfl)) (written7 m c (y 0) ⟨(y 1).val - 512, h'⟩ (y 2))
    · rw [dif_neg h']
      exact kept (by omega)

/-- The third, -/
theorem array8 : (dats m 0 c).arrAt 8 cfg0.N = dg m c := by
  refine (dats m 0 c).arrAt_eq_of_cover 8 (dg m c) (fun t hf => ?_)
    (reached win0_8)
  obtain rfl := (flushes t).2.1.1 hf
  obtain ⟨-, -, -, -, -, -, -, -, ⟨h0, h1⟩, -⟩ := places last
  rw [flushed8, (store789 m c).2.1]
  funext y
  obtain ⟨z, d, rfl⟩ : ∃ (z : Fin 1) (d : Fin 1024), y = ix2 z d := ⟨y 0, y 1, eq_ix2 y⟩
  rw [View.read_apply]
  have hy : ((cfg0.win 8).blk last).view.emb (ix2 z d) = ix2 z d := by
    refine at2 (a := 1) (b := 1024) _ _ _ ?_ ?_
    · show win0_8.index last 0 * 1 + 1 * z.val = z.val; rw [h0]; omega
    · show win0_8.index last 1 * 1024 + 1 * d.val = d.val; rw [h1]; omega
  refine Eq.trans ?_ (congrArg (dg m c) hy).symm
  exact (pay13_at _ z d).trans ((Finset.sum_congr rfl fun a _ => (parts m c 3 _ a d).1).trans (eighths _))

/-- and the fourth. -/
theorem array9 : (dats m 0 c).arrAt 9 cfg0.N = db m c := by
  refine (dats m 0 c).arrAt_eq_of_cover 9 (db m c) (fun t hf => ?_)
    (reached win0_9)
  obtain rfl := (flushes t).2.2.1 hf
  obtain ⟨-, -, -, -, -, -, -, -, -, h0, h1⟩ := places last
  rw [flushed9, (store789 m c).2.2]
  funext y
  obtain ⟨z, d, rfl⟩ : ∃ (z : Fin 1) (d : Fin 1024), y = ix2 z d := ⟨y 0, y 1, eq_ix2 y⟩
  rw [View.read_apply]
  have hy : ((cfg0.win 9).blk last).view.emb (ix2 z d) = ix2 z d := by
    refine at2 (a := 1) (b := 1024) _ _ _ ?_ ?_
    · show win0_9.index last 0 * 1 + 1 * z.val = z.val; rw [h0]; omega
    · show win0_9.index last 1 * 1024 + 1 * d.val = d.val; rw [h1]; omega
  refine Eq.trans ?_ (congrArg (db m c) hy).symm
  exact (pay14_at _ z d).trans ((Finset.sum_congr rfl fun a _ => (parts m c 3 _ a d).2).trans (eighths _))

/-! ## The reference -/

section
open Cert.Reference23Ideal.Read

variable (x0 x1 : Vec Ideal S4096x1024 .bf16) (x2 : Vec Ideal S4x3072x1024 .bf16) (x3 : Vec Ideal S4096x1024 .bf16)
  (x4 : Vec Ideal S4096x1024 .f32) (x5 : Vec Ideal S1x1024 .f32)

/-- The reference's gradient of the norm's output. -/
theorem dh_at (i : Fin 4096) (d : Fin 1024) : val_main_v14 (F := Ideal) x0 x2 x3 (ix2 i d)
    = (∑ k : Fin 1024, x0 (ix2 i k) * x2 (ix3 (chip 256 rfl d) (⟨512 + (place 256 (by omega) d).val, by omega⟩ : Fin 3072) k))
      + alpha * x3 (ix2 i d) := by
  unfold val_main_v14 val_main_v13 val_main_v10 val_main_v9 val_main_v8 val_main_v7 val_main_v2 val_main_v1 val_main_v0 val_main_cst_0
  pointwise [Reference23Ideal.dot_S4096x1024_S1024x1024_S4096x1024_1_1_0_0_n_n]
  exact add_comm _ _

/-- The second norm's gradients start from the gradient in the same shape. -/
theorem same (x : Vec Ideal S4096x1024 .f32) : Reference17Ideal.Read.val_main_v24 (F := Ideal) x = x := by
  funext y
  obtain ⟨i, d, rfl⟩ : ∃ (i : Fin 4096) (d : Fin 1024), y = ix2 i d := ⟨y 0, y 1, eq_ix2 y⟩
  unfold Reference17Ideal.Read.val_main_v24
  pointwise

/-- The other lines are the second norm's, of the gradient of this norm's output: of the rows, -/
theorem dr_at (i : Fin 4096) (d : Fin 1024) : val_main_v70 (F := Ideal) x0 x2 x3 x4 x5 (ix2 i d)
    = gradLines (rowOf x4 i) (pass (val_main_v14 (F := Ideal) x0 x2 x3) x5 i) d := by
  refine Eq.trans ?_ (NormBack.dr_at x4 (val_main_v14 (F := Ideal) x0 x2 x3) x5 i d)
  refine congrFun ?_ (ix2 i d)
  simp only [Reference17Ideal.Read.val_main_v54, Reference17Ideal.Read.val_main_v53, Reference17Ideal.Read.val_main_v52,
    Reference17Ideal.Read.val_main_v51, Reference17Ideal.Read.val_main_v50, Reference17Ideal.Read.val_main_v48,
    Reference17Ideal.Read.val_main_v47, Reference17Ideal.Read.val_main_v46, Reference17Ideal.Read.val_main_v45,
    Reference17Ideal.Read.val_main_v44, Reference17Ideal.Read.val_main_v43, Reference17Ideal.Read.val_main_v42,
    Reference17Ideal.Read.val_main_v41, Reference17Ideal.Read.val_main_v40, Reference17Ideal.Read.val_main_v39,
    Reference17Ideal.Read.val_main_v37, Reference17Ideal.Read.val_main_v36, Reference17Ideal.Read.val_main_v34,
    Reference17Ideal.Read.val_main_v33, Reference17Ideal.Read.val_main_v32, Reference17Ideal.Read.val_main_v31, same]
  rfl

/-- of the gain, -/
theorem dg_at (z : Fin 1) (d : Fin 1024) : val_main_v43 (F := Ideal) x0 x2 x3 x4 (ix2 z d)
    = ∑ i, unit (rowOf x4 i) d * val_main_v14 (F := Ideal) x0 x2 x3 (ix2 i d) := by
  refine Eq.trans ?_ (NormBack.dg_at x4 (val_main_v14 (F := Ideal) x0 x2 x3) z d)
  refine congrFun ?_ (ix2 z d)
  simp only [Reference17Ideal.Read.val_main_v29, Reference17Ideal.Read.val_main_v28, Reference17Ideal.Read.val_main_v27, same]
  rfl

/-- and of the offset. -/
theorem db_at (z : Fin 1) (d : Fin 1024) : val_main_v40 (F := Ideal) x0 x2 x3 (ix2 z d)
    = ∑ i, val_main_v14 (F := Ideal) x0 x2 x3 (ix2 i d) :=
  NormBack.db_at (val_main_v14 (F := Ideal) x0 x2 x3) z d

/-- The reference's second result. -/
theorem ref7 : val_main_v73 (F := Ideal) (m ((c : Thread nD τ).loc main_arg0)) (m ((c : Thread nD τ).loc main_arg1))
    (m ((c : Thread nD τ).loc main_arg6)) = dw m c := by
  funext y
  obtain ⟨j, a, d, rfl⟩ : ∃ (j : Fin 4) (a d : Fin 1024), y = ix3 j a d := ⟨y 0, y 1, y 2, eq_ix3 y⟩
  generalize hG : dw m c (ix3 j a d) = g
  unfold val_main_v73 val_main_v72 val_main_v71 val_main_v69 val_main_v68 val_main_v12 val_main_v11 val_main_v7 val_main_v3
  pointwise [Reference23Ideal.dot_S4096x1024_S4096x1024_S1024x1024_0_0_1_1_n_n]
  rw [← hG]
  unfold dw
  by_cases h : a.val < 512
  · rw [dif_pos h, if_pos (show ((ix3 j a d : S4x1024x1024.Idx) 1).val < 512 from h)]
    rfl
  · rw [dif_neg h, if_neg (show ¬((ix3 j a d : S4x1024x1024.Idx) 1).val < 512 from h)]
    by_cases h' : a.val - 512 < 256
    · rw [dif_pos h', dif_pos (show ((ix3 j a d : S4x1024x1024.Idx) 1).val - 512 < 256 from h')]
      exact Finset.sum_congr rfl fun i _ => mul_comm _ _
    · rw [dif_neg h', dif_neg (show ¬((ix3 j a d : S4x1024x1024.Idx) 1).val - 512 < 256 from h')]
      exact congrArg (B m c) (at3 (a := 4) (b := 1024) (c := 1024) _ j a d rfl (by show 768 + (a.val - 512 - 256) = a.val; omega) rfl)

end

/-! ## The precondition -/

/-- The shape relations the precondition's operations take. -/
theorem pre_facts : Pre_finite_query_gradient.Facts where
  bitsLt_bf16_f32 := by decide
  bcast_S_S4096x1024 := by decide
  reducesTo_S4096x1024_S_d0_1 := by decide
  h_S_ := by decide
  slices_S4x3072x1024_S4x256x1024_0_512_0 := by decide
  bcast_S_S4x256x1024 := by decide
  reducesTo_S4x256x1024_S_d0_1_2 := by decide
  bcast_S_S1x1024 := by decide
  reducesTo_S1x1024_S_d0_1 := by decide

/-- The one index of the predicate's result. -/
abbrev o : Pre_finite_query_gradient.S_.Idx := fun a => a.elim0

attribute [local instance] pre_facts in
/-- Under the precondition every entry of the incoming gradients, of the weights and of the gain is a real number. -/
theorem reals_of_pre (a b e : FVec Ideal Pre_finite_query_gradient.S4096x1024 .bf16) (w : FVec Ideal Pre_finite_query_gradient.S4x3072x1024 .bf16)
    (r : FVec Ideal Pre_finite_query_gradient.S4096x1024 .f32) (g : FVec Ideal Pre_finite_query_gradient.S1x1024 .f32)
    (f : FVec Ideal Pre_finite_query_gradient.S4x1024x1024 .bf16) (h : Pre_finite_query_gradient.fn (F := Ideal) a b w e r g f = fun _ => 1#1) :
    (∀ j, ∃ r : ℝ, (a j : EReal) = r) ∧ (∀ (j : Fin 4) (k : Fin 256) (d : Fin 1024), ∃ r : ℝ, (w (ix3 j (⟨512 + k.val, by omega⟩ : Fin 3072) d) : EReal) = r)
    ∧ (∀ j, ∃ r : ℝ, (e j : EReal) = r) ∧ ∀ j, ∃ r : ℝ, (g j : EReal) = r := by
  have h0 := congrFun h o
  unfold Pre_finite_query_gradient.fn Pre_finite_query_gradient.fn_part1 at h0
  dsimp only at h0
  have hs : Subsingleton Pre_finite_query_gradient.S_.Idx := ⟨fun x y => funext fun a => a.elim0⟩
  obtain ⟨e1, e4⟩ := IntOp.andi_eq_one.1 h0
  obtain ⟨e2, e3⟩ := IntOp.andi_eq_one.1 e1
  obtain ⟨e1, e2⟩ := IntOp.andi_eq_one.1 e2
  refine ⟨fun j => AttnClaim.real_of_abs _ (Host.reduce_andi_all _ _ _ _ o e1 j), fun j k d => ?_,
    fun j => AttnClaim.real_of_abs _ (Host.reduce_andi_all _ _ _ _ o e3 j), fun j => AttnClaim.real_of_abs _ (Host.reduce_andi_all _ _ _ _ o e4 j)⟩
  obtain ⟨x, hx⟩ := AttnClaim.real_of_abs _ (Host.reduce_andi_all _ _ _ _ o e2 (ix3 j k d))
  exact ⟨x, (congrArg w (at3 (a := 4) (b := 3072) (c := 1024) _ j (⟨512 + k.val, by omega⟩ : Fin 3072) d (Nat.zero_add _) rfl (Nat.zero_add _))).symm.trans hx⟩

/-- The factor of the residual stream is a real number. -/
theorem alpha_real : ∃ r : ℝ, alpha = r := ⟨_, by simp only [alpha]; simp [Ideal.ofBits, Ideal.ieee, -EReal.coe_mul]; rfl⟩

/-- Then so is every entry of the gradient of the norm's output. -/
theorem dh_real (h0 : ∀ i k, ∃ r : ℝ, Q m c i k = r) (h2 : ∀ j a d, ∃ r : ℝ, W m c j a d = r) (h3 : ∀ i d, ∃ r : ℝ, E m c i d = r)
    (i : Fin 4096) (d : Fin 1024) : ∃ r : ℝ, dh m c i d = r := by
  choose q hq using h0
  choose w hw using h2
  obtain ⟨e, he⟩ := h3 i d
  obtain ⟨s, hs⟩ := alpha_real
  refine ⟨(∑ k, q i k * w (chip 256 rfl d) (place 256 (by omega) d) k) + s * e, ?_⟩
  unfold dh back
  rw [he, hs, EReal.coe_add, EReal.coe_mul, ← sum_coe]
  exact congrArg (fun x : EReal => x + _) (Finset.sum_congr rfl fun k _ => by rw [hq, hw, EReal.coe_mul])

/-! ## The claims -/

/-- The reference leaves its arguments unchanged and every counter at zero. -/
theorem ref_frame : quiescent_Reference23Ideal (hReference23Ideal := Reference23Ideal.Gen.facts) := fun m ρ _ =>
  (θ_run Reference23Ideal.defs _ _).mono
    (fun r h => ⟨fun c => (h c).2.2.2.2, sem_eq_zero_of_no_sems (by decide) r.2⟩)
    (Reference23Ideal.Value.run m ρ)

/-- The kernel's results are the reference's. -/
theorem algebraic : algebraic_Kernel23Ideal_Reference23Ideal_pre_finite_query_gradient (hKernel23Ideal := Kernel23Ideal.Gen.facts)
    (hReference23Ideal := Reference23Ideal.Gen.facts) (hPre_finite_query_gradient := pre_facts) := by
  intro m g m' g' hpre hargs
  refine ⟨fun c => dr m c, fun c => dw m c, fun c => dg m c, fun c => db m c, ?_, ?_⟩
  · refine (θ_run Kernel23Ideal.defs _ _).mono (fun r h c => ?_) (Kernel23Ideal.Value.run_blocks m g)
    exact ⟨(h c).1.trans (array6 m c), (h c).2.1.trans (array7 m c), (h c).2.2.1.trans (array8 m c), (h c).2.2.2.1.trans (array9 m c), (h c).2.2.2.2⟩
  · refine (θ_run Reference23Ideal.defs _ _).mono (fun r h c => ?_) (Reference23Ideal.Value.run m' g')
    obtain ⟨a0, a1, a2, a3, a4, a5, a6⟩ := hargs c
    obtain ⟨p0, p2, p3, p5⟩ := reals_of_pre _ _ _ _ _ _ _ (hpre c)
    have hd := dh_real m c (fun i k => p0 (ix2 i k)) p2 (fun i d => p3 (ix2 i d))
    have hn : ∀ i d, Reference23Ideal.Read.val_main_v14 (F := Ideal) (m ((c : Thread nD τ).loc main_arg0)) (m ((c : Thread nD τ).loc main_arg2))
        (m ((c : Thread nD τ).loc main_arg3)) (ix2 i d) = dh m c i d := fun i d => dh_at _ _ _ i d
    refine ⟨(h c).1.trans ((Reference23Ideal.Read.val_main_v70_eq m' c).trans ?_),
      (h c).2.1.trans ((Reference23Ideal.Read.val_main_v73_eq _ _ _).trans ?_),
      (h c).2.2.1.trans ((Reference23Ideal.Read.val_main_v43_eq _ _ _ _).trans ?_),
      (h c).2.2.2.1.trans ((Reference23Ideal.Read.val_main_v40_eq _ _ _).trans ?_), (h c).2.2.2.2⟩
    · rw [a0, a2, a3, a4, a5]
      funext y
      obtain ⟨i, d, rfl⟩ : ∃ (i : Fin 4096) (d : Fin 1024), y = ix2 i d := ⟨y 0, y 1, eq_ix2 y⟩
      refine (dr_at _ _ _ _ _ i d).trans ?_
      refine (congrArg (fun f => gradLines (R m c i) f d) (funext fun k => congrArg (fun x : EReal => x * gain m c k) (hn i k))).trans
        (grad_eq _ _ (fun k => ?_) d).symm
      obtain ⟨r1, e1⟩ := hd i k
      obtain ⟨r2, e2⟩ := p5 (ix2 0 k)
      exact ⟨r1 * r2, (congrArg₂ (fun x y : EReal => x * y) e1 e2).trans (EReal.coe_mul _ _).symm⟩
    · rw [a0, a1, a6]
      exact ref7 m c
    · rw [a0, a2, a3, a4]
      funext y
      obtain ⟨z, d, rfl⟩ : ∃ (z : Fin 1) (d : Fin 1024), y = ix2 z d := ⟨y 0, y 1, eq_ix2 y⟩
      exact (dg_at _ _ _ _ z d).trans (Finset.sum_congr rfl fun i _ => (mul_comm _ _).trans (congrArg (fun x : EReal => x * _) (hn i d)))
    · rw [a0, a2, a3]
      funext y
      obtain ⟨z, d, rfl⟩ : ∃ (z : Fin 1) (d : Fin 1024), y = ix2 z d := ⟨y 0, y 1, eq_ix2 y⟩
      exact (db_at _ _ _ z d).trans (Finset.sum_congr rfl fun i _ => hn i d)

end Cert.Proof.QueryBack

end
-- ==== Proof.MixNorm.lean ====
/- The product at the end of the mixer with the residual norm after it: the kernel's arrays, the reference's,
   and their equality. -/
module

public import proofs.«01_k».proof.Defs
public import proofs.«01_k».proof.Proof.Gen.Kernel24Ideal.Value
public import proofs.«01_k».proof.Proof.Gen.Reference24Ideal.Read
public import proofs.«01_k».proof.Proof.Index
public import proofs.«01_k».proof.Proof.NormRow
public import proofs.«01_k».proof.Proof.ConvOut
public import Idealize.ShloMosaic.Lib.Pointwise
public import Idealize.ShloMosaic.Adequacy
public import Idealize.ShloMosaic.Init

@[expose] public section

set_option maxRecDepth 16384

noncomputable section

namespace Cert.Proof.MixNorm

open Cert.Kernel24Ideal Cert.Kernel24Ideal.Gen Cert.Kernel24Ideal.Value Idealize.ShloMosaic Idealize.ShloMosaic.TcCoe Idealize.SL.Sem
open Cert.Proof.Index Cert.Proof.Norm
open Cert.Proof.ConvOut (prod)
open Idealize.ShloMosaic.Pipeline (Dat)

/-- The residual stream, scaled, with a product added. -/
def resid (h p : EReal) : EReal := Ideal.ofBits .f32 0x3F9837F0#32 * h + p

/-- The norm of a row, with its gain and offset. -/
def normed (x g b : Fin 1024 → EReal) (d : Fin 1024) : EReal := unit x d * g d + b d

/-! ## The kernel -/

/-- What a point stores of the norm's input. -/
theorem pay1_at (w : Vec Ideal S4x256x1024 .bf16) (z : Vec Ideal S512x1024 .bf16) (h : Vec Ideal S512x1024 .f32) (i : Fin 512) (d : Fin 1024) :
    k0_pay1 w z h (ix2 i d)
      = resid (h (ix2 i d)) (∑ k : Fin 1024, z (ix2 i k) * w (ix3 (chip 256 rfl k) (place 256 (by omega) k) d)) := by
  unfold k0_pay1
  pointwise [dot_S512x1024_S1024x1024_S512x1024_1_0_0_1_n_n]
  rfl

/-- What it stores of the norm. -/
theorem pay2_at (w : Vec Ideal S4x256x1024 .bf16) (z : Vec Ideal S512x1024 .bf16) (h : Vec Ideal S512x1024 .f32) (g b : Vec Ideal S1x1024 .f32)
    (i : Fin 512) (d : Fin 1024) :
    k0_pay2 w z h g b (ix2 i d) = normed (fun k => k0_pay1 w z h (ix2 i k)) (fun k => g (ix2 0 k)) (fun k => b (ix2 0 k)) d := by
  unfold k0_pay2
  generalize k0_pay1 w z h = x
  pointwise
  rfl

/-- The third array has the same entries. -/
theorem pay3_at (w : Vec Ideal S4x256x1024 .bf16) (z : Vec Ideal S512x1024 .bf16) (h : Vec Ideal S512x1024 .f32) (g b : Vec Ideal S1x1024 .f32)
    (i : Fin 512) (d : Fin 1024) : k0_pay3 w z h g b (ix2 i d) = k0_pay2 w z h g b (ix2 i d) := rfl

/-- A point's blocks are these of its input blocks. -/
theorem out5 (z : Vec Ideal S512x1024 .bf16) (w : Vec Ideal S4x256x1024 .bf16) (h : Vec Ideal S512x1024 .f32) (g b : Vec Ideal S1x1024 .f32) :
    out0_5 z w h g b = k0_pay1 w z h := by
  unfold out0_5
  rw [View.canon_unit_zero zero2, View.ld_unit_zero zero3, View.ld_unit_zero zero2, View.ld_unit_zero zero2]

theorem out6 (z : Vec Ideal S512x1024 .bf16) (w : Vec Ideal S4x256x1024 .bf16) (h : Vec Ideal S512x1024 .f32) (g b : Vec Ideal S1x1024 .f32) :
    out0_6 z w h g b = k0_pay2 w z h g b := by
  unfold out0_6
  rw [View.canon_unit_zero zero2, View.ld_unit_zero zero3, View.ld_unit_zero zero2, View.ld_unit_zero zero2, View.ld_unit_zero zero2,
    View.ld_unit_zero zero2]

theorem out7 (z : Vec Ideal S512x1024 .bf16) (w : Vec Ideal S4x256x1024 .bf16) (h : Vec Ideal S512x1024 .f32) (g b : Vec Ideal S1x1024 .f32) :
    out0_7 z w h g b = k0_pay3 w z h g b := by
  unfold out0_7
  rw [View.canon_unit_zero zero2, View.ld_unit_zero zero3, View.ld_unit_zero zero2, View.ld_unit_zero zero2, View.ld_unit_zero zero2,
    View.ld_unit_zero zero2]

variable (m : (ℓ : Loc nD τ sig) → Buf (Elt Ideal) ℓ) (c : Dev nD)

/-- The rows of the product's left side. -/
def Z : Fin 4096 → Fin 1024 → EReal := fun i a => (m ((c : Thread nD τ).loc main_arg0) : S4096x1024.Idx → EReal) (ix2 i a)
/-- The weights, by chip: its rows from the 256th of what it holds. -/
def W : Fin 4 → Fin 256 → Fin 1024 → EReal := fun j a d =>
  (m ((c : Thread nD τ).loc main_arg1) : S4x3072x1024.Idx → EReal) (ix3 j (⟨256 + a.val, by omega⟩ : Fin 3072) d)
/-- The residual stream. -/
def H : Fin 4096 → Fin 1024 → EReal := fun i d => (m ((c : Thread nD τ).loc main_arg2) : S4096x1024.Idx → EReal) (ix2 i d)
/-- The gain and the offset. -/
def gain : Fin 1024 → EReal := fun d => (m ((c : Thread nD τ).loc main_arg3) : S1x1024.Idx → EReal) (ix2 0 d)
def offset : Fin 1024 → EReal := fun d => (m ((c : Thread nD τ).loc main_arg4) : S1x1024.Idx → EReal) (ix2 0 d)

/-- A row of the norm's input. -/
def row (i : Fin 4096) (d : Fin 1024) : EReal := resid (H m c i d) (prod (Z m c) (W m c) i d)

/-- The norm's input, -/
def G5 (y : S4096x1024.Idx) : EReal := row m c (y 0) (y 1)
/-- and the norm. -/
def G6 (y : S4096x1024.Idx) : EReal := normed (row m c (y 0)) (gain m c) (offset m c) (y 1)

/-- Where the blocks of a point lie. -/
theorem places (t : Fin cfg0.N) : (win0_0.index t 0 = t.val ∧ win0_0.index t 1 = 0)
    ∧ (win0_1.index t 0 = 0 ∧ win0_1.index t 1 = 1 ∧ win0_1.index t 2 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ win0_7.index t 0 = t.val ∧ win0_7.index t 1 = 0 := by
  revert t
  decide +kernel

/-- The block of the left side at a point. -/
theorem block_z (t : Fin cfg0.N) (i : Fin 512) (a : Fin 1024) :
    (iblk m c 0 t : S512x1024.Idx → EReal) (ix2 i a) = Z m c (part 512 rfl (t : Fin 8) i) a := by
  obtain ⟨⟨h0, h1⟩, -⟩ := places t
  unfold iblk Z
  rw [View.read_apply]
  refine congrArg (m ((c : Thread nD τ).loc main_arg0) : S4096x1024.Idx → EReal) (at2 _ _ _ ?_ ?_)
  · show win0_0.index t 0 * 512 + 1 * i.val = t.val * 512 + i.val; rw [h0]; omega
  · show win0_0.index t 1 * 1024 + 1 * a.val = a.val; rw [h1]; omega

/-- The block of the weights at a point: all of them. -/
theorem block_w (t : Fin cfg0.N) (j : Fin 4) (a : Fin 256) (d : Fin 1024) :
    (iblk m c 1 t : S4x256x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 256 + 1 * a.val = 256 + a.val; rw [h1]; omega
  · show win0_1.index t 2 * 1024 + 1 * d.val = d.val; rw [h2]; omega

/-- The block of the residual stream at a point. -/
theorem block_h (t : Fin cfg0.N) (i : Fin 512) (d : Fin 1024) :
    (iblk m c 2 t : S512x1024.Idx → EReal) (ix2 i d) = H m c (part 512 rfl (t : Fin 8) i) d := by
  obtain ⟨-, -, ⟨h0, h1⟩, -⟩ := places t
  unfold iblk H
  rw [View.read_apply]
  refine congrArg (m ((c : Thread nD τ).loc main_arg2) : S4096x1024.Idx → EReal) (at2 _ _ _ ?_ ?_)
  · show win0_2.index t 0 * 512 + 1 * i.val = t.val * 512 + i.val; rw [h0]; omega
  · show win0_2.index t 1 * 1024 + 1 * d.val = d.val; rw [h1]; omega

/-- The block of the gain at a point: all of it; -/
theorem block_g (t : Fin cfg0.N) (d : Fin 1024) : (iblk m c 3 t : S1x1024.Idx → EReal) (ix2 0 d) = gain m c d := by
  obtain ⟨-, -, -, ⟨h0, h1⟩, -⟩ := places t
  unfold iblk gain
  rw [View.read_apply]
  refine congrArg (m ((c : Thread nD τ).loc main_arg3) : S1x1024.Idx → EReal) (at2 _ _ _ ?_ ?_)
  · show win0_3.index t 0 * 1 + 1 * 0 = 0; rw [h0]
  · show win0_3.index t 1 * 1024 + 1 * d.val = d.val; rw [h1]; omega

/-- and of the offset. -/
theorem block_b (t : Fin cfg0.N) (d : Fin 1024) : (iblk m c 4 t : S1x1024.Idx → EReal) (ix2 0 d) = offset m c d := by
  obtain ⟨-, -, -, -, ⟨h0, h1⟩, -⟩ := places t
  unfold iblk offset
  rw [View.read_apply]
  refine congrArg (m ((c : Thread nD τ).loc main_arg4) : S1x1024.Idx → EReal) (at2 _ _ _ ?_ ?_)
  · show win0_4.index t 0 * 1 + 1 * 0 = 0; rw [h0]
  · show win0_4.index t 1 * 1024 + 1 * d.val = d.val; rw [h1]; omega

/-- An entry of the norm's input that a point computes. -/
theorem entry1 (t : Fin cfg0.N) (i : Fin 512) (d : Fin 1024) :
    k0_pay1 (iblk m c 1 t) (iblk m c 0 t) (iblk m c 2 t) (ix2 i d) = row m c (part 512 rfl (t : Fin 8) i) d :=
  (pay1_at _ _ _ i d).trans (congrArg₂ resid (block_h m c t i d)
    (Finset.sum_congr rfl fun k _ => congrArg₂ (fun x y : EReal => x * y) (block_z m c t i k) (block_w m c t _ _ _)))

/-- An entry of the norm that a point computes. -/
theorem entry2 (t : Fin cfg0.N) (i : Fin 512) (d : Fin 1024) :
    k0_pay2 (iblk m c 1 t) (iblk m c 0 t) (iblk m c 2 t) (iblk m c 3 t) (iblk m c 4 t) (ix2 i d)
      = normed (row m c (part 512 rfl (t : Fin 8) i)) (gain m c) (offset m c) d := by
  refine (pay2_at _ _ _ _ _ i d).trans ?_
  rw [show (fun k => k0_pay1 (iblk m c 1 t) (iblk m c 0 t) (iblk m c 2 t) (ix2 i k)) = row m c (part 512 rfl (t : Fin 8) i) from
      funext fun k => entry1 m c t i k,
    show (fun k => (iblk m c 3 t : S1x1024.Idx → EReal) (ix2 0 k)) = gain m c from funext fun k => block_g m c t k,
    show (fun k => (iblk m c 4 t : S1x1024.Idx → EReal) (ix2 0 k)) = offset m c from funext fun k => block_b m c t k]

/-- The first array at the end. -/
theorem array5 : (dats m 0 c).arrAt 5 cfg0.N = G5 m c := by
  refine (dats m 0 c).arrAt_eq_of_cover 5 (G5 m c) (fun t _ => ?_) (reached win0_5)
  obtain ⟨-, -, -, -, -, ⟨h0, h1⟩, -⟩ := places t
  rw [flushed5 m c t, out5]
  funext x
  obtain ⟨i, d, rfl⟩ : ∃ (i : Fin 512) (d : Fin 1024), x = ix2 i d := ⟨x 0, x 1, eq_ix2 x⟩
  have hy : ((cfg0.win 5).blk t).view.emb (ix2 i d) = ix2 (part 512 rfl (t : Fin 8) i) d := by
    refine at2 (a := 4096) (b := 1024) _ _ _ ?_ ?_
    · show win0_5.index t 0 * 512 + 1 * i.val = t.val * 512 + i.val; rw [h0]; omega
    · show win0_5.index t 1 * 1024 + 1 * d.val = d.val; rw [h1]; omega
  exact Eq.trans (entry1 m c t i d) (congrArg (G5 m c) hy).symm

/-- The second, -/
theorem array6 : (dats m 0 c).arrAt 6 cfg0.N = G6 m c := by
  refine (dats m 0 c).arrAt_eq_of_cover 6 (G6 m c) (fun t _ => ?_) (reached win0_6)
  obtain ⟨-, -, -, -, -, -, ⟨h0, h1⟩, -⟩ := places t
  rw [flushed6 m c t, out6]
  funext x
  obtain ⟨i, d, rfl⟩ : ∃ (i : Fin 512) (d : Fin 1024), x = ix2 i d := ⟨x 0, x 1, eq_ix2 x⟩
  have hy : ((cfg0.win 6).blk t).view.emb (ix2 i d) = ix2 (part 512 rfl (t : Fin 8) i) d := by
    refine at2 (a := 4096) (b := 1024) _ _ _ ?_ ?_
    · show win0_6.index t 0 * 512 + 1 * i.val = t.val * 512 + i.val; rw [h0]; omega
    · show win0_6.index t 1 * 1024 + 1 * d.val = d.val; rw [h1]; omega
  exact Eq.trans (entry2 m c t i d) (congrArg (G6 m c) hy).symm

/-- and the third, which is the second in the narrower type. -/
theorem array7 : (dats m 0 c).arrAt 7 cfg0.N = G6 m c := by
  refine (dats m 0 c).arrAt_eq_of_cover 7 (G6 m c) (fun t _ => ?_) (reached win0_7)
  obtain ⟨-, -, -, -, -, -, -, h0, h1⟩ := places t
  rw [flushed7 m c t, out7]
  funext x
  obtain ⟨i, d, rfl⟩ : ∃ (i : Fin 512) (d : Fin 1024), x = ix2 i d := ⟨x 0, x 1, eq_ix2 x⟩
  have hy : ((cfg0.win 7).blk t).view.emb (ix2 i d) = ix2 (part 512 rfl (t : Fin 8) i) d := by
    refine at2 (a := 4096) (b := 1024) _ _ _ ?_ ?_
    · show win0_7.index t 0 * 512 + 1 * i.val = t.val * 512 + i.val; rw [h0]; omega
    · show win0_7.index t 1 * 1024 + 1 * d.val = d.val; rw [h1]; omega
  exact Eq.trans ((pay3_at _ _ _ _ _ i d).trans (entry2 m c t i d)) (congrArg (G6 m c) hy).symm

/-! ## The reference -/

section
open Cert.Reference24Ideal.Read

variable (x0 : (⟨S4096x1024, .bf16⟩ : BufTy).Contents (Elt Ideal)) (x1 : (⟨S4x3072x1024, .bf16⟩ : BufTy).Contents (Elt Ideal))
  (x2 : (⟨S4096x1024, .f32⟩ : BufTy).Contents (Elt Ideal)) (x3 x4 : (⟨S1x1024, .f32⟩ : BufTy).Contents (Elt Ideal))

/-- The reference's norm's input. -/
theorem ref7_at (i : Fin 4096) (d : Fin 1024) : val_main_v7 (F := Ideal) x0 x1 x2 (ix2 i d)
    = resid (x2 (ix2 i d)) (∑ k : Fin 1024, (x0 (ix2 i k) : EReal)
        * x1 (ix3 (chip 256 rfl k) (⟨256 + (place 256 (by omega) k).val, by omega⟩ : Fin 3072) d)) := by
  refine (val_main_v7_apply x0 x1 x2 (ix2 i d)).trans (congrArg₂ (fun x y : EReal => x + y) rfl ((val_main_v6_apply x0 x1 (ix2 i d)).trans ?_))
  refine Finset.sum_congr rfl fun k _ => ?_
  rw [val_main_v5_apply, val_main_v4_apply, val_main_v3_apply, val_main_v2_apply]
  refine congrArg₂ (fun x y : EReal => x * y) (congrArg x0 (at2 _ _ _ rfl rfl)) (congrArg x1 (at3 _ _ _ _ ?_ ?_ ?_))
  · show (k.val * 1024 + d.val) / 262144 = k.val / 256; omega
  · show 256 + (k.val * 1024 + d.val) / 1024 % 256 = 256 + k.val % 256; omega
  · show (k.val * 1024 + d.val) % 1024 = d.val; omega

/-- Its centred rows, -/
theorem ref13_at (i : Fin 4096) (d : Fin 1024) :
    val_main_v13 (F := Ideal) x0 x1 x2 (ix2 i d) = cen (fun k => val_main_v7 (F := Ideal) x0 x1 x2 (ix2 i k)) d := by
  unfold val_main_v13 val_main_v12 val_main_v11 val_main_v10 val_main_v9 val_main_v8 val_main_cst_0 val_main_cst_1
  generalize val_main_v7 (F := Ideal) x0 x1 x2 = x
  pointwise
  rfl

/-- their reciprocal deviations, -/
theorem ref21_at (i : Fin 4096) (z : Fin 1) :
    val_main_v21 (F := Ideal) x0 x1 x2 (ix2 i z) = rs (fun k => val_main_v7 (F := Ideal) x0 x1 x2 (ix2 i k)) := by
  have h := ref13_at x0 x1 x2 i
  unfold val_main_v21 val_main_v20 val_main_v19 val_main_v18 val_main_v17 val_main_v16 val_main_v15 val_main_v14 val_main_cst_2 val_main_cst_3
    val_main_cst_4
  generalize val_main_v13 (F := Ideal) x0 x1 x2 = y at h ⊢
  pointwise
  simp only [h]
  rfl

/-- and its norm. -/
theorem ref27_at (i : Fin 4096) (d : Fin 1024) : val_main_v27 (F := Ideal) x0 x1 x2 x3 x4 (ix2 i d)
    = normed (fun k => val_main_v7 (F := Ideal) x0 x1 x2 (ix2 i k)) (fun k => x3 (ix2 0 k)) (fun k => x4 (ix2 0 k)) d := by
  have h := ref13_at x0 x1 x2 i d
  have h' := ref21_at x0 x1 x2 i 0
  unfold val_main_v27 val_main_v26 val_main_v25 val_main_v24 val_main_v23 val_main_v22
  generalize val_main_v13 (F := Ideal) x0 x1 x2 = y at h ⊢
  generalize val_main_v21 (F := Ideal) x0 x1 x2 = v at h' ⊢
  pointwise
  rw [h, h']
  rfl

end

/-! ## The claims -/

/-- The reference leaves its arguments unchanged and every counter at zero. -/
theorem ref_frame : quiescent_Reference24Ideal (hReference24Ideal := Reference24Ideal.Gen.facts) := fun m ρ _ =>
  (θ_run Reference24Ideal.defs _ _).mono
    (fun r h => ⟨fun c => (h c).2.2.2, sem_eq_zero_of_no_sems (by decide) r.2⟩)
    (Reference24Ideal.Value.run m ρ)

/-- The kernel's results are the reference's. -/
theorem algebraic : algebraic_Kernel24Ideal_Reference24Ideal (hKernel24Ideal := Kernel24Ideal.Gen.facts)
    (hReference24Ideal := Reference24Ideal.Gen.facts) := by
  intro m g m' g' _ hargs
  refine ⟨fun c => G5 m c, fun c => G6 m c, fun c => G6 m c, ?_, ?_⟩
  · refine (θ_run Kernel24Ideal.defs _ _).mono (fun r h c => ?_) (Kernel24Ideal.Value.run_blocks m g)
    exact ⟨(h c).1.trans (array5 m c), (h c).2.1.trans (array6 m c), (h c).2.2.1.trans (array7 m c), (h c).2.2.2⟩
  · refine (θ_run Reference24Ideal.defs _ _).mono (fun r h c => ?_) (Reference24Ideal.Value.run m' g')
    obtain ⟨a0, a1, a2, a3, a4⟩ := hargs c
    have norm : Reference24Ideal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) = G6 m c := by
      funext y
      obtain ⟨i, d, rfl⟩ : ∃ (i : Fin 4096) (d : Fin 1024), y = ix2 i d := ⟨y 0, y 1, eq_ix2 y⟩
      refine (ref27_at _ _ _ _ _ i d).trans ?_
      exact congrArg (fun f => normed f (gain m c) (offset m c) d) (funext fun k => ref7_at _ _ _ i k)
    refine ⟨(h c).1.trans ((Reference24Ideal.Read.val_main_v7_eq _ _ _).trans ?_),
      (h c).2.1.trans ((Reference24Ideal.Read.val_main_v27_eq _ _).trans ?_),
      (h c).2.2.1.trans ((Reference24Ideal.Read.val_main_v28_eq _ _).trans ?_), (h c).2.2.2⟩
    · rw [a0, a1, a2]
      funext y
      obtain ⟨i, d, rfl⟩ : ∃ (i : Fin 4096) (d : Fin 1024), y = ix2 i d := ⟨y 0, y 1, eq_ix2 y⟩
      exact ref7_at _ _ _ i d
    · rw [a0, a1, a2, a3, a4]
      exact norm
    · rw [a0, a1, a2, a3, a4]
      exact norm

end Cert.Proof.MixNorm

end
-- ==== Proof.AttnNorm.lean ====
/- The product at the end of the attention with the residual norm after it: the kernel's arrays, the reference's,
   and their equality. -/
module

public import proofs.«01_k».proof.Defs
public import proofs.«01_k».proof.Proof.Gen.Kernel25Ideal.Value
public import proofs.«01_k».proof.Proof.Gen.Reference25Ideal.Read
public import proofs.«01_k».proof.Proof.Index
public import proofs.«01_k».proof.Proof.NormRow
public import proofs.«01_k».proof.Proof.MixNorm
public import Idealize.ShloMosaic.Lib.Pointwise
public import Idealize.ShloMosaic.Adequacy
public import Idealize.ShloMosaic.Init

@[expose] public section

set_option maxRecDepth 16384

noncomputable section

namespace Cert.Proof.AttnNorm

open Cert.Kernel25Ideal Cert.Kernel25Ideal.Gen Cert.Kernel25Ideal.Value Idealize.ShloMosaic Idealize.ShloMosaic.TcCoe Idealize.SL.Sem
open Cert.Proof.Index Cert.Proof.Norm
open Cert.Proof.ConvOut (prod)
open Cert.Proof.MixNorm (resid normed)
open Idealize.ShloMosaic.Pipeline (Dat)

/-! ## The kernel -/

/-- What a point stores of the norm's input. -/
theorem pay1_at (w : Vec Ideal S4x256x1024 .bf16) (z : Vec Ideal S512x1024 .bf16) (h : Vec Ideal S512x1024 .f32) (i : Fin 512) (d : Fin 1024) :
    k0_pay1 w z h (ix2 i d)
      = resid (h (ix2 i d)) (∑ k : Fin 1024, z (ix2 i k) * w (ix3 (chip 256 rfl k) (place 256 (by omega) k) d)) :=
  MixNorm.pay1_at w z h i d

/-- What it stores of the norm. -/
theorem pay2_at (w : Vec Ideal S4x256x1024 .bf16) (z : Vec Ideal S512x1024 .bf16) (h : Vec Ideal S512x1024 .f32) (g b : Vec Ideal S1x1024 .f32)
    (i : Fin 512) (d : Fin 1024) :
    k0_pay2 w z h g b (ix2 i d) = normed (fun k => k0_pay1 w z h (ix2 i k)) (fun k => g (ix2 0 k)) (fun k => b (ix2 0 k)) d :=
  MixNorm.pay2_at w z h g b i d

/-- The third array has the same entries. -/
theorem pay3_at (w : Vec Ideal S4x256x1024 .bf16) (z : Vec Ideal S512x1024 .bf16) (h : Vec Ideal S512x1024 .f32) (g b : Vec Ideal S1x1024 .f32)
    (i : Fin 512) (d : Fin 1024) : k0_pay3 w z h g b (ix2 i d) = k0_pay2 w z h g b (ix2 i d) := rfl

/-- A point's blocks are these of its input blocks. -/
theorem out5 (z : Vec Ideal S512x1024 .bf16) (w : Vec Ideal S4x256x1024 .bf16) (h : Vec Ideal S512x1024 .f32) (g b : Vec Ideal S1x1024 .f32) :
    out0_5 z w h g b = k0_pay1 w z h := by
  unfold out0_5
  rw [View.canon_unit_zero zero2, View.ld_unit_zero zero3, View.ld_unit_zero zero2, View.ld_unit_zero zero2]

theorem out6 (z : Vec Ideal S512x1024 .bf16) (w : Vec Ideal S4x256x1024 .bf16) (h : Vec Ideal S512x1024 .f32) (g b : Vec Ideal S1x1024 .f32) :
    out0_6 z w h g b = k0_pay2 w z h g b := by
  unfold out0_6
  rw [View.canon_unit_zero zero2, View.ld_unit_zero zero3, View.ld_unit_zero zero2, View.ld_unit_zero zero2, View.ld_unit_zero zero2,
    View.ld_unit_zero zero2]

theorem out7 (z : Vec Ideal S512x1024 .bf16) (w : Vec Ideal S4x256x1024 .bf16) (h : Vec Ideal S512x1024 .f32) (g b : Vec Ideal S1x1024 .f32) :
    out0_7 z w h g b = k0_pay3 w z h g b := by
  unfold out0_7
  rw [View.canon_unit_zero zero2, View.ld_unit_zero zero3, View.ld_unit_zero zero2, View.ld_unit_zero zero2, View.ld_unit_zero zero2,
    View.ld_unit_zero zero2]

variable (m : (ℓ : Loc nD τ sig) → Buf (Elt Ideal) ℓ) (c : Dev nD)

/-- The rows of the product's left side. -/
def Z : Fin 4096 → Fin 1024 → EReal := fun i a => (m ((c : Thread nD τ).loc main_arg0) : S4096x1024.Idx → EReal) (ix2 i a)
/-- The weights, by chip: its rows from the 768th of what it holds. -/
def W : Fin 4 → Fin 256 → Fin 1024 → EReal := fun j a d =>
  (m ((c : Thread nD τ).loc main_arg1) : S4x3072x1024.Idx → EReal) (ix3 j (⟨768 + a.val, by omega⟩ : Fin 3072) d)
/-- The residual stream. -/
def H : Fin 4096 → Fin 1024 → EReal := fun i d => (m ((c : Thread nD τ).loc main_arg2) : S4096x1024.Idx → EReal) (ix2 i d)
/-- The gain and the offset. -/
def gain : Fin 1024 → EReal := fun d => (m ((c : Thread nD τ).loc main_arg3) : S1x1024.Idx → EReal) (ix2 0 d)
def offset : Fin 1024 → EReal := fun d => (m ((c : Thread nD τ).loc main_arg4) : S1x1024.Idx → EReal) (ix2 0 d)

/-- A row of the norm's input. -/
def row (i : Fin 4096) (d : Fin 1024) : EReal := resid (H m c i d) (prod (Z m c) (W m c) i d)

/-- The norm's input, -/
def G5 (y : S4096x1024.Idx) : EReal := row m c (y 0) (y 1)
/-- and the norm. -/
def G6 (y : S4096x1024.Idx) : EReal := normed (row m c (y 0)) (gain m c) (offset m c) (y 1)

/-- Where the blocks of a point lie. -/
theorem places (t : Fin cfg0.N) : (win0_0.index t 0 = t.val ∧ win0_0.index t 1 = 0)
    ∧ (win0_1.index t 0 = 0 ∧ win0_1.index t 1 = 3 ∧ win0_1.index t 2 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ win0_7.index t 0 = t.val ∧ win0_7.index t 1 = 0 := by
  revert t
  decide +kernel

/-- The block of the left side at a point. -/
theorem block_z (t : Fin cfg0.N) (i : Fin 512) (a : Fin 1024) :
    (iblk m c 0 t : S512x1024.Idx → EReal) (ix2 i a) = Z m c (part 512 rfl (t : Fin 8) i) a := by
  obtain ⟨⟨h0, h1⟩, -⟩ := places t
  unfold iblk Z
  rw [View.read_apply]
  refine congrArg (m ((c : Thread nD τ).loc main_arg0) : S4096x1024.Idx → EReal) (at2 _ _ _ ?_ ?_)
  · show win0_0.index t 0 * 512 + 1 * i.val = t.val * 512 + i.val; rw [h0]; omega
  · show win0_0.index t 1 * 1024 + 1 * a.val = a.val; rw [h1]; omega

/-- The block of the weights at a point: all of them. -/
theorem block_w (t : Fin cfg0.N) (j : Fin 4) (a : Fin 256) (d : Fin 1024) :
    (iblk m c 1 t : S4x256x1024.Idx → EReal) (ix3 j a d) = W m c j a d := by
  obtain ⟨-, ⟨h0, h1, h2⟩, -⟩ := places t
  unfold iblk W
  rw [View.read_apply]
  refine congrArg (m ((c : Thread nD τ).loc main_arg1) : S4x3072x1024.Idx → EReal) (at3 _ _ _ _ ?_ ?_ ?_)
  · show win0_1.index t 0 * 4 + 1 * j.val = j.val; rw [h0]; omega
  · show win0_1.index t 1 * 256 + 1 * a.val = 768 + a.val; rw [h1]; omega
  · show win0_1.index t 2 * 1024 + 1 * d.val = d.val; rw [h2]; omega

/-- The block of the residual stream at a point. -/
theorem block_h (t : Fin cfg0.N) (i : Fin 512) (d : Fin 1024) :
    (iblk m c 2 t : S512x1024.Idx → EReal) (ix2 i d) = H m c (part 512 rfl (t : Fin 8) i) d := by
  obtain ⟨-, -, ⟨h0, h1⟩, -⟩ := places t
  unfold iblk H
  rw [View.read_apply]
  refine congrArg (m ((c : Thread nD τ).loc main_arg2) : S4096x1024.Idx → EReal) (at2 _ _ _ ?_ ?_)
  · show win0_2.index t 0 * 512 + 1 * i.val = t.val * 512 + i.val; rw [h0]; omega
  · show win0_2.index t 1 * 1024 + 1 * d.val = d.val; rw [h1]; omega

/-- The block of the gain at a point: all of it; -/
theorem block_g (t : Fin cfg0.N) (d : Fin 1024) : (iblk m c 3 t : S1x1024.Idx → EReal) (ix2 0 d) = gain m c d := by
  obtain ⟨-, -, -, ⟨h0, h1⟩, -⟩ := places t
  unfold iblk gain
  rw [View.read_apply]
  refine congrArg (m ((c : Thread nD τ).loc main_arg3) : S1x1024.Idx → EReal) (at2 _ _ _ ?_ ?_)
  · show win0_3.index t 0 * 1 + 1 * 0 = 0; rw [h0]
  · show win0_3.index t 1 * 1024 + 1 * d.val = d.val; rw [h1]; omega

/-- and of the offset. -/
theorem block_b (t : Fin cfg0.N) (d : Fin 1024) : (iblk m c 4 t : S1x1024.Idx → EReal) (ix2 0 d) = offset m c d := by
  obtain ⟨-, -, -, -, ⟨h0, h1⟩, -⟩ := places t
  unfold iblk offset
  rw [View.read_apply]
  refine congrArg (m ((c : Thread nD τ).loc main_arg4) : S1x1024.Idx → EReal) (at2 _ _ _ ?_ ?_)
  · show win0_4.index t 0 * 1 + 1 * 0 = 0; rw [h0]
  · show win0_4.index t 1 * 1024 + 1 * d.val = d.val; rw [h1]; omega

/-- An entry of the norm's input that a point computes. -/
theorem entry1 (t : Fin cfg0.N) (i : Fin 512) (d : Fin 1024) :
    k0_pay1 (iblk m c 1 t) (iblk m c 0 t) (iblk m c 2 t) (ix2 i d) = row m c (part 512 rfl (t : Fin 8) i) d :=
  (pay1_at _ _ _ i d).trans (congrArg₂ resid (block_h m c t i d)
    (Finset.sum_congr rfl fun k _ => congrArg₂ (fun x y : EReal => x * y) (block_z m c t i k) (block_w m c t _ _ _)))

/-- An entry of the norm that a point computes. -/
theorem entry2 (t : Fin cfg0.N) (i : Fin 512) (d : Fin 1024) :
    k0_pay2 (iblk m c 1 t) (iblk m c 0 t) (iblk m c 2 t) (iblk m c 3 t) (iblk m c 4 t) (ix2 i d)
      = normed (row m c (part 512 rfl (t : Fin 8) i)) (gain m c) (offset m c) d := by
  refine (pay2_at _ _ _ _ _ i d).trans ?_
  rw [show (fun k => k0_pay1 (iblk m c 1 t) (iblk m c 0 t) (iblk m c 2 t) (ix2 i k)) = row m c (part 512 rfl (t : Fin 8) i) from
      funext fun k => entry1 m c t i k,
    show (fun k => (iblk m c 3 t : S1x1024.Idx → EReal) (ix2 0 k)) = gain m c from funext fun k => block_g m c t k,
    show (fun k => (iblk m c 4 t : S1x1024.Idx → EReal) (ix2 0 k)) = offset m c from funext fun k => block_b m c t k]

/-- The first array at the end. -/
theorem array5 : (dats m 0 c).arrAt 5 cfg0.N = G5 m c := by
  refine (dats m 0 c).arrAt_eq_of_cover 5 (G5 m c) (fun t _ => ?_) (reached win0_5)
  obtain ⟨-, -, -, -, -, ⟨h0, h1⟩, -⟩ := places t
  rw [flushed5 m c t, out5]
  funext x
  obtain ⟨i, d, rfl⟩ : ∃ (i : Fin 512) (d : Fin 1024), x = ix2 i d := ⟨x 0, x 1, eq_ix2 x⟩
  have hy : ((cfg0.win 5).blk t).view.emb (ix2 i d) = ix2 (part 512 rfl (t : Fin 8) i) d := by
    refine at2 (a := 4096) (b := 1024) _ _ _ ?_ ?_
    · show win0_5.index t 0 * 512 + 1 * i.val = t.val * 512 + i.val; rw [h0]; omega
    · show win0_5.index t 1 * 1024 + 1 * d.val = d.val; rw [h1]; omega
  exact Eq.trans (entry1 m c t i d) (congrArg (G5 m c) hy).symm

/-- The second, -/
theorem array6 : (dats m 0 c).arrAt 6 cfg0.N = G6 m c := by
  refine (dats m 0 c).arrAt_eq_of_cover 6 (G6 m c) (fun t _ => ?_) (reached win0_6)
  obtain ⟨-, -, -, -, -, -, ⟨h0, h1⟩, -⟩ := places t
  rw [flushed6 m c t, out6]
  funext x
  obtain ⟨i, d, rfl⟩ : ∃ (i : Fin 512) (d : Fin 1024), x = ix2 i d := ⟨x 0, x 1, eq_ix2 x⟩
  have hy : ((cfg0.win 6).blk t).view.emb (ix2 i d) = ix2 (part 512 rfl (t : Fin 8) i) d := by
    refine at2 (a := 4096) (b := 1024) _ _ _ ?_ ?_
    · show win0_6.index t 0 * 512 + 1 * i.val = t.val * 512 + i.val; rw [h0]; omega
    · show win0_6.index t 1 * 1024 + 1 * d.val = d.val; rw [h1]; omega
  exact Eq.trans (entry2 m c t i d) (congrArg (G6 m c) hy).symm

/-- and the third, which is the second in the narrower type. -/
theorem array7 : (dats m 0 c).arrAt 7 cfg0.N = G6 m c := by
  refine (dats m 0 c).arrAt_eq_of_cover 7 (G6 m c) (fun t _ => ?_) (reached win0_7)
  obtain ⟨-, -, -, -, -, -, -, h0, h1⟩ := places t
  rw [flushed7 m c t, out7]
  funext x
  obtain ⟨i, d, rfl⟩ : ∃ (i : Fin 512) (d : Fin 1024), x = ix2 i d := ⟨x 0, x 1, eq_ix2 x⟩
  have hy : ((cfg0.win 7).blk t).view.emb (ix2 i d) = ix2 (part 512 rfl (t : Fin 8) i) d := by
    refine at2 (a := 4096) (b := 1024) _ _ _ ?_ ?_
    · show win0_7.index t 0 * 512 + 1 * i.val = t.val * 512 + i.val; rw [h0]; omega
    · show win0_7.index t 1 * 1024 + 1 * d.val = d.val; rw [h1]; omega
  exact Eq.trans ((pay3_at _ _ _ _ _ i d).trans (entry2 m c t i d)) (congrArg (G6 m c) hy).symm

/-! ## The reference -/

section
open Cert.Reference25Ideal.Read

variable (x0 : (⟨S4096x1024, .bf16⟩ : BufTy).Contents (Elt Ideal)) (x1 : (⟨S4x3072x1024, .bf16⟩ : BufTy).Contents (Elt Ideal))
  (x2 : (⟨S4096x1024, .f32⟩ : BufTy).Contents (Elt Ideal)) (x3 x4 : (⟨S1x1024, .f32⟩ : BufTy).Contents (Elt Ideal))

/-- What a chip holds, with the rows from the 512th first: the weights of this product are then where the
    mixer's lie. -/
def moved : (⟨S4x3072x1024, .bf16⟩ : BufTy).Contents (Elt Ideal) := fun y =>
  x1 (ix3 (y 0 : Fin 4) (⟨((y 1).val + 512) % 3072, Nat.mod_lt _ (by decide)⟩ : Fin 3072) (y 2 : Fin 1024))

/-- The reference's weights are the mixer's of that. -/
theorem ref3 : val_main_v3 (F := Ideal) x1 = Reference24Ideal.Read.val_main_v3 (F := Ideal) (moved x1) := by
  funext y
  rw [val_main_v3_apply, Reference24Ideal.Read.val_main_v3_apply]
  unfold moved
  have h1 : (y 1).val < 256 := (y 1).isLt
  refine congrArg x1 (at3 _ _ _ _ rfl ?_ rfl)
  show 768 + (y 1).val = (256 + (y 1).val + 512) % 3072
  omega

/-- So are the norm's input, -/
theorem ref7 : val_main_v7 (F := Ideal) x0 x1 x2 = Reference24Ideal.Read.val_main_v7 (F := Ideal) x0 (moved x1) x2 := by
  unfold val_main_v7 val_main_v6 val_main_v5 val_main_v4
  rw [ref3]
  rfl

/-- and the norm. -/
theorem ref27 : val_main_v27 (F := Ideal) x0 x1 x2 x3 x4
    = Reference24Ideal.Read.val_main_v27 (F := Ideal) x0 (moved x1) x2 x3 x4 := by
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8
  rw [ref7]
  rfl

/-- The reference's norm's input. -/
theorem ref7_at (i : Fin 4096) (d : Fin 1024) : val_main_v7 (F := Ideal) x0 x1 x2 (ix2 i d)
    = resid (x2 (ix2 i d)) (∑ k : Fin 1024, (x0 (ix2 i k) : EReal)
        * x1 (ix3 (chip 256 rfl k) (⟨768 + (place 256 (by omega) k).val, by omega⟩ : Fin 3072) d)) := by
  rw [ref7]
  refine (MixNorm.ref7_at x0 (moved x1) x2 i d).trans (congrArg (resid _) (Finset.sum_congr rfl fun k _ => ?_))
  refine congrArg (fun y : EReal => (x0 (ix2 i k) : EReal) * y) (congrArg x1 (at3 _ _ _ _ rfl ?_ rfl))
  show (256 + k.val % 256 + 512) % 3072 = 768 + k.val % 256
  omega

/-- Its norm. -/
theorem ref27_at (i : Fin 4096) (d : Fin 1024) : val_main_v27 (F := Ideal) x0 x1 x2 x3 x4 (ix2 i d)
    = normed (fun k => val_main_v7 (F := Ideal) x0 x1 x2 (ix2 i k)) (fun k => x3 (ix2 0 k)) (fun k => x4 (ix2 0 k)) d := by
  rw [ref27, ref7]
  exact MixNorm.ref27_at x0 (moved x1) x2 x3 x4 i d

end

/-! ## The claims -/

/-- The reference leaves its arguments unchanged and every counter at zero. -/
theorem ref_frame : quiescent_Reference25Ideal (hReference25Ideal := Reference25Ideal.Gen.facts) := fun m ρ _ =>
  (θ_run Reference25Ideal.defs _ _).mono
    (fun r h => ⟨fun c => (h c).2.2.2, sem_eq_zero_of_no_sems (by decide) r.2⟩)
    (Reference25Ideal.Value.run m ρ)

/-- The kernel's results are the reference's. -/
theorem algebraic : algebraic_Kernel25Ideal_Reference25Ideal (hKernel25Ideal := Kernel25Ideal.Gen.facts)
    (hReference25Ideal := Reference25Ideal.Gen.facts) := by
  intro m g m' g' _ hargs
  refine ⟨fun c => G5 m c, fun c => G6 m c, fun c => G6 m c, ?_, ?_⟩
  · refine (θ_run Kernel25Ideal.defs _ _).mono (fun r h c => ?_) (Kernel25Ideal.Value.run_blocks m g)
    exact ⟨(h c).1.trans (array5 m c), (h c).2.1.trans (array6 m c), (h c).2.2.1.trans (array7 m c), (h c).2.2.2⟩
  · refine (θ_run Reference25Ideal.defs _ _).mono (fun r h c => ?_) (Reference25Ideal.Value.run m' g')
    obtain ⟨a0, a1, a2, a3, a4⟩ := hargs c
    have norm : Reference25Ideal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) = G6 m c := by
      funext y
      obtain ⟨i, d, rfl⟩ : ∃ (i : Fin 4096) (d : Fin 1024), y = ix2 i d := ⟨y 0, y 1, eq_ix2 y⟩
      refine (ref27_at _ _ _ _ _ i d).trans ?_
      exact congrArg (fun f => normed f (gain m c) (offset m c) d) (funext fun k => ref7_at _ _ _ i k)
    refine ⟨(h c).1.trans ((Reference25Ideal.Read.val_main_v7_eq _ _ _).trans ?_),
      (h c).2.1.trans ((Reference25Ideal.Read.val_main_v27_eq _ _).trans ?_),
      (h c).2.2.1.trans ((Reference25Ideal.Read.val_main_v28_eq _ _).trans ?_), (h c).2.2.2⟩
    · rw [a0, a1, a2]
      funext y
      obtain ⟨i, d, rfl⟩ : ∃ (i : Fin 4096) (d : Fin 1024), y = ix2 i d := ⟨y 0, y 1, eq_ix2 y⟩
      exact ref7_at _ _ _ i d
    · rw [a0, a1, a2, a3, a4]
      exact norm
    · rw [a0, a1, a2, a3, a4]
      exact norm

end Cert.Proof.AttnNorm

end
-- ==== Proof.InNormBack.lean ====
/- The gradients of the layer norm of the inputs: the kernel's arrays, the reference's, and their equality. -/
module

public import proofs.«01_k».proof.Defs
public import proofs.«01_k».proof.Proof.Gen.Kernel26Ideal.Value
public import proofs.«01_k».proof.Proof.Gen.Reference26Ideal.Read
public import proofs.«01_k».proof.Proof.NormBack
public import Idealize.ShloMosaic.Lib.Pointwise
public import Idealize.ShloMosaic.Lib.ReduceAll
public import Idealize.ShloMosaic.Lib.WholeRead
public import Idealize.ShloMosaic.Lib.VecWindow
public import Idealize.ShloMosaic.Lib.Pipeline.ValueKit.Geometry
public import Idealize.ShloMosaic.Adequacy
public import Idealize.ShloMosaic.Init

@[expose] public section

set_option maxRecDepth 16384

noncomputable section

namespace Cert.Proof.InNormBack

open Cert.Kernel26Ideal Cert.Kernel26Ideal.Gen Cert.Kernel26Ideal.Value Idealize.ShloMosaic Idealize.ShloMosaic.TcCoe Idealize.SL.Sem
open Cert.Proof.Index Cert.Proof.Norm
open Cert.Proof.NormBack (row rowOf pass pre_facts reals_of_pre)
open Idealize.ShloMosaic.Pipeline (Dat)

/-! ## The kernel -/

/-- What a point stores of the gradient of the rows: what the second norm's does. -/
theorem pay10_at (x y : Vec Ideal S1024x1024 .f32) (g : Vec Ideal S1x1024 .f32) (i d : Fin 1024) :
    k0_pay10 x y g (ix2 i d) = grad (row x i) (fun k => y (ix2 i k) * g (ix2 0 k)) d :=
  NormBack.pay10_at x y g i d

/-- What a point adds to a part of the gain's gradient, -/
theorem pay1_at (x y : Vec Ideal S1024x1024 .f32) (s : Vec Ideal S8x1024 .f32) (a : Fin 8) (d : Fin 1024) :
    k0_pay1 (k0_pay9 x) y s (ix2 a d)
      = s (ix2 a d) + ∑ b : Fin 128, y (ix2 (part (n := 1024) 8 rfl b a) d) * unit (row x (part (n := 1024) 8 rfl b a)) d :=
  NormBack.pay1_at x y s a d

/-- and of the offset's. -/
theorem pay2_at (y : Vec Ideal S1024x1024 .f32) (s : Vec Ideal S8x1024 .f32) (a : Fin 8) (d : Fin 1024) :
    k0_pay2 y s (ix2 a d) = s (ix2 a d) + ∑ b : Fin 128, y (ix2 (part (n := 1024) 8 rfl b a) d) :=
  NormBack.pay2_at y s a d

/-- The last point adds the eight parts up. -/
theorem pay3_at (s : Vec Ideal S8x1024 .f32) (z : Fin 1) (d : Fin 1024) : k0_pay3 s (ix2 z d) = ∑ a : Fin 8, s (ix2 a d) :=
  NormBack.pay3_at s z d

theorem pay4_at (s : Vec Ideal S8x1024 .f32) (z : Fin 1) (d : Fin 1024) : k0_pay4 s (ix2 z d) = ∑ a : Fin 8, s (ix2 a d) :=
  NormBack.pay4_at s z d

/-- The parts start at zero. -/
theorem pay5_at (a : Fin 8) (d : Fin 1024) : k0_pay5 (F := Ideal) (ix2 a d) = (0 : EReal) := NormBack.pay5_at a d

theorem pay6_at (a : Fin 8) (d : Fin 1024) : k0_pay6 (F := Ideal) (ix2 a d) = (0 : EReal) := NormBack.pay6_at a d

section
variable (c : Dev nD) (i : grid0.Coords) (b1 : Memref sig .tc .vmem S1024x1024 .f32) (k1 : b1.IsWhole)
  (b2 : Memref sig .tc .vmem S1024x1024 .f32) (k2 : b2.IsWhole) (b3 : Memref sig .tc .vmem S1x1024 .f32) (k3 : b3.IsWhole)
  (b4 : Memref sig .tc .vmem S1024x1024 .f32) (k4 : b4.IsWhole) (b5 : Memref sig .tc .vmem S1x1024 .f32) (k5 : b5.IsWhole)
  (b6 : Memref sig .tc .vmem S1x1024 .f32) (k6 : b6.IsWhole)
  (b7 : Memref sig .tc .vmem S8x1024 .f32) (k7 : b7.IsWhole) (b8 : Memref sig .tc .vmem S8x1024 .f32) (k8 : b8.IsWhole)
  (x0 x1 : Vec Ideal S1024x1024 .f32) (x2 : Vec Ideal S1x1024 .f32) (s0 s1 : Vec Ideal S8x1024 .f32)

/-- What the first point stores of the gradient of the rows, -/
theorem outA3 (h0 h1) : out0_A_3 c i b1 k1 b2 k2 b3 k3 b4 k4 b5 k5 b6 k6 b7 k7 b8 k8 h0 h1 x0 x1 x2
    = k0_pay10 x0 x1 x2 := by
  unfold out0_A_3 kernelRun0_A
  dsimp only
  refine (View.read_writes_full VO0_3 VO0_3.junk _ _ _).trans ?_
  unfold kernelRun0_A.sl.r_2
  iterate 3 rw [View.readAt_full]
  rw [k1.read_unread, k2.read_unread, k3.read_unread]

/-- a point between, -/
theorem outB3 (h0 h1) : out0_B_3 c i b1 k1 b2 k2 b3 k3 b4 k4 b5 k5 b6 k6 b7 k7 b8 k8 h0 h1 x0 x1 x2 s0 s1
    = k0_pay10 x0 x1 x2 := by
  unfold out0_B_3 kernelRun0_B
  dsimp only
  refine (View.read_writes_full VO0_3 VO0_3.junk _ _ _).trans ?_
  unfold kernelRun0_B.sl.r_2
  iterate 3 rw [View.readAt_full]
  rw [k1.read_unread, k2.read_unread, k3.read_unread]

/-- and the last. -/
theorem outC3 (h0 h1) : out0_C_3 c i b1 k1 b2 k2 b3 k3 b4 k4 b5 k5 b6 k6 b7 k7 b8 k8 h0 h1 x0 x1 x2 s0 s1
    = k0_pay10 x0 x1 x2 := by
  unfold out0_C_3 kernelRun0_C
  dsimp only
  refine (View.read_writes_full VO0_3 VO0_3.junk _ _ _).trans ?_
  unfold kernelRun0_C.sl.r_2
  iterate 3 rw [View.readAt_full]
  rw [k1.read_unread, k2.read_unread, k3.read_unread]

/-- What the first point leaves of the parts of the gain's gradient, -/
theorem soutA0 (h0 h1) : sout0_A_0 c i b1 k1 b2 k2 b3 k3 b4 k4 b5 k5 b6 k6 b7 k7 b8 k8 h0 h1 x0 x1 x2
    = k0_pay1 (k0_pay9 x0) x1 (k0_pay5 (F := Ideal)) := by
  unfold sout0_A_0 kernelRun0_A
  dsimp only
  refine (View.read_writes_full VS0_0 VS0_0.junk _ _ _).trans ?_
  unfold kernelRun0_A.sl.v41 kernelRun0_A.sl.HS0_1 kernelRun0_A.sl.r kernelRun0_A.sl.r_1
  rw [View.readCov_full, View.readAt_full, View.readAt_full, k1.read_unread, k2.read_unread]

/-- a point between, -/
theorem soutB0 (h0 h1) : sout0_B_0 c i b1 k1 b2 k2 b3 k3 b4 k4 b5 k5 b6 k6 b7 k7 b8 k8 h0 h1 x0 x1 x2 s0 s1
    = k0_pay1 (k0_pay9 x0) x1 s0 := by
  unfold sout0_B_0 kernelRun0_B
  dsimp only
  refine (View.read_writes_full VS0_0 VS0_0.junk _ _ _).trans ?_
  unfold kernelRun0_B.sl.r kernelRun0_B.sl.r_1
  iterate 3 rw [View.readAt_full]
  rw [k1.read_unread, k2.read_unread, k7.read_unread]

/-- and the last. -/
theorem soutC0 (h0 h1) : sout0_C_0 c i b1 k1 b2 k2 b3 k3 b4 k4 b5 k5 b6 k6 b7 k7 b8 k8 h0 h1 x0 x1 x2 s0 s1
    = k0_pay1 (k0_pay9 x0) x1 s0 := by
  unfold sout0_C_0 kernelRun0_C
  dsimp only
  refine (View.read_writes_full VS0_0 VS0_0.junk _ _ _).trans ?_
  unfold kernelRun0_C.sl.r kernelRun0_C.sl.r_1
  iterate 3 rw [View.readAt_full]
  rw [k1.read_unread, k2.read_unread, k7.read_unread]

/-- What the first point leaves of the parts of the offset's gradient, -/
theorem soutA1 (h0 h1) : sout0_A_1 c i b1 k1 b2 k2 b3 k3 b4 k4 b5 k5 b6 k6 b7 k7 b8 k8 h0 h1 x0 x1 x2
    = k0_pay2 x1 (k0_pay6 (F := Ideal)) := by
  unfold sout0_A_1 kernelRun0_A
  dsimp only
  refine (View.read_writes_full VS0_1 VS0_1.junk _ _ _).trans ?_
  unfold kernelRun0_A.sl.v49 kernelRun0_A.sl.HS1_1 kernelRun0_A.sl.r_1
  rw [View.readCov_full, View.readAt_full, k2.read_unread]

/-- a point between, -/
theorem soutB1 (h0 h1) : sout0_B_1 c i b1 k1 b2 k2 b3 k3 b4 k4 b5 k5 b6 k6 b7 k7 b8 k8 h0 h1 x0 x1 x2 s0 s1
    = k0_pay2 x1 s1 := by
  unfold sout0_B_1 kernelRun0_B
  dsimp only
  refine (View.read_writes_full VS0_1 VS0_1.junk _ _ _).trans ?_
  unfold kernelRun0_B.sl.r_1
  rw [View.readAt_full, View.readAt_full, k2.read_unread, k8.read_unread]

/-- and the last. -/
theorem soutC1 (h0 h1) : sout0_C_1 c i b1 k1 b2 k2 b3 k3 b4 k4 b5 k5 b6 k6 b7 k7 b8 k8 h0 h1 x0 x1 x2 s0 s1
    = k0_pay2 x1 s1 := by
  unfold sout0_C_1 kernelRun0_C
  dsimp only
  refine (View.read_writes_full VS0_1 VS0_1.junk _ _ _).trans ?_
  unfold kernelRun0_C.sl.r_1
  rw [View.readAt_full, View.readAt_full, k2.read_unread, k8.read_unread]

/-- What the last point stores of the gain's gradient -/
theorem outC4 (h0 h1) : out0_C_4 c i b1 k1 b2 k2 b3 k3 b4 k4 b5 k5 b6 k6 b7 k7 b8 k8 h0 h1 x0 x1 x2 s0 s1
    = k0_pay3 (k0_pay1 (k0_pay9 x0) x1 s0) := by
  unfold out0_C_4 kernelRun0_C
  dsimp only
  refine (View.read_writes_full VO0_4 VO0_4.junk _ _ _).trans ?_
  unfold kernelRun0_C.sl.v59 kernelRun0_C.sl.HS0_1 kernelRun0_C.sl.r kernelRun0_C.sl.r_1
  refine congrArg k0_pay3 ((View.readCov_full b7.view _ _ _ _).trans ?_)
  iterate 3 rw [View.readAt_full]
  rw [k1.read_unread, k2.read_unread, k7.read_unread]

/-- and of the offset's. -/
theorem outC5 (h0 h1) : out0_C_5 c i b1 k1 b2 k2 b3 k3 b4 k4 b5 k5 b6 k6 b7 k7 b8 k8 h0 h1 x0 x1 x2 s0 s1
    = k0_pay4 (k0_pay2 x1 s1) := by
  unfold out0_C_5 kernelRun0_C
  dsimp only
  refine (View.read_writes_full VO0_5 VO0_5.junk _ _ _).trans ?_
  unfold kernelRun0_C.sl.v63 kernelRun0_C.sl.HS1_1 kernelRun0_C.sl.r_1
  refine congrArg k0_pay4 ((View.readCov_full b8.view _ _ _ _).trans ?_)
  rw [View.readAt_full, View.readAt_full, k2.read_unread, k8.read_unread]

end

variable (m : (ℓ : Loc nD τ sig) → Buf (Elt Ideal) ℓ) (c : Dev nD)

/-- The rows of the norm's input. -/
def X : Fin 4096 → Fin 1024 → EReal := fun i d => (m ((c : Thread nD τ).loc main_arg0) : S4096x1024.Idx → EReal) (ix2 i d)
/-- The rows of the incoming gradient. -/
def Y : Fin 4096 → Fin 1024 → EReal := fun i d => (m ((c : Thread nD τ).loc main_arg1) : S4096x1024.Idx → EReal) (ix2 i d)
/-- The gain. -/
def gain : Fin 1024 → EReal := fun d => (m ((c : Thread nD τ).loc main_arg2) : S1x1024.Idx → EReal) (ix2 0 d)

/-- The gradient of the rows. -/
def dr (y : S4096x1024.Idx) : EReal := grad (X m c (y 0)) (fun k => Y m c (y 0) k * gain m c k) (y 1)
/-- The gradient of the gain. -/
def dg (y : S1x1024.Idx) : EReal := ∑ i, Y m c i (y 1) * unit (X m c i) (y 1)
/-- The gradient of the offset. -/
def db (y : S1x1024.Idx) : EReal := ∑ i, Y m c i (y 1)

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ win0_5.index t 0 = 0 ∧ win0_5.index t 1 = 0 := by
  revert t
  decide +kernel

/-- The block of the norm's input at a point. -/
theorem block_x (t : Fin cfg0.N) (i d : Fin 1024) : (iblk m c 0 t : S1024x1024.Idx → EReal) (ix2 i d) = X m c (part 1024 rfl (t : Fin 4) i) d := by
  obtain ⟨⟨h0, h1⟩, -⟩ := places t
  unfold iblk X
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- The block of the incoming gradient at a point. -/
theorem block_y (t : Fin cfg0.N) (i d : Fin 1024) : (iblk m c 1 t : S1024x1024.Idx → EReal) (ix2 i d) = Y m c (part 1024 rfl (t : Fin 4) i) d := by
  obtain ⟨-, ⟨h0, h1⟩, -⟩ := places t
  unfold iblk Y
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- The block of the gain at a point: all of it. -/
theorem block_g (t : Fin cfg0.N) (d : Fin 1024) : (iblk m c 2 t : S1x1024.Idx → EReal) (ix2 0 d) = gain m c d := by
  obtain ⟨-, -, ⟨h0, h1⟩, -⟩ := places t
  unfold iblk gain
  rw [View.read_apply]
  refine (congrFun (V_main_arg2 m c) _).trans (congrArg (m ((c : Thread nD τ).loc main_arg2) : S1x1024.Idx → EReal) (at2 _ _ _ ?_ ?_))
  · show win0_2.index t 0 * 1 + 1 * 0 = 0; rw [h0]
  · show win0_2.index t 1 * 1024 + 1 * d.val = d.val; rw [h1]; omega

/-- A row of the block of the norm's input. -/
theorem row_x (t : Fin cfg0.N) (x : Vec Ideal S1024x1024 .f32) (e : x = iblk m c 0 t) (i : Fin 1024) : row x i = X m c (part 1024 rfl (t : Fin 4) i) := by
  subst e
  exact funext fun d => block_x m c t i d

/-! ### The gradient of the rows -/

/-- Every point stores the gradient of its rows. -/
theorem store3 (t : Fin cfg0.N) : (outsAt0 m c t.val t.isLt).1 = k0_pay10 (iblk m c 0 t) (iblk m c 1 t) (iblk m c 2 t) := by
  have ht : t.val < 4 := t.isLt
  by_cases h0 : t.val % 4 = 0
  · rw [outsAt0_A m c t h0 (by omega)]
    dsimp only
    rw [outA3]
  · by_cases h2 : t.val % 4 = 3
    · rw [outsAt0_C m c t h0 h2]
      dsimp only
      rw [outC3]
    · rw [outsAt0_B m c t h0 h2]
      dsimp only
      rw [outB3]

/-- What a point writes back of it. -/
theorem written3 (t : Fin cfg0.N) : (dats m 0 c).flushed 3 t = ((cfg0.win 3).blk t).view.read (Elt Ideal) (dr m c) := by
  obtain ⟨-, -, -, ⟨h0, h1⟩, -⟩ := places t
  rw [flushed3, store3]
  funext y
  obtain ⟨i, d, rfl⟩ : ∃ (i d : Fin 1024), y = ix2 i d := ⟨y 0, y 1, eq_ix2 y⟩
  rw [View.read_apply]
  have hy : ((cfg0.win 3).blk t).view.emb (ix2 i d) = ix2 (part 1024 rfl (t : Fin 4) i) d := by
    refine at2 (a := 4096) (b := 1024) _ _ _ ?_ ?_
    · show win0_3.index t 0 * 1024 + 1 * i.val = t.val * 1024 + i.val; rw [h0]; omega
    · show win0_3.index t 1 * 1024 + 1 * d.val = d.val; rw [h1]; omega
  refine Eq.trans ?_ (congrArg (dr m c) hy).symm
  refine (pay10_at _ _ _ i d).trans ?_
  rw [row_x m c t _ rfl]
  exact congrArg (fun f => grad (X m c (part 1024 rfl (t : Fin 4) i)) f d)
    (funext fun k => congrArg₂ (fun x y : EReal => x * y) (block_y m c t i k) (block_g m c t k))

/-- The first array at the end. -/
theorem array3 : (dats m 0 c).arrAt 3 cfg0.N = dr m c :=
  (dats m 0 c).arrAt_eq_of_cover 3 (dr m c) (fun t _ => written3 m c t)
    (reached win0_3)

/-! ### The gradients of the gain and of the offset -/

/-- What the rows of a point add to a part of the gain's gradient, -/
theorem share0 (t : Fin cfg0.N) (a : Fin 8) (d : Fin 1024) (x0 x1 : Vec Ideal S1024x1024 .f32) (e0 : x0 = iblk m c 0 t) (e1 : x1 = iblk m c 1 t) :
    ∑ b : Fin 128, x1 (ix2 (part (n := 1024) 8 rfl b a) d) * unit (row x0 (part (n := 1024) 8 rfl b a)) d
      = eighth (fun i => Y m c i d * unit (X m c i) d) a t.val := by
  unfold eighth
  rw [dif_pos (show t.val < 4 from t.isLt)]
  refine Finset.sum_congr rfl fun b _ => ?_
  rw [row_x m c t x0 e0, e1]
  exact congrArg (fun x : EReal => x * _) (block_y m c t _ d)

/-- and of the offset's. -/
theorem share1 (t : Fin cfg0.N) (a : Fin 8) (d : Fin 1024) (x1 : Vec Ideal S1024x1024 .f32) (e1 : x1 = iblk m c 1 t) :
    ∑ b : Fin 128, x1 (ix2 (part (n := 1024) 8 rfl b a) d) = eighth (fun i => Y m c i d) a t.val := by
  unfold eighth
  rw [dif_pos (show t.val < 4 from t.isLt), e1]
  exact Finset.sum_congr rfl fun b _ => block_y m c t _ d

/-- What a point leaves of the parts: what the rows of the points so far add up to. -/
theorem parts (n : ℕ) (hn : n < cfg0.N) (a : Fin 8) (d : Fin 1024) :
    (outsAt0 m c n hn).2.2.2.1 (ix2 a d) = ∑ r ∈ Finset.range (n + 1), eighth (fun i => Y m c i d * unit (X m c i) d) a r
    ∧ (outsAt0 m c n hn).2.2.2.2 (ix2 a d) = ∑ r ∈ Finset.range (n + 1), eighth (fun i => Y m c i d) a r := by
  induction n with
  | zero =>
    rw [outsAt0_A m c ⟨0, hn⟩ rfl (by simp), Finset.sum_range_one, Finset.sum_range_one]
    dsimp only
    rw [soutA0, soutA1, pay1_at, pay2_at, pay5_at, pay6_at, zero_add, zero_add]
    exact ⟨share0 m c ⟨0, hn⟩ a d _ _ rfl rfl, share1 m c ⟨0, hn⟩ a d _ rfl⟩
  | succ n ih =>
    have h4 : n + 1 < 4 := hn
    obtain ⟨i0, i1⟩ := ih (Nat.lt_of_succ_lt hn)
    rw [Finset.sum_range_succ _ (n + 1), Finset.sum_range_succ _ (n + 1), ← i0, ← i1, ← share0 m c ⟨n + 1, hn⟩ a d _ _ rfl rfl, ← share1 m c ⟨n + 1, hn⟩ a d _ rfl]
    by_cases h2 : (n + 1) % 4 = 3
    · rw [outsAt0_C m c ⟨n + 1, hn⟩ (by show ¬(n + 1) % 4 = 0; omega) h2]
      dsimp only
      rw [soutC0, soutC1, pay1_at, pay2_at]
      exact ⟨rfl, rfl⟩
    · rw [outsAt0_B m c ⟨n + 1, hn⟩ (by show ¬(n + 1) % 4 = 0; omega) h2]
      dsimp only
      rw [soutB0, soutB1, pay1_at, pay2_at]
      exact ⟨rfl, rfl⟩

/-- The last point. -/
abbrev last : Fin cfg0.N := (⟨3, by decide⟩ : Fin 4)

/-- Only the last point writes the second array back, -/
theorem flushes4 : ∀ t : Fin cfg0.N, (cfg0.win 4).flush t = true ↔ t = last := by
  decide +kernel

/-- and the third. -/
theorem flushes5 : ∀ t : Fin cfg0.N, (cfg0.win 5).flush t = true ↔ t = last := by
  decide +kernel

/-- What the last point stores of the two: its parts, added up. -/
theorem store45 : (outsAt0 m c (last).val (last).isLt).2.1 = k0_pay3 (outsAt0 m c (last).val (last).isLt).2.2.2.1
    ∧ (outsAt0 m c (last).val (last).isLt).2.2.1 = k0_pay4 (outsAt0 m c (last).val (last).isLt).2.2.2.2 := by
  rw [outsAt0_C m c last (by decide) (by decide)]
  dsimp only
  rw [outC4, outC5, soutC0, soutC1]
  exact ⟨rfl, rfl⟩

/-- What the last point writes back of the second array. -/
theorem written4 (t : Fin cfg0.N) (hf : (cfg0.win 4).flush t = true) :
    (dats m 0 c).flushed 4 t = ((cfg0.win 4).blk t).view.read (Elt Ideal) (dg m c) := by
  obtain rfl := (flushes4 t).1 hf
  obtain ⟨-, -, -, -, ⟨h0, h1⟩, -⟩ := places last
  rw [flushed4, (store45 m c).1]
  funext y
  obtain ⟨z, d, rfl⟩ : ∃ (z : Fin 1) (d : Fin 1024), y = ix2 z d := ⟨y 0, y 1, eq_ix2 y⟩
  rw [View.read_apply]
  have hy : ((cfg0.win 4).blk last).view.emb (ix2 z d) = ix2 z d := by
    refine at2 (a := 1) (b := 1024) _ _ _ ?_ ?_
    · show win0_4.index last 0 * 1 + 1 * z.val = z.val; rw [h0]; omega
    · show win0_4.index last 1 * 1024 + 1 * d.val = d.val; rw [h1]; omega
  refine Eq.trans ?_ (congrArg (dg m c) hy).symm
  exact (pay3_at _ z d).trans ((Finset.sum_congr rfl fun a _ => (parts m c 3 _ a d).1).trans (eighths _))

/-- What the last point writes back of the third array. -/
theorem written5 (t : Fin cfg0.N) (hf : (cfg0.win 5).flush t = true) :
    (dats m 0 c).flushed 5 t = ((cfg0.win 5).blk t).view.read (Elt Ideal) (db m c) := by
  obtain rfl := (flushes5 t).1 hf
  obtain ⟨-, -, -, -, -, h0, h1⟩ := places last
  rw [flushed5, (store45 m c).2]
  funext y
  obtain ⟨z, d, rfl⟩ : ∃ (z : Fin 1) (d : Fin 1024), y = ix2 z d := ⟨y 0, y 1, eq_ix2 y⟩
  rw [View.read_apply]
  have hy : ((cfg0.win 5).blk last).view.emb (ix2 z d) = ix2 z d := by
    refine at2 (a := 1) (b := 1024) _ _ _ ?_ ?_
    · show win0_5.index last 0 * 1 + 1 * z.val = z.val; rw [h0]; omega
    · show win0_5.index last 1 * 1024 + 1 * d.val = d.val; rw [h1]; omega
  refine Eq.trans ?_ (congrArg (db m c) hy).symm
  exact (pay4_at _ z d).trans ((Finset.sum_congr rfl fun a _ => (parts m c 3 _ a d).2).trans (eighths _))

/-- The second array at the end, -/
theorem array4 : (dats m 0 c).arrAt 4 cfg0.N = dg m c :=
  (dats m 0 c).arrAt_eq_of_cover 4 (dg m c) (written4 m c)
    (reached win0_4)

/-- and the third. -/
theorem array5 : (dats m 0 c).arrAt 5 cfg0.N = db m c :=
  (dats m 0 c).arrAt_eq_of_cover 5 (db m c) (written5 m c)
    (reached win0_5)

/-! ## The reference -/

section
open Cert.Reference26Ideal.Read

variable (x0 x1 : Vec Ideal S4096x1024 .f32) (x2 : Vec Ideal S1x1024 .f32)

/-- Its gradient of the rows is the second norm's, -/
theorem dr_at (i : Fin 4096) (d : Fin 1024) : val_main_v53 (F := Ideal) x0 x1 x2 (ix2 i d) = gradLines (rowOf x0 i) (pass x1 x2 i) d :=
  NormBack.dr_at x0 x1 x2 i d

/-- its gradient of the gain, -/
theorem dg_at (z : Fin 1) (d : Fin 1024) : val_main_v29 (F := Ideal) x0 x1 (ix2 z d) = ∑ i, unit (rowOf x0 i) d * x1 (ix2 i d) :=
  NormBack.dg_at x0 x1 z d

/-- and of the offset. -/
theorem db_at (z : Fin 1) (d : Fin 1024) : val_main_v26 (F := Ideal) x1 (ix2 z d) = ∑ i, x1 (ix2 i d) :=
  NormBack.db_at x1 z d

end

/-! ## The claims -/

/-- The reference leaves its arguments unchanged and every counter at zero. -/
theorem ref_frame : quiescent_Reference26Ideal (hReference26Ideal := Reference26Ideal.Gen.facts) := fun m ρ _ =>
  (θ_run Reference26Ideal.defs _ _).mono
    (fun r h => ⟨fun c => (h c).2.2.2, sem_eq_zero_of_no_sems (by decide) r.2⟩)
    (Reference26Ideal.Value.run m ρ)

/-- The kernel's results are the reference's. -/
theorem algebraic : algebraic_Kernel26Ideal_Reference26Ideal_pre_finite_norm_gradient (hKernel26Ideal := Kernel26Ideal.Gen.facts)
    (hReference26Ideal := Reference26Ideal.Gen.facts) (hPre_finite_norm_gradient := pre_facts) := by
  intro m g m' g' hpre hargs
  refine ⟨fun c => dr m c, fun c => dg m c, fun c => db m c, ?_, ?_⟩
  · refine (θ_run Kernel26Ideal.defs _ _).mono (fun r h c => ?_) (Kernel26Ideal.Value.run_blocks m g)
    exact ⟨(h c).1.trans (array3 m c), (h c).2.1.trans (array4 m c), (h c).2.2.1.trans (array5 m c), (h c).2.2.2⟩
  · refine (θ_run Reference26Ideal.defs _ _).mono (fun r h c => ?_) (Reference26Ideal.Value.run m' g')
    obtain ⟨a0, a1, a2⟩ := hargs c
    obtain ⟨p1, p2⟩ := reals_of_pre _ _ _ (hpre c)
    refine ⟨(h c).1.trans ((Reference26Ideal.Read.val_main_v53_eq m' c).trans ?_),
      (h c).2.1.trans ((Reference26Ideal.Read.val_main_v29_eq _ _).trans ?_),
      (h c).2.2.1.trans ((Reference26Ideal.Read.val_main_v26_eq _).trans ?_), (h c).2.2.2⟩
    · rw [a0, a1, a2]
      funext y
      obtain ⟨i, d, rfl⟩ : ∃ (i : Fin 4096) (d : Fin 1024), y = ix2 i d := ⟨y 0, y 1, eq_ix2 y⟩
      refine (dr_at _ _ _ i d).trans (grad_eq _ _ (fun k => ?_) d).symm
      obtain ⟨r1, e1⟩ := p1 (ix2 i k)
      obtain ⟨r2, e2⟩ := p2 (ix2 0 k)
      exact ⟨r1 * r2, (congrArg₂ (fun x y : EReal => x * y) e1 e2).trans (EReal.coe_mul _ _).symm⟩
    · rw [a0, a1]
      funext y
      obtain ⟨z, d, rfl⟩ : ∃ (z : Fin 1) (d : Fin 1024), y = ix2 z d := ⟨y 0, y 1, eq_ix2 y⟩
      exact (dg_at _ _ z d).trans (Finset.sum_congr rfl fun i _ => mul_comm _ _)
    · rw [a1]
      funext y
      obtain ⟨z, d, rfl⟩ : ∃ (z : Fin 1) (d : Fin 1024), y = ix2 z d := ⟨y 0, y 1, eq_ix2 y⟩
      exact db_at _ z d

end Cert.Proof.InNormBack

end
-- ==== Proof.Memory.lean ====
/- The keys and values of the memory: the kernel's array, the reference's, and their equality. -/
module

public import proofs.«01_k».proof.Defs
public import proofs.«01_k».proof.Proof.Gen.Kernel27Ideal.Value
public import proofs.«01_k».proof.Proof.Gen.Reference27Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.Memory

open Cert.Kernel27Ideal Cert.Kernel27Ideal.Gen Cert.Kernel27Ideal.Value Idealize.ShloMosaic Idealize.ShloMosaic.TcCoe Idealize.SL.Sem
open Cert.Proof.Index
open Idealize.ShloMosaic.Pipeline (Dat)

/-! ## The kernel -/

/-- What a point stores: the product of its blocks. -/
theorem pay_at (x0 : Vec Ideal S256x1024 .f32) (x1 : Vec Ideal S1x1024x512 .bf16) (i : Fin 256) (d : Fin 512) :
    k0_pay1 x1 x0 (ix2 i d) = ∑ k : Fin 1024, x0 (ix2 i k) * x1 (ix3 0 k d) := by
  unfold k0_pay1
  pointwise [dot_S256x1024_S1024x512_S256x512_1_0_0_1_n_n]

/-- A point's block is the product of its input blocks. -/
theorem out_eq (x0 : Vec Ideal S256x1024 .f32) (x1 : Vec Ideal S1x1024x512 .bf16) : out0_2 x0 x1 = k0_pay1 x1 x0 := by
  unfold out0_2
  rw [View.canon_unit_zero zero2, View.ld_unit_zero zero3, View.ld_unit_zero zero2]

variable (m : (ℓ : Loc nD τ sig) → Buf (Elt Ideal) ℓ) (c : Dev nD)

/-- The rows of the memory. -/
def Z : Fin 256 → Fin 1024 → EReal := fun i a => (m ((c : Thread nD τ).loc main_arg0) : S256x1024.Idx → EReal) (ix2 i a)
/-- The weights: each chip's block of columns. -/
def W : Fin 4 → Fin 1024 → Fin 512 → EReal := fun j a d => (m ((c : Thread nD τ).loc main_arg1) : S4x1024x512.Idx → EReal) (ix3 j a d)

/-- The result. -/
def G (y : S256x2048.Idx) : EReal := ∑ k, Z m c (y 0) k * W m c (chip 512 rfl (y 1)) k (place 512 (by omega) (y 1))

/-- Where the blocks of a point lie. -/
theorem places (t : Fin cfg0.N) : (win0_0.index t 0 = 0 ∧ win0_0.index t 1 = 0)
    ∧ (win0_1.index t 0 = t.val ∧ win0_1.index t 1 = 0 ∧ win0_1.index t 2 = 0)
    ∧ win0_2.index t 0 = 0 ∧ win0_2.index t 1 = t.val := by
  revert t
  decide +kernel

/-- The block of the memory at a point: all of it. -/
theorem block_z (t : Fin cfg0.N) (i : Fin 256) (a : Fin 1024) : (iblk m c 0 t : S256x1024.Idx → EReal) (ix2 i a) = Z m c i a := by
  obtain ⟨⟨h0, h1⟩, -, -⟩ := places t
  unfold iblk Z
  rw [View.read_apply]
  refine congrArg (m ((c : Thread nD τ).loc main_arg0) : S256x1024.Idx → EReal) (at2 _ _ _ ?_ ?_)
  · show win0_0.index t 0 * 256 + 1 * i.val = i.val; rw [h0]; omega
  · show win0_0.index t 1 * 1024 + 1 * a.val = a.val; rw [h1]; omega

/-- The block of the weights at a point: those of its chip. -/
theorem block_w (t : Fin cfg0.N) (j : Fin 4) (hj : t.val = j.val) (a : Fin 1024) (d : Fin 512) :
    (iblk m c 1 t : S1x1024x512.Idx → EReal) (ix3 0 a d) = W m c j a d := by
  obtain ⟨-, ⟨h0, h1, h2⟩, -⟩ := places t
  unfold iblk W
  rw [View.read_apply]
  refine congrArg (m ((c : Thread nD τ).loc main_arg1) : S4x1024x512.Idx → EReal) (at3 _ _ _ _ ?_ ?_ ?_)
  · show win0_1.index t 0 * 1 + 1 * 0 = j.val; rw [h0]; omega
  · show win0_1.index t 1 * 1024 + 1 * a.val = a.val; rw [h1]; omega
  · show win0_1.index t 2 * 512 + 1 * d.val = d.val; rw [h2]; omega

/-- The array at the end. -/
theorem array : (dats m 0 c).arrAt 2 cfg0.N = G m c := by
  refine (dats m 0 c).arrAt_eq_of_cover 2 (G m c) (fun t _ => ?_) (reached win0_2)
  obtain ⟨-, -, h0, h1⟩ := places t
  have ht : t.val < 4 := t.isLt
  rw [flushed2 m c t, out_eq]
  funext x
  have hx : x = ix2 (x 0) (x 1) := at2 (a := 256) (b := 512) x (x 0) (x 1) rfl rfl
  have hy : ((cfg0.win 2).blk t).view.emb x = ix2 (x 0) (part (n := 2048) (k := 4) 512 rfl ⟨t.val, ht⟩ (x 1)) := by
    refine at2 (a := 256) (b := 2048) _ _ _ ?_ ?_
    · show win0_2.index t 0 * 256 + 1 * (x 0).val = (x 0).val; rw [h0]; omega
    · show win0_2.index t 1 * 512 + 1 * (x 1).val = t.val * 512 + (x 1).val; rw [h1]; omega
  refine Eq.trans ?_ (congrArg (G m c) hy).symm
  refine (congrArg (k0_pay1 _ _) hx).trans ((pay_at _ _ (x 0) (x 1)).trans ?_)
  refine Finset.sum_congr rfl fun k _ => congrArg₂ (fun x y : EReal => x * y) (block_z m c t _ k) ((block_w m c t ⟨t.val, ht⟩ rfl k _).trans ?_)
  exact congrArg₂ (fun j d => W m c j k d) (chip_part 512 (by omega) rfl _ _).symm (place_part 512 (by omega) rfl _ _).symm

/-! ## The reference -/

section
open Cert.Reference27Ideal.Read

/-- The reference's result. -/
theorem ref_at (x0 : (⟨S256x1024, .f32⟩ : BufTy).Contents (Elt Ideal)) (x1 : (⟨S4x1024x512, .bf16⟩ : BufTy).Contents (Elt Ideal))
    (i : Fin 256) (d : Fin 2048) :
    val_main_v3 (F := Ideal) x0 x1 (ix2 i d)
      = ∑ k : Fin 1024, (x0 (ix2 i k) : EReal) * x1 (ix3 (chip 512 rfl d) k (place 512 (by omega) d)) := by
  rw [val_main_v3_apply]
  refine Finset.sum_congr rfl fun k _ => ?_
  rw [val_main_v2_apply, val_main_v1_apply, val_main_v0_apply]
  refine congrArg₂ (fun x y : EReal => x * y) (congrArg x0 (at2 _ _ _ rfl rfl)) (congrArg x1 (at3 _ _ _ _ ?_ ?_ ?_))
  · show (k.val * 2048 + d.val) / 512 % 4 = d.val / 512; omega
  · show (k.val * 2048 + d.val) / 2048 = k.val; omega
  · show (k.val * 2048 + d.val) % 512 = d.val % 512; omega

end

/-! ## The claims -/

/-- The reference leaves its arguments unchanged and every counter at zero. -/
theorem ref_frame : quiescent_Reference27Ideal (hReference27Ideal := Reference27Ideal.Gen.facts) := fun m ρ _ =>
  (θ_run Reference27Ideal.defs _ _).mono
    (fun r h => ⟨fun c => (h c).2, sem_eq_zero_of_no_sems (by decide) r.2⟩)
    (Reference27Ideal.Value.run m ρ)

/-- The kernel's result is the reference's. -/
theorem algebraic : algebraic_Kernel27Ideal_Reference27Ideal (hKernel27Ideal := Kernel27Ideal.Gen.facts)
    (hReference27Ideal := Reference27Ideal.Gen.facts) := by
  intro m g m' g' _ hargs
  refine ⟨fun c => G m c, ?_, ?_⟩
  · refine (θ_run Kernel27Ideal.defs _ _).mono (fun r h c => ?_) (Kernel27Ideal.Value.run_blocks m g)
    exact ⟨(h c).1.trans (array m c), (h c).2⟩
  · refine (θ_run Reference27Ideal.defs _ _).mono (fun r h c => ?_) (Reference27Ideal.Value.run m' g')
    obtain ⟨a0, a1⟩ := hargs c
    refine ⟨(h c).1.trans ((Reference27Ideal.Read.val_main_v3_eq _ _).trans ?_), (h c).2⟩
    rw [a0, a1]
    funext y
    exact (congrArg _ (at2 (a := 256) (b := 2048) y (y 0) (y 1) rfl rfl)).trans (ref_at _ _ _ _)

end Cert.Proof.Memory

end
-- ==== Proof.MemoryG.lean ====
/- The gradient of the weights of the memory's keys and values: the kernel's array, the reference's, and their equality. -/
module

public import proofs.«01_k».proof.Defs
public import proofs.«01_k».proof.Proof.Gen.Kernel28Ideal.Value
public import proofs.«01_k».proof.Proof.Gen.Reference28Ideal.Read
public import proofs.«01_k».proof.Proof.Index
public import Idealize.ShloMosaic.Lib.Pointwise
public import Idealize.ShloMosaic.Adequacy
public import Idealize.ShloMosaic.Init

@[expose] public section

set_option maxRecDepth 16384

noncomputable section

namespace Cert.Proof.MemoryG

open Cert.Kernel28Ideal Cert.Kernel28Ideal.Gen Cert.Kernel28Ideal.Value Idealize.ShloMosaic Idealize.ShloMosaic.TcCoe Idealize.SL.Sem
open Cert.Proof.Index
open Idealize.ShloMosaic.Pipeline (Dat)

/-! ## The kernel -/

/-- What a point stores: the product of its blocks. -/
theorem pay_at (x0 : Vec Ideal S256x1024 .f32) (x1 : Vec Ideal S256x512 .f32) (z : Fin 1) (a : Fin 1024) (d : Fin 512) :
    k0_pay1 x1 x0 (ix3 z a d) = ∑ i : Fin 256, x0 (ix2 i a) * x1 (ix2 i d) := by
  unfold k0_pay1
  pointwise [dot_S256x1024_S256x512_S1024x512_0_0_1_1_n_n]

/-- A point's block is the product of its input blocks. -/
theorem out_eq (x0 : Vec Ideal S256x1024 .f32) (x1 : Vec Ideal S256x512 .f32) : out0_2 x0 x1 = k0_pay1 x1 x0 := by
  unfold out0_2
  rw [View.canon_unit_zero zero3, View.ld_unit_zero zero2, View.ld_unit_zero zero2]

variable (m : (ℓ : Loc nD τ sig) → Buf (Elt Ideal) ℓ) (c : Dev nD)

/-- The rows of the memory. -/
def Z : Fin 256 → Fin 1024 → EReal := fun i a => (m ((c : Thread nD τ).loc main_arg0) : S256x1024.Idx → EReal) (ix2 i a)
/-- The rows of the gradient of the keys and values. -/
def Q : Fin 256 → Fin 2048 → EReal := fun i d => (m ((c : Thread nD τ).loc main_arg1) : S256x2048.Idx → EReal) (ix2 i d)

/-- The result: of row `a`, and of column `d` of the block of chip `j`. -/
def G (y : S4x1024x512.Idx) : EReal := ∑ i, Z m c i (y 1) * Q m c i (part 512 rfl (y 0 : Fin 4) (y 2))

/-- Where the blocks of a point lie. -/
theorem places (t : Fin cfg0.N) : (win0_0.index t 0 = 0 ∧ win0_0.index t 1 = 0) ∧ (win0_1.index t 0 = 0 ∧ win0_1.index t 1 = t.val)
    ∧ win0_2.index t 0 = t.val ∧ win0_2.index t 1 = 0 ∧ win0_2.index t 2 = 0 := by
  revert t
  decide +kernel

/-- The block of the memory at a point: all of it. -/
theorem block_z (t : Fin cfg0.N) (i : Fin 256) (a : Fin 1024) : (iblk m c 0 t : S256x1024.Idx → EReal) (ix2 i a) = Z m c i a := by
  obtain ⟨⟨h0, h1⟩, -, -⟩ := places t
  unfold iblk Z
  rw [View.read_apply]
  refine congrArg (m ((c : Thread nD τ).loc main_arg0) : S256x1024.Idx → EReal) (at2 _ _ _ ?_ ?_)
  · show win0_0.index t 0 * 256 + 1 * i.val = i.val; rw [h0]; omega
  · show win0_0.index t 1 * 1024 + 1 * a.val = a.val; rw [h1]; omega

/-- The block of the gradient at a point: the columns of its chip. -/
theorem block_q (t : Fin cfg0.N) (j : Fin 4) (hj : t.val = j.val) (i : Fin 256) (d : Fin 512) :
    (iblk m c 1 t : S256x512.Idx → EReal) (ix2 i d) = Q m c i (part 512 rfl j d) := by
  obtain ⟨-, ⟨h0, h1⟩, -⟩ := places t
  unfold iblk Q
  rw [View.read_apply]
  refine congrArg (m ((c : Thread nD τ).loc main_arg1) : S256x2048.Idx → EReal) (at2 _ _ _ ?_ ?_)
  · show win0_1.index t 0 * 256 + 1 * i.val = i.val; rw [h0]; omega
  · show win0_1.index t 1 * 512 + 1 * d.val = j.val * 512 + d.val; rw [h1]; omega

/-- The array at the end. -/
theorem array : (dats m 0 c).arrAt 2 cfg0.N = G m c := by
  refine (dats m 0 c).arrAt_eq_of_cover 2 (G m c) (fun t _ => ?_) (reached win0_2)
  obtain ⟨-, -, h0, h1, h2⟩ := places t
  have ht : t.val < 4 := t.isLt
  rw [flushed2 m c t, out_eq]
  funext x
  have hx : x = ix3 (x 0) (x 1) (x 2) := at3 (a := 1) (b := 1024) (c := 512) x (x 0) (x 1) (x 2) rfl rfl rfl
  have hy : ((cfg0.win 2).blk t).view.emb x = ix3 (⟨t.val, ht⟩ : Fin 4) (x 1) (x 2) := by
    refine at3 (a := 4) (b := 1024) (c := 512) _ _ _ _ ?_ ?_ ?_
    · show win0_2.index t 0 * 1 + 1 * (x 0).val = t.val
      have : (x 0).val < 1 := (x 0).isLt
      rw [h0]; omega
    · show win0_2.index t 1 * 1024 + 1 * (x 1).val = (x 1).val; rw [h1]; omega
    · show win0_2.index t 2 * 512 + 1 * (x 2).val = (x 2).val; rw [h2]; omega
  refine Eq.trans ?_ (congrArg (G m c) hy).symm
  refine (congrArg (k0_pay1 _ _) hx).trans ((pay_at _ _ (x 0) (x 1) (x 2)).trans ?_)
  exact Finset.sum_congr rfl fun i _ => congrArg₂ (fun x y : EReal => x * y) (block_z m c t i _) (block_q m c t ⟨t.val, ht⟩ rfl i _)

/-! ## The reference -/

section
open Cert.Reference28Ideal.Read

/-- The reference's result. -/
theorem ref_at (x0 : (⟨S256x1024, .f32⟩ : BufTy).Contents (Elt Ideal)) (x1 : (⟨S256x2048, .f32⟩ : BufTy).Contents (Elt Ideal))
    (j : Fin 4) (a : Fin 1024) (d : Fin 512) :
    val_main_v6 (F := Ideal) x0 x1 (ix3 j a d) = ∑ i : Fin 256, (x0 (ix2 i a) : EReal) * x1 (ix2 i (part 512 rfl j d)) := by
  rw [val_main_v6_apply, val_main_v5_apply, val_main_v4_apply, val_main_v3_apply]
  refine (val_main_v2_apply x0 x1 _).trans (Finset.sum_congr rfl fun i _ => ?_)
  refine (mul_comm _ _).trans (congrArg₂ (fun x y : EReal => x * y) (congrArg x0 (at2 _ _ _ rfl ?_)) (congrArg x1 (at2 _ _ _ rfl ?_)))
  · show ((a.val * 4 + j.val) * 512 + d.val) / 2048 = a.val; omega
  · show ((a.val * 4 + j.val) * 512 + d.val) % 2048 = j.val * 512 + d.val; omega

end

/-! ## The claims -/

/-- The reference leaves its arguments unchanged and every counter at zero. -/
theorem ref_frame : quiescent_Reference28Ideal (hReference28Ideal := Reference28Ideal.Gen.facts) := fun m ρ _ =>
  (θ_run Reference28Ideal.defs _ _).mono
    (fun r h => ⟨fun c => (h c).2, sem_eq_zero_of_no_sems (by decide) r.2⟩)
    (Reference28Ideal.Value.run m ρ)

/-- The kernel's result is the reference's. -/
theorem algebraic : algebraic_Kernel28Ideal_Reference28Ideal (hKernel28Ideal := Kernel28Ideal.Gen.facts)
    (hReference28Ideal := Reference28Ideal.Gen.facts) := by
  intro m g m' g' _ hargs
  refine ⟨fun c => G m c, ?_, ?_⟩
  · refine (θ_run Kernel28Ideal.defs _ _).mono (fun r h c => ?_) (Kernel28Ideal.Value.run_blocks m g)
    exact ⟨(h c).1.trans (array m c), (h c).2⟩
  · refine (θ_run Reference28Ideal.defs _ _).mono (fun r h c => ?_) (Reference28Ideal.Value.run m' g')
    obtain ⟨a0, a1⟩ := hargs c
    refine ⟨(h c).1.trans ((Reference28Ideal.Read.val_main_v6_eq _ _).trans ?_), (h c).2⟩
    rw [a0, a1]
    funext y
    exact (congrArg _ (at3 (a := 4) (b := 1024) (c := 512) y (y 0) (y 1) (y 2) rfl rfl rfl)).trans (ref_at _ _ _ _ _)

end Cert.Proof.MemoryG

end
-- ==== Proof.LossBack.lean ====
/- The last layer norm, the loss and the loss's gradients: the kernel's arrays, the reference's, and their equality. -/
module

public import proofs.«01_k».proof.Defs
public import proofs.«01_k».proof.Proof.Gen.Kernel29Ideal.Value
public import proofs.«01_k».proof.Proof.Gen.Reference29Ideal.Read
public import proofs.«01_k».proof.Proof.AttnClaim
public import proofs.«01_k».proof.Proof.NormRow
public import Idealize.ShloMosaic.Lib.Pointwise
public import Idealize.ShloMosaic.Lib.ReduceAll
public import Idealize.ShloMosaic.Lib.WholeRead
public import Idealize.ShloMosaic.Lib.VecWindow
public import Idealize.ShloMosaic.Lib.Pipeline.ValueKit.Geometry
public import Idealize.ShloMosaic.Adequacy
public import Idealize.ShloMosaic.Init

@[expose] public section

set_option maxRecDepth 16384

noncomputable section

namespace Cert.Proof.LossBack

open Cert.Kernel29Ideal Cert.Kernel29Ideal.Gen Cert.Kernel29Ideal.Value Idealize.ShloMosaic Idealize.ShloMosaic.TcCoe Idealize.SL.Sem
open Cert.Proof.Index Cert.Proof.Norm
open Idealize.ShloMosaic.Pipeline (Dat)

/-! ## The loss of a row -/

/-- An entry of the norm's input: of the scaled residual and the sublayer's result. -/
abbrev mix (h f : EReal) : EReal := Ideal.ofBits .f32 0x3F9837F0#32 * h + f

/-- An entry of the norm's result less the target's. -/
abbrev err (u g b t : EReal) : EReal := u * g + b - t

/-- The loss's gradient at an entry of the norm's result, as the kernel writes it, -/
abbrev slope (e : EReal) : EReal := e * Ideal.ofBits .f32 0x3A800000#32

/-- and as the derivative of the mean square writes it. -/
abbrev slopeLines (e : EReal) : EReal :=
  Ideal.div (Ideal.ofBits .f32 0x3F000000#32 * 1) (Ideal.ofBits .f32 0x44800000#32) * (Ideal.ofBits .f32 0x40000000#32 * e)

/-- The literal `1/2`, -/
theorem half : Ideal.ofBits .f32 0x3F000000#32 = ((1 / 2 : ℝ) : EReal) := by
  simp [Ideal.ofBits, Ideal.ieee, -EReal.coe_mul]; norm_num

/-- `2`, -/
theorem two : Ideal.ofBits .f32 0x40000000#32 = ((2 : ℝ) : EReal) := by
  simp [Ideal.ofBits, Ideal.ieee, -EReal.coe_mul]; norm_num

/-- `1/1024`, -/
theorem part1024 : Ideal.ofBits .f32 0x3A800000#32 = ((1 / 1024 : ℝ) : EReal) := by
  simp [Ideal.ofBits, Ideal.ieee, -EReal.coe_mul]; norm_num

/-- and `2048`. -/
theorem widths : Ideal.ofBits .f32 0x45000000#32 = ((2048 : ℝ) : EReal) := by
  simp [Ideal.ofBits, Ideal.ieee, -EReal.coe_mul]; norm_num

/-- The two agree at a real difference, -/
theorem slope_eq (r : ℝ) : slopeLines r = slope r := by
  unfold slopeLines slope
  rw [half, two, part1024, width_lit, mul_one, Ideal.div_coe (by norm_num), ← EReal.coe_mul, ← EReal.coe_mul, ← EReal.coe_mul]
  exact congrArg _ (by ring)

/-- which is what a difference is where gain, offset and target are real. -/
theorem err_real (x : Fin 1024 → EReal) (d : Fin 1024) (g b t : EReal) (hg : ∃ r : ℝ, g = r) (hb : ∃ r : ℝ, b = r) (ht : ∃ r : ℝ, t = r) :
    ∃ r : ℝ, err (unit x d) g b t = r := by
  obtain ⟨u, eu⟩ := unit_real x d
  obtain ⟨r, rfl⟩ := hg
  obtain ⟨s, rfl⟩ := hb
  obtain ⟨v, rfl⟩ := ht
  exact ⟨u * r + s - v, by unfold err; rw [eu, ← EReal.coe_mul, ← EReal.coe_add, ← EReal.coe_sub]⟩

/-- The mean squares of real differences, halved, added up and multiplied by twice the width, are the sum of their squares. -/
theorem loss_eq (e : Fin 4096 → Fin 1024 → ℝ) :
    Ideal.ofBits .f32 0x45000000#32 * (Ideal.ofBits .f32 0x3F000000#32 * ∑ i, mean (fun k => (e i k : EReal) * (e i k : EReal)))
      = ∑ d, ∑ i, (e i d : EReal) * (e i d : EReal) := by
  simp only [← EReal.coe_mul, mean_coe, sum_coe, half, widths]
  refine congrArg _ ?_
  rw [← Finset.sum_mul, Finset.sum_comm]
  ring

/-! ## The kernel -/

/-- A row of a block of the norm's input. -/
abbrev row (h f : Vec Ideal S1024x1024 .f32) (i : Fin 1024) : Fin 1024 → EReal := fun k => mix (h (ix2 i k)) (f (ix2 i k))

/-- The block's centred rows, -/
theorem pay8_at (h f : Vec Ideal S1024x1024 .f32) (i d : Fin 1024) : k0_pay8 h f (ix2 i d) = cen (row h f i) d := by
  unfold k0_pay8
  pointwise
  rfl

/-- their reciprocal deviations, -/
theorem pay9_at (h f : Vec Ideal S1024x1024 .f32) (i : Fin 1024) : k0_pay9 h f (ix2 i (0 : Fin 1)) = rs (row h f i) := by
  unfold k0_pay9
  pointwise
  simp only [pay8_at]
  rfl

/-- its normed rows, -/
theorem pay10_at (h f : Vec Ideal S1024x1024 .f32) (i d : Fin 1024) : k0_pay10 h f (ix2 i d) = unit (row h f i) d := by
  unfold k0_pay10
  pointwise
  rw [pay8_at, pay9_at]
  rfl

/-- the differences from the target, -/
theorem pay11_at (h f : Vec Ideal S1024x1024 .f32) (g b : Vec Ideal S1x1024 .f32) (t : Vec Ideal S1024x1024 .f32) (i d : Fin 1024) :
    k0_pay11 h f g b t (ix2 i d) = err (unit (row h f i) d) (g (ix2 0 d)) (b (ix2 0 d)) (t (ix2 i d)) := by
  unfold k0_pay11
  pointwise
  rw [pay10_at]

/-- the loss's gradient at the norm's result, -/
theorem pay12_at (h f : Vec Ideal S1024x1024 .f32) (g b : Vec Ideal S1x1024 .f32) (t : Vec Ideal S1024x1024 .f32) (i d : Fin 1024) :
    k0_pay12 h f g b t (ix2 i d) = slope (err (unit (row h f i) d) (g (ix2 0 d)) (b (ix2 0 d)) (t (ix2 i d))) := by
  unfold k0_pay12
  pointwise
  rw [pay11_at]

/-- and at the normed rows, -/
theorem pay13_at (h f : Vec Ideal S1024x1024 .f32) (g b : Vec Ideal S1x1024 .f32) (t : Vec Ideal S1024x1024 .f32) (i d : Fin 1024) :
    k0_pay13 h f g b t g (ix2 i d) = slope (err (unit (row h f i) d) (g (ix2 0 d)) (b (ix2 0 d)) (t (ix2 i d))) * g (ix2 0 d) := by
  unfold k0_pay13
  pointwise
  rw [pay12_at]

/-- and what a point stores of the gradient of the rows. -/
theorem pay14_at (h f : Vec Ideal S1024x1024 .f32) (y : Vec Ideal S1024x1024 .f32) (i d : Fin 1024) :
    k0_pay14 (k0_pay9 h f) (k0_pay10 h f) y (ix2 i d) = grad (row h f i) (fun k => y (ix2 i k)) d := by
  unfold k0_pay14
  pointwise
  simp only [pay9_at, pay10_at]
  rfl

/-- What a point adds to a part of the gain's gradient, -/
theorem pay15_at (h f y : Vec Ideal S1024x1024 .f32) (s : Vec Ideal S8x1024 .f32) (a : Fin 8) (d : Fin 1024) :
    k0_pay15 (k0_pay10 h f) y s (ix2 a d)
      = s (ix2 a d) + ∑ b : Fin 128, y (ix2 (part (n := 1024) 8 rfl b a) d) * unit (row h f (part (n := 1024) 8 rfl b a)) d := by
  unfold k0_pay15
  pointwise
  simp only [pay10_at]
  rfl

/-- of the offset's, -/
theorem pay16_at (y : Vec Ideal S1024x1024 .f32) (s : Vec Ideal S8x1024 .f32) (a : Fin 8) (d : Fin 1024) :
    k0_pay16 y s (ix2 a d) = s (ix2 a d) + ∑ b : Fin 128, y (ix2 (part (n := 1024) 8 rfl b a) d) := by
  unfold k0_pay16
  pointwise
  rfl

/-- and of the squares. -/
theorem pay17_at (e : Vec Ideal S1024x1024 .f32) (s : Vec Ideal S8x1024 .f32) (a : Fin 8) (d : Fin 1024) :
    k0_pay17 e s (ix2 a d) = s (ix2 a d) + ∑ b : Fin 128, e (ix2 (part (n := 1024) 8 rfl b a) d) * e (ix2 (part (n := 1024) 8 rfl b a) d) := by
  unfold k0_pay17
  pointwise
  rfl

/-- The squares go back as they are. -/
theorem pay1_eq (s : FVec Ideal S8x1024 .f32) : k0_pay1 s = s := by
  funext y
  obtain ⟨a, d, rfl⟩ : ∃ (a : Fin 8) (d : Fin 1024), y = ix2 a d := ⟨y 0, y 1, eq_ix2 y⟩
  unfold k0_pay1
  pointwise

/-- The last point adds the eight parts up, -/
theorem pay2_at (s : Vec Ideal S8x1024 .f32) (z : Fin 1) (d : Fin 1024) : k0_pay2 s (ix2 z d) = ∑ a : Fin 8, s (ix2 a d) := by
  unfold k0_pay2
  pointwise

theorem pay3_at (s : Vec Ideal S8x1024 .f32) (z : Fin 1) (d : Fin 1024) : k0_pay3 s (ix2 z d) = ∑ a : Fin 8, s (ix2 a d) := by
  unfold k0_pay3
  pointwise

/-- those of the squares over the columns too. -/
theorem pay4_at (s : Vec Ideal S8x1024 .f32) (z : Fin 1) (d : Fin 128) : k0_pay4 s (ix2 z d) = ∑ k : Fin 1024, ∑ a : Fin 8, s (ix2 a k) := by
  unfold k0_pay4
  pointwise

/-- The parts start at zero. -/
theorem pay5_at (a : Fin 8) (d : Fin 1024) : k0_pay5 (F := Ideal) (ix2 a d) = (0 : EReal) := by
  unfold k0_pay5
  pointwise

theorem pay6_at (a : Fin 8) (d : Fin 1024) : k0_pay6 (F := Ideal) (ix2 a d) = (0 : EReal) := by
  unfold k0_pay6
  pointwise

theorem pay7_at (a : Fin 8) (d : Fin 1024) : k0_pay7 (F := Ideal) (ix2 a d) = (0 : EReal) := by
  unfold k0_pay7
  pointwise

section
variable (c : Dev nD) (i : grid0.Coords) (b1 : Memref sig .tc .vmem S1024x1024 .f32) (k1 : b1.IsWhole) (b2 : Memref sig .tc .vmem S1024x1024 .f32) (k2 : b2.IsWhole)
  (b3 : Memref sig .tc .vmem S1x1024 .f32) (k3 : b3.IsWhole) (b4 : Memref sig .tc .vmem S1x1024 .f32) (k4 : b4.IsWhole)
  (b5 : Memref sig .tc .vmem S1024x1024 .f32) (k5 : b5.IsWhole) (b6 : Memref sig .tc .vmem S1024x1024 .bf16) (k6 : b6.IsWhole)
  (b7 : Memref sig .tc .vmem S1x1024 .f32) (k7 : b7.IsWhole) (b8 : Memref sig .tc .vmem S1x1024 .f32) (k8 : b8.IsWhole)
  (b9 : Memref sig .tc .vmem S1x128 .f32) (k9 : b9.IsWhole) (b10 : Memref sig .tc .vmem S8x1024 .f32) (k10 : b10.IsWhole)
  (b11 : Memref sig .tc .vmem S8x1024 .f32) (k11 : b11.IsWhole) (b12 : Memref sig .tc .vmem S8x1024 .f32) (k12 : b12.IsWhole)
  (x0 x1 : Vec Ideal S1024x1024 .f32) (x2 x3 : Vec Ideal S1x1024 .f32) (x4 : Vec Ideal S1024x1024 .f32) (s0 s1 s2 : Vec Ideal S8x1024 .f32)

/-- What the first point stores of the gradient of the rows, -/
theorem outA5 (h0 h1) : out0_A_5 c i b1 k1 b2 k2 b3 k3 b4 k4 b5 k5 b6 k6 b7 k7 b8 k8 b9 k9 b10 k10 b11 k11 b12 k12
      h0 h1 x0 x1 x2 x3 x4
    = k0_pay14 (k0_pay9 x1 x0) (k0_pay10 x1 x0) (k0_pay13 x1 x0 x2 x3 x4 x2) := by
  unfold out0_A_5 kernelRun0_A
  dsimp only
  refine (View.read_writes_full VO0_5 VO0_5.junk _ _ _).trans ?_
  unfold kernelRun0_A.sl.r kernelRun0_A.sl.r_1 kernelRun0_A.sl.r_4
  iterate 5 rw [View.readAt_full]
  rw [k1.read_unread, k2.read_unread, k3.read_unread, k4.read_unread, k5.read_unread]
/-- a point between, -/
theorem outB5 (h0 h1) : out0_B_5 c i b1 k1 b2 k2 b3 k3 b4 k4 b5 k5 b6 k6 b7 k7 b8 k8 b9 k9 b10 k10 b11 k11 b12 k12
      h0 h1 x0 x1 x2 x3 x4 s0 s1 s2
    = k0_pay14 (k0_pay9 x1 x0) (k0_pay10 x1 x0) (k0_pay13 x1 x0 x2 x3 x4 x2) := by
  unfold out0_B_5 kernelRun0_B
  dsimp only
  refine (View.read_writes_full VO0_5 VO0_5.junk _ _ _).trans ?_
  unfold kernelRun0_B.sl.r kernelRun0_B.sl.r_1 kernelRun0_B.sl.r_4
  iterate 5 rw [View.readAt_full]
  rw [k1.read_unread, k2.read_unread, k3.read_unread, k4.read_unread, k5.read_unread]
/-- and the last. -/
theorem outC5 (h0 h1) : out0_C_5 c i b1 k1 b2 k2 b3 k3 b4 k4 b5 k5 b6 k6 b7 k7 b8 k8 b9 k9 b10 k10 b11 k11 b12 k12
      h0 h1 x0 x1 x2 x3 x4 s0 s1 s2
    = k0_pay14 (k0_pay9 x1 x0) (k0_pay10 x1 x0) (k0_pay13 x1 x0 x2 x3 x4 x2) := by
  unfold out0_C_5 kernelRun0_C
  dsimp only
  refine (View.read_writes_full VO0_5 VO0_5.junk _ _ _).trans ?_
  unfold kernelRun0_C.sl.r kernelRun0_C.sl.r_1 kernelRun0_C.sl.r_4
  iterate 5 rw [View.readAt_full]
  rw [k1.read_unread, k2.read_unread, k3.read_unread, k4.read_unread, k5.read_unread]
/-- What the first point leaves of the parts of the gain's gradient, -/
theorem soutA0 (h0 h1) : sout0_A_0 c i b1 k1 b2 k2 b3 k3 b4 k4 b5 k5 b6 k6 b7 k7 b8 k8 b9 k9 b10 k10 b11 k11 b12 k12
      h0 h1 x0 x1 x2 x3 x4
    = k0_pay15 (k0_pay10 x1 x0) (k0_pay12 x1 x0 x2 x3 x4) (k0_pay5 (F := Ideal)) := by
  unfold sout0_A_0 kernelRun0_A
  dsimp only
  refine (View.read_writes_full VS0_0 VS0_0.junk _ _ _).trans ?_
  unfold kernelRun0_A.sl.r_3 kernelRun0_A.sl.r_1 kernelRun0_A.sl.v55 kernelRun0_A.sl.HS0_1
  rw [View.readCov_full]
  iterate 5 rw [View.readAt_full]
  rw [k1.read_unread, k2.read_unread, k3.read_unread, k4.read_unread, k5.read_unread]
/-- a point between, -/
theorem soutB0 (h0 h1) : sout0_B_0 c i b1 k1 b2 k2 b3 k3 b4 k4 b5 k5 b6 k6 b7 k7 b8 k8 b9 k9 b10 k10 b11 k11 b12 k12
      h0 h1 x0 x1 x2 x3 x4 s0 s1 s2
    = k0_pay15 (k0_pay10 x1 x0) (k0_pay12 x1 x0 x2 x3 x4) s0 := by
  unfold sout0_B_0 kernelRun0_B
  dsimp only
  refine (View.read_writes_full VS0_0 VS0_0.junk _ _ _).trans ?_
  unfold kernelRun0_B.sl.r_1 kernelRun0_B.sl.r_3
  iterate 6 rw [View.readAt_full]
  rw [k1.read_unread, k2.read_unread, k3.read_unread, k4.read_unread, k5.read_unread, k10.read_unread]
/-- and the last. -/
theorem soutC0 (h0 h1) : sout0_C_0 c i b1 k1 b2 k2 b3 k3 b4 k4 b5 k5 b6 k6 b7 k7 b8 k8 b9 k9 b10 k10 b11 k11 b12 k12
      h0 h1 x0 x1 x2 x3 x4 s0 s1 s2
    = k0_pay15 (k0_pay10 x1 x0) (k0_pay12 x1 x0 x2 x3 x4) s0 := by
  unfold sout0_C_0 kernelRun0_C
  dsimp only
  refine (View.read_writes_full VS0_0 VS0_0.junk _ _ _).trans ?_
  unfold kernelRun0_C.sl.r_1 kernelRun0_C.sl.r_3
  iterate 6 rw [View.readAt_full]
  rw [k1.read_unread, k2.read_unread, k3.read_unread, k4.read_unread, k5.read_unread, k10.read_unread]
/-- What the first point leaves of the parts of the offset's gradient, -/
theorem soutA1 (h0 h1) : sout0_A_1 c i b1 k1 b2 k2 b3 k3 b4 k4 b5 k5 b6 k6 b7 k7 b8 k8 b9 k9 b10 k10 b11 k11 b12 k12
      h0 h1 x0 x1 x2 x3 x4
    = k0_pay16 (k0_pay12 x1 x0 x2 x3 x4) (k0_pay6 (F := Ideal)) := by
  unfold sout0_A_1 kernelRun0_A
  dsimp only
  refine (View.read_writes_full VS0_1 VS0_1.junk _ _ _).trans ?_
  unfold kernelRun0_A.sl.r_3 kernelRun0_A.sl.v63 kernelRun0_A.sl.HS1_1
  rw [View.readCov_full]
  iterate 5 rw [View.readAt_full]
  rw [k1.read_unread, k2.read_unread, k3.read_unread, k4.read_unread, k5.read_unread]
/-- a point between, -/
theorem soutB1 (h0 h1) : sout0_B_1 c i b1 k1 b2 k2 b3 k3 b4 k4 b5 k5 b6 k6 b7 k7 b8 k8 b9 k9 b10 k10 b11 k11 b12 k12
      h0 h1 x0 x1 x2 x3 x4 s0 s1 s2
    = k0_pay16 (k0_pay12 x1 x0 x2 x3 x4) s1 := by
  unfold sout0_B_1 kernelRun0_B
  dsimp only
  refine (View.read_writes_full VS0_1 VS0_1.junk _ _ _).trans ?_
  unfold kernelRun0_B.sl.r_3
  iterate 6 rw [View.readAt_full]
  rw [k1.read_unread, k2.read_unread, k3.read_unread, k4.read_unread, k5.read_unread, k11.read_unread]
/-- and the last. -/
theorem soutC1 (h0 h1) : sout0_C_1 c i b1 k1 b2 k2 b3 k3 b4 k4 b5 k5 b6 k6 b7 k7 b8 k8 b9 k9 b10 k10 b11 k11 b12 k12
      h0 h1 x0 x1 x2 x3 x4 s0 s1 s2
    = k0_pay16 (k0_pay12 x1 x0 x2 x3 x4) s1 := by
  unfold sout0_C_1 kernelRun0_C
  dsimp only
  refine (View.read_writes_full VS0_1 VS0_1.junk _ _ _).trans ?_
  unfold kernelRun0_C.sl.r_3
  iterate 6 rw [View.readAt_full]
  rw [k1.read_unread, k2.read_unread, k3.read_unread, k4.read_unread, k5.read_unread, k11.read_unread]
/-- What the first point leaves of the parts of the squares, -/
theorem soutA2 (h0 h1) : sout0_A_2 c i b1 k1 b2 k2 b3 k3 b4 k4 b5 k5 b6 k6 b7 k7 b8 k8 b9 k9 b10 k10 b11 k11 b12 k12
      h0 h1 x0 x1 x2 x3 x4
    = k0_pay17 (k0_pay11 x1 x0 x2 x3 x4) (k0_pay7 (F := Ideal)) := by
  unfold sout0_A_2 kernelRun0_A
  dsimp only
  refine (View.read_writes_full VS0_2 VS0_2.junk _ _ _).trans ?_
  refine (pay1_eq _).trans ?_
  unfold kernelRun0_A.sl.r_5 kernelRun0_A.sl.r_2 kernelRun0_A.sl.v70 kernelRun0_A.sl.HS2_1
  rw [View.readCov_full]
  iterate 5 rw [View.readAt_full]
  rw [k1.read_unread, k2.read_unread, k3.read_unread, k4.read_unread, k5.read_unread]
/-- a point between, -/
theorem soutB2 (h0 h1) : sout0_B_2 c i b1 k1 b2 k2 b3 k3 b4 k4 b5 k5 b6 k6 b7 k7 b8 k8 b9 k9 b10 k10 b11 k11 b12 k12
      h0 h1 x0 x1 x2 x3 x4 s0 s1 s2
    = k0_pay17 (k0_pay11 x1 x0 x2 x3 x4) s2 := by
  unfold sout0_B_2 kernelRun0_B
  dsimp only
  refine (View.read_writes_full VS0_2 VS0_2.junk _ _ _).trans ?_
  refine (pay1_eq _).trans ?_
  unfold kernelRun0_B.sl.r_5 kernelRun0_B.sl.r_2
  iterate 6 rw [View.readAt_full]
  rw [k1.read_unread, k2.read_unread, k3.read_unread, k4.read_unread, k5.read_unread, k12.read_unread]
/-- and the last. -/
theorem soutC2 (h0 h1) : sout0_C_2 c i b1 k1 b2 k2 b3 k3 b4 k4 b5 k5 b6 k6 b7 k7 b8 k8 b9 k9 b10 k10 b11 k11 b12 k12
      h0 h1 x0 x1 x2 x3 x4 s0 s1 s2
    = k0_pay17 (k0_pay11 x1 x0 x2 x3 x4) s2 := by
  unfold sout0_C_2 kernelRun0_C
  dsimp only
  refine (View.read_writes_full VS0_2 VS0_2.junk _ _ _).trans ?_
  refine (pay1_eq _).trans ?_
  unfold kernelRun0_C.sl.r_5 kernelRun0_C.sl.r_2
  iterate 6 rw [View.readAt_full]
  rw [k1.read_unread, k2.read_unread, k3.read_unread, k4.read_unread, k5.read_unread, k12.read_unread]
/-- What the last point stores of the gain's gradient, -/
theorem outC6 (h0 h1) : out0_C_6 c i b1 k1 b2 k2 b3 k3 b4 k4 b5 k5 b6 k6 b7 k7 b8 k8 b9 k9 b10 k10 b11 k11 b12 k12
      h0 h1 x0 x1 x2 x3 x4 s0 s1 s2
    = k0_pay2 (k0_pay15 (k0_pay10 x1 x0) (k0_pay12 x1 x0 x2 x3 x4) s0) := by
  unfold out0_C_6 kernelRun0_C
  dsimp only
  refine (View.read_writes_full VO0_6 VO0_6.junk _ _ _).trans ?_
  unfold kernelRun0_C.sl.v81 kernelRun0_C.sl.HS0_1 kernelRun0_C.sl.r_1 kernelRun0_C.sl.r_3
  refine congrArg k0_pay2 ((View.readCov_full b10.view _ _ _ _).trans ?_)
  iterate 6 rw [View.readAt_full]
  rw [k1.read_unread, k2.read_unread, k3.read_unread, k4.read_unread, k5.read_unread, k10.read_unread]
/-- of the offset's -/
theorem outC7 (h0 h1) : out0_C_7 c i b1 k1 b2 k2 b3 k3 b4 k4 b5 k5 b6 k6 b7 k7 b8 k8 b9 k9 b10 k10 b11 k11 b12 k12
      h0 h1 x0 x1 x2 x3 x4 s0 s1 s2
    = k0_pay3 (k0_pay16 (k0_pay12 x1 x0 x2 x3 x4) s1) := by
  unfold out0_C_7 kernelRun0_C
  dsimp only
  refine (View.read_writes_full VO0_7 VO0_7.junk _ _ _).trans ?_
  unfold kernelRun0_C.sl.v85 kernelRun0_C.sl.HS1_1 kernelRun0_C.sl.r_3
  refine congrArg k0_pay3 ((View.readCov_full b11.view _ _ _ _).trans ?_)
  iterate 6 rw [View.readAt_full]
  rw [k1.read_unread, k2.read_unread, k3.read_unread, k4.read_unread, k5.read_unread, k11.read_unread]
/-- and of the squares. -/
theorem outC8 (h0 h1) : out0_C_8 c i b1 k1 b2 k2 b3 k3 b4 k4 b5 k5 b6 k6 b7 k7 b8 k8 b9 k9 b10 k10 b11 k11 b12 k12
      h0 h1 x0 x1 x2 x3 x4 s0 s1 s2
    = k0_pay4 (k0_pay17 (k0_pay11 x1 x0 x2 x3 x4) s2) := by
  unfold out0_C_8 kernelRun0_C
  dsimp only
  refine (View.read_writes_full VO0_8 VO0_8.junk _ _ _).trans ?_
  unfold kernelRun0_C.sl.v89 kernelRun0_C.sl.HS2_1 kernelRun0_C.sl.r_5 kernelRun0_C.sl.r_2
  refine congrArg k0_pay4 ((View.readCov_full b12.view _ _ _ _).trans ?_)
  refine (pay1_eq _).trans ?_
  iterate 6 rw [View.readAt_full]
  rw [k1.read_unread, k2.read_unread, k3.read_unread, k4.read_unread, k5.read_unread, k12.read_unread]
end

variable (m : (ℓ : Loc nD τ sig) → Buf (Elt Ideal) ℓ) (c : Dev nD)

/-- The rows of the norm's input. -/
def X (i : Fin 4096) : Fin 1024 → EReal := fun d =>
  mix ((m ((c : Thread nD τ).loc main_arg1) : S4096x1024.Idx → EReal) (ix2 i d)) ((m ((c : Thread nD τ).loc main_arg0) : S4096x1024.Idx → EReal) (ix2 i d))
/-- The gain. -/
def gain : Fin 1024 → EReal := fun d => (m ((c : Thread nD τ).loc main_arg2) : S1x1024.Idx → EReal) (ix2 0 d)
/-- The offset. -/
def offs : Fin 1024 → EReal := fun d => (m ((c : Thread nD τ).loc main_arg3) : S1x1024.Idx → EReal) (ix2 0 d)
/-- The rows of the target. -/
def goal : Fin 4096 → Fin 1024 → EReal := fun i d => (m ((c : Thread nD τ).loc main_arg4) : S4096x1024.Idx → EReal) (ix2 i d)
/-- The differences from the target. -/
def E : Fin 4096 → Fin 1024 → EReal := fun i d => err (unit (X m c i) d) (gain m c d) (offs m c d) (goal m c i d)

/-- The gradient of the rows. -/
def dr (y : S4096x1024.Idx) : EReal := grad (X m c (y 0)) (fun k => slope (E m c (y 0) k) * gain m c k) (y 1)
/-- The gradient of the gain. -/
def dg (y : S1x1024.Idx) : EReal := ∑ i, slope (E m c i (y 1)) * unit (X m c i) (y 1)
/-- The gradient of the offset. -/
def db (y : S1x1024.Idx) : EReal := ∑ i, slope (E m c i (y 1))
/-- The sum of the squares. -/
def sq (_ : S1x128.Idx) : EReal := ∑ d, ∑ i, E m c i d * E m c i d

/-- Where the blocks of a point lie. -/
theorem places (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0) ∧ win0_8.index t 0 = 0 ∧ win0_8.index t 1 = 0 := by
  revert t
  decide +kernel

/-- The block of the sublayer's result at a point, -/
theorem block_f (t : Fin cfg0.N) (i d : Fin 1024) : (iblk m c 0 t : S1024x1024.Idx → EReal) (ix2 i d)
    = (m ((c : Thread nD τ).loc main_arg0) : S4096x1024.Idx → EReal) (ix2 (part 1024 rfl (t : Fin 4) i) d) := by
  obtain ⟨⟨h0, h1⟩, -⟩ := places t
  unfold iblk
  rw [View.read_apply]
  refine (congrFun (V_main_arg0 m c) _).trans (congrArg (m ((c : Thread nD τ).loc main_arg0) : S4096x1024.Idx → EReal) (at2 _ _ _ ?_ ?_))
  · show win0_0.index t 0 * 1024 + 1 * i.val = t.val * 1024 + i.val; rw [h0]; omega
  · show win0_0.index t 1 * 1024 + 1 * d.val = d.val; rw [h1]; omega

/-- of the residual, -/
theorem block_h (t : Fin cfg0.N) (i d : Fin 1024) : (iblk m c 1 t : S1024x1024.Idx → EReal) (ix2 i d)
    = (m ((c : Thread nD τ).loc main_arg1) : S4096x1024.Idx → EReal) (ix2 (part 1024 rfl (t : Fin 4) i) d) := by
  obtain ⟨-, ⟨h0, h1⟩, -⟩ := places t
  unfold iblk
  rw [View.read_apply]
  refine (congrFun (V_main_arg1 m c) _).trans (congrArg (m ((c : Thread nD τ).loc main_arg1) : S4096x1024.Idx → EReal) (at2 _ _ _ ?_ ?_))
  · show win0_1.index t 0 * 1024 + 1 * i.val = t.val * 1024 + i.val; rw [h0]; omega
  · show win0_1.index t 1 * 1024 + 1 * d.val = d.val; rw [h1]; omega

/-- of the gain, -/
theorem block_g (t : Fin cfg0.N) (d : Fin 1024) : (iblk m c 2 t : S1x1024.Idx → EReal) (ix2 0 d) = gain m c d := by
  obtain ⟨-, -, ⟨h0, h1⟩, -⟩ := places t
  unfold iblk gain
  rw [View.read_apply]
  refine (congrFun (V_main_arg2 m c) _).trans (congrArg (m ((c : Thread nD τ).loc main_arg2) : S1x1024.Idx → EReal) (at2 _ _ _ ?_ ?_))
  · show win0_2.index t 0 * 1 + 1 * 0 = 0; rw [h0]
  · show win0_2.index t 1 * 1024 + 1 * d.val = d.val; rw [h1]; omega

/-- of the offset, -/
theorem block_b (t : Fin cfg0.N) (d : Fin 1024) : (iblk m c 3 t : S1x1024.Idx → EReal) (ix2 0 d) = offs m c d := by
  obtain ⟨-, -, -, ⟨h0, h1⟩, -⟩ := places t
  unfold iblk offs
  rw [View.read_apply]
  refine (congrFun (V_main_arg3 m c) _).trans (congrArg (m ((c : Thread nD τ).loc main_arg3) : S1x1024.Idx → EReal) (at2 _ _ _ ?_ ?_))
  · show win0_3.index t 0 * 1 + 1 * 0 = 0; rw [h0]
  · show win0_3.index t 1 * 1024 + 1 * d.val = d.val; rw [h1]; omega

/-- and of the target. -/
theorem block_t (t : Fin cfg0.N) (i d : Fin 1024) : (iblk m c 4 t : S1024x1024.Idx → EReal) (ix2 i d) = goal m c (part 1024 rfl (t : Fin 4) i) d := by
  obtain ⟨-, -, -, -, ⟨h0, h1⟩, -⟩ := places t
  unfold iblk goal
  rw [View.read_apply]
  refine (congrFun (V_main_arg4 m c) _).trans (congrArg (m ((c : Thread nD τ).loc main_arg4) : S4096x1024.Idx → EReal) (at2 _ _ _ ?_ ?_))
  · show win0_4.index t 0 * 1024 + 1 * i.val = t.val * 1024 + i.val; rw [h0]; omega
  · show win0_4.index t 1 * 1024 + 1 * d.val = d.val; rw [h1]; omega

/-- The blocks of a point: its arguments. -/
structure Blocks (t : Fin cfg0.N) (x0 x1 : Vec Ideal S1024x1024 .f32) (x2 x3 : Vec Ideal S1x1024 .f32) (x4 : Vec Ideal S1024x1024 .f32) : Prop where
  row_eq : ∀ i, row x1 x0 i = X m c (part 1024 rfl (t : Fin 4) i)
  gain_eq : ∀ d, x2 (ix2 0 d) = gain m c d
  offs_eq : ∀ d, x3 (ix2 0 d) = offs m c d
  goal_eq : ∀ i d, x4 (ix2 i d) = goal m c (part 1024 rfl (t : Fin 4) i) d

/-- The blocks that a point takes are these. -/
theorem blocks (t : Fin cfg0.N) : Blocks m c t (iblk m c 0 t) (iblk m c 1 t) (iblk m c 2 t) (iblk m c 3 t) (iblk m c 4 t) :=
  ⟨fun i => funext fun d => congrArg₂ mix (block_h m c t i d) (block_f m c t i d), block_g m c t, block_b m c t, block_t m c t⟩

section
variable {m c} {t : Fin cfg0.N} {x0 x1 : Vec Ideal S1024x1024 .f32} {x2 x3 : Vec Ideal S1x1024 .f32} {x4 : Vec Ideal S1024x1024 .f32}

/-- Its differences, -/
theorem Blocks.err_at (h : Blocks m c t x0 x1 x2 x3 x4) (i d : Fin 1024) : k0_pay11 x1 x0 x2 x3 x4 (ix2 i d) = E m c (part 1024 rfl (t : Fin 4) i) d := by
  rw [pay11_at, h.row_eq, h.gain_eq, h.offs_eq, h.goal_eq]
  rfl

/-- and the gradients at the norm's result. -/
theorem Blocks.slope_at (h : Blocks m c t x0 x1 x2 x3 x4) (i d : Fin 1024) :
    k0_pay12 x1 x0 x2 x3 x4 (ix2 i d) = slope (E m c (part 1024 rfl (t : Fin 4) i) d) := by
  rw [pay12_at, h.row_eq, h.gain_eq, h.offs_eq, h.goal_eq]
  rfl

/-- What its rows add to a part of the gain's gradient, -/
theorem Blocks.share0 (h : Blocks m c t x0 x1 x2 x3 x4) (s : Vec Ideal S8x1024 .f32) (a : Fin 8) (d : Fin 1024) :
    k0_pay15 (k0_pay10 x1 x0) (k0_pay12 x1 x0 x2 x3 x4) s (ix2 a d)
      = s (ix2 a d) + eighth (fun i => slope (E m c i d) * unit (X m c i) d) a t.val := by
  rw [pay15_at]
  unfold eighth
  rw [dif_pos (show t.val < 4 from t.isLt)]
  refine congrArg (s (ix2 a d) + ·) (Finset.sum_congr rfl fun b _ => ?_)
  rw [h.slope_at, h.row_eq]
  rfl

/-- of the offset's, -/
theorem Blocks.share1 (h : Blocks m c t x0 x1 x2 x3 x4) (s : Vec Ideal S8x1024 .f32) (a : Fin 8) (d : Fin 1024) :
    k0_pay16 (k0_pay12 x1 x0 x2 x3 x4) s (ix2 a d) = s (ix2 a d) + eighth (fun i => slope (E m c i d)) a t.val := by
  rw [pay16_at]
  unfold eighth
  rw [dif_pos (show t.val < 4 from t.isLt)]
  exact congrArg (s (ix2 a d) + ·) (Finset.sum_congr rfl fun b _ => h.slope_at _ _)

/-- and of the squares. -/
theorem Blocks.share2 (h : Blocks m c t x0 x1 x2 x3 x4) (s : Vec Ideal S8x1024 .f32) (a : Fin 8) (d : Fin 1024) :
    k0_pay17 (k0_pay11 x1 x0 x2 x3 x4) s (ix2 a d) = s (ix2 a d) + eighth (fun i => E m c i d * E m c i d) a t.val := by
  rw [pay17_at]
  unfold eighth
  rw [dif_pos (show t.val < 4 from t.isLt)]
  refine congrArg (s (ix2 a d) + ·) (Finset.sum_congr rfl fun b _ => ?_)
  rw [h.err_at]
  rfl

/-- The gradient of its rows. -/
theorem Blocks.rows (h : Blocks m c t x0 x1 x2 x3 x4) (i d : Fin 1024) :
    k0_pay14 (k0_pay9 x1 x0) (k0_pay10 x1 x0) (k0_pay13 x1 x0 x2 x3 x4 x2) (ix2 i d) = dr m c (ix2 (part 1024 rfl (t : Fin 4) i) d) := by
  rw [pay14_at, h.row_eq]
  refine congrArg (fun f => grad (X m c (part 1024 rfl (t : Fin 4) i)) f d) (funext fun k => ?_)
  rw [pay13_at, h.row_eq, h.gain_eq, h.offs_eq, h.goal_eq]
  rfl

end

/-! ### The gradient of the rows -/

/-- Every point stores the gradient of its rows. -/
theorem store5 (t : Fin cfg0.N) : (outsAt0 m c t.val t.isLt).1
    = k0_pay14 (k0_pay9 (iblk m c 1 t) (iblk m c 0 t)) (k0_pay10 (iblk m c 1 t) (iblk m c 0 t))
        (k0_pay13 (iblk m c 1 t) (iblk m c 0 t) (iblk m c 2 t) (iblk m c 3 t) (iblk m c 4 t) (iblk m c 2 t)) := by
  have ht : t.val < 4 := t.isLt
  by_cases h0 : t.val % 4 = 0
  · rw [outsAt0_A m c t h0 (by omega)]
    dsimp only
    rw [outA5]
  · by_cases h2 : t.val % 4 = 3
    · rw [outsAt0_C m c t h0 h2]
      dsimp only
      rw [outC5]
    · rw [outsAt0_B m c t h0 h2]
      dsimp only
      rw [outB5]

/-- What a point writes back of it. -/
theorem written5 (t : Fin cfg0.N) : (dats m 0 c).flushed 5 t = ((cfg0.win 5).blk t).view.read (Elt Ideal) (dr m c) := by
  obtain ⟨-, -, -, -, -, ⟨h0, h1⟩, -⟩ := places t
  rw [flushed5, store5]
  funext y
  obtain ⟨i, d, rfl⟩ : ∃ (i d : Fin 1024), y = ix2 i d := ⟨y 0, y 1, eq_ix2 y⟩
  rw [View.read_apply]
  have hy : ((cfg0.win 5).blk t).view.emb (ix2 i d) = ix2 (part 1024 rfl (t : Fin 4) i) d := by
    refine at2 (a := 4096) (b := 1024) _ _ _ ?_ ?_
    · show win0_5.index t 0 * 1024 + 1 * i.val = t.val * 1024 + i.val; rw [h0]; omega
    · show win0_5.index t 1 * 1024 + 1 * d.val = d.val; rw [h1]; omega
  refine Eq.trans ?_ (congrArg (dr m c) hy).symm
  exact (blocks m c t).rows i d

/-- The first array at the end. -/
theorem array5 : (dats m 0 c).arrAt 5 cfg0.N = dr m c :=
  (dats m 0 c).arrAt_eq_of_cover 5 (dr m c) (fun t _ => written5 m c t)
    (reached win0_5)

/-! ### The gradients of the gain and of the offset, and the squares -/

/-- What a point leaves of the parts: what the rows of the points so far add up to. -/
theorem parts (n : ℕ) (hn : n < cfg0.N) (a : Fin 8) (d : Fin 1024) :
    (outsAt0 m c n hn).2.2.2.2.1 (ix2 a d) = ∑ r ∈ Finset.range (n + 1), eighth (fun i => slope (E m c i d) * unit (X m c i) d) a r
    ∧ (outsAt0 m c n hn).2.2.2.2.2.1 (ix2 a d) = ∑ r ∈ Finset.range (n + 1), eighth (fun i => slope (E m c i d)) a r
    ∧ (outsAt0 m c n hn).2.2.2.2.2.2 (ix2 a d) = ∑ r ∈ Finset.range (n + 1), eighth (fun i => E m c i d * E m c i d) a r := by
  have B := blocks m c ⟨n, hn⟩
  induction n with
  | zero =>
    rw [outsAt0_A m c ⟨0, hn⟩ rfl (by simp), Finset.sum_range_one, Finset.sum_range_one, Finset.sum_range_one]
    dsimp only
    rw [soutA0, soutA1, soutA2]
    refine ⟨(B.share0 _ a d).trans ?_, (B.share1 _ a d).trans ?_, (B.share2 _ a d).trans ?_⟩
    · rw [pay5_at, zero_add]
    · rw [pay6_at, zero_add]
    · rw [pay7_at, zero_add]
  | succ n ih =>
    have h4 : n + 1 < 4 := hn
    obtain ⟨i0, i1, i2⟩ := ih (Nat.lt_of_succ_lt hn) (blocks m c _)
    rw [Finset.sum_range_succ _ (n + 1), Finset.sum_range_succ _ (n + 1), Finset.sum_range_succ _ (n + 1), ← i0, ← i1, ← i2]
    by_cases h2 : (n + 1) % 4 = 3
    · rw [outsAt0_C m c ⟨n + 1, hn⟩ (by show ¬(n + 1) % 4 = 0; omega) h2]
      dsimp only
      rw [soutC0, soutC1, soutC2]
      exact ⟨B.share0 _ a d, B.share1 _ a d, B.share2 _ a d⟩
    · rw [outsAt0_B m c ⟨n + 1, hn⟩ (by show ¬(n + 1) % 4 = 0; omega) h2]
      dsimp only
      rw [soutB0, soutB1, soutB2]
      exact ⟨B.share0 _ a d, B.share1 _ a d, B.share2 _ a d⟩

/-- The last point. -/
abbrev last : Fin cfg0.N := (⟨3, by decide⟩ : Fin 4)

/-- Only the last point writes the second array back, -/
theorem flushes6 : ∀ t : Fin cfg0.N, (cfg0.win 6).flush t = true ↔ t = last := by
  decide +kernel

/-- the third, -/
theorem flushes7 : ∀ t : Fin cfg0.N, (cfg0.win 7).flush t = true ↔ t = last := by
  decide +kernel

/-- and the fourth. -/
theorem flushes8 : ∀ t : Fin cfg0.N, (cfg0.win 8).flush t = true ↔ t = last := by
  decide +kernel

/-- What the last point stores of the three: its parts, added up. -/
theorem store678 : (outsAt0 m c (last).val (last).isLt).2.1 = k0_pay2 (outsAt0 m c (last).val (last).isLt).2.2.2.2.1
    ∧ (outsAt0 m c (last).val (last).isLt).2.2.1 = k0_pay3 (outsAt0 m c (last).val (last).isLt).2.2.2.2.2.1
    ∧ (outsAt0 m c (last).val (last).isLt).2.2.2.1 = k0_pay4 (outsAt0 m c (last).val (last).isLt).2.2.2.2.2.2 := by
  rw [outsAt0_C m c last (by decide) (by decide)]
  dsimp only
  rw [outC6, outC7, outC8, soutC0, soutC1, soutC2]
  exact ⟨rfl, rfl, rfl⟩

/-- What the last point writes back of the second array, -/
theorem written6 (t : Fin cfg0.N) (hf : (cfg0.win 6).flush t = true) :
    (dats m 0 c).flushed 6 t = ((cfg0.win 6).blk t).view.read (Elt Ideal) (dg m c) := by
  obtain rfl := (flushes6 t).1 hf
  obtain ⟨-, -, -, -, -, -, ⟨h0, h1⟩, -⟩ := places last
  rw [flushed6, (store678 m c).1]
  funext y
  obtain ⟨z, d, rfl⟩ : ∃ (z : Fin 1) (d : Fin 1024), y = ix2 z d := ⟨y 0, y 1, eq_ix2 y⟩
  rw [View.read_apply]
  have hy : ((cfg0.win 6).blk last).view.emb (ix2 z d) = ix2 z d := by
    refine at2 (a := 1) (b := 1024) _ _ _ ?_ ?_
    · show win0_6.index last 0 * 1 + 1 * z.val = z.val; rw [h0]; omega
    · show win0_6.index last 1 * 1024 + 1 * d.val = d.val; rw [h1]; omega
  refine Eq.trans ?_ (congrArg (dg m c) hy).symm
  exact (pay2_at _ z d).trans ((Finset.sum_congr rfl fun a _ => (parts m c 3 _ a d).1).trans (eighths _))

/-- of the third, -/
theorem written7 (t : Fin cfg0.N) (hf : (cfg0.win 7).flush t = true) :
    (dats m 0 c).flushed 7 t = ((cfg0.win 7).blk t).view.read (Elt Ideal) (db m c) := by
  obtain rfl := (flushes7 t).1 hf
  obtain ⟨-, -, -, -, -, -, -, ⟨h0, h1⟩, -⟩ := places last
  rw [flushed7, (store678 m c).2.1]
  funext y
  obtain ⟨z, d, rfl⟩ : ∃ (z : Fin 1) (d : Fin 1024), y = ix2 z d := ⟨y 0, y 1, eq_ix2 y⟩
  rw [View.read_apply]
  have hy : ((cfg0.win 7).blk last).view.emb (ix2 z d) = ix2 z d := by
    refine at2 (a := 1) (b := 1024) _ _ _ ?_ ?_
    · show win0_7.index last 0 * 1 + 1 * z.val = z.val; rw [h0]; omega
    · show win0_7.index last 1 * 1024 + 1 * d.val = d.val; rw [h1]; omega
  refine Eq.trans ?_ (congrArg (db m c) hy).symm
  exact (pay3_at _ z d).trans ((Finset.sum_congr rfl fun a _ => (parts m c 3 _ a d).2.1).trans (eighths _))

/-- and of the fourth, every entry of which is the sum. -/
theorem written8 (t : Fin cfg0.N) (hf : (cfg0.win 8).flush t = true) :
    (dats m 0 c).flushed 8 t = ((cfg0.win 8).blk t).view.read (Elt Ideal) (sq m c) := by
  obtain rfl := (flushes8 t).1 hf
  rw [flushed8, (store678 m c).2.2]
  funext y
  obtain ⟨z, d, rfl⟩ : ∃ (z : Fin 1) (d : Fin 128), y = ix2 z d := ⟨y 0, y 1, eq_ix2 y⟩
  rw [View.read_apply]
  exact (pay4_at _ z d).trans (Finset.sum_congr rfl fun k _ => (Finset.sum_congr rfl fun a _ => (parts m c 3 _ a k).2.2).trans (eighths _))

/-- The second array at the end, -/
theorem array6 : (dats m 0 c).arrAt 6 cfg0.N = dg m c :=
  (dats m 0 c).arrAt_eq_of_cover 6 (dg m c) (written6 m c)
    (reached win0_6)

/-- the third, -/
theorem array7 : (dats m 0 c).arrAt 7 cfg0.N = db m c :=
  (dats m 0 c).arrAt_eq_of_cover 7 (db m c) (written7 m c)
    (reached win0_7)

/-- and the fourth. -/
theorem array8 : (dats m 0 c).arrAt 8 cfg0.N = sq m c :=
  (dats m 0 c).arrAt_eq_of_cover 8 (sq m c) (written8 m c)
    (reached win0_8)

/-! ## The reference -/

section
open Cert.Reference29Ideal.Read

variable (x0 x1 : Vec Ideal S4096x1024 .f32) (x2 x3 : Vec Ideal S1x1024 .f32) (x4 : Vec Ideal S4096x1024 .f32)

/-- A row of the norm's input. -/
abbrev rowOf (i : Fin 4096) : Fin 1024 → EReal := fun k => mix (x1 (ix2 i k)) (x0 (ix2 i k))

/-- A difference. -/
abbrev errOf (i : Fin 4096) (d : Fin 1024) : EReal := err (unit (rowOf x0 x1 i) d) (x2 (ix2 0 d)) (x3 (ix2 0 d)) (x4 (ix2 i d))

/-- The gradient of a normed row. -/
abbrev pass (i : Fin 4096) : Fin 1024 → EReal := fun k => slopeLines (errOf x0 x1 x2 x3 x4 i k) * x2 (ix2 0 k)

theorem cen_at (i : Fin 4096) (d : Fin 1024) : val_main_v8 (F := Ideal) x0 x1 (ix2 i d) = cen (rowOf x0 x1 i) d := by
  unfold val_main_v8 val_main_v7 val_main_v6 val_main_v5 val_main_v4 val_main_v3 val_main_v2 val_main_v1 val_main_v0 val_main_cst val_main_cst_0 val_main_cst_1
  pointwise
  rfl

theorem spread_at (i : Fin 4096) (z : Fin 1) : val_main_v15 (F := Ideal) x0 x1 (ix2 i z) = spread (rowOf x0 x1 i) := by
  unfold val_main_v15 val_main_v14 val_main_v13 val_main_v12 val_main_v11 val_main_v10 val_main_v9 val_main_cst_2 val_main_cst_3 val_main_cst_4
  pointwise
  simp only [cen_at]
  rfl

theorem rs_at (i : Fin 4096) (z : Fin 1) : val_main_v16 (F := Ideal) x0 x1 (ix2 i z) = rs (rowOf x0 x1 i) := by
  unfold val_main_v16
  pointwise
  rw [spread_at]
  rfl

theorem unit_at (i : Fin 4096) (d : Fin 1024) : val_main_v21 (F := Ideal) x0 x1 (ix2 i d) = unit (rowOf x0 x1 i) d := by
  unfold val_main_v21 val_main_v20
  pointwise
  rw [cen_at, rs_at]
  rfl

theorem err_at (i : Fin 4096) (d : Fin 1024) : val_main_v26 (F := Ideal) x0 x1 x2 x3 x4 (ix2 i d) = errOf x0 x1 x2 x3 x4 i d := by
  unfold val_main_v26 val_main_v25 val_main_v24 val_main_v23 val_main_v22
  pointwise
  rw [unit_at]

theorem slope_at (i : Fin 4096) (d : Fin 1024) : val_main_v40 (F := Ideal) x0 x1 x2 x3 x4 (ix2 i d) = slopeLines (errOf x0 x1 x2 x3 x4 i d) := by
  unfold val_main_v40 val_main_v39 val_main_v38 val_main_v37 val_main_v36 val_main_v35 val_main_v29 val_main_v28
    val_main_cst_6 val_main_cst_11 val_main_cst_12 val_main_cst_13
  pointwise
  rw [err_at, slopeLines, mul_one]

theorem pass_at (i : Fin 4096) (d : Fin 1024) : val_main_v47 (F := Ideal) x0 x1 x2 x3 x4 (ix2 i d) = pass x0 x1 x2 x3 x4 i d := by
  unfold val_main_v47 val_main_v46
  pointwise
  rw [slope_at]

theorem pull_at (i : Fin 4096) (d : Fin 1024) : val_main_v57 (F := Ideal) x0 x1 x2 x3 x4 (ix2 i d) = pull (rowOf x0 x1 i) (pass x0 x1 x2 x3 x4 i) := by
  unfold val_main_v57 val_main_v56 val_main_v55 val_main_v54 val_main_v53 val_main_v50 val_main_v49 val_main_v48 val_main_v19 val_main_v18 val_main_v17
    val_main_cst_5 val_main_cst_16 val_main_cst_17 val_main_cst_18
  pointwise
  simp only [cen_at, spread_at, rs_at, pass_at]
  exact Fin.sum_univ_one _

theorem gradCen_at (i : Fin 4096) (d : Fin 1024) : val_main_v61 (F := Ideal) x0 x1 x2 x3 x4 (ix2 i d) = gradCen (rowOf x0 x1 i) (pass x0 x1 x2 x3 x4 i) d := by
  unfold val_main_v61 val_main_v60 val_main_v59 val_main_v58 val_main_v52 val_main_v51
  pointwise
  simp only [cen_at, rs_at, pass_at, pull_at]
  rfl

theorem dr_at (i : Fin 4096) (d : Fin 1024) : val_main_v70 (F := Ideal) x0 x1 x2 x3 x4 (ix2 i d) = gradLines (rowOf x0 x1 i) (pass x0 x1 x2 x3 x4 i) d := by
  unfold val_main_v70 val_main_v69 val_main_v68 val_main_v67 val_main_v66 val_main_v65 val_main_v64 val_main_v63 val_main_v62
    val_main_cst_19 val_main_cst_20 val_main_cst_21
  pointwise
  simp only [gradCen_at]
  rw [Fin.sum_univ_one]
  rfl

theorem dg_at (z : Fin 1) (d : Fin 1024) : val_main_v45 (F := Ideal) x0 x1 x2 x3 x4 (ix2 z d)
    = ∑ i, unit (rowOf x0 x1 i) d * slopeLines (errOf x0 x1 x2 x3 x4 i d) := by
  unfold val_main_v45 val_main_v44 val_main_v43 val_main_cst_15
  pointwise
  simp only [unit_at, slope_at]

theorem db_at (z : Fin 1) (d : Fin 1024) : val_main_v42 (F := Ideal) x0 x1 x2 x3 x4 (ix2 z d) = ∑ i, slopeLines (errOf x0 x1 x2 x3 x4 i d) := by
  unfold val_main_v42 val_main_v41 val_main_cst_14
  pointwise
  simp only [slope_at]

theorem mean_at (i : Fin 4096) : val_main_v32 (F := Ideal) x0 x1 x2 x3 x4 (ix1 i)
    = mean (fun k => errOf x0 x1 x2 x3 x4 i k * errOf x0 x1 x2 x3 x4 i k) := by
  unfold val_main_v32 val_main_v31 val_main_v30 val_main_v27 val_main_cst_7 val_main_cst_8
  pointwise
  simp only [err_at]
  rfl

theorem sq_at (z : Fin 1) (d : Fin 128) : val_main_v72 (F := Ideal) x0 x1 x2 x3 x4 (ix2 z d)
    = Ideal.ofBits .f32 0x45000000#32 * (Ideal.ofBits .f32 0x3F000000#32 * ∑ i, mean (fun k => errOf x0 x1 x2 x3 x4 i k * errOf x0 x1 x2 x3 x4 i k)) := by
  unfold val_main_v72 val_main_v71 val_main_v34 val_main_v33 val_main_cst_22 val_main_cst_10 val_main_cst_9
  pointwise
  simp only [mean_at]

end

/-! ## The precondition -/

/-- The shape relations the precondition's operations take. -/
theorem pre_facts : Pre_finite_loss.Facts where
  bcast_S_S4096x1024 := by decide
  reducesTo_S4096x1024_S_d0_1 := by decide
  h_S_ := by decide
  bcast_S_S1x1024 := by decide
  reducesTo_S1x1024_S_d0_1 := by decide

/-- The one index of the predicate's result. -/
abbrev o : Pre_finite_loss.S_.Idx := fun a => a.elim0

attribute [local instance] pre_facts in
/-- Under the precondition every entry of the gain, the offset and the target is a real number. -/
theorem reals_of_pre (a b : FVec Ideal Pre_finite_loss.S4096x1024 .f32) (d e : FVec Ideal Pre_finite_loss.S1x1024 .f32)
    (f : FVec Ideal Pre_finite_loss.S4096x1024 .f32) (h : Pre_finite_loss.fn (F := Ideal) a b d e f = fun _ => 1#1) :
    (∀ j, ∃ r : ℝ, (d j : EReal) = r) ∧ (∀ j, ∃ r : ℝ, (e j : EReal) = r) ∧ ∀ j, ∃ r : ℝ, (f j : EReal) = r := by
  have h0 := congrFun h o
  unfold Pre_finite_loss.fn at h0
  dsimp only at h0
  have hs : Subsingleton Pre_finite_loss.S_.Idx := ⟨fun x y => funext fun a => a.elim0⟩
  obtain ⟨e12, e3⟩ := IntOp.andi_eq_one.1 h0
  obtain ⟨e1, e2⟩ := IntOp.andi_eq_one.1 e12
  exact ⟨fun j => AttnClaim.real_of_abs _ (Host.reduce_andi_all _ _ _ _ o e1 j), fun j => AttnClaim.real_of_abs _ (Host.reduce_andi_all _ _ _ _ o e2 j),
    fun j => AttnClaim.real_of_abs _ (Host.reduce_andi_all _ _ _ _ o e3 j)⟩

/-! ## The claims -/

/-- The reference leaves its arguments unchanged and every counter at zero. -/
theorem ref_frame : quiescent_Reference29Ideal (hReference29Ideal := Reference29Ideal.Gen.facts) := fun m ρ _ =>
  (θ_run Reference29Ideal.defs _ _).mono
    (fun r h => ⟨fun c => (h c).2.2.2.2, sem_eq_zero_of_no_sems (by decide) r.2⟩)
    (Reference29Ideal.Value.run m ρ)

/-- The kernel's results are the reference's. -/
theorem algebraic : algebraic_Kernel29Ideal_Reference29Ideal_pre_finite_loss (hKernel29Ideal := Kernel29Ideal.Gen.facts)
    (hReference29Ideal := Reference29Ideal.Gen.facts) (hPre_finite_loss := pre_facts) := by
  intro m g m' g' hpre hargs
  refine ⟨fun c => dr m c, fun c => dg m c, fun c => db m c, fun c => sq m c, ?_, ?_⟩
  · refine (θ_run Kernel29Ideal.defs _ _).mono (fun r h c => ?_) (Kernel29Ideal.Value.run_blocks m g)
    exact ⟨(h c).1.trans (array5 m c), (h c).2.1.trans (array6 m c), (h c).2.2.1.trans (array7 m c), (h c).2.2.2.1.trans (array8 m c), (h c).2.2.2.2⟩
  · refine (θ_run Reference29Ideal.defs _ _).mono (fun r h c => ?_) (Reference29Ideal.Value.run m' g')
    obtain ⟨a0, a1, a2, a3, a4⟩ := hargs c
    obtain ⟨p2, p3, p4⟩ := reals_of_pre _ _ _ _ _ (hpre c)
    have real : ∀ i d, ∃ r : ℝ, E m c i d = r := fun i d => err_real _ d _ _ _ (p2 (ix2 0 d)) (p3 (ix2 0 d)) (p4 (ix2 i d))
    have slopes : ∀ i d, slopeLines (E m c i d) = slope (E m c i d) := fun i d => by
      obtain ⟨r, e⟩ := real i d
      rw [e, slope_eq]
    refine ⟨(h c).1.trans ((Reference29Ideal.Read.val_main_v70_eq m' c).trans ?_),
      (h c).2.1.trans ((Reference29Ideal.Read.val_main_v45_eq m' c).trans ?_),
      (h c).2.2.1.trans ((Reference29Ideal.Read.val_main_v42_eq _ _ _ _ _).trans ?_),
      (h c).2.2.2.1.trans ((Reference29Ideal.Read.val_main_v72_eq m' c).trans ?_), (h c).2.2.2.2⟩
    · rw [a0, a1, a2, a3, a4]
      funext y
      obtain ⟨i, d, rfl⟩ : ∃ (i : Fin 4096) (d : Fin 1024), y = ix2 i d := ⟨y 0, y 1, eq_ix2 y⟩
      have same : (fun k => slopeLines (E m c i k) * gain m c k) = fun k => slope (E m c i k) * gain m c k := funext fun k => congrArg (· * gain m c k) (slopes i k)
      refine (dr_at _ _ _ _ _ i d).trans (((congrArg (fun f => gradLines (X m c i) f d) same)).trans (grad_eq _ _ (fun k => ?_) d).symm)
      obtain ⟨r1, e1⟩ := real i k
      obtain ⟨r2, e2⟩ := p2 (ix2 0 k)
      refine ⟨r1 * (1 / 1024) * r2, ?_⟩
      have e3 : gain m c k = (r2 : EReal) := e2
      rw [e1, e3, slope, part1024, EReal.coe_mul, EReal.coe_mul]
    · rw [a0, a1, a2, a3, a4]
      funext y
      obtain ⟨z, d, rfl⟩ : ∃ (z : Fin 1) (d : Fin 1024), y = ix2 z d := ⟨y 0, y 1, eq_ix2 y⟩
      exact (dg_at _ _ _ _ _ z d).trans (Finset.sum_congr rfl fun i _ => (mul_comm _ _).trans (congrArg (· * unit (X m c i) d) (slopes i d)))
    · rw [a0, a1, a2, a3, a4]
      funext y
      obtain ⟨z, d, rfl⟩ : ∃ (z : Fin 1) (d : Fin 1024), y = ix2 z d := ⟨y 0, y 1, eq_ix2 y⟩
      exact (db_at _ _ _ _ _ z d).trans (Finset.sum_congr rfl fun i _ => slopes i d)
    · rw [a0, a1, a2, a3, a4]
      funext y
      obtain ⟨z, d, rfl⟩ : ∃ (z : Fin 1) (d : Fin 128), y = ix2 z d := ⟨y 0, y 1, eq_ix2 y⟩
      refine (sq_at _ _ _ _ _ z d).trans ?_
      choose e he using real
      have hE : E m c = fun i d => (e i d : EReal) := funext fun i => funext fun d => he i d
      show Ideal.ofBits .f32 0x45000000#32 * (Ideal.ofBits .f32 0x3F000000#32 * ∑ i, mean (fun k => E m c i k * E m c i k)) = ∑ d, ∑ i, E m c i d * E m c i d
      rw [hE]
      exact loss_eq e

end Cert.Proof.LossBack

end
-- ==== Proof.AdamStep.lean ====
/- The optimiser's step: the new moments and the change of a weight, at an entry and of whole arrays. -/
module

public import proofs.«01_k».proof.Proof.Index
public import Idealize.ShloMosaic.Init

@[expose] public section

noncomputable section

namespace Cert.Proof.AdamStep

open Idealize.ShloMosaic

/-- The new first moment. -/
abbrev first (g m : EReal) : EReal := Ideal.ofBits .f32 0x3F666666#32 * m + Ideal.ofBits .f32 0x3DCCCCCD#32 * g

/-- The new second moment. -/
abbrev second (g v : EReal) : EReal := Ideal.ofBits .f32 0x3F7FBE77#32 * v + Ideal.ofBits .f32 0x3A83126F#32 * (g * g)

/-- The change of the weight. -/
abbrev change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The change at equal entries. -/
theorem change_congr {w w' g g' m m' v v' : EReal} (hw : w = w') (hg : g = g') (hm : m = m') (hv : v = v') : change w g m v = change w' g' m' v' := by
  rw [hw, hg, hm, hv]

variable {S : Type} (w g m v : S → EReal)

/-- The new first moments of an array of weights, -/
def firsts (y : S) : EReal := first (g y) (m y)
/-- its second moments, -/
def seconds (y : S) : EReal := second (g y) (v y)
/-- and the changes of its weights. -/
def changes (y : S) : EReal := change (w y) (g y) (m y) (v y)

end Cert.Proof.AdamStep

end
-- ==== Proof.Adam.lean ====
/- The optimiser's step of each weight that has a call of its own: the kernel's arrays, the reference's, and their equality. -/
module

public import proofs.«01_k».proof.Defs
public import proofs.«01_k».proof.Proof.Gen.Kernel30Ideal.Value
public import proofs.«01_k».proof.Proof.Gen.Reference30Ideal.Read
public import proofs.«01_k».proof.Proof.Gen.Kernel31Ideal.Value
public import proofs.«01_k».proof.Proof.Gen.Reference31Ideal.Read
public import proofs.«01_k».proof.Proof.Gen.Kernel32Ideal.Value
public import proofs.«01_k».proof.Proof.Gen.Reference32Ideal.Read
public import proofs.«01_k».proof.Proof.Gen.Kernel33Ideal.Value
public import proofs.«01_k».proof.Proof.Gen.Reference33Ideal.Read
public import proofs.«01_k».proof.Proof.Gen.Kernel34Ideal.Value
public import proofs.«01_k».proof.Proof.Gen.Reference34Ideal.Read
public import proofs.«01_k».proof.Proof.Gen.Kernel35Ideal.Value
public import proofs.«01_k».proof.Proof.Gen.Reference35Ideal.Read
public import proofs.«01_k».proof.Proof.Gen.Kernel36Ideal.Value
public import proofs.«01_k».proof.Proof.Gen.Reference36Ideal.Read
public import proofs.«01_k».proof.Proof.AdamStep
public import Idealize.ShloMosaic.Lib.Pipeline.ValueKit.Geometry
public import Idealize.ShloMosaic.Adequacy
public import Idealize.ShloMosaic.Init

@[expose] public section

set_option maxRecDepth 16384

noncomputable section

open Idealize.ShloMosaic.Pipeline (Dat)
open Idealize.ShloMosaic Idealize.ShloMosaic.TcCoe Idealize.SL.Sem Cert.Proof.Index Cert.Proof.AdamStep

/-! ## The down projection, whose gradient is the first half of its array -/

namespace Cert.Proof.AdamDown

open Cert.Kernel30Ideal Cert.Kernel30Ideal.Gen Cert.Kernel30Ideal.Value

variable (m : (ℓ : Loc nD τ sig) → Buf (Elt Ideal) ℓ) (c : Dev nD)

/-- The weights, -/
abbrev w : S1024x1024.Idx → EReal := m (c.tc.loc main_arg0)
/-- their moments -/
abbrev m1 : S1024x1024.Idx → EReal := m (c.tc.loc main_arg1)
@[inherit_doc m1] abbrev m2 : S1024x1024.Idx → EReal := m (c.tc.loc main_arg2)
/-- and their gradient. -/
abbrev g : S1024x1024.Idx → EReal := fun y => (m (c.tc.loc main_arg3) : S2048x1024.Idx → EReal) (ix2 ⟨(y 0).val, by have : (y 0).val < 1024 := (y 0).isLt; omega⟩ (y 1))

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S512x1024.Idx) : S1024x1024.Idx := ((cfg0.win 4).blk t).view.emb y

/-- A point's blocks. -/
theorem blocks (t : Fin cfg0.N) (y : S512x1024.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S2048x1024.Idx → EReal) (at2 (a := 2048) (b := 1024) _ _ _ ?_ ?_))⟩
  · show win0_3.index t 0 * 512 + 1 * (y 0).val = win0_4.index t 0 * 512 + 1 * (y 0).val; rw [h0]
  · show win0_3.index t 1 * 1024 + 1 * (y 1).val = win0_4.index t 1 * 1024 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference's part of the gradient's array. -/
theorem slice (x : (⟨Reference30Ideal.S2048x1024, .f32⟩ : BufTy).Contents (Elt Ideal)) :
    extractStridedSlice Reference30Ideal.S1024x1024 ![0, 0] x Reference30Ideal.Gen.slices_S2048x1024_S1024x1024_0_0
      = fun y => (x : S2048x1024.Idx → EReal) (ix2 ⟨(y 0).val, by have : (y 0).val < 1024 := (y 0).isLt; omega⟩ (y 1)) :=
  funext fun y => (Reference30Ideal.Read.val_main_v0_apply x y).trans (congrArg (x : S2048x1024.Idx → EReal) (at2 (a := 2048) (b := 1024) _ _ _ rfl rfl))

/-- The reference leaves its arguments unchanged and every counter at zero. -/
theorem ref_frame : quiescent_Reference30Ideal (hReference30Ideal := Reference30Ideal.Gen.facts) := fun m ρ _ =>
  (θ_run Reference30Ideal.defs _ _).mono
    (fun r h => ⟨fun c => (h c).2.2.2.2, sem_eq_zero_of_no_sems (by decide) r.2⟩)
    (Reference30Ideal.Value.run m ρ)

/-- The kernel's results are the reference's. -/
theorem algebraic : algebraic_Kernel30Ideal_Reference30Ideal (hKernel30Ideal := Kernel30Ideal.Gen.facts)
    (hReference30Ideal := Reference30Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel30Ideal.defs _ _).mono (fun r h c => ?_) (Kernel30Ideal.Value.run_blocks m ρ),
    (θ_run Reference30Ideal.defs _ _).mono (fun r h c => ?_) (Reference30Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3]
    · exact slice _
    · exact congrArg (fun x => changes (w m c) x (m1 m c) (m2 m c)) (slice _)
    · exact congrArg (fun x => firsts x (m1 m c)) (slice _)
    · exact congrArg (fun x => seconds x (m2 m c)) (slice _)

end Cert.Proof.AdamDown

/-! ## The up projection, whose gradient is the second half -/

namespace Cert.Proof.AdamUp

open Cert.Kernel31Ideal Cert.Kernel31Ideal.Gen Cert.Kernel31Ideal.Value

variable (m : (ℓ : Loc nD τ sig) → Buf (Elt Ideal) ℓ) (c : Dev nD)

/-- The weights, -/
abbrev w : S1024x1024.Idx → EReal := m (c.tc.loc main_arg0)
/-- their moments -/
abbrev m1 : S1024x1024.Idx → EReal := m (c.tc.loc main_arg1)
@[inherit_doc m1] abbrev m2 : S1024x1024.Idx → EReal := m (c.tc.loc main_arg2)
/-- and their gradient. -/
abbrev g : S1024x1024.Idx → EReal := fun y => (m (c.tc.loc main_arg3) : S2048x1024.Idx → EReal) (ix2 ⟨1024 + (y 0).val, by have : (y 0).val < 1024 := (y 0).isLt; omega⟩ (y 1))

/-- Where the gradient's blocks lie. -/
theorem places : ∀ t : Fin cfg0.N, win0_3.index t 0 = 2 + win0_4.index t 0 ∧ win0_3.index t 1 = 0 ∧ win0_4.index t 1 = 0 := by
  decide +kernel

/-- The place in the arrays of an entry of a point's blocks. -/
abbrev spot (t : Fin cfg0.N) (y : S512x1024.Idx) : S1024x1024.Idx := ((cfg0.win 4).blk t).view.emb y

/-- A point's blocks. -/
theorem blocks (t : Fin cfg0.N) (y : S512x1024.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S2048x1024.Idx → EReal) (at2 (a := 2048) (b := 1024) _ _ _ ?_ ?_))⟩
  · show win0_3.index t 0 * 512 + 1 * (y 0).val = 1024 + (win0_4.index t 0 * 512 + 1 * (y 0).val); rw [h0]; omega
  · show win0_3.index t 1 * 1024 + 1 * (y 1).val = win0_4.index t 1 * 1024 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference's part of the gradient's array. -/
theorem slice (x : (⟨Reference31Ideal.S2048x1024, .f32⟩ : BufTy).Contents (Elt Ideal)) :
    extractStridedSlice Reference31Ideal.S1024x1024 ![1024, 0] x Reference31Ideal.Gen.slices_S2048x1024_S1024x1024_1024_0
      = fun y => (x : S2048x1024.Idx → EReal) (ix2 ⟨1024 + (y 0).val, by have : (y 0).val < 1024 := (y 0).isLt; omega⟩ (y 1)) :=
  funext fun y => (Reference31Ideal.Read.val_main_v0_apply x y).trans (congrArg (x : S2048x1024.Idx → EReal) (at2 (a := 2048) (b := 1024) _ _ _ rfl rfl))

/-- The reference leaves its arguments unchanged and every counter at zero. -/
theorem ref_frame : quiescent_Reference31Ideal (hReference31Ideal := Reference31Ideal.Gen.facts) := fun m ρ _ =>
  (θ_run Reference31Ideal.defs _ _).mono
    (fun r h => ⟨fun c => (h c).2.2.2.2, sem_eq_zero_of_no_sems (by decide) r.2⟩)
    (Reference31Ideal.Value.run m ρ)

/-- The kernel's results are the reference's. -/
theorem algebraic : algebraic_Kernel31Ideal_Reference31Ideal (hKernel31Ideal := Kernel31Ideal.Gen.facts)
    (hReference31Ideal := Reference31Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel31Ideal.defs _ _).mono (fun r h c => ?_) (Kernel31Ideal.Value.run_blocks m ρ),
    (θ_run Reference31Ideal.defs _ _).mono (fun r h c => ?_) (Reference31Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3]
    · exact slice _
    · exact congrArg (fun x => changes (w m c) x (m1 m c) (m2 m c)) (slice _)
    · exact congrArg (fun x => firsts x (m1 m c)) (slice _)
    · exact congrArg (fun x => seconds x (m2 m c)) (slice _)

end Cert.Proof.AdamUp

/-! ## The input projection -/

namespace Cert.Proof.AdamIn

open Cert.Kernel32Ideal Cert.Kernel32Ideal.Gen Cert.Kernel32Ideal.Value

variable (m : (ℓ : Loc nD τ sig) → Buf (Elt Ideal) ℓ) (c : Dev nD)

/-- The weights, -/
abbrev w : S1024x1152.Idx → EReal := m (c.tc.loc main_arg0)
/-- their moments -/
abbrev m1 : S1024x1152.Idx → EReal := m (c.tc.loc main_arg1)
@[inherit_doc m1] abbrev m2 : S1024x1152.Idx → EReal := m (c.tc.loc main_arg2)
/-- and their gradient. -/
abbrev g : S1024x1152.Idx → EReal := m (c.tc.loc main_arg3)

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S512x1152.Idx) : S1024x1152.Idx := ((cfg0.win 4).blk t).view.emb y

/-- A point's blocks. -/
theorem blocks (t : Fin cfg0.N) (y : S512x1152.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S1024x1152.Idx → EReal) ((at2 (a := 1024) (b := 1152) _ _ _ ?_ ?_).trans (eq_ix2 (spot t y)).symm))⟩
  · show win0_3.index t 0 * 512 + 1 * (y 0).val = win0_4.index t 0 * 512 + 1 * (y 0).val; rw [h0]
  · show win0_3.index t 1 * 1152 + 1 * (y 1).val = win0_4.index t 1 * 1152 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference leaves its arguments unchanged and every counter at zero. -/
theorem ref_frame : quiescent_Reference32Ideal (hReference32Ideal := Reference32Ideal.Gen.facts) := fun m ρ _ =>
  (θ_run Reference32Ideal.defs _ _).mono
    (fun r h => ⟨fun c => (h c).2.2.2.2, sem_eq_zero_of_no_sems (by decide) r.2⟩)
    (Reference32Ideal.Value.run m ρ)

/-- The kernel's results are the reference's. -/
theorem algebraic : algebraic_Kernel32Ideal_Reference32Ideal (hKernel32Ideal := Kernel32Ideal.Gen.facts)
    (hReference32Ideal := Reference32Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel32Ideal.defs _ _).mono (fun r h c => ?_) (Kernel32Ideal.Value.run_blocks m ρ),
    (θ_run Reference32Ideal.defs _ _).mono (fun r h c => ?_) (Reference32Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3] <;> rfl

end Cert.Proof.AdamIn

/-! ## The projection of the memory -/

namespace Cert.Proof.AdamMemory

open Cert.Kernel33Ideal Cert.Kernel33Ideal.Gen Cert.Kernel33Ideal.Value

variable (m : (ℓ : Loc nD τ sig) → Buf (Elt Ideal) ℓ) (c : Dev nD)

/-- The weights, -/
abbrev w : S1024x512.Idx → EReal := m (c.tc.loc main_arg0)
/-- their moments -/
abbrev m1 : S1024x512.Idx → EReal := m (c.tc.loc main_arg1)
@[inherit_doc m1] abbrev m2 : S1024x512.Idx → EReal := m (c.tc.loc main_arg2)
/-- and their gradient. -/
abbrev g : S1024x512.Idx → EReal := m (c.tc.loc main_arg3)

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S512x512.Idx) : S1024x512.Idx := ((cfg0.win 4).blk t).view.emb y

/-- A point's blocks. -/
theorem blocks (t : Fin cfg0.N) (y : S512x512.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S1024x512.Idx → EReal) ((at2 (a := 1024) (b := 512) _ _ _ ?_ ?_).trans (eq_ix2 (spot t y)).symm))⟩
  · show win0_3.index t 0 * 512 + 1 * (y 0).val = win0_4.index t 0 * 512 + 1 * (y 0).val; rw [h0]
  · show win0_3.index t 1 * 512 + 1 * (y 1).val = win0_4.index t 1 * 512 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference leaves its arguments unchanged and every counter at zero. -/
theorem ref_frame : quiescent_Reference33Ideal (hReference33Ideal := Reference33Ideal.Gen.facts) := fun m ρ _ =>
  (θ_run Reference33Ideal.defs _ _).mono
    (fun r h => ⟨fun c => (h c).2.2.2.2, sem_eq_zero_of_no_sems (by decide) r.2⟩)
    (Reference33Ideal.Value.run m ρ)

/-- The kernel's results are the reference's. -/
theorem algebraic : algebraic_Kernel33Ideal_Reference33Ideal (hKernel33Ideal := Kernel33Ideal.Gen.facts)
    (hReference33Ideal := Reference33Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel33Ideal.defs _ _).mono (fun r h c => ?_) (Kernel33Ideal.Value.run_blocks m ρ),
    (θ_run Reference33Ideal.defs _ _).mono (fun r h c => ?_) (Reference33Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3] <;> rfl

end Cert.Proof.AdamMemory

/-! ## The gate -/

namespace Cert.Proof.AdamGlu

open Cert.Kernel34Ideal Cert.Kernel34Ideal.Gen Cert.Kernel34Ideal.Value

variable (m : (ℓ : Loc nD τ sig) → Buf (Elt Ideal) ℓ) (c : Dev nD)

/-- The weights, -/
abbrev w : S512x512.Idx → EReal := m (c.tc.loc main_arg0)
/-- their moments -/
abbrev m1 : S512x512.Idx → EReal := m (c.tc.loc main_arg1)
@[inherit_doc m1] abbrev m2 : S512x512.Idx → EReal := m (c.tc.loc main_arg2)
/-- and their gradient. -/
abbrev g : S512x512.Idx → EReal := m (c.tc.loc main_arg3)

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S512x512.Idx) : S512x512.Idx := ((cfg0.win 4).blk t).view.emb y

/-- A point's blocks. -/
theorem blocks (t : Fin cfg0.N) (y : S512x512.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S512x512.Idx → EReal) ((at2 (a := 512) (b := 512) _ _ _ ?_ ?_).trans (eq_ix2 (spot t y)).symm))⟩
  · show win0_3.index t 0 * 512 + 1 * (y 0).val = win0_4.index t 0 * 512 + 1 * (y 0).val; rw [h0]
  · show win0_3.index t 1 * 512 + 1 * (y 1).val = win0_4.index t 1 * 512 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference leaves its arguments unchanged and every counter at zero. -/
theorem ref_frame : quiescent_Reference34Ideal (hReference34Ideal := Reference34Ideal.Gen.facts) := fun m ρ _ =>
  (θ_run Reference34Ideal.defs _ _).mono
    (fun r h => ⟨fun c => (h c).2.2.2.2, sem_eq_zero_of_no_sems (by decide) r.2⟩)
    (Reference34Ideal.Value.run m ρ)

/-- The kernel's results are the reference's. -/
theorem algebraic : algebraic_Kernel34Ideal_Reference34Ideal (hKernel34Ideal := Kernel34Ideal.Gen.facts)
    (hReference34Ideal := Reference34Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel34Ideal.defs _ _).mono (fun r h c => ?_) (Kernel34Ideal.Value.run_blocks m ρ),
    (θ_run Reference34Ideal.defs _ _).mono (fun r h c => ?_) (Reference34Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3] <;> rfl

end Cert.Proof.AdamGlu

/-! ## The convolution's taps -/

namespace Cert.Proof.AdamTaps

open Cert.Kernel35Ideal Cert.Kernel35Ideal.Gen Cert.Kernel35Ideal.Value

variable (m : (ℓ : Loc nD τ sig) → Buf (Elt Ideal) ℓ) (c : Dev nD)

/-- The weights, -/
abbrev w : S32x256.Idx → EReal := m (c.tc.loc main_arg0)
/-- their moments -/
abbrev m1 : S32x256.Idx → EReal := m (c.tc.loc main_arg1)
@[inherit_doc m1] abbrev m2 : S32x256.Idx → EReal := m (c.tc.loc main_arg2)
/-- and their gradient. -/
abbrev g : S32x256.Idx → EReal := m (c.tc.loc main_arg3)

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S32x256.Idx) : S32x256.Idx := ((cfg0.win 4).blk t).view.emb y

/-- A point's blocks. -/
theorem blocks (t : Fin cfg0.N) (y : S32x256.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S32x256.Idx → EReal) ((at2 (a := 32) (b := 256) _ _ _ ?_ ?_).trans (eq_ix2 (spot t y)).symm))⟩
  · show win0_3.index t 0 * 32 + 1 * (y 0).val = win0_4.index t 0 * 32 + 1 * (y 0).val; rw [h0]
  · show win0_3.index t 1 * 256 + 1 * (y 1).val = win0_4.index t 1 * 256 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference leaves its arguments unchanged and every counter at zero. -/
theorem ref_frame : quiescent_Reference35Ideal (hReference35Ideal := Reference35Ideal.Gen.facts) := fun m ρ _ =>
  (θ_run Reference35Ideal.defs _ _).mono
    (fun r h => ⟨fun c => (h c).2.2.2.2, sem_eq_zero_of_no_sems (by decide) r.2⟩)
    (Reference35Ideal.Value.run m ρ)

/-- The kernel's results are the reference's. -/
theorem algebraic : algebraic_Kernel35Ideal_Reference35Ideal (hKernel35Ideal := Kernel35Ideal.Gen.facts)
    (hReference35Ideal := Reference35Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel35Ideal.defs _ _).mono (fun r h c => ?_) (Kernel35Ideal.Value.run_blocks m ρ),
    (θ_run Reference35Ideal.defs _ _).mono (fun r h c => ?_) (Reference35Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3] <;> rfl

end Cert.Proof.AdamTaps

/-! ## The small weights, packed -/

namespace Cert.Proof.AdamSmall

open Cert.Kernel36Ideal Cert.Kernel36Ideal.Gen Cert.Kernel36Ideal.Value

variable (m : (ℓ : Loc nD τ sig) → Buf (Elt Ideal) ℓ) (c : Dev nD)

/-- The weights, -/
abbrev w : S160x1024.Idx → EReal := m (c.tc.loc main_arg0)
/-- their moments -/
abbrev m1 : S160x1024.Idx → EReal := m (c.tc.loc main_arg1)
@[inherit_doc m1] abbrev m2 : S160x1024.Idx → EReal := m (c.tc.loc main_arg2)
/-- and their gradient. -/
abbrev g : S160x1024.Idx → EReal := m (c.tc.loc main_arg3)

/-- Where the gradient's blocks lie. -/
theorem places : ∀ t : Fin cfg0.N, win0_3.index t 0 = win0_4.index t 0 ∧ win0_3.index t 1 = 0 ∧ win0_4.index t 1 = 0 := by
  decide +kernel

/-- The place in the arrays of an entry of a point's blocks. -/
abbrev spot (t : Fin cfg0.N) (y : S32x1024.Idx) : S160x1024.Idx := ((cfg0.win 4).blk t).view.emb y

/-- A point's blocks. -/
theorem blocks (t : Fin cfg0.N) (y : S32x1024.Idx) : iblk m c 0 t y = w m c (spot t y) ∧ iblk m c 1 t y = m1 m c (spot t y)
    ∧ iblk m c 2 t y = m2 m c (spot t y) ∧ iblk m c 3 t y = g m c (spot t y) := by
  obtain ⟨h0, h1, h2⟩ := places t
  refine ⟨congrFun (V_main_arg0 m c) _, congrFun (V_main_arg1 m c) _, congrFun (V_main_arg2 m c) _,
    (congrFun (V_main_arg3 m c) _).trans (congrArg (m (c.tc.loc main_arg3) : S160x1024.Idx → EReal) ((at2 (a := 160) (b := 1024) _ _ _ ?_ ?_).trans (eq_ix2 (spot t y)).symm))⟩
  · show win0_3.index t 0 * 32 + 1 * (y 0).val = win0_4.index t 0 * 32 + 1 * (y 0).val; rw [h0]
  · show win0_3.index t 1 * 1024 + 1 * (y 1).val = win0_4.index t 1 * 1024 + 1 * (y 1).val; rw [h1, h2]

/-- The kernel's arrays at the end. -/
theorem arrays : (dats m 0 c).arrAt 4 cfg0.N = g m c ∧ (dats m 0 c).arrAt 5 cfg0.N = changes (w m c) (g m c) (m1 m c) (m2 m c)
    ∧ (dats m 0 c).arrAt 6 cfg0.N = firsts (g m c) (m1 m c) ∧ (dats m 0 c).arrAt 7 cfg0.N = seconds (g m c) (m2 m c) := by
  refine ⟨Dat.arrAt_eq_of_cover _ 4 _ (fun t _ => funext fun y => ?_) (reached win0_4),
    Dat.arrAt_eq_of_cover _ 5 _ (fun t _ => funext fun y => ?_) (reached win0_5),
    Dat.arrAt_eq_of_cover _ 6 _ (fun t _ => funext fun y => ?_) (reached win0_6),
    Dat.arrAt_eq_of_cover _ 7 _ (fun t _ => funext fun y => ?_) (reached win0_7)⟩
  · rw [flushed4, out0_4, View.canon_unit_zero zero2, View.ld_unit_zero zero2]
    exact (blocks m c t y).2.2.2
  · obtain ⟨b0, b1, b2, b3⟩ := blocks m c t y
    rw [flushed5, out0_5, View.canon_unit_zero zero2, View.ld_unit_zero zero2, View.ld_unit_zero zero2, View.ld_unit_zero zero2, View.ld_unit_zero zero2]
    exact change_congr b0 b3 b1 b2
  · rw [flushed6, out0_6, View.canon_unit_zero zero2, View.ld_unit_zero zero2, View.ld_unit_zero zero2]
    exact congrArg₂ first (blocks m c t y).2.2.2 (blocks m c t y).2.1
  · rw [flushed7, out0_7, View.canon_unit_zero zero2, View.ld_unit_zero zero2, View.ld_unit_zero zero2]
    exact congrArg₂ second (blocks m c t y).2.2.2 (blocks m c t y).2.2.1

/-- The reference leaves its arguments unchanged and every counter at zero. -/
theorem ref_frame : quiescent_Reference36Ideal (hReference36Ideal := Reference36Ideal.Gen.facts) := fun m ρ _ =>
  (θ_run Reference36Ideal.defs _ _).mono
    (fun r h => ⟨fun c => (h c).2.2.2.2, sem_eq_zero_of_no_sems (by decide) r.2⟩)
    (Reference36Ideal.Value.run m ρ)

/-- The kernel's results are the reference's. -/
theorem algebraic : algebraic_Kernel36Ideal_Reference36Ideal (hKernel36Ideal := Kernel36Ideal.Gen.facts)
    (hReference36Ideal := Reference36Ideal.Gen.facts) := by
  intro m ρ m' ρ' _ hargs
  refine ⟨fun c => g m c, fun c => changes (w m c) (g m c) (m1 m c) (m2 m c), fun c => firsts (g m c) (m1 m c), fun c => seconds (g m c) (m2 m c),
    (θ_run Kernel36Ideal.defs _ _).mono (fun r h c => ?_) (Kernel36Ideal.Value.run_blocks m ρ),
    (θ_run Reference36Ideal.defs _ _).mono (fun r h c => ?_) (Reference36Ideal.Value.run m' ρ')⟩
  · obtain ⟨r4, r5, r6, r7⟩ := arrays m c
    exact ⟨(h c).1.trans r4, (h c).2.1.trans r5, (h c).2.2.1.trans r6, (h c).2.2.2.1.trans r7, (h c).2.2.2.2⟩
  · obtain ⟨a0, a1, a2, a3⟩ := hargs c
    refine ⟨(h c).1.trans ?_, (h c).2.1.trans ?_, (h c).2.2.1.trans ?_, (h c).2.2.2.1.trans ?_, (h c).2.2.2.2⟩ <;> simp only [a0, a1, a2, a3] <;> rfl

end Cert.Proof.AdamSmall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.AttnClaim
public import proofs.«01_k».proof.Proof.Gen.Kernel2
public import proofs.«01_k».proof.Proof.Gen.Kernel2.Frame
public import proofs.«01_k».proof.Proof.InputG
public import proofs.«01_k».proof.Proof.Gen.Kernel3
public import proofs.«01_k».proof.Proof.Gen.Kernel3.Frame
public import proofs.«01_k».proof.Proof.InputT
public import proofs.«01_k».proof.Proof.Gen.Kernel4
public import proofs.«01_k».proof.Proof.Gen.Kernel4.Frame
public import proofs.«01_k».proof.Proof.Input
public import proofs.«01_k».proof.Proof.Gen.Kernel5
public import proofs.«01_k».proof.Proof.Gen.Kernel5.Frame
public import proofs.«01_k».proof.Proof.DownT
public import proofs.«01_k».proof.Proof.Gen.Kernel6
public import proofs.«01_k».proof.Proof.Gen.Kernel6.Frame
public import proofs.«01_k».proof.Proof.UpG
public import proofs.«01_k».proof.Proof.Gen.Kernel7
public import proofs.«01_k».proof.Proof.Gen.Kernel7.Frame
public import proofs.«01_k».proof.Proof.UpT
public import proofs.«01_k».proof.Proof.Gen.Kernel8
public import proofs.«01_k».proof.Proof.Gen.Kernel8.Frame
public import proofs.«01_k».proof.Proof.Up
public import proofs.«01_k».proof.Proof.Gen.Kernel9
public import proofs.«01_k».proof.Proof.Gen.Kernel9.Frame
public import proofs.«01_k».proof.Proof.Down
public import proofs.«01_k».proof.Proof.Gen.Kernel10
public import proofs.«01_k».proof.Proof.Gen.Kernel10.Frame
public import proofs.«01_k».proof.Proof.Merge
public import proofs.«01_k».proof.Proof.Gen.Kernel11
public import proofs.«01_k».proof.Proof.Gen.Kernel11.Frame
public import proofs.«01_k».proof.Proof.MixBack
public import proofs.«01_k».proof.Proof.Gen.Kernel12
public import proofs.«01_k».proof.Proof.Gen.Kernel12.Frame
public import proofs.«01_k».proof.Proof.GluBack
public import proofs.«01_k».proof.Proof.Gen.Kernel13
public import proofs.«01_k».proof.Proof.Gen.Kernel13.Frame
public import proofs.«01_k».proof.Proof.SsmGlu
public import proofs.«01_k».proof.Proof.Gen.Kernel14
public import proofs.«01_k».proof.Proof.Gen.Kernel14.Frame
public import proofs.«01_k».proof.Proof.ConvOut
public import proofs.«01_k».proof.Proof.Gen.Kernel15
public import proofs.«01_k».proof.Proof.Gen.Kernel15.Frame
public import proofs.«01_k».proof.Proof.DownG
public import proofs.«01_k».proof.Proof.Gen.Kernel16
public import proofs.«01_k».proof.Proof.Gen.Kernel16.Frame
public import proofs.«01_k».proof.Proof.AttnBack
public import proofs.«01_k».proof.Proof.Gen.Kernel17
public import proofs.«01_k».proof.Proof.Gen.Kernel17.Frame
public import proofs.«01_k».proof.Proof.NormBack
public import proofs.«01_k».proof.Proof.Gen.Kernel18
public import proofs.«01_k».proof.Proof.Gen.Kernel18.Frame
public import proofs.«01_k».proof.Proof.SwishBack
public import proofs.«01_k».proof.Proof.Gen.Kernel19
public import proofs.«01_k».proof.Proof.Gen.Kernel19.Frame
public import proofs.«01_k».proof.Proof.ConvBack
public import proofs.«01_k».proof.Proof.Gen.Kernel20
public import proofs.«01_k».proof.Proof.Gen.Kernel20.Frame
public import proofs.«01_k».proof.Proof.AttnFwd
public import proofs.«01_k».proof.Proof.Gen.Kernel21
public import proofs.«01_k».proof.Proof.Gen.Kernel21.Frame
public import proofs.«01_k».proof.Proof.MergeFwd
public import proofs.«01_k».proof.Proof.Gen.Kernel22
public import proofs.«01_k».proof.Proof.Gen.Kernel22.Frame
public import proofs.«01_k».proof.Proof.Queries
public import proofs.«01_k».proof.Proof.Gen.Kernel23
public import proofs.«01_k».proof.Proof.Gen.Kernel23.Frame
public import proofs.«01_k».proof.Proof.QueryBack
public import proofs.«01_k».proof.Proof.Gen.Kernel24
public import proofs.«01_k».proof.Proof.Gen.Kernel24.Frame
public import proofs.«01_k».proof.Proof.MixNorm
public import proofs.«01_k».proof.Proof.Gen.Kernel25
public import proofs.«01_k».proof.Proof.Gen.Kernel25.Frame
public import proofs.«01_k».proof.Proof.AttnNorm
public import proofs.«01_k».proof.Proof.Gen.Kernel26
public import proofs.«01_k».proof.Proof.Gen.Kernel26.Frame
public import proofs.«01_k».proof.Proof.InNormBack
public import proofs.«01_k».proof.Proof.Gen.Kernel27
public import proofs.«01_k».proof.Proof.Gen.Kernel27.Frame
public import proofs.«01_k».proof.Proof.Memory
public import proofs.«01_k».proof.Proof.Gen.Kernel28
public import proofs.«01_k».proof.Proof.Gen.Kernel28.Frame
public import proofs.«01_k».proof.Proof.Gen.Kernel29
public import proofs.«01_k».proof.Proof.Gen.Kernel29.Frame
public import proofs.«01_k».proof.Proof.Gen.Kernel30
public import proofs.«01_k».proof.Proof.Gen.Kernel30.Frame
public import proofs.«01_k».proof.Proof.Gen.Kernel31
public import proofs.«01_k».proof.Proof.Gen.Kernel31.Frame
public import proofs.«01_k».proof.Proof.Gen.Kernel32
public import proofs.«01_k».proof.Proof.Gen.Kernel32.Frame
public import proofs.«01_k».proof.Proof.Gen.Kernel33
public import proofs.«01_k».proof.Proof.Gen.Kernel33.Frame
public import proofs.«01_k».proof.Proof.Gen.Kernel34
public import proofs.«01_k».proof.Proof.Gen.Kernel34.Frame
public import proofs.«01_k».proof.Proof.Gen.Kernel35
public import proofs.«01_k».proof.Proof.Gen.Kernel35.Frame
public import proofs.«01_k».proof.Proof.Gen.Kernel36
public import proofs.«01_k».proof.Proof.Gen.Kernel36.Frame
public import proofs.«01_k».proof.Proof.MemoryG
public import Idealize.ShloMosaic.Adequacy
public import Idealize.ShloMosaic.Init
public import proofs.«01_k».proof.Proof.LossBack
public import proofs.«01_k».proof.Proof.Adam

@[expose] public section

noncomputable section

namespace Cert.Proof

open Idealize.ShloMosaic Idealize.SL.Sem Cert.Kernel

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Kernel33.Gen.facts, Kernel33Ideal.Gen.facts, Reference33Ideal.Gen.facts,
    Kernel34.Gen.facts, Kernel34Ideal.Gen.facts, Reference34Ideal.Gen.facts,
    Kernel35.Gen.facts, Kernel35Ideal.Gen.facts, Reference35Ideal.Gen.facts,
    Kernel36.Gen.facts, Kernel36Ideal.Gen.facts, Reference36Ideal.Gen.facts,
    AttnClaim.pre_facts, NormBack.pre_facts, SwishBack.pre_facts, QueryBack.pre_facts, LossBack.pre_facts,
    fun m ρ _ => Kernel.Gen.frame m ρ,
    fun m ρ _ => KernelIdeal.Gen.frame m ρ,
    fun m ρ _ => KernelIdeal.Gen.frame m ρ,
    AttnClaim.ref_frame,
    fun m ρ _ => AttnClaim.ref_frame m ρ trivial,
    fun m ρ _ => Kernel2.Gen.frame m ρ, fun m ρ _ => Kernel2Ideal.Gen.frame m ρ, InputG.ref_frame,
    fun m ρ _ => Kernel3.Gen.frame m ρ, fun m ρ _ => Kernel3Ideal.Gen.frame m ρ, InputT.ref_frame,
    fun m ρ _ => Kernel4.Gen.frame m ρ, fun m ρ _ => Kernel4Ideal.Gen.frame m ρ, Input.ref_frame,
    fun m ρ _ => Kernel5.Gen.frame m ρ, fun m ρ _ => Kernel5Ideal.Gen.frame m ρ, DownT.ref_frame,
    fun m ρ _ => Kernel6.Gen.frame m ρ, fun m ρ _ => Kernel6Ideal.Gen.frame m ρ, UpG.ref_frame,
    fun m ρ _ => Kernel7.Gen.frame m ρ, fun m ρ _ => Kernel7Ideal.Gen.frame m ρ, UpT.ref_frame,
    fun m ρ _ => Kernel8.Gen.frame m ρ, fun m ρ _ => Kernel8Ideal.Gen.frame m ρ, Up.ref_frame,
    fun m ρ _ => Kernel9.Gen.frame m ρ, fun m ρ _ => Kernel9Ideal.Gen.frame m ρ, Down.ref_frame,
    fun m ρ _ => Kernel10.Gen.frame m ρ, fun m ρ _ => Kernel10Ideal.Gen.frame m ρ, Merge.ref_frame,
    fun m ρ _ => Kernel11.Gen.frame m ρ, fun m ρ _ => Kernel11Ideal.Gen.frame m ρ, MixBack.ref_frame,
    fun m ρ _ => Kernel12.Gen.frame m ρ, fun m ρ _ => Kernel12Ideal.Gen.frame m ρ, GluBack.ref_frame,
    fun m ρ _ => Kernel13.Gen.frame m ρ, fun m ρ _ => Kernel13Ideal.Gen.frame m ρ, SsmGlu.ref_frame,
    fun m ρ _ => Kernel14.Gen.frame m ρ, fun m ρ _ => Kernel14Ideal.Gen.frame m ρ, ConvOut.ref_frame,
    fun m ρ _ => Kernel15.Gen.frame m ρ, fun m ρ _ => Kernel15Ideal.Gen.frame m ρ, DownG.ref_frame,
    fun m ρ _ => Kernel16.Gen.frame m ρ, fun m ρ _ => Kernel16Ideal.Gen.frame m ρ, AttnBack.ref_frame,
    fun m ρ _ => Kernel17.Gen.frame m ρ, fun m ρ _ => Kernel17Ideal.Gen.frame m ρ,
    fun m ρ _ => Kernel17Ideal.Gen.frame m ρ, NormBack.ref_frame, fun m ρ _ => NormBack.ref_frame m ρ trivial,
    fun m ρ _ => Kernel18.Gen.frame m ρ, fun m ρ _ => Kernel18Ideal.Gen.frame m ρ,
    fun m ρ _ => Kernel18Ideal.Gen.frame m ρ, SwishBack.ref_frame, fun m ρ _ => SwishBack.ref_frame m ρ trivial,
    fun m ρ _ => Kernel19.Gen.frame m ρ, fun m ρ _ => Kernel19Ideal.Gen.frame m ρ, ConvBack.ref_frame,
    fun m ρ _ => Kernel20.Gen.frame m ρ, fun m ρ _ => Kernel20Ideal.Gen.frame m ρ, AttnFwd.ref_frame,
    fun m ρ _ => Kernel21.Gen.frame m ρ, fun m ρ _ => Kernel21Ideal.Gen.frame m ρ, MergeFwd.ref_frame,
    fun m ρ _ => Kernel22.Gen.frame m ρ, fun m ρ _ => Kernel22Ideal.Gen.frame m ρ, Queries.ref_frame,
    fun m ρ _ => Kernel23.Gen.frame m ρ, fun m ρ _ => Kernel23Ideal.Gen.frame m ρ,
    fun m ρ _ => Kernel23Ideal.Gen.frame m ρ, QueryBack.ref_frame, fun m ρ _ => QueryBack.ref_frame m ρ trivial,
    fun m ρ _ => Kernel24.Gen.frame m ρ, fun m ρ _ => Kernel24Ideal.Gen.frame m ρ, MixNorm.ref_frame,
    fun m ρ _ => Kernel25.Gen.frame m ρ, fun m ρ _ => Kernel25Ideal.Gen.frame m ρ, AttnNorm.ref_frame,
    fun m ρ _ => Kernel26.Gen.frame m ρ, fun m ρ _ => Kernel26Ideal.Gen.frame m ρ,
    fun m ρ _ => Kernel26Ideal.Gen.frame m ρ, InNormBack.ref_frame, fun m ρ _ => InNormBack.ref_frame m ρ trivial,
    fun m ρ _ => Kernel27.Gen.frame m ρ, fun m ρ _ => Kernel27Ideal.Gen.frame m ρ, Memory.ref_frame,
    fun m ρ _ => Kernel28.Gen.frame m ρ, fun m ρ _ => Kernel28Ideal.Gen.frame m ρ, MemoryG.ref_frame,
    fun m ρ _ => Kernel29.Gen.frame m ρ, fun m ρ _ => Kernel29Ideal.Gen.frame m ρ,
    fun m ρ _ => Kernel29Ideal.Gen.frame m ρ, LossBack.ref_frame, fun m ρ _ => LossBack.ref_frame m ρ trivial,
    fun m ρ _ => Kernel30.Gen.frame m ρ, fun m ρ _ => Kernel30Ideal.Gen.frame m ρ, AdamDown.ref_frame,
    fun m ρ _ => Kernel31.Gen.frame m ρ, fun m ρ _ => Kernel31Ideal.Gen.frame m ρ, AdamUp.ref_frame,
    fun m ρ _ => Kernel32.Gen.frame m ρ, fun m ρ _ => Kernel32Ideal.Gen.frame m ρ, AdamIn.ref_frame,
    fun m ρ _ => Kernel33.Gen.frame m ρ, fun m ρ _ => Kernel33Ideal.Gen.frame m ρ, AdamMemory.ref_frame,
    fun m ρ _ => Kernel34.Gen.frame m ρ, fun m ρ _ => Kernel34Ideal.Gen.frame m ρ, AdamGlu.ref_frame,
    fun m ρ _ => Kernel35.Gen.frame m ρ, fun m ρ _ => Kernel35Ideal.Gen.frame m ρ, AdamTaps.ref_frame,
    fun m ρ _ => Kernel36.Gen.frame m ρ, fun m ρ _ => Kernel36Ideal.Gen.frame m ρ, AdamSmall.ref_frame,
    trivial, AttnClaim.algebraic,
    trivial, InputG.algebraic,
    trivial, InputT.algebraic,
    trivial, Input.algebraic,
    trivial, DownT.algebraic,
    trivial, UpG.algebraic,
    trivial, UpT.algebraic,
    trivial, Up.algebraic,
    trivial, Down.algebraic,
    trivial, Merge.algebraic,
    trivial, MixBack.algebraic,
    trivial, GluBack.algebraic,
    trivial, SsmGlu.algebraic,
    trivial, ConvOut.algebraic,
    trivial, DownG.algebraic,
    trivial, AttnBack.algebraic,
    trivial, NormBack.algebraic,
    trivial, SwishBack.algebraic,
    trivial, ConvBack.algebraic,
    trivial, AttnFwd.algebraic,
    trivial, MergeFwd.algebraic,
    trivial, Queries.algebraic,
    trivial, QueryBack.algebraic,
    trivial, MixNorm.algebraic,
    trivial, AttnNorm.algebraic,
    trivial, InNormBack.algebraic,
    trivial, Memory.algebraic,
    trivial, MemoryG.algebraic,
    trivial, LossBack.algebraic,
    trivial, AdamDown.algebraic,
    trivial, AdamUp.algebraic,
    trivial, AdamIn.algebraic,
    trivial, AdamMemory.algebraic,
    trivial, AdamGlu.algebraic,
    trivial, AdamTaps.algebraic,
    trivial, AdamSmall.algebraic⟩

end Cert.Proof

end
